-- ==== Defs.lean ====
def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_ffn_finite [hPre_ffn_finite : Cert.Pre_ffn_finite.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_ffn_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))) = (fun _ => 1#1)

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdIdeal_mix_finite [hPre_mix_finite : Cert.Pre_mix_finite.Facts] (m : (ℓ : Loc Cert.MixBwdIdeal.nD Cert.MixBwdIdeal.τ Cert.MixBwdIdeal.sig) → Buf (Elt Ideal) ℓ) : Prop :=
  ∀ c : Dev Cert.MixBwdIdeal.nD,
    (Cert.Pre_mix_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5))) = (fun _ => 1#1)

def Pre_MixBwdRefIdeal (m : (ℓ : Loc Cert.MixBwdRefIdeal.nD Cert.MixBwdRefIdeal.τ Cert.MixBwdRefIdeal.sig) → Buf (Elt Ideal) ℓ) : Prop :=
  True

def Pre_MixBwdRefIdeal_mix_finite [hPre_mix_finite : Cert.Pre_mix_finite.Facts] (m : (ℓ : Loc Cert.MixBwdRefIdeal.nD Cert.MixBwdRefIdeal.τ Cert.MixBwdRefIdeal.sig) → Buf (Elt Ideal) ℓ) : Prop :=
  ∀ c : Dev Cert.MixBwdRefIdeal.nD,
    (Cert.Pre_mix_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5))) = (fun _ => 1#1)

def Pre_InProjBwd (m : (ℓ : Loc Cert.InProjBwd.nD Cert.InProjBwd.τ Cert.InProjBwd.sig) → Buf (Elt Bits) ℓ) : Prop :=
  True

def Pre_InProjBwdIdeal (m : (ℓ : Loc Cert.InProjBwdIdeal.nD Cert.InProjBwdIdeal.τ Cert.InProjBwdIdeal.sig) → Buf (Elt Ideal) ℓ) : Prop :=
  True

def Pre_InProjBwdIdeal_inproj_finite [hPre_inproj_finite : Cert.Pre_inproj_finite.Facts] (m : (ℓ : Loc Cert.InProjBwdIdeal.nD Cert.InProjBwdIdeal.τ Cert.InProjBwdIdeal.sig) → Buf (Elt Ideal) ℓ) : Prop :=
  ∀ c : Dev Cert.InProjBwdIdeal.nD,
    (Cert.Pre_inproj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9))) = (fun _ => 1#1)

def Pre_InProjBwdRefIdeal (m : (ℓ : Loc Cert.InProjBwdRefIdeal.nD Cert.InProjBwdRefIdeal.τ Cert.InProjBwdRefIdeal.sig) → Buf (Elt Ideal) ℓ) : Prop :=
  True

def Pre_InProjBwdRefIdeal_inproj_finite [hPre_inproj_finite : Cert.Pre_inproj_finite.Facts] (m : (ℓ : Loc Cert.InProjBwdRefIdeal.nD Cert.InProjBwdRefIdeal.τ Cert.InProjBwdRefIdeal.sig) → Buf (Elt Ideal) ℓ) : Prop :=
  ∀ c : Dev Cert.InProjBwdRefIdeal.nD,
    (Cert.Pre_inproj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7)) (m ((c.tc : Thread Cert.InProjBwdRefIdeal.nD Cert.InProjBwdRefIdeal.τ).loc Cert.InProjBwdRefIdeal.main_arg8)) (m ((c.tc : Thread Cert.InProjBwdRefIdeal.nD Cert.InProjBwdRefIdeal.τ).loc Cert.InProjBwdRefIdeal.main_arg9))) = (fun _ => 1#1)

def Pre_PleBwd (m : (ℓ : Loc Cert.PleBwd.nD Cert.PleBwd.τ Cert.PleBwd.sig) → Buf (Elt Bits) ℓ) : Prop :=
  True

def Pre_PleBwdIdeal (m : (ℓ : Loc Cert.PleBwdIdeal.nD Cert.PleBwdIdeal.τ Cert.PleBwdIdeal.sig) → Buf (Elt Ideal) ℓ) : Prop :=
  True

def Pre_PleBwdIdeal_ple_finite [hPre_ple_finite : Cert.Pre_ple_finite.Facts] (m : (ℓ : Loc Cert.PleBwdIdeal.nD Cert.PleBwdIdeal.τ Cert.PleBwdIdeal.sig) → Buf (Elt Ideal) ℓ) : Prop :=
  ∀ c : Dev Cert.PleBwdIdeal.nD,
    (Cert.Pre_ple_finite.fn (F := Ideal) (m ((c.tc : Thread Cert.PleBwdIdeal.nD Cert.PleBwdIdeal.τ).loc Cert.PleBwdIdeal.main_arg0)) (m ((c.tc : Thread Cert.PleBwdIdeal.nD Cert.PleBwdIdeal.τ).loc Cert.PleBwdIdeal.main_arg1)) (m ((c.tc : Thread Cert.PleBwdIdeal.nD Cert.PleBwdIdeal.τ).loc Cert.PleBwdIdeal.main_arg2)) (m ((c.tc : Thread Cert.PleBwdIdeal.nD Cert.PleBwdIdeal.τ).loc Cert.PleBwdIdeal.main_arg3)) (m ((c.tc : Thread Cert.PleBwdIdeal.nD Cert.PleBwdIdeal.τ).loc Cert.PleBwdIdeal.main_arg4)) (m ((c.tc : Thread Cert.PleBwdIdeal.nD Cert.PleBwdIdeal.τ).loc Cert.PleBwdIdeal.main_arg5)) (m ((c.tc : Thread Cert.PleBwdIdeal.nD Cert.PleBwdIdeal.τ).loc Cert.PleBwdIdeal.main_arg6)) (m ((c.tc : Thread Cert.PleBwdIdeal.nD Cert.PleBwdIdeal.τ).loc Cert.PleBwdIdeal.main_arg7)) (m ((c.tc : Thread Cert.PleBwdIdeal.nD Cert.PleBwdIdeal.τ).loc Cert.PleBwdIdeal.main_arg8))) = (fun _ => 1#1)

def Pre_PleBwdRefIdeal (m : (ℓ : Loc Cert.PleBwdRefIdeal.nD Cert.PleBwdRefIdeal.τ Cert.PleBwdRefIdeal.sig) → Buf (Elt Ideal) ℓ) : Prop :=
  True

def Pre_PleBwdRefIdeal_ple_finite [hPre_ple_finite : Cert.Pre_ple_finite.Facts] (m : (ℓ : Loc Cert.PleBwdRefIdeal.nD Cert.PleBwdRefIdeal.τ Cert.PleBwdRefIdeal.sig) → Buf (Elt Ideal) ℓ) : Prop :=
  ∀ c : Dev Cert.PleBwdRefIdeal.nD,
    (Cert.Pre_ple_finite.fn (F := Ideal) (m ((c.tc : Thread Cert.PleBwdRefIdeal.nD Cert.PleBwdRefIdeal.τ).loc Cert.PleBwdRefIdeal.main_arg0)) (m ((c.tc : Thread Cert.PleBwdRefIdeal.nD Cert.PleBwdRefIdeal.τ).loc Cert.PleBwdRefIdeal.main_arg1)) (m ((c.tc : Thread Cert.PleBwdRefIdeal.nD Cert.PleBwdRefIdeal.τ).loc Cert.PleBwdRefIdeal.main_arg2)) (m ((c.tc : Thread Cert.PleBwdRefIdeal.nD Cert.PleBwdRefIdeal.τ).loc Cert.PleBwdRefIdeal.main_arg3)) (m ((c.tc : Thread Cert.PleBwdRefIdeal.nD Cert.PleBwdRefIdeal.τ).loc Cert.PleBwdRefIdeal.main_arg4)) (m ((c.tc : Thread Cert.PleBwdRefIdeal.nD Cert.PleBwdRefIdeal.τ).loc Cert.PleBwdRefIdeal.main_arg5)) (m ((c.tc : Thread Cert.PleBwdRefIdeal.nD Cert.PleBwdRefIdeal.τ).loc Cert.PleBwdRefIdeal.main_arg6)) (m ((c.tc : Thread Cert.PleBwdRefIdeal.nD Cert.PleBwdRefIdeal.τ).loc Cert.PleBwdRefIdeal.main_arg7)) (m ((c.tc : Thread Cert.PleBwdRefIdeal.nD Cert.PleBwdRefIdeal.τ).loc Cert.PleBwdRefIdeal.main_arg8))) = (fun _ => 1#1)

def Pre_BiasBwd (m : (ℓ : Loc Cert.BiasBwd.nD Cert.BiasBwd.τ Cert.BiasBwd.sig) → Buf (Elt Bits) ℓ) : Prop :=
  True

def Pre_BiasBwdIdeal (m : (ℓ : Loc Cert.BiasBwdIdeal.nD Cert.BiasBwdIdeal.τ Cert.BiasBwdIdeal.sig) → Buf (Elt Ideal) ℓ) : Prop :=
  True

def Pre_BiasBwdRefIdeal (m : (ℓ : Loc Cert.BiasBwdRefIdeal.nD Cert.BiasBwdRefIdeal.τ Cert.BiasBwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdIdeal_infwd_finite [hPre_infwd_finite : Cert.Pre_infwd_finite.Facts] (m : (ℓ : Loc Cert.InFwdIdeal.nD Cert.InFwdIdeal.τ Cert.InFwdIdeal.sig) → Buf (Elt Ideal) ℓ) : Prop :=
  ∀ c : Dev Cert.InFwdIdeal.nD,
    (Cert.Pre_infwd_finite.fn (F := Ideal) (m ((c.tc : Thread Cert.InFwdIdeal.nD Cert.InFwdIdeal.τ).loc Cert.InFwdIdeal.main_arg0)) (m ((c.tc : Thread Cert.InFwdIdeal.nD Cert.InFwdIdeal.τ).loc Cert.InFwdIdeal.main_arg1)) (m ((c.tc : Thread Cert.InFwdIdeal.nD Cert.InFwdIdeal.τ).loc Cert.InFwdIdeal.main_arg2)) (m ((c.tc : Thread Cert.InFwdIdeal.nD Cert.InFwdIdeal.τ).loc Cert.InFwdIdeal.main_arg3)) (m ((c.tc : Thread Cert.InFwdIdeal.nD Cert.InFwdIdeal.τ).loc Cert.InFwdIdeal.main_arg4))) = (fun _ => 1#1)

def Pre_InFwdRefIdeal (m : (ℓ : Loc Cert.InFwdRefIdeal.nD Cert.InFwdRefIdeal.τ Cert.InFwdRefIdeal.sig) → Buf (Elt Ideal) ℓ) : Prop :=
  True

def Pre_InFwdRefIdeal_infwd_finite [hPre_infwd_finite : Cert.Pre_infwd_finite.Facts] (m : (ℓ : Loc Cert.InFwdRefIdeal.nD Cert.InFwdRefIdeal.τ Cert.InFwdRefIdeal.sig) → Buf (Elt Ideal) ℓ) : Prop :=
  ∀ c : Dev Cert.InFwdRefIdeal.nD,
    (Cert.Pre_infwd_finite.fn (F := Ideal) (m ((c.tc : Thread Cert.InFwdRefIdeal.nD Cert.InFwdRefIdeal.τ).loc Cert.InFwdRefIdeal.main_arg0)) (m ((c.tc : Thread Cert.InFwdRefIdeal.nD Cert.InFwdRefIdeal.τ).loc Cert.InFwdRefIdeal.main_arg1)) (m ((c.tc : Thread Cert.InFwdRefIdeal.nD Cert.InFwdRefIdeal.τ).loc Cert.InFwdRefIdeal.main_arg2)) (m ((c.tc : Thread Cert.InFwdRefIdeal.nD Cert.InFwdRefIdeal.τ).loc Cert.InFwdRefIdeal.main_arg3)) (m ((c.tc : Thread Cert.InFwdRefIdeal.nD Cert.InFwdRefIdeal.τ).loc Cert.InFwdRefIdeal.main_arg4))) = (fun _ => 1#1)

def Pre_FfnW (m : (ℓ : Loc Cert.FfnW.nD Cert.FfnW.τ Cert.FfnW.sig) → Buf (Elt Bits) ℓ) : Prop :=
  True

def Pre_FfnWIdeal (m : (ℓ : Loc Cert.FfnWIdeal.nD Cert.FfnWIdeal.τ Cert.FfnWIdeal.sig) → Buf (Elt Ideal) ℓ) : Prop :=
  True

def Pre_FfnWRefIdeal (m : (ℓ : Loc Cert.FfnWRefIdeal.nD Cert.FfnWRefIdeal.τ Cert.FfnWRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_FfnBwdRefIdeal_pre_ffn_finite [hFfnBwdRefIdeal : Cert.FfnBwdRefIdeal.Facts] [hPre_ffn_finite : Cert.Pre_ffn_finite.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_ffn_finite m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5))
      ∧ r.2.sem = fun _ => 0)

def quiescent_MixBwdIdeal_pre_mix_finite [hMixBwdIdeal : Cert.MixBwdIdeal.Facts] [hPre_mix_finite : Cert.Pre_mix_finite.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal_mix_finite m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5))
      ∧ r.2.sem = fun _ => 0)

def quiescent_MixBwdRefIdeal_pre_mix_finite [hMixBwdRefIdeal : Cert.MixBwdRefIdeal.Facts] [hPre_mix_finite : Cert.Pre_mix_finite.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal_mix_finite m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5))
      ∧ r.2.sem = fun _ => 0)

def quiescent_InProjBwd [hInProjBwd : Cert.InProjBwd.Facts] : Prop :=
  ∀ (m : (ℓ : Loc Cert.InProjBwd.nD Cert.InProjBwd.τ Cert.InProjBwd.sig) → Buf (Elt Bits) ℓ) (g : Dev Cert.InProjBwd.nD → PrngReg), Pre_InProjBwd m →
    θ_run (Cert.InProjBwd.defs (F := Bits)) (onTc (τ := Cert.InProjBwd.τ) (Cert.InProjBwd.main (F := Bits))) ⟨m, fun _ => 0, g⟩ (fun r => (∀ c : Dev Cert.InProjBwd.nD,
      r.2.mem ((c.tc : Thread Cert.InProjBwd.nD Cert.InProjBwd.τ).loc Cert.InProjBwd.main_arg0) = m ((c.tc : Thread Cert.InProjBwd.nD Cert.InProjBwd.τ).loc Cert.InProjBwd.main_arg0)
      ∧ r.2.mem ((c.tc : Thread Cert.InProjBwd.nD Cert.InProjBwd.τ).loc Cert.InProjBwd.main_arg1) = m ((c.tc : Thread Cert.InProjBwd.nD Cert.InProjBwd.τ).loc Cert.InProjBwd.main_arg1)
      ∧ r.2.mem ((c.tc : Thread Cert.InProjBwd.nD Cert.InProjBwd.τ).loc Cert.InProjBwd.main_arg2) = m ((c.tc : Thread Cert.InProjBwd.nD Cert.InProjBwd.τ).loc Cert.InProjBwd.main_arg2)
      ∧ r.2.mem ((c.tc : Thread Cert.InProjBwd.nD Cert.InProjBwd.τ).loc Cert.InProjBwd.main_arg3) = m ((c.tc : Thread Cert.InProjBwd.nD Cert.InProjBwd.τ).loc Cert.InProjBwd.main_arg3)
      ∧ r.2.mem ((c.tc : Thread Cert.InProjBwd.nD Cert.InProjBwd.τ).loc Cert.InProjBwd.main_arg4) = m ((c.tc : Thread Cert.InProjBwd.nD Cert.InProjBwd.τ).loc Cert.InProjBwd.main_arg4)
      ∧ r.2.mem ((c.tc : Thread Cert.InProjBwd.nD Cert.InProjBwd.τ).loc Cert.InProjBwd.main_arg5) = m ((c.tc : Thread Cert.InProjBwd.nD Cert.InProjBwd.τ).loc Cert.InProjBwd.main_arg5)
      ∧ r.2.mem ((c.tc : Thread Cert.InProjBwd.nD Cert.InProjBwd.τ).loc Cert.InProjBwd.main_arg6) = m ((c.tc : Thread Cert.InProjBwd.nD Cert.InProjBwd.τ).loc Cert.InProjBwd.main_arg6)
      ∧ r.2.mem ((c.tc : Thread Cert.InProjBwd.nD Cert.InProjBwd.τ).loc Cert.InProjBwd.main_arg7) = m ((c.tc : Thread Cert.InProjBwd.nD Cert.InProjBwd.τ).loc Cert.InProjBwd.main_arg7)
      ∧ r.2.mem ((c.tc : Thread Cert.InProjBwd.nD Cert.InProjBwd.τ).loc Cert.InProjBwd.main_arg8) = m ((c.tc : Thread Cert.InProjBwd.nD Cert.InProjBwd.τ).loc Cert.InProjBwd.main_arg8)
      ∧ r.2.mem ((c.tc : Thread Cert.InProjBwd.nD Cert.InProjBwd.τ).loc Cert.InProjBwd.main_arg9) = m ((c.tc : Thread Cert.InProjBwd.nD Cert.InProjBwd.τ).loc Cert.InProjBwd.main_arg9))
      ∧ r.2.sem = fun _ => 0)

def quiescent_InProjBwdIdeal [hInProjBwdIdeal : Cert.InProjBwdIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
      ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
      ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
      ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8)
      ∧ r.2.mem ((c.tc : Thread Cert.InProjBwdIdeal.nD Cert.InProjBwdIdeal.τ).loc Cert.InProjBwdIdeal.main_arg9) = m ((c.tc : Thread Cert.InProjBwdIdeal.nD Cert.InProjBwdIdeal.τ).loc Cert.InProjBwdIdeal.main_arg9))
      ∧ r.2.sem = fun _ => 0)

def quiescent_InProjBwdIdeal_pre_inproj_finite [hInProjBwdIdeal : Cert.InProjBwdIdeal.Facts] [hPre_inproj_finite : Cert.Pre_inproj_finite.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal_inproj_finite m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
      ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
      ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
      ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8)
      ∧ r.2.mem ((c.tc : Thread Cert.InProjBwdIdeal.nD Cert.InProjBwdIdeal.τ).loc Cert.InProjBwdIdeal.main_arg9) = m ((c.tc : Thread Cert.InProjBwdIdeal.nD Cert.InProjBwdIdeal.τ).loc Cert.InProjBwdIdeal.main_arg9))
      ∧ r.2.sem = fun _ => 0)

def quiescent_InProjBwdRefIdeal [hInProjBwdRefIdeal : Cert.InProjBwdRefIdeal.Facts] : Prop :=
  ∀ (m : (ℓ : Loc Cert.InProjBwdRefIdeal.nD Cert.InProjBwdRefIdeal.τ Cert.InProjBwdRefIdeal.sig) → Buf (Elt Ideal) ℓ) (g : Dev Cert.InProjBwdRefIdeal.nD → PrngReg), Pre_InProjBwdRefIdeal m →
    θ_run (Cert.InProjBwdRefIdeal.defs (F := Ideal)) (onTc (τ := Cert.InProjBwdRefIdeal.τ) (Cert.InProjBwdRefIdeal.main (F := Ideal))) ⟨m, fun _ => 0, g⟩ (fun r => (∀ c : Dev Cert.InProjBwdRefIdeal.nD,
      r.2.mem ((c.tc : Thread Cert.InProjBwdRefIdeal.nD Cert.InProjBwdRefIdeal.τ).loc Cert.InProjBwdRefIdeal.main_arg0) = m ((c.tc : Thread Cert.InProjBwdRefIdeal.nD Cert.InProjBwdRefIdeal.τ).loc Cert.InProjBwdRefIdeal.main_arg0)
      ∧ r.2.mem ((c.tc : Thread Cert.InProjBwdRefIdeal.nD Cert.InProjBwdRefIdeal.τ).loc Cert.InProjBwdRefIdeal.main_arg1) = m ((c.tc : Thread Cert.InProjBwdRefIdeal.nD Cert.InProjBwdRefIdeal.τ).loc Cert.InProjBwdRefIdeal.main_arg1)
      ∧ r.2.mem ((c.tc : Thread Cert.InProjBwdRefIdeal.nD Cert.InProjBwdRefIdeal.τ).loc Cert.InProjBwdRefIdeal.main_arg2) = m ((c.tc : Thread Cert.InProjBwdRefIdeal.nD Cert.InProjBwdRefIdeal.τ).loc Cert.InProjBwdRefIdeal.main_arg2)
      ∧ r.2.mem ((c.tc : Thread Cert.InProjBwdRefIdeal.nD Cert.InProjBwdRefIdeal.τ).loc Cert.InProjBwdRefIdeal.main_arg3) = m ((c.tc : Thread Cert.InProjBwdRefIdeal.nD Cert.InProjBwdRefIdeal.τ).loc Cert.InProjBwdRefIdeal.main_arg3)
      ∧ r.2.mem ((c.tc : Thread Cert.InProjBwdRefIdeal.nD Cert.InProjBwdRefIdeal.τ).loc Cert.InProjBwdRefIdeal.main_arg4) = m ((c.tc : Thread Cert.InProjBwdRefIdeal.nD Cert.InProjBwdRefIdeal.τ).loc Cert.InProjBwdRefIdeal.main_arg4)
      ∧ r.2.mem ((c.tc : Thread Cert.InProjBwdRefIdeal.nD Cert.InProjBwdRefIdeal.τ).loc Cert.InProjBwdRefIdeal.main_arg5) = m ((c.tc : Thread Cert.InProjBwdRefIdeal.nD Cert.InProjBwdRefIdeal.τ).loc Cert.InProjBwdRefIdeal.main_arg5)
      ∧ r.2.mem ((c.tc : Thread Cert.InProjBwdRefIdeal.nD Cert.InProjBwdRefIdeal.τ).loc Cert.InProjBwdRefIdeal.main_arg6) = m ((c.tc : Thread Cert.InProjBwdRefIdeal.nD Cert.InProjBwdRefIdeal.τ).loc Cert.InProjBwdRefIdeal.main_arg6)
      ∧ r.2.mem ((c.tc : Thread Cert.InProjBwdRefIdeal.nD Cert.InProjBwdRefIdeal.τ).loc Cert.InProjBwdRefIdeal.main_arg7) = m ((c.tc : Thread Cert.InProjBwdRefIdeal.nD Cert.InProjBwdRefIdeal.τ).loc Cert.InProjBwdRefIdeal.main_arg7)
      ∧ r.2.mem ((c.tc : Thread Cert.InProjBwdRefIdeal.nD Cert.InProjBwdRefIdeal.τ).loc Cert.InProjBwdRefIdeal.main_arg8) = m ((c.tc : Thread Cert.InProjBwdRefIdeal.nD Cert.InProjBwdRefIdeal.τ).loc Cert.InProjBwdRefIdeal.main_arg8)
      ∧ r.2.mem ((c.tc : Thread Cert.InProjBwdRefIdeal.nD Cert.InProjBwdRefIdeal.τ).loc Cert.InProjBwdRefIdeal.main_arg9) = m ((c.tc : Thread Cert.InProjBwdRefIdeal.nD Cert.InProjBwdRefIdeal.τ).loc Cert.InProjBwdRefIdeal.main_arg9))
      ∧ r.2.sem = fun _ => 0)

def quiescent_InProjBwdRefIdeal_pre_inproj_finite [hInProjBwdRefIdeal : Cert.InProjBwdRefIdeal.Facts] [hPre_inproj_finite : Cert.Pre_inproj_finite.Facts] : Prop :=
  ∀ (m : (ℓ : Loc Cert.InProjBwdRefIdeal.nD Cert.InProjBwdRefIdeal.τ Cert.InProjBwdRefIdeal.sig) → Buf (Elt Ideal) ℓ) (g : Dev Cert.InProjBwdRefIdeal.nD → PrngReg), Pre_InProjBwdRefIdeal_inproj_finite m →
    θ_run (Cert.InProjBwdRefIdeal.defs (F := Ideal)) (onTc (τ := Cert.InProjBwdRefIdeal.τ) (Cert.InProjBwdRefIdeal.main (F := Ideal))) ⟨m, fun _ => 0, g⟩ (fun r => (∀ c : Dev Cert.InProjBwdRefIdeal.nD,
      r.2.mem ((c.tc : Thread Cert.InProjBwdRefIdeal.nD Cert.InProjBwdRefIdeal.τ).loc Cert.InProjBwdRefIdeal.main_arg0) = m ((c.tc : Thread Cert.InProjBwdRefIdeal.nD Cert.InProjBwdRefIdeal.τ).loc Cert.InProjBwdRefIdeal.main_arg0)
      ∧ r.2.mem ((c.tc : Thread Cert.InProjBwdRefIdeal.nD Cert.InProjBwdRefIdeal.τ).loc Cert.InProjBwdRefIdeal.main_arg1) = m ((c.tc : Thread Cert.InProjBwdRefIdeal.nD Cert.InProjBwdRefIdeal.τ).loc Cert.InProjBwdRefIdeal.main_arg1)
      ∧ r.2.mem ((c.tc : Thread Cert.InProjBwdRefIdeal.nD Cert.InProjBwdRefIdeal.τ).loc Cert.InProjBwdRefIdeal.main_arg2) = m ((c.tc : Thread Cert.InProjBwdRefIdeal.nD Cert.InProjBwdRefIdeal.τ).loc Cert.InProjBwdRefIdeal.main_arg2)
      ∧ r.2.mem ((c.tc : Thread Cert.InProjBwdRefIdeal.nD Cert.InProjBwdRefIdeal.τ).loc Cert.InProjBwdRefIdeal.main_arg3) = m ((c.tc : Thread Cert.InProjBwdRefIdeal.nD Cert.InProjBwdRefIdeal.τ).loc Cert.InProjBwdRefIdeal.main_arg3)
      ∧ r.2.mem ((c.tc : Thread Cert.InProjBwdRefIdeal.nD Cert.InProjBwdRefIdeal.τ).loc Cert.InProjBwdRefIdeal.main_arg4) = m ((c.tc : Thread Cert.InProjBwdRefIdeal.nD Cert.InProjBwdRefIdeal.τ).loc Cert.InProjBwdRefIdeal.main_arg4)
      ∧ r.2.mem ((c.tc : Thread Cert.InProjBwdRefIdeal.nD Cert.InProjBwdRefIdeal.τ).loc Cert.InProjBwdRefIdeal.main_arg5) = m ((c.tc : Thread Cert.InProjBwdRefIdeal.nD Cert.InProjBwdRefIdeal.τ).loc Cert.InProjBwdRefIdeal.main_arg5)
      ∧ r.2.mem ((c.tc : Thread Cert.InProjBwdRefIdeal.nD Cert.InProjBwdRefIdeal.τ).loc Cert.InProjBwdRefIdeal.main_arg6) = m ((c.tc : Thread Cert.InProjBwdRefIdeal.nD Cert.InProjBwdRefIdeal.τ).loc Cert.InProjBwdRefIdeal.main_arg6)
      ∧ r.2.mem ((c.tc : Thread Cert.InProjBwdRefIdeal.nD Cert.InProjBwdRefIdeal.τ).loc Cert.InProjBwdRefIdeal.main_arg7) = m ((c.tc : Thread Cert.InProjBwdRefIdeal.nD Cert.InProjBwdRefIdeal.τ).loc Cert.InProjBwdRefIdeal.main_arg7)
      ∧ r.2.mem ((c.tc : Thread Cert.InProjBwdRefIdeal.nD Cert.InProjBwdRefIdeal.τ).loc Cert.InProjBwdRefIdeal.main_arg8) = m ((c.tc : Thread Cert.InProjBwdRefIdeal.nD Cert.InProjBwdRefIdeal.τ).loc Cert.InProjBwdRefIdeal.main_arg8)
      ∧ r.2.mem ((c.tc : Thread Cert.InProjBwdRefIdeal.nD Cert.InProjBwdRefIdeal.τ).loc Cert.InProjBwdRefIdeal.main_arg9) = m ((c.tc : Thread Cert.InProjBwdRefIdeal.nD Cert.InProjBwdRefIdeal.τ).loc Cert.InProjBwdRefIdeal.main_arg9))
      ∧ r.2.sem = fun _ => 0)

def quiescent_PleBwd [hPleBwd : Cert.PleBwd.Facts] : Prop :=
  ∀ (m : (ℓ : Loc Cert.PleBwd.nD Cert.PleBwd.τ Cert.PleBwd.sig) → Buf (Elt Bits) ℓ) (g : Dev Cert.PleBwd.nD → PrngReg), Pre_PleBwd m →
    θ_run (Cert.PleBwd.defs (F := Bits)) (onTc (τ := Cert.PleBwd.τ) (Cert.PleBwd.main (F := Bits))) ⟨m, fun _ => 0, g⟩ (fun r => (∀ c : Dev Cert.PleBwd.nD,
      r.2.mem ((c.tc : Thread Cert.PleBwd.nD Cert.PleBwd.τ).loc Cert.PleBwd.main_arg0) = m ((c.tc : Thread Cert.PleBwd.nD Cert.PleBwd.τ).loc Cert.PleBwd.main_arg0)
      ∧ r.2.mem ((c.tc : Thread Cert.PleBwd.nD Cert.PleBwd.τ).loc Cert.PleBwd.main_arg1) = m ((c.tc : Thread Cert.PleBwd.nD Cert.PleBwd.τ).loc Cert.PleBwd.main_arg1)
      ∧ r.2.mem ((c.tc : Thread Cert.PleBwd.nD Cert.PleBwd.τ).loc Cert.PleBwd.main_arg2) = m ((c.tc : Thread Cert.PleBwd.nD Cert.PleBwd.τ).loc Cert.PleBwd.main_arg2)
      ∧ r.2.mem ((c.tc : Thread Cert.PleBwd.nD Cert.PleBwd.τ).loc Cert.PleBwd.main_arg3) = m ((c.tc : Thread Cert.PleBwd.nD Cert.PleBwd.τ).loc Cert.PleBwd.main_arg3)
      ∧ r.2.mem ((c.tc : Thread Cert.PleBwd.nD Cert.PleBwd.τ).loc Cert.PleBwd.main_arg4) = m ((c.tc : Thread Cert.PleBwd.nD Cert.PleBwd.τ).loc Cert.PleBwd.main_arg4)
      ∧ r.2.mem ((c.tc : Thread Cert.PleBwd.nD Cert.PleBwd.τ).loc Cert.PleBwd.main_arg5) = m ((c.tc : Thread Cert.PleBwd.nD Cert.PleBwd.τ).loc Cert.PleBwd.main_arg5)
      ∧ r.2.mem ((c.tc : Thread Cert.PleBwd.nD Cert.PleBwd.τ).loc Cert.PleBwd.main_arg6) = m ((c.tc : Thread Cert.PleBwd.nD Cert.PleBwd.τ).loc Cert.PleBwd.main_arg6)
      ∧ r.2.mem ((c.tc : Thread Cert.PleBwd.nD Cert.PleBwd.τ).loc Cert.PleBwd.main_arg7) = m ((c.tc : Thread Cert.PleBwd.nD Cert.PleBwd.τ).loc Cert.PleBwd.main_arg7)
      ∧ r.2.mem ((c.tc : Thread Cert.PleBwd.nD Cert.PleBwd.τ).loc Cert.PleBwd.main_arg8) = m ((c.tc : Thread Cert.PleBwd.nD Cert.PleBwd.τ).loc Cert.PleBwd.main_arg8))
      ∧ r.2.sem = fun _ => 0)

def quiescent_PleBwdIdeal [hPleBwdIdeal : Cert.PleBwdIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
      ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
      ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
      ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5)
      ∧ r.2.mem ((c.tc : Thread Cert.PleBwdIdeal.nD Cert.PleBwdIdeal.τ).loc Cert.PleBwdIdeal.main_arg6) = m ((c.tc : Thread Cert.PleBwdIdeal.nD Cert.PleBwdIdeal.τ).loc Cert.PleBwdIdeal.main_arg6)
      ∧ r.2.mem ((c.tc : Thread Cert.PleBwdIdeal.nD Cert.PleBwdIdeal.τ).loc Cert.PleBwdIdeal.main_arg7) = m ((c.tc : Thread Cert.PleBwdIdeal.nD Cert.PleBwdIdeal.τ).loc Cert.PleBwdIdeal.main_arg7)
      ∧ r.2.mem ((c.tc : Thread Cert.PleBwdIdeal.nD Cert.PleBwdIdeal.τ).loc Cert.PleBwdIdeal.main_arg8) = m ((c.tc : Thread Cert.PleBwdIdeal.nD Cert.PleBwdIdeal.τ).loc Cert.PleBwdIdeal.main_arg8))
      ∧ r.2.sem = fun _ => 0)

def quiescent_PleBwdIdeal_pre_ple_finite [hPleBwdIdeal : Cert.PleBwdIdeal.Facts] [hPre_ple_finite : Cert.Pre_ple_finite.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal_ple_finite m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
      ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
      ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
      ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5)
      ∧ r.2.mem ((c.tc : Thread Cert.PleBwdIdeal.nD Cert.PleBwdIdeal.τ).loc Cert.PleBwdIdeal.main_arg6) = m ((c.tc : Thread Cert.PleBwdIdeal.nD Cert.PleBwdIdeal.τ).loc Cert.PleBwdIdeal.main_arg6)
      ∧ r.2.mem ((c.tc : Thread Cert.PleBwdIdeal.nD Cert.PleBwdIdeal.τ).loc Cert.PleBwdIdeal.main_arg7) = m ((c.tc : Thread Cert.PleBwdIdeal.nD Cert.PleBwdIdeal.τ).loc Cert.PleBwdIdeal.main_arg7)
      ∧ r.2.mem ((c.tc : Thread Cert.PleBwdIdeal.nD Cert.PleBwdIdeal.τ).loc Cert.PleBwdIdeal.main_arg8) = m ((c.tc : Thread Cert.PleBwdIdeal.nD Cert.PleBwdIdeal.τ).loc Cert.PleBwdIdeal.main_arg8))
      ∧ r.2.sem = fun _ => 0)

def quiescent_PleBwdRefIdeal [hPleBwdRefIdeal : Cert.PleBwdRefIdeal.Facts] : Prop :=
  ∀ (m : (ℓ : Loc Cert.PleBwdRefIdeal.nD Cert.PleBwdRefIdeal.τ Cert.PleBwdRefIdeal.sig) → Buf (Elt Ideal) ℓ) (g : Dev Cert.PleBwdRefIdeal.nD → PrngReg), Pre_PleBwdRefIdeal m →
    θ_run (Cert.PleBwdRefIdeal.defs (F := Ideal)) (onTc (τ := Cert.PleBwdRefIdeal.τ) (Cert.PleBwdRefIdeal.main (F := Ideal))) ⟨m, fun _ => 0, g⟩ (fun r => (∀ c : Dev Cert.PleBwdRefIdeal.nD,
      r.2.mem ((c.tc : Thread Cert.PleBwdRefIdeal.nD Cert.PleBwdRefIdeal.τ).loc Cert.PleBwdRefIdeal.main_arg0) = m ((c.tc : Thread Cert.PleBwdRefIdeal.nD Cert.PleBwdRefIdeal.τ).loc Cert.PleBwdRefIdeal.main_arg0)
      ∧ r.2.mem ((c.tc : Thread Cert.PleBwdRefIdeal.nD Cert.PleBwdRefIdeal.τ).loc Cert.PleBwdRefIdeal.main_arg1) = m ((c.tc : Thread Cert.PleBwdRefIdeal.nD Cert.PleBwdRefIdeal.τ).loc Cert.PleBwdRefIdeal.main_arg1)
      ∧ r.2.mem ((c.tc : Thread Cert.PleBwdRefIdeal.nD Cert.PleBwdRefIdeal.τ).loc Cert.PleBwdRefIdeal.main_arg2) = m ((c.tc : Thread Cert.PleBwdRefIdeal.nD Cert.PleBwdRefIdeal.τ).loc Cert.PleBwdRefIdeal.main_arg2)
      ∧ r.2.mem ((c.tc : Thread Cert.PleBwdRefIdeal.nD Cert.PleBwdRefIdeal.τ).loc Cert.PleBwdRefIdeal.main_arg3) = m ((c.tc : Thread Cert.PleBwdRefIdeal.nD Cert.PleBwdRefIdeal.τ).loc Cert.PleBwdRefIdeal.main_arg3)
      ∧ r.2.mem ((c.tc : Thread Cert.PleBwdRefIdeal.nD Cert.PleBwdRefIdeal.τ).loc Cert.PleBwdRefIdeal.main_arg4) = m ((c.tc : Thread Cert.PleBwdRefIdeal.nD Cert.PleBwdRefIdeal.τ).loc Cert.PleBwdRefIdeal.main_arg4)
      ∧ r.2.mem ((c.tc : Thread Cert.PleBwdRefIdeal.nD Cert.PleBwdRefIdeal.τ).loc Cert.PleBwdRefIdeal.main_arg5) = m ((c.tc : Thread Cert.PleBwdRefIdeal.nD Cert.PleBwdRefIdeal.τ).loc Cert.PleBwdRefIdeal.main_arg5)
      ∧ r.2.mem ((c.tc : Thread Cert.PleBwdRefIdeal.nD Cert.PleBwdRefIdeal.τ).loc Cert.PleBwdRefIdeal.main_arg6) = m ((c.tc : Thread Cert.PleBwdRefIdeal.nD Cert.PleBwdRefIdeal.τ).loc Cert.PleBwdRefIdeal.main_arg6)
      ∧ r.2.mem ((c.tc : Thread Cert.PleBwdRefIdeal.nD Cert.PleBwdRefIdeal.τ).loc Cert.PleBwdRefIdeal.main_arg7) = m ((c.tc : Thread Cert.PleBwdRefIdeal.nD Cert.PleBwdRefIdeal.τ).loc Cert.PleBwdRefIdeal.main_arg7)
      ∧ r.2.mem ((c.tc : Thread Cert.PleBwdRefIdeal.nD Cert.PleBwdRefIdeal.τ).loc Cert.PleBwdRefIdeal.main_arg8) = m ((c.tc : Thread Cert.PleBwdRefIdeal.nD Cert.PleBwdRefIdeal.τ).loc Cert.PleBwdRefIdeal.main_arg8))
      ∧ r.2.sem = fun _ => 0)

def quiescent_PleBwdRefIdeal_pre_ple_finite [hPleBwdRefIdeal : Cert.PleBwdRefIdeal.Facts] [hPre_ple_finite : Cert.Pre_ple_finite.Facts] : Prop :=
  ∀ (m : (ℓ : Loc Cert.PleBwdRefIdeal.nD Cert.PleBwdRefIdeal.τ Cert.PleBwdRefIdeal.sig) → Buf (Elt Ideal) ℓ) (g : Dev Cert.PleBwdRefIdeal.nD → PrngReg), Pre_PleBwdRefIdeal_ple_finite m →
    θ_run (Cert.PleBwdRefIdeal.defs (F := Ideal)) (onTc (τ := Cert.PleBwdRefIdeal.τ) (Cert.PleBwdRefIdeal.main (F := Ideal))) ⟨m, fun _ => 0, g⟩ (fun r => (∀ c : Dev Cert.PleBwdRefIdeal.nD,
      r.2.mem ((c.tc : Thread Cert.PleBwdRefIdeal.nD Cert.PleBwdRefIdeal.τ).loc Cert.PleBwdRefIdeal.main_arg0) = m ((c.tc : Thread Cert.PleBwdRefIdeal.nD Cert.PleBwdRefIdeal.τ).loc Cert.PleBwdRefIdeal.main_arg0)
      ∧ r.2.mem ((c.tc : Thread Cert.PleBwdRefIdeal.nD Cert.PleBwdRefIdeal.τ).loc Cert.PleBwdRefIdeal.main_arg1) = m ((c.tc : Thread Cert.PleBwdRefIdeal.nD Cert.PleBwdRefIdeal.τ).loc Cert.PleBwdRefIdeal.main_arg1)
      ∧ r.2.mem ((c.tc : Thread Cert.PleBwdRefIdeal.nD Cert.PleBwdRefIdeal.τ).loc Cert.PleBwdRefIdeal.main_arg2) = m ((c.tc : Thread Cert.PleBwdRefIdeal.nD Cert.PleBwdRefIdeal.τ).loc Cert.PleBwdRefIdeal.main_arg2)
      ∧ r.2.mem ((c.tc : Thread Cert.PleBwdRefIdeal.nD Cert.PleBwdRefIdeal.τ).loc Cert.PleBwdRefIdeal.main_arg3) = m ((c.tc : Thread Cert.PleBwdRefIdeal.nD Cert.PleBwdRefIdeal.τ).loc Cert.PleBwdRefIdeal.main_arg3)
      ∧ r.2.mem ((c.tc : Thread Cert.PleBwdRefIdeal.nD Cert.PleBwdRefIdeal.τ).loc Cert.PleBwdRefIdeal.main_arg4) = m ((c.tc : Thread Cert.PleBwdRefIdeal.nD Cert.PleBwdRefIdeal.τ).loc Cert.PleBwdRefIdeal.main_arg4)
      ∧ r.2.mem ((c.tc : Thread Cert.PleBwdRefIdeal.nD Cert.PleBwdRefIdeal.τ).loc Cert.PleBwdRefIdeal.main_arg5) = m ((c.tc : Thread Cert.PleBwdRefIdeal.nD Cert.PleBwdRefIdeal.τ).loc Cert.PleBwdRefIdeal.main_arg5)
      ∧ r.2.mem ((c.tc : Thread Cert.PleBwdRefIdeal.nD Cert.PleBwdRefIdeal.τ).loc Cert.PleBwdRefIdeal.main_arg6) = m ((c.tc : Thread Cert.PleBwdRefIdeal.nD Cert.PleBwdRefIdeal.τ).loc Cert.PleBwdRefIdeal.main_arg6)
      ∧ r.2.mem ((c.tc : Thread Cert.PleBwdRefIdeal.nD Cert.PleBwdRefIdeal.τ).loc Cert.PleBwdRefIdeal.main_arg7) = m ((c.tc : Thread Cert.PleBwdRefIdeal.nD Cert.PleBwdRefIdeal.τ).loc Cert.PleBwdRefIdeal.main_arg7)
      ∧ r.2.mem ((c.tc : Thread Cert.PleBwdRefIdeal.nD Cert.PleBwdRefIdeal.τ).loc Cert.PleBwdRefIdeal.main_arg8) = m ((c.tc : Thread Cert.PleBwdRefIdeal.nD Cert.PleBwdRefIdeal.τ).loc Cert.PleBwdRefIdeal.main_arg8))
      ∧ r.2.sem = fun _ => 0)

def quiescent_BiasBwd [hBiasBwd : Cert.BiasBwd.Facts] : Prop :=
  ∀ (m : (ℓ : Loc Cert.BiasBwd.nD Cert.BiasBwd.τ Cert.BiasBwd.sig) → Buf (Elt Bits) ℓ) (g : Dev Cert.BiasBwd.nD → PrngReg), Pre_BiasBwd m →
    θ_run (Cert.BiasBwd.defs (F := Bits)) (onTc (τ := Cert.BiasBwd.τ) (Cert.BiasBwd.main (F := Bits))) ⟨m, fun _ => 0, g⟩ (fun r => (∀ c : Dev Cert.BiasBwd.nD,
      r.2.mem ((c.tc : Thread Cert.BiasBwd.nD Cert.BiasBwd.τ).loc Cert.BiasBwd.main_arg0) = m ((c.tc : Thread Cert.BiasBwd.nD Cert.BiasBwd.τ).loc Cert.BiasBwd.main_arg0))
      ∧ r.2.sem = fun _ => 0)

def quiescent_BiasBwdIdeal [hBiasBwdIdeal : Cert.BiasBwdIdeal.Facts] : Prop :=
  ∀ (m : (ℓ : Loc Cert.BiasBwdIdeal.nD Cert.BiasBwdIdeal.τ Cert.BiasBwdIdeal.sig) → Buf (Elt Ideal) ℓ) (g : Dev Cert.BiasBwdIdeal.nD → PrngReg), Pre_BiasBwdIdeal m →
    θ_run (Cert.BiasBwdIdeal.defs (F := Ideal)) (onTc (τ := Cert.BiasBwdIdeal.τ) (Cert.BiasBwdIdeal.main (F := Ideal))) ⟨m, fun _ => 0, g⟩ (fun r => (∀ c : Dev Cert.BiasBwdIdeal.nD,
      r.2.mem ((c.tc : Thread Cert.BiasBwdIdeal.nD Cert.BiasBwdIdeal.τ).loc Cert.BiasBwdIdeal.main_arg0) = m ((c.tc : Thread Cert.BiasBwdIdeal.nD Cert.BiasBwdIdeal.τ).loc Cert.BiasBwdIdeal.main_arg0))
      ∧ r.2.sem = fun _ => 0)

def quiescent_BiasBwdRefIdeal [hBiasBwdRefIdeal : Cert.BiasBwdRefIdeal.Facts] : Prop :=
  ∀ (m : (ℓ : Loc Cert.BiasBwdRefIdeal.nD Cert.BiasBwdRefIdeal.τ Cert.BiasBwdRefIdeal.sig) → Buf (Elt Ideal) ℓ) (g : Dev Cert.BiasBwdRefIdeal.nD → PrngReg), Pre_BiasBwdRefIdeal m →
    θ_run (Cert.BiasBwdRefIdeal.defs (F := Ideal)) (onTc (τ := Cert.BiasBwdRefIdeal.τ) (Cert.BiasBwdRefIdeal.main (F := Ideal))) ⟨m, fun _ => 0, g⟩ (fun r => (∀ c : Dev Cert.BiasBwdRefIdeal.nD,
      r.2.mem ((c.tc : Thread Cert.BiasBwdRefIdeal.nD Cert.BiasBwdRefIdeal.τ).loc Cert.BiasBwdRefIdeal.main_arg0) = m ((c.tc : Thread Cert.BiasBwdRefIdeal.nD Cert.BiasBwdRefIdeal.τ).loc Cert.BiasBwdRefIdeal.main_arg0))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2)
      ∧ r.2.mem ((c.tc : Thread Cert.InFwd.nD Cert.InFwd.τ).loc Cert.InFwd.main_arg3) = m ((c.tc : Thread Cert.InFwd.nD Cert.InFwd.τ).loc Cert.InFwd.main_arg3)
      ∧ r.2.mem ((c.tc : Thread Cert.InFwd.nD Cert.InFwd.τ).loc Cert.InFwd.main_arg4) = m ((c.tc : Thread Cert.InFwd.nD Cert.InFwd.τ).loc Cert.InFwd.main_arg4))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
      ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3)
      ∧ r.2.mem ((c.tc : Thread Cert.InFwdIdeal.nD Cert.InFwdIdeal.τ).loc Cert.InFwdIdeal.main_arg4) = m ((c.tc : Thread Cert.InFwdIdeal.nD Cert.InFwdIdeal.τ).loc Cert.InFwdIdeal.main_arg4))
      ∧ r.2.sem = fun _ => 0)

def quiescent_InFwdIdeal_pre_infwd_finite [hInFwdIdeal : Cert.InFwdIdeal.Facts] [hPre_infwd_finite : Cert.Pre_infwd_finite.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal_infwd_finite m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
      ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3)
      ∧ r.2.mem ((c.tc : Thread Cert.InFwdIdeal.nD Cert.InFwdIdeal.τ).loc Cert.InFwdIdeal.main_arg4) = m ((c.tc : Thread Cert.InFwdIdeal.nD Cert.InFwdIdeal.τ).loc Cert.InFwdIdeal.main_arg4))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2)
      ∧ r.2.mem ((c.tc : Thread Cert.InFwdRefIdeal.nD Cert.InFwdRefIdeal.τ).loc Cert.InFwdRefIdeal.main_arg3) = m ((c.tc : Thread Cert.InFwdRefIdeal.nD Cert.InFwdRefIdeal.τ).loc Cert.InFwdRefIdeal.main_arg3)
      ∧ r.2.mem ((c.tc : Thread Cert.InFwdRefIdeal.nD Cert.InFwdRefIdeal.τ).loc Cert.InFwdRefIdeal.main_arg4) = m ((c.tc : Thread Cert.InFwdRefIdeal.nD Cert.InFwdRefIdeal.τ).loc Cert.InFwdRefIdeal.main_arg4))
      ∧ r.2.sem = fun _ => 0)

def quiescent_InFwdRefIdeal_pre_infwd_finite [hInFwdRefIdeal : Cert.InFwdRefIdeal.Facts] [hPre_infwd_finite : Cert.Pre_infwd_finite.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal_infwd_finite m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2)
      ∧ r.2.mem ((c.tc : Thread Cert.InFwdRefIdeal.nD Cert.InFwdRefIdeal.τ).loc Cert.InFwdRefIdeal.main_arg3) = m ((c.tc : Thread Cert.InFwdRefIdeal.nD Cert.InFwdRefIdeal.τ).loc Cert.InFwdRefIdeal.main_arg3)
      ∧ r.2.mem ((c.tc : Thread Cert.InFwdRefIdeal.nD Cert.InFwdRefIdeal.τ).loc Cert.InFwdRefIdeal.main_arg4) = m ((c.tc : Thread Cert.InFwdRefIdeal.nD Cert.InFwdRefIdeal.τ).loc Cert.InFwdRefIdeal.main_arg4))
      ∧ r.2.sem = fun _ => 0)

def quiescent_FfnW [hFfnW : Cert.FfnW.Facts] : Prop :=
  ∀ (m : (ℓ : Loc Cert.FfnW.nD Cert.FfnW.τ Cert.FfnW.sig) → Buf (Elt Bits) ℓ) (g : Dev Cert.FfnW.nD → PrngReg), Pre_FfnW m →
    θ_run (Cert.FfnW.defs (F := Bits)) (onTc (τ := Cert.FfnW.τ) (Cert.FfnW.main (F := Bits))) ⟨m, fun _ => 0, g⟩ (fun r => (∀ c : Dev Cert.FfnW.nD,
      r.2.mem ((c.tc : Thread Cert.FfnW.nD Cert.FfnW.τ).loc Cert.FfnW.main_arg0) = m ((c.tc : Thread Cert.FfnW.nD Cert.FfnW.τ).loc Cert.FfnW.main_arg0)
      ∧ r.2.mem ((c.tc : Thread Cert.FfnW.nD Cert.FfnW.τ).loc Cert.FfnW.main_arg1) = m ((c.tc : Thread Cert.FfnW.nD Cert.FfnW.τ).loc Cert.FfnW.main_arg1)
      ∧ r.2.mem ((c.tc : Thread Cert.FfnW.nD Cert.FfnW.τ).loc Cert.FfnW.main_arg2) = m ((c.tc : Thread Cert.FfnW.nD Cert.FfnW.τ).loc Cert.FfnW.main_arg2))
      ∧ r.2.sem = fun _ => 0)

def quiescent_FfnWIdeal [hFfnWIdeal : Cert.FfnWIdeal.Facts] : Prop :=
  ∀ (m : (ℓ : Loc Cert.FfnWIdeal.nD Cert.FfnWIdeal.τ Cert.FfnWIdeal.sig) → Buf (Elt Ideal) ℓ) (g : Dev Cert.FfnWIdeal.nD → PrngReg), Pre_FfnWIdeal m →
    θ_run (Cert.FfnWIdeal.defs (F := Ideal)) (onTc (τ := Cert.FfnWIdeal.τ) (Cert.FfnWIdeal.main (F := Ideal))) ⟨m, fun _ => 0, g⟩ (fun r => (∀ c : Dev Cert.FfnWIdeal.nD,
      r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
      ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1)
      ∧ r.2.mem ((c.tc : Thread Cert.FfnWIdeal.nD Cert.FfnWIdeal.τ).loc Cert.FfnWIdeal.main_arg2) = m ((c.tc : Thread Cert.FfnWIdeal.nD Cert.FfnWIdeal.τ).loc Cert.FfnWIdeal.main_arg2))
      ∧ r.2.sem = fun _ => 0)

def quiescent_FfnWRefIdeal [hFfnWRefIdeal : Cert.FfnWRefIdeal.Facts] : Prop :=
  ∀ (m : (ℓ : Loc Cert.FfnWRefIdeal.nD Cert.FfnWRefIdeal.τ Cert.FfnWRefIdeal.sig) → Buf (Elt Ideal) ℓ) (g : Dev Cert.FfnWRefIdeal.nD → PrngReg), Pre_FfnWRefIdeal m →
    θ_run (Cert.FfnWRefIdeal.defs (F := Ideal)) (onTc (τ := Cert.FfnWRefIdeal.τ) (Cert.FfnWRefIdeal.main (F := Ideal))) ⟨m, fun _ => 0, g⟩ (fun r => (∀ c : Dev Cert.FfnWRefIdeal.nD,
      r.2.mem ((c.tc : Thread Cert.FfnWRefIdeal.nD Cert.FfnWRefIdeal.τ).loc Cert.FfnWRefIdeal.main_arg0) = m ((c.tc : Thread Cert.FfnWRefIdeal.nD Cert.FfnWRefIdeal.τ).loc Cert.FfnWRefIdeal.main_arg0)
      ∧ r.2.mem ((c.tc : Thread Cert.FfnWRefIdeal.nD Cert.FfnWRefIdeal.τ).loc Cert.FfnWRefIdeal.main_arg1) = m ((c.tc : Thread Cert.FfnWRefIdeal.nD Cert.FfnWRefIdeal.τ).loc Cert.FfnWRefIdeal.main_arg1)
      ∧ r.2.mem ((c.tc : Thread Cert.FfnWRefIdeal.nD Cert.FfnWRefIdeal.τ).loc Cert.FfnWRefIdeal.main_arg2) = m ((c.tc : Thread Cert.FfnWRefIdeal.nD Cert.FfnWRefIdeal.τ).loc Cert.FfnWRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def preserves_FfnBwd_FfnBwdIdeal : Prop :=
  True

def algebraic_FfnBwdIdeal_FfnBwdRefIdeal_pre_ffn_finite [hFfnBwdIdeal : Cert.FfnBwdIdeal.Facts] [hFfnBwdRefIdeal : Cert.FfnBwdRefIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_ffn_finite m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v23_0)) (v1 : (c : Dev Cert.FfnBwdIdeal.nD) → Buf (Elt Ideal) ((c.tc : Thread Cert.FfnBwdIdeal.nD Cert.FfnBwdIdeal.τ).loc Cert.FfnBwdIdeal.main_v23_1)) (v2 : (c : Dev Cert.FfnBwdIdeal.nD) → Buf (Elt Ideal) ((c.tc : Thread Cert.FfnBwdIdeal.nD Cert.FfnBwdIdeal.τ).loc Cert.FfnBwdIdeal.main_v23_2)) (v3 : (c : Dev Cert.FfnBwdIdeal.nD) → Buf (Elt Ideal) ((c.tc : Thread Cert.FfnBwdIdeal.nD Cert.FfnBwdIdeal.τ).loc Cert.FfnBwdIdeal.main_v23_3)) (v4 : (c : Dev Cert.FfnBwdIdeal.nD) → Buf (Elt Ideal) ((c.tc : Thread Cert.FfnBwdIdeal.nD Cert.FfnBwdIdeal.τ).loc Cert.FfnBwdIdeal.main_v23_4)) (v5 : (c : Dev Cert.FfnBwdIdeal.nD) → Buf (Elt Ideal) ((c.tc : Thread Cert.FfnBwdIdeal.nD Cert.FfnBwdIdeal.τ).loc Cert.FfnBwdIdeal.main_v23_5)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v23_0) = v0 c
          ∧ r.2.mem ((c.tc : Thread Cert.FfnBwdIdeal.nD Cert.FfnBwdIdeal.τ).loc Cert.FfnBwdIdeal.main_v23_1) = v1 c
          ∧ r.2.mem ((c.tc : Thread Cert.FfnBwdIdeal.nD Cert.FfnBwdIdeal.τ).loc Cert.FfnBwdIdeal.main_v23_2) = v2 c
          ∧ r.2.mem ((c.tc : Thread Cert.FfnBwdIdeal.nD Cert.FfnBwdIdeal.τ).loc Cert.FfnBwdIdeal.main_v23_3) = v3 c
          ∧ r.2.mem ((c.tc : Thread Cert.FfnBwdIdeal.nD Cert.FfnBwdIdeal.τ).loc Cert.FfnBwdIdeal.main_v23_4) = v4 c
          ∧ r.2.mem ((c.tc : Thread Cert.FfnBwdIdeal.nD Cert.FfnBwdIdeal.τ).loc Cert.FfnBwdIdeal.main_v23_5) = v5 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v55) = v0 c
          ∧ r.2.mem ((c.tc : Thread Cert.FfnBwdRefIdeal.nD Cert.FfnBwdRefIdeal.τ).loc Cert.FfnBwdRefIdeal.main_v56) = v1 c
          ∧ r.2.mem ((c.tc : Thread Cert.FfnBwdRefIdeal.nD Cert.FfnBwdRefIdeal.τ).loc Cert.FfnBwdRefIdeal.main_v53) = v2 c
          ∧ r.2.mem ((c.tc : Thread Cert.FfnBwdRefIdeal.nD Cert.FfnBwdRefIdeal.τ).loc Cert.FfnBwdRefIdeal.main_v57) = v3 c
          ∧ r.2.mem ((c.tc : Thread Cert.FfnBwdRefIdeal.nD Cert.FfnBwdRefIdeal.τ).loc Cert.FfnBwdRefIdeal.main_v54) = v4 c
          ∧ r.2.mem ((c.tc : Thread Cert.FfnBwdRefIdeal.nD Cert.FfnBwdRefIdeal.τ).loc Cert.FfnBwdRefIdeal.main_v25) = v5 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5))

def preserves_MixBwd_MixBwdIdeal : Prop :=
  True

def algebraic_MixBwdIdeal_MixBwdRefIdeal_pre_mix_finite [hMixBwdIdeal : Cert.MixBwdIdeal.Facts] [hMixBwdRefIdeal : Cert.MixBwdRefIdeal.Facts] [hPre_mix_finite : Cert.Pre_mix_finite.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal_mix_finite m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)
      ∧ m' ((c.tc : Thread Cert.MixBwdRefIdeal.nD Cert.MixBwdRefIdeal.τ).loc Cert.MixBwdRefIdeal.main_arg4) = m ((c.tc : Thread Cert.MixBwdIdeal.nD Cert.MixBwdIdeal.τ).loc Cert.MixBwdIdeal.main_arg4)
      ∧ m' ((c.tc : Thread Cert.MixBwdRefIdeal.nD Cert.MixBwdRefIdeal.τ).loc Cert.MixBwdRefIdeal.main_arg5) = m ((c.tc : Thread Cert.MixBwdIdeal.nD Cert.MixBwdIdeal.τ).loc Cert.MixBwdIdeal.main_arg5)) →
    ∃ (v0 : (c : Dev Cert.MixBwdIdeal.nD) → Buf (Elt Ideal) ((c.tc : Thread Cert.MixBwdIdeal.nD Cert.MixBwdIdeal.τ).loc Cert.MixBwdIdeal.main_v79_0)) (v1 : (c : Dev Cert.MixBwdIdeal.nD) → Buf (Elt Ideal) ((c.tc : Thread Cert.MixBwdIdeal.nD Cert.MixBwdIdeal.τ).loc Cert.MixBwdIdeal.main_v79_1)) (v2 : (c : Dev Cert.MixBwdIdeal.nD) → Buf (Elt Ideal) ((c.tc : Thread Cert.MixBwdIdeal.nD Cert.MixBwdIdeal.τ).loc Cert.MixBwdIdeal.main_v79_2)) (v3 : (c : Dev Cert.MixBwdIdeal.nD) → Buf (Elt Ideal) ((c.tc : Thread Cert.MixBwdIdeal.nD Cert.MixBwdIdeal.τ).loc Cert.MixBwdIdeal.main_v79_3)) (v4 : (c : Dev Cert.MixBwdIdeal.nD) → Buf (Elt Ideal) ((c.tc : Thread Cert.MixBwdIdeal.nD Cert.MixBwdIdeal.τ).loc Cert.MixBwdIdeal.main_v79_4)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v79_0) = v0 c
          ∧ r.2.mem ((c.tc : Thread Cert.MixBwdIdeal.nD Cert.MixBwdIdeal.τ).loc Cert.MixBwdIdeal.main_v79_1) = v1 c
          ∧ r.2.mem ((c.tc : Thread Cert.MixBwdIdeal.nD Cert.MixBwdIdeal.τ).loc Cert.MixBwdIdeal.main_v79_2) = v2 c
          ∧ r.2.mem ((c.tc : Thread Cert.MixBwdIdeal.nD Cert.MixBwdIdeal.τ).loc Cert.MixBwdIdeal.main_v79_3) = v3 c
          ∧ r.2.mem ((c.tc : Thread Cert.MixBwdIdeal.nD Cert.MixBwdIdeal.τ).loc Cert.MixBwdIdeal.main_v79_4) = v4 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v83) = v0 c
          ∧ r.2.mem ((c.tc : Thread Cert.MixBwdRefIdeal.nD Cert.MixBwdRefIdeal.τ).loc Cert.MixBwdRefIdeal.main_v164) = v1 c
          ∧ r.2.mem ((c.tc : Thread Cert.MixBwdRefIdeal.nD Cert.MixBwdRefIdeal.τ).loc Cert.MixBwdRefIdeal.main_v97) = v2 c
          ∧ r.2.mem ((c.tc : Thread Cert.MixBwdRefIdeal.nD Cert.MixBwdRefIdeal.τ).loc Cert.MixBwdRefIdeal.main_v165) = v3 c
          ∧ r.2.mem ((c.tc : Thread Cert.MixBwdRefIdeal.nD Cert.MixBwdRefIdeal.τ).loc Cert.MixBwdRefIdeal.main_v81) = v4 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3)
          ∧ r.2.mem ((c.tc : Thread Cert.MixBwdRefIdeal.nD Cert.MixBwdRefIdeal.τ).loc Cert.MixBwdRefIdeal.main_arg4) = m' ((c.tc : Thread Cert.MixBwdRefIdeal.nD Cert.MixBwdRefIdeal.τ).loc Cert.MixBwdRefIdeal.main_arg4)
          ∧ r.2.mem ((c.tc : Thread Cert.MixBwdRefIdeal.nD Cert.MixBwdRefIdeal.τ).loc Cert.MixBwdRefIdeal.main_arg5) = m' ((c.tc : Thread Cert.MixBwdRefIdeal.nD Cert.MixBwdRefIdeal.τ).loc Cert.MixBwdRefIdeal.main_arg5))

def preserves_InProjBwd_InProjBwdIdeal : Prop :=
  True

def algebraic_InProjBwdIdeal_InProjBwdRefIdeal_pre_inproj_finite [hInProjBwdIdeal : Cert.InProjBwdIdeal.Facts] [hInProjBwdRefIdeal : Cert.InProjBwdRefIdeal.Facts] [hPre_inproj_finite : Cert.Pre_inproj_finite.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg)
    (m' : (ℓ : Loc Cert.InProjBwdRefIdeal.nD Cert.InProjBwdRefIdeal.τ Cert.InProjBwdRefIdeal.sig) → Buf (Elt Ideal) ℓ) (g' : Dev Cert.InProjBwdRefIdeal.nD → PrngReg), Pre_InProjBwdIdeal_inproj_finite m →
    (∀ c : Dev Cert.InProjBwdIdeal.nD,
      m' ((c.tc : Thread Cert.InProjBwdRefIdeal.nD Cert.InProjBwdRefIdeal.τ).loc Cert.InProjBwdRefIdeal.main_arg0) = m ((c.tc : Thread Cert.InProjBwdIdeal.nD Cert.InProjBwdIdeal.τ).loc Cert.InProjBwdIdeal.main_arg0)
      ∧ m' ((c.tc : Thread Cert.InProjBwdRefIdeal.nD Cert.InProjBwdRefIdeal.τ).loc Cert.InProjBwdRefIdeal.main_arg1) = m ((c.tc : Thread Cert.InProjBwdIdeal.nD Cert.InProjBwdIdeal.τ).loc Cert.InProjBwdIdeal.main_arg1)
      ∧ m' ((c.tc : Thread Cert.InProjBwdRefIdeal.nD Cert.InProjBwdRefIdeal.τ).loc Cert.InProjBwdRefIdeal.main_arg2) = m ((c.tc : Thread Cert.InProjBwdIdeal.nD Cert.InProjBwdIdeal.τ).loc Cert.InProjBwdIdeal.main_arg2)
      ∧ m' ((c.tc : Thread Cert.InProjBwdRefIdeal.nD Cert.InProjBwdRefIdeal.τ).loc Cert.InProjBwdRefIdeal.main_arg3) = m ((c.tc : Thread Cert.InProjBwdIdeal.nD Cert.InProjBwdIdeal.τ).loc Cert.InProjBwdIdeal.main_arg3)
      ∧ m' ((c.tc : Thread Cert.InProjBwdRefIdeal.nD Cert.InProjBwdRefIdeal.τ).loc Cert.InProjBwdRefIdeal.main_arg4) = m ((c.tc : Thread Cert.InProjBwdIdeal.nD Cert.InProjBwdIdeal.τ).loc Cert.InProjBwdIdeal.main_arg4)
      ∧ m' ((c.tc : Thread Cert.InProjBwdRefIdeal.nD Cert.InProjBwdRefIdeal.τ).loc Cert.InProjBwdRefIdeal.main_arg5) = m ((c.tc : Thread Cert.InProjBwdIdeal.nD Cert.InProjBwdIdeal.τ).loc Cert.InProjBwdIdeal.main_arg5)
      ∧ m' ((c.tc : Thread Cert.InProjBwdRefIdeal.nD Cert.InProjBwdRefIdeal.τ).loc Cert.InProjBwdRefIdeal.main_arg6) = m ((c.tc : Thread Cert.InProjBwdIdeal.nD Cert.InProjBwdIdeal.τ).loc Cert.InProjBwdIdeal.main_arg6)
      ∧ m' ((c.tc : Thread Cert.InProjBwdRefIdeal.nD Cert.InProjBwdRefIdeal.τ).loc Cert.InProjBwdRefIdeal.main_arg7) = m ((c.tc : Thread Cert.InProjBwdIdeal.nD Cert.InProjBwdIdeal.τ).loc Cert.InProjBwdIdeal.main_arg7)
      ∧ m' ((c.tc : Thread Cert.InProjBwdRefIdeal.nD Cert.InProjBwdRefIdeal.τ).loc Cert.InProjBwdRefIdeal.main_arg8) = m ((c.tc : Thread Cert.InProjBwdIdeal.nD Cert.InProjBwdIdeal.τ).loc Cert.InProjBwdIdeal.main_arg8)
      ∧ m' ((c.tc : Thread Cert.InProjBwdRefIdeal.nD Cert.InProjBwdRefIdeal.τ).loc Cert.InProjBwdRefIdeal.main_arg9) = m ((c.tc : Thread Cert.InProjBwdIdeal.nD Cert.InProjBwdIdeal.τ).loc Cert.InProjBwdIdeal.main_arg9)) →
    ∃ (v0 : (c : Dev Cert.InProjBwdIdeal.nD) → Buf (Elt Ideal) ((c.tc : Thread Cert.InProjBwdIdeal.nD Cert.InProjBwdIdeal.τ).loc Cert.InProjBwdIdeal.main_v49_0)) (v1 : (c : Dev Cert.InProjBwdIdeal.nD) → Buf (Elt Ideal) ((c.tc : Thread Cert.InProjBwdIdeal.nD Cert.InProjBwdIdeal.τ).loc Cert.InProjBwdIdeal.main_v49_1)) (v2 : (c : Dev Cert.InProjBwdIdeal.nD) → Buf (Elt Ideal) ((c.tc : Thread Cert.InProjBwdIdeal.nD Cert.InProjBwdIdeal.τ).loc Cert.InProjBwdIdeal.main_v49_2)) (v3 : (c : Dev Cert.InProjBwdIdeal.nD) → Buf (Elt Ideal) ((c.tc : Thread Cert.InProjBwdIdeal.nD Cert.InProjBwdIdeal.τ).loc Cert.InProjBwdIdeal.main_v49_3)) (v4 : (c : Dev Cert.InProjBwdIdeal.nD) → Buf (Elt Ideal) ((c.tc : Thread Cert.InProjBwdIdeal.nD Cert.InProjBwdIdeal.τ).loc Cert.InProjBwdIdeal.main_v49_4)),
      θ_run (Cert.InProjBwdIdeal.defs (F := Ideal)) (onTc (τ := Cert.InProjBwdIdeal.τ) (Cert.InProjBwdIdeal.main (F := Ideal))) ⟨m, fun _ => 0, g⟩ (fun r => ∀ c : Dev Cert.InProjBwdIdeal.nD,
          r.2.mem ((c.tc : Thread Cert.InProjBwdIdeal.nD Cert.InProjBwdIdeal.τ).loc Cert.InProjBwdIdeal.main_v49_0) = v0 c
          ∧ r.2.mem ((c.tc : Thread Cert.InProjBwdIdeal.nD Cert.InProjBwdIdeal.τ).loc Cert.InProjBwdIdeal.main_v49_1) = v1 c
          ∧ r.2.mem ((c.tc : Thread Cert.InProjBwdIdeal.nD Cert.InProjBwdIdeal.τ).loc Cert.InProjBwdIdeal.main_v49_2) = v2 c
          ∧ r.2.mem ((c.tc : Thread Cert.InProjBwdIdeal.nD Cert.InProjBwdIdeal.τ).loc Cert.InProjBwdIdeal.main_v49_3) = v3 c
          ∧ r.2.mem ((c.tc : Thread Cert.InProjBwdIdeal.nD Cert.InProjBwdIdeal.τ).loc Cert.InProjBwdIdeal.main_v49_4) = v4 c
          ∧ r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
          ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
          ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
          ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
          ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
          ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
          ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
          ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
          ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8)
          ∧ r.2.mem ((c.tc : Thread Cert.InProjBwdIdeal.nD Cert.InProjBwdIdeal.τ).loc Cert.InProjBwdIdeal.main_arg9) = m ((c.tc : Thread Cert.InProjBwdIdeal.nD Cert.InProjBwdIdeal.τ).loc Cert.InProjBwdIdeal.main_arg9))
      ∧ θ_run (Cert.InProjBwdRefIdeal.defs (F := Ideal)) (onTc (τ := Cert.InProjBwdRefIdeal.τ) (Cert.InProjBwdRefIdeal.main (F := Ideal))) ⟨m', fun _ => 0, g'⟩ (fun r => ∀ c : Dev Cert.InProjBwdRefIdeal.nD,
          r.2.mem ((c.tc : Thread Cert.InProjBwdRefIdeal.nD Cert.InProjBwdRefIdeal.τ).loc Cert.InProjBwdRefIdeal.main_v136) = v0 c
          ∧ r.2.mem ((c.tc : Thread Cert.InProjBwdRefIdeal.nD Cert.InProjBwdRefIdeal.τ).loc Cert.InProjBwdRefIdeal.main_v138) = v1 c
          ∧ r.2.mem ((c.tc : Thread Cert.InProjBwdRefIdeal.nD Cert.InProjBwdRefIdeal.τ).loc Cert.InProjBwdRefIdeal.main_v137) = v2 c
          ∧ r.2.mem ((c.tc : Thread Cert.InProjBwdRefIdeal.nD Cert.InProjBwdRefIdeal.τ).loc Cert.InProjBwdRefIdeal.main_v141) = v3 c
          ∧ r.2.mem ((c.tc : Thread Cert.InProjBwdRefIdeal.nD Cert.InProjBwdRefIdeal.τ).loc Cert.InProjBwdRefIdeal.main_v144) = v4 c
          ∧ r.2.mem ((c.tc : Thread Cert.InProjBwdRefIdeal.nD Cert.InProjBwdRefIdeal.τ).loc Cert.InProjBwdRefIdeal.main_arg0) = m' ((c.tc : Thread Cert.InProjBwdRefIdeal.nD Cert.InProjBwdRefIdeal.τ).loc Cert.InProjBwdRefIdeal.main_arg0)
          ∧ r.2.mem ((c.tc : Thread Cert.InProjBwdRefIdeal.nD Cert.InProjBwdRefIdeal.τ).loc Cert.InProjBwdRefIdeal.main_arg1) = m' ((c.tc : Thread Cert.InProjBwdRefIdeal.nD Cert.InProjBwdRefIdeal.τ).loc Cert.InProjBwdRefIdeal.main_arg1)
          ∧ r.2.mem ((c.tc : Thread Cert.InProjBwdRefIdeal.nD Cert.InProjBwdRefIdeal.τ).loc Cert.InProjBwdRefIdeal.main_arg2) = m' ((c.tc : Thread Cert.InProjBwdRefIdeal.nD Cert.InProjBwdRefIdeal.τ).loc Cert.InProjBwdRefIdeal.main_arg2)
          ∧ r.2.mem ((c.tc : Thread Cert.InProjBwdRefIdeal.nD Cert.InProjBwdRefIdeal.τ).loc Cert.InProjBwdRefIdeal.main_arg3) = m' ((c.tc : Thread Cert.InProjBwdRefIdeal.nD Cert.InProjBwdRefIdeal.τ).loc Cert.InProjBwdRefIdeal.main_arg3)
          ∧ r.2.mem ((c.tc : Thread Cert.InProjBwdRefIdeal.nD Cert.InProjBwdRefIdeal.τ).loc Cert.InProjBwdRefIdeal.main_arg4) = m' ((c.tc : Thread Cert.InProjBwdRefIdeal.nD Cert.InProjBwdRefIdeal.τ).loc Cert.InProjBwdRefIdeal.main_arg4)
          ∧ r.2.mem ((c.tc : Thread Cert.InProjBwdRefIdeal.nD Cert.InProjBwdRefIdeal.τ).loc Cert.InProjBwdRefIdeal.main_arg5) = m' ((c.tc : Thread Cert.InProjBwdRefIdeal.nD Cert.InProjBwdRefIdeal.τ).loc Cert.InProjBwdRefIdeal.main_arg5)
          ∧ r.2.mem ((c.tc : Thread Cert.InProjBwdRefIdeal.nD Cert.InProjBwdRefIdeal.τ).loc Cert.InProjBwdRefIdeal.main_arg6) = m' ((c.tc : Thread Cert.InProjBwdRefIdeal.nD Cert.InProjBwdRefIdeal.τ).loc Cert.InProjBwdRefIdeal.main_arg6)
          ∧ r.2.mem ((c.tc : Thread Cert.InProjBwdRefIdeal.nD Cert.InProjBwdRefIdeal.τ).loc Cert.InProjBwdRefIdeal.main_arg7) = m' ((c.tc : Thread Cert.InProjBwdRefIdeal.nD Cert.InProjBwdRefIdeal.τ).loc Cert.InProjBwdRefIdeal.main_arg7)
          ∧ r.2.mem ((c.tc : Thread Cert.InProjBwdRefIdeal.nD Cert.InProjBwdRefIdeal.τ).loc Cert.InProjBwdRefIdeal.main_arg8) = m' ((c.tc : Thread Cert.InProjBwdRefIdeal.nD Cert.InProjBwdRefIdeal.τ).loc Cert.InProjBwdRefIdeal.main_arg8)
          ∧ r.2.mem ((c.tc : Thread Cert.InProjBwdRefIdeal.nD Cert.InProjBwdRefIdeal.τ).loc Cert.InProjBwdRefIdeal.main_arg9) = m' ((c.tc : Thread Cert.InProjBwdRefIdeal.nD Cert.InProjBwdRefIdeal.τ).loc Cert.InProjBwdRefIdeal.main_arg9))

def preserves_PleBwd_PleBwdIdeal : Prop :=
  True

def algebraic_PleBwdIdeal_PleBwdRefIdeal_pre_ple_finite [hPleBwdIdeal : Cert.PleBwdIdeal.Facts] [hPleBwdRefIdeal : Cert.PleBwdRefIdeal.Facts] [hPre_ple_finite : Cert.Pre_ple_finite.Facts] : Prop :=
  ∀ (m : (ℓ : Loc Cert.PleBwdIdeal.nD Cert.PleBwdIdeal.τ Cert.PleBwdIdeal.sig) → Buf (Elt Ideal) ℓ) (g : Dev Cert.PleBwdIdeal.nD → PrngReg)
    (m' : (ℓ : Loc Cert.PleBwdRefIdeal.nD Cert.PleBwdRefIdeal.τ Cert.PleBwdRefIdeal.sig) → Buf (Elt Ideal) ℓ) (g' : Dev Cert.PleBwdRefIdeal.nD → PrngReg), Pre_PleBwdIdeal_ple_finite m →
    (∀ c : Dev Cert.PleBwdIdeal.nD,
      m' ((c.tc : Thread Cert.PleBwdRefIdeal.nD Cert.PleBwdRefIdeal.τ).loc Cert.PleBwdRefIdeal.main_arg0) = m ((c.tc : Thread Cert.PleBwdIdeal.nD Cert.PleBwdIdeal.τ).loc Cert.PleBwdIdeal.main_arg0)
      ∧ m' ((c.tc : Thread Cert.PleBwdRefIdeal.nD Cert.PleBwdRefIdeal.τ).loc Cert.PleBwdRefIdeal.main_arg1) = m ((c.tc : Thread Cert.PleBwdIdeal.nD Cert.PleBwdIdeal.τ).loc Cert.PleBwdIdeal.main_arg1)
      ∧ m' ((c.tc : Thread Cert.PleBwdRefIdeal.nD Cert.PleBwdRefIdeal.τ).loc Cert.PleBwdRefIdeal.main_arg2) = m ((c.tc : Thread Cert.PleBwdIdeal.nD Cert.PleBwdIdeal.τ).loc Cert.PleBwdIdeal.main_arg2)
      ∧ m' ((c.tc : Thread Cert.PleBwdRefIdeal.nD Cert.PleBwdRefIdeal.τ).loc Cert.PleBwdRefIdeal.main_arg3) = m ((c.tc : Thread Cert.PleBwdIdeal.nD Cert.PleBwdIdeal.τ).loc Cert.PleBwdIdeal.main_arg3)
      ∧ m' ((c.tc : Thread Cert.PleBwdRefIdeal.nD Cert.PleBwdRefIdeal.τ).loc Cert.PleBwdRefIdeal.main_arg4) = m ((c.tc : Thread Cert.PleBwdIdeal.nD Cert.PleBwdIdeal.τ).loc Cert.PleBwdIdeal.main_arg4)
      ∧ m' ((c.tc : Thread Cert.PleBwdRefIdeal.nD Cert.PleBwdRefIdeal.τ).loc Cert.PleBwdRefIdeal.main_arg5) = m ((c.tc : Thread Cert.PleBwdIdeal.nD Cert.PleBwdIdeal.τ).loc Cert.PleBwdIdeal.main_arg5)
      ∧ m' ((c.tc : Thread Cert.PleBwdRefIdeal.nD Cert.PleBwdRefIdeal.τ).loc Cert.PleBwdRefIdeal.main_arg6) = m ((c.tc : Thread Cert.PleBwdIdeal.nD Cert.PleBwdIdeal.τ).loc Cert.PleBwdIdeal.main_arg6)
      ∧ m' ((c.tc : Thread Cert.PleBwdRefIdeal.nD Cert.PleBwdRefIdeal.τ).loc Cert.PleBwdRefIdeal.main_arg7) = m ((c.tc : Thread Cert.PleBwdIdeal.nD Cert.PleBwdIdeal.τ).loc Cert.PleBwdIdeal.main_arg7)
      ∧ m' ((c.tc : Thread Cert.PleBwdRefIdeal.nD Cert.PleBwdRefIdeal.τ).loc Cert.PleBwdRefIdeal.main_arg8) = m ((c.tc : Thread Cert.PleBwdIdeal.nD Cert.PleBwdIdeal.τ).loc Cert.PleBwdIdeal.main_arg8)) →
    ∃ (v0 : (c : Dev Cert.PleBwdIdeal.nD) → Buf (Elt Ideal) ((c.tc : Thread Cert.PleBwdIdeal.nD Cert.PleBwdIdeal.τ).loc Cert.PleBwdIdeal.main_v7_0)) (v1 : (c : Dev Cert.PleBwdIdeal.nD) → Buf (Elt Ideal) ((c.tc : Thread Cert.PleBwdIdeal.nD Cert.PleBwdIdeal.τ).loc Cert.PleBwdIdeal.main_v7_1)) (v2 : (c : Dev Cert.PleBwdIdeal.nD) → Buf (Elt Ideal) ((c.tc : Thread Cert.PleBwdIdeal.nD Cert.PleBwdIdeal.τ).loc Cert.PleBwdIdeal.main_v7_2)) (v3 : (c : Dev Cert.PleBwdIdeal.nD) → Buf (Elt Ideal) ((c.tc : Thread Cert.PleBwdIdeal.nD Cert.PleBwdIdeal.τ).loc Cert.PleBwdIdeal.main_v7_3)) (v4 : (c : Dev Cert.PleBwdIdeal.nD) → Buf (Elt Ideal) ((c.tc : Thread Cert.PleBwdIdeal.nD Cert.PleBwdIdeal.τ).loc Cert.PleBwdIdeal.main_v7_4)),
      θ_run (Cert.PleBwdIdeal.defs (F := Ideal)) (onTc (τ := Cert.PleBwdIdeal.τ) (Cert.PleBwdIdeal.main (F := Ideal))) ⟨m, fun _ => 0, g⟩ (fun r => ∀ c : Dev Cert.PleBwdIdeal.nD,
          r.2.mem ((c.tc : Thread Cert.PleBwdIdeal.nD Cert.PleBwdIdeal.τ).loc Cert.PleBwdIdeal.main_v7_0) = v0 c
          ∧ r.2.mem ((c.tc : Thread Cert.PleBwdIdeal.nD Cert.PleBwdIdeal.τ).loc Cert.PleBwdIdeal.main_v7_1) = v1 c
          ∧ r.2.mem ((c.tc : Thread Cert.PleBwdIdeal.nD Cert.PleBwdIdeal.τ).loc Cert.PleBwdIdeal.main_v7_2) = v2 c
          ∧ r.2.mem ((c.tc : Thread Cert.PleBwdIdeal.nD Cert.PleBwdIdeal.τ).loc Cert.PleBwdIdeal.main_v7_3) = v3 c
          ∧ r.2.mem ((c.tc : Thread Cert.PleBwdIdeal.nD Cert.PleBwdIdeal.τ).loc Cert.PleBwdIdeal.main_v7_4) = v4 c
          ∧ r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
          ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
          ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
          ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
          ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
          ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5)
          ∧ r.2.mem ((c.tc : Thread Cert.PleBwdIdeal.nD Cert.PleBwdIdeal.τ).loc Cert.PleBwdIdeal.main_arg6) = m ((c.tc : Thread Cert.PleBwdIdeal.nD Cert.PleBwdIdeal.τ).loc Cert.PleBwdIdeal.main_arg6)
          ∧ r.2.mem ((c.tc : Thread Cert.PleBwdIdeal.nD Cert.PleBwdIdeal.τ).loc Cert.PleBwdIdeal.main_arg7) = m ((c.tc : Thread Cert.PleBwdIdeal.nD Cert.PleBwdIdeal.τ).loc Cert.PleBwdIdeal.main_arg7)
          ∧ r.2.mem ((c.tc : Thread Cert.PleBwdIdeal.nD Cert.PleBwdIdeal.τ).loc Cert.PleBwdIdeal.main_arg8) = m ((c.tc : Thread Cert.PleBwdIdeal.nD Cert.PleBwdIdeal.τ).loc Cert.PleBwdIdeal.main_arg8))
      ∧ θ_run (Cert.PleBwdRefIdeal.defs (F := Ideal)) (onTc (τ := Cert.PleBwdRefIdeal.τ) (Cert.PleBwdRefIdeal.main (F := Ideal))) ⟨m', fun _ => 0, g'⟩ (fun r => ∀ c : Dev Cert.PleBwdRefIdeal.nD,
          r.2.mem ((c.tc : Thread Cert.PleBwdRefIdeal.nD Cert.PleBwdRefIdeal.τ).loc Cert.PleBwdRefIdeal.main_v81) = v0 c
          ∧ r.2.mem ((c.tc : Thread Cert.PleBwdRefIdeal.nD Cert.PleBwdRefIdeal.τ).loc Cert.PleBwdRefIdeal.main_v77) = v1 c
          ∧ r.2.mem ((c.tc : Thread Cert.PleBwdRefIdeal.nD Cert.PleBwdRefIdeal.τ).loc Cert.PleBwdRefIdeal.main_v55) = v2 c
          ∧ r.2.mem ((c.tc : Thread Cert.PleBwdRefIdeal.nD Cert.PleBwdRefIdeal.τ).loc Cert.PleBwdRefIdeal.main_v80) = v3 c
          ∧ r.2.mem ((c.tc : Thread Cert.PleBwdRefIdeal.nD Cert.PleBwdRefIdeal.τ).loc Cert.PleBwdRefIdeal.main_v78) = v4 c
          ∧ r.2.mem ((c.tc : Thread Cert.PleBwdRefIdeal.nD Cert.PleBwdRefIdeal.τ).loc Cert.PleBwdRefIdeal.main_arg0) = m' ((c.tc : Thread Cert.PleBwdRefIdeal.nD Cert.PleBwdRefIdeal.τ).loc Cert.PleBwdRefIdeal.main_arg0)
          ∧ r.2.mem ((c.tc : Thread Cert.PleBwdRefIdeal.nD Cert.PleBwdRefIdeal.τ).loc Cert.PleBwdRefIdeal.main_arg1) = m' ((c.tc : Thread Cert.PleBwdRefIdeal.nD Cert.PleBwdRefIdeal.τ).loc Cert.PleBwdRefIdeal.main_arg1)
          ∧ r.2.mem ((c.tc : Thread Cert.PleBwdRefIdeal.nD Cert.PleBwdRefIdeal.τ).loc Cert.PleBwdRefIdeal.main_arg2) = m' ((c.tc : Thread Cert.PleBwdRefIdeal.nD Cert.PleBwdRefIdeal.τ).loc Cert.PleBwdRefIdeal.main_arg2)
          ∧ r.2.mem ((c.tc : Thread Cert.PleBwdRefIdeal.nD Cert.PleBwdRefIdeal.τ).loc Cert.PleBwdRefIdeal.main_arg3) = m' ((c.tc : Thread Cert.PleBwdRefIdeal.nD Cert.PleBwdRefIdeal.τ).loc Cert.PleBwdRefIdeal.main_arg3)
          ∧ r.2.mem ((c.tc : Thread Cert.PleBwdRefIdeal.nD Cert.PleBwdRefIdeal.τ).loc Cert.PleBwdRefIdeal.main_arg4) = m' ((c.tc : Thread Cert.PleBwdRefIdeal.nD Cert.PleBwdRefIdeal.τ).loc Cert.PleBwdRefIdeal.main_arg4)
          ∧ r.2.mem ((c.tc : Thread Cert.PleBwdRefIdeal.nD Cert.PleBwdRefIdeal.τ).loc Cert.PleBwdRefIdeal.main_arg5) = m' ((c.tc : Thread Cert.PleBwdRefIdeal.nD Cert.PleBwdRefIdeal.τ).loc Cert.PleBwdRefIdeal.main_arg5)
          ∧ r.2.mem ((c.tc : Thread Cert.PleBwdRefIdeal.nD Cert.PleBwdRefIdeal.τ).loc Cert.PleBwdRefIdeal.main_arg6) = m' ((c.tc : Thread Cert.PleBwdRefIdeal.nD Cert.PleBwdRefIdeal.τ).loc Cert.PleBwdRefIdeal.main_arg6)
          ∧ r.2.mem ((c.tc : Thread Cert.PleBwdRefIdeal.nD Cert.PleBwdRefIdeal.τ).loc Cert.PleBwdRefIdeal.main_arg7) = m' ((c.tc : Thread Cert.PleBwdRefIdeal.nD Cert.PleBwdRefIdeal.τ).loc Cert.PleBwdRefIdeal.main_arg7)
          ∧ r.2.mem ((c.tc : Thread Cert.PleBwdRefIdeal.nD Cert.PleBwdRefIdeal.τ).loc Cert.PleBwdRefIdeal.main_arg8) = m' ((c.tc : Thread Cert.PleBwdRefIdeal.nD Cert.PleBwdRefIdeal.τ).loc Cert.PleBwdRefIdeal.main_arg8))

def preserves_BiasBwd_BiasBwdIdeal : Prop :=
  True

def algebraic_BiasBwdIdeal_BiasBwdRefIdeal [hBiasBwdIdeal : Cert.BiasBwdIdeal.Facts] [hBiasBwdRefIdeal : Cert.BiasBwdRefIdeal.Facts] : Prop :=
  ∀ (m : (ℓ : Loc Cert.BiasBwdIdeal.nD Cert.BiasBwdIdeal.τ Cert.BiasBwdIdeal.sig) → Buf (Elt Ideal) ℓ) (g : Dev Cert.BiasBwdIdeal.nD → PrngReg)
    (m' : (ℓ : Loc Cert.BiasBwdRefIdeal.nD Cert.BiasBwdRefIdeal.τ Cert.BiasBwdRefIdeal.sig) → Buf (Elt Ideal) ℓ) (g' : Dev Cert.BiasBwdRefIdeal.nD → PrngReg), Pre_BiasBwdIdeal m →
    (∀ c : Dev Cert.BiasBwdIdeal.nD,
      m' ((c.tc : Thread Cert.BiasBwdRefIdeal.nD Cert.BiasBwdRefIdeal.τ).loc Cert.BiasBwdRefIdeal.main_arg0) = m ((c.tc : Thread Cert.BiasBwdIdeal.nD Cert.BiasBwdIdeal.τ).loc Cert.BiasBwdIdeal.main_arg0)) →
    ∃ (v0 : (c : Dev Cert.BiasBwdIdeal.nD) → Buf (Elt Ideal) ((c.tc : Thread Cert.BiasBwdIdeal.nD Cert.BiasBwdIdeal.τ).loc Cert.BiasBwdIdeal.main_v0)),
      θ_run (Cert.BiasBwdIdeal.defs (F := Ideal)) (onTc (τ := Cert.BiasBwdIdeal.τ) (Cert.BiasBwdIdeal.main (F := Ideal))) ⟨m, fun _ => 0, g⟩ (fun r => ∀ c : Dev Cert.BiasBwdIdeal.nD,
          r.2.mem ((c.tc : Thread Cert.BiasBwdIdeal.nD Cert.BiasBwdIdeal.τ).loc Cert.BiasBwdIdeal.main_v0) = v0 c
          ∧ r.2.mem ((c.tc : Thread Cert.BiasBwdIdeal.nD Cert.BiasBwdIdeal.τ).loc Cert.BiasBwdIdeal.main_arg0) = m ((c.tc : Thread Cert.BiasBwdIdeal.nD Cert.BiasBwdIdeal.τ).loc Cert.BiasBwdIdeal.main_arg0))
      ∧ θ_run (Cert.BiasBwdRefIdeal.defs (F := Ideal)) (onTc (τ := Cert.BiasBwdRefIdeal.τ) (Cert.BiasBwdRefIdeal.main (F := Ideal))) ⟨m', fun _ => 0, g'⟩ (fun r => ∀ c : Dev Cert.BiasBwdRefIdeal.nD,
          r.2.mem ((c.tc : Thread Cert.BiasBwdRefIdeal.nD Cert.BiasBwdRefIdeal.τ).loc Cert.BiasBwdRefIdeal.main_v48) = v0 c
          ∧ r.2.mem ((c.tc : Thread Cert.BiasBwdRefIdeal.nD Cert.BiasBwdRefIdeal.τ).loc Cert.BiasBwdRefIdeal.main_arg0) = m' ((c.tc : Thread Cert.BiasBwdRefIdeal.nD Cert.BiasBwdRefIdeal.τ).loc Cert.BiasBwdRefIdeal.main_arg0))

def preserves_InFwd_InFwdIdeal : Prop :=
  True

def algebraic_InFwdIdeal_InFwdRefIdeal_pre_infwd_finite [hInFwdIdeal : Cert.InFwdIdeal.Facts] [hInFwdRefIdeal : Cert.InFwdRefIdeal.Facts] [hPre_infwd_finite : Cert.Pre_infwd_finite.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal_infwd_finite m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)
      ∧ m' ((c.tc : Thread Cert.InFwdRefIdeal.nD Cert.InFwdRefIdeal.τ).loc Cert.InFwdRefIdeal.main_arg3) = m ((c.tc : Thread Cert.InFwdIdeal.nD Cert.InFwdIdeal.τ).loc Cert.InFwdIdeal.main_arg3)
      ∧ m' ((c.tc : Thread Cert.InFwdRefIdeal.nD Cert.InFwdRefIdeal.τ).loc Cert.InFwdRefIdeal.main_arg4) = m ((c.tc : Thread Cert.InFwdIdeal.nD Cert.InFwdIdeal.τ).loc Cert.InFwdIdeal.main_arg4)) →
    ∃ (v0 : (c : Dev Cert.InFwdIdeal.nD) → Buf (Elt Ideal) ((c.tc : Thread Cert.InFwdIdeal.nD Cert.InFwdIdeal.τ).loc Cert.InFwdIdeal.main_v32_0)) (v1 : (c : Dev Cert.InFwdIdeal.nD) → Buf (Elt Ideal) ((c.tc : Thread Cert.InFwdIdeal.nD Cert.InFwdIdeal.τ).loc Cert.InFwdIdeal.main_v32_1)) (v2 : (c : Dev Cert.InFwdIdeal.nD) → Buf (Elt Ideal) ((c.tc : Thread Cert.InFwdIdeal.nD Cert.InFwdIdeal.τ).loc Cert.InFwdIdeal.main_v32_2)) (v3 : (c : Dev Cert.InFwdIdeal.nD) → Buf (Elt Ideal) ((c.tc : Thread Cert.InFwdIdeal.nD Cert.InFwdIdeal.τ).loc Cert.InFwdIdeal.main_v32_3)) (v4 : (c : Dev Cert.InFwdIdeal.nD) → Buf (Elt Ideal) ((c.tc : Thread Cert.InFwdIdeal.nD Cert.InFwdIdeal.τ).loc Cert.InFwdIdeal.main_v32_4)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v32_0) = v0 c
          ∧ r.2.mem ((c.tc : Thread Cert.InFwdIdeal.nD Cert.InFwdIdeal.τ).loc Cert.InFwdIdeal.main_v32_1) = v1 c
          ∧ r.2.mem ((c.tc : Thread Cert.InFwdIdeal.nD Cert.InFwdIdeal.τ).loc Cert.InFwdIdeal.main_v32_2) = v2 c
          ∧ r.2.mem ((c.tc : Thread Cert.InFwdIdeal.nD Cert.InFwdIdeal.τ).loc Cert.InFwdIdeal.main_v32_3) = v3 c
          ∧ r.2.mem ((c.tc : Thread Cert.InFwdIdeal.nD Cert.InFwdIdeal.τ).loc Cert.InFwdIdeal.main_v32_4) = v4 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
          ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3)
          ∧ r.2.mem ((c.tc : Thread Cert.InFwdIdeal.nD Cert.InFwdIdeal.τ).loc Cert.InFwdIdeal.main_arg4) = m ((c.tc : Thread Cert.InFwdIdeal.nD Cert.InFwdIdeal.τ).loc Cert.InFwdIdeal.main_arg4))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v51) = v0 c
          ∧ r.2.mem ((c.tc : Thread Cert.InFwdRefIdeal.nD Cert.InFwdRefIdeal.τ).loc Cert.InFwdRefIdeal.main_v52) = v1 c
          ∧ r.2.mem ((c.tc : Thread Cert.InFwdRefIdeal.nD Cert.InFwdRefIdeal.τ).loc Cert.InFwdRefIdeal.main_v53) = v2 c
          ∧ r.2.mem ((c.tc : Thread Cert.InFwdRefIdeal.nD Cert.InFwdRefIdeal.τ).loc Cert.InFwdRefIdeal.main_v54) = v3 c
          ∧ r.2.mem ((c.tc : Thread Cert.InFwdRefIdeal.nD Cert.InFwdRefIdeal.τ).loc Cert.InFwdRefIdeal.main_v50) = v4 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2)
          ∧ r.2.mem ((c.tc : Thread Cert.InFwdRefIdeal.nD Cert.InFwdRefIdeal.τ).loc Cert.InFwdRefIdeal.main_arg3) = m' ((c.tc : Thread Cert.InFwdRefIdeal.nD Cert.InFwdRefIdeal.τ).loc Cert.InFwdRefIdeal.main_arg3)
          ∧ r.2.mem ((c.tc : Thread Cert.InFwdRefIdeal.nD Cert.InFwdRefIdeal.τ).loc Cert.InFwdRefIdeal.main_arg4) = m' ((c.tc : Thread Cert.InFwdRefIdeal.nD Cert.InFwdRefIdeal.τ).loc Cert.InFwdRefIdeal.main_arg4))

def preserves_FfnW_FfnWIdeal : Prop :=
  True

def algebraic_FfnWIdeal_FfnWRefIdeal [hFfnWIdeal : Cert.FfnWIdeal.Facts] [hFfnWRefIdeal : Cert.FfnWRefIdeal.Facts] : Prop :=
  ∀ (m : (ℓ : Loc Cert.FfnWIdeal.nD Cert.FfnWIdeal.τ Cert.FfnWIdeal.sig) → Buf (Elt Ideal) ℓ) (g : Dev Cert.FfnWIdeal.nD → PrngReg)
    (m' : (ℓ : Loc Cert.FfnWRefIdeal.nD Cert.FfnWRefIdeal.τ Cert.FfnWRefIdeal.sig) → Buf (Elt Ideal) ℓ) (g' : Dev Cert.FfnWRefIdeal.nD → PrngReg), Pre_FfnWIdeal m →
    (∀ c : Dev Cert.FfnWIdeal.nD,
      m' ((c.tc : Thread Cert.FfnWRefIdeal.nD Cert.FfnWRefIdeal.τ).loc Cert.FfnWRefIdeal.main_arg0) = m ((c.tc : Thread Cert.FfnWIdeal.nD Cert.FfnWIdeal.τ).loc Cert.FfnWIdeal.main_arg0)
      ∧ m' ((c.tc : Thread Cert.FfnWRefIdeal.nD Cert.FfnWRefIdeal.τ).loc Cert.FfnWRefIdeal.main_arg1) = m ((c.tc : Thread Cert.FfnWIdeal.nD Cert.FfnWIdeal.τ).loc Cert.FfnWIdeal.main_arg1)
      ∧ m' ((c.tc : Thread Cert.FfnWRefIdeal.nD Cert.FfnWRefIdeal.τ).loc Cert.FfnWRefIdeal.main_arg2) = m ((c.tc : Thread Cert.FfnWIdeal.nD Cert.FfnWIdeal.τ).loc Cert.FfnWIdeal.main_arg2)) →
    ∃ (v0 : (c : Dev Cert.FfnWIdeal.nD) → Buf (Elt Ideal) ((c.tc : Thread Cert.FfnWIdeal.nD Cert.FfnWIdeal.τ).loc Cert.FfnWIdeal.main_v3_0)) (v1 : (c : Dev Cert.FfnWIdeal.nD) → Buf (Elt Ideal) ((c.tc : Thread Cert.FfnWIdeal.nD Cert.FfnWIdeal.τ).loc Cert.FfnWIdeal.main_v3_1)),
      θ_run (Cert.FfnWIdeal.defs (F := Ideal)) (onTc (τ := Cert.FfnWIdeal.τ) (Cert.FfnWIdeal.main (F := Ideal))) ⟨m, fun _ => 0, g⟩ (fun r => ∀ c : Dev Cert.FfnWIdeal.nD,
          r.2.mem ((c.tc : Thread Cert.FfnWIdeal.nD Cert.FfnWIdeal.τ).loc Cert.FfnWIdeal.main_v3_0) = v0 c
          ∧ r.2.mem ((c.tc : Thread Cert.FfnWIdeal.nD Cert.FfnWIdeal.τ).loc Cert.FfnWIdeal.main_v3_1) = v1 c
          ∧ r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
          ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1)
          ∧ r.2.mem ((c.tc : Thread Cert.FfnWIdeal.nD Cert.FfnWIdeal.τ).loc Cert.FfnWIdeal.main_arg2) = m ((c.tc : Thread Cert.FfnWIdeal.nD Cert.FfnWIdeal.τ).loc Cert.FfnWIdeal.main_arg2))
      ∧ θ_run (Cert.FfnWRefIdeal.defs (F := Ideal)) (onTc (τ := Cert.FfnWRefIdeal.τ) (Cert.FfnWRefIdeal.main (F := Ideal))) ⟨m', fun _ => 0, g'⟩ (fun r => ∀ c : Dev Cert.FfnWRefIdeal.nD,
          r.2.mem ((c.tc : Thread Cert.FfnWRefIdeal.nD Cert.FfnWRefIdeal.τ).loc Cert.FfnWRefIdeal.main_v7) = v0 c
          ∧ r.2.mem ((c.tc : Thread Cert.FfnWRefIdeal.nD Cert.FfnWRefIdeal.τ).loc Cert.FfnWRefIdeal.main_v8) = v1 c
          ∧ r.2.mem ((c.tc : Thread Cert.FfnWRefIdeal.nD Cert.FfnWRefIdeal.τ).loc Cert.FfnWRefIdeal.main_arg0) = m' ((c.tc : Thread Cert.FfnWRefIdeal.nD Cert.FfnWRefIdeal.τ).loc Cert.FfnWRefIdeal.main_arg0)
          ∧ r.2.mem ((c.tc : Thread Cert.FfnWRefIdeal.nD Cert.FfnWRefIdeal.τ).loc Cert.FfnWRefIdeal.main_arg1) = m' ((c.tc : Thread Cert.FfnWRefIdeal.nD Cert.FfnWRefIdeal.τ).loc Cert.FfnWRefIdeal.main_arg1)
          ∧ r.2.mem ((c.tc : Thread Cert.FfnWRefIdeal.nD Cert.FfnWRefIdeal.τ).loc Cert.FfnWRefIdeal.main_arg2) = m' ((c.tc : Thread Cert.FfnWRefIdeal.nD Cert.FfnWRefIdeal.τ).loc Cert.FfnWRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v5_0)) (v1 : (c : Dev Cert.FfnUpIdeal.nD) → Buf (Elt Ideal) ((c.tc : Thread Cert.FfnUpIdeal.nD Cert.FfnUpIdeal.τ).loc Cert.FfnUpIdeal.main_v5_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v5_0) = v0 c
          ∧ r.2.mem ((c.tc : Thread Cert.FfnUpIdeal.nD Cert.FfnUpIdeal.τ).loc Cert.FfnUpIdeal.main_v5_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v1) = v0 c
          ∧ r.2.mem ((c.tc : Thread Cert.FfnUpRefIdeal.nD Cert.FfnUpRefIdeal.τ).loc Cert.FfnUpRefIdeal.main_v3) = v1 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def Claim : Prop :=
  ∃ (hFfnBwd : Cert.FfnBwd.Facts) (hFfnBwdIdeal : Cert.FfnBwdIdeal.Facts) (hFfnBwdRefIdeal : Cert.FfnBwdRefIdeal.Facts) (hMixBwd : Cert.MixBwd.Facts) (hMixBwdIdeal : Cert.MixBwdIdeal.Facts) (hMixBwdRefIdeal : Cert.MixBwdRefIdeal.Facts) (hInProjBwd : Cert.InProjBwd.Facts) (hInProjBwdIdeal : Cert.InProjBwdIdeal.Facts) (hInProjBwdRefIdeal : Cert.InProjBwdRefIdeal.Facts) (hPleBwd : Cert.PleBwd.Facts) (hPleBwdIdeal : Cert.PleBwdIdeal.Facts) (hPleBwdRefIdeal : Cert.PleBwdRefIdeal.Facts) (hBiasBwd : Cert.BiasBwd.Facts) (hBiasBwdIdeal : Cert.BiasBwdIdeal.Facts) (hBiasBwdRefIdeal : Cert.BiasBwdRefIdeal.Facts) (hInFwd : Cert.InFwd.Facts) (hInFwdIdeal : Cert.InFwdIdeal.Facts) (hInFwdRefIdeal : Cert.InFwdRefIdeal.Facts) (hFfnW : Cert.FfnW.Facts) (hFfnWIdeal : Cert.FfnWIdeal.Facts) (hFfnWRefIdeal : Cert.FfnWRefIdeal.Facts) (hFfnUp : Cert.FfnUp.Facts) (hFfnUpIdeal : Cert.FfnUpIdeal.Facts) (hFfnUpRefIdeal : Cert.FfnUpRefIdeal.Facts) (hPre_ffn_finite : Cert.Pre_ffn_finite.Facts) (hPre_mix_finite : Cert.Pre_mix_finite.Facts) (hPre_inproj_finite : Cert.Pre_inproj_finite.Facts) (hPre_ple_finite : Cert.Pre_ple_finite.Facts) (hPre_infwd_finite : Cert.Pre_infwd_finite.Facts),
    quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnBwdRefIdeal (hFfnBwdRefIdeal := hFfnBwdRefIdeal)
    ∧ quiescent_FfnBwdRefIdeal_pre_ffn_finite (hFfnBwdRefIdeal := hFfnBwdRefIdeal) (hPre_ffn_finite := hPre_ffn_finite)
    ∧ quiescent_MixBwd (hMixBwd := hMixBwd)
    ∧ quiescent_MixBwdIdeal (hMixBwdIdeal := hMixBwdIdeal)
    ∧ quiescent_MixBwdIdeal_pre_mix_finite (hMixBwdIdeal := hMixBwdIdeal) (hPre_mix_finite := hPre_mix_finite)
    ∧ quiescent_MixBwdRefIdeal (hMixBwdRefIdeal := hMixBwdRefIdeal)
    ∧ quiescent_MixBwdRefIdeal_pre_mix_finite (hMixBwdRefIdeal := hMixBwdRefIdeal) (hPre_mix_finite := hPre_mix_finite)
    ∧ quiescent_InProjBwd (hInProjBwd := hInProjBwd)
    ∧ quiescent_InProjBwdIdeal (hInProjBwdIdeal := hInProjBwdIdeal)
    ∧ quiescent_InProjBwdIdeal_pre_inproj_finite (hInProjBwdIdeal := hInProjBwdIdeal) (hPre_inproj_finite := hPre_inproj_finite)
    ∧ quiescent_InProjBwdRefIdeal (hInProjBwdRefIdeal := hInProjBwdRefIdeal)
    ∧ quiescent_InProjBwdRefIdeal_pre_inproj_finite (hInProjBwdRefIdeal := hInProjBwdRefIdeal) (hPre_inproj_finite := hPre_inproj_finite)
    ∧ quiescent_PleBwd (hPleBwd := hPleBwd)
    ∧ quiescent_PleBwdIdeal (hPleBwdIdeal := hPleBwdIdeal)
    ∧ quiescent_PleBwdIdeal_pre_ple_finite (hPleBwdIdeal := hPleBwdIdeal) (hPre_ple_finite := hPre_ple_finite)
    ∧ quiescent_PleBwdRefIdeal (hPleBwdRefIdeal := hPleBwdRefIdeal)
    ∧ quiescent_PleBwdRefIdeal_pre_ple_finite (hPleBwdRefIdeal := hPleBwdRefIdeal) (hPre_ple_finite := hPre_ple_finite)
    ∧ quiescent_BiasBwd (hBiasBwd := hBiasBwd)
    ∧ quiescent_BiasBwdIdeal (hBiasBwdIdeal := hBiasBwdIdeal)
    ∧ quiescent_BiasBwdRefIdeal (hBiasBwdRefIdeal := hBiasBwdRefIdeal)
    ∧ quiescent_InFwd (hInFwd := hInFwd)
    ∧ quiescent_InFwdIdeal (hInFwdIdeal := hInFwdIdeal)
    ∧ quiescent_InFwdIdeal_pre_infwd_finite (hInFwdIdeal := hInFwdIdeal) (hPre_infwd_finite := hPre_infwd_finite)
    ∧ quiescent_InFwdRefIdeal (hInFwdRefIdeal := hInFwdRefIdeal)
    ∧ quiescent_InFwdRefIdeal_pre_infwd_finite (hInFwdRefIdeal := hInFwdRefIdeal) (hPre_infwd_finite := hPre_infwd_finite)
    ∧ quiescent_FfnW (hFfnW := hFfnW)
    ∧ quiescent_FfnWIdeal (hFfnWIdeal := hFfnWIdeal)
    ∧ quiescent_FfnWRefIdeal (hFfnWRefIdeal := hFfnWRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ preserves_FfnBwd_FfnBwdIdeal
    ∧ algebraic_FfnBwdIdeal_FfnBwdRefIdeal_pre_ffn_finite (hFfnBwdIdeal := hFfnBwdIdeal) (hFfnBwdRefIdeal := hFfnBwdRefIdeal) (hPre_ffn_finite := hPre_ffn_finite)
    ∧ preserves_MixBwd_MixBwdIdeal
    ∧ algebraic_MixBwdIdeal_MixBwdRefIdeal_pre_mix_finite (hMixBwdIdeal := hMixBwdIdeal) (hMixBwdRefIdeal := hMixBwdRefIdeal) (hPre_mix_finite := hPre_mix_finite)
    ∧ preserves_InProjBwd_InProjBwdIdeal
    ∧ algebraic_InProjBwdIdeal_InProjBwdRefIdeal_pre_inproj_finite (hInProjBwdIdeal := hInProjBwdIdeal) (hInProjBwdRefIdeal := hInProjBwdRefIdeal) (hPre_inproj_finite := hPre_inproj_finite)
    ∧ preserves_PleBwd_PleBwdIdeal
    ∧ algebraic_PleBwdIdeal_PleBwdRefIdeal_pre_ple_finite (hPleBwdIdeal := hPleBwdIdeal) (hPleBwdRefIdeal := hPleBwdRefIdeal) (hPre_ple_finite := hPre_ple_finite)
    ∧ preserves_BiasBwd_BiasBwdIdeal
    ∧ algebraic_BiasBwdIdeal_BiasBwdRefIdeal (hBiasBwdIdeal := hBiasBwdIdeal) (hBiasBwdRefIdeal := hBiasBwdRefIdeal)
    ∧ preserves_InFwd_InFwdIdeal
    ∧ algebraic_InFwdIdeal_InFwdRefIdeal_pre_infwd_finite (hInFwdIdeal := hInFwdIdeal) (hInFwdRefIdeal := hInFwdRefIdeal) (hPre_infwd_finite := hPre_infwd_finite)
    ∧ preserves_FfnW_FfnWIdeal
    ∧ algebraic_FfnWIdeal_FfnWRefIdeal (hFfnWIdeal := hFfnWIdeal) (hFfnWRefIdeal := hFfnWRefIdeal)
    ∧ preserves_FfnUp_FfnUpIdeal
    ∧ algebraic_FfnUpIdeal_FfnUpRefIdeal (hFfnUpIdeal := hFfnUpIdeal) (hFfnUpRefIdeal := hFfnUpRefIdeal)
-- ==== Pre_ffn_finite.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S1x1024 .f32) (main_arg3 : FVec F S1024x2816 .f32) (main_arg4 : FVec F S1024x2816 .f32) (main_arg5 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_infwd_finite.lean ====
abbrev S4096x1024 : Shape := ⟨2, ![4096, 1024]⟩
abbrev S1x1024 : Shape := ⟨2, ![1, 1024]⟩
abbrev S1x64 : Shape := ⟨2, ![1, 64]⟩
abbrev S1024x1280 : Shape := ⟨2, ![1024, 1280]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x64 : S_.BroadcastsInDim S1x64 (![] : Fin 0 → Fin S1x64.rank)
  reducesTo_S1x64_S_d0_1 : S1x64.ReducesTo [0, 1] S_
  bcast_S_S1024x1280 : S_.BroadcastsInDim S1024x1280 (![] : Fin 0 → Fin S1024x1280.rank)
  reducesTo_S1024x1280_S_d0_1 : S1024x1280.ReducesTo [0, 1] S_

variable [Facts]

def fn_part1 {F : FTy → Type} [FloatOps F] (main_arg4 : FVec F S1024x1280 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1024x1280 .f32 := Host.absf main_arg4
  let main_cst_6 : FVec F S_ .f32 := constant S_ .f32 0x7F800000#32
  let main_v20 : FVec F S1024x1280 .f32 := broadcastInDim S1024x1280 ![] bcast_S_S1024x1280 main_cst_6
  let main_v21 : IVec S1024x1280 1 := cmpf .olt main_v19 main_v20
  let main_c_7 : IVec S_ 1 := constantI S_ 1 1#1
  let main_v22 : IVec S_ 1 := (fun x v => Host.reduce IntOp.andi x v reducesTo_S1024x1280_S_d0_1 h_S_) main_v21 main_c_7
  let main_v23 : IVec S_ 1 := andi main_v18 main_v22
  main_v23

def fn {F : FTy → Type} [FloatOps F] (main_arg0 : FVec F S4096x1024 .f32) (main_arg1 : FVec F S1x1024 .f32) (main_arg2 : FVec F S1x64 .f32) (main_arg3 : FVec F S1x64 .f32) (main_arg4 : FVec F S1024x1280 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_v13 main_v16
-- ==== Pre_inproj_finite.lean ====
abbrev S4096x512 : Shape := ⟨2, ![4096, 512]⟩
abbrev S4096x128 : Shape := ⟨2, ![4096, 128]⟩
abbrev S4096x1024 : Shape := ⟨2, ![4096, 1024]⟩
abbrev S1x1024 : Shape := ⟨2, ![1, 1024]⟩
abbrev S1x64 : Shape := ⟨2, ![1, 64]⟩
abbrev S1024x1280 : Shape := ⟨2, ![1024, 1280]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x64 : S_.BroadcastsInDim S1x64 (![] : Fin 0 → Fin S1x64.rank)
  reducesTo_S1x64_S_d0_1 : S1x64.ReducesTo [0, 1] S_
  bcast_S_S1024x1280 : S_.BroadcastsInDim S1024x1280 (![] : Fin 0 → Fin S1024x1280.rank)
  reducesTo_S1024x1280_S_d0_1 : S1024x1280.ReducesTo [0, 1] S_

variable [Facts]

def fn_part2 {F : FTy → Type} [FloatOps F] (main_arg7 : FVec F S1x64 .f32) (main_arg8 : FVec F S1x64 .f32) (main_arg9 : FVec F S1024x1280 .f32) (main_v33 : IVec S_ 1) : IVec S_ 1 :=
  let main_v34 : FVec F S1x64 .f32 := Host.absf main_arg7
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1x64 .f32 := Host.absf main_arg8
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S1024x1280 .f32 := Host.absf main_arg9
  let main_cst_16 : FVec F S_ .f32 := constant S_ .f32 0x7F800000#32
  let main_v45 : FVec F S1024x1280 .f32 := broadcastInDim S1024x1280 ![] bcast_S_S1024x1280 main_cst_16
  let main_v46 : IVec S1024x1280 1 := cmpf .olt main_v44 main_v45
  let main_c_17 : IVec S_ 1 := constantI S_ 1 1#1
  let main_v47 : IVec S_ 1 := (fun x v => Host.reduce IntOp.andi x v reducesTo_S1024x1280_S_d0_1 h_S_) main_v46 main_c_17
  let main_v48 : IVec S_ 1 := andi main_v43 main_v47
  main_v48

def fn_part1 {F : FTy → Type} [FloatOps F] (main_arg4 : FVec F S4096x1024 .f32) (main_arg5 : FVec F S4096x1024 .f32) (main_arg6 : FVec F S1x1024 .f32) (main_arg7 : FVec F S1x64 .f32) (main_arg8 : FVec F S1x64 .f32) (main_arg9 : FVec F S1024x1280 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x512 .f32) (main_arg1 : FVec F S4096x128 .f32) (main_arg2 : FVec F S4096x128 .f32) (main_arg3 : FVec F S4096x512 .f32) (main_arg4 : FVec F S4096x1024 .f32) (main_arg5 : FVec F S4096x1024 .f32) (main_arg6 : FVec F S1x1024 .f32) (main_arg7 : FVec F S1x64 .f32) (main_arg8 : FVec F S1x64 .f32) (main_arg9 : FVec F S1024x1280 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_arg6 main_arg7 main_arg8 main_arg9 main_v13 main_v16
-- ==== Pre_mix_finite.lean ====
abbrev S4096x1024 : Shape := ⟨2, ![4096, 1024]⟩
abbrev S4096x512 : Shape := ⟨2, ![4096, 512]⟩
abbrev S1024x1024 : Shape := ⟨2, ![1024, 1024]⟩
abbrev S4x128x128 : Shape := ⟨3, ![4, 128, 128]⟩
abbrev S512 : Shape := ⟨1, ![512]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S4x128x128 .f32) (main_arg5 : FVec F S512 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S4x128x128 .f32 := Host.absf main_arg4
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S4096x1024 .f32) (main_arg1 : FVec F S4096x512 .f32) (main_arg2 : FVec F S4096x512 .f32) (main_arg3 : FVec F S1024x1024 .f32) (main_arg4 : FVec F S4x128x128 .f32) (main_arg5 : FVec F S512 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Pre_ple_finite.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S4096x256 : S_.BroadcastsInDim S4096x256 (![] : Fin 0 → Fin S4096x256.rank)
  reducesTo_S4096x256_S_d0_1 : S4096x256.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part2 {F : FTy → Type} [FloatOps F] (main_arg7 : FVec F S1024x1024 .f32) (main_arg8 : FVec F S256x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S256x1024 .f32 := Host.absf main_arg8
  let main_cst_14 : FVec F S_ .f32 := constant S_ .f32 0x7F800000#32
  let main_v40 : FVec F S256x1024 .f32 := broadcastInDim S256x1024 ![] bcast_S_S256x1024 main_cst_14
  let main_v41 : IVec S256x1024 1 := cmpf .olt main_v39 main_v40
  let main_c_15 : IVec S_ 1 := constantI S_ 1 1#1
  let main_v42 : IVec S_ 1 := (fun x v => Host.reduce IntOp.andi x v reducesTo_S256x1024_S_d0_1 h_S_) main_v41 main_c_15
  let main_v43 : IVec S_ 1 := andi main_v38 main_v42
  main_v43

def fn_part1 {F : FTy → Type} [FloatOps F] (main_arg4 : FVec F S4096x256 .f32) (main_arg5 : FVec F S4096x1024 .f32) (main_arg6 : FVec F S1x1024 .f32) (main_arg7 : FVec F S1024x1024 .f32) (main_arg8 : FVec F S256x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S4096x256 .f32 := Host.absf main_arg4
  let main_cst_6 : FVec F S_ .f32 := constant S_ .f32 0x7F800000#32
  let main_v20 : FVec F S4096x256 .f32 := broadcastInDim S4096x256 ![] bcast_S_S4096x256 main_cst_6
  let main_v21 : IVec S4096x256 1 := cmpf .olt main_v19 main_v20
  let main_c_7 : IVec S_ 1 := constantI S_ 1 1#1
  let main_v22 : IVec S_ 1 := (fun x v => Host.reduce IntOp.andi x v reducesTo_S4096x256_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_arg8 main_v33

def fn {F : FTy → Type} [FloatOps F] (main_arg0 : FVec F S4096x2816 .f32) (main_arg1 : FVec F S4096x2816 .f32) (main_arg2 : FVec F S4096x1024 .f32) (main_arg3 : FVec F S2816x1024 .f32) (main_arg4 : FVec F S4096x256 .f32) (main_arg5 : FVec F S4096x1024 .f32) (main_arg6 : FVec F S1x1024 .f32) (main_arg7 : FVec F S1024x1024 .f32) (main_arg8 : FVec F S256x1024 .f32) : IVec S_ 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S4096x2816 .f32 := Host.absf main_arg1
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_c_1 : IVec S_ 1 := constantI S_ 1 1#1
  let main_v7 : IVec S_ 1 := (fun x v => Host.reduce IntOp.andi x v reducesTo_S4096x2816_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_arg5 main_arg6 main_arg7 main_arg8 main_v13 main_v16
-- ==== FfnBwd.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S256x1024 : Shape := ⟨2, ![256, 1024]⟩
abbrev S256x2816 : Shape := ⟨2, ![256, 2816]⟩
abbrev S3x256x2816 : Shape := ⟨3, ![3, 256, 2816]⟩
abbrev S2x3 : Shape := ⟨2, ![2, 3]⟩
abbrev S1x1 : Shape := ⟨2, ![1, 1]⟩
abbrev S1x256x2816 : Shape := ⟨3, ![1, 256, 2816]⟩
abbrev S256x256 : Shape := ⟨2, ![256, 256]⟩
abbrev S256 : Shape := ⟨1, ![256]⟩
abbrev S256x1 : Shape := ⟨2, ![256, 1]⟩

abbrev nBuf : Space → Nat
  | .hbm => 38
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .bf16⟩
  | .hbm, ⟨26, _⟩ => ⟨S4096x2816, .bf16⟩
  | .hbm, ⟨27, _⟩ => ⟨S2816x1024, .f32⟩
  | .hbm, ⟨28, _⟩ => ⟨S2816x1024, .bf16⟩
  | .hbm, ⟨29, _⟩ => ⟨S2816x1024, .f32⟩
  | .hbm, ⟨30, _⟩ => ⟨S2816x1024, .bf16⟩
  | .hbm, ⟨31, _⟩ => ⟨S2816x1024, .bf16⟩
  | .hbm, ⟨32, _⟩ => ⟨S4096x2816, .bf16⟩
  | .hbm, ⟨33, _⟩ => ⟨S4096x2816, .bf16⟩
  | .hbm, ⟨34, _⟩ => ⟨S4096x1024, .f32⟩
  | .hbm, ⟨35, _⟩ => ⟨S4096x1024, .bf16⟩
  | .hbm, ⟨36, _⟩ => ⟨S1x1024, .f32⟩
  | .hbm, ⟨37, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S2816x1024, .bf16⟩
  | .local _ .vmem, ⟨6, _⟩ => ⟨S2816x1024, .bf16⟩
  | .local _ .vmem, ⟨7, _⟩ => ⟨S2816x1024, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | .local _ .vmem, ⟨17, _⟩ => ⟨S2816x1024, .f32⟩
  | .local _ .vmem, ⟨18, _⟩ => ⟨S256x2816, .bf16⟩
  | .local _ .vmem, ⟨19, _⟩ => ⟨S3x256x2816, .bf16⟩
  | .local _ .vmem, ⟨20, _⟩ => ⟨S3x256x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev main_v23_5 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_315 : BitVec 32 := 0#32
  c0_i32_315
def k0_mult2 : BitVec 32 :=
  let c256_i32_328 : BitVec 32 := 256#32
  c256_i32_328
def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c16_i32 : BitVec 32 := 16#32
  let v5 : BitVec 1 := Scalar.cmpi .slt v4 c16_i32
  let v6 : BitVec 32 := Scalar.extui v5
  let c0_i32_1 : BitVec 32 := 0#32
  let v7 : BitVec 1 := Scalar.cmpi .ne v6 c0_i32_1
  v7

def k0_mult3 (i : grid0.Coords) : BitVec 32 :=
  let arg0 : BitVec 32 := BitVec.ofNat 32 (i 0).val
  let c3_i32_309 : BitVec 32 := 3#32
  let v508 : BitVec 32 := Scalar.addi arg0 c3_i32_309
  let c1_i32_310 : BitVec 32 := 1#32
  let v509 : BitVec 32 := Scalar.subi v508 c1_i32_310
  let c256_i32_319 : BitVec 32 := 256#32
  let v522 : BitVec 32 := Scalar.muli v509 c256_i32_319
  v522
def k0_off1 (i : grid0.Coords) : Fin 2 → Nat :=
  let c0_i32_320 : BitVec 32 := 0#32
  let arg0 : BitVec 32 := BitVec.ofNat 32 (i 0).val
  let c3_i32_311 : BitVec 32 := 3#32
  let v510 : BitVec 32 := Scalar.addi arg0 c3_i32_311
  let c1_i32_312 : BitVec 32 := 1#32
  let v511 : BitVec 32 := Scalar.subi v510 c1_i32_312
  let c3_i32_313 : BitVec 32 := 3#32
  let c0_i32_314 : BitVec 32 := 0#32
  let v512 : BitVec 1 := Scalar.cmpi .eq c3_i32_313 c0_i32_314
  let c1_i32_315 : BitVec 32 := 1#32
  let v513 : BitVec 32 := Scalar.select v512 c1_i32_315 c3_i32_313
  let v514 : BitVec 32 := Scalar.remsi v511 v513
  let c0_i32_317 : BitVec 32 := 0#32
  let v516 : BitVec 1 := Scalar.cmpi .slt v514 c0_i32_317
  let c0_i32_318 : BitVec 32 := 0#32
  let v517 : BitVec 1 := Scalar.cmpi .slt v513 c0_i32_318
  let v518 : BitVec 1 := Scalar.xori v516 v517
  let c0_i32_316 : BitVec 32 := 0#32
  let v515 : BitVec 1 := Scalar.cmpi .ne v514 c0_i32_316
  let v519 : BitVec 1 := Scalar.andi v518 v515
  let v520 : BitVec 32 := Scalar.addi v514 v513
  let v521 : BitVec 32 := Scalar.select v519 v520 v514
  ![0, v521.toNat]
def k0_off2 (i : grid0.Coords) : Fin 3 → Nat :=
  let arg0 : BitVec 32 := BitVec.ofNat 32 (i 0).val
  let c3_i32_311 : BitVec 32 := 3#32
  let v510 : BitVec 32 := Scalar.addi arg0 c3_i32_311
  let c1_i32_312 : BitVec 32 := 1#32
  let v511 : BitVec 32 := Scalar.subi v510 c1_i32_312
  let c3_i32_313 : BitVec 32 := 3#32
  let c0_i32_314 : BitVec 32 := 0#32
  let v512 : BitVec 1 := Scalar.cmpi .eq c3_i32_313 c0_i32_314
  let c1_i32_315 : BitVec 32 := 1#32
  let v513 : BitVec 32 := Scalar.select v512 c1_i32_315 c3_i32_313
  let v514 : BitVec 32 := Scalar.remsi v511 v513
  let c0_i32_317 : BitVec 32 := 0#32
  let v516 : BitVec 1 := Scalar.cmpi .slt v514 c0_i32_317
  let c0_i32_318 : BitVec 32 := 0#32
  let v517 : BitVec 1 := Scalar.cmpi .slt v513 c0_i32_318
  let v518 : BitVec 1 := Scalar.xori v516 v517
  let c0_i32_316 : BitVec 32 := 0#32
  let v515 : BitVec 1 := Scalar.cmpi .ne v514 c0_i32_316
  let v519 : BitVec 1 := Scalar.andi v518 v515
  let v520 : BitVec 32 := Scalar.addi v514 v513
  let v521 : BitVec 32 := Scalar.select v519 v520 v514
  let c0_i32_321 : BitVec 32 := 0#32
  let c0_i32_322 : BitVec 32 := 0#32
  ![v521.toNat, 0, 0]
def k0_off3 (i : grid0.Coords) : Fin 2 → Nat :=
  let arg0 : BitVec 32 := BitVec.ofNat 32 (i 0).val
  let c3_i32_309 : BitVec 32 := 3#32
  let v508 : BitVec 32 := Scalar.addi arg0 c3_i32_309
  let c1_i32_310 : BitVec 32 := 1#32
  let v509 : BitVec 32 := Scalar.subi v508 c1_i32_310
  let c256_i32_319 : BitVec 32 := 256#32
  let v522 : BitVec 32 := Scalar.muli v509 c256_i32_319
  let v523 : BitVec 32 := v522
  let c0_i32_323 : BitVec 32 := 0#32
  ![v523.toNat, 0]
def k0_off4 (i : grid0.Coords) : Fin 2 → Nat :=
  let c1_i32_324 : BitVec 32 := 1#32
  let arg0 : BitVec 32 := BitVec.ofNat 32 (i 0).val
  let c3_i32_311 : BitVec 32 := 3#32
  let v510 : BitVec 32 := Scalar.addi arg0 c3_i32_311
  let c1_i32_312 : BitVec 32 := 1#32
  let v511 : BitVec 32 := Scalar.subi v510 c1_i32_312
  let c3_i32_313 : BitVec 32 := 3#32
  let c0_i32_314 : BitVec 32 := 0#32
  let v512 : BitVec 1 := Scalar.cmpi .eq c3_i32_313 c0_i32_314
  let c1_i32_315 : BitVec 32 := 1#32
  let v513 : BitVec 32 := Scalar.select v512 c1_i32_315 c3_i32_313
  let v514 : BitVec 32 := Scalar.remsi v511 v513
  let c0_i32_317 : BitVec 32 := 0#32
  let v516 : BitVec 1 := Scalar.cmpi .slt v514 c0_i32_317
  let c0_i32_318 : BitVec 32 := 0#32
  let v517 : BitVec 1 := Scalar.cmpi .slt v513 c0_i32_318
  let v518 : BitVec 1 := Scalar.xori v516 v517
  let c0_i32_316 : BitVec 32 := 0#32
  let v515 : BitVec 1 := Scalar.cmpi .ne v514 c0_i32_316
  let v519 : BitVec 1 := Scalar.andi v518 v515
  let v520 : BitVec 32 := Scalar.addi v514 v513
  let v521 : BitVec 32 := Scalar.select v519 v520 v514
  ![1, v521.toNat]
def k0_mult4 (i : grid0.Coords) : BitVec 32 :=
  let arg0 : BitVec 32 := BitVec.ofNat 32 (i 0).val
  let c256_i32 : BitVec 32 := 256#32
  let v18 : BitVec 32 := Scalar.muli arg0 c256_i32
  v18
def k0_off5 (i : grid0.Coords) : Fin 2 → Nat :=
  let c0_i32_8 : BitVec 32 := 0#32
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  ![0, v17.toNat]
def k0_off6 (i : grid0.Coords) : Fin 3 → Nat :=
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c0_i32_9 : BitVec 32 := 0#32
  let c0_i32_10 : BitVec 32 := 0#32
  ![v17.toNat, 0, 0]
def k0_off7 (i : grid0.Coords) : Fin 2 → Nat :=
  let arg0 : BitVec 32 := BitVec.ofNat 32 (i 0).val
  let c256_i32 : BitVec 32 := 256#32
  let v18 : BitVec 32 := Scalar.muli arg0 c256_i32
  let v19 : BitVec 32 := v18
  let c0_i32_11 : BitVec 32 := 0#32
  ![v19.toNat, 0]
def k0_off8 (i : grid0.Coords) : Fin 2 → Nat :=
  let c1_i32_12 : BitVec 32 := 1#32
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  ![1, v17.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnBwdRefIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S1024x2816, .f32⟩
  | .hbm, ⟨47, _⟩ => ⟨S2816x1024, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S1x1024, .f32⟩
  | .hbm, ⟨85, _⟩ => ⟨S4096x2816, .bf16⟩
  | .hbm, ⟨86, _⟩ => ⟨S4096x2816, .bf16⟩
  | .hbm, ⟨87, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v19_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v19_1 : Ref sig .tc := ⟨.hbm, 40, rfl⟩
abbrev main_v19_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_3 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_4 : Ref sig .tc := ⟨.hbm, 64, rfl⟩
abbrev main_v38 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_6 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩

abbrev nD : Nat := 1
abbrev τ : Topo := Topo.v7x

variable {F : FTy → Type} [FloatOps F]
-- ==== MixBwd.lean ====
abbrev S4096x1024 : Shape := ⟨2, ![4096, 1024]⟩
abbrev S4096x512 : Shape := ⟨2, ![4096, 512]⟩
abbrev S1024x1024 : Shape := ⟨2, ![1024, 1024]⟩
abbrev S4x128x128 : Shape := ⟨3, ![4, 128, 128]⟩
abbrev S512 : Shape := ⟨1, ![512]⟩
abbrev S1x4096x512 : Shape := ⟨3, ![1, 4096, 512]⟩
abbrev S1x4096x4x128 : Shape := ⟨4, ![1, 4096, 4, 128]⟩
abbrev S_ : Shape := ⟨0, ![]⟩
abbrev S4096 : Shape := ⟨1, ![4096]⟩
abbrev S1x4096x1x128 : Shape := ⟨4, ![1, 4096, 1, 128]⟩
abbrev S1x4096x128 : Shape := ⟨3, ![1, 4096, 128]⟩
abbrev S1x2x128 : Shape := ⟨3, ![1, 2, 128]⟩
abbrev S1x4094x128 : Shape := ⟨3, ![1, 4094, 128]⟩
abbrev S1x4096x1 : Shape := ⟨3, ![1, 4096, 1]⟩
abbrev S1x4x128 : Shape := ⟨3, ![1, 4, 128]⟩
abbrev S1x4092x128 : Shape := ⟨3, ![1, 4092, 128]⟩
abbrev S1x8x128 : Shape := ⟨3, ![1, 8, 128]⟩
abbrev S1x4088x128 : Shape := ⟨3, ![1, 4088, 128]⟩
abbrev S1x16x128 : Shape := ⟨3, ![1, 16, 128]⟩
abbrev S1x4080x128 : Shape := ⟨3, ![1, 4080, 128]⟩
abbrev S4x128x1x4096 : Shape := ⟨4, ![4, 128, 1, 4096]⟩
abbrev S1x1x512 : Shape := ⟨3, ![1, 1, 512]⟩
abbrev S1x512 : Shape := ⟨2, ![1, 512]⟩
abbrev S512x1024 : Shape := ⟨2, ![512, 1024]⟩
abbrev S16x1024 : Shape := ⟨2, ![16, 1024]⟩
abbrev S512x512 : Shape := ⟨2, ![512, 512]⟩
abbrev S16x512 : Shape := ⟨2, ![16, 512]⟩
abbrev S528x1024 : Shape := ⟨2, ![528, 1024]⟩
abbrev S528x512 : Shape := ⟨2, ![528, 512]⟩
abbrev S512x1 : Shape := ⟨2, ![512, 1]⟩
abbrev S512x128 : Shape := ⟨2, ![512, 128]⟩
abbrev S528x1 : Shape := ⟨2, ![528, 1]⟩
abbrev S1x128x128 : Shape := ⟨3, ![1, 128, 128]⟩
abbrev S128x128 : Shape := ⟨2, ![128, 128]⟩
abbrev S528x128 : Shape := ⟨2, ![528, 128]⟩
abbrev S1x128 : Shape := ⟨2, ![1, 128]⟩
abbrev S128 : Shape := ⟨1, ![128]⟩

abbrev nBuf : Space → Nat
  | .hbm => 101
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1024x1024, .f32⟩
  | .hbm, ⟨4, _⟩ => ⟨S4x128x128, .f32⟩
  | .hbm, ⟨5, _⟩ => ⟨S512, .f32⟩
  | .hbm, ⟨6, _⟩ => ⟨S1x4096x512, .f32⟩
  | .hbm, ⟨7, _⟩ => ⟨S1x4096x4x128, .f32⟩
  | .hbm, ⟨8, _⟩ => ⟨S_, .f32⟩
  | .hbm, ⟨9, _⟩ => ⟨S_, .f32⟩
  | .hbm, ⟨10, _⟩ => ⟨S1x4096x4x128, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S1x4096x1x128, .f32⟩
  | .hbm, ⟨16, _⟩ => ⟨S1x4096x128, .f32⟩
  | .hbm, ⟨17, _⟩ => ⟨S_, .f32⟩
  | .hbm, ⟨18, _⟩ => ⟨S1x2x128, .f32⟩
  | .hbm, ⟨19, _⟩ => ⟨S1x4094x128, .f32⟩
  | .hbm, ⟨20, _⟩ => ⟨S1x4096x128, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S1x4096x1, .f32⟩
  | .hbm, ⟨25, _⟩ => ⟨S1x4096x128, .f32⟩
  | .hbm, ⟨26, _⟩ => ⟨S1x4096x128, .f32⟩
  | .hbm, ⟨27, _⟩ => ⟨S1x4096x128, .f32⟩
  | .hbm, ⟨28, _⟩ => ⟨S1x4096x1x128, .f32⟩
  | .hbm, ⟨29, _⟩ => ⟨S1x4096x128, .f32⟩
  | .hbm, ⟨30, _⟩ => ⟨S1x4096x128, .f32⟩
  | .hbm, ⟨31, _⟩ => ⟨S1x4096x1x128, .f32⟩
  | .hbm, ⟨32, _⟩ => ⟨S1x4096x128, .f32⟩
  | .hbm, ⟨33, _⟩ => ⟨S_, .f32⟩
  | .hbm, ⟨34, _⟩ => ⟨S1x4x128, .f32⟩
  | .hbm, ⟨35, _⟩ => ⟨S1x4092x128, .f32⟩
  | .hbm, ⟨36, _⟩ => ⟨S1x4096x128, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S1x4096x1, .f32⟩
  | .hbm, ⟨41, _⟩ => ⟨S1x4096x128, .f32⟩
  | .hbm, ⟨42, _⟩ => ⟨S1x4096x128, .f32⟩
  | .hbm, ⟨43, _⟩ => ⟨S1x4096x128, .f32⟩
  | .hbm, ⟨44, _⟩ => ⟨S1x4096x1x128, .f32⟩
  | .hbm, ⟨45, _⟩ => ⟨S1x4096x128, .f32⟩
  | .hbm, ⟨46, _⟩ => ⟨S1x4096x128, .f32⟩
  | .hbm, ⟨47, _⟩ => ⟨S1x4096x1x128, .f32⟩
  | .hbm, ⟨48, _⟩ => ⟨S1x4096x128, .f32⟩
  | .hbm, ⟨49, _⟩ => ⟨S_, .f32⟩
  | .hbm, ⟨50, _⟩ => ⟨S1x8x128, .f32⟩
  | .hbm, ⟨51, _⟩ => ⟨S1x4088x128, .f32⟩
  | .hbm, ⟨52, _⟩ => ⟨S1x4096x128, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S1x4096x1, .f32⟩
  | .hbm, ⟨57, _⟩ => ⟨S1x4096x128, .f32⟩
  | .hbm, ⟨58, _⟩ => ⟨S1x4096x128, .f32⟩
  | .hbm, ⟨59, _⟩ => ⟨S1x4096x128, .f32⟩
  | .hbm, ⟨60, _⟩ => ⟨S1x4096x1x128, .f32⟩
  | .hbm, ⟨61, _⟩ => ⟨S1x4096x128, .f32⟩
  | .hbm, ⟨62, _⟩ => ⟨S1x4096x128, .f32⟩
  | .hbm, ⟨63, _⟩ => ⟨S1x4096x1x128, .f32⟩
  | .hbm, ⟨64, _⟩ => ⟨S1x4096x128, .f32⟩
  | .hbm, ⟨65, _⟩ => ⟨S_, .f32⟩
  | .hbm, ⟨66, _⟩ => ⟨S1x16x128, .f32⟩
  | .hbm, ⟨67, _⟩ => ⟨S1x4080x128, .f32⟩
  | .hbm, ⟨68, _⟩ => ⟨S1x4096x128, .f32⟩
  | .hbm, ⟨69, _⟩ => ⟨S_, .f32⟩
  | .hbm, ⟨70, _⟩ => ⟨S4096, .f32⟩
  | .hbm, ⟨71, _⟩ => ⟨S4096, .f32⟩
  | .hbm, ⟨72, _⟩ => ⟨S1x4096x1, .f32⟩
  | .hbm, ⟨73, _⟩ => ⟨S1x4096x128, .f32⟩
  | .hbm, ⟨74, _⟩ => ⟨S1x4096x128, .f32⟩
  | .hbm, ⟨75, _⟩ => ⟨S1x4096x128, .f32⟩
  | .hbm, ⟨76, _⟩ => ⟨S1x4096x1x128, .f32⟩
  | .hbm, ⟨77, _⟩ => ⟨S1x4096x128, .f32⟩
  | .hbm, ⟨78, _⟩ => ⟨S1x4096x128, .f32⟩
  | .hbm, ⟨79, _⟩ => ⟨S1x4096x1x128, .f32⟩
  | .hbm, ⟨80, _⟩ => ⟨S1x4096x1x128, .f32⟩
  | .hbm, ⟨81, _⟩ => ⟨S1x4096x1x128, .f32⟩
  | .hbm, ⟨82, _⟩ => ⟨S1x4096x1x128, .f32⟩
  | .hbm, ⟨83, _⟩ => ⟨S1x4096x4x128, .f32⟩
  | .hbm, ⟨84, _⟩ => ⟨S4x128x1x4096, .f32⟩
  | .hbm, ⟨85, _⟩ => ⟨S1x4096x4x128, .f32⟩
  | .hbm, ⟨86, _⟩ => ⟨S1x4096x512, .f32⟩
  | .hbm, ⟨87, _⟩ => ⟨S1x1x512, .f32⟩
  | .hbm, ⟨88, _⟩ => ⟨S1x4096x512, .f32⟩
  | .hbm, ⟨89, _⟩ => ⟨S1x4096x512, .f32⟩
  | .hbm, ⟨90, _⟩ => ⟨S4096x512, .f32⟩
  | .hbm, ⟨91, _⟩ => ⟨S4096x1024, .bf16⟩
  | .hbm, ⟨92, _⟩ => ⟨S4096x512, .bf16⟩
  | .hbm, ⟨93, _⟩ => ⟨S4096x512, .bf16⟩
  | .hbm, ⟨94, _⟩ => ⟨S1024x1024, .bf16⟩
  | .hbm, ⟨95, _⟩ => ⟨S1x512, .f32⟩
  | .hbm, ⟨96, _⟩ => ⟨S4096x512, .f32⟩
  | .hbm, ⟨97, _⟩ => ⟨S4096x512, .bf16⟩
  | .hbm, ⟨98, _⟩ => ⟨S4x128x128, .f32⟩
  | .hbm, ⟨99, _⟩ => ⟨S1x512, .f32⟩
  | .hbm, ⟨100, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x512, .f32⟩
  | .local _ .vmem, ⟨5, _⟩ => ⟨S512x512, .f32⟩
  | .local _ .vmem, ⟨6, _⟩ => ⟨S16x512, .f32⟩
  | .local _ .vmem, ⟨7, _⟩ => ⟨S16x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1024x1024, .bf16⟩
  | .local _ .vmem, ⟨13, _⟩ => ⟨S4x128x128, .f32⟩
  | .local _ .vmem, ⟨14, _⟩ => ⟨S1x512, .f32⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | .local _ .vmem, ⟨19, _⟩ => ⟨S4x128x128, .f32⟩
  | .local _ .vmem, ⟨20, _⟩ => ⟨S1x512, .f32⟩
  | .local _ .vmem, ⟨21, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_call0_cst : Ref sig .tc := ⟨.hbm, 8, rfl⟩
abbrev main_call0_call0_v0 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79_0 : Ref sig .tc := ⟨.hbm, 96, rfl⟩
abbrev main_v79_1 : Ref sig .tc := ⟨.hbm, 97, rfl⟩
abbrev main_v79_2 : Ref sig .tc := ⟨.hbm, 98, rfl⟩
abbrev main_v79_3 : Ref sig .tc := ⟨.hbm, 99, rfl⟩
abbrev main_v79_4 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MixBwdRefIdeal.lean ====
abbrev S4096x1024 : Shape := ⟨2, ![4096, 1024]⟩
abbrev S4096x512 : Shape := ⟨2, ![4096, 512]⟩
abbrev S1024x1024 : Shape := ⟨2, ![1024, 1024]⟩
abbrev S4x128x128 : Shape := ⟨3, ![4, 128, 128]⟩
abbrev S512 : Shape := ⟨1, ![512]⟩
abbrev S1x4096x512 : Shape := ⟨3, ![1, 4096, 512]⟩
abbrev S1x4096x4x128 : Shape := ⟨4, ![1, 4096, 4, 128]⟩
abbrev S_ : Shape := ⟨0, ![]⟩
abbrev S4096 : Shape := ⟨1, ![4096]⟩
abbrev S1x4096x1x128 : Shape := ⟨4, ![1, 4096, 1, 128]⟩
abbrev S1x4096x128 : Shape := ⟨3, ![1, 4096, 128]⟩
abbrev S1x2x128 : Shape := ⟨3, ![1, 2, 128]⟩
abbrev S1x4094x128 : Shape := ⟨3, ![1, 4094, 128]⟩
abbrev S1x4096x1 : Shape := ⟨3, ![1, 4096, 1]⟩
abbrev S1x4x128 : Shape := ⟨3, ![1, 4, 128]⟩
abbrev S1x4092x128 : Shape := ⟨3, ![1, 4092, 128]⟩
abbrev S1x8x128 : Shape := ⟨3, ![1, 8, 128]⟩
abbrev S1x4088x128 : Shape := ⟨3, ![1, 4088, 128]⟩
abbrev S1x16x128 : Shape := ⟨3, ![1, 16, 128]⟩
abbrev S1x4080x128 : Shape := ⟨3, ![1, 4080, 128]⟩
abbrev S4x128x1x4096 : Shape := ⟨4, ![4, 128, 1, 4096]⟩
abbrev S1x1x512 : Shape := ⟨3, ![1, 1, 512]⟩
abbrev S1x512 : Shape := ⟨2, ![1, 512]⟩
abbrev S4x1x4096x128 : Shape := ⟨4, ![4, 1, 4096, 128]⟩

abbrev nBuf : Space → Nat
  | .hbm => 204
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S1024x1024, .f32⟩
  | 4 => ⟨S4x128x128, .f32⟩
  | 5 => ⟨S512, .f32⟩
  | 6 => ⟨S1x4096x512, .f32⟩
  | 7 => ⟨S1x4096x4x128, .f32⟩
  | 8 => ⟨S_, .f32⟩
  | 9 => ⟨S_, .f32⟩
  | 10 => ⟨S1x4096x4x128, .f32⟩
  | 11 => ⟨S4096, .f32⟩
  | 12 => ⟨S_, .f32⟩
  | 13 => ⟨S4096, .f32⟩
  | 14 => ⟨S4096, .f32⟩
  | 15 => ⟨S1x4096x1x128, .f32⟩
  | 16 => ⟨S1x4096x128, .f32⟩
  | 17 => ⟨S_, .f32⟩
  | 18 => ⟨S1x2x128, .f32⟩
  | 19 => ⟨S1x4094x128, .f32⟩
  | 20 => ⟨S1x4096x128, .f32⟩
  | 21 => ⟨S_, .f32⟩
  | 22 => ⟨S1x2x128, .f32⟩
  | 23 => ⟨S_, .f32⟩
  | 24 => ⟨S4096, .f32⟩
  | 25 => ⟨S4096, .f32⟩
  | 26 => ⟨S1x4096x1, .f32⟩
  | 27 => ⟨S1x4096x128, .f32⟩
  | 28 => ⟨S1x4096x128, .f32⟩
  | 29 => ⟨S1x4096x128, .f32⟩
  | 30 => ⟨S1x4096x1x128, .f32⟩
  | 31 => ⟨S1x4096x128, .f32⟩
  | 32 => ⟨S1x4096x128, .f32⟩
  | 33 => ⟨S1x4096x1x128, .f32⟩
  | 34 => ⟨S1x4096x128, .f32⟩
  | 35 => ⟨S_, .f32⟩
  | 36 => ⟨S1x4x128, .f32⟩
  | 37 => ⟨S1x4092x128, .f32⟩
  | 38 => ⟨S1x4096x128, .f32⟩
  | 39 => ⟨S_, .f32⟩
  | 40 => ⟨S1x4x128, .f32⟩
  | 41 => ⟨S_, .f32⟩
  | 42 => ⟨S4096, .f32⟩
  | 43 => ⟨S4096, .f32⟩
  | 44 => ⟨S1x4096x1, .f32⟩
  | 45 => ⟨S1x4096x128, .f32⟩
  | 46 => ⟨S1x4096x128, .f32⟩
  | 47 => ⟨S1x4096x128, .f32⟩
  | 48 => ⟨S1x4096x1x128, .f32⟩
  | 49 => ⟨S1x4096x128, .f32⟩
  | 50 => ⟨S1x4096x128, .f32⟩
  | 51 => ⟨S1x4096x1x128, .f32⟩
  | 52 => ⟨S1x4096x128, .f32⟩
  | 53 => ⟨S_, .f32⟩
  | 54 => ⟨S1x8x128, .f32⟩
  | 55 => ⟨S1x4088x128, .f32⟩
  | 56 => ⟨S1x4096x128, .f32⟩
  | 57 => ⟨S_, .f32⟩
  | 58 => ⟨S1x8x128, .f32⟩
  | 59 => ⟨S_, .f32⟩
  | 60 => ⟨S4096, .f32⟩
  | 61 => ⟨S4096, .f32⟩
  | 62 => ⟨S1x4096x1, .f32⟩
  | 63 => ⟨S1x4096x128, .f32⟩
  | 64 => ⟨S1x4096x128, .f32⟩
  | 65 => ⟨S1x4096x128, .f32⟩
  | 66 => ⟨S1x4096x1x128, .f32⟩
  | 67 => ⟨S1x4096x128, .f32⟩
  | 68 => ⟨S1x4096x128, .f32⟩
  | 69 => ⟨S1x4096x1x128, .f32⟩
  | 70 => ⟨S1x4096x128, .f32⟩
  | 71 => ⟨S_, .f32⟩
  | 72 => ⟨S1x16x128, .f32⟩
  | 73 => ⟨S1x4080x128, .f32⟩
  | 74 => ⟨S1x4096x128, .f32⟩
  | 75 => ⟨S_, .f32⟩
  | 76 => ⟨S1x16x128, .f32⟩
  | 77 => ⟨S_, .f32⟩
  | 78 => ⟨S4096, .f32⟩
  | 79 => ⟨S4096, .f32⟩
  | 80 => ⟨S1x4096x1, .f32⟩
  | 81 => ⟨S1x4096x128, .f32⟩
  | 82 => ⟨S1x4096x128, .f32⟩
  | 83 => ⟨S1x4096x128, .f32⟩
  | 84 => ⟨S1x4096x1x128, .f32⟩
  | 85 => ⟨S1x4096x128, .f32⟩
  | 86 => ⟨S1x4096x128, .f32⟩
  | 87 => ⟨S1x4096x1x128, .f32⟩
  | 88 => ⟨S1x4096x1x128, .f32⟩
  | 89 => ⟨S1x4096x1x128, .f32⟩
  | 90 => ⟨S1x4096x1x128, .f32⟩
  | 91 => ⟨S1x4096x4x128, .f32⟩
  | 92 => ⟨S4x128x1x4096, .f32⟩
  | 93 => ⟨S1x4096x4x128, .f32⟩
  | 94 => ⟨S1x4096x512, .f32⟩
  | 95 => ⟨S1x1x512, .f32⟩
  | 96 => ⟨S1x4096x512, .f32⟩
  | 97 => ⟨S1x4096x512, .f32⟩
  | 98 => ⟨S4096x512, .f32⟩
  | 99 => ⟨S4096x1024, .f32⟩
  | 100 => ⟨S4096x1024, .f32⟩
  | 101 => ⟨S1024x1024, .f32⟩
  | 102 => ⟨S1024x1024, .f32⟩
  | 103 => ⟨S4096x1024, .f32⟩
  | 104 => ⟨S4096x512, .f32⟩
  | 105 => ⟨S4096x512, .f32⟩
  | 106 => ⟨S1x4096x512, .f32⟩
  | 107 => ⟨S1x4096x512, .f32⟩
  | 108 => ⟨S_, .f32⟩
  | 109 => ⟨S1x512, .f32⟩
  | 110 => ⟨S1x1x512, .f32⟩
  | 111 => ⟨S1x4096x512, .f32⟩
  | 112 => ⟨S1x4096x512, .f32⟩
  | 113 => ⟨S_, .f32⟩
  | 114 => ⟨S512, .f32⟩
  | 115 => ⟨S1x4096x4x128, .f32⟩
  | 116 => ⟨S4x128x1x4096, .f32⟩
  | 117 => ⟨S4x1x4096x128, .f32⟩
  | 118 => ⟨S1x4096x4x128, .f32⟩
  | 119 => ⟨S4x128x128, .f32⟩
  | 120 => ⟨S4x128x128, .f32⟩
  | 121 => ⟨S1x4096x1x128, .f32⟩
  | 122 => ⟨S1x4096x128, .f32⟩
  | 123 => ⟨S1x4096x1x128, .f32⟩
  | 124 => ⟨S1x4096x128, .f32⟩
  | 125 => ⟨S1x4096x1x128, .f32⟩
  | 126 => ⟨S1x4096x128, .f32⟩
  | 127 => ⟨S1x4096x1x128, .f32⟩
  | _ => ⟨S4096x1024, .f32⟩

abbrev hbmTy0_1 (i : Nat) : BufTy := match i % 128 with
  | 0 => ⟨S1x4096x128, .f32⟩
  | 1 => ⟨S1x4096x128, .f32⟩
  | 2 => ⟨S1x4096x1x128, .f32⟩
  | 3 => ⟨S_, .f32⟩
  | 4 => ⟨S1x4096x4x128, .f32⟩
  | 5 => ⟨S1x4096x128, .f32⟩
  | 6 => ⟨S1x4096x128, .f32⟩
  | 7 => ⟨S1x4096x128, .f32⟩
  | 8 => ⟨S1x16x128, .f32⟩
  | 9 => ⟨S1x4080x128, .f32⟩
  | 10 => ⟨S_, .f32⟩
  | 11 => ⟨S1x4096x128, .f32⟩
  | 12 => ⟨S1x4096x128, .f32⟩
  | 13 => ⟨S1x4096x1x128, .f32⟩
  | 14 => ⟨S_, .f32⟩
  | 15 => ⟨S1x4096x4x128, .f32⟩
  | 16 => ⟨S1x4096x128, .f32⟩
  | 17 => ⟨S1x4096x1x128, .f32⟩
  | 18 => ⟨S_, .f32⟩
  | 19 => ⟨S1x4096x4x128, .f32⟩
  | 20 => ⟨S1x4096x4x128, .f32⟩
  | 21 => ⟨S1x4096x128, .f32⟩
  | 22 => ⟨S1x4096x128, .f32⟩
  | 23 => ⟨S1x4096x128, .f32⟩
  | 24 => ⟨S1x8x128, .f32⟩
  | 25 => ⟨S1x4088x128, .f32⟩
  | 26 => ⟨S_, .f32⟩
  | 27 => ⟨S1x4096x128, .f32⟩
  | 28 => ⟨S1x4096x128, .f32⟩
  | 29 => ⟨S1x4096x1x128, .f32⟩
  | 30 => ⟨S_, .f32⟩
  | 31 => ⟨S1x4096x4x128, .f32⟩
  | 32 => ⟨S1x4096x4x128, .f32⟩
  | 33 => ⟨S1x4096x128, .f32⟩
  | 34 => ⟨S1x4096x1x128, .f32⟩
  | 35 => ⟨S_, .f32⟩
  | 36 => ⟨S1x4096x4x128, .f32⟩
  | 37 => ⟨S1x4096x4x128, .f32⟩
  | 38 => ⟨S1x4096x128, .f32⟩
  | 39 => ⟨S1x4096x128, .f32⟩
  | 40 => ⟨S1x4096x128, .f32⟩
  | 41 => ⟨S1x4x128, .f32⟩
  | 42 => ⟨S1x4092x128, .f32⟩
  | 43 => ⟨S_, .f32⟩
  | 44 => ⟨S1x4096x128, .f32⟩
  | 45 => ⟨S1x4096x128, .f32⟩
  | 46 => ⟨S1x4096x1x128, .f32⟩
  | 47 => ⟨S_, .f32⟩
  | 48 => ⟨S1x4096x4x128, .f32⟩
  | 49 => ⟨S1x4096x4x128, .f32⟩
  | 50 => ⟨S1x4096x128, .f32⟩
  | 51 => ⟨S1x4096x1x128, .f32⟩
  | 52 => ⟨S_, .f32⟩
  | 53 => ⟨S1x4096x4x128, .f32⟩
  | 54 => ⟨S1x4096x4x128, .f32⟩
  | 55 => ⟨S1x4096x128, .f32⟩
  | 56 => ⟨S1x4096x128, .f32⟩
  | 57 => ⟨S1x4096x128, .f32⟩
  | 58 => ⟨S1x2x128, .f32⟩
  | 59 => ⟨S1x4094x128, .f32⟩
  | 60 => ⟨S_, .f32⟩
  | 61 => ⟨S1x4096x128, .f32⟩
  | 62 => ⟨S1x4096x128, .f32⟩
  | 63 => ⟨S1x4096x1x128, .f32⟩
  | 64 => ⟨S_, .f32⟩
  | 65 => ⟨S1x4096x4x128, .f32⟩
  | 66 => ⟨S1x4096x4x128, .f32⟩
  | 67 => ⟨S_, .f32⟩
  | 68 => ⟨S_, .f32⟩
  | 69 => ⟨S1x4096x4x128, .f32⟩
  | 70 => ⟨S1x4096x4x128, .f32⟩
  | 71 => ⟨S1x4096x512, .f32⟩
  | 72 => ⟨S_, .f32⟩
  | 73 => ⟨S4096x512, .f32⟩
  | 74 => ⟨S4096x512, .bf16⟩
  | 75 => ⟨S1x512, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_call0_cst : Ref sig .tc := ⟨.hbm, 8, rfl⟩
abbrev main_call0_call0_v0 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_12 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_13 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_cst_14 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_cst_15 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_16 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_cst_17 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_cst_18 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_cst_19 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_cst_20 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_cst_21 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_cst_22 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_cst_23 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_cst_24 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_cst_25 : Ref sig .tc := ⟨.hbm, 192, rfl⟩
abbrev main_v158 : Ref sig .tc := ⟨.hbm, 193, rfl⟩
abbrev main_v159 : Ref sig .tc := ⟨.hbm, 194, rfl⟩
abbrev main_call1_call0_cst : Ref sig .tc := ⟨.hbm, 195, rfl⟩
abbrev main_call1_call0_v0 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_cst_26 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩

abbrev nD : Nat := 1
abbrev τ : Topo := Topo.v7x

variable {F : FTy → Type} [FloatOps F]
-- ==== InProjBwd.lean ====
abbrev S4096x512 : Shape := ⟨2, ![4096, 512]⟩
abbrev S4096x128 : Shape := ⟨2, ![4096, 128]⟩
abbrev S4096x1024 : Shape := ⟨2, ![4096, 1024]⟩
abbrev S1x1024 : Shape := ⟨2, ![1, 1024]⟩
abbrev S1x64 : Shape := ⟨2, ![1, 64]⟩
abbrev S1024x1280 : Shape := ⟨2, ![1024, 1280]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1x2x64 : Shape := ⟨4, ![1, 1, 2, 64]⟩
abbrev S1x128 : Shape := ⟨2, ![1, 128]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x1280 : Shape := ⟨2, ![4096, 1280]⟩
abbrev S4096x640 : Shape := ⟨2, ![4096, 640]⟩
abbrev S1280x1024 : Shape := ⟨2, ![1280, 1024]⟩
abbrev S512 : Shape := ⟨1, ![512]⟩
abbrev S512x1 : Shape := ⟨2, ![512, 1]⟩
abbrev S512x512 : Shape := ⟨2, ![512, 512]⟩
abbrev S128 : Shape := ⟨1, ![128]⟩
abbrev S128x1 : Shape := ⟨2, ![128, 1]⟩
abbrev S128x128 : Shape := ⟨2, ![128, 128]⟩
abbrev S512x128 : Shape := ⟨2, ![512, 128]⟩
abbrev S512x640 : Shape := ⟨2, ![512, 640]⟩
abbrev S512x1024 : Shape := ⟨2, ![512, 1024]⟩
abbrev S512x1280 : Shape := ⟨2, ![512, 1280]⟩

abbrev nBuf : Space → Nat
  | .hbm => 71
  | .vmem => 29
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1x64, .f32⟩
  | .hbm, ⟨8, _⟩ => ⟨S1x64, .f32⟩
  | .hbm, ⟨9, _⟩ => ⟨S1024x1280, .f32⟩
  | .hbm, ⟨10, _⟩ => ⟨S1x1x1x64, .f32⟩
  | .hbm, ⟨11, _⟩ => ⟨S1x1x8x64, .f32⟩
  | .hbm, ⟨12, _⟩ => ⟨S1x512, .f32⟩
  | .hbm, ⟨13, _⟩ => ⟨S1x1x1x64, .f32⟩
  | .hbm, ⟨14, _⟩ => ⟨S1x1x2x64, .f32⟩
  | .hbm, ⟨15, _⟩ => ⟨S1x128, .f32⟩
  | .hbm, ⟨16, _⟩ => ⟨S1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1280, .f32⟩
  | .hbm, ⟨34, _⟩ => ⟨S4096x640, .f32⟩
  | .hbm, ⟨35, _⟩ => ⟨S4096x512, .bf16⟩
  | .hbm, ⟨36, _⟩ => ⟨S1280x1024, .f32⟩
  | .hbm, ⟨37, _⟩ => ⟨S1280x1024, .bf16⟩
  | .hbm, ⟨38, _⟩ => ⟨S512, .i32⟩
  | .hbm, ⟨39, _⟩ => ⟨S_, .i32⟩
  | .hbm, ⟨40, _⟩ => ⟨S512, .i32⟩
  | .hbm, ⟨41, _⟩ => ⟨S512, .i32⟩
  | .hbm, ⟨42, _⟩ => ⟨S512x1, .i32⟩
  | .hbm, ⟨43, _⟩ => ⟨S1x512, .i32⟩
  | .hbm, ⟨44, _⟩ => ⟨S512x512, .i32⟩
  | .hbm, ⟨45, _⟩ => ⟨S512x512, .i32⟩
  | .hbm, ⟨46, _⟩ => ⟨S512x512, .i1⟩
  | .hbm, ⟨47, _⟩ => ⟨S512x512, .f32⟩
  | .hbm, ⟨48, _⟩ => ⟨S_, .f32⟩
  | .hbm, ⟨49, _⟩ => ⟨S512x512, .f32⟩
  | .hbm, ⟨50, _⟩ => ⟨S512x512, .f32⟩
  | .hbm, ⟨51, _⟩ => ⟨S512x512, .bf16⟩
  | .hbm, ⟨52, _⟩ => ⟨S128, .i32⟩
  | .hbm, ⟨53, _⟩ => ⟨S_, .i32⟩
  | .hbm, ⟨54, _⟩ => ⟨S128, .i32⟩
  | .hbm, ⟨55, _⟩ => ⟨S128, .i32⟩
  | .hbm, ⟨56, _⟩ => ⟨S128x1, .i32⟩
  | .hbm, ⟨57, _⟩ => ⟨S1x128, .i32⟩
  | .hbm, ⟨58, _⟩ => ⟨S128x128, .i32⟩
  | .hbm, ⟨59, _⟩ => ⟨S128x128, .i32⟩
  | .hbm, ⟨60, _⟩ => ⟨S128x128, .i1⟩
  | .hbm, ⟨61, _⟩ => ⟨S128x128, .f32⟩
  | .hbm, ⟨62, _⟩ => ⟨S_, .f32⟩
  | .hbm, ⟨63, _⟩ => ⟨S128x128, .f32⟩
  | .hbm, ⟨64, _⟩ => ⟨S128x128, .f32⟩
  | .hbm, ⟨65, _⟩ => ⟨S128x128, .bf16⟩
  | .hbm, ⟨66, _⟩ => ⟨S4096x1024, .f32⟩
  | .hbm, ⟨67, _⟩ => ⟨S1280x1024, .f32⟩
  | .hbm, ⟨68, _⟩ => ⟨S1x1024, .f32⟩
  | .hbm, ⟨69, _⟩ => ⟨S1x128, .f32⟩
  | .hbm, ⟨70, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x512, .bf16⟩
  | .local _ .vmem, ⟨7, _⟩ => ⟨S512x512, .bf16⟩
  | .local _ .vmem, ⟨8, _⟩ => ⟨S512x640, .f32⟩
  | .local _ .vmem, ⟨9, _⟩ => ⟨S512x640, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x512, .f32⟩
  | .local _ .vmem, ⟨16, _⟩ => ⟨S1x128, .f32⟩
  | .local _ .vmem, ⟨17, _⟩ => ⟨S1280x1024, .bf16⟩
  | .local _ .vmem, ⟨18, _⟩ => ⟨S512x512, .bf16⟩
  | .local _ .vmem, ⟨19, _⟩ => ⟨S128x128, .bf16⟩
  | .local _ .vmem, ⟨20, _⟩ => ⟨S512x1024, .f32⟩
  | .local _ .vmem, ⟨21, _⟩ => ⟨S512x1024, .f32⟩
  | .local _ .vmem, ⟨22, _⟩ => ⟨S1280x1024, .f32⟩
  | .local _ .vmem, ⟨23, _⟩ => ⟨S1x1024, .f32⟩
  | .local _ .vmem, ⟨24, _⟩ => ⟨S1x128, .f32⟩
  | .local _ .vmem, ⟨25, _⟩ => ⟨S1x128, .f32⟩
  | .local _ .vmem, ⟨26, _⟩ => ⟨S512x1280, .bf16⟩
  | .local _ .vmem, ⟨27, _⟩ => ⟨S1x512, .f32⟩
  | .local _ .vmem, ⟨28, _⟩ => ⟨S1x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_3 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49_0 : Ref sig .tc := ⟨.hbm, 66, rfl⟩
abbrev main_v49_1 : Ref sig .tc := ⟨.hbm, 67, rfl⟩
abbrev main_v49_2 : Ref sig .tc := ⟨.hbm, 68, rfl⟩
abbrev main_v49_3 : Ref sig .tc := ⟨.hbm, 69, rfl⟩
abbrev main_v49_4 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24
abbrev cc0_sem17_0 : DmaSem sig := 25

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v158 : BitVec 1 := Scalar.cmpi .eq arg0 c7_i32
  let v159 : BitVec 32 := Scalar.extui v158
  let c0_i32_74 : BitVec 32 := 0#32
  let v160 : BitVec 1 := Scalar.cmpi .ne v159 c0_i32_74
  v160

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1280x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1280x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== InProjBwdRefIdeal.lean ====
abbrev S4096x512 : Shape := ⟨2, ![4096, 512]⟩
abbrev S4096x128 : Shape := ⟨2, ![4096, 128]⟩
abbrev S4096x1024 : Shape := ⟨2, ![4096, 1024]⟩
abbrev S1x1024 : Shape := ⟨2, ![1, 1024]⟩
abbrev S1x64 : Shape := ⟨2, ![1, 64]⟩
abbrev S1024x1280 : Shape := ⟨2, ![1024, 1280]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x1280 : Shape := ⟨2, ![4096, 1280]⟩
abbrev S4096x8x64 : Shape := ⟨3, ![4096, 8, 64]⟩
abbrev S64 : Shape := ⟨1, ![64]⟩
abbrev S4096x8 : Shape := ⟨2, ![4096, 8]⟩
abbrev S4096x8x1 : Shape := ⟨3, ![4096, 8, 1]⟩
abbrev S1x1x64 : Shape := ⟨3, ![1, 1, 64]⟩
abbrev S4096x2x64 : Shape := ⟨3, ![4096, 2, 64]⟩
abbrev S4096x2 : Shape := ⟨2, ![4096, 2]⟩
abbrev S4096x2x1 : Shape := ⟨3, ![4096, 2, 1]⟩
abbrev S1280x1024 : Shape := ⟨2, ![1280, 1024]⟩
abbrev S1x1x1x64 : Shape := ⟨4, ![1, 1, 1, 64]⟩
abbrev S1x1x2x64 : Shape := ⟨4, ![1, 1, 2, 64]⟩
abbrev S1x128 : Shape := ⟨2, ![1, 128]⟩

abbrev nBuf : Space → Nat
  | .hbm => 186
  | .vmem => 0
  | .smem => 0
  | _ => 0

abbrev hbmTy0_0 (i : Nat) : BufTy := match i % 128 with
  | 0 => ⟨S4096x512, .f32⟩
  | 1 => ⟨S4096x128, .f32⟩
  | 2 => ⟨S4096x128, .f32⟩
  | 3 => ⟨S4096x512, .f32⟩
  | 4 => ⟨S4096x1024, .f32⟩
  | 5 => ⟨S4096x1024, .f32⟩
  | 6 => ⟨S1x1024, .f32⟩
  | 7 => ⟨S1x64, .f32⟩
  | 8 => ⟨S1x64, .f32⟩
  | 9 => ⟨S1024x1280, .f32⟩
  | 10 => ⟨S1024, .f32⟩
  | 11 => ⟨S4096x1024, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x1024, .f32⟩
  | 27 => ⟨S4096x1024, .f32⟩
  | 28 => ⟨S1x1024, .f32⟩
  | 29 => ⟨S4096x1024, .f32⟩
  | 30 => ⟨S4096x1024, .f32⟩
  | 31 => ⟨S4096x1280, .f32⟩
  | 32 => ⟨S4096x512, .f32⟩
  | 33 => ⟨S4096x8x64, .f32⟩
  | 34 => ⟨S64, .f32⟩
  | 35 => ⟨S4096x8x64, .f32⟩
  | 36 => ⟨S_, .f32⟩
  | 37 => ⟨S4096x8, .f32⟩
  | 38 => ⟨S4096x8x1, .f32⟩
  | 39 => ⟨S_, .f32⟩
  | 40 => ⟨S4096x8x1, .f32⟩
  | 41 => ⟨S4096x8x1, .f32⟩
  | 42 => ⟨S_, .f32⟩
  | 43 => ⟨S4096x8x1, .f32⟩
  | 44 => ⟨S4096x8x1, .f32⟩
  | 45 => ⟨S4096x8x1, .f32⟩
  | 46 => ⟨S4096x8x1, .f32⟩
  | 47 => ⟨S_, .f32⟩
  | 48 => ⟨S4096x8x1, .f32⟩
  | 49 => ⟨S4096x8x1, .f32⟩
  | 50 => ⟨S4096x8x64, .f32⟩
  | 51 => ⟨S4096x8x64, .f32⟩
  | 52 => ⟨S1x1x64, .f32⟩
  | 53 => ⟨S4096x8x64, .f32⟩
  | 54 => ⟨S4096x8x64, .f32⟩
  | 55 => ⟨S4096x512, .f32⟩
  | 56 => ⟨S4096x128, .f32⟩
  | 57 => ⟨S4096x2x64, .f32⟩
  | 58 => ⟨S64, .f32⟩
  | 59 => ⟨S4096x2x64, .f32⟩
  | 60 => ⟨S_, .f32⟩
  | 61 => ⟨S4096x2, .f32⟩
  | 62 => ⟨S4096x2x1, .f32⟩
  | 63 => ⟨S_, .f32⟩
  | 64 => ⟨S4096x2x1, .f32⟩
  | 65 => ⟨S4096x2x1, .f32⟩
  | 66 => ⟨S_, .f32⟩
  | 67 => ⟨S4096x2x1, .f32⟩
  | 68 => ⟨S4096x2x1, .f32⟩
  | 69 => ⟨S4096x2x1, .f32⟩
  | 70 => ⟨S4096x2x1, .f32⟩
  | 71 => ⟨S_, .f32⟩
  | 72 => ⟨S4096x2x1, .f32⟩
  | 73 => ⟨S4096x2x1, .f32⟩
  | 74 => ⟨S4096x2x64, .f32⟩
  | 75 => ⟨S4096x2x64, .f32⟩
  | 76 => ⟨S1x1x64, .f32⟩
  | 77 => ⟨S4096x2x64, .f32⟩
  | 78 => ⟨S4096x2x64, .f32⟩
  | 79 => ⟨S4096x128, .f32⟩
  | 80 => ⟨S4096x128, .f32⟩
  | 81 => ⟨S4096x512, .f32⟩
  | 82 => ⟨S_, .f32⟩
  | 83 => ⟨S4096x1280, .f32⟩
  | 84 => ⟨S_, .f32⟩
  | 85 => ⟨S4096x1280, .f32⟩
  | 86 => ⟨S4096x1280, .f32⟩
  | 87 => ⟨S4096x2x64, .f32⟩
  | 88 => ⟨S4096x2x64, .f32⟩
  | 89 => ⟨S_, .f32⟩
  | 90 => ⟨S64, .f32⟩
  | 91 => ⟨S1x1x64, .f32⟩
  | 92 => ⟨S4096x2x64, .f32⟩
  | 93 => ⟨S4096x2x64, .f32⟩
  | 94 => ⟨S_, .f32⟩
  | 95 => ⟨S64, .f32⟩
  | 96 => ⟨S4096x2x64, .f32⟩
  | 97 => ⟨S_, .f32⟩
  | 98 => ⟨S4096x2, .f32⟩
  | 99 => ⟨S4096x2x1, .f32⟩
  | 100 => ⟨S4096x2x64, .f32⟩
  | 101 => ⟨S4096x2x64, .f32⟩
  | 102 => ⟨S4096x2x1, .f32⟩
  | 103 => ⟨S_, .f32⟩
  | 104 => ⟨S4096x2x1, .f32⟩
  | 105 => ⟨S4096x2x1, .f32⟩
  | 106 => ⟨S_, .f32⟩
  | 107 => ⟨S4096x2, .f32⟩
  | 108 => ⟨S4096x2x64, .f32⟩
  | 109 => ⟨S4096x2x64, .f32⟩
  | 110 => ⟨S4096x2x64, .f32⟩
  | 111 => ⟨S4096x2x64, .f32⟩
  | 112 => ⟨S4096x2x64, .f32⟩
  | 113 => ⟨S1x64, .f32⟩
  | 114 => ⟨S4096x128, .f32⟩
  | 115 => ⟨S_, .f32⟩
  | 116 => ⟨S4096x1280, .f32⟩
  | 117 => ⟨S4096x1280, .f32⟩
  | 118 => ⟨S4096x8x64, .f32⟩
  | 119 => ⟨S4096x8x64, .f32⟩
  | 120 => ⟨S_, .f32⟩
  | 121 => ⟨S64, .f32⟩
  | 122 => ⟨S1x1x64, .f32⟩
  | 123 => ⟨S4096x8x64, .f32⟩
  | 124 => ⟨S4096x8x64, .f32⟩
  | 125 => ⟨S_, .f32⟩
  | 126 => ⟨S64, .f32⟩
  | 127 => ⟨S4096x8x64, .f32⟩
  | _ => ⟨S4096x512, .f32⟩

abbrev hbmTy0_1 (i : Nat) : BufTy := match i % 128 with
  | 0 => ⟨S_, .f32⟩
  | 1 => ⟨S4096x8, .f32⟩
  | 2 => ⟨S4096x8x1, .f32⟩
  | 3 => ⟨S4096x8x64, .f32⟩
  | 4 => ⟨S4096x8x64, .f32⟩
  | 5 => ⟨S4096x8x1, .f32⟩
  | 6 => ⟨S_, .f32⟩
  | 7 => ⟨S4096x8x1, .f32⟩
  | 8 => ⟨S4096x8x1, .f32⟩
  | 9 => ⟨S_, .f32⟩
  | 10 => ⟨S4096x8, .f32⟩
  | 11 => ⟨S4096x8x64, .f32⟩
  | 12 => ⟨S4096x8x64, .f32⟩
  | 13 => ⟨S4096x8x64, .f32⟩
  | 14 => ⟨S4096x8x64, .f32⟩
  | 15 => ⟨S4096x8x64, .f32⟩
  | 16 => ⟨S1x64, .f32⟩
  | 17 => ⟨S4096x512, .f32⟩
  | 18 => ⟨S_, .f32⟩
  | 19 => ⟨S4096x1280, .f32⟩
  | 20 => ⟨S4096x1280, .f32⟩
  | 21 => ⟨S1280x1024, .f32⟩
  | 22 => ⟨S1024x1280, .f32⟩
  | 23 => ⟨S4096x1024, .f32⟩
  | 24 => ⟨S4096x1024, .f32⟩
  | 25 => ⟨S_, .f32⟩
  | 26 => ⟨S1024, .f32⟩
  | 27 => ⟨S1x1024, .f32⟩
  | 28 => ⟨S4096x1024, .f32⟩
  | 29 => ⟨S4096x1024, .f32⟩
  | 30 => ⟨S_, .f32⟩
  | 31 => ⟨S1024, .f32⟩
  | 32 => ⟨S4096x1024, .f32⟩
  | 33 => ⟨S_, .f32⟩
  | 34 => ⟨S4096, .f32⟩
  | 35 => ⟨S4096x1, .f32⟩
  | 36 => ⟨S4096x1024, .f32⟩
  | 37 => ⟨S4096x1024, .f32⟩
  | 38 => ⟨S4096x1024, .f32⟩
  | 39 => ⟨S4096x1, .f32⟩
  | 40 => ⟨S_, .f32⟩
  | 41 => ⟨S4096x1, .f32⟩
  | 42 => ⟨S4096x1, .f32⟩
  | 43 => ⟨S_, .f32⟩
  | 44 => ⟨S4096, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S1x1024, .f32⟩
  | 51 => ⟨S1280x1024, .f32⟩
  | 52 => ⟨S1x1x1x64, .f32⟩
  | 53 => ⟨S1x1x2x64, .f32⟩
  | 54 => ⟨S1x128, .f32⟩
  | 55 => ⟨S1x1x1x64, .f32⟩
  | 56 => ⟨S1x1x2x64, .f32⟩
  | 57 => ⟨S1x128, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_v70 : Ref sig .tc := ⟨.hbm, 96, rfl⟩
abbrev main_cst_15 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_16 : Ref sig .tc := ⟨.hbm, 103, rfl⟩
abbrev main_v76 : Ref sig .tc := ⟨.hbm, 104, rfl⟩
abbrev main_v77 : Ref sig .tc := ⟨.hbm, 105, rfl⟩
abbrev main_cst_17 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_18 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_19 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_20 : Ref sig .tc := ⟨.hbm, 125, rfl⟩
abbrev main_v94 : Ref sig .tc := ⟨.hbm, 126, rfl⟩
abbrev main_v95 : Ref sig .tc := ⟨.hbm, 127, rfl⟩
abbrev main_cst_21 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_22 : Ref sig .tc := ⟨.hbm, 134, rfl⟩
abbrev main_v101 : Ref sig .tc := ⟨.hbm, 135, rfl⟩
abbrev main_v102 : Ref sig .tc := ⟨.hbm, 136, rfl⟩
abbrev main_cst_23 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_24 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_25 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_26 : Ref sig .tc := ⟨.hbm, 158, rfl⟩
abbrev main_v121 : Ref sig .tc := ⟨.hbm, 159, rfl⟩
abbrev main_v122 : Ref sig .tc := ⟨.hbm, 160, rfl⟩
abbrev main_cst_27 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_cst_28 : Ref sig .tc := ⟨.hbm, 168, rfl⟩
abbrev main_v129 : Ref sig .tc := ⟨.hbm, 169, rfl⟩
abbrev main_v130 : Ref sig .tc := ⟨.hbm, 170, rfl⟩
abbrev main_cst_29 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩

abbrev nD : Nat := 1
abbrev τ : Topo := Topo.v7x

variable {F : FTy → Type} [FloatOps F]
-- ==== PleBwd.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S1x1024 : Shape := ⟨2, ![1, 1024]⟩
abbrev S1024x1024 : Shape := ⟨2, ![1024, 1024]⟩
abbrev S256x1024 : Shape := ⟨2, ![256, 1024]⟩
abbrev S256x8x128 : Shape := ⟨3, ![256, 8, 128]⟩
abbrev S8x256x128 : Shape := ⟨3, ![8, 256, 128]⟩
abbrev S1x128 : Shape := ⟨2, ![1, 128]⟩
abbrev S512x1024 : Shape := ⟨2, ![512, 1024]⟩
abbrev S512x256 : Shape := ⟨2, ![512, 256]⟩
abbrev S3x512x2816 : Shape := ⟨3, ![3, 512, 2816]⟩
abbrev S2x3 : Shape := ⟨2, ![2, 3]⟩
abbrev S1x1 : Shape := ⟨2, ![1, 1]⟩
abbrev S_ : Shape := ⟨0, ![]⟩
abbrev S1x512x2816 : Shape := ⟨3, ![1, 512, 2816]⟩
abbrev S512x2816 : Shape := ⟨2, ![512, 2816]⟩
abbrev S512 : Shape := ⟨1, ![512]⟩
abbrev S512x1 : Shape := ⟨2, ![512, 1]⟩
abbrev S1x256x128 : Shape := ⟨3, ![1, 256, 128]⟩
abbrev S256x128 : Shape := ⟨2, ![256, 128]⟩
abbrev S1024 : Shape := ⟨1, ![1024]⟩
abbrev S1 : Shape := ⟨1, ![1]⟩

abbrev nBuf : Space → Nat
  | .hbm => 21
  | .vmem => 18
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x1024, .f32⟩
  | .hbm, ⟨3, _⟩ => ⟨S2816x1024, .f32⟩
  | .hbm, ⟨4, _⟩ => ⟨S4096x256, .f32⟩
  | .hbm, ⟨5, _⟩ => ⟨S4096x1024, .f32⟩
  | .hbm, ⟨6, _⟩ => ⟨S1x1024, .f32⟩
  | .hbm, ⟨7, _⟩ => ⟨S1024x1024, .f32⟩
  | .hbm, ⟨8, _⟩ => ⟨S256x1024, .f32⟩
  | .hbm, ⟨9, _⟩ => ⟨S256x8x128, .f32⟩
  | .hbm, ⟨10, _⟩ => ⟨S8x256x128, .f32⟩
  | .hbm, ⟨11, _⟩ => ⟨S8x256x128, .bf16⟩
  | .hbm, ⟨12, _⟩ => ⟨S4096x2816, .bf16⟩
  | .hbm, ⟨13, _⟩ => ⟨S4096x2816, .bf16⟩
  | .hbm, ⟨14, _⟩ => ⟨S2816x1024, .bf16⟩
  | .hbm, ⟨15, _⟩ => ⟨S1024x1024, .bf16⟩
  | .hbm, ⟨16, _⟩ => ⟨S1x128, .f32⟩
  | .hbm, ⟨17, _⟩ => ⟨S4096x1024, .f32⟩
  | .hbm, ⟨18, _⟩ => ⟨S1024x1024, .f32⟩
  | .hbm, ⟨19, _⟩ => ⟨S8x256x128, .f32⟩
  | .hbm, ⟨20, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x256, .f32⟩
  | .local _ .vmem, ⟨4, _⟩ => ⟨S512x256, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1024x1024, .bf16⟩
  | .local _ .vmem, ⟨9, _⟩ => ⟨S8x256x128, .bf16⟩
  | .local _ .vmem, ⟨10, _⟩ => ⟨S1x128, .f32⟩
  | .local _ .vmem, ⟨11, _⟩ => ⟨S512x1024, .f32⟩
  | .local _ .vmem, ⟨12, _⟩ => ⟨S512x1024, .f32⟩
  | .local _ .vmem, ⟨13, _⟩ => ⟨S1024x1024, .f32⟩
  | .local _ .vmem, ⟨14, _⟩ => ⟨S8x256x128, .f32⟩
  | .local _ .vmem, ⟨15, _⟩ => ⟨S1x1024, .f32⟩
  | .local _ .vmem, ⟨16, _⟩ => ⟨S3x512x2816, .bf16⟩
  | .local _ .vmem, ⟨17, _⟩ => ⟨S3x512x2816, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_247 : BitVec 32 := 0#32
  c0_i32_247
def k0_mult2 : BitVec 32 :=
  let c512_i32_260 : BitVec 32 := 512#32
  c512_i32_260
def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c8_i32 : BitVec 32 := 8#32
  let v5 : BitVec 1 := Scalar.cmpi .slt v4 c8_i32
  let v6 : BitVec 32 := Scalar.extui v5
  let c0_i32_1 : BitVec 32 := 0#32
  let v7 : BitVec 1 := Scalar.cmpi .ne v6 c0_i32_1
  v7

def k0_mult3 (i : grid0.Coords) : BitVec 32 :=
  let arg0 : BitVec 32 := BitVec.ofNat 32 (i 0).val
  let c3_i32_234 : BitVec 32 := 3#32
  let v364 : BitVec 32 := Scalar.addi arg0 c3_i32_234
  let c1_i32_235 : BitVec 32 := 1#32
  let v365 : BitVec 32 := Scalar.subi v364 c1_i32_235
  let c512_i32_244 : BitVec 32 := 512#32
  let v378 : BitVec 32 := Scalar.muli v365 c512_i32_244
  v378
def k0_off1 (i : grid0.Coords) : Fin 2 → Nat :=
  let c0_i32_245 : BitVec 32 := 0#32
  let arg0 : BitVec 32 := BitVec.ofNat 32 (i 0).val
  let c3_i32_236 : BitVec 32 := 3#32
  let v366 : BitVec 32 := Scalar.addi arg0 c3_i32_236
  let c1_i32_237 : BitVec 32 := 1#32
  let v367 : BitVec 32 := Scalar.subi v366 c1_i32_237
  let c3_i32_238 : BitVec 32 := 3#32
  let c0_i32_239 : BitVec 32 := 0#32
  let v368 : BitVec 1 := Scalar.cmpi .eq c3_i32_238 c0_i32_239
  let c1_i32_240 : BitVec 32 := 1#32
  let v369 : BitVec 32 := Scalar.select v368 c1_i32_240 c3_i32_238
  let v370 : BitVec 32 := Scalar.remsi v367 v369
  let c0_i32_242 : BitVec 32 := 0#32
  let v372 : BitVec 1 := Scalar.cmpi .slt v370 c0_i32_242
  let c0_i32_243 : BitVec 32 := 0#32
  let v373 : BitVec 1 := Scalar.cmpi .slt v369 c0_i32_243
  let v374 : BitVec 1 := Scalar.xori v372 v373
  let c0_i32_241 : BitVec 32 := 0#32
  let v371 : BitVec 1 := Scalar.cmpi .ne v370 c0_i32_241
  let v375 : BitVec 1 := Scalar.andi v374 v371
  let v376 : BitVec 32 := Scalar.addi v370 v369
  let v377 : BitVec 32 := Scalar.select v375 v376 v370
  ![0, v377.toNat]
def k0_off2 (i : grid0.Coords) : Fin 3 → Nat :=
  let arg0 : BitVec 32 := BitVec.ofNat 32 (i 0).val
  let c3_i32_236 : BitVec 32 := 3#32
  let v366 : BitVec 32 := Scalar.addi arg0 c3_i32_236
  let c1_i32_237 : BitVec 32 := 1#32
  let v367 : BitVec 32 := Scalar.subi v366 c1_i32_237
  let c3_i32_238 : BitVec 32 := 3#32
  let c0_i32_239 : BitVec 32 := 0#32
  let v368 : BitVec 1 := Scalar.cmpi .eq c3_i32_238 c0_i32_239
  let c1_i32_240 : BitVec 32 := 1#32
  let v369 : BitVec 32 := Scalar.select v368 c1_i32_240 c3_i32_238
  let v370 : BitVec 32 := Scalar.remsi v367 v369
  let c0_i32_242 : BitVec 32 := 0#32
  let v372 : BitVec 1 := Scalar.cmpi .slt v370 c0_i32_242
  let c0_i32_243 : BitVec 32 := 0#32
  let v373 : BitVec 1 := Scalar.cmpi .slt v369 c0_i32_243
  let v374 : BitVec 1 := Scalar.xori v372 v373
  let c0_i32_241 : BitVec 32 := 0#32
  let v371 : BitVec 1 := Scalar.cmpi .ne v370 c0_i32_241
  let v375 : BitVec 1 := Scalar.andi v374 v371
  let v376 : BitVec 32 := Scalar.addi v370 v369
  let v377 : BitVec 32 := Scalar.select v375 v376 v370
  let c0_i32_246 : BitVec 32 := 0#32
  let c0_i32_247 : BitVec 32 := 0#32
  ![v377.toNat, 0, 0]
def k0_off3 (i : grid0.Coords) : Fin 2 → Nat :=
  let arg0 : BitVec 32 := BitVec.ofNat 32 (i 0).val
  let c3_i32_234 : BitVec 32 := 3#32
  let v364 : BitVec 32 := Scalar.addi arg0 c3_i32_234
  let c1_i32_235 : BitVec 32 := 1#32
  let v365 : BitVec 32 := Scalar.subi v364 c1_i32_235
  let c512_i32_244 : BitVec 32 := 512#32
  let v378 : BitVec 32 := Scalar.muli v365 c512_i32_244
  let v379 : BitVec 32 := v378
  let c0_i32_248 : BitVec 32 := 0#32
  ![v379.toNat, 0]
def k0_off4 (i : grid0.Coords) : Fin 2 → Nat :=
  let c1_i32_249 : BitVec 32 := 1#32
  let arg0 : BitVec 32 := BitVec.ofNat 32 (i 0).val
  let c3_i32_236 : BitVec 32 := 3#32
  let v366 : BitVec 32 := Scalar.addi arg0 c3_i32_236
  let c1_i32_237 : BitVec 32 := 1#32
  let v367 : BitVec 32 := Scalar.subi v366 c1_i32_237
  let c3_i32_238 : BitVec 32 := 3#32
  let c0_i32_239 : BitVec 32 := 0#32
  let v368 : BitVec 1 := Scalar.cmpi .eq c3_i32_238 c0_i32_239
  let c1_i32_240 : BitVec 32 := 1#32
  let v369 : BitVec 32 := Scalar.select v368 c1_i32_240 c3_i32_238
  let v370 : BitVec 32 := Scalar.remsi v367 v369
  let c0_i32_242 : BitVec 32 := 0#32
  let v372 : BitVec 1 := Scalar.cmpi .slt v370 c0_i32_242
  let c0_i32_243 : BitVec 32 := 0#32
  let v373 : BitVec 1 := Scalar.cmpi .slt v369 c0_i32_243
  let v374 : BitVec 1 := Scalar.xori v372 v373
  let c0_i32_241 : BitVec 32 := 0#32
  let v371 : BitVec 1 := Scalar.cmpi .ne v370 c0_i32_241
  let v375 : BitVec 1 := Scalar.andi v374 v371
  let v376 : BitVec 32 := Scalar.addi v370 v369
  let v377 : BitVec 32 := Scalar.select v375 v376 v370
  ![1, v377.toNat]
def k0_mult4 (i : grid0.Coords) : BitVec 32 :=
  let arg0 : BitVec 32 := BitVec.ofNat 32 (i 0).val
  let c512_i32 : BitVec 32 := 512#32
  let v18 : BitVec 32 := Scalar.muli arg0 c512_i32
  v18
def k0_off5 (i : grid0.Coords) : Fin 2 → Nat :=
  let c0_i32_8 : BitVec 32 := 0#32
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  ![0, v17.toNat]
def k0_off6 (i : grid0.Coords) : Fin 3 → Nat :=
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c0_i32_9 : BitVec 32 := 0#32
  let c0_i32_10 : BitVec 32 := 0#32
  ![v17.toNat, 0, 0]
def k0_off7 (i : grid0.Coords) : Fin 2 → Nat :=
  let arg0 : BitVec 32 := BitVec.ofNat 32 (i 0).val
  let c512_i32 : BitVec 32 := 512#32
  let v18 : BitVec 32 := Scalar.muli arg0 c512_i32
  let v19 : BitVec 32 := v18
  let c0_i32_11 : BitVec 32 := 0#32
  ![v19.toNat, 0]
def k0_off8 (i : grid0.Coords) : Fin 2 → Nat :=
  let c1_i32_12 : BitVec 32 := 1#32
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  ![1, v17.toNat]
def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== PleBwdRefIdeal.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S1024 : Shape := ⟨1, ![1024]⟩
abbrev S4096 : Shape := ⟨1, ![4096]⟩
abbrev S4096x1 : Shape := ⟨2, ![4096, 1]⟩
abbrev S1024x256 : Shape := ⟨2, ![1024, 256]⟩
abbrev S256x8x128 : Shape := ⟨3, ![256, 8, 128]⟩
abbrev S8x256x128 : Shape := ⟨3, ![8, 256, 128]⟩
abbrev S1x128 : Shape := ⟨2, ![1, 128]⟩

abbrev nBuf : Space → Nat
  | .hbm => 119
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x1024, .f32⟩
  | .hbm, ⟨3, _⟩ => ⟨S2816x1024, .f32⟩
  | .hbm, ⟨4, _⟩ => ⟨S4096x256, .f32⟩
  | .hbm, ⟨5, _⟩ => ⟨S4096x1024, .f32⟩
  | .hbm, ⟨6, _⟩ => ⟨S1x1024, .f32⟩
  | .hbm, ⟨7, _⟩ => ⟨S1024x1024, .f32⟩
  | .hbm, ⟨8, _⟩ => ⟨S256x1024, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x1024, .f32⟩
  | .hbm, ⟨20, _⟩ => ⟨S4096x1024, .f32⟩
  | .hbm, ⟨21, _⟩ => ⟨S1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S4096, .f32⟩
  | .hbm, ⟨76, _⟩ => ⟨S_, .f32⟩
  | .hbm, ⟨77, _⟩ => ⟨S4096, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S1024x256, .f32⟩
  | .hbm, ⟨84, _⟩ => ⟨S256x1024, .f32⟩
  | .hbm, ⟨85, _⟩ => ⟨S4096x1024, .f32⟩
  | .hbm, ⟨86, _⟩ => ⟨S1024x1024, .f32⟩
  | .hbm, ⟨87, _⟩ => ⟨S1024x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S1024, .f32⟩
  | .hbm, ⟨92, _⟩ => ⟨S1x1024, .f32⟩
  | .hbm, ⟨93, _⟩ => ⟨S4096x1024, .f32⟩
  | .hbm, ⟨94, _⟩ => ⟨S4096x1024, .f32⟩
  | .hbm, ⟨95, _⟩ => ⟨S_, .f32⟩
  | .hbm, ⟨96, _⟩ => ⟨S1024, .f32⟩
  | .hbm, ⟨97, _⟩ => ⟨S4096x1024, .f32⟩
  | .hbm, ⟨98, _⟩ => ⟨S_, .f32⟩
  | .hbm, ⟨99, _⟩ => ⟨S4096, .f32⟩
  | .hbm, ⟨100, _⟩ => ⟨S4096x1, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1, .f32⟩
  | .hbm, ⟨105, _⟩ => ⟨S_, .f32⟩
  | .hbm, ⟨106, _⟩ => ⟨S4096x1, .f32⟩
  | .hbm, ⟨107, _⟩ => ⟨S4096x1, .f32⟩
  | .hbm, ⟨108, _⟩ => ⟨S_, .f32⟩
  | .hbm, ⟨109, _⟩ => ⟨S4096, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S4096x1024, .f32⟩
  | .hbm, ⟨114, _⟩ => ⟨S4096x1024, .f32⟩
  | .hbm, ⟨115, _⟩ => ⟨S1x1024, .f32⟩
  | .hbm, ⟨116, _⟩ => ⟨S256x8x128, .f32⟩
  | .hbm, ⟨117, _⟩ => ⟨S8x256x128, .f32⟩
  | .hbm, ⟨118, _⟩ => ⟨S1x128, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_cst_8 : Ref sig .tc := ⟨.hbm, 65, rfl⟩
abbrev main_v39 : Ref sig .tc := ⟨.hbm, 66, rfl⟩
abbrev main_v40 : Ref sig .tc := ⟨.hbm, 67, rfl⟩
abbrev main_cst_9 : Ref sig .tc := ⟨.hbm, 68, rfl⟩
abbrev main_v41 : Ref sig .tc := ⟨.hbm, 69, rfl⟩
abbrev main_cst_10 : Ref sig .tc := ⟨.hbm, 70, rfl⟩
abbrev main_v42 : Ref sig .tc := ⟨.hbm, 71, rfl⟩
abbrev main_cst_11 : Ref sig .tc := ⟨.hbm, 72, rfl⟩
abbrev main_cst_12 : Ref sig .tc := ⟨.hbm, 73, rfl⟩
abbrev main_v43 : Ref sig .tc := ⟨.hbm, 74, rfl⟩
abbrev main_v44 : Ref sig .tc := ⟨.hbm, 75, rfl⟩
abbrev main_cst_13 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_14 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_15 : Ref sig .tc := ⟨.hbm, 95, rfl⟩
abbrev main_v62 : Ref sig .tc := ⟨.hbm, 96, rfl⟩
abbrev main_v63 : Ref sig .tc := ⟨.hbm, 97, rfl⟩
abbrev main_cst_16 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_17 : Ref sig .tc := ⟨.hbm, 105, rfl⟩
abbrev main_v70 : Ref sig .tc := ⟨.hbm, 106, rfl⟩
abbrev main_v71 : Ref sig .tc := ⟨.hbm, 107, rfl⟩
abbrev main_cst_18 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩

abbrev nD : Nat := 1
abbrev τ : Topo := Topo.v7x

variable {F : FTy → Type} [FloatOps F]
-- ==== BiasBwd.lean ====
abbrev S2x512x256 : Shape := ⟨3, ![2, 512, 256]⟩
abbrev S8x128 : Shape := ⟨2, ![8, 128]⟩
abbrev S128x256 : Shape := ⟨2, ![128, 256]⟩
abbrev S1x128x256 : Shape := ⟨3, ![1, 128, 256]⟩
abbrev S256 : Shape := ⟨1, ![256]⟩
abbrev S1x256 : Shape := ⟨2, ![1, 256]⟩
abbrev S1 : Shape := ⟨1, ![1]⟩
abbrev S1x1 : Shape := ⟨2, ![1, 1]⟩

abbrev nBuf : Space → Nat
  | .hbm => 2
  | .vmem => 2
  | .smem => 0
  | _ => 0

abbrev bufTy : (tb : Table) → Fin (tcTables nBuf tb) → BufTy
  | .hbm, ⟨0, _⟩ => ⟨S2x512x256, .f32⟩
  | .hbm, ⟨1, _⟩ => ⟨S8x128, .f32⟩
  | .local _ .vmem, ⟨0, _⟩ => ⟨S2x512x256, .f32⟩
  | .local _ .vmem, ⟨1, _⟩ => ⟨S8x128, .f32⟩
  | _, _ => ⟨S2x512x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== BiasBwdRefIdeal.lean ====
abbrev S2x512x256 : Shape := ⟨3, ![2, 512, 256]⟩
abbrev S128 : Shape := ⟨1, ![128]⟩
abbrev S8x128x256 : Shape := ⟨3, ![8, 128, 256]⟩
abbrev S1x128x256 : Shape := ⟨3, ![1, 128, 256]⟩
abbrev S_ : Shape := ⟨0, ![]⟩
abbrev S32x8 : Shape := ⟨2, ![32, 8]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x8 : Shape := ⟨3, ![128, 256, 8]⟩
abbrev S8x32 : Shape := ⟨2, ![8, 32]⟩
abbrev S8x128 : Shape := ⟨2, ![8, 128]⟩

abbrev nBuf : Space → Nat
  | .hbm => 77
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S128, .i32⟩
  | .hbm, ⟨2, _⟩ => ⟨S8x128x256, .f32⟩
  | .hbm, ⟨3, _⟩ => ⟨S1x128x256, .f32⟩
  | .hbm, ⟨4, _⟩ => ⟨S1x128x256, .f32⟩
  | .hbm, ⟨5, _⟩ => ⟨S1x128x256, .f32⟩
  | .hbm, ⟨6, _⟩ => ⟨S1x128x256, .f32⟩
  | .hbm, ⟨7, _⟩ => ⟨S1x128x256, .f32⟩
  | .hbm, ⟨8, _⟩ => ⟨S1x128x256, .f32⟩
  | .hbm, ⟨9, _⟩ => ⟨S1x128x256, .f32⟩
  | .hbm, ⟨10, _⟩ => ⟨S1x128x256, .f32⟩
  | .hbm, ⟨11, _⟩ => ⟨S8x128x256, .f32⟩
  | .hbm, ⟨12, _⟩ => ⟨S_, .f32⟩
  | .hbm, ⟨13, _⟩ => ⟨S32x8, .f32⟩
  | .hbm, ⟨14, _⟩ => ⟨S128, .i32⟩
  | .hbm, ⟨15, _⟩ => ⟨S128x1, .i32⟩
  | .hbm, ⟨16, _⟩ => ⟨S_, .i32⟩
  | .hbm, ⟨17, _⟩ => ⟨S128x1, .i32⟩
  | .hbm, ⟨18, _⟩ => ⟨S128x1, .i32⟩
  | .hbm, ⟨19, _⟩ => ⟨S256, .i32⟩
  | .hbm, ⟨20, _⟩ => ⟨S1x256, .i32⟩
  | .hbm, ⟨21, _⟩ => ⟨S128x256, .i32⟩
  | .hbm, ⟨22, _⟩ => ⟨S128x256, .i32⟩
  | .hbm, ⟨23, _⟩ => ⟨S128x256, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S128x256, .i32⟩
  | .hbm, ⟨28, _⟩ => ⟨S128x256, .i32⟩
  | .hbm, ⟨29, _⟩ => ⟨S_, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i1⟩
  | .hbm, ⟨35, _⟩ => ⟨S_, .i32⟩
  | .hbm, ⟨36, _⟩ => ⟨S128x256, .i32⟩
  | .hbm, ⟨37, _⟩ => ⟨S128x256, .i32⟩
  | .hbm, ⟨38, _⟩ => ⟨S128x256, .i32⟩
  | .hbm, ⟨39, _⟩ => ⟨S128x256x1, .i32⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S128x256, .i1⟩
  | .hbm, ⟨48, _⟩ => ⟨S1x128x256, .i1⟩
  | .hbm, ⟨49, _⟩ => ⟨S_, .i32⟩
  | .hbm, ⟨50, _⟩ => ⟨S128x256, .i32⟩
  | .hbm, ⟨51, _⟩ => ⟨S128x256, .i1⟩
  | .hbm, ⟨52, _⟩ => ⟨S_, .i32⟩
  | .hbm, ⟨53, _⟩ => ⟨S128x256, .i32⟩
  | .hbm, ⟨54, _⟩ => ⟨S128x256, .i32⟩
  | .hbm, ⟨55, _⟩ => ⟨S128x256, .i32⟩
  | .hbm, ⟨56, _⟩ => ⟨S128x256x1, .i32⟩
  | .hbm, ⟨57, _⟩ => ⟨S128x256x8, .f32⟩
  | .hbm, ⟨58, _⟩ => ⟨S8x128x256, .f32⟩
  | .hbm, ⟨59, _⟩ => ⟨S_, .f32⟩
  | .hbm, ⟨60, _⟩ => ⟨S_, .f32⟩
  | .hbm, ⟨61, _⟩ => ⟨S8x128x256, .i1⟩
  | .hbm, ⟨62, _⟩ => ⟨S8x128x256, .f32⟩
  | .hbm, ⟨63, _⟩ => ⟨S8x128x256, .f32⟩
  | .hbm, ⟨64, _⟩ => ⟨S_, .f32⟩
  | .hbm, ⟨65, _⟩ => ⟨S8x128x256, .f32⟩
  | .hbm, ⟨66, _⟩ => ⟨S_, .f32⟩
  | .hbm, ⟨67, _⟩ => ⟨S8x128x256, .f32⟩
  | .hbm, ⟨68, _⟩ => ⟨S8x128x256, .f32⟩
  | .hbm, ⟨69, _⟩ => ⟨S128x256x8, .f32⟩
  | .hbm, ⟨70, _⟩ => ⟨S_, .f32⟩
  | .hbm, ⟨71, _⟩ => ⟨S32x8, .f32⟩
  | .hbm, ⟨72, _⟩ => ⟨S32x8, .f32⟩
  | .hbm, ⟨73, _⟩ => ⟨S8x32, .f32⟩
  | .hbm, ⟨74, _⟩ => ⟨S_, .i32⟩
  | .hbm, ⟨75, _⟩ => ⟨S_, .f32⟩
  | .hbm, ⟨76, _⟩ => ⟨S8x128, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c_1 : Ref sig .tc := ⟨.hbm, 24, rfl⟩
abbrev main_c_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_call1_v0 : Ref sig .tc := ⟨.hbm, 60, rfl⟩
abbrev main_v42_1 : Ref sig .tc := ⟨.hbm, 61, rfl⟩
abbrev main_call1_v2 : Ref sig .tc := ⟨.hbm, 62, rfl⟩
abbrev main_v42_0 : Ref sig .tc := ⟨.hbm, 63, rfl⟩
abbrev main_call1_cst : Ref sig .tc := ⟨.hbm, 64, rfl⟩
abbrev main_v42_2 : Ref sig .tc := ⟨.hbm, 65, rfl⟩
abbrev main_call2_cst : Ref sig .tc := ⟨.hbm, 66, rfl⟩
abbrev main_call2_v0 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_11 : Ref sig .tc := ⟨.hbm, 74, rfl⟩
abbrev main_call3_v0 : Ref sig .tc := ⟨.hbm, 75, rfl⟩
abbrev main_v48 : Ref sig .tc := ⟨.hbm, 76, rfl⟩

abbrev nD : Nat := 1
abbrev τ : Topo := Topo.v7x

variable {F : FTy → Type} [FloatOps F]
-- ==== InFwd.lean ====
abbrev S4096x1024 : Shape := ⟨2, ![4096, 1024]⟩
abbrev S1x1024 : Shape := ⟨2, ![1, 1024]⟩
abbrev S1x64 : Shape := ⟨2, ![1, 64]⟩
abbrev S1024x1280 : Shape := ⟨2, ![1024, 1280]⟩
abbrev S1280x1024 : Shape := ⟨2, ![1280, 1024]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1x2x64 : Shape := ⟨4, ![1, 1, 2, 64]⟩
abbrev S1x128 : Shape := ⟨2, ![1, 128]⟩
abbrev S512 : Shape := ⟨1, ![512]⟩
abbrev S_ : Shape := ⟨0, ![]⟩
abbrev S512x1 : Shape := ⟨2, ![512, 1]⟩
abbrev S512x512 : Shape := ⟨2, ![512, 512]⟩
abbrev S128 : Shape := ⟨1, ![128]⟩
abbrev S128x1 : Shape := ⟨2, ![128, 1]⟩
abbrev S128x128 : Shape := ⟨2, ![128, 128]⟩
abbrev S4096x640 : Shape := ⟨2, ![4096, 640]⟩
abbrev S4096x512 : Shape := ⟨2, ![4096, 512]⟩
abbrev S4096x128 : Shape := ⟨2, ![4096, 128]⟩
abbrev S512x1024 : Shape := ⟨2, ![512, 1024]⟩
abbrev S512x640 : Shape := ⟨2, ![512, 640]⟩
abbrev S512x128 : Shape := ⟨2, ![512, 128]⟩
abbrev S512x1280 : Shape := ⟨2, ![512, 1280]⟩

abbrev nBuf : Space → Nat
  | .hbm => 46
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x64, .f32⟩
  | .hbm, ⟨3, _⟩ => ⟨S1x64, .f32⟩
  | .hbm, ⟨4, _⟩ => ⟨S1024x1280, .f32⟩
  | .hbm, ⟨5, _⟩ => ⟨S1280x1024, .f32⟩
  | .hbm, ⟨6, _⟩ => ⟨S1280x1024, .bf16⟩
  | .hbm, ⟨7, _⟩ => ⟨S1x1x1x64, .f32⟩
  | .hbm, ⟨8, _⟩ => ⟨S1x1x8x64, .f32⟩
  | .hbm, ⟨9, _⟩ => ⟨S1x512, .f32⟩
  | .hbm, ⟨10, _⟩ => ⟨S1x1x1x64, .f32⟩
  | .hbm, ⟨11, _⟩ => ⟨S1x1x2x64, .f32⟩
  | .hbm, ⟨12, _⟩ => ⟨S1x128, .f32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512x1, .i32⟩
  | .hbm, ⟨18, _⟩ => ⟨S1x512, .i32⟩
  | .hbm, ⟨19, _⟩ => ⟨S512x512, .i32⟩
  | .hbm, ⟨20, _⟩ => ⟨S512x512, .i32⟩
  | .hbm, ⟨21, _⟩ => ⟨S512x512, .i1⟩
  | .hbm, ⟨22, _⟩ => ⟨S512x512, .f32⟩
  | .hbm, ⟨23, _⟩ => ⟨S_, .f32⟩
  | .hbm, ⟨24, _⟩ => ⟨S512x512, .f32⟩
  | .hbm, ⟨25, _⟩ => ⟨S512x512, .f32⟩
  | .hbm, ⟨26, _⟩ => ⟨S512x512, .bf16⟩
  | .hbm, ⟨27, _⟩ => ⟨S128, .i32⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S128x1, .i32⟩
  | .hbm, ⟨32, _⟩ => ⟨S1x128, .i32⟩
  | .hbm, ⟨33, _⟩ => ⟨S128x128, .i32⟩
  | .hbm, ⟨34, _⟩ => ⟨S128x128, .i32⟩
  | .hbm, ⟨35, _⟩ => ⟨S128x128, .i1⟩
  | .hbm, ⟨36, _⟩ => ⟨S128x128, .f32⟩
  | .hbm, ⟨37, _⟩ => ⟨S_, .f32⟩
  | .hbm, ⟨38, _⟩ => ⟨S128x128, .f32⟩
  | .hbm, ⟨39, _⟩ => ⟨S128x128, .f32⟩
  | .hbm, ⟨40, _⟩ => ⟨S128x128, .bf16⟩
  | .hbm, ⟨41, _⟩ => ⟨S4096x640, .f32⟩
  | .hbm, ⟨42, _⟩ => ⟨S4096x512, .bf16⟩
  | .hbm, ⟨43, _⟩ => ⟨S4096x128, .bf16⟩
  | .hbm, ⟨44, _⟩ => ⟨S4096x128, .bf16⟩
  | .hbm, ⟨45, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1280x1024, .bf16⟩
  | .local _ .vmem, ⟨4, _⟩ => ⟨S1x512, .f32⟩
  | .local _ .vmem, ⟨5, _⟩ => ⟨S1x128, .f32⟩
  | .local _ .vmem, ⟨6, _⟩ => ⟨S512x512, .bf16⟩
  | .local _ .vmem, ⟨7, _⟩ => ⟨S128x128, .bf16⟩
  | .local _ .vmem, ⟨8, _⟩ => ⟨S512x640, .f32⟩
  | .local _ .vmem, ⟨9, _⟩ => ⟨S512x640, .f32⟩
  | .local _ .vmem, ⟨10, _⟩ => ⟨S512x512, .bf16⟩
  | .local _ .vmem, ⟨11, _⟩ => ⟨S512x512, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x512, .f32⟩
  | .local _ .vmem, ⟨17, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32_0 : Ref sig .tc := ⟨.hbm, 41, rfl⟩
abbrev main_v32_1 : Ref sig .tc := ⟨.hbm, 42, rfl⟩
abbrev main_v32_2 : Ref sig .tc := ⟨.hbm, 43, rfl⟩
abbrev main_v32_3 : Ref sig .tc := ⟨.hbm, 44, rfl⟩
abbrev main_v32_4 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InFwdRefIdeal.lean ====
abbrev S4096x1024 : Shape := ⟨2, ![4096, 1024]⟩
abbrev S1x1024 : Shape := ⟨2, ![1, 1024]⟩
abbrev S1x64 : Shape := ⟨2, ![1, 64]⟩
abbrev S1024x1280 : Shape := ⟨2, ![1024, 1280]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x1280 : Shape := ⟨2, ![4096, 1280]⟩
abbrev S4096x512 : Shape := ⟨2, ![4096, 512]⟩
abbrev S4096x8x64 : Shape := ⟨3, ![4096, 8, 64]⟩
abbrev S64 : Shape := ⟨1, ![64]⟩
abbrev S4096x8 : Shape := ⟨2, ![4096, 8]⟩
abbrev S4096x8x1 : Shape := ⟨3, ![4096, 8, 1]⟩
abbrev S1x1x64 : Shape := ⟨3, ![1, 1, 64]⟩
abbrev S4096x128 : Shape := ⟨2, ![4096, 128]⟩
abbrev S4096x2x64 : Shape := ⟨3, ![4096, 2, 64]⟩
abbrev S4096x2 : Shape := ⟨2, ![4096, 2]⟩
abbrev S4096x2x1 : Shape := ⟨3, ![4096, 2, 1]⟩
abbrev S4096x640 : Shape := ⟨2, ![4096, 640]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x64, .f32⟩
  | .hbm, ⟨3, _⟩ => ⟨S1x64, .f32⟩
  | .hbm, ⟨4, _⟩ => ⟨S1024x1280, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1280, .f32⟩
  | .hbm, ⟨23, _⟩ => ⟨S4096x512, .f32⟩
  | .hbm, ⟨24, _⟩ => ⟨S4096x8x64, .f32⟩
  | .hbm, ⟨25, _⟩ => ⟨S64, .f32⟩
  | .hbm, ⟨26, _⟩ => ⟨S4096x8x64, .f32⟩
  | .hbm, ⟨27, _⟩ => ⟨S_, .f32⟩
  | .hbm, ⟨28, _⟩ => ⟨S4096x8, .f32⟩
  | .hbm, ⟨29, _⟩ => ⟨S4096x8x1, .f32⟩
  | .hbm, ⟨30, _⟩ => ⟨S_, .f32⟩
  | .hbm, ⟨31, _⟩ => ⟨S4096x8x1, .f32⟩
  | .hbm, ⟨32, _⟩ => ⟨S4096x8x1, .f32⟩
  | .hbm, ⟨33, _⟩ => ⟨S_, .f32⟩
  | .hbm, ⟨34, _⟩ => ⟨S4096x8x1, .f32⟩
  | .hbm, ⟨35, _⟩ => ⟨S4096x8x1, .f32⟩
  | .hbm, ⟨36, _⟩ => ⟨S4096x8x1, .f32⟩
  | .hbm, ⟨37, _⟩ => ⟨S4096x8x64, .f32⟩
  | .hbm, ⟨38, _⟩ => ⟨S4096x8x64, .f32⟩
  | .hbm, ⟨39, _⟩ => ⟨S1x1x64, .f32⟩
  | .hbm, ⟨40, _⟩ => ⟨S4096x8x64, .f32⟩
  | .hbm, ⟨41, _⟩ => ⟨S4096x8x64, .f32⟩
  | .hbm, ⟨42, _⟩ => ⟨S4096x512, .f32⟩
  | .hbm, ⟨43, _⟩ => ⟨S4096x128, .f32⟩
  | .hbm, ⟨44, _⟩ => ⟨S4096x2x64, .f32⟩
  | .hbm, ⟨45, _⟩ => ⟨S64, .f32⟩
  | .hbm, ⟨46, _⟩ => ⟨S4096x2x64, .f32⟩
  | .hbm, ⟨47, _⟩ => ⟨S_, .f32⟩
  | .hbm, ⟨48, _⟩ => ⟨S4096x2, .f32⟩
  | .hbm, ⟨49, _⟩ => ⟨S4096x2x1, .f32⟩
  | .hbm, ⟨50, _⟩ => ⟨S_, .f32⟩
  | .hbm, ⟨51, _⟩ => ⟨S4096x2x1, .f32⟩
  | .hbm, ⟨52, _⟩ => ⟨S4096x2x1, .f32⟩
  | .hbm, ⟨53, _⟩ => ⟨S_, .f32⟩
  | .hbm, ⟨54, _⟩ => ⟨S4096x2x1, .f32⟩
  | .hbm, ⟨55, _⟩ => ⟨S4096x2x1, .f32⟩
  | .hbm, ⟨56, _⟩ => ⟨S4096x2x1, .f32⟩
  | .hbm, ⟨57, _⟩ => ⟨S4096x2x64, .f32⟩
  | .hbm, ⟨58, _⟩ => ⟨S4096x2x64, .f32⟩
  | .hbm, ⟨59, _⟩ => ⟨S1x1x64, .f32⟩
  | .hbm, ⟨60, _⟩ => ⟨S4096x2x64, .f32⟩
  | .hbm, ⟨61, _⟩ => ⟨S4096x2x64, .f32⟩
  | .hbm, ⟨62, _⟩ => ⟨S4096x128, .f32⟩
  | .hbm, ⟨63, _⟩ => ⟨S4096x128, .f32⟩
  | .hbm, ⟨64, _⟩ => ⟨S4096x512, .f32⟩
  | .hbm, ⟨65, _⟩ => ⟨S4096x640, .f32⟩
  | .hbm, ⟨66, _⟩ => ⟨S4096x512, .bf16⟩
  | .hbm, ⟨67, _⟩ => ⟨S4096x128, .bf16⟩
  | .hbm, ⟨68, _⟩ => ⟨S4096x128, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== FfnW.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x1024, .f32⟩
  | .hbm, ⟨3, _⟩ => ⟨S4096x2816, .bf16⟩
  | .hbm, ⟨4, _⟩ => ⟨S4096x2816, .bf16⟩
  | .hbm, ⟨5, _⟩ => ⟨S4096x1024, .bf16⟩
  | .hbm, ⟨6, _⟩ => ⟨S2816x1024, .f32⟩
  | .hbm, ⟨7, _⟩ => ⟨S2816x1024, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnWRefIdeal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x1024, .f32⟩
  | .hbm, ⟨3, _⟩ => ⟨S_, .f32⟩
  | .hbm, ⟨4, _⟩ => ⟨S1024x2816, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== FfnUp.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 10
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x1024, .bf16⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S4096x2816, .bf16⟩
  | .hbm, ⟨9, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2816x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnUpRefIdeal.lean ====
abbrev S4096x1024 : Shape := ⟨2, ![4096, 1024]⟩
abbrev S1024x2816 : Shape := ⟨2, ![1024, 2816]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .bf16⟩
  | .hbm, ⟨5, _⟩ => ⟨S4096x2816, .f32⟩
  | .hbm, ⟨6, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Ffn.Runs.lean ====
module

public import proofs.«01_k».proof.Proof.Gen.FfnBwdIdeal.Frame.RunA
public import proofs.«01_k».proof.Proof.Gen.FfnBwdIdeal.Frame.RunB
public import proofs.«01_k».proof.Proof.Gen.FfnBwdIdeal.Frame.RunC

@[expose] public section

set_option maxRecDepth 16384

noncomputable section

/-! The feed-forward gradient's body over any float values: its runs at a point's own buffers, and what it means that given arrays
    are what the launch's points leave. -/

namespace Cert.FfnBwdIdeal.Hand

open Cert.FfnBwdIdeal Cert.FfnBwdIdeal.Gen Idealize.ShloMosaic Idealize.ShloMosaic.TcCoe Idealize.SL.Sem

variable {F : FTy → Type} [FloatOps F]

section Runs

variable (c : Dev nD) (t : Fin cfg0.N) (b0 b1 : Vec F S256x1024 .f32) (b2 : Vec F S1x1024 .f32) (b3 b4 b5 : Vec F S2816x1024 .bf16)
  (o10 : Vec F S1x1024 .f32) (o11 : Vec F S2816x1024 .f32) (f0 f1 : FVec F S4096x2816 .bf16)

/-- The body's run at the first point, at the point's own buffers; -/
abbrev runFirst (hc0 : cond0_0 (grid0.coords t)) (hc1 : cond0_1 (grid0.coords t)) :=
  kernelRun0_A c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) hc0 hc1 b0 b1 b2 b3 b4 b5 f0 f1
/-- at a point that is neither the first nor among the last two; -/
abbrev runMid (hc0 : ¬cond0_0 (grid0.coords t)) (hc1 : cond0_1 (grid0.coords t)) :=
  kernelRun0_B c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) hc0 hc1 b0 b1 b2 b3 b4 b5 o10 o11 f0 f1
/-- and at the last two, which start no transfer. -/
abbrev runLast (hc0 : ¬cond0_0 (grid0.coords t)) (hc1 : ¬cond0_1 (grid0.coords t)) :=
  kernelRun0_C c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) hc0 hc1 b0 b1 b2 b3 b4 b5 o10 o11 f0 f1

end Runs

/-- What one point leaves in the six outputs' buffers: the two branches' tiles, the input's tile in both types, and the two sums. -/
structure Six (F : FTy → Type) where
  gate : Vec F S256x2816 .bf16
  up : Vec F S256x2816 .bf16
  inp : Vec F S256x1024 .f32
  inpB : Vec F S256x1024 .bf16
  gain : Vec F S1x1024 .f32
  down : Vec F S2816x1024 .f32

/-- What lists of stores leave, one list per output. -/
def sixOf (L6 L7 : List (View.Piece (Elt F) S256x2816 .bf16)) (L8 : List (View.Piece (Elt F) S256x1024 .f32))
    (L9 : List (View.Piece (Elt F) S256x1024 .bf16)) (L10 : List (View.Piece (Elt F) S1x1024 .f32))
    (L11 : List (View.Piece (Elt F) S2816x1024 .f32)) : Six F :=
  ⟨View.canon L6, View.canon L7, View.canon L8, View.canon L9, View.canon L10, View.canon L11⟩

theorem sixOf_apart {s : Six F} {L6 L7 : List (View.Piece (Elt F) S256x2816 .bf16)} {L8 : List (View.Piece (Elt F) S256x1024 .f32)}
    {L9 : List (View.Piece (Elt F) S256x1024 .bf16)} {L10 : List (View.Piece (Elt F) S1x1024 .f32)}
    {L11 : List (View.Piece (Elt F) S2816x1024 .f32)} (h : sixOf L6 L7 L8 L9 L10 L11 = s) :
    View.canon L6 = s.gate ∧ View.canon L7 = s.up ∧ View.canon L8 = s.inp ∧ View.canon L9 = s.inpB ∧ View.canon L10 = s.gain ∧ View.canon L11 = s.down := by
  subst h
  exact ⟨rfl, rfl, rfl, rfl, rfl, rfl⟩

theorem sixOf_congr {L6 L7 : List (View.Piece (Elt F) S256x2816 .bf16)} {L8 : List (View.Piece (Elt F) S256x1024 .f32)}
    {L9 : List (View.Piece (Elt F) S256x1024 .bf16)} {L10 : List (View.Piece (Elt F) S1x1024 .f32)}
    {L11 : List (View.Piece (Elt F) S2816x1024 .f32)} {a b d e f g} (h6 : View.canon L6 = a) (h7 : View.canon L7 = b) (h8 : View.canon L8 = d)
    (h9 : View.canon L9 = e) (h10 : View.canon L10 = f) (h11 : View.canon L11 = g) : sixOf L6 L7 L8 L9 L10 L11 = ⟨a, b, d, e, f, g⟩ := by
  subst h6 h7 h8 h9 h10 h11; rfl

variable (m : (ℓ : Loc nD τ sig) → Buf (Elt F) ℓ) (c : Dev nD)

section Point

variable (t : Fin cfg0.N)

/-- The three runs at a point, from the point's blocks and the sums so far. -/
abbrev first (hc0 : cond0_0 (grid0.coords t)) (hc1 : cond0_1 (grid0.coords t)) := (runFirst c t (iblk m c 0 t) (iblk m c 1 t) (iblk m c 2 t) (iblk m c 3 t) (iblk m c 4 t) (iblk m c 5 t) (V m c main_v16) (V m c main_v17) hc0 hc1)
abbrev middle (o : Six F) (hc0 : ¬cond0_0 (grid0.coords t)) (hc1 : cond0_1 (grid0.coords t)) := (runMid c t (iblk m c 0 t) (iblk m c 1 t) (iblk m c 2 t) (iblk m c 3 t) (iblk m c 4 t) (iblk m c 5 t) o.gain o.down (V m c main_v16) (V m c main_v17) hc0 hc1)
abbrev last (o : Six F) (hc0 : ¬cond0_0 (grid0.coords t)) (hc1 : ¬cond0_1 (grid0.coords t)) := (runLast c t (iblk m c 0 t) (iblk m c 1 t) (iblk m c 2 t) (iblk m c 3 t) (iblk m c 4 t) (iblk m c 5 t) o.gain o.down (V m c main_v16) (V m c main_v17) hc0 hc1)

/-- What they leave. -/
def firstSix (hc0 : cond0_0 (grid0.coords t)) (hc1 : cond0_1 (grid0.coords t)) : Six F := sixOf (first m c t hc0 hc1).1 (first m c t hc0 hc1).2.1 (first m c t hc0 hc1).2.2.1 (first m c t hc0 hc1).2.2.2.1 (first m c t hc0 hc1).2.2.2.2.1 (first m c t hc0 hc1).2.2.2.2.2.1
def middleSix (o : Six F) (hc0 : ¬cond0_0 (grid0.coords t)) (hc1 : cond0_1 (grid0.coords t)) : Six F := sixOf (middle m c t o hc0 hc1).1 (middle m c t o hc0 hc1).2.1 (middle m c t o hc0 hc1).2.2.1 (middle m c t o hc0 hc1).2.2.2.1 (middle m c t o hc0 hc1).2.2.2.2.1 (middle m c t o hc0 hc1).2.2.2.2.2.1
def lastSix (o : Six F) (hc0 : ¬cond0_0 (grid0.coords t)) (hc1 : ¬cond0_1 (grid0.coords t)) : Six F := sixOf (last m c t o hc0 hc1).1 (last m c t o hc0 hc1).2.1 (last m c t o hc0 hc1).2.2.1 (last m c t o hc0 hc1).2.2.2.1 (last m c t o hc0 hc1).2.2.2.2.1 (last m c t o hc0 hc1).2.2.2.2.2.1

theorem first_apart {s : Six F} (hc0 hc1) (h : firstSix m c t hc0 hc1 = s) : View.canon (first m c t hc0 hc1).1 = (s).gate ∧ View.canon (first m c t hc0 hc1).2.1 = (s).up ∧ View.canon (first m c t hc0 hc1).2.2.1 = (s).inp ∧ View.canon (first m c t hc0 hc1).2.2.2.1 = (s).inpB ∧ View.canon (first m c t hc0 hc1).2.2.2.2.1 = (s).gain ∧ View.canon (first m c t hc0 hc1).2.2.2.2.2.1 = (s).down := by
  unfold firstSix at h; exact sixOf_apart h
theorem middle_apart {s : Six F} (o : Six F) (hc0 hc1) (h : middleSix m c t o hc0 hc1 = s) : View.canon (middle m c t o hc0 hc1).1 = (s).gate ∧ View.canon (middle m c t o hc0 hc1).2.1 = (s).up ∧ View.canon (middle m c t o hc0 hc1).2.2.1 = (s).inp ∧ View.canon (middle m c t o hc0 hc1).2.2.2.1 = (s).inpB ∧ View.canon (middle m c t o hc0 hc1).2.2.2.2.1 = (s).gain ∧ View.canon (middle m c t o hc0 hc1).2.2.2.2.2.1 = (s).down := by
  unfold middleSix at h; exact sixOf_apart h
theorem last_apart {s : Six F} (o : Six F) (hc0 hc1) (h : lastSix m c t o hc0 hc1 = s) : View.canon (last m c t o hc0 hc1).1 = (s).gate ∧ View.canon (last m c t o hc0 hc1).2.1 = (s).up ∧ View.canon (last m c t o hc0 hc1).2.2.1 = (s).inp ∧ View.canon (last m c t o hc0 hc1).2.2.2.1 = (s).inpB ∧ View.canon (last m c t o hc0 hc1).2.2.2.2.1 = (s).gain ∧ View.canon (last m c t o hc0 hc1).2.2.2.2.2.1 = (s).down := by
  unfold lastSix at h; exact sixOf_apart h

end Point

/-- Arrays that are what the points leave, point after point. -/
structure Left where
  at' : ℕ → Six F
  first_eq : ∀ t : Fin cfg0.N, t.val = 0 → ∀ hc0 hc1, firstSix m c t hc0 hc1 = at' t.val
  middle_eq : ∀ t : Fin cfg0.N, ¬t.val = 0 → ∀ hc0 hc1, middleSix m c t (at' (t.val - 1)) hc0 hc1 = at' t.val
  last_eq : ∀ t : Fin cfg0.N, ¬t.val = 0 → ∀ hc0 hc1, lastSix m c t (at' (t.val - 1)) hc0 hc1 = at' t.val

open Classical in
/-- What a point leaves, given what the point before it left. -/
def step (t : Fin cfg0.N) (o : Six F) : Six F :=
  if h0 : cond0_0 (grid0.coords t) then
    if h1 : cond0_1 (grid0.coords t) then firstSix m c t h0 h1 else o
  else if h1 : cond0_1 (grid0.coords t) then middleSix m c t o h0 h1 else lastSix m c t o h0 h1

/-- What the points leave, one after another. -/
def steps : ℕ → Six F
  | 0 => if h : 0 < cfg0.N then step m c ⟨0, h⟩ (sixOf [] [] [] [] [] []) else sixOf [] [] [] [] [] []
  | n + 1 => if h : n + 1 < cfg0.N then step m c ⟨n + 1, h⟩ (steps n) else steps n

theorem steps_next (t : Fin cfg0.N) (h : ¬t.val = 0) : steps m c t.val = step m c t (steps m c (t.val - 1)) := by
  obtain ⟨n, hn⟩ := t
  cases n with
  | zero => exact absurd rfl h
  | succ n => exact dif_pos hn

theorem steps_first (t : Fin cfg0.N) (h : t.val = 0) : steps m c t.val = step m c t (sixOf [] [] [] [] [] []) := by
  obtain ⟨n, hn⟩ := t
  obtain rfl : n = 0 := h
  exact dif_pos hn

/-- So such arrays always exist. -/
def left : Left m c where
  at' := steps m c
  first_eq t h hc0 hc1 := by rw [steps_first m c t h]; unfold step; rw [dif_pos hc0, dif_pos hc1]
  middle_eq t h hc0 hc1 := by rw [steps_next m c t h]; unfold step; rw [dif_neg hc0, dif_pos hc1]
  last_eq t h hc0 hc1 := by rw [steps_next m c t h]; unfold step; rw [dif_neg hc0, dif_neg hc1]

end Cert.FfnBwdIdeal.Hand
-- ==== Proof.Kit.Owns.lean ====
module

public import Idealize.ShloMosaic.Lib.Ring
public import Idealize.ShloMosaic.Lib.Pipeline.FrameBody

@[expose] public section

/-! A buffer that covering stores filled is owned at what the stores left, under whatever name that has been given. -/

namespace Cert.Kit

open Idealize.ShloMosaic Idealize.SL Idealize.SL.BI Idealize.SL.BI.BIBase Idealize.SL.BI.Laws Idealize.SL.ProofMode Idealize.SL.RA
open scoped Idealize.SL.BI

section Owns

variable {nD : Nat} {τ : Topo} {sig : RefSig} {Ix : Type} [DecidableEq Ix] {Val : EltTy → Type} {Name : Type} [DecidableEq Name]
variable {U : Type} [URA U] {Lvl : Type}

/-- The buffer's pieces tile it and read back as `spec`: the core owns it at `spec`. -/
theorem owns_of_canon [∀ e, Nonempty (Val e)] {c : Thread nD τ} {cs : Space} {s : Shape} {e : EltTy} (size : Fin s.rank → Nat)
    {M : Memref sig c.2.kind cs s e} {g : Buf Val (M.view.loc c)} {q : PosShare TreeShare} {L : List (View.Piece Val s e)} {spec : s.Idx → Val e}
    (hs : View.canon L = spec) (hL : View.Piece.tiledL L size = true) :
    (M.view.loc c ↦[M.view.set]{q} M.view.writes Val g L : sProp (MT nD τ sig Ix Val Name U Lvl)) ⊢ owns c M q spec := by
  iintro H; unfold owns; iexists M.view.writes Val g L; isplitr
  · ipureintro; funext y; rw [← hs]
    exact View.read_writes_apply_eq_canon _ _ _ _ (View.cover_of_tiledL L size hL y)
  · iexact H

end Owns

end Cert.Kit
-- ==== Proof.Ffn.Frame.lean ====
module

public import proofs.«01_k».proof.Proof.Ffn.Runs
public import proofs.«01_k».proof.Proof.Kit.Owns
public import Idealize.ShloMosaic.Lib.Claim

@[expose] public section

set_option maxRecDepth 16384

noncomputable section

/-! The feed-forward gradient's launch: what every window holds after every point, the body's triple at each, and the run. -/

namespace Cert.FfnBwdIdeal.Hand

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The machine's resources. -/
abbrev Res (F : FTy → Type) [FloatOps F] := MT nD τ sig Unit (Elt F) ℕ (Pipeline.UD sig nD τ) ℕ

variable (m : (ℓ : Loc nD τ sig) → Buf (Elt F) ℓ) (ρ : Dev nD → PrngReg)

/-- The region's invariant before point `k`: the scratch, the generator register, and both rings. -/
def inv (c : Dev nD) (k : ℕ) : sProp (Res F) :=
  iprop((∃ d, owns (c : Thread nD τ) scM0_0 fullShare d) ∗ (∃ r, prngReg c r) ∗ ringAt0_0 c (V m c main_v16) k ∗ ringAt0_1 c (V m c main_v17) k)

/-- What the launch is run with: the arrays as the host left them, every input's buffer at its block, every output's at its tile or at the
    sum over the points so far. -/
def dats (L : ∀ c, Left m c) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => ((L c).at' t.val).gate
    | ⟨7, _⟩ => ((L c).at' t.val).up
    | ⟨8, _⟩ => ((L c).at' t.val).inp
    | ⟨9, _⟩ => ((L c).at' t.val).inpB
    | ⟨10, _⟩ => ((L c).at' t.val).gain
    | ⟨11, _⟩ => ((L c).at' t.val).down
  Φ t := inv m c t.val
  q _ := fullShare
  owed _ := 0

variable (L : ∀ c, Left m c)

theorem A_eq (c : Dev nD) (w : Fin cfg0.W) : (dats m L 0 c).A w = V m c (Pipeline.arrRef spec0 w) := by dsimp only [dats]

theorem inv_before (c : Dev nD) (t : Fin cfg0.N) : (dats m L 0 c).Φ t.castSucc = inv m c t.val := by
  dsimp only [dats]; simp only [Fin.val_castSucc]
theorem inv_after (c : Dev nD) (t : Fin cfg0.N) : (dats m L 0 c).Φ t.succ = inv m c (t.val + 1) := by
  dsimp only [dats]; simp only [Fin.val_succ]

section Windows

variable (c : Dev nD) (t : Fin cfg0.N)

theorem afterIn : (dats m L 0 c).after 0 t = iblk m c 0 t ∧ (dats m L 0 c).after 1 t = iblk m c 1 t ∧ (dats m L 0 c).after 2 t = iblk m c 2 t
    ∧ (dats m L 0 c).after 3 t = iblk m c 3 t ∧ (dats m L 0 c).after 4 t = iblk m c 4 t ∧ (dats m L 0 c).after 5 t = iblk m c 5 t := by
  dsimp only [dats]; exact ⟨rfl, rfl, rfl, rfl, rfl, rfl⟩

theorem afterOut : (dats m L 0 c).after 6 t = ((L c).at' t.val).gate ∧ (dats m L 0 c).after 7 t = ((L c).at' t.val).up ∧ (dats m L 0 c).after 8 t = ((L c).at' t.val).inp
    ∧ (dats m L 0 c).after 9 t = ((L c).at' t.val).inpB ∧ (dats m L 0 c).after 10 t = ((L c).at' t.val).gain
    ∧ (dats m L 0 c).after 11 t = ((L c).at' t.val).down := by
  dsimp only [dats]; exact ⟨rfl, rfl, rfl, rfl, rfl, rfl⟩

/-- Before a point every input's buffer holds its block. -/
theorem beforeIn : (∀ d, (dats m L 0 c).before 0 t d = iblk m c 0 t) ∧ (∀ d, (dats m L 0 c).before 1 t d = iblk m c 1 t)
    ∧ (∀ d, (dats m L 0 c).before 2 t d = iblk m c 2 t) ∧ (∀ d, (dats m L 0 c).before 3 t d = iblk m c 3 t)
    ∧ (∀ d, (dats m L 0 c).before 4 t d = iblk m c 4 t) ∧ (∀ d, (dats m L 0 c).before 5 t d = iblk m c 5 t) :=
  ⟨before0_0_of m (dats m L 0 c) (A_eq m L c 0) (fun t => (afterIn m L c t).1) t,
    before0_1_of m (dats m L 0 c) (A_eq m L c 1) (fun t => (afterIn m L c t).2.1) t,
    before0_2_of m (dats m L 0 c) (A_eq m L c 2) (fun t => (afterIn m L c t).2.2.1) t,
    before0_3_of m (dats m L 0 c) (A_eq m L c 3) (fun t => (afterIn m L c t).2.2.2.1) t,
    before0_4_of m (dats m L 0 c) (A_eq m L c 4) (fun t => (afterIn m L c t).2.2.2.2.1) t,
    before0_5_of m (dats m L 0 c) (A_eq m L c 5) (fun t => (afterIn m L c t).2.2.2.2.2) t⟩

/-- After the first point the two sums' buffers hold what the point before left. -/
theorem beforeSums (h0 : ¬t.val = 0) : (∀ d, (dats m L 0 c).before 10 t d = ((L c).at' (t.val - 1)).gain)
    ∧ ∀ d, (dats m L 0 c).before 11 t d = ((L c).at' (t.val - 1)).down := by
  have hN : t.val < 16 := lt_of_lt_of_eq t.isLt (show cfg0.N = 16 from N_0)
  constructor
  · intro d; rw [Dat.before_out_kept _ 10 rfl t (by omega) (Bool.eq_false_iff.mpr fun h => by have := (flush0_10 _).mp h; dsimp only at this; omega)
      (fun _ => rfl) (fun _ _ => rfl)]
    dsimp only [dats]
  · intro d; rw [Dat.before_out_kept _ 11 rfl t (by omega) (Bool.eq_false_iff.mpr fun h => by have := (flush0_11 _).mp h; dsimp only at this; omega)
      (fun _ => rfl) (fun _ _ => rfl)]
    dsimp only [dats]

end Windows

/-- What the body is called with at a point, window by window, and what it returns. -/
def bodyPre (c : Dev nD) (t : Fin cfg0.N) : sProp (Res F) :=
  iprop((dats m L 0 c).Φ t.castSucc ∗ (dats m L 0 c).owesAt () t.castSucc
    ∗ (∃ d, owns (c : Thread nD τ) (ms0_0 t) fullShare ((dats m L 0 c).before 0 t d))
    ∗ (∃ d, owns (c : Thread nD τ) (ms0_1 t) fullShare ((dats m L 0 c).before 1 t d))
    ∗ (∃ d, owns (c : Thread nD τ) (ms0_2 t) fullShare ((dats m L 0 c).before 2 t d))
    ∗ (∃ d, owns (c : Thread nD τ) (ms0_3 t) fullShare ((dats m L 0 c).before 3 t d))
    ∗ (∃ d, owns (c : Thread nD τ) (ms0_4 t) fullShare ((dats m L 0 c).before 4 t d))
    ∗ (∃ d, owns (c : Thread nD τ) (ms0_5 t) fullShare ((dats m L 0 c).before 5 t d))
    ∗ (∃ d, owns (c : Thread nD τ) (ms0_6 t) fullShare ((dats m L 0 c).before 6 t d))
    ∗ (∃ d, owns (c : Thread nD τ) (ms0_7 t) fullShare ((dats m L 0 c).before 7 t d))
    ∗ (∃ d, owns (c : Thread nD τ) (ms0_8 t) fullShare ((dats m L 0 c).before 8 t d))
    ∗ (∃ d, owns (c : Thread nD τ) (ms0_9 t) fullShare ((dats m L 0 c).before 9 t d))
    ∗ (∃ d, owns (c : Thread nD τ) (ms0_10 t) fullShare ((dats m L 0 c).before 10 t d))
    ∗ (∃ d, owns (c : Thread nD τ) (ms0_11 t) fullShare ((dats m L 0 c).before 11 t d)))
def bodyPost (c : Dev nD) (t : Fin cfg0.N) : sProp (Res F) :=
  iprop((dats m L 0 c).Φ t.succ ∗ (dats m L 0 c).owesAt () t.succ
    ∗ owns (c : Thread nD τ) (ms0_0 t) fullShare ((dats m L 0 c).after 0 t)
    ∗ owns (c : Thread nD τ) (ms0_1 t) fullShare ((dats m L 0 c).after 1 t)
    ∗ owns (c : Thread nD τ) (ms0_2 t) fullShare ((dats m L 0 c).after 2 t)
    ∗ owns (c : Thread nD τ) (ms0_3 t) fullShare ((dats m L 0 c).after 3 t)
    ∗ owns (c : Thread nD τ) (ms0_4 t) fullShare ((dats m L 0 c).after 4 t)
    ∗ owns (c : Thread nD τ) (ms0_5 t) fullShare ((dats m L 0 c).after 5 t)
    ∗ owns (c : Thread nD τ) (ms0_6 t) fullShare ((dats m L 0 c).after 6 t)
    ∗ owns (c : Thread nD τ) (ms0_7 t) fullShare ((dats m L 0 c).after 7 t)
    ∗ owns (c : Thread nD τ) (ms0_8 t) fullShare ((dats m L 0 c).after 8 t)
    ∗ owns (c : Thread nD τ) (ms0_9 t) fullShare ((dats m L 0 c).after 9 t)
    ∗ owns (c : Thread nD τ) (ms0_10 t) fullShare ((dats m L 0 c).after 10 t)
    ∗ owns (c : Thread nD τ) (ms0_11 t) fullShare ((dats m L 0 c).after 11 t))

set_option maxHeartbeats 3600000 in
/-- The body at any point. The three cases differ in what the rings hold before and after, and in whether the sums are begun or added to. -/
theorem sound_body (c : Dev nD) (t : Fin cfg0.N) :
    bodyPre m L c t ⊢ wp frame (wpE (defs₀ (F := F)) Variants.none c none) Set.univ (bodyAt0 t) (fun _ => bodyPost m L c t) := by
  unfold bodyPre bodyPost bodyAt0
  have hN : t.val < 16 := lt_of_lt_of_eq t.isLt (show cfg0.N = 16 from N_0)
  obtain ⟨ha0, ha1, ha2, ha3, ha4, ha5⟩ := afterIn m L c t
  obtain ⟨ha6, ha7, ha8, ha9, ha10, ha11⟩ := afterOut m L c t
  obtain ⟨hb0, hb1, hb2, hb3, hb4, hb5⟩ := beforeIn m L c t
  rw [ha0, ha1, ha2, ha3, ha4, ha5, ha6, ha7, ha8, ha9, ha10, ha11, inv_before m L c t, inv_after m L c t]
  simp only [hb0, hb1, hb2, hb3, hb4, hb5]
  unfold Dat.owesAt Pipeline.owesWithin
  rw [show (dats m L 0 c).owed t.castSucc = 0 from rfl, show (dats m L 0 c).owed t.succ = 0 from rfl]
  unfold inv ringAt0_0 ringAt0_1
  by_cases h0 : t.val = 0
  case' pos =>
    have hc0 := (hcond0_0 t).mpr (by omega)
    have hc1 := (hcond0_1 t).mpr (by omega)
    obtain ⟨T6, T7, T8, T9, T10, T11⟩ := first_apart m c t hc0 hc1 ((L c).first_eq t h0 hc0 hc1)
    rw [if_pos h0, if_neg (show ¬t.val + 1 = 0 by omega), Ring.At₀_eq3' _ _ _ t.val h0 (by decide : 3 ≤ 16),
      Ring.At3_one' _ _ _ _ t.val h0 (by decide : 3 ≤ 16), if_pos h0, if_neg (show ¬t.val + 1 = 0 by omega),
      Ring.At₀_eq3' _ _ _ t.val h0 (by decide : 3 ≤ 16), Ring.At3_one' _ _ _ _ t.val h0 (by decide : 3 ≤ 16)]
  case' neg =>
    have hc0 : ¬cond0_0 (grid0.coords t) := fun h => h0 (by have := (hcond0_0 t).mp h; omega)
    obtain ⟨hb10, hb11⟩ := beforeSums m L c t h0
    simp only [hb10, hb11]
    rw [if_neg h0, if_neg (show ¬t.val + 1 = 0 by omega), if_neg h0, if_neg (show ¬t.val + 1 = 0 by omega)]
    by_cases h1 : t.val < 14
    case' pos =>
      have hc1 := (hcond0_1 t).mpr h1
      obtain ⟨-, hK0, -⟩ := rstep0_0_B t hc0 hc1
      rw [Ring.At3_here _ _ _ _ t.val hK0, Ring.At3_next _ _ _ _ t.val hK0, Ring.slotAt3_next0 _ _ _ t.val (by omega), Ring.slotAt3_next1 _ _ _ t.val hK0,
        Ring.At3_here _ _ _ _ t.val hK0, Ring.At3_next _ _ _ _ t.val hK0, Ring.slotAt3_next0 _ _ _ t.val (by omega), Ring.slotAt3_next1 _ _ _ t.val hK0]
      obtain ⟨T6, T7, T8, T9, T10, T11⟩ := middle_apart m c t ((L c).at' (t.val - 1)) hc0 hc1 ((L c).middle_eq t h0 hc0 hc1)
    case' neg =>
      have hc1 : ¬cond0_1 (grid0.coords t) := fun h => h1 ((hcond0_1 t).mp h)
      obtain ⟨-, hK0, hlt, -⟩ := rstep0_0_C t hc0 hc1
      rw [Ring.At3_here_tail _ _ _ _ t.val hlt, Ring.At3_next_tail _ _ _ _ t.val hK0 hlt, Ring.slotAt3_tail_role _ _ _ t.val,
        Ring.At3_here_tail _ _ _ _ t.val hlt, Ring.At3_next_tail _ _ _ _ t.val hK0 hlt, Ring.slotAt3_tail_role _ _ _ t.val]
      obtain ⟨T6, T7, T8, T9, T10, T11⟩ := last_apart m c t ((L c).at' (t.val - 1)) hc0 hc1 ((L c).last_eq t h0 hc0 hc1)
  all_goals
    iintro ⟨⟨HS0, Hg, ⟨-, Hfr0_0, Hfr0_1, Hfr0_2⟩, ⟨-, Hfr1_0, Hfr1_1, Hfr1_2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    first
      | iapply ((runFirst c t (iblk m c 0 t) (iblk m c 1 t) (iblk m c 2 t) (iblk m c 3 t) (iblk m c 4 t) (iblk m c 5 t) (V m c main_v16) (V m c main_v17) hc0 hc1).2.2.2.2.2.2 W _)
      | iapply ((runMid c t (iblk m c 0 t) (iblk m c 1 t) (iblk m c 2 t) (iblk m c 3 t) (iblk m c 4 t) (iblk m c 5 t) (((L c).at' (t.val - 1)).gain) (((L c).at' (t.val - 1)).down) (V m c main_v16) (V m c main_v17) hc0 hc1).2.2.2.2.2.2 W _)
      | iapply ((runLast c t (iblk m c 0 t) (iblk m c 1 t) (iblk m c 2 t) (iblk m c 3 t) (iblk m c 4 t) (iblk m c 5 t) (((L c).at' (t.val - 1)).gain) (((L c).at' (t.val - 1)).down) (V m c main_v16) (V m c main_v17) hc0 hc1).2.2.2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · first | iexact H10 | (iexists _; iexact H10)
    isplitl [H11]; · first | iexact H11 | (iexists _; iexact H11)
    isplitl [HS0]; · iexact HS0
    isplitl [Hfr0_0]; · iexact Hfr0_0
    isplitl [Hfr0_1]; · iexact Hfr0_1
    isplitl [Hfr0_2]; · iexact Hfr0_2
    isplitl [Hfr1_0]; · iexact Hfr1_0
    isplitl [Hfr1_1]; · iexact Hfr1_1
    isplitl [Hfr1_2]; · iexact Hfr1_2
    isplitl [HW]; · iexact HW
    iintro ⟨H0, H1, H2, H3, H4, H5, ⟨%e6, H6⟩, ⟨%e7, H7⟩, ⟨%e8, H8⟩, ⟨%e9, H9⟩, ⟨%e10, H10⟩, ⟨%e11, H11⟩, HS0, Hfr0_0, Hfr0_1, Hfr0_2, Hfr1_0, Hfr1_1, Hfr1_2, ⟨%W', HW⟩⟩
    isplitl [HS0 Hg Hfr0_0 Hfr0_1 Hfr0_2 Hfr1_0 Hfr1_1 Hfr1_2]
    · isplitl [HS0]; · iexact HS0
      isplitl [Hg]; · iexact Hg
      isplitl [Hfr0_0 Hfr0_1 Hfr0_2]
      · iapply (Ring.with_homes (Idealize.SL.BI.Entails.refl _))
        isplitl [Hfr0_0]; · iexact Hfr0_0
        isplitl [Hfr0_1]; · iexact Hfr0_1
        iexact Hfr0_2
      iapply (Ring.with_homes (Idealize.SL.BI.Entails.refl _))
      isplitl [Hfr1_0]; · iexact Hfr1_0
      isplitl [Hfr1_1]; · iexact Hfr1_1
      iexact Hfr1_2
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]
    · iapply (Cert.Kit.owns_of_canon (nD := nD) (τ := τ) (sig := sig) (Ix := Unit) (Val := Elt F) (Name := ℕ) (U := Pipeline.UD sig nD τ) (Lvl := ℕ) (c := (c : Thread nD τ)) (s := S256x2816) (M := ms0_6 t) (q := fullShare) S256x256.size T6 (by sl_kernel_rfl)); iexact H6
    isplitl [H7]
    · iapply (Cert.Kit.owns_of_canon (nD := nD) (τ := τ) (sig := sig) (Ix := Unit) (Val := Elt F) (Name := ℕ) (U := Pipeline.UD sig nD τ) (Lvl := ℕ) (c := (c : Thread nD τ)) (s := S256x2816) (M := ms0_7 t) (q := fullShare) S256x256.size T7 (by sl_kernel_rfl)); iexact H7
    isplitl [H8]
    · iapply (Cert.Kit.owns_of_canon (nD := nD) (τ := τ) (sig := sig) (Ix := Unit) (Val := Elt F) (Name := ℕ) (U := Pipeline.UD sig nD τ) (Lvl := ℕ) (c := (c : Thread nD τ)) (s := S256x1024) (M := ms0_8 t) (q := fullShare) S256x1024.size T8 (by sl_kernel_rfl)); iexact H8
    isplitl [H9]
    · iapply (Cert.Kit.owns_of_canon (nD := nD) (τ := τ) (sig := sig) (Ix := Unit) (Val := Elt F) (Name := ℕ) (U := Pipeline.UD sig nD τ) (Lvl := ℕ) (c := (c : Thread nD τ)) (s := S256x1024) (M := ms0_9 t) (q := fullShare) S256x1024.size T9 (by sl_kernel_rfl)); iexact H9
    isplitl [H10]
    · iapply (Cert.Kit.owns_of_canon (nD := nD) (τ := τ) (sig := sig) (Ix := Unit) (Val := Elt F) (Name := ℕ) (U := Pipeline.UD sig nD τ) (Lvl := ℕ) (c := (c : Thread nD τ)) (s := S1x1024) (M := ms0_10 t) (q := fullShare) S1x1024.size T10 (by sl_kernel_rfl)); iexact H10
    iapply (Cert.Kit.owns_of_canon (nD := nD) (τ := τ) (sig := sig) (Ix := Unit) (Val := Elt F) (Name := ℕ) (U := Pipeline.UD sig nD τ) (Lvl := ℕ) (c := (c : Thread nD τ)) (s := S2816x1024) (M := ms0_11 t) (q := fullShare) S2816x1024.size T11 (by sl_kernel_rfl)); iexact H11

/-- The body table's row at a point's slots is the body. -/
theorem body_row (t : Fin cfg0.N) : defs₀ (F := F) .tc cfg0.body (cfg0.bodyArgs t (cfg0.slots t)) = bodyAt0 t := by
  unfold defs₀; rw [Defs.onTc_tc]

/-- The body's triple, as the launch asks for it. -/
theorem body_obligation (c : Dev nD) : BodyObligation (dats m L 0 c) (defs₀ (F := F)) Variants.none () Set.univ := fun t => by
  rw [bigSep_W0, bigSep_W0, body_row]
  exact triple_restated (sound_body m L c t) rfl .rfl fun _ => .rfl

/-- What the launch hands the region is the invariant before the first point; -/
theorem inv_in (c : Dev nD) : Pipeline.ΦD osem0 spec0 H0 (V m) c ⊢ (dats m L 0 c).Φ 0 := by
  rw [PhiD0_eq, show (dats m L 0 c).Φ 0 = inv m c 0 from rfl]
  unfold inv
  iintro ⟨⟨HS, HR, HR'⟩, Hg, ⟨Hq0, Hq1, Hq2, Hq3, Hq4, Hq5⟩, Hh, Hh'⟩
  isplitl [HS]; · iexact HS
  isplitl [Hg]; · iexact Hg
  isplitl [HR Hq0 Hq1 Hq2 Hh]
  · iapply (ring0_0_in (F := F) m c)
    isplitl [HR]; · iexact HR
    isplitr [Hh]
    · isplitl [Hq0]; · iexact Hq0
      isplitl [Hq1]; · iexact Hq1
      iexact Hq2
    iexact Hh
  iapply (ring0_1_in (F := F) m c)
  isplitl [HR']; · iexact HR'
  isplitr [Hh']
  · isplitl [Hq3]; · iexact Hq3
    isplitl [Hq4]; · iexact Hq4
    iexact Hq5
  iexact Hh'

/-- and the invariant after the last hands it back. -/
theorem inv_out (c : Dev nD) : (dats m L 0 c).Φ (Fin.last cfg0.N) ⊢ Pipeline.ΦD osem0 spec0 H0 (V m) c := by
  rw [PhiD0_eq, show (dats m L 0 c).Φ (Fin.last cfg0.N) = inv m c grid0.N from rfl]
  unfold inv
  rw [show grid0.N = 16 by rw [N_0]]
  iintro ⟨HS, Hg, HA, HB⟩
  ihave HA := (ring0_0_out (F := F) m c) $$ HA
  icases HA with ⟨HR, ⟨Hq0, Hq1, Hq2⟩, Hh⟩
  ihave HB := (ring0_1_out (F := F) m c) $$ HB
  icases HB with ⟨HR', ⟨Hq3, Hq4, Hq5⟩, Hh'⟩
  isplitl [HS HR HR']
  · isplitl [HS]; · iexact HS
    isplitl [HR]; · iexact HR
    iexact HR'
  isplitl [Hg]; · iexact Hg
  isplitr [Hh Hh']
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh]; · iexact Hh
  iexact Hh'

set_option backward.isDefEq.respectTransparency.types false in
/-- The whole run, and every counter at zero after it. -/
theorem run_quiet : θ_run defs (onTc (τ := τ) (main (F := F))) (s₀ m ρ) (fun r => (Pipeline.FramePost cfgs (dats m L) 0 (V m)) r ∧ r.2.sem = fun _ => 0) :=
  Pipeline.θ_run_frame_dma (Q' := _) cfgs (dats m L) (0 : Fin 1) launch0 osem0 defs₀ Variants.none ownSemFacts0 H0 H0_sub m ρ main
    (hbody := fun c => (body_obligation m L c).loose) (hshare := fun c => (dats m L 0 c).share_full fun _ => rfl)
    (howed := fun _ _ => rfl) (V := V m) (hmain := hmain m Variants.none) (hA := A_eq m L)
    (hin := inv_in m L) (hout := inv_out m L)

theorem run_main : θ_run defs (onTc (τ := τ) (main (F := F))) (s₀ m ρ) (Pipeline.FramePost cfgs (dats m L) 0 (V m)) :=
  (θ_run defs _ _).mono (fun _ h => h.1) (run_quiet m ρ L)

include L

/-- The run ends with its arguments as they were, -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m L) (A_eq m L) (run_main m ρ L)

/-- and no counter moved. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (kept m ρ L) ((θ_run defs _ _).mono (fun _ h => h.2) (run_quiet m ρ L))

end Cert.FfnBwdIdeal.Hand
-- ==== Proof.Ffn.Float.lean ====
module

public import proofs.«01_k».proof.Defs
public import proofs.«01_k».proof.Proof.Ffn.Frame
public import proofs.«01_k».proof.Proof.Gen.FfnBwd

@[expose] public section

noncomputable section

/-! The feed-forward call on its own floats: its text is the ideal program's, so the one run stands for both. -/

namespace Cert.FfnBwdIdeal.Hand

open Idealize.ShloMosaic Idealize.ShloMosaic.TcCoe Idealize.SL.Sem

/-- The kernel runs, and leaves its arguments and every counter as they were. -/
theorem frame_kernel : Cert.quiescent_FfnBwd := fun m ρ _ => by
  refine Eq.mp ?_ (frame (F := Bits) m ρ (left m))
  sl_kernel_rfl

end Cert.FfnBwdIdeal.Hand
-- ==== Proof.Ffn.Spec.lean ====
module

public import Idealize.ShloMosaic.Lib.Pipeline.ValueKit
public import Idealize.ShloMosaic.Lib.Pointwise

/-! The feed-forward block's gradient, row by row, as the kernel's body computes it: one row of the cotangent `dh`, of the
    normalised input's projections `gt` and `up`, and the three weights, all with real-number operations. -/

@[expose] public section

noncomputable section

namespace Cert.Ffn

open Idealize.ShloMosaic

/-- The number the row's sum of squares is divided by, and the small number added before the root. -/
abbrev width : EReal := Ideal.ofBits .f32 0x44800000#32
abbrev eps : EReal := Ideal.ofBits .f32 0x358637BD#32

/-- One over the root of the row's mean square. -/
def rinv (x : Fin 1024 → EReal) : EReal := Ideal.rsqrt (Ideal.div (∑ k, x k * x k) width + eps)

/-- The norm's gradient at one entry of the row, given the cotangent `d` of the normalised row. -/
def normBack (d g x : Fin 1024 → EReal) (j : Fin 1024) : EReal :=
  rinv x * (d j * g j) - x j * (rinv x * rinv x * rinv x) * Ideal.div (∑ k, d k * g k * x k) width

/-- The cotangent of the gated product. -/
def dAct (dh : Fin 1024 → EReal) (wd : Fin 2816 → Fin 1024 → EReal) (j : Fin 2816) : EReal := ∑ k, dh k * wd j k

/-- The gated product itself. -/
def act (gt up : Fin 2816 → EReal) (j : Fin 2816) : EReal := gt j * Ideal.logistic (gt j) * up j

/-- The cotangent of the linear branch. -/
def dUp (dh : Fin 1024 → EReal) (wd : Fin 2816 → Fin 1024 → EReal) (gt : Fin 2816 → EReal) (j : Fin 2816) : EReal :=
  dAct dh wd j * (gt j * Ideal.logistic (gt j))

/-- The cotangent of the gate's branch. -/
def dGate (dh : Fin 1024 → EReal) (wd : Fin 2816 → Fin 1024 → EReal) (gt up : Fin 2816 → EReal) (j : Fin 2816) : EReal :=
  dAct dh wd j * up j * (Ideal.logistic (gt j) * (1 + gt j * (1 - Ideal.logistic (gt j))))

/-- The cotangent of the normalised row. -/
def dNormed (dh : Fin 1024 → EReal) (wg wu wd : Fin 2816 → Fin 1024 → EReal) (gt up : Fin 2816 → EReal) (k : Fin 1024) : EReal :=
  ∑ j, dGate dh wd gt up j * wg j k + ∑ j, dUp dh wd gt j * wu j k

/-- The block's input gradient. -/
def dInput (dh x g : Fin 1024 → EReal) (wg wu wd : Fin 2816 → Fin 1024 → EReal) (gt up : Fin 2816 → EReal) (k : Fin 1024) : EReal :=
  dh k + normBack (dNormed dh wg wu wd gt up) g x k

/-- One row's part of the gain's gradient. -/
def dGain (dh x : Fin 1024 → EReal) (wg wu wd : Fin 2816 → Fin 1024 → EReal) (gt up : Fin 2816 → EReal) (k : Fin 1024) : EReal :=
  dNormed dh wg wu wd gt up k * (x k * rinv x)

/-- Two sums over the hidden width, taken together in eleven slabs of 256 columns, last slab outermost. -/
theorem slabs (f g : Fin 2816 → EReal) :
    (∑ j, f j + ∑ j, g j) =
      (∑ j : Fin 256, f ⟨2560 + j, by omega⟩ + ∑ j : Fin 256, g ⟨2560 + j, by omega⟩)
      + ((∑ j : Fin 256, f ⟨2304 + j, by omega⟩ + ∑ j : Fin 256, g ⟨2304 + j, by omega⟩)
      + ((∑ j : Fin 256, f ⟨2048 + j, by omega⟩ + ∑ j : Fin 256, g ⟨2048 + j, by omega⟩)
      + ((∑ j : Fin 256, f ⟨1792 + j, by omega⟩ + ∑ j : Fin 256, g ⟨1792 + j, by omega⟩)
      + ((∑ j : Fin 256, f ⟨1536 + j, by omega⟩ + ∑ j : Fin 256, g ⟨1536 + j, by omega⟩)
      + ((∑ j : Fin 256, f ⟨1280 + j, by omega⟩ + ∑ j : Fin 256, g ⟨1280 + j, by omega⟩)
      + ((∑ j : Fin 256, f ⟨1024 + j, by omega⟩ + ∑ j : Fin 256, g ⟨1024 + j, by omega⟩)
      + ((∑ j : Fin 256, f ⟨768 + j, by omega⟩ + ∑ j : Fin 256, g ⟨768 + j, by omega⟩)
      + ((∑ j : Fin 256, f ⟨512 + j, by omega⟩ + ∑ j : Fin 256, g ⟨512 + j, by omega⟩)
      + ((∑ j : Fin 256, f ⟨256 + j, by omega⟩ + ∑ j : Fin 256, g ⟨256 + j, by omega⟩)
      + (∑ j : Fin 256, f ⟨j, by omega⟩ + ∑ j : Fin 256, g ⟨j, by omega⟩)))))))))) := by
  have e (h : Fin 2816 → EReal) : ∑ j, h j = ∑ c : Fin 11, ∑ j : Fin 256, h ⟨c * 256 + j, by omega⟩ :=
    Fin.sum_univ_tiles 11 256 rfl h
  have s (H : Fin 11 → EReal) : ∑ c, H c = H 10 + (H 9 + (H 8 + (H 7 + (H 6 + (H 5 + (H 4 + (H 3 + (H 2 + (H 1 + H 0))))))))) := by
    simp only [Fin.sum_univ_succ, Fin.sum_univ_zero, add_zero]
    rw [show (∀ a b c d e f g h i j k : EReal, a + (b + (c + (d + (e + (f + (g + (h + (i + (j + k))))))))) =
      k + (j + (i + (h + (g + (f + (e + (d + (c + (b + a)))))))))) from fun a b c d e f g h i j k => by ac_rfl]
    rfl
  rw [e f, e g, ← Finset.sum_add_distrib, s]
  rfl

end Cert.Ffn
-- ==== Proof.Ffn.Tile.lean ====
module

public import proofs.«01_k».proof.Proof.Ffn.Runs
public import proofs.«01_k».proof.Proof.Ffn.Spec
public import Idealize.ShloMosaic.Lib.Pipeline.ReadBack

@[expose] public section

set_option maxRecDepth 16384

noncomputable section

/-! The feed-forward gradient's body, case by case: what each of its runs leaves is the row-wise gradient of Spec.lean. Here: the
    names the statements use, and how the ring's slots are read. -/

namespace Cert.FfnBwdIdeal.Hand

open Cert.FfnBwdIdeal Cert.FfnBwdIdeal.Gen Cert.Ffn Idealize.ShloMosaic Idealize.ShloMosaic.TcCoe Idealize.SL.Sem

/-- Row `i` of the tile at point `t`, among all rows. -/
def row (t : Fin cfg0.N) (i : Fin 256) : Fin 4096 :=
  ⟨256 * t.val + i.val, by have := lt_of_lt_of_eq t.isLt (show cfg0.N = 16 from N_0); omega⟩

/-- What a slot of the first ring holds, once its transfer is waited for: the tile's rows of the whole operand. -/
theorem ring0_read (t : Fin cfg0.N) (f : FVec Ideal S4096x2816 .bf16) (i : Fin 256) (j : Fin 2816) :
    View.read (Elt Ideal) (srcB0_0 (Ring.bk 16 t.val)).view f (ix2 i j) = f (ix2 (row t i) j) := by
  have := lt_of_lt_of_eq t.isLt (show cfg0.N = 16 from N_0)
  refine congrArg f (funext fun a => Fin.ext ?_)
  match a with
  | ⟨0, _⟩ =>
    show 256 * (Ring.bk 16 t.val).val + 1 * i.val = 256 * t.val + i.val
    rw [Ring.bk_val this]; omega
  | ⟨1, _⟩ => show 0 + 1 * j.val = j.val; omega

/-- What a slot of the second ring holds, once its transfer is waited for. -/
theorem ring1_read (t : Fin cfg0.N) (f : FVec Ideal S4096x2816 .bf16) (i : Fin 256) (j : Fin 2816) :
    View.read (Elt Ideal) (srcB0_1 (Ring.bk 16 t.val)).view f (ix2 i j) = f (ix2 (row t i) j) :=
  ring0_read t f i j

/-- A load from a buffer that one transfer filled reads what was transferred. -/
theorem readCov_wholePiece {sig : RefSig} {κ : Kind} {sp : Space} {s : Shape} {e : EltTy} {Val : EltTy → Type} [∀ e, Nonempty (Val e)] (v : View sig κ sp s e)
    (X : (Rect.whole s).shape.Idx → Val e) (r : Rect s) : v.readCov [⟨Rect.whole s, X⟩] r.toLoadRect = View.ld (show s.Idx → Val e from X) r :=
  View.readCov_fill v _ X [] r fun _ => rfl

/-- A load after stores that do not each fill the buffer reads what they left. -/
theorem readCov_ld {sig : RefSig} {κ : Kind} {sp : Space} {s : Shape} {e : EltTy} {Val : EltTy → Type} [∀ e, Nonempty (Val e)] (v : View sig κ sp s e)
    (L : List (View.Piece Val s e)) (r : Rect s) : v.readCov L r.toLoadRect = View.ld (View.canon L) r := by
  rw [View.readCov_eq_canon']

/-- A copy that keeps the element type hands its values on as they are. -/
theorem same_apply {s : Shape} {e : EltTy} (X : s.Idx → Elt Ideal e) : (ReadAs.same (Val := Elt Ideal) (s := s) (e := e)).apply X = X := rfl

section Tile

variable (c : Dev nD) (t : Fin cfg0.N) (b0 b1 : Vec Ideal S256x1024 .f32) (b2 : Vec Ideal S1x1024 .f32) (b3 b4 b5 : Vec Ideal S2816x1024 .bf16)
  (o10 : Vec Ideal S1x1024 .f32) (o11 : Vec Ideal S2816x1024 .f32) (f0 f1 : FVec Ideal S4096x2816 .bf16)

/-- The tile's row `i` of the cotangent, of the block's input and of the two projections; the gain; a weight's rows. -/
abbrev dhRow (i : Fin 256) : Fin 1024 → EReal := fun k => b0 (ix2 i k)
abbrev xRow (i : Fin 256) : Fin 1024 → EReal := fun k => b1 (ix2 i k)
abbrev gtRow (i : Fin 256) : Fin 2816 → EReal := fun j => f0 (ix2 (row t i) j)
abbrev gain : Fin 1024 → EReal := fun k => b2 (ix2 0 k)
abbrev wRows (b : Vec Ideal S2816x1024 .bf16) : Fin 2816 → Fin 1024 → EReal := fun j k => b (ix2 j k)

end Tile

end Cert.FfnBwdIdeal.Hand
-- ==== Proof.Ffn.TileGates.lean ====
module

public import proofs.«01_k».proof.Proof.Ffn.Tile

@[expose] public section

set_option maxRecDepth 16384

noncomputable section

namespace Cert.FfnBwdIdeal.Hand

open Cert.FfnBwdIdeal Cert.FfnBwdIdeal.Gen Cert.Ffn Idealize.ShloMosaic Idealize.ShloMosaic.TcCoe Idealize.SL.Sem

section Tile

variable (c : Dev nD) (t : Fin cfg0.N) (b0 b1 : Vec Ideal S256x1024 .f32) (b2 : Vec Ideal S1x1024 .f32) (b3 b4 b5 : Vec Ideal S2816x1024 .bf16)
  (o10 : Vec Ideal S1x1024 .f32) (o11 : Vec Ideal S2816x1024 .f32) (f0 f1 : FVec Ideal S4096x2816 .bf16)

set_option maxHeartbeats 2000000 in
/-- The tile of the gate branch's cotangent that every point leaves. -/
theorem tile6 :
    (∀ hc0 hc1, View.canon (runFirst c t b0 b1 b2 b3 b4 b5 f0 f1 hc0 hc1).1 = fun y => dGate (dhRow b0 (y 0)) (wRows b5) (gtRow t f0 (y 0)) (gtRow t f1 (y 0)) (y 1))
    ∧ (∀ hc0 hc1, View.canon (runMid c t b0 b1 b2 b3 b4 b5 o10 o11 f0 f1 hc0 hc1).1 = fun y => dGate (dhRow b0 (y 0)) (wRows b5) (gtRow t f0 (y 0)) (gtRow t f1 (y 0)) (y 1))
    ∧ (∀ hc0 hc1, View.canon (runLast c t b0 b1 b2 b3 b4 b5 o10 o11 f0 f1 hc0 hc1).1 = fun y => dGate (dhRow b0 (y 0)) (wRows b5) (gtRow t f0 (y 0)) (gtRow t f1 (y 0)) (y 1)) := by
  refine ⟨fun hc0 hc1 => ?_, fun hc0 hc1 => ?_, fun hc0 hc1 => ?_⟩
  all_goals
      first | unfold runFirst | unfold runMid | unfold runLast
      frame_open
      simp (disch := decide) only [↓ View.readCov_skip, ↓ View.readCov_cons_toLoadRect, ↓ View.readCov_fill]
      frame_out
      simp only [readCov_wholePiece, same_apply]
      funext y
      canon_tiles x h
      all_goals
        idx_vars x
        idx_vars y
        obtain ⟨v, hv⟩ := y1
        obtain rfl : y0 = x0 := Fin.ext h0
        obtain rfl : v = _ := h1
        open_payloads
        pointwise [ring0_read, ring1_read]
        try rfl

set_option maxHeartbeats 2000000 in
/-- The tile of the linear branch's cotangent. -/
theorem tile7 :
    (∀ hc0 hc1, View.canon (runFirst c t b0 b1 b2 b3 b4 b5 f0 f1 hc0 hc1).2.1 = fun y => dUp (dhRow b0 (y 0)) (wRows b5) (gtRow t f0 (y 0)) (y 1))
    ∧ (∀ hc0 hc1, View.canon (runMid c t b0 b1 b2 b3 b4 b5 o10 o11 f0 f1 hc0 hc1).2.1 = fun y => dUp (dhRow b0 (y 0)) (wRows b5) (gtRow t f0 (y 0)) (y 1))
    ∧ (∀ hc0 hc1, View.canon (runLast c t b0 b1 b2 b3 b4 b5 o10 o11 f0 f1 hc0 hc1).2.1 = fun y => dUp (dhRow b0 (y 0)) (wRows b5) (gtRow t f0 (y 0)) (y 1)) := by
  refine ⟨fun hc0 hc1 => ?_, fun hc0 hc1 => ?_, fun hc0 hc1 => ?_⟩
  all_goals
      first | unfold runFirst | unfold runMid | unfold runLast
      frame_open
      simp (disch := decide) only [↓ View.readCov_skip, ↓ View.readCov_cons_toLoadRect, ↓ View.readCov_fill]
      frame_out
      simp only [readCov_wholePiece, same_apply]
      funext y
      canon_tiles x h
      all_goals
        idx_vars x
        idx_vars y
        obtain ⟨v, hv⟩ := y1
        obtain rfl : y0 = x0 := Fin.ext h0
        obtain rfl : v = _ := h1
        open_payloads
        pointwise [ring0_read, ring1_read]
        try rfl

end Tile

end Cert.FfnBwdIdeal.Hand
-- ==== Proof.Ffn.TileInput.lean ====
module

public import proofs.«01_k».proof.Proof.Ffn.Tile

@[expose] public section

set_option maxRecDepth 16384

noncomputable section

namespace Cert.FfnBwdIdeal.Hand

open Cert.FfnBwdIdeal Cert.FfnBwdIdeal.Gen Cert.Ffn Idealize.ShloMosaic Idealize.ShloMosaic.TcCoe Idealize.SL.Sem

section Tile

variable (c : Dev nD) (t : Fin cfg0.N) (b0 b1 : Vec Ideal S256x1024 .f32) (b2 : Vec Ideal S1x1024 .f32) (b3 b4 b5 : Vec Ideal S2816x1024 .bf16)
  (o10 : Vec Ideal S1x1024 .f32) (o11 : Vec Ideal S2816x1024 .f32) (f0 f1 : FVec Ideal S4096x2816 .bf16)

set_option maxHeartbeats 2000000 in
/-- The tile of the input gradient, -/
theorem tile8 :
    (∀ hc0 hc1, View.canon (runFirst c t b0 b1 b2 b3 b4 b5 f0 f1 hc0 hc1).2.2.1 = fun y => dInput (dhRow b0 (y 0)) (xRow b1 (y 0)) (gain b2) (wRows b3) (wRows b4) (wRows b5) (gtRow t f0 (y 0)) (gtRow t f1 (y 0)) (y 1))
    ∧ (∀ hc0 hc1, View.canon (runMid c t b0 b1 b2 b3 b4 b5 o10 o11 f0 f1 hc0 hc1).2.2.1 = fun y => dInput (dhRow b0 (y 0)) (xRow b1 (y 0)) (gain b2) (wRows b3) (wRows b4) (wRows b5) (gtRow t f0 (y 0)) (gtRow t f1 (y 0)) (y 1))
    ∧ (∀ hc0 hc1, View.canon (runLast c t b0 b1 b2 b3 b4 b5 o10 o11 f0 f1 hc0 hc1).2.2.1 = fun y => dInput (dhRow b0 (y 0)) (xRow b1 (y 0)) (gain b2) (wRows b3) (wRows b4) (wRows b5) (gtRow t f0 (y 0)) (gtRow t f1 (y 0)) (y 1)) := by
  refine ⟨fun hc0 hc1 => ?_, fun hc0 hc1 => ?_, fun hc0 hc1 => ?_⟩
  all_goals
      first | unfold runFirst | unfold runMid | unfold runLast
      frame_open
      simp (disch := decide) only [↓ View.readCov_skip, ↓ View.readCov_cons_toLoadRect, ↓ View.readCov_fill]
      frame_out
      simp only [readCov_wholePiece, same_apply]
      funext y
      idx_vars y
      open_payloads
      pointwise [ring0_read, ring1_read]
      simp only [dInput, normBack, dGain, dNormed, slabs, dGate, dUp, dAct, rinv]

set_option maxHeartbeats 2000000 in
/-- and its rounded copy. -/
theorem tile9 :
    (∀ hc0 hc1, View.canon (runFirst c t b0 b1 b2 b3 b4 b5 f0 f1 hc0 hc1).2.2.2.1 = fun y => dInput (dhRow b0 (y 0)) (xRow b1 (y 0)) (gain b2) (wRows b3) (wRows b4) (wRows b5) (gtRow t f0 (y 0)) (gtRow t f1 (y 0)) (y 1))
    ∧ (∀ hc0 hc1, View.canon (runMid c t b0 b1 b2 b3 b4 b5 o10 o11 f0 f1 hc0 hc1).2.2.2.1 = fun y => dInput (dhRow b0 (y 0)) (xRow b1 (y 0)) (gain b2) (wRows b3) (wRows b4) (wRows b5) (gtRow t f0 (y 0)) (gtRow t f1 (y 0)) (y 1))
    ∧ (∀ hc0 hc1, View.canon (runLast c t b0 b1 b2 b3 b4 b5 o10 o11 f0 f1 hc0 hc1).2.2.2.1 = fun y => dInput (dhRow b0 (y 0)) (xRow b1 (y 0)) (gain b2) (wRows b3) (wRows b4) (wRows b5) (gtRow t f0 (y 0)) (gtRow t f1 (y 0)) (y 1)) := by
  refine ⟨fun hc0 hc1 => ?_, fun hc0 hc1 => ?_, fun hc0 hc1 => ?_⟩
  all_goals
      first | unfold runFirst | unfold runMid | unfold runLast
      frame_open
      simp (disch := decide) only [↓ View.readCov_skip, ↓ View.readCov_cons_toLoadRect, ↓ View.readCov_fill]
      frame_out
      simp only [readCov_wholePiece, same_apply]
      funext y
      idx_vars y
      open_payloads
      pointwise [ring0_read, ring1_read]
      simp only [dInput, normBack, dGain, dNormed, slabs, dGate, dUp, dAct, rinv]

end Tile

end Cert.FfnBwdIdeal.Hand
-- ==== Proof.Ffn.TileGain.lean ====
module

public import proofs.«01_k».proof.Proof.Ffn.Tile

@[expose] public section

set_option maxRecDepth 16384

noncomputable section

namespace Cert.FfnBwdIdeal.Hand

open Cert.FfnBwdIdeal Cert.FfnBwdIdeal.Gen Cert.Ffn Idealize.ShloMosaic Idealize.ShloMosaic.TcCoe Idealize.SL.Sem

section Tile

variable (c : Dev nD) (t : Fin cfg0.N) (b0 b1 : Vec Ideal S256x1024 .f32) (b2 : Vec Ideal S1x1024 .f32) (b3 b4 b5 : Vec Ideal S2816x1024 .bf16)
  (o10 : Vec Ideal S1x1024 .f32) (o11 : Vec Ideal S2816x1024 .f32) (f0 f1 : FVec Ideal S4096x2816 .bf16)

set_option maxHeartbeats 2000000 in
/-- The gain's gradient after the point: the tile's rows added to what the points before left. -/
theorem tile10 :
    (∀ hc0 hc1, View.canon (runFirst c t b0 b1 b2 b3 b4 b5 f0 f1 hc0 hc1).2.2.2.2.1 = fun y => 0 + ∑ i : Fin 256, dGain (dhRow b0 i) (xRow b1 i) (wRows b3) (wRows b4) (wRows b5) (gtRow t f0 i) (gtRow t f1 i) (y 1))
    ∧ (∀ hc0 hc1, View.canon (runMid c t b0 b1 b2 b3 b4 b5 o10 o11 f0 f1 hc0 hc1).2.2.2.2.1 = fun y => o10 y + ∑ i : Fin 256, dGain (dhRow b0 i) (xRow b1 i) (wRows b3) (wRows b4) (wRows b5) (gtRow t f0 i) (gtRow t f1 i) (y 1))
    ∧ (∀ hc0 hc1, View.canon (runLast c t b0 b1 b2 b3 b4 b5 o10 o11 f0 f1 hc0 hc1).2.2.2.2.1 = fun y => o10 y + ∑ i : Fin 256, dGain (dhRow b0 i) (xRow b1 i) (wRows b3) (wRows b4) (wRows b5) (gtRow t f0 i) (gtRow t f1 i) (y 1)) := by
  refine ⟨fun hc0 hc1 => ?_, fun hc0 hc1 => ?_, fun hc0 hc1 => ?_⟩
  all_goals
      first | unfold runFirst | unfold runMid | unfold runLast
      frame_open
      simp (disch := decide) only [↓ View.readCov_skip, ↓ View.readCov_cons_toLoadRect, ↓ View.readCov_fill]
      frame_out
      simp only [readCov_wholePiece, same_apply]
      funext y
      idx_vars y
      open_payloads
      pointwise [ring0_read, ring1_read]
      simp only [dInput, normBack, dGain, dNormed, slabs, dGate, dUp, dAct, rinv]

end Tile

end Cert.FfnBwdIdeal.Hand
-- ==== Proof.Ffn.TileWeight.lean ====
module

public import proofs.«01_k».proof.Proof.Ffn.Tile

@[expose] public section

set_option maxRecDepth 16384

noncomputable section

namespace Cert.FfnBwdIdeal.Hand

open Cert.FfnBwdIdeal Cert.FfnBwdIdeal.Gen Cert.Ffn Idealize.ShloMosaic Idealize.ShloMosaic.TcCoe Idealize.SL.Sem

section Tile

variable (c : Dev nD) (t : Fin cfg0.N) (b0 b1 : Vec Ideal S256x1024 .f32) (b2 : Vec Ideal S1x1024 .f32) (b3 b4 b5 : Vec Ideal S2816x1024 .bf16)
  (o10 : Vec Ideal S1x1024 .f32) (o11 : Vec Ideal S2816x1024 .f32) (f0 f1 : FVec Ideal S4096x2816 .bf16)

set_option maxHeartbeats 2000000 in
/-- The last weight's gradient after the point: the tile's part added to what the points before left. -/
theorem tile11 :
    (∀ hc0 hc1, View.canon (runFirst c t b0 b1 b2 b3 b4 b5 f0 f1 hc0 hc1).2.2.2.2.2.1 = fun y => 0 + ∑ i : Fin 256, act (gtRow t f0 i) (gtRow t f1 i) (y 0) * (dhRow b0 i) (y 1))
    ∧ (∀ hc0 hc1, View.canon (runMid c t b0 b1 b2 b3 b4 b5 o10 o11 f0 f1 hc0 hc1).2.2.2.2.2.1 = fun y => o11 y + ∑ i : Fin 256, act (gtRow t f0 i) (gtRow t f1 i) (y 0) * (dhRow b0 i) (y 1))
    ∧ (∀ hc0 hc1, View.canon (runLast c t b0 b1 b2 b3 b4 b5 o10 o11 f0 f1 hc0 hc1).2.2.2.2.2.1 = fun y => o11 y + ∑ i : Fin 256, act (gtRow t f0 i) (gtRow t f1 i) (y 0) * (dhRow b0 i) (y 1)) := by
  refine ⟨fun hc0 hc1 => ?_, fun hc0 hc1 => ?_, fun hc0 hc1 => ?_⟩
  all_goals
      first | unfold runFirst | unfold runMid | unfold runLast
      frame_open
      simp (disch := decide) only [↓ View.readCov_skip, ↓ View.readCov_cons_toLoadRect, ↓ View.readCov_fill]
      frame_out
      simp only [readCov_wholePiece, same_apply]
      simp only [readCov_ld]
      funext y
      idx_vars y
      pointwise [k0_pay113, k0_pay6, k0_pay5]
      first
        | with_reducible refine Finset.sum_congr rfl fun i _ => ?_
        | refine Ideal.add_congr rfl (Finset.sum_congr rfl fun i _ => ?_)
      refine Ideal.mul_congr ?_ rfl
      generalize hz : (ix2 i y0 : S256x2816.Idx) = y
      obtain ⟨rfl, rfl⟩ : i = y 0 ∧ y0 = y 1 := by subst hz; exact ⟨rfl, rfl⟩
      canon_tiles x h
      all_goals
        idx_vars x
        idx_vars y
        obtain ⟨v, hv⟩ := y1
        obtain rfl : y0 = x0 := Fin.ext h0
        obtain rfl : v = _ := h1
        open_payloads
        pointwise [act, ring0_read, ring1_read]
        try rfl

end Tile

end Cert.FfnBwdIdeal.Hand
-- ==== Proof.Ffn.Names.lean ====
module

public import proofs.«01_k».proof.Proof.Ffn.Frame
public import proofs.«01_k».proof.Proof.Ffn.TileGates
public import proofs.«01_k».proof.Proof.Ffn.TileInput
public import proofs.«01_k».proof.Proof.Ffn.TileGain
public import proofs.«01_k».proof.Proof.Ffn.TileWeight

@[expose] public section

set_option maxRecDepth 16384

noncomputable section

/-! Over the reals, what the feed-forward gradient's points leave is the row-wise gradient, and the sums of its rows so far. -/

namespace Cert.FfnBwdIdeal.Hand

open Cert.FfnBwdIdeal Cert.FfnBwdIdeal.Gen Cert.Ffn
open Idealize.ShloMosaic Idealize.ShloMosaic.TcCoe Idealize.SL.Sem

variable (m : (ℓ : Loc nD τ sig) → Buf (Elt Ideal) ℓ)

section After

variable (c : Dev nD) (t : Fin cfg0.N)

/-- The rows the body reads at a point, and the weights. -/
abbrev dhAt (i : Fin 256) := dhRow (iblk m c 0 t) i
abbrev xAt (i : Fin 256) := xRow (iblk m c 1 t) i
abbrev gainAt := gain (iblk m c 2 t)
abbrev wgAt := wRows (iblk m c 3 t)
abbrev wuAt := wRows (iblk m c 4 t)
abbrev wdAt := wRows (iblk m c 5 t)
abbrev gtAt (i : Fin 256) := gtRow t (V m c main_v16) i
abbrev upAt (i : Fin 256) := gtRow t (V m c main_v17) i

/-- The tiles the body leaves at a point. -/
def gateTile : Vec Ideal S256x2816 .bf16 := fun y => dGate (dhAt m c t (y 0)) (wdAt m c t) (gtAt m c t (y 0)) (upAt m c t (y 0)) (y 1)
def upTile : Vec Ideal S256x2816 .bf16 := fun y => dUp (dhAt m c t (y 0)) (wdAt m c t) (gtAt m c t (y 0)) (y 1)
def inTile : Vec Ideal S256x1024 .f32 := fun y =>
  dInput (dhAt m c t (y 0)) (xAt m c t (y 0)) (gainAt m c t) (wgAt m c t) (wuAt m c t) (wdAt m c t) (gtAt m c t (y 0)) (upAt m c t (y 0)) (y 1)

/-- What one point adds to the gain's gradient and to the down weight's. -/
def gainPart (y : S1x1024.Idx) : EReal :=
  ∑ i : Fin 256, dGain (dhAt m c t i) (xAt m c t i) (wgAt m c t) (wuAt m c t) (wdAt m c t) (gtAt m c t i) (upAt m c t i) (y 1)
def downPart (y : S2816x1024.Idx) : EReal := ∑ i : Fin 256, act (gtAt m c t i) (upAt m c t i) (y 0) * dhAt m c t i (y 1)

end After

/-- A quantity every point adds to, after point `n`. -/
def upTo {ι : Type} (f : Fin cfg0.N → ι → EReal) : ℕ → ι → EReal
  | 0, y => if h : 0 < cfg0.N then f ⟨0, h⟩ y else 0
  | n + 1, y => upTo f n y + if h : n + 1 < cfg0.N then f ⟨n + 1, h⟩ y else 0

theorem upTo_first {ι : Type} (f : Fin cfg0.N → ι → EReal) (t : Fin cfg0.N) (h : t.val = 0) : upTo f t.val = fun y => 0 + f t y := by
  obtain ⟨n, hn⟩ := t
  obtain rfl : n = 0 := h
  funext y
  rw [zero_add]; exact dif_pos hn

theorem upTo_next {ι : Type} (f : Fin cfg0.N → ι → EReal) (t : Fin cfg0.N) (h : ¬t.val = 0) :
    upTo f t.val = fun y => upTo f (t.val - 1) y + f t y := by
  obtain ⟨n, hn⟩ := t
  cases n with
  | zero => exact absurd rfl h
  | succ n => funext y; exact congrArg (upTo f n y + ·) (dif_pos hn)

/-- What the points leave, in closed form; -/
def closedAt (c : Dev nD) (n : ℕ) : Six Ideal :=
  if h : n < cfg0.N then
    ⟨gateTile m c ⟨n, h⟩, upTile m c ⟨n, h⟩, inTile m c ⟨n, h⟩, inTile m c ⟨n, h⟩, upTo (gainPart m c) n, upTo (downPart m c) n⟩
  else sixOf [] [] [] [] [] []

theorem closedAt_eq (c : Dev nD) (t : Fin cfg0.N) : closedAt m c t.val =
    ⟨gateTile m c t, upTile m c t, inTile m c t, inTile m c t, upTo (gainPart m c) t.val, upTo (downPart m c) t.val⟩ := dif_pos t.isLt

theorem closedAt_before (c : Dev nD) (t : Fin cfg0.N) : (closedAt m c (t.val - 1)).gain = upTo (gainPart m c) (t.val - 1)
    ∧ (closedAt m c (t.val - 1)).down = upTo (downPart m c) (t.val - 1) := by
  have h : t.val - 1 < cfg0.N := by have := t.isLt; omega
  rw [closedAt_eq m c ⟨t.val - 1, h⟩]
  exact ⟨rfl, rfl⟩

set_option maxHeartbeats 1000000 in
theorem closed_first (c : Dev nD) (t : Fin cfg0.N) (h : t.val = 0) (hc0 : cond0_0 (grid0.coords t)) (hc1 : cond0_1 (grid0.coords t)) : firstSix m c t hc0 hc1 = closedAt m c t.val := by
  rw [closedAt_eq, upTo_first _ t h, upTo_first _ t h]
  unfold firstSix
  unfold gateTile upTile inTile gainPart downPart
  exact sixOf_congr ((tile6 c t _ _ _ _ _ _ (fun _ => 0) (fun _ => 0) _ _).1 hc0 hc1) ((tile7 c t _ _ _ _ _ _ (fun _ => 0) (fun _ => 0) _ _).1 hc0 hc1) ((tile8 c t _ _ _ _ _ _ (fun _ => 0) (fun _ => 0) _ _).1 hc0 hc1) ((tile9 c t _ _ _ _ _ _ (fun _ => 0) (fun _ => 0) _ _).1 hc0 hc1) ((tile10 c t _ _ _ _ _ _ (fun _ => 0) (fun _ => 0) _ _).1 hc0 hc1) ((tile11 c t _ _ _ _ _ _ (fun _ => 0) (fun _ => 0) _ _).1 hc0 hc1)

set_option maxHeartbeats 1000000 in
theorem middle_of (c : Dev nD) (t : Fin cfg0.N) (h : ¬t.val = 0) (o : Six Ideal) (hg : o.gain = upTo (gainPart m c) (t.val - 1)) (hd : o.down = upTo (downPart m c) (t.val - 1)) (hc0 : ¬cond0_0 (grid0.coords t)) (hc1 : cond0_1 (grid0.coords t)) : middleSix m c t o hc0 hc1 = closedAt m c t.val := by
  rw [closedAt_eq, upTo_next _ t h, upTo_next _ t h, ← hg, ← hd]
  unfold middleSix
  unfold gateTile upTile inTile gainPart downPart
  exact sixOf_congr ((tile6 c t _ _ _ _ _ _ _ _ _ _).2.1 hc0 hc1) ((tile7 c t _ _ _ _ _ _ _ _ _ _).2.1 hc0 hc1) ((tile8 c t _ _ _ _ _ _ _ _ _ _).2.1 hc0 hc1) ((tile9 c t _ _ _ _ _ _ _ _ _ _).2.1 hc0 hc1) ((tile10 c t _ _ _ _ _ _ _ _ _ _).2.1 hc0 hc1) ((tile11 c t _ _ _ _ _ _ _ _ _ _).2.1 hc0 hc1)

set_option maxHeartbeats 1000000 in
theorem last_of (c : Dev nD) (t : Fin cfg0.N) (h : ¬t.val = 0) (o : Six Ideal) (hg : o.gain = upTo (gainPart m c) (t.val - 1)) (hd : o.down = upTo (downPart m c) (t.val - 1)) (hc0 : ¬cond0_0 (grid0.coords t)) (hc1 : ¬cond0_1 (grid0.coords t)) : lastSix m c t o hc0 hc1 = closedAt m c t.val := by
  rw [closedAt_eq, upTo_next _ t h, upTo_next _ t h, ← hg, ← hd]
  unfold lastSix
  unfold gateTile upTile inTile gainPart downPart
  exact sixOf_congr ((tile6 c t _ _ _ _ _ _ _ _ _ _).2.2 hc0 hc1) ((tile7 c t _ _ _ _ _ _ _ _ _ _).2.2 hc0 hc1) ((tile8 c t _ _ _ _ _ _ _ _ _ _).2.2 hc0 hc1) ((tile9 c t _ _ _ _ _ _ _ _ _ _).2.2 hc0 hc1) ((tile10 c t _ _ _ _ _ _ _ _ _ _).2.2 hc0 hc1) ((tile11 c t _ _ _ _ _ _ _ _ _ _).2.2 hc0 hc1)

/-- so these arrays are what the points leave. -/
def closed (c : Dev nD) : Left m c where
  at' := closedAt m c
  first_eq := closed_first m c
  middle_eq t h := middle_of m c t h _ (closedAt_before m c t).1 (closedAt_before m c t).2
  last_eq t h := last_of m c t h _ (closedAt_before m c t).1 (closedAt_before m c t).2

theorem closed_at (c : Dev nD) (t : Fin cfg0.N) : (closed m c).at' t.val =
    ⟨gateTile m c t, upTile m c t, inTile m c t, inTile m c t, upTo (gainPart m c) t.val, upTo (downPart m c) t.val⟩ := closedAt_eq m c t

end Cert.FfnBwdIdeal.Hand
-- ==== Proof.Ffn.Value.lean ====
module

public import proofs.«01_k».proof.Proof.Ffn.Names
public import Idealize.ShloMosaic.Lib.Pipeline.Value
public import Idealize.ShloMosaic.Lib.Pipeline.ValueKit
public import Idealize.ShloMosaic.Lib.Claim

@[expose] public section

set_option maxRecDepth 16384

noncomputable section

/-! The feed-forward gradient's results, whole arrays: every entry is the row-wise gradient at its row. -/

namespace Cert.FfnBwdIdeal.Hand

open Cert.FfnBwdIdeal Cert.FfnBwdIdeal.Gen Cert.Ffn
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem places : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![t.val, 0] ∧ win0_7.index t = ![t.val, 0] ∧ win0_8.index t = ![t.val, 0]
    ∧ win0_9.index t = ![t.val, 0] ∧ win0_10.index t = ![0, 0] ∧ win0_11.index t = ![0, 0] :=
  (by decide +kernel : ∀ t : Fin grid0.N, _)

section Rows

variable (c : Dev nD)

/-- The arguments' rows: the cotangent, the block's input, the gain; the weights, by hidden unit; the two projections of the normalised input. -/
def dhs (r : Fin 4096) (k : Fin 1024) : EReal := m ((c : Thread nD τ).loc main_arg0) (ix2 r k)
def xs (r : Fin 4096) (k : Fin 1024) : EReal := m ((c : Thread nD τ).loc main_arg1) (ix2 r k)
def gs (k : Fin 1024) : EReal := m ((c : Thread nD τ).loc main_arg2) (ix2 0 k)
def wgs (j : Fin 2816) (k : Fin 1024) : EReal := m ((c : Thread nD τ).loc main_arg3) (ix2 k j)
def wus (j : Fin 2816) (k : Fin 1024) : EReal := m ((c : Thread nD τ).loc main_arg4) (ix2 k j)
def wds (j : Fin 2816) (k : Fin 1024) : EReal := m ((c : Thread nD τ).loc main_arg5) (ix2 j k)
def gts (r : Fin 4096) (j : Fin 2816) : EReal := V m c main_v16 (ix2 r j)
def ups (r : Fin 4096) (j : Fin 2816) : EReal := V m c main_v17 (ix2 r j)

theorem dhAt_eq (t : Fin cfg0.N) (i : Fin 256) : dhAt m c t i = dhs m c (row t i) := by
  funext k
  unfold dhs row dhAt dhRow
  blk_ext [iblk, V, places t]
theorem xAt_eq (t : Fin cfg0.N) (i : Fin 256) : xAt m c t i = xs m c (row t i) := by
  funext k
  unfold xs row xAt xRow
  blk_ext [iblk, V, places t]
theorem gainAt_eq (t : Fin cfg0.N) : gainAt m c t = gs m c := by
  funext k
  unfold gs gainAt gain
  blk_ext [iblk, V, places t]

theorem block3 (t : Fin cfg0.N) : (iblk m c 3 t : Vec Ideal S2816x1024 .bf16) = V m c main_v19 := by
  funext x
  blk_ext [iblk, places t]
theorem block4 (t : Fin cfg0.N) : (iblk m c 4 t : Vec Ideal S2816x1024 .bf16) = V m c main_v21 := by
  funext x
  blk_ext [iblk, places t]
theorem block5 (t : Fin cfg0.N) : (iblk m c 5 t : Vec Ideal S2816x1024 .bf16) = V m c main_v22 := by
  funext x
  blk_ext [iblk, places t]

theorem wgAt_eq (t : Fin cfg0.N) : wgAt m c t = wgs m c := by
  funext j k
  unfold wgs wgAt wRows
  rw [block3 m c t]
  entry_read
  pointwise
theorem wuAt_eq (t : Fin cfg0.N) : wuAt m c t = wus m c := by
  funext j k
  unfold wus wuAt wRows
  rw [block4 m c t]
  entry_read
  pointwise
theorem wdAt_eq (t : Fin cfg0.N) : wdAt m c t = wds m c := by
  funext j k
  unfold wds wdAt wRows
  rw [block5 m c t]
  entry_read
  pointwise

/-- The results as functions of the arguments' rows and the two projections. -/
def gateOut : Vec Ideal S4096x2816 .bf16 := fun y => dGate (dhs m c (y 0)) (wds m c) (gts m c (y 0)) (ups m c (y 0)) (y 1)
def upOut : Vec Ideal S4096x2816 .bf16 := fun y => dUp (dhs m c (y 0)) (wds m c) (gts m c (y 0)) (y 1)
def inOut : Vec Ideal S4096x1024 .f32 := fun y =>
  dInput (dhs m c (y 0)) (xs m c (y 0)) (gs m c) (wgs m c) (wus m c) (wds m c) (gts m c (y 0)) (ups m c (y 0)) (y 1)
def gainOut : Vec Ideal S1x1024 .f32 := fun y =>
  ∑ r : Fin 4096, dGain (dhs m c r) (xs m c r) (wgs m c) (wus m c) (wds m c) (gts m c r) (ups m c r) (y 1)
def downOut : Vec Ideal S2816x1024 .f32 := fun y => ∑ r : Fin 4096, act (gts m c r) (ups m c r) (y 0) * dhs m c r (y 1)

theorem gtAt_eq (t : Fin cfg0.N) (i : Fin 256) : gtAt m c t i = gts m c (row t i) := rfl
theorem upAt_eq (t : Fin cfg0.N) (i : Fin 256) : upAt m c t i = ups m c (row t i) := rfl

theorem gate_at (t : Fin cfg0.N) (i : Fin 256) (j : Fin 2816) :
    dGate (dhAt m c t i) (wdAt m c t) (gtAt m c t i) (upAt m c t i) j = gateOut m c (ix2 (row t i) j) := by
  rw [dhAt_eq, gtAt_eq, upAt_eq, wdAt_eq]; rfl
theorem up_at (t : Fin cfg0.N) (i : Fin 256) (j : Fin 2816) :
    dUp (dhAt m c t i) (wdAt m c t) (gtAt m c t i) j = upOut m c (ix2 (row t i) j) := by
  rw [dhAt_eq, gtAt_eq, wdAt_eq]; rfl
theorem in_at (t : Fin cfg0.N) (i : Fin 256) (j : Fin 1024) :
    dInput (dhAt m c t i) (xAt m c t i) (gainAt m c t) (wgAt m c t) (wuAt m c t) (wdAt m c t) (gtAt m c t i) (upAt m c t i) j
      = inOut m c (ix2 (row t i) j) := by
  rw [dhAt_eq, gtAt_eq, upAt_eq, xAt_eq, gainAt_eq, wgAt_eq, wuAt_eq, wdAt_eq]; rfl
theorem tile6_at (t : Fin cfg0.N) (y : S256x2816.Idx) : gateTile m c t y = gateOut m c (ix2 (row t (y 0)) (y 1)) := gate_at m c t (y 0) (y 1)
theorem tile7_at (t : Fin cfg0.N) (y : S256x2816.Idx) : upTile m c t y = upOut m c (ix2 (row t (y 0)) (y 1)) := up_at m c t (y 0) (y 1)
theorem tile8_at (t : Fin cfg0.N) (y : S256x1024.Idx) : inTile m c t y = inOut m c (ix2 (row t (y 0)) (y 1)) := in_at m c t (y 0) (y 1)

theorem final6 : (dats m (closed m) 0 c).arrAt 6 cfg0.N = gateOut m c := by
  refine (dats m (closed m) 0 c).arrAt_eq_of_covers 6 _ (by decide +kernel) fun t _ y => ?_
  rw [(afterOut m (closed m) c t).1, closed_at m c t]
  refine (tile6_at m c t y).trans ?_
  unfold row
  blk_ext [places t]
theorem final7 : (dats m (closed m) 0 c).arrAt 7 cfg0.N = upOut m c := by
  refine (dats m (closed m) 0 c).arrAt_eq_of_covers 7 _ (by decide +kernel) fun t _ y => ?_
  rw [(afterOut m (closed m) c t).2.1, closed_at m c t]
  refine (tile7_at m c t y).trans ?_
  unfold row
  blk_ext [places t]
theorem final8 : (dats m (closed m) 0 c).arrAt 8 cfg0.N = inOut m c := by
  refine (dats m (closed m) 0 c).arrAt_eq_of_covers 8 _ (by decide +kernel) fun t _ y => ?_
  rw [(afterOut m (closed m) c t).2.2.1, closed_at m c t]
  refine (tile8_at m c t y).trans ?_
  unfold row
  blk_ext [places t]
theorem final9 : (dats m (closed m) 0 c).arrAt 9 cfg0.N = inOut m c := by
  refine (dats m (closed m) 0 c).arrAt_eq_of_covers 9 _ (by decide +kernel) fun t _ y => ?_
  rw [(afterOut m (closed m) c t).2.2.2.1, closed_at m c t]
  refine (tile8_at m c t y).trans ?_
  unfold row
  blk_ext [places t]

theorem upTo_sum {ι : Type} (f : Fin cfg0.N → ι → EReal) (n : ℕ) (y : ι) :
    upTo f n y = ∑ k ∈ Finset.range (n + 1), if h : k < cfg0.N then f ⟨k, h⟩ y else 0 := by
  induction n with
  | zero => simp [upTo]
  | succ n ih => rw [Finset.sum_range_succ, ← ih]; rfl

/-- The sum over the points of the sums over each point's rows is the sum over all rows. -/
theorem upTo_rows {ι : Type} (f : Fin cfg0.N → ι → EReal) (H : Fin 4096 → ι → EReal) (h : ∀ t y, f t y = ∑ i : Fin 256, H (row t i) y) (y : ι) :
    upTo f 15 y = ∑ r, H r y := by
  rw [upTo_sum, Finset.sum_range, Fin.sum_univ_tiles 16 256 rfl]
  refine Finset.sum_congr rfl fun k _ => ?_
  rw [dif_pos (show k.val < cfg0.N by rw [show cfg0.N = 16 from N_0]; exact k.isLt), h]
  refine Finset.sum_congr rfl fun i _ => congrArg (H · y) (Fin.ext ?_)
  dsimp only [row]
  omega

/-- The last point. -/
def lastPoint : Fin cfg0.N := ⟨15, by rw [show cfg0.N = 16 from N_0]; omega⟩

theorem final10 : (dats m (closed m) 0 c).arrAt 10 cfg0.N = gainOut m c := by
  refine (dats m (closed m) 0 c).arrAt_eq_of_after_last 10 lastPoint (by decide +kernel) _ fun j => ?_
  rw [(afterOut m (closed m) c lastPoint).2.2.2.2.1, closed_at m c lastPoint]
  refine (upTo_rows _ (fun r y => dGain (dhs m c r) (xs m c r) (wgs m c) (wus m c) (wds m c) (gts m c r) (ups m c r) (y 1)) (fun t y => ?_) j).trans ?_
  · unfold gainPart
    simp only [dhAt_eq, xAt_eq, wgAt_eq, wuAt_eq, wdAt_eq]
    rfl
  · unfold gainOut
    blk_ext [places lastPoint]
theorem final11 : (dats m (closed m) 0 c).arrAt 11 cfg0.N = downOut m c := by
  refine (dats m (closed m) 0 c).arrAt_eq_of_after_last 11 lastPoint (by decide +kernel) _ fun j => ?_
  rw [(afterOut m (closed m) c lastPoint).2.2.2.2.2, closed_at m c lastPoint]
  refine (upTo_rows _ (fun r y => act (gts m c r) (ups m c r) (y 0) * dhs m c r (y 1)) (fun t y => ?_) j).trans ?_
  · unfold downPart
    refine Finset.sum_congr rfl fun i _ => ?_
    rw [dhAt_eq]
    rfl
  · unfold downOut
    blk_ext [places lastPoint]

end Rows

end Cert.FfnBwdIdeal.Hand
-- ==== Proof.Kit.Num.lean ====
module

public import Idealize.ShloMosaic.Lib.IdealHost
public import Idealize.ShloMosaic.PureOps.Ideal
public import Idealize.ShloMosaic.Lib.ReduceAll
public import Idealize.ShloMosaic.Lib.StableHlo
public import Idealize.ShloMosaic.PureOps

@[expose] public section

noncomputable section

/-! Extended reals that are real numbers, and the operations that keep them so. -/

namespace Cert.Kit

open Idealize.ShloMosaic

/-- The extended real `x` is a real number. -/
def Num (x : EReal) : Prop := ∃ r : ℝ, x = r

namespace Num

variable {x y : EReal}

theorem coe (r : ℝ) : Num (r : EReal) := ⟨r, rfl⟩
theorem zero : Num 0 := ⟨0, rfl⟩
theorem one : Num 1 := ⟨1, rfl⟩
theorem add : Num x → Num y → Num (x + y) := by rintro ⟨a, rfl⟩ ⟨b, rfl⟩; exact ⟨a + b, rfl⟩
theorem sub : Num x → Num y → Num (x - y) := by rintro ⟨a, rfl⟩ ⟨b, rfl⟩; exact ⟨a - b, rfl⟩
theorem mul : Num x → Num y → Num (x * y) := by rintro ⟨a, rfl⟩ ⟨b, rfl⟩; exact ⟨a * b, rfl⟩
theorem neg : Num x → Num (-x) := by rintro ⟨a, rfl⟩; exact ⟨-a, rfl⟩

theorem sum_coe {ι : Type} (s : Finset ι) (f : ι → ℝ) : ∑ i ∈ s, (f i : EReal) = ((∑ i ∈ s, f i : ℝ) : EReal) := by
  induction s using Finset.cons_induction with
  | empty => rfl
  | cons a s h ih => rw [Finset.sum_cons, Finset.sum_cons, ih]; rfl

theorem sum {ι : Type} {s : Finset ι} {f : ι → EReal} (h : ∀ i, Num (f i)) : Num (∑ i ∈ s, f i) := by
  choose g hg using h
  exact ⟨∑ i ∈ s, g i, by rw [← sum_coe]; exact Finset.sum_congr rfl fun i _ => hg i⟩

/-- A number times a sum of numbers, taken inside. -/
theorem mul_sum {ι : Type} {s : Finset ι} {f : ι → EReal} (hx : Num x) (h : ∀ i, Num (f i)) : x * ∑ i ∈ s, f i = ∑ i ∈ s, x * f i := by
  obtain ⟨a, rfl⟩ := hx
  choose g hg using h
  obtain rfl : f = fun i => (g i : EReal) := funext hg
  simp only [sum_coe, ← EReal.coe_mul, Finset.mul_sum]

/-- Neither infinity. -/
theorem of_ne (h1 : x ≠ ⊤) (h2 : x ≠ ⊥) : Num x := ⟨x.toReal, (EReal.coe_toReal h1 h2).symm⟩

theorem div_coe (a : ℝ) {b : ℝ} (h : b ≠ 0) : Ideal.div a b = ((a / b : ℝ) : EReal) := by
  unfold Ideal.div
  rw [if_neg (by exact_mod_cast h), ← EReal.coe_inv, ← EReal.coe_mul, div_eq_mul_inv]

theorem exp_coe (a : ℝ) : Ideal.exp a = ((Real.exp a : ℝ) : EReal) := rfl

theorem logistic_coe (a : ℝ) : Ideal.logistic a = ((1 / (1 + Real.exp (-a)) : ℝ) : EReal) := by
  unfold Ideal.logistic
  rw [← EReal.coe_neg, exp_coe, ← EReal.coe_one, ← EReal.coe_add, div_coe _ (by positivity)]

theorem logistic : Num x → Num (Ideal.logistic x) := by rintro ⟨a, rfl⟩; exact ⟨_, logistic_coe a⟩

theorem rsqrt_coe {a : ℝ} (h : 0 < a) : Ideal.rsqrt a = (((Real.sqrt a)⁻¹ : ℝ) : EReal) := by
  show (if a < 0 then ⊥ else if a = 0 then ⊤ else ((Real.sqrt a)⁻¹ : ℝ) : EReal) = _
  rw [if_neg (not_lt.mpr h.le), if_neg h.ne']

/-- One over a root, divided once more by what is under the root: its cube. -/
theorem rsqrt_div {a : ℝ} (h : 0 < a) :
    Ideal.div (((Real.sqrt a)⁻¹ : ℝ) : EReal) a = (((Real.sqrt a)⁻¹ * (Real.sqrt a)⁻¹ * (Real.sqrt a)⁻¹ : ℝ) : EReal) := by
  rw [div_coe _ h.ne']
  congr 1
  have hs : Real.sqrt a ≠ 0 := (Real.sqrt_pos.mpr h).ne'
  have e : Real.sqrt a * Real.sqrt a = a := Real.mul_self_sqrt h.le
  field_simp
  nlinarith [e]

theorem ofBits_1024 : Ideal.ofBits .f32 0x44800000#32 = ((1024 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul, -EReal.coe_neg]; norm_num
/-- The number added under a norm's root. -/
def small : ℝ := 8796093 / 8796093022208
theorem ofBits_small : Ideal.ofBits .f32 0x358637BD#32 = ((small : ℝ) : EReal) := by
  unfold small
  simp [Ideal.ofBits, Ideal.ieee, -EReal.coe_mul]; norm_num
theorem small_pos : 0 < small := by unfold small; norm_num

/-- A norm's gradient the way differentiating its square root writes it, and with the cube of the root's reciprocal. -/
theorem norm_back {h d g x q s : EReal} (hh : Num h) (hd : Num d) (hg : Num g) (hx : Num x) (hq : Num q) (hs : Num s) :
    h + d * g * q + x * Ideal.div (s * (Ideal.ofBits .f32 0xBF000000#32 * (q * q * q))) (Ideal.ofBits .f32 0x44800000#32)
      + Ideal.div (s * (Ideal.ofBits .f32 0xBF000000#32 * (q * q * q))) (Ideal.ofBits .f32 0x44800000#32) * x
    = h + (q * (d * g) - x * (q * q * q) * Ideal.div s (Ideal.ofBits .f32 0x44800000#32)) := by
  obtain ⟨h, rfl⟩ := hh
  obtain ⟨d, rfl⟩ := hd
  obtain ⟨g, rfl⟩ := hg
  obtain ⟨x, rfl⟩ := hx
  obtain ⟨q, rfl⟩ := hq
  obtain ⟨s, rfl⟩ := hs
  simp only [ofBits_1024, ofBits_neg_half, ← EReal.coe_mul, div_coe _ (show (1024 : ℝ) ≠ 0 by norm_num), ← EReal.coe_add, ← EReal.coe_sub]
  congr 1
  ring

theorem ofBits_top : Ideal.ofBits .f32 0x7F800000#32 = ⊤ := by
  simp [Ideal.ofBits, Ideal.ieee]

theorem of_abs_lt (h : Ideal.cmp .olt (max x (-x)) (Ideal.ofBits .f32 0x7F800000#32) = 1#1) : Num x := by
  rw [ofBits_top] at h
  have h' : max x (-x) < ⊤ := by
    by_contra c
    simp [Ideal.cmp, c] at h
  refine of_ne (fun e => ?_) fun e => ?_
  · rw [e] at h'; simp at h'
  · rw [e] at h'; simp at h'

/-- An array every entry of which is below infinity in magnitude holds numbers. -/
theorem of_all {s t u : Shape} {axes : List (Fin s.rank)} [Subsingleton t.Idx] (x : FVec Ideal s .f32) (b : FVec Ideal s .f32)
    (hb : ∀ i, b i = Ideal.ofBits .f32 0x7F800000#32) (init : u.Idx → BitVec 1) (h : s.ReducesTo axes t) (hu : 0 < u.numel) (j : t.Idx)
    (e : Host.reduce IntOp.andi (cmpf .olt (Host.absf x) b) init h hu j = 1#1) (i : s.Idx) : Num (x i) := by
  have := Host.reduce_andi_all _ _ _ _ _ e i
  refine of_abs_lt ?_
  rw [← hb i]
  exact this

end Num

end Cert.Kit
-- ==== Proof.Ffn.Ref.lean ====
module

public import proofs.«01_k».proof.Proof.Ffn.Spec
public import proofs.«01_k».proof.Proof.Kit.Num
public import proofs.«01_k».proof.Proof.Gen.FfnBwdRefIdeal.Read
public import Idealize.ShloMosaic.Lib.Pointwise
public import Idealize.ShloMosaic.Lib.IdealHost

@[expose] public section

set_option maxRecDepth 16384

noncomputable section

/-! The reference's results, entry by entry, are the row-wise gradient. -/

namespace Cert.FfnBwdRefIdeal.Hand

open Cert.FfnBwdRefIdeal Cert.FfnBwdRefIdeal.Gen Cert.FfnBwdRefIdeal.Read Cert.Ffn Cert.Kit
open Idealize.ShloMosaic Idealize.ShloMosaic.TcCoe Idealize.SL.Sem

variable (x0 x1 : (⟨S4096x1024, .f32⟩ : BufTy).Contents (Elt Ideal)) (x2 : (⟨S1x1024, .f32⟩ : BufTy).Contents (Elt Ideal))
  (x3 x4 : (⟨S1024x2816, .f32⟩ : BufTy).Contents (Elt Ideal)) (x5 : (⟨S2816x1024, .f32⟩ : BufTy).Contents (Elt Ideal))
  (r : Fin 4096) (k : Fin 1024) (j : Fin 2816)

/-- The arguments' rows, and the two projections' rows. -/
abbrev DH : Fin 4096 → Fin 1024 → EReal := fun r k => x0 (ix2 r k)
abbrev X : Fin 4096 → Fin 1024 → EReal := fun r k => x1 (ix2 r k)
abbrev G : Fin 1024 → EReal := fun k => x2 (ix2 0 k)
abbrev WT (w : (⟨S1024x2816, .f32⟩ : BufTy).Contents (Elt Ideal)) : Fin 2816 → Fin 1024 → EReal := fun j k => w (ix2 k j)
abbrev WD : Fin 2816 → Fin 1024 → EReal := fun j k => x5 (ix2 j k)
abbrev GT : Fin 4096 → Fin 2816 → EReal := fun r j => val_main_v17 (F := Ideal) x1 x2 x3 (ix2 r j)
abbrev UP : Fin 4096 → Fin 2816 → EReal := fun r j => val_main_v18 (F := Ideal) x1 x2 x4 (ix2 r j)

theorem root : val_main_v8 (F := Ideal) x1 (ix2 r 0) = rinv (X x1 r) := by
  unfold rinv
  pointwise [val_main_v8, val_main_v7, val_main_v6, val_main_v5, val_main_v4, val_main_v3, val_main_v2, val_main_v1, val_main_cst_1, val_main_cst_0, val_main_cst]

theorem scaled : val_main_v13 (F := Ideal) x1 (ix2 r k) = X x1 r k * rinv (X x1 r) := by
  pointwise [val_main_v13, val_main_v12]
  rw [root]

theorem normed : val_main_v16 (F := Ideal) x1 x2 (ix2 r k) = X x1 r k * rinv (X x1 r) * G x2 k := by
  pointwise [val_main_v16, val_main_v15, val_main_v14, val_main_v0]
  rw [scaled]

theorem gate : GT x1 x2 x3 r j = ∑ k, val_main_v16 (F := Ideal) x1 x2 (ix2 r k) * WT x3 j k := by
  unfold GT WT
  pointwise [val_main_v17]
theorem lin : UP x1 x2 x4 r j = ∑ k, val_main_v16 (F := Ideal) x1 x2 (ix2 r k) * WT x4 j k := by
  unfold UP WT
  pointwise [val_main_v18]

theorem sigmoid : val_main_v19_2 (F := Ideal) x1 x2 x3 (ix2 r j) = Ideal.logistic (GT x1 x2 x3 r j) := by
  unfold Ideal.logistic
  pointwise [val_main_v19_2, val_main_call0_v4, val_main_call0_v3, val_main_call0_v2, val_main_call0_v1, val_main_call0_v0, val_main_call0_cst, val_main_call0_cst_0]

theorem cot : val_main_v26 (F := Ideal) x0 x5 (ix2 r j) = dAct (DH x0 r) (WD x5) j := by
  unfold dAct
  pointwise [val_main_v26, val_main_v23]

theorem product : val_main_v20 (F := Ideal) x1 x2 x3 x4 (ix2 r j) = act (GT x1 x2 x3 r) (UP x1 x2 x4 r) j := by
  unfold act
  pointwise [val_main_v20, val_main_v19_0]
  rw [sigmoid]

theorem up : val_main_v27 (F := Ideal) x0 x1 x2 x3 x5 (ix2 r j) = dUp (DH x0 r) (WD x5) (GT x1 x2 x3 r) j := by
  unfold dUp
  pointwise [val_main_v27, val_main_v19_0]
  rw [sigmoid, cot, mul_comm]

theorem down : val_main_v25 (F := Ideal) x0 x1 x2 x3 x4 (ix2 j k) = ∑ r, act (GT x1 x2 x3 r) (UP x1 x2 x4 r) j * DH x0 r k := by
  pointwise [val_main_v25, val_main_v24, val_main_v23]
  exact Finset.sum_congr rfl fun r _ => by rw [product, mul_comm]

section Finite

variable (h0 : ∀ i, Num (x0 i)) (h1 : ∀ i, Num (x1 i)) (h2 : ∀ i, Num (x2 i)) (h3 : ∀ i, Num (x3 i)) (h4 : ∀ i, Num (x4 i))
  (h5 : ∀ i, Num (x5 i))

include h1 in
/-- The root's argument is a positive number. -/
theorem under : ∃ a : ℝ, 0 < a ∧ Ideal.div (∑ k, X x1 r k * X x1 r k) width + eps = a := by
  choose f hf using fun k => h1 (ix2 r k)
  refine ⟨(∑ k, f k * f k) / 1024 + Num.small, ?_, ?_⟩
  · exact add_pos_of_nonneg_of_pos (div_nonneg (Finset.sum_nonneg fun k _ => mul_self_nonneg _) (by norm_num)) Num.small_pos
  · simp only [X, hf, ← EReal.coe_mul, Num.sum_coe, width, eps, Num.ofBits_1024, Num.ofBits_small]
    rw [Num.div_coe _ (by norm_num), ← EReal.coe_add]

include h1 in
theorem rinv_num : Num (rinv (X x1 r)) := by
  obtain ⟨a, ha, e⟩ := under x1 r h1
  unfold rinv
  rw [e, Num.rsqrt_coe ha]
  exact Num.coe _

include h1 in
theorem rinv_cube : Ideal.div (rinv (X x1 r)) (Ideal.div (∑ k, X x1 r k * X x1 r k) width + eps)
    = rinv (X x1 r) * rinv (X x1 r) * rinv (X x1 r) := by
  obtain ⟨a, ha, e⟩ := under x1 r h1
  unfold rinv
  rw [e, Num.rsqrt_coe ha, Num.rsqrt_div ha, EReal.coe_mul, EReal.coe_mul]

include h1 h2 in
theorem normed_num : Num (val_main_v16 (F := Ideal) x1 x2 (ix2 r k)) := by
  rw [normed]; exact ((h1 _).mul (rinv_num x1 r h1)).mul (h2 _)
include h1 h2 h3 in
theorem gate_num : Num (GT x1 x2 x3 r j) := by
  rw [gate]; exact Num.sum fun k => (normed_num x1 x2 r k h1 h2).mul (h3 _)
include h1 h2 h4 in
theorem lin_num : Num (UP x1 x2 x4 r j) := by
  rw [lin]; exact Num.sum fun k => (normed_num x1 x2 r k h1 h2).mul (h4 _)
include h0 h5 in
theorem cot_num : Num (dAct (DH x0 r) (WD x5) j) := Num.sum fun k => (h0 _).mul (h5 _)

include h0 h1 h2 h3 h4 h5 in
theorem gated : val_main_v29 (F := Ideal) x0 x1 x2 x3 x4 x5 (ix2 r j) = dGate (DH x0 r) (WD x5) (GT x1 x2 x3 r) (UP x1 x2 x4 r) j := by
  unfold dGate
  pointwise [val_main_v29, val_main_call1_v2, val_main_call1_v1, val_main_call1_v0, val_main_v28, val_main_v19_1, val_main_call0_v7, val_main_call0_v6,
    val_main_call0_cst_1]
  rw [sigmoid, cot]
  obtain ⟨a, ha⟩ := cot_num x0 x5 r j h0 h5
  obtain ⟨b, hb⟩ := gate_num x1 x2 x3 r j h1 h2 h3
  obtain ⟨c, hc⟩ := lin_num x1 x2 x4 r j h1 h2 h4
  obtain ⟨d, hd⟩ := (gate_num x1 x2 x3 r j h1 h2 h3).logistic
  dsimp only [GT, UP] at hb hc hd ⊢
  rw [ha, hd, hb, hc]
  norm_cast
  congr 1
  ring

include h0 h1 h2 h3 h4 h5 in
theorem gated_num : Num (dGate (DH x0 r) (WD x5) (GT x1 x2 x3 r) (UP x1 x2 x4 r) j) := by
  have hg := gate_num x1 x2 x3 r j h1 h2 h3
  exact ((cot_num x0 x5 r j h0 h5).mul (lin_num x1 x2 x4 r j h1 h2 h4)).mul (hg.logistic.mul (Num.one.add (hg.mul (Num.one.sub hg.logistic))))
include h0 h1 h2 h3 h5 in
theorem up_num : Num (dUp (DH x0 r) (WD x5) (GT x1 x2 x3 r) j) := by
  have hg := gate_num x1 x2 x3 r j h1 h2 h3
  exact (cot_num x0 x5 r j h0 h5).mul (hg.mul hg.logistic)

/-- The normalised row's cotangent, from the arguments. -/
abbrev DN : Fin 4096 → Fin 1024 → EReal := fun r => dNormed (DH x0 r) (WT x3) (WT x4) (WD x5) (GT x1 x2 x3 r) (UP x1 x2 x4 r)

include h0 h1 h2 h3 h4 h5 in
theorem back : val_main_v32 (F := Ideal) x0 x1 x2 x3 x4 x5 (ix2 r k) = DN x0 x1 x2 x3 x4 x5 r k := by
  unfold DN dNormed
  pointwise [val_main_v32, val_main_v31, val_main_v30]
  rw [add_comm]
  refine congrArg₂ (· + ·) (Finset.sum_congr rfl fun j _ => ?_) (Finset.sum_congr rfl fun j _ => ?_)
  · rw [gated x0 x1 x2 x3 x4 x5 r j h0 h1 h2 h3 h4 h5]
  · rw [up]

include h0 h1 h2 h3 h4 h5 in
theorem back_num : Num (DN x0 x1 x2 x3 x4 x5 r k) := by
  unfold DN dNormed
  exact (Num.sum fun j => (gated_num x0 x1 x2 x3 x4 x5 r j h0 h1 h2 h3 h4 h5).mul (h3 _)).add
    (Num.sum fun j => (up_num x0 x1 x2 x3 x5 r j h0 h1 h2 h3 h5).mul (h4 _))

include h0 h1 h2 h3 h4 h5 in
theorem gained : val_main_v54 (F := Ideal) x0 x1 x2 x3 x4 x5 (ix2 0 k)
    = ∑ r, dGain (DH x0 r) (X x1 r) (WT x3) (WT x4) (WD x5) (GT x1 x2 x3 r) (UP x1 x2 x4 r) k := by
  pointwise [val_main_v54, val_main_v38, val_main_v35, val_main_v34, val_main_v33, val_main_cst_3, val_main_cst_4]
  rw [Fin.sum_univ_one]
  refine Finset.sum_congr rfl fun r _ => ?_
  unfold dGain
  rw [scaled, back x0 x1 x2 x3 x4 x5 r k h0 h1 h2 h3 h4 h5, mul_comm]

include h0 h1 h2 h3 h4 h5 in
theorem entered : val_main_v53 (F := Ideal) x0 x1 x2 x3 x4 x5 (ix2 r k)
    = dInput (DH x0 r) (X x1 r) (G x2) (WT x3) (WT x4) (WD x5) (GT x1 x2 x3 r) (UP x1 x2 x4 r) k := by
  unfold dInput normBack
  pointwise [val_main_v53, val_main_v52, val_main_v51, val_main_v50, val_main_v49, val_main_v48, val_main_v47, val_main_v46, val_main_v45, val_main_v44,
    val_main_v43, val_main_v42, val_main_v41, val_main_v40, val_main_v39, val_main_v37, val_main_v36, val_main_v14, val_main_v0, val_main_v11, val_main_v10, val_main_v9,
    val_main_v7, val_main_v6, val_main_v5, val_main_v4, val_main_v3, val_main_v2, val_main_v1, val_main_cst_7, val_main_cst_6, val_main_cst_5, val_main_cst_2,
    val_main_cst_1, val_main_cst_0, val_main_cst]
  simp only [Fin.sum_univ_one, root]
  have e : Ideal.div (∑ x, x1 (ix2 r x) * x1 (ix2 r x)) (Ideal.ofBits FTy.f32 1149239296#32) + Ideal.ofBits FTy.f32 897988541#32
      = Ideal.div (∑ k, X x1 r k * X x1 r k) width + eps := rfl
  have b (x : Fin 1024) := back x0 x1 x2 x3 x4 x5 r x h0 h1 h2 h3 h4 h5
  simp only [e, rinv_cube x1 r h1, b]
  have n (x : Fin 1024) := back_num x0 x1 x2 x3 x4 x5 r x h0 h1 h2 h3 h4 h5
  refine (Num.norm_back (h0 _) (n k) (h2 (ix2 0 k)) (h1 _) (rinv_num x1 r h1) (Num.sum fun x => (h1 (ix2 r x)).mul ((n x).mul (h2 (ix2 0 x))))).trans ?_
  rw [Finset.sum_congr rfl fun x _ => mul_comm (x1 (ix2 r x)) (DN x0 x1 x2 x3 x4 x5 r x * x2 (ix2 0 x))]

end Finite

end Cert.FfnBwdRefIdeal.Hand
-- ==== Proof.Ffn.Claim.lean ====
module

public import proofs.«01_k».proof.Defs
public import proofs.«01_k».proof.Proof.Ffn.Value
public import proofs.«01_k».proof.Proof.Ffn.Ref
public import proofs.«01_k».proof.Proof.Gen.Pre_ffn_finite

@[expose] public section

set_option maxRecDepth 16384

noncomputable section

/-! The feed-forward gradient: the kernel's results are the reference's. -/

namespace Cert.FfnBwdIdeal.Hand

open Cert.FfnBwdIdeal Cert.FfnBwdIdeal.Gen Cert.Ffn Cert.Kit
open Idealize.ShloMosaic Idealize.ShloMosaic.TcCoe Idealize.SL.Sem
open Cert.FfnBwdRefIdeal.Read (val_main_v17 val_main_v18 val_main_v25 val_main_v53 val_main_v54 val_main_v55 val_main_v56 val_main_v57)
open Cert.FfnBwdRefIdeal.Hand (normed gate lin)

variable (m : (ℓ : Loc nD τ sig) → Buf (Elt Ideal) ℓ) (c : Dev nD)

abbrev in0 := m ((c : Thread nD τ).loc main_arg0)
abbrev in1 := m ((c : Thread nD τ).loc main_arg1)
abbrev in2 := m ((c : Thread nD τ).loc main_arg2)
abbrev in3 := m ((c : Thread nD τ).loc main_arg3)
abbrev in4 := m ((c : Thread nD τ).loc main_arg4)
abbrev in5 := m ((c : Thread nD τ).loc main_arg5)

/-- The precondition says every argument entry is a number. -/
theorem numbers (h : Cert.Pre_FfnBwdIdeal_ffn_finite m) : (∀ i, Num (in0 m c i)) ∧ (∀ i, Num (in1 m c i)) ∧ (∀ i, Num (in2 m c i))
    ∧ (∀ i, Num (in3 m c i)) ∧ (∀ i, Num (in4 m c i)) ∧ ∀ i, Num (in5 m c i) := by
  have e := congrFun (h c) (fun a => a.elim0)
  haveI : Subsingleton (Shape.Idx Cert.Pre_ffn_finite.S_) := ⟨fun a b => funext fun i => i.elim0⟩
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨Num.of_all _ _ (fun _ => rfl) _ _ _ _ e0, Num.of_all _ _ (fun _ => rfl) _ _ _ _ e1, Num.of_all _ _ (fun _ => rfl) _ _ _ _ e2,
    Num.of_all _ _ (fun _ => rfl) _ _ _ _ e3, Num.of_all _ _ (fun _ => rfl) _ _ _ _ e4, Num.of_all _ _ (fun _ => rfl) _ _ _ _ e5⟩

/-- The projections the host hands the kernel are the reference's. -/
theorem gts_eq (r : Fin 4096) (j : Fin 2816) : gts m c r j = val_main_v17 (F := Ideal) (in1 m c) (in2 m c) (in3 m c) (ix2 r j) := by
  unfold gts
  refine Eq.trans ?_ (gate _ _ _ r j).symm
  simp only [normed]
  unfold rinv
  entry_read
  pointwise
theorem ups_eq (r : Fin 4096) (j : Fin 2816) : ups m c r j = val_main_v18 (F := Ideal) (in1 m c) (in2 m c) (in4 m c) (ix2 r j) := by
  unfold ups
  refine Eq.trans ?_ (lin _ _ _ r j).symm
  simp only [normed]
  unfold rinv
  entry_read
  pointwise

theorem gts_fun : gts m c = Cert.FfnBwdRefIdeal.Hand.GT (in1 m c) (in2 m c) (in3 m c) := funext₂ (gts_eq m c)
theorem ups_fun : ups m c = Cert.FfnBwdRefIdeal.Hand.UP (in1 m c) (in2 m c) (in4 m c) := funext₂ (ups_eq m c)

theorem out1 : upOut m c = val_main_v56 (F := Ideal) (in0 m c) (in1 m c) (in2 m c) (in3 m c) (in5 m c) := by
  funext y
  idx_vars y
  unfold upOut
  rw [gts_fun]
  exact (Cert.FfnBwdRefIdeal.Hand.up (in0 m c) (in1 m c) (in2 m c) (in3 m c) (in5 m c) y0 y1).symm

theorem out5 : downOut m c = val_main_v25 (F := Ideal) (in0 m c) (in1 m c) (in2 m c) (in3 m c) (in4 m c) := by
  funext y
  idx_vars y
  unfold downOut
  rw [gts_fun, ups_fun]
  exact (Cert.FfnBwdRefIdeal.Hand.down (in0 m c) (in1 m c) (in2 m c) (in3 m c) (in4 m c) y1 y0).symm

section Finite

variable (h : Cert.Pre_FfnBwdIdeal_ffn_finite m)

include h

theorem out0 : gateOut m c = val_main_v55 (F := Ideal) (in0 m c) (in1 m c) (in2 m c) (in3 m c) (in4 m c) (in5 m c) := by
  obtain ⟨h0, h1, h2, h3, h4, h5⟩ := numbers m c h
  funext y
  idx_vars y
  unfold gateOut
  rw [gts_fun, ups_fun]
  exact (Cert.FfnBwdRefIdeal.Hand.gated (in0 m c) (in1 m c) (in2 m c) (in3 m c) (in4 m c) (in5 m c) y0 y1 h0 h1 h2 h3 h4 h5).symm

theorem out2 : inOut m c = val_main_v53 (F := Ideal) (in0 m c) (in1 m c) (in2 m c) (in3 m c) (in4 m c) (in5 m c) := by
  obtain ⟨h0, h1, h2, h3, h4, h5⟩ := numbers m c h
  funext y
  idx_vars y
  unfold inOut
  rw [gts_fun, ups_fun]
  exact (Cert.FfnBwdRefIdeal.Hand.entered (in0 m c) (in1 m c) (in2 m c) (in3 m c) (in4 m c) (in5 m c) y0 y1 h0 h1 h2 h3 h4 h5).symm

theorem out3 : inOut m c = val_main_v57 (F := Ideal) (in0 m c) (in1 m c) (in2 m c) (in3 m c) (in4 m c) (in5 m c) :=
  (out2 m c h).trans (funext fun _ => rfl)

theorem out4 : gainOut m c = val_main_v54 (F := Ideal) (in0 m c) (in1 m c) (in2 m c) (in3 m c) (in4 m c) (in5 m c) := by
  obtain ⟨h0, h1, h2, h3, h4, h5⟩ := numbers m c h
  funext y
  idx_vars y
  obtain rfl : y0 = 0 := Subsingleton.elim _ _
  unfold gainOut
  rw [gts_fun, ups_fun]
  exact (Cert.FfnBwdRefIdeal.Hand.gained (in0 m c) (in1 m c) (in2 m c) (in3 m c) (in4 m c) (in5 m c) y1 h0 h1 h2 h3 h4 h5).symm

end Finite

/-- The kernel's run ends with the six results so, and the arguments as they were. -/
theorem results (ρ : Dev nD → PrngReg) : θ_run defs (onTc (τ := τ) (main (F := Ideal))) ⟨m, fun _ => 0, ρ⟩ (fun r => ∀ c : Dev nD,
      r.2.mem ((c.tc : Thread nD τ).loc main_v23_0) = gateOut m c
      ∧ r.2.mem ((c.tc : Thread nD τ).loc main_v23_1) = upOut m c
      ∧ r.2.mem ((c.tc : Thread nD τ).loc main_v23_2) = inOut m c
      ∧ r.2.mem ((c.tc : Thread nD τ).loc main_v23_3) = inOut m c
      ∧ r.2.mem ((c.tc : Thread nD τ).loc main_v23_4) = gainOut m c
      ∧ r.2.mem ((c.tc : Thread nD τ).loc main_v23_5) = downOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (θ_run_and (run_main m ρ (closed m)) (kept m ρ (closed m)))
  obtain ⟨h, k⟩ := h
  exact ⟨((h c).1 6).trans (final6 m c),
    ((h c).1 7).trans (final7 m c),
    ((h c).1 8).trans (final8 m c),
    ((h c).1 9).trans (final9 m c),
    ((h c).1 10).trans (final10 m c),
    ((h c).1 11).trans (final11 m c), k c⟩

/-- The reference runs, and leaves its arguments and every counter as they were. -/
theorem referenceFrame : Cert.quiescent_FfnBwdRefIdeal := fun m g _ =>
  (θ_run _ _ _).mono (fun r h => ⟨fun c => (h c).2.2.2.2.2.2, sem_eq_zero_of_no_sems (by decide) _⟩) (Cert.FfnBwdRefIdeal.Value.run m g)

/-- From any numbers the kernel's six results are the reference's. -/
theorem value : Cert.algebraic_FfnBwdIdeal_FfnBwdRefIdeal_pre_ffn_finite := by
  intro m g m' g' h agree
  refine ⟨gateOut m, upOut m, inOut m, inOut m, gainOut m, downOut m, results m g, ?_⟩
  refine (θ_run _ _ _).mono (fun r k c => ?_) (Cert.FfnBwdRefIdeal.Value.run m' g')
  obtain ⟨e0, e1, e2, e3, e4, e5⟩ := agree c
  obtain ⟨k0, k1, k2, k3, k4, k5, k6⟩ := k c
  refine ⟨k0.trans ((Cert.FfnBwdRefIdeal.Read.val_main_v55_eq m' c).trans ?_), k1.trans ((Cert.FfnBwdRefIdeal.Read.val_main_v56_eq _ _ _ _ _).trans ?_),
    k2.trans ((Cert.FfnBwdRefIdeal.Read.val_main_v53_eq m' c).trans ?_), k3.trans ((Cert.FfnBwdRefIdeal.Read.val_main_v57_eq m' c).trans ?_),
    k4.trans ((Cert.FfnBwdRefIdeal.Read.val_main_v54_eq m' c).trans ?_), k5.trans ((Cert.FfnBwdRefIdeal.Read.val_main_v25_eq _ _ _ _ _).trans ?_), k6⟩
  · rw [e0, e1, e2, e3, e4, e5]; exact (out0 m c h).symm
  · rw [e0, e1, e2, e3, e5]; exact (out1 m c).symm
  · rw [e0, e1, e2, e3, e4, e5]; exact (out2 m c h).symm
  · rw [e0, e1, e2, e3, e4, e5]; exact (out3 m c h).symm
  · rw [e0, e1, e2, e3, e4, e5]; exact (out4 m c h).symm
  · rw [e0, e1, e2, e3, e4]; exact (out5 m c).symm

end Cert.FfnBwdIdeal.Hand
-- ==== Proof.Mix.Float.lean ====
module

public import proofs.«01_k».proof.Defs
public import proofs.«01_k».proof.Proof.Gen.MixBwdIdeal.Frame
public import proofs.«01_k».proof.Proof.Gen.MixBwd

@[expose] public section

noncomputable section

/-! The mixer call on its own floats: its text is the ideal program's, so the one run stands for both. -/

namespace Cert.MixBwdIdeal.Hand

open Idealize.ShloMosaic Idealize.ShloMosaic.TcCoe Idealize.SL.Sem

/-- The kernel runs, and leaves its arguments and every counter as they were. -/
theorem frame_kernel : Cert.quiescent_MixBwd := fun m ρ _ => by
  refine Eq.mp ?_ (Cert.MixBwdIdeal.Gen.frame (F := Bits) m ρ)
  sl_kernel_rfl

end Cert.MixBwdIdeal.Hand
-- ==== Proof.Mix.Spec.lean ====
module

public import proofs.«01_k».proof.Proof.Kit.Num

@[expose] public section

noncomputable section

/-! The gradient of the pooling mixer and of the output projection, on sequences of rows: a sequence is a function of the
    position, zero past its end. Four groups of 128 channels, group `g` averaging the last 2, 4, 8 or 16 positions. -/

namespace Cert.Mix

open Idealize.ShloMosaic Cert.Kit
open Finset (range)

/-- A sequence of 4096 rows, zero past its end. -/
def padded {κ : Type} (f : Fin 4096 → κ → EReal) (n : ℕ) (c : κ) : EReal := if h : n < 4096 then f ⟨n, h⟩ c else 0

/-- Channel `c` of group `g`. -/
def ch (g : Fin 4) (c : Fin 128) : Fin 512 := ⟨128 * g.val + c.val, by omega⟩
/-- The group and the lane of a channel. -/
def grp (k : Fin 512) : Fin 4 := ⟨k.val / 128, by omega⟩
def lane (k : Fin 512) : Fin 128 := ⟨k.val % 128, by omega⟩

/-- The sequence sixteen positions later. -/
def lag (f : ℕ → EReal) (n : ℕ) : EReal := if 16 ≤ n then f (n - 16) else 0

/-- How many positions the mean at `n` takes. -/
def cnt (w n : ℕ) : EReal := ((min (n + 1) w : ℕ) : ℝ)

/-- The sum of the last `w` entries. -/
def trail (w : ℕ) (f : ℕ → EReal) (n : ℕ) : EReal := ∑ k ∈ range w, lag f (n + 16 - k)
/-- The trailing mean less the entry itself. -/
def pooled (w : ℕ) (f : ℕ → EReal) (n : ℕ) : EReal := Ideal.div (trail w f n) (cnt w n) - f n
/-- The gradient of the trailing mean: each entry's share of the means it stands in. -/
def lead (w : ℕ) (f : ℕ → EReal) (n : ℕ) : EReal := ∑ k ∈ range w, Ideal.div (f (n + k)) (cnt w (n + k))

section

variable (dh : ℕ → Fin 1024 → EReal) (u : ℕ → Fin 512 → EReal) (wo : Fin 1024 → Fin 1024 → EReal) (wp : Fin 4 → Fin 128 → Fin 128 → EReal) (sc : Fin 512 → EReal)

/-- The window of group `g`. -/
def width (g : Fin 4) : ℕ := 2 ^ (g.val + 1)
/-- The cotangent of the attention rows. -/
def dAttn (n : ℕ) (c : Fin 512) : EReal := ∑ k : Fin 1024, dh n k * wo ⟨c.val, by omega⟩ k
/-- The cotangent of the mixer's rows. -/
def dMix (n : ℕ) (c : Fin 512) : EReal := ∑ k : Fin 1024, dh n k * wo ⟨512 + c.val, by omega⟩ k
/-- The cotangent of the group maps' results. -/
def dMap (n : ℕ) (c : Fin 512) : EReal := dMix dh wo n c * sc c
/-- The cotangent of the pooled rows. -/
def dPool (g : Fin 4) (c : Fin 128) (n : ℕ) : EReal := ∑ d : Fin 128, dMap dh wo sc n (ch g d) * wp g c d
/-- The cotangent of the mixer's input. -/
def dIn (g : Fin 4) (c : Fin 128) (n : ℕ) : EReal := lead (width g) (dPool dh wo wp sc g c) n - dPool dh wo wp sc g c n
/-- The pooled rows. -/
def poolRow (g : Fin 4) (c : Fin 128) (n : ℕ) : EReal := pooled (width g) (fun n => u n (ch g c)) n
/-- One position's part of the group maps' gradient. -/
def dMaps (g : Fin 4) (a b : Fin 128) (n : ℕ) : EReal := poolRow u g a n * dMap dh wo sc n (ch g b)
/-- One position's part of the scales' gradient. -/
def dScale (g : Fin 4) (c : Fin 128) (n : ℕ) : EReal := dMix dh wo n (ch g c) * ∑ k : Fin 128, poolRow u g k n * wp g k c

end

end Cert.Mix
-- ==== Proof.Mix.Count.lean ====
module

public import proofs.«01_k».proof.Proof.Gen.MixBwdIdeal.Skeleton
public import proofs.«01_k».proof.Proof.Mix.Spec
public import Idealize.ShloMosaic.Lib.Pipeline.ReadBack
public import Idealize.ShloMosaic.Lib.Pipeline.ValueKit
public import Idealize.ShloMosaic.Lib.Pointwise

@[expose] public section

set_option maxRecDepth 16384

noncomputable section

/-! The mixer gradient's arithmetic on one tile of 512 rows, entry by entry. -/

namespace Cert.MixBwdIdeal.Hand

open Cert.MixBwdIdeal Cert.MixBwdIdeal.Gen Cert.Mix Cert.Kit Idealize.ShloMosaic Idealize.ShloMosaic.TcCoe Idealize.SL.Sem

open Finset (range)

/-- A choice by the point's number. -/
theorem select_lt {α : Type} (i : Fin 8) (x y : α) : Scalar.select (Scalar.cmpi .slt (BitVec.ofNat 32 i.val) 7#32) x y = if i.val < 7 then x else y := by
  have h : ∀ i : Fin 8, Scalar.cmpi .slt (BitVec.ofNat 32 i.val) 7#32 = if i.val < 7 then 1#1 else 0#1 := by decide +kernel
  rw [h]
  split <;> rfl
theorem select_gt {α : Type} (i : Fin 8) (x y : α) : Scalar.select (Scalar.cmpi .sgt (BitVec.ofNat 32 i.val) 0#32) x y = if 0 < i.val then x else y := by
  have h : ∀ i : Fin 8, Scalar.cmpi .sgt (BitVec.ofNat 32 i.val) 0#32 = if 0 < i.val then 1#1 else 0#1 := by decide +kernel
  rw [h]
  split <;> rfl

theorem sitofp_nat (n : ℕ) (h : n < 17) : FloatOps.sitofp (F := Ideal) FTy.f32 (BitVec.ofNat 32 n) = ((n : ℕ) : ℝ) := by
  have h' : ∀ n : Fin 17, (BitVec.ofNat 32 n.val).toInt = n.val := by decide
  show (((BitVec.ofNat 32 n).toInt : ℝ) : EReal) = _
  rw [h' ⟨n, h⟩]
  norm_cast

theorem count2 (i : Fin 8) (x : Fin 528) :
    FloatOps.sitofp (F := Ideal) FTy.f32 (IntOp.minsi (IntOp.addi (k0_pay20 (BitVec.ofNat 32 i.val) (ix2 x 0)) 1#32) 2#32) = cnt 2 (512 * i.val + x.val) := by
  have h : ∀ (i : Fin 8) (x : Fin 528), IntOp.minsi (IntOp.addi (IntOp.addi (Scalar.muli (BitVec.ofNat 32 i.val) 512#32) (BitVec.ofNat 32 x.val)) 1#32) 2#32
      = BitVec.ofNat 32 (min (512 * i.val + x.val + 1) 2) := by decide +kernel
  have e : k0_pay20 (BitVec.ofNat 32 i.val) (ix2 x 0) = IntOp.addi (Scalar.muli (BitVec.ofNat 32 i.val) 512#32) (BitVec.ofNat 32 x.val) := by
    pointwise [k0_pay20]
  rw [e, h, sitofp_nat _ (by omega)]
  rfl
theorem countTile2 (i : Fin 8) (x : Fin 512) :
    FloatOps.sitofp (F := Ideal) FTy.f32 (IntOp.minsi (IntOp.addi (k0_pay15 (BitVec.ofNat 32 i.val) (ix2 x 0)) 1#32) 2#32) = cnt 2 (512 * i.val + x.val) := by
  have h : ∀ (i : Fin 8) (x : Fin 512), IntOp.minsi (IntOp.addi (IntOp.addi (Scalar.muli (BitVec.ofNat 32 i.val) 512#32) (BitVec.ofNat 32 x.val)) 1#32) 2#32
      = BitVec.ofNat 32 (min (512 * i.val + x.val + 1) 2) := by decide +kernel
  have e : k0_pay15 (BitVec.ofNat 32 i.val) (ix2 x 0) = IntOp.addi (Scalar.muli (BitVec.ofNat 32 i.val) 512#32) (BitVec.ofNat 32 x.val) := by
    pointwise [k0_pay15]
  rw [e, h, sitofp_nat _ (by omega)]
  rfl

theorem count4 (i : Fin 8) (x : Fin 528) :
    FloatOps.sitofp (F := Ideal) FTy.f32 (IntOp.minsi (IntOp.addi (k0_pay20 (BitVec.ofNat 32 i.val) (ix2 x 0)) 1#32) 4#32) = cnt 4 (512 * i.val + x.val) := by
  have h : ∀ (i : Fin 8) (x : Fin 528), IntOp.minsi (IntOp.addi (IntOp.addi (Scalar.muli (BitVec.ofNat 32 i.val) 512#32) (BitVec.ofNat 32 x.val)) 1#32) 4#32
      = BitVec.ofNat 32 (min (512 * i.val + x.val + 1) 4) := by decide +kernel
  have e : k0_pay20 (BitVec.ofNat 32 i.val) (ix2 x 0) = IntOp.addi (Scalar.muli (BitVec.ofNat 32 i.val) 512#32) (BitVec.ofNat 32 x.val) := by
    pointwise [k0_pay20]
  rw [e, h, sitofp_nat _ (by omega)]
  rfl
theorem countTile4 (i : Fin 8) (x : Fin 512) :
    FloatOps.sitofp (F := Ideal) FTy.f32 (IntOp.minsi (IntOp.addi (k0_pay15 (BitVec.ofNat 32 i.val) (ix2 x 0)) 1#32) 4#32) = cnt 4 (512 * i.val + x.val) := by
  have h : ∀ (i : Fin 8) (x : Fin 512), IntOp.minsi (IntOp.addi (IntOp.addi (Scalar.muli (BitVec.ofNat 32 i.val) 512#32) (BitVec.ofNat 32 x.val)) 1#32) 4#32
      = BitVec.ofNat 32 (min (512 * i.val + x.val + 1) 4) := by decide +kernel
  have e : k0_pay15 (BitVec.ofNat 32 i.val) (ix2 x 0) = IntOp.addi (Scalar.muli (BitVec.ofNat 32 i.val) 512#32) (BitVec.ofNat 32 x.val) := by
    pointwise [k0_pay15]
  rw [e, h, sitofp_nat _ (by omega)]
  rfl

theorem count8 (i : Fin 8) (x : Fin 528) :
    FloatOps.sitofp (F := Ideal) FTy.f32 (IntOp.minsi (IntOp.addi (k0_pay20 (BitVec.ofNat 32 i.val) (ix2 x 0)) 1#32) 8#32) = cnt 8 (512 * i.val + x.val) := by
  have h : ∀ (i : Fin 8) (x : Fin 528), IntOp.minsi (IntOp.addi (IntOp.addi (Scalar.muli (BitVec.ofNat 32 i.val) 512#32) (BitVec.ofNat 32 x.val)) 1#32) 8#32
      = BitVec.ofNat 32 (min (512 * i.val + x.val + 1) 8) := by decide +kernel
  have e : k0_pay20 (BitVec.ofNat 32 i.val) (ix2 x 0) = IntOp.addi (Scalar.muli (BitVec.ofNat 32 i.val) 512#32) (BitVec.ofNat 32 x.val) := by
    pointwise [k0_pay20]
  rw [e, h, sitofp_nat _ (by omega)]
  rfl
theorem countTile8 (i : Fin 8) (x : Fin 512) :
    FloatOps.sitofp (F := Ideal) FTy.f32 (IntOp.minsi (IntOp.addi (k0_pay15 (BitVec.ofNat 32 i.val) (ix2 x 0)) 1#32) 8#32) = cnt 8 (512 * i.val + x.val) := by
  have h : ∀ (i : Fin 8) (x : Fin 512), IntOp.minsi (IntOp.addi (IntOp.addi (Scalar.muli (BitVec.ofNat 32 i.val) 512#32) (BitVec.ofNat 32 x.val)) 1#32) 8#32
      = BitVec.ofNat 32 (min (512 * i.val + x.val + 1) 8) := by decide +kernel
  have e : k0_pay15 (BitVec.ofNat 32 i.val) (ix2 x 0) = IntOp.addi (Scalar.muli (BitVec.ofNat 32 i.val) 512#32) (BitVec.ofNat 32 x.val) := by
    pointwise [k0_pay15]
  rw [e, h, sitofp_nat _ (by omega)]
  rfl

theorem count16 (i : Fin 8) (x : Fin 528) :
    FloatOps.sitofp (F := Ideal) FTy.f32 (IntOp.minsi (IntOp.addi (k0_pay20 (BitVec.ofNat 32 i.val) (ix2 x 0)) 1#32) 16#32) = cnt 16 (512 * i.val + x.val) := by
  have h : ∀ (i : Fin 8) (x : Fin 528), IntOp.minsi (IntOp.addi (IntOp.addi (Scalar.muli (BitVec.ofNat 32 i.val) 512#32) (BitVec.ofNat 32 x.val)) 1#32) 16#32
      = BitVec.ofNat 32 (min (512 * i.val + x.val + 1) 16) := by decide +kernel
  have e : k0_pay20 (BitVec.ofNat 32 i.val) (ix2 x 0) = IntOp.addi (Scalar.muli (BitVec.ofNat 32 i.val) 512#32) (BitVec.ofNat 32 x.val) := by
    pointwise [k0_pay20]
  rw [e, h, sitofp_nat _ (by omega)]
  rfl
theorem countTile16 (i : Fin 8) (x : Fin 512) :
    FloatOps.sitofp (F := Ideal) FTy.f32 (IntOp.minsi (IntOp.addi (k0_pay15 (BitVec.ofNat 32 i.val) (ix2 x 0)) 1#32) 16#32) = cnt 16 (512 * i.val + x.val) := by
  have h : ∀ (i : Fin 8) (x : Fin 512), IntOp.minsi (IntOp.addi (IntOp.addi (Scalar.muli (BitVec.ofNat 32 i.val) 512#32) (BitVec.ofNat 32 x.val)) 1#32) 16#32
      = BitVec.ofNat 32 (min (512 * i.val + x.val + 1) 16) := by decide +kernel
  have e : k0_pay15 (BitVec.ofNat 32 i.val) (ix2 x 0) = IntOp.addi (Scalar.muli (BitVec.ofNat 32 i.val) 512#32) (BitVec.ofNat 32 x.val) := by
    pointwise [k0_pay15]
  rw [e, h, sitofp_nat _ (by omega)]
  rfl

section Trail

variable (i : Fin 8) (b2 : Vec Ideal S512x512 .f32) (b3 : Vec Ideal S16x512 .f32) (u : ℕ → Fin 512 → EReal)
  (h2 : ∀ (r : Fin 512) (c : Fin 512), b2 (ix2 r c) = u (512 * i.val + r.val) c)
  (h3 : 0 < i.val → ∀ (x : Fin 16) (c : Fin 512), b3 (ix2 x c) = u (512 * i.val - 16 + x.val) c)

include h2 h3

/-- The tile with the sixteen rows before it. -/
theorem extended (x : Fin 528) (c : Fin 512) :
    (if h : x.val < 16 then Scalar.select (Scalar.cmpi .sgt (BitVec.ofNat 32 i.val) 0#32) (b3 (ix2 ⟨x.val, h⟩ c)) 0
      else b2 (ix2 ⟨x.val - 16, by omega⟩ c)) = lag (fun n => u n c) (512 * i.val + x.val) := by
  have e := i.isLt
  unfold lag
  by_cases h : x.val < 16
  · rw [dif_pos h, select_gt]
    by_cases hi : 0 < i.val
    · rw [if_pos hi, if_pos (by omega), h3 hi]
      congr 1
      show 512 * i.val - 16 + x.val = _
      omega
    · rw [if_neg hi, if_neg (by omega)]
  · rw [dif_neg h, if_pos (by omega), h2]
    congr 1
    show 512 * i.val + (x.val - 16) = _
    omega

end Trail

end Cert.MixBwdIdeal.Hand
-- ==== Proof.Mix.Pool.lean ====
module

public import proofs.«01_k».proof.Proof.Gen.MixBwdIdeal.Skeleton
public import proofs.«01_k».proof.Proof.Mix.Count
public import Idealize.ShloMosaic.Lib.Pipeline.ReadBack
public import Idealize.ShloMosaic.Lib.Pipeline.ValueKit
public import Idealize.ShloMosaic.Lib.Pointwise

@[expose] public section

set_option maxRecDepth 16384

noncomputable section

/-! The mixer gradient's arithmetic on one tile of 512 rows, entry by entry. -/

namespace Cert.MixBwdIdeal.Hand

open Cert.MixBwdIdeal Cert.MixBwdIdeal.Gen Cert.Mix Cert.Kit Idealize.ShloMosaic Idealize.ShloMosaic.TcCoe Idealize.SL.Sem

open Finset (range)

section Trail

variable (i : Fin 8) (b2 : Vec Ideal S512x512 .f32) (b3 : Vec Ideal S16x512 .f32) (u : ℕ → Fin 512 → EReal)
  (h2 : ∀ (r : Fin 512) (c : Fin 512), b2 (ix2 r c) = u (512 * i.val + r.val) c)
  (h3 : 0 < i.val → ∀ (x : Fin 16) (c : Fin 512), b3 (ix2 x c) = u (512 * i.val - 16 + x.val) c)

include h2 h3

/-- The running sums over 2, 4, 8 and 16 rows, by doubling. -/
theorem sum2 (x : Fin 528) (h : 1 ≤ x.val) (c : Fin 512) :
    k0_pay11 (BitVec.ofNat 32 i.val) b2 b3 (ix2 x c) = ∑ k ∈ range 2, lag (fun n => u n c) (512 * i.val + x.val - k) := by
  have e1 := extended i b2 b3 u h2 h3 x c
  have e2 := extended i b2 b3 u h2 h3 ⟨(x.val + 528 - 1) % 528, by omega⟩ c
  pointwise [k0_pay11]
  rw [e1, e2]
  rw [Finset.sum_range_succ, Finset.sum_range_one]
  dsimp only
  rw [show 512 * i.val + (x.val + 528 - 1) % 528 = 512 * i.val + x.val - 1 by omega, Nat.sub_zero]
theorem sum4 (x : Fin 528) (h : 3 ≤ x.val) (c : Fin 512) :
    k0_pay12 (BitVec.ofNat 32 i.val) b2 b3 (ix2 x c) = ∑ k ∈ range 4, lag (fun n => u n c) (512 * i.val + x.val - k) := by
  have e1 := sum2 i b2 b3 u h2 h3 x (by omega) c
  have e2 := sum2 i b2 b3 u h2 h3 ⟨(x.val + 528 - 2) % 528, by omega⟩ (by show 1 ≤ (x.val + 528 - 2) % 528; omega) c
  pointwise [k0_pay12]
  refine (Ideal.add_congr e1 e2).trans ?_
  rw [show range 4 = range (2 + 2) from rfl, Finset.sum_range_add]
  refine congrArg (_ + ·) (Finset.sum_congr rfl fun k hk => congrArg (lag _) ?_)
  show 512 * i.val + (x.val + 528 - 2) % 528 - k = _
  omega
theorem sum8 (x : Fin 528) (h : 7 ≤ x.val) (c : Fin 512) :
    k0_pay13 (BitVec.ofNat 32 i.val) b2 b3 (ix2 x c) = ∑ k ∈ range 8, lag (fun n => u n c) (512 * i.val + x.val - k) := by
  have e1 := sum4 i b2 b3 u h2 h3 x (by omega) c
  have e2 := sum4 i b2 b3 u h2 h3 ⟨(x.val + 528 - 4) % 528, by omega⟩ (by show 3 ≤ (x.val + 528 - 4) % 528; omega) c
  pointwise [k0_pay13]
  refine (Ideal.add_congr e1 e2).trans ?_
  rw [show range 8 = range (4 + 4) from rfl, Finset.sum_range_add]
  refine congrArg (_ + ·) (Finset.sum_congr rfl fun k hk => congrArg (lag _) ?_)
  show 512 * i.val + (x.val + 528 - 4) % 528 - k = _
  omega
theorem sum16 (x : Fin 528) (h : 15 ≤ x.val) (c : Fin 512) :
    k0_pay14 (BitVec.ofNat 32 i.val) b2 b3 (ix2 x c) = ∑ k ∈ range 16, lag (fun n => u n c) (512 * i.val + x.val - k) := by
  have e1 := sum8 i b2 b3 u h2 h3 x (by omega) c
  have e2 := sum8 i b2 b3 u h2 h3 ⟨(x.val + 528 - 8) % 528, by omega⟩ (by show 7 ≤ (x.val + 528 - 8) % 528; omega) c
  pointwise [k0_pay14]
  refine (Ideal.add_congr e1 e2).trans ?_
  rw [show range 16 = range (8 + 8) from rfl, Finset.sum_range_add]
  refine congrArg (_ + ·) (Finset.sum_congr rfl fun k hk => congrArg (lag _) ?_)
  show 512 * i.val + (x.val + 528 - 8) % 528 - k = _
  omega

theorem pool0 (r : Fin 512) (c : Fin 128) :
    k0_pay16 (BitVec.ofNat 32 i.val) b2 b3 (ix2 r c) = poolRow u 0 c (512 * i.val + r.val) := by
  have q : ch 0 c = ⟨c.val, by omega⟩ := Fin.ext (by show 128 * 0 + c.val = c.val; omega)
  have e := sum2 i b2 b3 u h2 h3 ⟨16 + r.val, by omega⟩ (by show 1 ≤ 16 + r.val; omega) (ch 0 c)
  have e' := countTile2 i r
  have e2 := h2 r (ch 0 c)
  pointwise [k0_pay16]
  unfold poolRow pooled trail
  refine congr (congrArg _ (congr (congrArg _ (Eq.trans ?_ (e.trans ?_))) e')) (Eq.trans ?_ e2)
  · rw [q]
  · refine Finset.sum_congr rfl fun k _ => congrArg (lag _) ?_
    show 512 * i.val + (16 + r.val) - k = _
    omega
  · rw [q]
theorem pool1 (r : Fin 512) (c : Fin 128) :
    k0_pay17 (BitVec.ofNat 32 i.val) b2 b3 (ix2 r c) = poolRow u 1 c (512 * i.val + r.val) := by
  have e := sum4 i b2 b3 u h2 h3 ⟨16 + r.val, by omega⟩ (by show 3 ≤ 16 + r.val; omega) (ch 1 c)
  have e' := countTile4 i r
  have e2 := h2 r (ch 1 c)
  pointwise [k0_pay17]
  unfold poolRow pooled trail
  refine congr (congrArg _ (congr (congrArg _ (Eq.trans ?_ (e.trans ?_))) e')) (Eq.trans ?_ e2)
  · rfl
  · refine Finset.sum_congr rfl fun k _ => congrArg (lag _) ?_
    show 512 * i.val + (16 + r.val) - k = _
    omega
  · rfl
theorem pool2 (r : Fin 512) (c : Fin 128) :
    k0_pay18 b2 (k0_pay13 (BitVec.ofNat 32 i.val) b2 b3) (k0_pay15 (BitVec.ofNat 32 i.val)) (ix2 r c) = poolRow u 2 c (512 * i.val + r.val) := by
  have e := sum8 i b2 b3 u h2 h3 ⟨16 + r.val, by omega⟩ (by show 7 ≤ 16 + r.val; omega) (ch 2 c)
  have e' := countTile8 i r
  have e2 := h2 r (ch 2 c)
  pointwise [k0_pay18]
  unfold poolRow pooled trail
  refine congr (congrArg _ (congr (congrArg _ (Eq.trans ?_ (e.trans ?_))) e')) (Eq.trans ?_ e2)
  · rfl
  · refine Finset.sum_congr rfl fun k _ => congrArg (lag _) ?_
    show 512 * i.val + (16 + r.val) - k = _
    omega
  · rfl
theorem pool3 (r : Fin 512) (c : Fin 128) :
    k0_pay19 b2 (k0_pay14 (BitVec.ofNat 32 i.val) b2 b3) (k0_pay15 (BitVec.ofNat 32 i.val)) (ix2 r c) = poolRow u 3 c (512 * i.val + r.val) := by
  have e := sum16 i b2 b3 u h2 h3 ⟨16 + r.val, by omega⟩ (by show 15 ≤ 16 + r.val; omega) (ch 3 c)
  have e' := countTile16 i r
  have e2 := h2 r (ch 3 c)
  pointwise [k0_pay19]
  unfold poolRow pooled trail
  refine congr (congrArg _ (congr (congrArg _ (Eq.trans ?_ (e.trans ?_))) e')) (Eq.trans ?_ e2)
  · rfl
  · refine Finset.sum_congr rfl fun k _ => congrArg (lag _) ?_
    show 512 * i.val + (16 + r.val) - k = _
    omega
  · rfl

end Trail

end Cert.MixBwdIdeal.Hand
-- ==== Proof.Mix.Arith.lean ====
module

public import proofs.«01_k».proof.Proof.Gen.MixBwdIdeal.Skeleton
public import proofs.«01_k».proof.Proof.Mix.Pool
public import Idealize.ShloMosaic.Lib.Pipeline.ReadBack
public import Idealize.ShloMosaic.Lib.Pipeline.ValueKit
public import Idealize.ShloMosaic.Lib.Pointwise

@[expose] public section

set_option maxRecDepth 16384

noncomputable section

/-! The mixer gradient on one tile, group by group: the input's cotangent, the scales' and the group maps' parts. -/

namespace Cert.MixBwdIdeal.Hand

open Cert.MixBwdIdeal Cert.MixBwdIdeal.Gen Cert.Mix Cert.Kit Idealize.ShloMosaic Idealize.ShloMosaic.TcCoe Idealize.SL.Sem

open Finset (range)

/-! The leading sums over 2, 4, 8 and 16 rows, by doubling. -/

theorem ahead2 (V : FVec Ideal S528x128 .f32) (f : ℕ → Fin 128 → EReal)
    (h : ∀ (x : Fin 528) (c : Fin 128), x.val + 1 ≤ 528 → V (ix2 x c) = ∑ k ∈ range 1, f (x.val + k) c) (x : Fin 528) (c : Fin 128) (hx : x.val + 2 ≤ 528) :
    addf V (dynamicRotate 0 527#32 none V rotates_S528x128_d0) (ix2 x c) = ∑ k ∈ range 2, f (x.val + k) c := by
  have e1 := h x c (by omega)
  have e2 := h ⟨(x.val + 528 - 527) % 528, by omega⟩ c (by show (x.val + 528 - 527) % 528 + 1 ≤ 528; omega)
  pointwise
  rw [e1, e2, show range 2 = range (1 + 1) from rfl, Finset.sum_range_add]
  dsimp only
  rw [show (x.val + 528 - 527) % 528 = x.val + 1 by omega]
  simp only [Nat.add_assoc]
theorem ahead4 (V : FVec Ideal S528x128 .f32) (f : ℕ → Fin 128 → EReal)
    (h : ∀ (x : Fin 528) (c : Fin 128), x.val + 2 ≤ 528 → V (ix2 x c) = ∑ k ∈ range 2, f (x.val + k) c) (x : Fin 528) (c : Fin 128) (hx : x.val + 4 ≤ 528) :
    addf V (dynamicRotate 0 526#32 none V rotates_S528x128_d0) (ix2 x c) = ∑ k ∈ range 4, f (x.val + k) c := by
  have e1 := h x c (by omega)
  have e2 := h ⟨(x.val + 528 - 526) % 528, by omega⟩ c (by show (x.val + 528 - 526) % 528 + 2 ≤ 528; omega)
  pointwise
  rw [e1, e2, show range 4 = range (2 + 2) from rfl, Finset.sum_range_add]
  dsimp only
  rw [show (x.val + 528 - 526) % 528 = x.val + 2 by omega]
  simp only [Nat.add_assoc]
theorem ahead8 (V : FVec Ideal S528x128 .f32) (f : ℕ → Fin 128 → EReal)
    (h : ∀ (x : Fin 528) (c : Fin 128), x.val + 4 ≤ 528 → V (ix2 x c) = ∑ k ∈ range 4, f (x.val + k) c) (x : Fin 528) (c : Fin 128) (hx : x.val + 8 ≤ 528) :
    addf V (dynamicRotate 0 524#32 none V rotates_S528x128_d0) (ix2 x c) = ∑ k ∈ range 8, f (x.val + k) c := by
  have e1 := h x c (by omega)
  have e2 := h ⟨(x.val + 528 - 524) % 528, by omega⟩ c (by show (x.val + 528 - 524) % 528 + 4 ≤ 528; omega)
  pointwise
  rw [e1, e2, show range 8 = range (4 + 4) from rfl, Finset.sum_range_add]
  dsimp only
  rw [show (x.val + 528 - 524) % 528 = x.val + 4 by omega]
  simp only [Nat.add_assoc]
theorem ahead16 (V : FVec Ideal S528x128 .f32) (f : ℕ → Fin 128 → EReal)
    (h : ∀ (x : Fin 528) (c : Fin 128), x.val + 8 ≤ 528 → V (ix2 x c) = ∑ k ∈ range 8, f (x.val + k) c) (x : Fin 528) (c : Fin 128) (hx : x.val + 16 ≤ 528) :
    addf V (dynamicRotate 0 520#32 none V rotates_S528x128_d0) (ix2 x c) = ∑ k ∈ range 16, f (x.val + k) c := by
  have e1 := h x c (by omega)
  have e2 := h ⟨(x.val + 528 - 520) % 528, by omega⟩ c (by show (x.val + 528 - 520) % 528 + 8 ≤ 528; omega)
  pointwise
  rw [e1, e2, show range 16 = range (8 + 8) from rfl, Finset.sum_range_add]
  dsimp only
  rw [show (x.val + 528 - 520) % 528 = x.val + 8 by omega]
  simp only [Nat.add_assoc]

section Tile

variable (i : Fin 8) (D : FVec Ideal S528x512 .f32) (P : FVec Ideal S512x128 .f32) (W : Vec Ideal S1x128x128 .f32) (s o : Vec Ideal S1x128 .f32)
  (q : Vec Ideal S1x128x128 .f32) (dh : ℕ → Fin 1024 → EReal) (u : ℕ → Fin 512 → EReal) (wo : Fin 1024 → Fin 1024 → EReal)
  (wp : Fin 4 → Fin 128 → Fin 128 → EReal) (sc : Fin 512 → EReal)
  (hD : ∀ x c, D (ix2 x c) = dMix dh wo (512 * i.val + x.val) c)

theorem ch_zero (d : Fin 128) : ch 0 d = ⟨d.val, by omega⟩ := Fin.ext (by show 128 * 0 + d.val = d.val; omega)

section Group0

variable (hW : ∀ a d, W (ix3 0 a d) = wp 0 a d) (hs : ∀ d, s (ix2 0 d) = sc (ch 0 d)) (hP : ∀ r k, P (ix2 r k) = poolRow u 0 k (512 * i.val + r.val))

include hD hs in
theorem map0 (x : Fin 528) (d : Fin 128) : (k0_pay25 D s) (ix2 x d) = dMap dh wo sc (512 * i.val + x.val) (ch 0 d) := by
  have e := hD x (ch 0 d)
  have e' := hs d
  pointwise [k0_pay25, k0_pay23]
  rw [ch_zero] at e ⊢
  unfold dMap
  rw [ch_zero] at e'
  exact Ideal.mul_congr e e'

include hD hs hW in
theorem in0 (r : Fin 512) (d : Fin 128) : (k0_pay27 (k0_pay20 (BitVec.ofNat 32 i.val)) (k0_pay21 W) (k0_pay25 D s)) (ix2 r d) = dIn dh wo wp sc 0 d (512 * i.val + r.val) := by
  have hm := map0 i D s dh wo sc hD hs
  dsimp only [k0_pay27]
  generalize k0_pay25 D s = M at hm
  generalize hR : matmul dot_S528x128_S128x128_S528x128_1_1_0_0_n_n none M (k0_pay21 W) _ = R
  have hR' : ∀ x d, R (ix2 x d) = dPool dh wo wp sc 0 d (512 * i.val + x.val) := by
    intro x d
    subst hR
    pointwise [k0_pay21]
    unfold dPool
    exact Finset.sum_congr rfl fun k _ => Ideal.mul_congr (hm x k) (hW d k)
  generalize hQ : divf R _ = Q
  obtain ⟨f, hf⟩ : ∃ f : ℕ → Fin 128 → EReal, f = fun n c => Ideal.div (dPool dh wo wp sc 0 c (512 * i.val + n)) (cnt 2 (512 * i.val + n)) := ⟨_, rfl⟩
  have hQ' : ∀ (x : Fin 528) (c : Fin 128), x.val + 1 ≤ 528 → Q (ix2 x c) = ∑ k ∈ range 1, f (x.val + k) c := by
    intro x c _
    have e := hR' x c
    have e' := count2 i x
    subst hQ hf
    pointwise
    rw [Finset.sum_range_one]
    exact congr (congrArg _ e) e'
  have hS := ahead2 Q f hQ' ⟨r.val, by omega⟩ d (by show r.val + 2 ≤ 528; omega)
  generalize (addf _ (dynamicRotate 0 527#32 none _ rotates_S528x128_d0) : FVec Ideal S528x128 .f32) = S at hS ⊢
  have e := hR' ⟨r.val, by omega⟩ d
  pointwise
  unfold dIn lead
  refine congr (congrArg _ (hS.trans ?_)) e
  refine Finset.sum_congr rfl fun k _ => ?_
  subst hf
  show Ideal.div (dPool dh wo wp sc 0 d (512 * i.val + (r.val + k))) (cnt 2 (512 * i.val + (r.val + k))) = _
  rw [← Nat.add_assoc]
  rfl

include hD hW hP in
theorem scale0 (d : Fin 128) : (k0_pay24 D P W o) (ix2 0 d) = o (ix2 0 d) + ∑ r : Fin 512, dScale dh u wo wp 0 d (512 * i.val + r.val) := by
  pointwise [k0_pay24, k0_pay23, k0_pay22, k0_pay21]
  refine congrArg (_ + ·) (Finset.sum_congr rfl fun r _ => ?_)
  unfold dScale
  rw [ch_zero]
  exact Ideal.mul_congr (hD ⟨r.val, by omega⟩ _) (Finset.sum_congr rfl fun k _ => Ideal.mul_congr (hP r k) (hW k d))

include hD hs hP in
theorem maps0 (a b : Fin 128) : (k0_pay26 (k0_pay22 P) (k0_pay25 D s) q) (ix3 0 a b) = q (ix3 0 a b) + ∑ r : Fin 512, dMaps dh u wo sc 0 a b (512 * i.val + r.val) := by
  have hm := map0 i D s dh wo sc hD hs
  dsimp only [k0_pay26, k0_pay22]
  generalize k0_pay25 D s = M at hm
  pointwise
  refine congrArg (_ + ·) (Finset.sum_congr rfl fun r _ => ?_)
  unfold dMaps
  exact Ideal.mul_congr (hP r a) (hm ⟨r.val, by omega⟩ b)

end Group0

section Group1

variable (hW : ∀ a d, W (ix3 0 a d) = wp 1 a d) (hs : ∀ d, s (ix2 0 d) = sc (ch 1 d)) (hP : ∀ r k, P (ix2 r k) = poolRow u 1 k (512 * i.val + r.val))

include hD hs in
theorem map1 (x : Fin 528) (d : Fin 128) : (k0_pay32 (k0_pay30 D) s) (ix2 x d) = dMap dh wo sc (512 * i.val + x.val) (ch 1 d) := by
  have e := hD x (ch 1 d)
  have e' := hs d
  pointwise [k0_pay32, k0_pay30]
  skip
  unfold dMap
  skip
  exact Ideal.mul_congr e e'

include hD hs hW in
theorem in1 (r : Fin 512) (d : Fin 128) : (k0_pay34 (k0_pay20 (BitVec.ofNat 32 i.val)) (k0_pay28 W) (k0_pay30 D) s) (ix2 r d) = dIn dh wo wp sc 1 d (512 * i.val + r.val) := by
  have hm := map1 i D s dh wo sc hD hs
  dsimp only [k0_pay34]
  generalize k0_pay32 (k0_pay30 D) s = M at hm
  generalize hR : matmul dot_S528x128_S128x128_S528x128_1_1_0_0_n_n none M (k0_pay28 W) _ = R
  have hR' : ∀ x d, R (ix2 x d) = dPool dh wo wp sc 1 d (512 * i.val + x.val) := by
    intro x d
    subst hR
    pointwise [k0_pay28]
    unfold dPool
    exact Finset.sum_congr rfl fun k _ => Ideal.mul_congr (hm x k) (hW d k)
  generalize hQ : divf R _ = Q
  obtain ⟨f, hf⟩ : ∃ f : ℕ → Fin 128 → EReal, f = fun n c => Ideal.div (dPool dh wo wp sc 1 c (512 * i.val + n)) (cnt 4 (512 * i.val + n)) := ⟨_, rfl⟩
  have hQ' : ∀ (x : Fin 528) (c : Fin 128), x.val + 1 ≤ 528 → Q (ix2 x c) = ∑ k ∈ range 1, f (x.val + k) c := by
    intro x c _
    have e := hR' x c
    have e' := count4 i x
    subst hQ hf
    pointwise
    rw [Finset.sum_range_one]
    exact congr (congrArg _ e) e'
  have hS := ahead4 _ _ (ahead2 Q f hQ') ⟨r.val, by omega⟩ d (by show r.val + 4 ≤ 528; omega)
  generalize (addf _ (dynamicRotate 0 526#32 none _ rotates_S528x128_d0) : FVec Ideal S528x128 .f32) = S at hS ⊢
  have e := hR' ⟨r.val, by omega⟩ d
  pointwise
  unfold dIn lead
  refine congr (congrArg _ (hS.trans ?_)) e
  refine Finset.sum_congr rfl fun k _ => ?_
  subst hf
  show Ideal.div (dPool dh wo wp sc 1 d (512 * i.val + (r.val + k))) (cnt 4 (512 * i.val + (r.val + k))) = _
  rw [← Nat.add_assoc]
  rfl

include hD hW hP in
theorem scale1 (d : Fin 128) : (k0_pay31 D P W o) (ix2 0 d) = o (ix2 0 d) + ∑ r : Fin 512, dScale dh u wo wp 1 d (512 * i.val + r.val) := by
  pointwise [k0_pay31, k0_pay30, k0_pay29, k0_pay28]
  refine congrArg (_ + ·) (Finset.sum_congr rfl fun r _ => ?_)
  unfold dScale
  skip
  exact Ideal.mul_congr (hD ⟨r.val, by omega⟩ _) (Finset.sum_congr rfl fun k _ => Ideal.mul_congr (hP r k) (hW k d))

include hD hs hP in
theorem maps1 (a b : Fin 128) : (k0_pay33 (k0_pay29 P) (k0_pay30 D) s q) (ix3 0 a b) = q (ix3 0 a b) + ∑ r : Fin 512, dMaps dh u wo sc 1 a b (512 * i.val + r.val) := by
  have hm := map1 i D s dh wo sc hD hs
  dsimp only [k0_pay33, k0_pay29]
  generalize k0_pay32 (k0_pay30 D) s = M at hm
  pointwise
  refine congrArg (_ + ·) (Finset.sum_congr rfl fun r _ => ?_)
  unfold dMaps
  exact Ideal.mul_congr (hP r a) (hm ⟨r.val, by omega⟩ b)

end Group1

section Group2

variable (hW : ∀ a d, W (ix3 0 a d) = wp 2 a d) (hs : ∀ d, s (ix2 0 d) = sc (ch 2 d)) (hP : ∀ r k, P (ix2 r k) = poolRow u 2 k (512 * i.val + r.val))

include hD hs in
theorem map2 (x : Fin 528) (d : Fin 128) : (k0_pay39 (k0_pay37 D) s) (ix2 x d) = dMap dh wo sc (512 * i.val + x.val) (ch 2 d) := by
  have e := hD x (ch 2 d)
  have e' := hs d
  pointwise [k0_pay39, k0_pay37]
  skip
  unfold dMap
  skip
  exact Ideal.mul_congr e e'

include hD hs hW in
theorem in2 (r : Fin 512) (d : Fin 128) : (k0_pay42 (k0_pay41 (k0_pay20 (BitVec.ofNat 32 i.val)) (k0_pay35 W) (k0_pay37 D) s)) (ix2 r d) = dIn dh wo wp sc 2 d (512 * i.val + r.val) := by
  have hm := map2 i D s dh wo sc hD hs
  dsimp only [k0_pay42, k0_pay41]
  generalize k0_pay39 (k0_pay37 D) s = M at hm
  generalize hR : matmul dot_S528x128_S128x128_S528x128_1_1_0_0_n_n none M (k0_pay35 W) _ = R
  have hR' : ∀ x d, R (ix2 x d) = dPool dh wo wp sc 2 d (512 * i.val + x.val) := by
    intro x d
    subst hR
    pointwise [k0_pay35]
    unfold dPool
    exact Finset.sum_congr rfl fun k _ => Ideal.mul_congr (hm x k) (hW d k)
  generalize hQ : divf R _ = Q
  obtain ⟨f, hf⟩ : ∃ f : ℕ → Fin 128 → EReal, f = fun n c => Ideal.div (dPool dh wo wp sc 2 c (512 * i.val + n)) (cnt 8 (512 * i.val + n)) := ⟨_, rfl⟩
  have hQ' : ∀ (x : Fin 528) (c : Fin 128), x.val + 1 ≤ 528 → Q (ix2 x c) = ∑ k ∈ range 1, f (x.val + k) c := by
    intro x c _
    have e := hR' x c
    have e' := count8 i x
    subst hQ hf
    pointwise
    rw [Finset.sum_range_one]
    exact congr (congrArg _ e) e'
  have hS := ahead8 _ _ (ahead4 _ _ (ahead2 Q f hQ')) ⟨r.val, by omega⟩ d (by show r.val + 8 ≤ 528; omega)
  generalize (addf _ (dynamicRotate 0 524#32 none _ rotates_S528x128_d0) : FVec Ideal S528x128 .f32) = S at hS ⊢
  have e := hR' ⟨r.val, by omega⟩ d
  pointwise
  unfold dIn lead
  refine congr (congrArg _ (hS.trans ?_)) e
  refine Finset.sum_congr rfl fun k _ => ?_
  subst hf
  show Ideal.div (dPool dh wo wp sc 2 d (512 * i.val + (r.val + k))) (cnt 8 (512 * i.val + (r.val + k))) = _
  rw [← Nat.add_assoc]
  rfl

include hD hW hP in
theorem scale2 (d : Fin 128) : (k0_pay38 (k0_pay35 W) (k0_pay36 P) (k0_pay37 D) o) (ix2 0 d) = o (ix2 0 d) + ∑ r : Fin 512, dScale dh u wo wp 2 d (512 * i.val + r.val) := by
  pointwise [k0_pay38, k0_pay35, k0_pay36, k0_pay37]
  refine congrArg (_ + ·) (Finset.sum_congr rfl fun r _ => ?_)
  unfold dScale
  skip
  exact Ideal.mul_congr (hD ⟨r.val, by omega⟩ _) (Finset.sum_congr rfl fun k _ => Ideal.mul_congr (hP r k) (hW k d))

include hD hs hP in
theorem maps2 (a b : Fin 128) : (k0_pay40 (k0_pay36 P) (k0_pay37 D) s q) (ix3 0 a b) = q (ix3 0 a b) + ∑ r : Fin 512, dMaps dh u wo sc 2 a b (512 * i.val + r.val) := by
  have hm := map2 i D s dh wo sc hD hs
  dsimp only [k0_pay40, k0_pay36]
  generalize k0_pay39 (k0_pay37 D) s = M at hm
  pointwise
  refine congrArg (_ + ·) (Finset.sum_congr rfl fun r _ => ?_)
  unfold dMaps
  exact Ideal.mul_congr (hP r a) (hm ⟨r.val, by omega⟩ b)

end Group2

section Group3

variable (hW : ∀ a d, W (ix3 0 a d) = wp 3 a d) (hs : ∀ d, s (ix2 0 d) = sc (ch 3 d)) (hP : ∀ r k, P (ix2 r k) = poolRow u 3 k (512 * i.val + r.val))

include hD hs in
theorem map3 (x : Fin 528) (d : Fin 128) : (k0_pay47 D s) (ix2 x d) = dMap dh wo sc (512 * i.val + x.val) (ch 3 d) := by
  have e := hD x (ch 3 d)
  have e' := hs d
  pointwise [k0_pay47, k0_pay45]
  skip
  unfold dMap
  skip
  exact Ideal.mul_congr e e'

include hD hs hW in
theorem in3 (r : Fin 512) (d : Fin 128) : (k0_pay1 (k0_pay49 D W s) (k0_pay50 (k0_pay20 (BitVec.ofNat 32 i.val)))) (ix2 r d) = dIn dh wo wp sc 3 d (512 * i.val + r.val) := by
  have hm := map3 i D s dh wo sc hD hs
  dsimp only [k0_pay1, k0_pay50, k0_pay49]
  generalize k0_pay47 D s = M at hm
  generalize hR : matmul dot_S528x128_S128x128_S528x128_1_1_0_0_n_n none M (k0_pay43 W) _ = R
  have hR' : ∀ x d, R (ix2 x d) = dPool dh wo wp sc 3 d (512 * i.val + x.val) := by
    intro x d
    subst hR
    pointwise [k0_pay43]
    unfold dPool
    exact Finset.sum_congr rfl fun k _ => Ideal.mul_congr (hm x k) (hW d k)
  generalize hQ : divf R _ = Q
  obtain ⟨f, hf⟩ : ∃ f : ℕ → Fin 128 → EReal, f = fun n c => Ideal.div (dPool dh wo wp sc 3 c (512 * i.val + n)) (cnt 16 (512 * i.val + n)) := ⟨_, rfl⟩
  have hQ' : ∀ (x : Fin 528) (c : Fin 128), x.val + 1 ≤ 528 → Q (ix2 x c) = ∑ k ∈ range 1, f (x.val + k) c := by
    intro x c _
    have e := hR' x c
    have e' := count16 i x
    subst hQ hf
    pointwise
    rw [Finset.sum_range_one]
    exact congr (congrArg _ e) e'
  have hS := ahead16 _ _ (ahead8 _ _ (ahead4 _ _ (ahead2 Q f hQ'))) ⟨r.val, by omega⟩ d (by show r.val + 16 ≤ 528; omega)
  generalize (addf _ (dynamicRotate 0 520#32 none _ rotates_S528x128_d0) : FVec Ideal S528x128 .f32) = S at hS ⊢
  have e := hR' ⟨r.val, by omega⟩ d
  pointwise
  unfold dIn lead
  refine congr (congrArg _ (hS.trans ?_)) e
  refine Finset.sum_congr rfl fun k _ => ?_
  subst hf
  show Ideal.div (dPool dh wo wp sc 3 d (512 * i.val + (r.val + k))) (cnt 16 (512 * i.val + (r.val + k))) = _
  rw [← Nat.add_assoc]
  rfl

include hD hW hP in
theorem scale3 (d : Fin 128) : (k0_pay46 D P W o) (ix2 0 d) = o (ix2 0 d) + ∑ r : Fin 512, dScale dh u wo wp 3 d (512 * i.val + r.val) := by
  pointwise [k0_pay46, k0_pay45, k0_pay44, k0_pay43]
  refine congrArg (_ + ·) (Finset.sum_congr rfl fun r _ => ?_)
  unfold dScale
  skip
  exact Ideal.mul_congr (hD ⟨r.val, by omega⟩ _) (Finset.sum_congr rfl fun k _ => Ideal.mul_congr (hP r k) (hW k d))

include hD hs hP in
theorem maps3 (a b : Fin 128) : (k0_pay48 D P s q) (ix3 0 a b) = q (ix3 0 a b) + ∑ r : Fin 512, dMaps dh u wo sc 3 a b (512 * i.val + r.val) := by
  have hm := map3 i D s dh wo sc hD hs
  dsimp only [k0_pay48, k0_pay44]
  generalize k0_pay47 D s = M at hm
  pointwise
  refine congrArg (_ + ·) (Finset.sum_congr rfl fun r _ => ?_)
  unfold dMaps
  exact Ideal.mul_congr (hP r a) (hm ⟨r.val, by omega⟩ b)

end Group3

end Tile

end Cert.MixBwdIdeal.Hand
-- ==== Proof.Mix.Tile.lean ====
module

public import proofs.«01_k».proof.Proof.Gen.MixBwdIdeal.Value
public import proofs.«01_k».proof.Proof.Mix.Arith
public import Idealize.ShloMosaic.Lib.Pipeline.ReadBack
public import Idealize.ShloMosaic.Lib.Pipeline.ValueKit
public import Idealize.ShloMosaic.Lib.Pointwise

@[expose] public section

set_option maxRecDepth 16384

noncomputable section

/-! What the mixer gradient's body leaves at a point, from the tile it reads. -/

namespace Cert.MixBwdIdeal.Hand

open Cert.MixBwdIdeal Cert.MixBwdIdeal.Gen Cert.Mix Idealize.ShloMosaic Idealize.ShloMosaic.TcCoe Idealize.SL.Sem

/-- The blocks a point reads are its rows of the cotangent and of the mixer's input, with the sixteen after and before, and the weights. -/
structure Reads (t : Fin cfg0.N) (b0 : Vec Ideal S512x1024 .bf16) (b1 : Vec Ideal S16x1024 .bf16) (b2 : Vec Ideal S512x512 .f32)
    (b3 : Vec Ideal S16x512 .f32) (b6 : Vec Ideal S1024x1024 .bf16) (b7 : Vec Ideal S4x128x128 .f32) (b8 : Vec Ideal S1x512 .f32)
    (dh : ℕ → Fin 1024 → EReal) (u : ℕ → Fin 512 → EReal) (wo : Fin 1024 → Fin 1024 → EReal) (wp : Fin 4 → Fin 128 → Fin 128 → EReal)
    (sc : Fin 512 → EReal) : Prop where
  rows : ∀ (r : Fin 512) k, b0 (ix2 r k) = dh (512 * t.val + r.val) k
  after : t.val < 7 → ∀ (x : Fin 16) k, b1 (ix2 x k) = dh (512 * (t.val + 1) + x.val) k
  past : ∀ n k, 4096 ≤ n → dh n k = 0
  ins : ∀ (r : Fin 512) c, b2 (ix2 r c) = u (512 * t.val + r.val) c
  before : 0 < t.val → ∀ (x : Fin 16) c, b3 (ix2 x c) = u (512 * t.val - 16 + x.val) c
  out : ∀ a k, b6 (ix2 a k) = wo a k
  maps : ∀ g a d, b7 (ix3 g a d) = wp g a d
  scale : ∀ k, b8 (ix2 0 k) = sc k

theorem coord : ∀ t : Fin cfg0.N, (grid0.coords t 0).val = t.val := (by decide +kernel : ∀ t : Fin grid0.N, _)

/-- A point's number, among the eight. -/
def eighth (t : Fin cfg0.N) : Fin 8 := ⟨t.val, lt_of_lt_of_eq t.isLt (show cfg0.N = 8 from N_0)⟩

section Drop

variable {Val : EltTy → Type} [∀ e, Nonempty (Val e)] {s : Shape} {e : EltTy}

/-- A store that later ones cover leaves nothing. -/
theorem canon_drop (z : View.Piece Val s e) : ∀ (L : List (View.Piece Val s e)) (y : s.Idx), (∃ p ∈ L, y ∈ p.1.set) →
    View.canon (L ++ [z]) y = View.canon L y
  | [], _, h => by obtain ⟨p, hp, _⟩ := h; exact absurd hp List.not_mem_nil
  | p :: L, y, h => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem p _ hm, View.canon_cons_of_not_mem p _ hm]
      refine canon_drop z L y ?_
      obtain ⟨q, hq, hy⟩ := h
      rcases List.mem_cons.mp hq with rfl | hq
      · exact absurd hy hm
      · exact ⟨q, hq, hy⟩

theorem canon_drop4 (a b c d z : View.Piece Val s e) (y : s.Idx) (h : ∃ p ∈ [a, b, c, d], y ∈ p.1.set) :
    View.canon [a, b, c, d, z] y = View.canon [a, b, c, d] y := canon_drop z [a, b, c, d] y h
theorem canon_drop2 (a b z : View.Piece Val s e) (y : s.Idx) (h : ∃ p ∈ [a, b], y ∈ p.1.set) :
    View.canon [a, b, z] y = View.canon [a, b] y := canon_drop z [a, b] y h

end Drop

theorem grp_eq {k : Fin 512} (g : Fin 4) (d : Fin 128) (h : k.val = 128 * g.val + d.val) : grp k = g ∧ lane k = d :=
  ⟨Fin.ext (by show k.val / 128 = _; omega), Fin.ext (by show k.val % 128 = _; omega)⟩

section Tile

variable (c : Dev nD) (t : Fin cfg0.N) (b0 : Vec Ideal S512x1024 .bf16) (b1 : Vec Ideal S16x1024 .bf16) (b2 : Vec Ideal S512x512 .f32)
  (b3 : Vec Ideal S16x512 .f32) (b4 b5 : Vec Ideal S512x512 .bf16) (b6 : Vec Ideal S1024x1024 .bf16) (b7 : Vec Ideal S4x128x128 .f32)
  (b8 : Vec Ideal S1x512 .f32) (o11 : Vec Ideal S4x128x128 .f32) (o12 : Vec Ideal S1x512 .f32) (o13 : Vec Ideal S1024x1024 .f32)
  (dh : ℕ → Fin 1024 → EReal) (u : ℕ → Fin 512 → EReal) (wo : Fin 1024 → Fin 1024 → EReal) (wp : Fin 4 → Fin 128 → Fin 128 → EReal) (sc : Fin 512 → EReal)
  (H : Reads t b0 b1 b2 b3 b6 b7 b8 dh u wo wp sc)

include H

/-- The mixer rows' cotangent on the tile and on the sixteen rows after it. -/
theorem cotangent (x : Fin 528) (k : Fin 512) :
    k0_pay10 (k0_pay5 b0) (k0_pay9 (grid0.coords t) b1) (View.ld b6 (Rect.unit (s := S1024x1024) ![512, 0] S512x1024.size inb_S1024x1024_S512x1024_512_0)) (ix2 x k)
      = dMix dh wo (512 * (eighth t).val + x.val) k := by
  have hc := coord t
  have ht : t.val < 8 := (eighth t).isLt
  pointwise [k0_pay10, k0_pay5, k0_pay9]
  unfold dMix
  refine Finset.sum_congr rfl fun j _ => Ideal.mul_congr ?_ ?_
  · by_cases hx : x.val < 512
    · rw [dif_pos hx, H.rows]; rfl
    · rw [dif_neg hx, hc]
      refine (select_lt (eighth t) _ _).trans ?_
      by_cases h7 : (eighth t).val < 7
      · rw [if_pos h7, H.after h7]
        congr 1
        show 512 * (t.val + 1) + (x.val - 512) = 512 * t.val + x.val
        omega
      · rw [if_neg h7]
        refine (H.past _ _ ?_).symm
        show 4096 ≤ 512 * t.val + x.val
        have : ¬t.val < 7 := h7
        omega
  · exact H.out _ _

end Tile

end Cert.MixBwdIdeal.Hand
-- ==== Proof.Mix.Tile9.lean ====
module

public import proofs.«01_k».proof.Proof.Gen.MixBwdIdeal.Value
public import proofs.«01_k».proof.Proof.Mix.Tile
public import Idealize.ShloMosaic.Lib.Pipeline.ReadBack
public import Idealize.ShloMosaic.Lib.Pipeline.ValueKit
public import Idealize.ShloMosaic.Lib.Pointwise

@[expose] public section

set_option maxRecDepth 16384

noncomputable section

namespace Cert.MixBwdIdeal.Hand

open Cert.MixBwdIdeal Cert.MixBwdIdeal.Gen Cert.Mix Idealize.ShloMosaic Idealize.ShloMosaic.TcCoe Idealize.SL.Sem

section Tile

variable (c : Dev nD) (t : Fin cfg0.N) (b0 : Vec Ideal S512x1024 .bf16) (b1 : Vec Ideal S16x1024 .bf16) (b2 : Vec Ideal S512x512 .f32)
  (b3 : Vec Ideal S16x512 .f32) (b4 b5 : Vec Ideal S512x512 .bf16) (b6 : Vec Ideal S1024x1024 .bf16) (b7 : Vec Ideal S4x128x128 .f32)
  (b8 : Vec Ideal S1x512 .f32) (o11 : Vec Ideal S4x128x128 .f32) (o12 : Vec Ideal S1x512 .f32) (o13 : Vec Ideal S1024x1024 .f32)
  (dh : ℕ → Fin 1024 → EReal) (u : ℕ → Fin 512 → EReal) (wo : Fin 1024 → Fin 1024 → EReal) (wp : Fin 4 → Fin 128 → Fin 128 → EReal) (sc : Fin 512 → EReal)
  (H : Reads t b0 b1 b2 b3 b6 b7 b8 dh u wo wp sc)

include H in
set_option maxHeartbeats 2000000 in
/-- The attention rows' cotangent. -/
theorem tile9First (hc : cond0_0 (grid0.coords t)) : (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) hc b0 b1 b2 b3 b4 b5 b6 b7 b8) = fun y => dAttn dh wo (512 * (eighth t).val + (y 0).val) (y 1) := by
  have hD := cotangent t b0 b1 b2 b3 b6 b7 b8 dh u wo wp sc H
  unfold out0_A_9
  frame_open
  simp (disch := decide) only [↓ View.readCov_skip, ↓ View.readCov_cons_toLoadRect, ↓ View.readCov_fill]
  frame_out
  funext y
  idx_vars y
  pointwise [k0_pay8, k0_pay5]
  unfold dAttn
  exact Finset.sum_congr rfl fun k _ => Ideal.mul_congr (H.rows _ k) (H.out _ k)
include H in
set_option maxHeartbeats 2000000 in
/-- The attention rows' cotangent. -/
theorem tile9Later (hc : ¬cond0_0 (grid0.coords t)) : (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) hc b0 b1 b2 b3 b4 b5 b6 b7 b8 o11 o12 o13) = fun y => dAttn dh wo (512 * (eighth t).val + (y 0).val) (y 1) := by
  have hD := cotangent t b0 b1 b2 b3 b6 b7 b8 dh u wo wp sc H
  unfold out0_B_9
  frame_open
  simp (disch := decide) only [↓ View.readCov_skip, ↓ View.readCov_cons_toLoadRect, ↓ View.readCov_fill]
  frame_out
  funext y
  idx_vars y
  pointwise [k0_pay8, k0_pay5]
  unfold dAttn
  exact Finset.sum_congr rfl fun k _ => Ideal.mul_congr (H.rows _ k) (H.out _ k)

end Tile

end Cert.MixBwdIdeal.Hand
-- ==== Proof.Mix.Tile10.lean ====
module

public import proofs.«01_k».proof.Proof.Gen.MixBwdIdeal.Value
public import proofs.«01_k».proof.Proof.Mix.Tile
public import Idealize.ShloMosaic.Lib.Pipeline.ReadBack
public import Idealize.ShloMosaic.Lib.Pipeline.ValueKit
public import Idealize.ShloMosaic.Lib.Pointwise

@[expose] public section

set_option maxRecDepth 16384

noncomputable section

namespace Cert.MixBwdIdeal.Hand

open Cert.MixBwdIdeal Cert.MixBwdIdeal.Gen Cert.Mix Idealize.ShloMosaic Idealize.ShloMosaic.TcCoe Idealize.SL.Sem

section Tile

variable (c : Dev nD) (t : Fin cfg0.N) (b0 : Vec Ideal S512x1024 .bf16) (b1 : Vec Ideal S16x1024 .bf16) (b2 : Vec Ideal S512x512 .f32)
  (b3 : Vec Ideal S16x512 .f32) (b4 b5 : Vec Ideal S512x512 .bf16) (b6 : Vec Ideal S1024x1024 .bf16) (b7 : Vec Ideal S4x128x128 .f32)
  (b8 : Vec Ideal S1x512 .f32) (o11 : Vec Ideal S4x128x128 .f32) (o12 : Vec Ideal S1x512 .f32) (o13 : Vec Ideal S1024x1024 .f32)
  (dh : ℕ → Fin 1024 → EReal) (u : ℕ → Fin 512 → EReal) (wo : Fin 1024 → Fin 1024 → EReal) (wp : Fin 4 → Fin 128 → Fin 128 → EReal) (sc : Fin 512 → EReal)
  (H : Reads t b0 b1 b2 b3 b6 b7 b8 dh u wo wp sc)

include H in
set_option maxHeartbeats 2000000 in
/-- The mixer's input's cotangent. -/
theorem tile10First (hc : cond0_0 (grid0.coords t)) : (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) hc b0 b1 b2 b3 b4 b5 b6 b7 b8) = fun y => dIn dh wo wp sc (grp (y 1)) (lane (y 1)) (512 * (eighth t).val + (y 0).val) := by
  have hD := cotangent t b0 b1 b2 b3 b6 b7 b8 dh u wo wp sc H
  unfold out0_A_10
  frame_open
  simp (disch := decide) only [↓ View.readCov_skip, ↓ View.readCov_cons_toLoadRect, ↓ View.readCov_fill]
  frame_out
  rw [coord t]
  funext y
  canon_tiles x h
  · idx_vars x
    idx_vars y
    obtain ⟨hg, hl⟩ := grp_eq (k := y1) 3 x1 (by first | exact h1 | (rw [h1]; show _ = 128 * 0 + _; omega))
    obtain rfl : y0 = x0 := Fin.ext h0
    refine (in3 (eighth t) _ (View.ld b7 (Rect.unit (s := S4x128x128) ![3, 0, 0] S1x128x128.size inb_S4x128x128_S1x128x128_3_0_0)) (View.ld b8 (Rect.unit (s := S1x512) ![0, 384] S1x128.size inb_S1x512_S1x128_0_384)) dh wo wp sc hD (fun a d => ?_) (fun d => ?_) y0 x1).trans ?_
    · pointwise; exact H.maps _ _ _
    · pointwise; exact (H.scale _).trans (congrArg sc (Fin.ext (by show 384 + d.val = 128 * 3 + d.val; omega)))
    · show _ = dIn dh wo wp sc (grp y1) (lane y1) _; rw [hg, hl]
  · idx_vars x
    idx_vars y
    obtain ⟨hg, hl⟩ := grp_eq (k := y1) 2 x1 (by first | exact h1 | (rw [h1]; show _ = 128 * 0 + _; omega))
    obtain rfl : y0 = x0 := Fin.ext h0
    refine (in2 (eighth t) _ (View.ld b7 (Rect.unit (s := S4x128x128) ![2, 0, 0] S1x128x128.size inb_S4x128x128_S1x128x128_2_0_0)) (View.ld b8 (Rect.unit (s := S1x512) ![0, 256] S1x128.size inb_S1x512_S1x128_0_256)) dh wo wp sc hD (fun a d => ?_) (fun d => ?_) y0 x1).trans ?_
    · pointwise; exact H.maps _ _ _
    · pointwise; exact (H.scale _).trans (congrArg sc (Fin.ext (by show 256 + d.val = 128 * 2 + d.val; omega)))
    · show _ = dIn dh wo wp sc (grp y1) (lane y1) _; rw [hg, hl]
  · idx_vars x
    idx_vars y
    obtain ⟨hg, hl⟩ := grp_eq (k := y1) 1 x1 (by first | exact h1 | (rw [h1]; show _ = 128 * 0 + _; omega))
    obtain rfl : y0 = x0 := Fin.ext h0
    refine (in1 (eighth t) _ (View.ld b7 (Rect.unit (s := S4x128x128) ![1, 0, 0] S1x128x128.size inb_S4x128x128_S1x128x128_1_0_0)) (View.ld b8 (Rect.unit (s := S1x512) ![0, 128] S1x128.size inb_S1x512_S1x128_0_128)) dh wo wp sc hD (fun a d => ?_) (fun d => ?_) y0 x1).trans ?_
    · pointwise; exact H.maps _ _ _
    · pointwise; exact (H.scale _).trans (congrArg sc (Fin.ext (by show 128 + d.val = 128 * 1 + d.val; omega)))
    · show _ = dIn dh wo wp sc (grp y1) (lane y1) _; rw [hg, hl]
  · idx_vars x
    idx_vars y
    obtain ⟨hg, hl⟩ := grp_eq (k := y1) 0 x1 (by first | exact h1 | (rw [h1]; show _ = 128 * 0 + _; omega))
    obtain rfl : y0 = x0 := Fin.ext h0
    refine (in0 (eighth t) _ (View.ld b7 (Rect.unit (s := S4x128x128) ![0, 0, 0] S1x128x128.size inb_S4x128x128_S1x128x128_0_0_0)) (View.ld b8 (Rect.unit (s := S1x512) ![0, 0] S1x128.size inb_S1x512_S1x128_0_0)) dh wo wp sc hD (fun a d => ?_) (fun d => ?_) y0 x1).trans ?_
    · pointwise; exact H.maps _ _ _
    · pointwise; exact (H.scale _).trans (congrArg sc (Fin.ext (by show d.val = 128 * 0 + d.val; omega)))
    · show _ = dIn dh wo wp sc (grp y1) (lane y1) _; rw [hg, hl]
include H in
set_option maxHeartbeats 2000000 in
/-- The mixer's input's cotangent. -/
theorem tile10Later (hc : ¬cond0_0 (grid0.coords t)) : (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) hc b0 b1 b2 b3 b4 b5 b6 b7 b8 o11 o12 o13) = fun y => dIn dh wo wp sc (grp (y 1)) (lane (y 1)) (512 * (eighth t).val + (y 0).val) := by
  have hD := cotangent t b0 b1 b2 b3 b6 b7 b8 dh u wo wp sc H
  unfold out0_B_10
  frame_open
  simp (disch := decide) only [↓ View.readCov_skip, ↓ View.readCov_cons_toLoadRect, ↓ View.readCov_fill]
  frame_out
  rw [coord t]
  funext y
  canon_tiles x h
  · idx_vars x
    idx_vars y
    obtain ⟨hg, hl⟩ := grp_eq (k := y1) 3 x1 (by first | exact h1 | (rw [h1]; show _ = 128 * 0 + _; omega))
    obtain rfl : y0 = x0 := Fin.ext h0
    refine (in3 (eighth t) _ (View.ld b7 (Rect.unit (s := S4x128x128) ![3, 0, 0] S1x128x128.size inb_S4x128x128_S1x128x128_3_0_0)) (View.ld b8 (Rect.unit (s := S1x512) ![0, 384] S1x128.size inb_S1x512_S1x128_0_384)) dh wo wp sc hD (fun a d => ?_) (fun d => ?_) y0 x1).trans ?_
    · pointwise; exact H.maps _ _ _
    · pointwise; exact (H.scale _).trans (congrArg sc (Fin.ext (by show 384 + d.val = 128 * 3 + d.val; omega)))
    · show _ = dIn dh wo wp sc (grp y1) (lane y1) _; rw [hg, hl]
  · idx_vars x
    idx_vars y
    obtain ⟨hg, hl⟩ := grp_eq (k := y1) 2 x1 (by first | exact h1 | (rw [h1]; show _ = 128 * 0 + _; omega))
    obtain rfl : y0 = x0 := Fin.ext h0
    refine (in2 (eighth t) _ (View.ld b7 (Rect.unit (s := S4x128x128) ![2, 0, 0] S1x128x128.size inb_S4x128x128_S1x128x128_2_0_0)) (View.ld b8 (Rect.unit (s := S1x512) ![0, 256] S1x128.size inb_S1x512_S1x128_0_256)) dh wo wp sc hD (fun a d => ?_) (fun d => ?_) y0 x1).trans ?_
    · pointwise; exact H.maps _ _ _
    · pointwise; exact (H.scale _).trans (congrArg sc (Fin.ext (by show 256 + d.val = 128 * 2 + d.val; omega)))
    · show _ = dIn dh wo wp sc (grp y1) (lane y1) _; rw [hg, hl]
  · idx_vars x
    idx_vars y
    obtain ⟨hg, hl⟩ := grp_eq (k := y1) 1 x1 (by first | exact h1 | (rw [h1]; show _ = 128 * 0 + _; omega))
    obtain rfl : y0 = x0 := Fin.ext h0
    refine (in1 (eighth t) _ (View.ld b7 (Rect.unit (s := S4x128x128) ![1, 0, 0] S1x128x128.size inb_S4x128x128_S1x128x128_1_0_0)) (View.ld b8 (Rect.unit (s := S1x512) ![0, 128] S1x128.size inb_S1x512_S1x128_0_128)) dh wo wp sc hD (fun a d => ?_) (fun d => ?_) y0 x1).trans ?_
    · pointwise; exact H.maps _ _ _
    · pointwise; exact (H.scale _).trans (congrArg sc (Fin.ext (by show 128 + d.val = 128 * 1 + d.val; omega)))
    · show _ = dIn dh wo wp sc (grp y1) (lane y1) _; rw [hg, hl]
  · idx_vars x
    idx_vars y
    obtain ⟨hg, hl⟩ := grp_eq (k := y1) 0 x1 (by first | exact h1 | (rw [h1]; show _ = 128 * 0 + _; omega))
    obtain rfl : y0 = x0 := Fin.ext h0
    refine (in0 (eighth t) _ (View.ld b7 (Rect.unit (s := S4x128x128) ![0, 0, 0] S1x128x128.size inb_S4x128x128_S1x128x128_0_0_0)) (View.ld b8 (Rect.unit (s := S1x512) ![0, 0] S1x128.size inb_S1x512_S1x128_0_0)) dh wo wp sc hD (fun a d => ?_) (fun d => ?_) y0 x1).trans ?_
    · pointwise; exact H.maps _ _ _
    · pointwise; exact (H.scale _).trans (congrArg sc (Fin.ext (by show d.val = 128 * 0 + d.val; omega)))
    · show _ = dIn dh wo wp sc (grp y1) (lane y1) _; rw [hg, hl]

end Tile

end Cert.MixBwdIdeal.Hand
-- ==== Proof.Mix.Tile11.lean ====
module

public import proofs.«01_k».proof.Proof.Gen.MixBwdIdeal.Value
public import proofs.«01_k».proof.Proof.Mix.Tile
public import Idealize.ShloMosaic.Lib.Pipeline.ReadBack
public import Idealize.ShloMosaic.Lib.Pipeline.ValueKit
public import Idealize.ShloMosaic.Lib.Pointwise

@[expose] public section

set_option maxRecDepth 16384

noncomputable section

namespace Cert.MixBwdIdeal.Hand

open Cert.MixBwdIdeal Cert.MixBwdIdeal.Gen Cert.Mix Idealize.ShloMosaic Idealize.ShloMosaic.TcCoe Idealize.SL.Sem

section Tile

variable (c : Dev nD) (t : Fin cfg0.N) (b0 : Vec Ideal S512x1024 .bf16) (b1 : Vec Ideal S16x1024 .bf16) (b2 : Vec Ideal S512x512 .f32)
  (b3 : Vec Ideal S16x512 .f32) (b4 b5 : Vec Ideal S512x512 .bf16) (b6 : Vec Ideal S1024x1024 .bf16) (b7 : Vec Ideal S4x128x128 .f32)
  (b8 : Vec Ideal S1x512 .f32) (o11 : Vec Ideal S4x128x128 .f32) (o12 : Vec Ideal S1x512 .f32) (o13 : Vec Ideal S1024x1024 .f32)
  (dh : ℕ → Fin 1024 → EReal) (u : ℕ → Fin 512 → EReal) (wo : Fin 1024 → Fin 1024 → EReal) (wp : Fin 4 → Fin 128 → Fin 128 → EReal) (sc : Fin 512 → EReal)
  (H : Reads t b0 b1 b2 b3 b6 b7 b8 dh u wo wp sc)

include H in
set_option maxHeartbeats 2000000 in
/-- The group maps' gradient so far. -/
theorem tile11First (hc : cond0_0 (grid0.coords t)) : (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) hc b0 b1 b2 b3 b4 b5 b6 b7 b8) = fun y => 0 + ∑ r : Fin 512, dMaps dh u wo sc (y 0) (y 1) (y 2) (512 * (eighth t).val + r.val) := by
  have hD := cotangent t b0 b1 b2 b3 b6 b7 b8 dh u wo wp sc H
  unfold out0_A_11
  frame_open
  simp (disch := decide) only [↓ View.readCov_skip, ↓ View.readCov_cons_toLoadRect, ↓ View.readCov_fill]
  frame_out
  rw [coord t]
  funext y
  refine (canon_drop4 _ _ _ _ _ y ?_).trans ?_
  · exact View.cover_of_tiled_head _ _ _ (by rfl) y
  canon_tiles x h
  · idx_vars x
    idx_vars y
    obtain rfl : x0 = 0 := Subsingleton.elim _ _
    obtain rfl : y0 = 3 := Fin.ext h0
    obtain rfl : y1 = x1 := Fin.ext h1
    obtain rfl : y2 = x2 := Fin.ext h2
    refine (maps3 (eighth t) _ _ (View.ld b8 (Rect.unit (s := S1x512) ![0, 384] S1x128.size inb_S1x512_S1x128_0_384)) _ dh u wo sc hD (fun d => ?_) (pool3 (eighth t) b2 b3 u H.ins H.before) y1 y2).trans ?_
    · pointwise; exact (H.scale _).trans (congrArg sc (Fin.ext (by show 384 + d.val = 128 * 3 + d.val; omega)))
    · refine congrArg (· + _) ?_
      pointwise [k0_pay2]
  · idx_vars x
    idx_vars y
    obtain rfl : x0 = 0 := Subsingleton.elim _ _
    obtain rfl : y0 = 2 := Fin.ext h0
    obtain rfl : y1 = x1 := Fin.ext h1
    obtain rfl : y2 = x2 := Fin.ext h2
    refine (maps2 (eighth t) _ _ (View.ld b8 (Rect.unit (s := S1x512) ![0, 256] S1x128.size inb_S1x512_S1x128_0_256)) _ dh u wo sc hD (fun d => ?_) (pool2 (eighth t) b2 b3 u H.ins H.before) y1 y2).trans ?_
    · pointwise; exact (H.scale _).trans (congrArg sc (Fin.ext (by show 256 + d.val = 128 * 2 + d.val; omega)))
    · refine congrArg (· + _) ?_
      pointwise [k0_pay2]
  · idx_vars x
    idx_vars y
    obtain rfl : x0 = 0 := Subsingleton.elim _ _
    obtain rfl : y0 = 1 := Fin.ext h0
    obtain rfl : y1 = x1 := Fin.ext h1
    obtain rfl : y2 = x2 := Fin.ext h2
    refine (maps1 (eighth t) _ _ (View.ld b8 (Rect.unit (s := S1x512) ![0, 128] S1x128.size inb_S1x512_S1x128_0_128)) _ dh u wo sc hD (fun d => ?_) (pool1 (eighth t) b2 b3 u H.ins H.before) y1 y2).trans ?_
    · pointwise; exact (H.scale _).trans (congrArg sc (Fin.ext (by show 128 + d.val = 128 * 1 + d.val; omega)))
    · refine congrArg (· + _) ?_
      pointwise [k0_pay2]
  · idx_vars x
    idx_vars y
    obtain rfl : x0 = 0 := Subsingleton.elim _ _
    obtain rfl : y0 = 0 := Fin.ext h0
    obtain rfl : y1 = x1 := Fin.ext h1
    obtain rfl : y2 = x2 := Fin.ext h2
    refine (maps0 (eighth t) _ _ (View.ld b8 (Rect.unit (s := S1x512) ![0, 0] S1x128.size inb_S1x512_S1x128_0_0)) _ dh u wo sc hD (fun d => ?_) (pool0 (eighth t) b2 b3 u H.ins H.before) y1 y2).trans ?_
    · pointwise; exact (H.scale _).trans (congrArg sc (Fin.ext (by show d.val = 128 * 0 + d.val; omega)))
    · refine congrArg (· + _) ?_
      pointwise [k0_pay2]
include H in
set_option maxHeartbeats 2000000 in
/-- The group maps' gradient so far. -/
theorem tile11Later (hc : ¬cond0_0 (grid0.coords t)) : (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) hc b0 b1 b2 b3 b4 b5 b6 b7 b8 o11 o12 o13) = fun y => o11 y + ∑ r : Fin 512, dMaps dh u wo sc (y 0) (y 1) (y 2) (512 * (eighth t).val + r.val) := by
  have hD := cotangent t b0 b1 b2 b3 b6 b7 b8 dh u wo wp sc H
  unfold out0_B_11
  frame_open
  simp (disch := decide) only [↓ View.readCov_skip, ↓ View.readCov_cons_toLoadRect, ↓ View.readCov_fill]
  frame_out
  rw [coord t]
  funext y
  canon_tiles x h
  · idx_vars x
    idx_vars y
    obtain rfl : x0 = 0 := Subsingleton.elim _ _
    obtain rfl : y0 = 3 := Fin.ext h0
    obtain rfl : y1 = x1 := Fin.ext h1
    obtain rfl : y2 = x2 := Fin.ext h2
    refine (maps3 (eighth t) _ _ (View.ld b8 (Rect.unit (s := S1x512) ![0, 384] S1x128.size inb_S1x512_S1x128_0_384)) _ dh u wo sc hD (fun d => ?_) (pool3 (eighth t) b2 b3 u H.ins H.before) y1 y2).trans ?_
    · pointwise; exact (H.scale _).trans (congrArg sc (Fin.ext (by show 384 + d.val = 128 * 3 + d.val; omega)))
    · refine congrArg (· + _) ?_
      pointwise [k0_pay2]
  · idx_vars x
    idx_vars y
    obtain rfl : x0 = 0 := Subsingleton.elim _ _
    obtain rfl : y0 = 2 := Fin.ext h0
    obtain rfl : y1 = x1 := Fin.ext h1
    obtain rfl : y2 = x2 := Fin.ext h2
    refine (maps2 (eighth t) _ _ (View.ld b8 (Rect.unit (s := S1x512) ![0, 256] S1x128.size inb_S1x512_S1x128_0_256)) _ dh u wo sc hD (fun d => ?_) (pool2 (eighth t) b2 b3 u H.ins H.before) y1 y2).trans ?_
    · pointwise; exact (H.scale _).trans (congrArg sc (Fin.ext (by show 256 + d.val = 128 * 2 + d.val; omega)))
    · refine congrArg (· + _) ?_
      pointwise [k0_pay2]
  · idx_vars x
    idx_vars y
    obtain rfl : x0 = 0 := Subsingleton.elim _ _
    obtain rfl : y0 = 1 := Fin.ext h0
    obtain rfl : y1 = x1 := Fin.ext h1
    obtain rfl : y2 = x2 := Fin.ext h2
    refine (maps1 (eighth t) _ _ (View.ld b8 (Rect.unit (s := S1x512) ![0, 128] S1x128.size inb_S1x512_S1x128_0_128)) _ dh u wo sc hD (fun d => ?_) (pool1 (eighth t) b2 b3 u H.ins H.before) y1 y2).trans ?_
    · pointwise; exact (H.scale _).trans (congrArg sc (Fin.ext (by show 128 + d.val = 128 * 1 + d.val; omega)))
    · refine congrArg (· + _) ?_
      pointwise [k0_pay2]
  · idx_vars x
    idx_vars y
    obtain rfl : x0 = 0 := Subsingleton.elim _ _
    obtain rfl : y0 = 0 := Fin.ext h0
    obtain rfl : y1 = x1 := Fin.ext h1
    obtain rfl : y2 = x2 := Fin.ext h2
    refine (maps0 (eighth t) _ _ (View.ld b8 (Rect.unit (s := S1x512) ![0, 0] S1x128.size inb_S1x512_S1x128_0_0)) _ dh u wo sc hD (fun d => ?_) (pool0 (eighth t) b2 b3 u H.ins H.before) y1 y2).trans ?_
    · pointwise; exact (H.scale _).trans (congrArg sc (Fin.ext (by show d.val = 128 * 0 + d.val; omega)))
    · refine congrArg (· + _) ?_
      pointwise [k0_pay2]

end Tile

end Cert.MixBwdIdeal.Hand
-- ==== Proof.Mix.Tile12.lean ====
module

public import proofs.«01_k».proof.Proof.Gen.MixBwdIdeal.Value
public import proofs.«01_k».proof.Proof.Mix.Tile
public import Idealize.ShloMosaic.Lib.Pipeline.ReadBack
public import Idealize.ShloMosaic.Lib.Pipeline.ValueKit
public import Idealize.ShloMosaic.Lib.Pointwise

@[expose] public section

set_option maxRecDepth 16384

noncomputable section

namespace Cert.MixBwdIdeal.Hand

open Cert.MixBwdIdeal Cert.MixBwdIdeal.Gen Cert.Mix Idealize.ShloMosaic Idealize.ShloMosaic.TcCoe Idealize.SL.Sem

section Tile

variable (c : Dev nD) (t : Fin cfg0.N) (b0 : Vec Ideal S512x1024 .bf16) (b1 : Vec Ideal S16x1024 .bf16) (b2 : Vec Ideal S512x512 .f32)
  (b3 : Vec Ideal S16x512 .f32) (b4 b5 : Vec Ideal S512x512 .bf16) (b6 : Vec Ideal S1024x1024 .bf16) (b7 : Vec Ideal S4x128x128 .f32)
  (b8 : Vec Ideal S1x512 .f32) (o11 : Vec Ideal S4x128x128 .f32) (o12 : Vec Ideal S1x512 .f32) (o13 : Vec Ideal S1024x1024 .f32)
  (dh : ℕ → Fin 1024 → EReal) (u : ℕ → Fin 512 → EReal) (wo : Fin 1024 → Fin 1024 → EReal) (wp : Fin 4 → Fin 128 → Fin 128 → EReal) (sc : Fin 512 → EReal)
  (H : Reads t b0 b1 b2 b3 b6 b7 b8 dh u wo wp sc)

include H in
set_option maxHeartbeats 2000000 in
/-- The scales' gradient so far. -/
theorem tile12First (hc : cond0_0 (grid0.coords t)) : (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) hc b0 b1 b2 b3 b4 b5 b6 b7 b8) = fun y => 0 + ∑ r : Fin 512, dScale dh u wo wp (grp (y 1)) (lane (y 1)) (512 * (eighth t).val + r.val) := by
  have hD := cotangent t b0 b1 b2 b3 b6 b7 b8 dh u wo wp sc H
  unfold out0_A_12
  frame_open
  simp (disch := decide) only [↓ View.readCov_skip, ↓ View.readCov_cons_toLoadRect, ↓ View.readCov_fill]
  frame_out
  rw [coord t]
  funext y
  refine (canon_drop4 _ _ _ _ _ y ?_).trans ?_
  · exact View.cover_of_tiled_head _ _ _ (by rfl) y
  canon_tiles x h
  · idx_vars x
    idx_vars y
    obtain ⟨hg, hl⟩ := grp_eq (k := y1) 3 x1 (by first | exact h1 | (rw [h1]; show _ = 128 * 0 + _; omega))
    obtain rfl : x0 = 0 := Subsingleton.elim _ _
    refine (scale3 (eighth t) _ _ (View.ld b7 (Rect.unit (s := S4x128x128) ![3, 0, 0] S1x128x128.size inb_S4x128x128_S1x128x128_3_0_0)) _ dh u wo wp hD (fun a d => ?_) (pool3 (eighth t) b2 b3 u H.ins H.before) x1).trans ?_
    · pointwise; exact H.maps _ _ _
    · show _ = _ + ∑ r : Fin 512, dScale dh u wo wp (grp y1) (lane y1) _; rw [hg, hl]
      refine congrArg (· + _) ?_
      pointwise [k0_pay3]

  · idx_vars x
    idx_vars y
    obtain ⟨hg, hl⟩ := grp_eq (k := y1) 2 x1 (by first | exact h1 | (rw [h1]; show _ = 128 * 0 + _; omega))
    obtain rfl : x0 = 0 := Subsingleton.elim _ _
    refine (scale2 (eighth t) _ _ (View.ld b7 (Rect.unit (s := S4x128x128) ![2, 0, 0] S1x128x128.size inb_S4x128x128_S1x128x128_2_0_0)) _ dh u wo wp hD (fun a d => ?_) (pool2 (eighth t) b2 b3 u H.ins H.before) x1).trans ?_
    · pointwise; exact H.maps _ _ _
    · show _ = _ + ∑ r : Fin 512, dScale dh u wo wp (grp y1) (lane y1) _; rw [hg, hl]
      refine congrArg (· + _) ?_
      pointwise [k0_pay3]

  · idx_vars x
    idx_vars y
    obtain ⟨hg, hl⟩ := grp_eq (k := y1) 1 x1 (by first | exact h1 | (rw [h1]; show _ = 128 * 0 + _; omega))
    obtain rfl : x0 = 0 := Subsingleton.elim _ _
    refine (scale1 (eighth t) _ _ (View.ld b7 (Rect.unit (s := S4x128x128) ![1, 0, 0] S1x128x128.size inb_S4x128x128_S1x128x128_1_0_0)) _ dh u wo wp hD (fun a d => ?_) (pool1 (eighth t) b2 b3 u H.ins H.before) x1).trans ?_
    · pointwise; exact H.maps _ _ _
    · show _ = _ + ∑ r : Fin 512, dScale dh u wo wp (grp y1) (lane y1) _; rw [hg, hl]
      refine congrArg (· + _) ?_
      pointwise [k0_pay3]

  · idx_vars x
    idx_vars y
    obtain ⟨hg, hl⟩ := grp_eq (k := y1) 0 x1 (by first | exact h1 | (rw [h1]; show _ = 128 * 0 + _; omega))
    obtain rfl : x0 = 0 := Subsingleton.elim _ _
    refine (scale0 (eighth t) _ _ (View.ld b7 (Rect.unit (s := S4x128x128) ![0, 0, 0] S1x128x128.size inb_S4x128x128_S1x128x128_0_0_0)) _ dh u wo wp hD (fun a d => ?_) (pool0 (eighth t) b2 b3 u H.ins H.before) x1).trans ?_
    · pointwise; exact H.maps _ _ _
    · show _ = _ + ∑ r : Fin 512, dScale dh u wo wp (grp y1) (lane y1) _; rw [hg, hl]
      refine congrArg (· + _) ?_
      pointwise [k0_pay3]

include H in
set_option maxHeartbeats 2000000 in
/-- The scales' gradient so far. -/
theorem tile12Later (hc : ¬cond0_0 (grid0.coords t)) : (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) hc b0 b1 b2 b3 b4 b5 b6 b7 b8 o11 o12 o13) = fun y => o12 y + ∑ r : Fin 512, dScale dh u wo wp (grp (y 1)) (lane (y 1)) (512 * (eighth t).val + r.val) := by
  have hD := cotangent t b0 b1 b2 b3 b6 b7 b8 dh u wo wp sc H
  unfold out0_B_12
  frame_open
  simp (disch := decide) only [↓ View.readCov_skip, ↓ View.readCov_cons_toLoadRect, ↓ View.readCov_fill]
  frame_out
  rw [coord t]
  funext y
  canon_tiles x h
  · idx_vars x
    idx_vars y
    obtain ⟨hg, hl⟩ := grp_eq (k := y1) 3 x1 (by first | exact h1 | (rw [h1]; show _ = 128 * 0 + _; omega))
    obtain rfl : x0 = 0 := Subsingleton.elim _ _
    refine (scale3 (eighth t) _ _ (View.ld b7 (Rect.unit (s := S4x128x128) ![3, 0, 0] S1x128x128.size inb_S4x128x128_S1x128x128_3_0_0)) _ dh u wo wp hD (fun a d => ?_) (pool3 (eighth t) b2 b3 u H.ins H.before) x1).trans ?_
    · pointwise; exact H.maps _ _ _
    · show _ = _ + ∑ r : Fin 512, dScale dh u wo wp (grp y1) (lane y1) _; rw [hg, hl]
      refine congrArg (· + _) ?_
      pointwise [k0_pay3]
      exact congrArg o12 (by obtain rfl : y0 = 0 := Subsingleton.elim _ _; exact congrArg (ix2 0) (Fin.ext h1.symm))
  · idx_vars x
    idx_vars y
    obtain ⟨hg, hl⟩ := grp_eq (k := y1) 2 x1 (by first | exact h1 | (rw [h1]; show _ = 128 * 0 + _; omega))
    obtain rfl : x0 = 0 := Subsingleton.elim _ _
    refine (scale2 (eighth t) _ _ (View.ld b7 (Rect.unit (s := S4x128x128) ![2, 0, 0] S1x128x128.size inb_S4x128x128_S1x128x128_2_0_0)) _ dh u wo wp hD (fun a d => ?_) (pool2 (eighth t) b2 b3 u H.ins H.before) x1).trans ?_
    · pointwise; exact H.maps _ _ _
    · show _ = _ + ∑ r : Fin 512, dScale dh u wo wp (grp y1) (lane y1) _; rw [hg, hl]
      refine congrArg (· + _) ?_
      pointwise [k0_pay3]
      exact congrArg o12 (by obtain rfl : y0 = 0 := Subsingleton.elim _ _; exact congrArg (ix2 0) (Fin.ext h1.symm))
  · idx_vars x
    idx_vars y
    obtain ⟨hg, hl⟩ := grp_eq (k := y1) 1 x1 (by first | exact h1 | (rw [h1]; show _ = 128 * 0 + _; omega))
    obtain rfl : x0 = 0 := Subsingleton.elim _ _
    refine (scale1 (eighth t) _ _ (View.ld b7 (Rect.unit (s := S4x128x128) ![1, 0, 0] S1x128x128.size inb_S4x128x128_S1x128x128_1_0_0)) _ dh u wo wp hD (fun a d => ?_) (pool1 (eighth t) b2 b3 u H.ins H.before) x1).trans ?_
    · pointwise; exact H.maps _ _ _
    · show _ = _ + ∑ r : Fin 512, dScale dh u wo wp (grp y1) (lane y1) _; rw [hg, hl]
      refine congrArg (· + _) ?_
      pointwise [k0_pay3]
      exact congrArg o12 (by obtain rfl : y0 = 0 := Subsingleton.elim _ _; exact congrArg (ix2 0) (Fin.ext h1.symm))
  · idx_vars x
    idx_vars y
    obtain ⟨hg, hl⟩ := grp_eq (k := y1) 0 x1 (by first | exact h1 | (rw [h1]; show _ = 128 * 0 + _; omega))
    obtain rfl : x0 = 0 := Subsingleton.elim _ _
    refine (scale0 (eighth t) _ _ (View.ld b7 (Rect.unit (s := S4x128x128) ![0, 0, 0] S1x128x128.size inb_S4x128x128_S1x128x128_0_0_0)) _ dh u wo wp hD (fun a d => ?_) (pool0 (eighth t) b2 b3 u H.ins H.before) x1).trans ?_
    · pointwise; exact H.maps _ _ _
    · show _ = _ + ∑ r : Fin 512, dScale dh u wo wp (grp y1) (lane y1) _; rw [hg, hl]
      refine congrArg (· + _) ?_
      pointwise [k0_pay3]
      exact congrArg o12 (by obtain rfl : y0 = 0 := Subsingleton.elim _ _; exact congrArg (ix2 0) (Fin.ext h1.symm))

end Tile

end Cert.MixBwdIdeal.Hand
-- ==== Proof.Mix.Tile13.lean ====
module

public import proofs.«01_k».proof.Proof.Gen.MixBwdIdeal.Value
public import proofs.«01_k».proof.Proof.Mix.Tile
public import Idealize.ShloMosaic.Lib.Pipeline.ReadBack
public import Idealize.ShloMosaic.Lib.Pipeline.ValueKit
public import Idealize.ShloMosaic.Lib.Pointwise

@[expose] public section

set_option maxRecDepth 16384

noncomputable section

namespace Cert.MixBwdIdeal.Hand

open Cert.MixBwdIdeal Cert.MixBwdIdeal.Gen Cert.Mix Idealize.ShloMosaic Idealize.ShloMosaic.TcCoe Idealize.SL.Sem

section Tile

variable (c : Dev nD) (t : Fin cfg0.N) (b0 : Vec Ideal S512x1024 .bf16) (b1 : Vec Ideal S16x1024 .bf16) (b2 : Vec Ideal S512x512 .f32)
  (b3 : Vec Ideal S16x512 .f32) (b4 b5 : Vec Ideal S512x512 .bf16) (b6 : Vec Ideal S1024x1024 .bf16) (b7 : Vec Ideal S4x128x128 .f32)
  (b8 : Vec Ideal S1x512 .f32) (o11 : Vec Ideal S4x128x128 .f32) (o12 : Vec Ideal S1x512 .f32) (o13 : Vec Ideal S1024x1024 .f32)
  (dh : ℕ → Fin 1024 → EReal) (u : ℕ → Fin 512 → EReal) (wo : Fin 1024 → Fin 1024 → EReal) (wp : Fin 4 → Fin 128 → Fin 128 → EReal) (sc : Fin 512 → EReal)
  (H : Reads t b0 b1 b2 b3 b6 b7 b8 dh u wo wp sc)

include H in
set_option maxHeartbeats 2000000 in
/-- The output weight's gradient so far. -/
theorem tile13First (hc : cond0_0 (grid0.coords t)) : (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) hc b0 b1 b2 b3 b4 b5 b6 b7 b8) = fun y => 0 + ∑ r : Fin 512, (if h : (y 0).val < 512 then b4 (ix2 r ⟨(y 0).val, h⟩) else b5 (ix2 r ⟨(y 0).val - 512, by have : (y 0).val < 1024 := (y 0).isLt; omega⟩)) * dh (512 * (eighth t).val + r.val) (y 1) := by
  have hD := cotangent t b0 b1 b2 b3 b6 b7 b8 dh u wo wp sc H
  unfold out0_A_13
  frame_open
  simp (disch := decide) only [↓ View.readCov_skip, ↓ View.readCov_cons_toLoadRect, ↓ View.readCov_fill]
  frame_out
  funext y
  refine (canon_drop2 _ _ _ y ?_).trans ?_
  · exact View.cover_of_tiled_head _ _ _ (by rfl) y
  canon_tiles x h
  all_goals
    idx_vars x
    idx_vars y
    obtain ⟨y0, hy0⟩ := y0
    obtain rfl : y0 = _ := h0
    obtain rfl : y1 = x1 := Fin.ext h1
    pointwise [k0_pay6, k0_pay7, k0_pay5, k0_pay4]
    exact Finset.sum_congr rfl fun r _ => Ideal.mul_congr rfl (H.rows r _)
include H in
set_option maxHeartbeats 2000000 in
/-- The output weight's gradient so far. -/
theorem tile13Later (hc : ¬cond0_0 (grid0.coords t)) : (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) hc b0 b1 b2 b3 b4 b5 b6 b7 b8 o11 o12 o13) = fun y => o13 y + ∑ r : Fin 512, (if h : (y 0).val < 512 then b4 (ix2 r ⟨(y 0).val, h⟩) else b5 (ix2 r ⟨(y 0).val - 512, by have : (y 0).val < 1024 := (y 0).isLt; omega⟩)) * dh (512 * (eighth t).val + r.val) (y 1) := by
  have hD := cotangent t b0 b1 b2 b3 b6 b7 b8 dh u wo wp sc H
  unfold out0_B_13
  frame_open
  simp (disch := decide) only [↓ View.readCov_skip, ↓ View.readCov_cons_toLoadRect, ↓ View.readCov_fill]
  frame_out
  funext y
  canon_tiles x h
  all_goals
    idx_vars x
    idx_vars y
    obtain ⟨y0, hy0⟩ := y0
    obtain rfl : y0 = _ := h0
    obtain rfl : y1 = x1 := Fin.ext h1
    pointwise [k0_pay6, k0_pay7, k0_pay5, k0_pay4]
    exact congrArg (_ + ·) (Finset.sum_congr rfl fun r _ => Ideal.mul_congr rfl (H.rows r _))

end Tile

end Cert.MixBwdIdeal.Hand
-- ==== Proof.Mix.Rows.lean ====
module

public import proofs.«01_k».proof.Proof.Mix.Tile9
public import proofs.«01_k».proof.Proof.Mix.Tile10
public import proofs.«01_k».proof.Proof.Mix.Tile11
public import proofs.«01_k».proof.Proof.Mix.Tile12
public import proofs.«01_k».proof.Proof.Mix.Tile13
public import Idealize.ShloMosaic.Lib.Pipeline.Value
public import Idealize.ShloMosaic.Lib.Pipeline.ValueKit
public import Idealize.ShloMosaic.Lib.Claim

@[expose] public section

set_option maxRecDepth 16384

noncomputable section

/-! The rows a point of the mixer gradient reads. -/

namespace Cert.MixBwdIdeal.Hand

open Cert.MixBwdIdeal Cert.MixBwdIdeal.Gen Cert.Mix
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem places : ∀ t : Fin cfg0.N, win0_0.index t = ![t.val, 0] ∧ win0_1.index t = ![min (32 * (t.val + 1)) 255, 0] ∧ win0_2.index t = ![t.val, 0]
    ∧ win0_3.index t = ![32 * t.val - 1, 0] ∧ win0_4.index t = ![t.val, 0] ∧ win0_5.index t = ![t.val, 0] ∧ win0_6.index t = ![0, 0]
    ∧ win0_7.index t = ![0, 0, 0] ∧ win0_8.index t = ![0, 0] ∧ win0_9.index t = ![t.val, 0] ∧ win0_10.index t = ![t.val, 0]
    ∧ win0_11.index t = ![0, 0, 0] ∧ win0_12.index t = ![0, 0] ∧ win0_13.index t = ![0, 0] :=
  (by decide +kernel : ∀ t : Fin grid0.N, _)

theorem eight (t : Fin cfg0.N) : t.val < 8 := (eighth t).isLt

section Rows

variable (c : Dev nD)

/-- The arguments: the cotangent's rows, the mixer's input rows, the attention rows, the projection, the group maps, the scales; and the mixer's rows, which the host computes. -/
def dhs : ℕ → Fin 1024 → EReal := padded fun r k => m ((c : Thread nD τ).loc main_arg0) (ix2 r k)
def us : ℕ → Fin 512 → EReal := padded fun r k => m ((c : Thread nD τ).loc main_arg1) (ix2 r k)
def ats (r : Fin 4096) (k : Fin 512) : EReal := m ((c : Thread nD τ).loc main_arg2) (ix2 r k)
def wos (a k : Fin 1024) : EReal := m ((c : Thread nD τ).loc main_arg3) (ix2 a k)
def wps (g : Fin 4) (a d : Fin 128) : EReal := m ((c : Thread nD τ).loc main_arg4) (ix3 g a d)
def scs (k : Fin 512) : EReal := m ((c : Thread nD τ).loc main_arg5) (ix1 k)
def ms (r : Fin 4096) (k : Fin 512) : EReal := V m c main_v73 (ix2 r k)

theorem v74 (r : Fin 4096) (k : Fin 1024) : (V m c main_v74 : Vec Ideal S4096x1024 .bf16) (ix2 r k) = m ((c : Thread nD τ).loc main_arg0) (ix2 r k) := rfl

theorem rows0 (t : Fin cfg0.N) (r : Fin 512) (k : Fin 1024) : (iblk m c 0 t : Vec Ideal S512x1024 .bf16) (ix2 r k) = dhs m c (512 * t.val + r.val) k := by
  have h := eight t
  have hr : 512 * t.val + r.val < 4096 := by omega
  unfold dhs padded
  rw [dif_pos hr]
  refine Eq.trans ?_ (v74 m c _ _)
  blk_ext [iblk, places t]

theorem rows1 (t : Fin cfg0.N) (ht : t.val < 7) (x : Fin 16) (k : Fin 1024) :
    (iblk m c 1 t : Vec Ideal S16x1024 .bf16) (ix2 x k) = dhs m c (512 * (t.val + 1) + x.val) k := by
  have hr : 512 * (t.val + 1) + x.val < 4096 := by omega
  unfold dhs padded
  rw [dif_pos hr]
  refine Eq.trans ?_ (v74 m c _ _)
  blk_ext [iblk, places t]

theorem past (n : ℕ) (k : Fin 1024) (h : 4096 ≤ n) : dhs m c n k = 0 := dif_neg (by omega)

theorem rows2 (t : Fin cfg0.N) (r k : Fin 512) : (iblk m c 2 t : Vec Ideal S512x512 .f32) (ix2 r k) = us m c (512 * t.val + r.val) k := by
  have h := eight t
  have hr : 512 * t.val + r.val < 4096 := by omega
  unfold us padded
  rw [dif_pos hr]
  blk_ext [iblk, V, places t]

theorem rows3 (t : Fin cfg0.N) (ht : 0 < t.val) (x : Fin 16) (k : Fin 512) :
    (iblk m c 3 t : Vec Ideal S16x512 .f32) (ix2 x k) = us m c (512 * t.val - 16 + x.val) k := by
  have h := eight t
  have hr : 512 * t.val - 16 + x.val < 4096 := by omega
  unfold us padded
  rw [dif_pos hr]
  blk_ext [iblk, V, places t]

theorem rows4 (t : Fin cfg0.N) (r k : Fin 512) : (iblk m c 4 t : Vec Ideal S512x512 .bf16) (ix2 r k) = ats m c ⟨512 * t.val + r.val, by have := eight t; omega⟩ k := by
  unfold ats
  refine Eq.trans (b := (V m c main_v75 : Vec Ideal S4096x512 .bf16) (ix2 ⟨512 * t.val + r.val, by have := eight t; omega⟩ k)) ?_ ?_
  · blk_ext [iblk, places t]
  · rfl

theorem rows5 (t : Fin cfg0.N) (r k : Fin 512) : (iblk m c 5 t : Vec Ideal S512x512 .bf16) (ix2 r k) = ms m c ⟨512 * t.val + r.val, by have := eight t; omega⟩ k := by
  unfold ms
  refine Eq.trans (b := (V m c main_v76 : Vec Ideal S4096x512 .bf16) (ix2 ⟨512 * t.val + r.val, by have := eight t; omega⟩ k)) ?_ ?_
  · blk_ext [iblk, places t]
  · rfl

theorem rows6 (t : Fin cfg0.N) (a k : Fin 1024) : (iblk m c 6 t : Vec Ideal S1024x1024 .bf16) (ix2 a k) = wos m c a k := by
  unfold wos
  refine Eq.trans (b := (V m c main_v77 : Vec Ideal S1024x1024 .bf16) (ix2 a k)) ?_ ?_
  · blk_ext [iblk, places t]
  · rfl

theorem rows7 (t : Fin cfg0.N) (g : Fin 4) (a d : Fin 128) : (iblk m c 7 t : Vec Ideal S4x128x128 .f32) (ix3 g a d) = wps m c g a d := by
  unfold wps
  blk_ext [iblk, V, places t]

theorem v78 : (V m c main_v78 : Vec Ideal S1x512 .f32) = broadcastInDim S1x512 ![1] bcast_S512_S1x512_1 (m ((c : Thread nD τ).loc main_arg5)) := rfl

theorem rows8 (t : Fin cfg0.N) (k : Fin 512) : (iblk m c 8 t : Vec Ideal S1x512 .f32) (ix2 0 k) = scs m c k := by
  unfold scs
  refine Eq.trans (b := (V m c main_v78 : Vec Ideal S1x512 .f32) (ix2 0 k)) ?_ ((congrFun (v78 m c) _).trans ?_)
  · blk_ext [iblk, places t]
  · pointwise

/-- Every point reads its rows. -/
theorem reads (t : Fin cfg0.N) : Reads t (iblk m c 0 t) (iblk m c 1 t) (iblk m c 2 t) (iblk m c 3 t) (iblk m c 6 t) (iblk m c 7 t) (iblk m c 8 t)
    (dhs m c) (us m c) (wos m c) (wps m c) (scs m c) where
  rows := rows0 m c t
  after := rows1 m c t
  past := past m c
  ins := rows2 m c t
  before := rows3 m c t
  out := rows6 m c t
  maps := rows7 m c t
  scale := rows8 m c t

end Rows

end Cert.MixBwdIdeal.Hand
-- ==== Proof.Mix.Value.lean ====
module

public import proofs.«01_k».proof.Proof.Mix.Rows
public import proofs.«01_k».proof.Proof.Mix.Tile9
public import proofs.«01_k».proof.Proof.Mix.Tile10
public import proofs.«01_k».proof.Proof.Mix.Tile11
public import proofs.«01_k».proof.Proof.Mix.Tile12
public import proofs.«01_k».proof.Proof.Mix.Tile13
public import Idealize.ShloMosaic.Lib.Pipeline.Value
public import Idealize.ShloMosaic.Lib.Pipeline.ValueKit
public import Idealize.ShloMosaic.Lib.Claim

@[expose] public section

set_option maxRecDepth 16384

noncomputable section

/-! The mixer gradient's results, whole arrays: every entry is the row-wise gradient at its row, or the sum of the rows' parts. -/

namespace Cert.MixBwdIdeal.Hand

open Cert.MixBwdIdeal Cert.MixBwdIdeal.Gen Cert.Mix
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

section Rows

variable (c : Dev nD)

/-- One row's part of the projection's gradient: the row of the attention and mixer results against the cotangent's. -/
def dProj (j k : Fin 1024) (n : ℕ) : EReal :=
  padded (fun r (j : Fin 1024) => if h : j.val < 512 then ats m c r ⟨j.val, h⟩ else ms m c r ⟨j.val - 512, by omega⟩) n j * dhs m c n k

def outA : Vec Ideal S4096x512 .f32 := fun y => dAttn (dhs m c) (wos m c) (y 0).val (y 1)
def outU : Vec Ideal S4096x512 .f32 := fun y => dIn (dhs m c) (wos m c) (wps m c) (scs m c) (grp (y 1)) (lane (y 1)) (y 0).val
def outW : Vec Ideal S4x128x128 .f32 := fun y => ∑ n ∈ Finset.range 4096, dMaps (dhs m c) (us m c) (wos m c) (scs m c) (y 0) (y 1) (y 2) n
def outS : Vec Ideal S1x512 .f32 := fun y => ∑ n ∈ Finset.range 4096, dScale (dhs m c) (us m c) (wos m c) (wps m c) (grp (y 1)) (lane (y 1)) n
def outP : Vec Ideal S1024x1024 .f32 := fun y => ∑ n ∈ Finset.range 4096, dProj m c (y 0) (y 1) n

theorem fst_of {α β : Type} {p : α × β} {a : α} {b : β} (h : p = (a, b)) : p.1 = a := by rw [h]
theorem snd_of {α β : Type} {p : α × β} {a : α} {b : β} (h : p = (a, b)) : p.2 = b := by rw [h]

theorem grow (f : ℕ → EReal) (n : ℕ) :
    ∑ k ∈ Finset.range (512 * n), f k + ∑ r : Fin 512, f (512 * n + r.val) = ∑ k ∈ Finset.range (512 * (n + 1)), f k := by
  rw [show 512 * (n + 1) = 512 * n + 512 from by omega, Finset.sum_range_add, Finset.sum_range fun x => f (512 * n + x)]

/-- A result that starts from zero and takes each point's rows holds the sum of the rows so far. -/
theorem summed {ι : Type} (o : (n : ℕ) → n < cfg0.N → ι → EReal) (f : ℕ → ι → EReal)
    (h0 : ∀ t : Fin cfg0.N, t.val % 8 = 0 → o t.val t.isLt = fun y => 0 + ∑ r : Fin 512, f (512 * t.val + r.val) y)
    (h1 : ∀ t : Fin cfg0.N, ¬t.val % 8 = 0 →
      o t.val t.isLt = fun y => o (t.val - 1) (Nat.lt_of_le_of_lt (Nat.sub_le _ _) t.isLt) y + ∑ r : Fin 512, f (512 * t.val + r.val) y) :
    ∀ (n : ℕ) (hn : n < cfg0.N), o n hn = fun y => ∑ k ∈ Finset.range (512 * (n + 1)), f k y
  | 0, hn => by
    rw [h0 ⟨0, hn⟩ rfl]
    funext y
    exact (grow (f · y) 0)
  | n + 1, hn => by
    have h8 : n + 1 < 8 := eight ⟨n + 1, hn⟩
    rw [h1 ⟨n + 1, hn⟩ (by show ¬(n + 1) % 8 = 0; omega)]
    funext y
    refine Eq.trans ?_ (grow (f · y) (n + 1))
    exact congrArg (· + _) (congrFun (summed o f h0 h1 n (by omega)) y)

theorem at9 (t : Fin cfg0.N) : (outsAt0 m c t.val t.isLt).1 = fun y => dAttn (dhs m c) (wos m c) (512 * (eighth t).val + (y 0).val) (y 1) := by
  by_cases h0 : t.val % 8 = 0
  · refine (fst_of (outsAt0_A m c t h0)).trans ?_
    exact tile9First c t (iblk m c 0 t) (iblk m c 1 t) (iblk m c 2 t) (iblk m c 3 t) (iblk m c 4 t) (iblk m c 5 t) (iblk m c 6 t) (iblk m c 7 t) (iblk m c 8 t) (dhs m c) (us m c) (wos m c) (wps m c) (scs m c) (reads m c t) ((hcond0_0 t).mpr h0)
  · refine (fst_of (outsAt0_B m c t h0)).trans ?_
    exact tile9Later c t (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (dhs m c) (us m c) (wos m c) (wps m c) (scs m c) (reads m c t) (fun h => h0 ((hcond0_0 t).mp h))

theorem final9 : (dats m 0 c).arrAt 9 cfg0.N = outA m c := by
  refine (dats m 0 c).arrAt_eq_of_covers 9 _ (by decide +kernel) fun t _ y => ?_
  rw [after0_9, at9 m c t]
  refine Eq.trans (b := outA m c (ix2 ⟨512 * t.val + (y 0).val, by have := eight t; have : (y 0).val < 512 := (y 0).isLt; omega⟩ (y 1))) rfl ?_
  blk_ext [places t]

theorem at10 (t : Fin cfg0.N) : (outsAt0 m c t.val t.isLt).2.1 = fun y => dIn (dhs m c) (wos m c) (wps m c) (scs m c) (grp (y 1)) (lane (y 1)) (512 * (eighth t).val + (y 0).val) := by
  by_cases h0 : t.val % 8 = 0
  · refine (fst_of (snd_of (outsAt0_A m c t h0))).trans ?_
    exact tile10First c t (iblk m c 0 t) (iblk m c 1 t) (iblk m c 2 t) (iblk m c 3 t) (iblk m c 4 t) (iblk m c 5 t) (iblk m c 6 t) (iblk m c 7 t) (iblk m c 8 t) (dhs m c) (us m c) (wos m c) (wps m c) (scs m c) (reads m c t) ((hcond0_0 t).mpr h0)
  · refine (fst_of (snd_of (outsAt0_B m c t h0))).trans ?_
    exact tile10Later c t (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (dhs m c) (us m c) (wos m c) (wps m c) (scs m c) (reads m c t) (fun h => h0 ((hcond0_0 t).mp h))

theorem final10 : (dats m 0 c).arrAt 10 cfg0.N = outU m c := by
  refine (dats m 0 c).arrAt_eq_of_covers 10 _ (by decide +kernel) fun t _ y => ?_
  rw [after0_10, at10 m c t]
  refine Eq.trans (b := outU m c (ix2 ⟨512 * t.val + (y 0).val, by have := eight t; have : (y 0).val < 512 := (y 0).isLt; omega⟩ (y 1))) rfl ?_
  blk_ext [places t]

/-- The last point. -/
def lastPoint : Fin cfg0.N := ⟨7, by rw [show cfg0.N = 8 from N_0]; omega⟩

theorem proj_row (t : Fin cfg0.N) (a b : Fin 512 → Fin 512 → EReal) (ha : ∀ r k, (iblk m c 4 t : Vec Ideal S512x512 .bf16) (ix2 r k) = a r k)
    (hb : ∀ r k, (iblk m c 5 t : Vec Ideal S512x512 .bf16) (ix2 r k) = b r k) (r : Fin 512) (j k : Fin 1024) :
    (if h : j.val < 512 then a r ⟨j.val, h⟩ else b r ⟨j.val - 512, by omega⟩)
      * dhs m c (512 * t.val + r.val) k = dProj m c j k (512 * t.val + r.val) := by
  have hr : 512 * t.val + r.val < 4096 := by have := eight t; omega
  unfold dProj padded
  rw [dif_pos hr]
  dsimp only
  by_cases h : j.val < 512
  · rw [dif_pos h, dif_pos h, ← ha, rows4 m c t]
  · rw [dif_neg h, dif_neg h, ← hb, rows5 m c t]

theorem at11 : ∀ (n : ℕ) (hn : n < cfg0.N), (outsAt0 m c n hn).2.2.1 = fun y : S4x128x128.Idx => ∑ k ∈ Finset.range (512 * (n + 1)), (fun n (y : S4x128x128.Idx) => dMaps (dhs m c) (us m c) (wos m c) (scs m c) (y 0) (y 1) (y 2) n) k y := by
  refine summed (fun n hn => (outsAt0 m c n hn).2.2.1) (fun n (y : S4x128x128.Idx) => dMaps (dhs m c) (us m c) (wos m c) (scs m c) (y 0) (y 1) (y 2) n) (fun t h0 => ?_) (fun t h0 => ?_)
  · refine (fst_of (snd_of (snd_of (outsAt0_A m c t h0)))).trans ?_
    exact tile11First c t (iblk m c 0 t) (iblk m c 1 t) (iblk m c 2 t) (iblk m c 3 t) (iblk m c 4 t) (iblk m c 5 t) (iblk m c 6 t) (iblk m c 7 t) (iblk m c 8 t) (dhs m c) (us m c) (wos m c) (wps m c) (scs m c) (reads m c t) ((hcond0_0 t).mpr h0)
  · refine (fst_of (snd_of (snd_of (outsAt0_B m c t h0)))).trans ?_
    exact tile11Later c t (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (dhs m c) (us m c) (wos m c) (wps m c) (scs m c) (reads m c t) (fun h => h0 ((hcond0_0 t).mp h))

theorem final11 : (dats m 0 c).arrAt 11 cfg0.N = outW m c := by
  refine (dats m 0 c).arrAt_eq_of_after_last 11 lastPoint (by decide +kernel) _ fun j => ?_
  rw [after0_11, at11 m c]
  unfold outW
  blk_simp [places lastPoint]
  rfl

theorem at12 : ∀ (n : ℕ) (hn : n < cfg0.N), (outsAt0 m c n hn).2.2.2.1 = fun y : S1x512.Idx => ∑ k ∈ Finset.range (512 * (n + 1)), (fun n (y : S1x512.Idx) => dScale (dhs m c) (us m c) (wos m c) (wps m c) (grp (y 1)) (lane (y 1)) n) k y := by
  refine summed (fun n hn => (outsAt0 m c n hn).2.2.2.1) (fun n (y : S1x512.Idx) => dScale (dhs m c) (us m c) (wos m c) (wps m c) (grp (y 1)) (lane (y 1)) n) (fun t h0 => ?_) (fun t h0 => ?_)
  · refine (fst_of (snd_of (snd_of (snd_of (outsAt0_A m c t h0))))).trans ?_
    exact tile12First c t (iblk m c 0 t) (iblk m c 1 t) (iblk m c 2 t) (iblk m c 3 t) (iblk m c 4 t) (iblk m c 5 t) (iblk m c 6 t) (iblk m c 7 t) (iblk m c 8 t) (dhs m c) (us m c) (wos m c) (wps m c) (scs m c) (reads m c t) ((hcond0_0 t).mpr h0)
  · refine (fst_of (snd_of (snd_of (snd_of (outsAt0_B m c t h0))))).trans ?_
    exact tile12Later c t (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (dhs m c) (us m c) (wos m c) (wps m c) (scs m c) (reads m c t) (fun h => h0 ((hcond0_0 t).mp h))

theorem final12 : (dats m 0 c).arrAt 12 cfg0.N = outS m c := by
  refine (dats m 0 c).arrAt_eq_of_after_last 12 lastPoint (by decide +kernel) _ fun j => ?_
  rw [after0_12, at12 m c]
  unfold outS
  blk_simp [places lastPoint]
  rfl

theorem at13 : ∀ (n : ℕ) (hn : n < cfg0.N), (outsAt0 m c n hn).2.2.2.2 = fun y : S1024x1024.Idx => ∑ k ∈ Finset.range (512 * (n + 1)), (fun n (y : S1024x1024.Idx) => dProj m c (y 0) (y 1) n) k y := by
  refine summed (fun n hn => (outsAt0 m c n hn).2.2.2.2) (fun n (y : S1024x1024.Idx) => dProj m c (y 0) (y 1) n) (fun t h0 => ?_) (fun t h0 => ?_)
  · refine (snd_of (snd_of (snd_of (snd_of (outsAt0_A m c t h0))))).trans ?_
    exact (tile13First c t (iblk m c 0 t) (iblk m c 1 t) (iblk m c 2 t) (iblk m c 3 t) (iblk m c 4 t) (iblk m c 5 t) (iblk m c 6 t) (iblk m c 7 t) (iblk m c 8 t) (dhs m c) (us m c) (wos m c) (wps m c) (scs m c) (reads m c t) ((hcond0_0 t).mpr h0)).trans (funext fun y => congrArg (0 + ·) (Finset.sum_congr rfl fun r _ => proj_row m c t _ _ (fun _ _ => rfl) (fun _ _ => rfl) r (y 0) (y 1)))
  · refine (snd_of (snd_of (snd_of (snd_of (outsAt0_B m c t h0))))).trans ?_
    exact (tile13Later c t (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (dhs m c) (us m c) (wos m c) (wps m c) (scs m c) (reads m c t) (fun h => h0 ((hcond0_0 t).mp h))).trans (funext fun y => congrArg (_ + ·) (Finset.sum_congr rfl fun r _ => proj_row m c t _ _ (fun _ _ => rfl) (fun _ _ => rfl) r (y 0) (y 1)))

theorem final13 : (dats m 0 c).arrAt 13 cfg0.N = outP m c := by
  refine (dats m 0 c).arrAt_eq_of_after_last 13 lastPoint (by decide +kernel) _ fun j => ?_
  rw [after0_13, at13 m c]
  unfold outP
  blk_simp [places lastPoint]
  rfl

end Rows

end Cert.MixBwdIdeal.Hand
-- ==== Proof.Mix.Host.lean ====
module

public import proofs.«01_k».proof.Proof.Mix.Rows
public import proofs.«01_k».proof.Proof.Gen.MixBwdRefIdeal.Read
public import Idealize.ShloMosaic.Lib.StableHlo.RunRead

@[expose] public section

set_option maxRecDepth 16384

noncomputable section

/-! The mixer's rows the host hands the kernel are the reference's: the same lines of reference.py. -/

namespace Cert.MixBwdIdeal.Hand

open Cert.MixBwdIdeal Cert.MixBwdIdeal.Gen
open Idealize.ShloMosaic Idealize.ShloMosaic.TcCoe Idealize.ShloMosaic.StableHlo Idealize.SL.Sem
open Cert.MixBwdRefIdeal.Read

variable (m : (ℓ : Loc nD τ sig) → Buf (Elt Ideal) ℓ) (c : Dev nD)

theorem after_append {τ : Topo} {sig : RefSig} {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons a l ih => exact ih _

theorem host_rows : (V m c main_v73 : Vec Ideal S4096x512 .f32) = Cert.MixBwdRefIdeal.Read.val_main_v77 (F := Ideal)
    (m ((c : Thread nD τ).loc main_arg1)) (m ((c : Thread nD τ).loc main_arg4)) (m ((c : Thread nD τ).loc main_arg5)) := by
  have f2 : StableHlo.after hostOps0_1 (StableHlo.after hostOps0 fun b => m (c, b)) main_v2 = Cert.MixBwdRefIdeal.Read.val_main_v2 (F := Ideal) (m ((c : Thread nD τ).loc main_arg1)) := rfl
  have f1 : StableHlo.after hostOps0_1 (StableHlo.after hostOps0 fun b => m (c, b)) main_v1 = Cert.MixBwdRefIdeal.Read.val_main_v1 (F := Ideal) (m ((c : Thread nD τ).loc main_arg1)) := rfl
  have f4 : StableHlo.after hostOps0_1 (StableHlo.after hostOps0 fun b => m (c, b)) main_arg4 = m ((c : Thread nD τ).loc main_arg4) := rfl
  have f5 : StableHlo.after hostOps0_1 (StableHlo.after hostOps0 fun b => m (c, b)) main_arg5 = m ((c : Thread nD τ).loc main_arg5) := rfl
  have e : V m c main_v73 = StableHlo.after hostOps0_2 (StableHlo.after hostOps0_1 (StableHlo.after hostOps0 fun b => m (c, b))) main_v73 := by
    unfold V
    simp only [List.flatten_cons, List.flatten_nil, List.append_nil, after_append]
  rw [e]
  generalize StableHlo.after hostOps0_1 (StableHlo.after hostOps0 fun b => m (c, b)) = M at f1 f2 f4 f5 ⊢
  after_reads_simp
  have p0 : (upto hostOps0_2 M 9 (Proc.tc.devRef main_v8) : Vec Ideal S1x2x128 .f32) = val_main_v8 := by
    after_reads_simp
    rfl
  have q0 : (upto hostOps0_2 M 9 (Proc.tc.devRef main_v9) : Vec Ideal S1x4094x128 .f32) = val_main_v9 (m ((c : Thread nD τ).loc main_arg1)) := by
    after_reads_simp
    rw [f2]
    unfold val_main_v9 val_main_v7 val_main_v6
    rfl
  have h0 : (upto hostOps0_2 M 72 (Proc.tc.devRef (![main_v62, main_v63, main_v64, main_v65] 0)) : Vec Ideal S1x4096x1x128 .f32)
      = val_main_v66 (F := Ideal) (m ((c : Thread nD τ).loc main_arg1)) := by
    show upto hostOps0_2 M 72 (Proc.tc.devRef main_v62) = _
    after_reads_simp
    rw [p0, q0, f2, f1]
    unfold val_main_v66 val_main_v20 val_main_v19 val_main_v18 val_main_v17 val_main_v16 val_main_v15 val_main_v14 val_main_v13 val_main_v12 val_main_v10 val_main_v7 val_main_v6
      val_main_v5 val_main_v4 val_main_v3 val_main_cst val_main_cst_2
    rfl
  have p1 : (upto hostOps0_2 M 25 (Proc.tc.devRef main_v22) : Vec Ideal S1x4x128 .f32) = val_main_v23 := by
    after_reads_simp
    rfl
  have q1 : (upto hostOps0_2 M 25 (Proc.tc.devRef main_v23) : Vec Ideal S1x4092x128 .f32) = val_main_v24 (m ((c : Thread nD τ).loc main_arg1)) := by
    after_reads_simp
    rw [f2]
    unfold val_main_v24 val_main_v22 val_main_v21
    rfl
  have h1 : (upto hostOps0_2 M 72 (Proc.tc.devRef (![main_v62, main_v63, main_v64, main_v65] 1)) : Vec Ideal S1x4096x1x128 .f32)
      = val_main_v67 (F := Ideal) (m ((c : Thread nD τ).loc main_arg1)) := by
    show upto hostOps0_2 M 72 (Proc.tc.devRef main_v63) = _
    after_reads_simp
    rw [p1, q1, f2, f1]
    unfold val_main_v67 val_main_v35 val_main_v34 val_main_v33 val_main_v32 val_main_v31 val_main_v30 val_main_v29 val_main_v28 val_main_v27 val_main_v25 val_main_v22 val_main_v21
      val_main_v5 val_main_v4 val_main_v3 val_main_cst val_main_cst_5
    rfl
  have p2 : (upto hostOps0_2 M 41 (Proc.tc.devRef main_v36) : Vec Ideal S1x8x128 .f32) = val_main_v38 := by
    after_reads_simp
    rfl
  have q2 : (upto hostOps0_2 M 41 (Proc.tc.devRef main_v37) : Vec Ideal S1x4088x128 .f32) = val_main_v39 (m ((c : Thread nD τ).loc main_arg1)) := by
    after_reads_simp
    rw [f2]
    unfold val_main_v39 val_main_v37 val_main_v36
    rfl
  have h2 : (upto hostOps0_2 M 72 (Proc.tc.devRef (![main_v62, main_v63, main_v64, main_v65] 2)) : Vec Ideal S1x4096x1x128 .f32)
      = val_main_v68 (F := Ideal) (m ((c : Thread nD τ).loc main_arg1)) := by
    show upto hostOps0_2 M 72 (Proc.tc.devRef main_v64) = _
    after_reads_simp
    rw [p2, q2, f2, f1]
    unfold val_main_v68 val_main_v50 val_main_v49 val_main_v48 val_main_v47 val_main_v46 val_main_v45 val_main_v44 val_main_v43 val_main_v42 val_main_v40 val_main_v37 val_main_v36
      val_main_v5 val_main_v4 val_main_v3 val_main_cst val_main_cst_8
    rfl
  have p3 : (upto hostOps0_2 M 57 (Proc.tc.devRef main_v50) : Vec Ideal S1x16x128 .f32) = val_main_v53 := by
    after_reads_simp
    rfl
  have q3 : (upto hostOps0_2 M 57 (Proc.tc.devRef main_v51) : Vec Ideal S1x4080x128 .f32) = val_main_v54 (m ((c : Thread nD τ).loc main_arg1)) := by
    after_reads_simp
    rw [f2]
    unfold val_main_v54 val_main_v52 val_main_v51
    rfl
  have h3 : (upto hostOps0_2 M 72 (Proc.tc.devRef (![main_v62, main_v63, main_v64, main_v65] 3)) : Vec Ideal S1x4096x1x128 .f32)
      = val_main_v69 (F := Ideal) (m ((c : Thread nD τ).loc main_arg1)) := by
    show upto hostOps0_2 M 72 (Proc.tc.devRef main_v65) = _
    after_reads_simp
    rw [p3, q3, f2, f1]
    unfold val_main_v69 val_main_v65 val_main_v64 val_main_v63 val_main_v62 val_main_v61 val_main_v60 val_main_v59 val_main_v58 val_main_v57 val_main_v55 val_main_v52 val_main_v51
      val_main_v5 val_main_v4 val_main_v3 val_main_cst val_main_cst_11
    rfl
  rw [h0, h1, h2, h3, f4, f5]
  unfold val_main_v77 val_main_v76 val_main_v75 val_main_v74 val_main_v73 val_main_v72 val_main_v71 val_main_v70
  rfl

end Cert.MixBwdIdeal.Hand
-- ==== Proof.Mix.Window.lean ====
module

public import proofs.«01_k».proof.Proof.Mix.Spec
public import proofs.«01_k».proof.Proof.Gen.MixBwdRefIdeal.Read
public import Idealize.ShloMosaic.Lib.Pointwise
public import Idealize.ShloMosaic.Lib.IdealHost

@[expose] public section

set_option maxRecDepth 16384

noncomputable section

/-! Running sums: a window sum padded below is the sum of the entries so far, padded above the sum of those to come; the
    difference of two running sums is the sum of the entries between. -/

namespace Cert.Mix

open Idealize.ShloMosaic Cert.Kit
open Finset (range)

theorem foldl_sum {ι : Type} (g : ι → EReal) : ∀ (l : List ι) (v : EReal), l.foldl (fun r n => r + g n) v = v + (l.map g).sum
  | [], v => (add_zero v).symm
  | a :: l, v => by
    rw [List.foldl_cons, foldl_sum g l, List.map_cons, List.sum_cons, add_assoc]

/-- A window sum along the second of four axes, from zero: one term per window position. -/
theorem window (lo hi : Fin 4 → ℕ) (x : Cert.MixBwdRefIdeal.S1x4096x4x128.Idx → EReal)
    (h : Cert.MixBwdRefIdeal.S1x4096x4x128.ReduceWindows ![1, 4096, 1, 1] ![1, 1, 1, 1] lo hi Cert.MixBwdRefIdeal.S1x4096x4x128)
    (j : Cert.MixBwdRefIdeal.S1x4096x4x128.Idx) :
    Ideal.hostReduceWindowAdd (s := Cert.MixBwdRefIdeal.S1x4096x4x128) ![1, 4096, 1, 1] ![1, 1, 1, 1] lo hi h x 0 j
      = ∑ k : Fin 4096, (if hin : ∀ a : Fin 4, lo a ≤ (j a).val * (![1, 1, 1, 1] : Fin 4 → ℕ) a + (![0, k.val, 0, 0] : Fin 4 → ℕ) a
            ∧ (j a).val * (![1, 1, 1, 1] : Fin 4 → ℕ) a + (![0, k.val, 0, 0] : Fin 4 → ℕ) a - lo a < Cert.MixBwdRefIdeal.S1x4096x4x128.size a
          then x (fun a => ⟨(j a).val * (![1, 1, 1, 1] : Fin 4 → ℕ) a + (![0, k.val, 0, 0] : Fin 4 → ℕ) a - lo a, (hin a).2⟩) else 0) := by
  unfold Ideal.hostReduceWindowAdd Host.reduceWindow
  dsimp only
  rw [foldl_sum, zero_add, ← Fin.sum_univ_def]
  refine (Finset.sum_congr rfl fun n _ => dite_congr rfl (fun _ => rfl) (fun _ => rfl)).trans ((Equiv.sum_comp (⟨4, ![1, 4096, 1, 1]⟩ : Shape).rowMajor.symm (fun i : (⟨4, ![1, 4096, 1, 1]⟩ : Shape).Idx =>
    if hin : ∀ a : Fin 4, lo a ≤ (j a).val * (![1, 1, 1, 1] : Fin 4 → ℕ) a + (i a).val
            ∧ (j a).val * (![1, 1, 1, 1] : Fin 4 → ℕ) a + (i a).val - lo a < Cert.MixBwdRefIdeal.S1x4096x4x128.size a
          then x (fun a => ⟨(j a).val * (![1, 1, 1, 1] : Fin 4 → ℕ) a + (i a).val - lo a, (hin a).2⟩) else 0)).trans ?_)
  have e : ∀ (k : Fin 4096) (a : Fin 4), ((ix4 (0 : Fin 1) k (0 : Fin 1) (0 : Fin 1) : (⟨4, ![1, 4096, 1, 1]⟩ : Shape).Idx) a).val = (![0, k.val, 0, 0] : Fin 4 → ℕ) a := by
    intro k a
    fin_cases a <;> rfl
  refine (Fintype.sum_bijective (fun k : Fin 4096 => (ix4 (0 : Fin 1) k (0 : Fin 1) (0 : Fin 1) : (⟨4, ![1, 4096, 1, 1]⟩ : Shape).Idx)) ⟨?_, ?_⟩ _ _ fun k => ?_).symm
  · intro a b hab
    exact congrFun hab 1
  · intro i
    refine ⟨i 1, ?_⟩
    idx_vars i
    have h0 : i0 = (0 : Fin 1) := Subsingleton.elim _ _
    have h2 : i2 = (0 : Fin 1) := Subsingleton.elim _ _
    have h3 : i3 = (0 : Fin 1) := Subsingleton.elim _ _
    subst h0 h2 h3
    rfl
  · simp only [e]

variable {f : ℕ → EReal}

/-- The sum of the entries so far. -/
def sofar (f : ℕ → EReal) (n : ℕ) : EReal := ∑ k ∈ range (n + 1), f k

theorem window_before (g : ℕ → EReal) (M r : ℕ) (hr : r ≤ M) :
    ∑ k : Fin (M + 1), (if M ≤ r + k.val then g (r + k.val - M) else 0) = sofar g r := by
  rw [← Finset.sum_range fun k => if M ≤ r + k then g (r + k - M) else 0, show M + 1 = (M - r) + (r + 1) from by omega,
    Finset.sum_range_add _ (M - r) (r + 1), Finset.sum_eq_zero fun k hk => if_neg (by have := Finset.mem_range.1 hk; omega), zero_add]
  refine Finset.sum_congr rfl fun k hk => ?_
  have := Finset.mem_range.1 hk
  rw [if_pos (by omega)]
  congr 1
  omega

theorem lag_back (w k n : ℕ) (hk : k < w) (hw : w ≤ 16) : lag f (n + 16 - k) = if k ≤ n then f (n - k) else 0 := by
  unfold lag
  by_cases h : k ≤ n
  · rw [if_pos h, if_pos (by omega)]; congr 1; omega
  · rw [if_neg h, if_neg (by omega)]

/-- The sum so far is the sum up to `w` entries back, and the last `w`. -/
theorem sofar_split (w n : ℕ) (hw : w ≤ 16) : sofar f n = (if n < w then 0 else sofar f (n - w)) + trail w f n := by
  unfold trail sofar
  rw [Finset.sum_congr rfl fun k hk => lag_back (f := f) w k n (Finset.mem_range.1 hk) hw]
  by_cases h : n < w
  · obtain ⟨d, rfl⟩ : ∃ d, w = n + 1 + d := ⟨w - (n + 1), by omega⟩
    rw [if_pos h, zero_add, Finset.sum_range_add (fun k => if k ≤ n then f (n - k) else 0) (n + 1) d,
      Finset.sum_eq_zero (s := range d) fun k hk => if_neg (by omega), add_zero, ← Finset.sum_range_reflect f (n + 1)]
    refine Finset.sum_congr rfl fun k hk => ?_
    have := Finset.mem_range.1 hk
    rw [if_pos (by omega)]
    congr 1
  · rw [if_neg h, show n + 1 = (n - w + 1) + w from by omega, Finset.sum_range_add _ (n - w + 1) w, ← Finset.sum_range_reflect (fun x => f (n - w + 1 + x)) w]
    congr 1
    refine Finset.sum_congr rfl fun k hk => ?_
    have := Finset.mem_range.1 hk
    rw [if_pos (by omega)]
    congr 1
    omega

theorem num_sofar (h : ∀ n, Num (f n)) (n : ℕ) : Num (sofar f n) := Num.sum h
theorem num_lag (h : ∀ n, Num (f n)) (n : ℕ) : Num (lag f n) := by
  unfold lag
  split
  · exact h _
  · exact Num.zero
theorem num_trail (w : ℕ) (h : ∀ n, Num (f n)) (n : ℕ) : Num (trail w f n) := Num.sum fun k => num_lag h _

/-- The difference of two sums so far is the sum of the last entries. -/
theorem sofar_sub (w n : ℕ) (hw : w ≤ 16) (h : ∀ n, Num (f n)) : sofar f n - (if n < w then 0 else sofar f (n - w)) = trail w f n := by
  have hl : Num (if n < w then 0 else sofar f (n - w)) := by
    split
    · exact Num.zero
    · exact num_sofar h _
  rw [sofar_split w n hw]
  obtain ⟨a, ha⟩ := hl
  obtain ⟨b, hb⟩ := num_trail w h n
  rw [ha, hb]
  norm_cast
  ring_nf

/-- A sum of differences `w` apart, over a stretch after which all is zero, is the sum of the first `w` entries. -/
theorem telescope (w N r : ℕ) (h : ∀ n, Num (f n)) (h0 : ∀ n, N ≤ n → f n = 0) :
    ∑ k ∈ range N, (f (r + k) - f (r + k + w)) = ∑ k ∈ range w, f (r + k) := by
  choose g hg using h
  have z : ∀ n, N ≤ n → g n = 0 := fun n hn => by
    have := h0 n hn
    rw [hg] at this
    exact_mod_cast this
  simp only [hg]
  have e : ∑ k ∈ range N, g (r + k) + ∑ k ∈ range w, g (r + (N + k)) = ∑ k ∈ range w, g (r + k) + ∑ k ∈ range N, g (r + (w + k)) := by
    rw [← Finset.sum_range_add (fun x => g (r + x)), ← Finset.sum_range_add (fun x => g (r + x)), add_comm N w]
  rw [Finset.sum_eq_zero (s := range w) (f := fun k => g (r + (N + k))) (fun k _ => z _ (by omega)), add_zero] at e
  have e2 : ∑ k ∈ range N, (g (r + k) - g (r + k + w)) = ∑ k ∈ range w, g (r + k) := by
    rw [Finset.sum_sub_distrib, e]
    have : ∀ k, r + k + w = r + (w + k) := fun k => by omega
    simp only [this, add_sub_cancel_right]
  have c : ∀ k, (g (r + k) : EReal) - (g (r + k + w) : EReal) = ((g (r + k) - g (r + k + w) : ℝ) : EReal) := fun k => by norm_cast
  simp only [c]
  rw [Num.sum_coe, Num.sum_coe, e2]

end Cert.Mix
-- ==== Proof.Mix.RefPool.lean ====
module

public import proofs.«01_k».proof.Proof.Mix.Window
public import proofs.«01_k».proof.Proof.Gen.MixBwdRefIdeal.Read
public import Idealize.ShloMosaic.Lib.Pointwise
public import Idealize.ShloMosaic.Lib.IdealHost

@[expose] public section

set_option maxRecDepth 16384

noncomputable section

/-! The reference's forward mixer, entry by entry: pooled rows and the group maps' results. -/

namespace Cert.MixBwdRefIdeal.Hand

open Cert.MixBwdRefIdeal Cert.MixBwdRefIdeal.Gen Cert.MixBwdRefIdeal.Read Cert.Mix Cert.Kit
open Idealize.ShloMosaic Idealize.ShloMosaic.TcCoe Idealize.SL.Sem
open Finset (range)

variable (x1 : (⟨S4096x512, .f32⟩ : BufTy).Contents (Elt Ideal)) (x4 : (⟨S4x128x128, .f32⟩ : BufTy).Contents (Elt Ideal))
  (r : Fin 4096) (g : Fin 4) (k : Fin 128)

/-- The mixer's input, a sequence of rows; the group maps. -/
abbrev U : ℕ → Fin 512 → EReal := padded fun r c => x1 (ix2 r c)
abbrev WP : Fin 4 → Fin 128 → Fin 128 → EReal := fun g a d => x4 (ix3 g a d)

theorem inp : val_main_v1 (F := Ideal) x1 (ix4 0 r g k) = U x1 r.val (ch g k) := by
  unfold U padded
  rw [dif_pos r.isLt]
  unfold ch
  pointwise [val_main_v1, val_main_v0]
  congr 1
  idx_ext <;> omega

theorem run : val_main_v2 (F := Ideal) x1 (ix4 0 r g k) = sofar (fun n => U x1 n (ch g k)) r.val := by
  unfold val_main_v2 Host.reduceWindowAdd
  rw [Ideal.hostReduceWindowAdd_def, show val_main_call0_call0_v0 (F := Ideal) (Shape.Idx.first h_S_) = 0 from Ideal.ofBits_zero .f32]
  refine (window ![0, 4095, 0, 0] ![0, 0, 0, 0] (val_main_v1 (F := Ideal) x1) _ _).trans ?_
  rw [ ← window_before _ 4095 r.val (by omega)]
  refine Finset.sum_congr rfl fun n _ => ?_
  by_cases h : 4095 ≤ r.val + n.val
  · rw [dif_pos (fun a => by fin_cases a <;> simp <;> omega), if_pos h]
    refine Eq.trans ?_ ((inp x1 ⟨r.val + n.val - 4095, by omega⟩ g k))
    congr 1
    funext a
    fin_cases a <;> simp <;> rfl
  · rw [dif_neg (fun hin => h (by simpa using (hin 1).1)), if_neg h]

theorem two : Ideal.ofBits .f32 0x40000000#32 = ((2 : ℕ) : ℝ) := by
  simp [Ideal.ofBits, Ideal.ieee, -EReal.coe_mul]; norm_num
theorem four : Ideal.ofBits .f32 0x40800000#32 = ((4 : ℕ) : ℝ) := by
  simp [Ideal.ofBits, Ideal.ieee, -EReal.coe_mul]; norm_num
theorem eight : Ideal.ofBits .f32 0x41000000#32 = ((8 : ℕ) : ℝ) := by
  simp [Ideal.ofBits, Ideal.ieee, -EReal.coe_mul]; norm_num
theorem sixteen : Ideal.ofBits .f32 0x41800000#32 = ((16 : ℕ) : ℝ) := by
  simp [Ideal.ofBits, Ideal.ieee, -EReal.coe_mul]; norm_num

/-- The positions counted from one. -/
theorem position : val_main_v5 (F := Ideal) (ix1 r) = (((r.val + 1 : ℕ) : ℝ) : EReal) := by
  pointwise [val_main_v5, val_main_v4, val_main_v3, val_main_cst]
  have e : FloatOps.sitofp (F := Ideal) FTy.f32 (BitVec.ofNat 32 r.val) = (((r.val : ℕ) : ℝ) : EReal) := by
    show (((BitVec.ofNat 32 r.val).toInt : ℝ) : EReal) = _
    rw [show (BitVec.ofNat 32 r.val).toInt = r.val from by rw [BitVec.toInt_ofNat']; simp [Int.bmod]; omega]
    norm_cast
  rw [e]
  norm_cast
  ring_nf

theorem count (w n : ℕ) : min (((n + 1 : ℕ) : ℝ) : EReal) (((w : ℕ) : ℝ) : EReal) = cnt w n := by
  unfold cnt
  rcases Nat.le_total (n + 1) w with h | h
  · rw [Nat.min_eq_left h, min_eq_left (by exact_mod_cast h)]
  · rw [Nat.min_eq_right h, min_eq_right (by exact_mod_cast h)]

theorem counts0 : val_main_v13 (F := Ideal) (ix1 r) = cnt 2 r.val := by
  rw [← count, ← position, ← two]
  pointwise [val_main_v13, val_main_v12, val_main_cst_2]

theorem back0 : val_main_v10 (F := Ideal) x1 (ix3 0 r k) = if r.val < 2 then 0 else sofar (fun n => U x1 n (ch 0 k)) (r.val - 2) := by
  have e := fun h : 2 ≤ r.val => run x1 ⟨r.val - 2, by omega⟩ 0 k
  pointwise [val_main_v10, val_main_v9, val_main_v8, val_main_v7, val_main_v6, val_main_cst_0]
  by_cases hw : r.val < 2
  · exact (dif_pos hw).trans (if_pos hw).symm
  · exact (dif_neg hw).trans ((e (by omega)).trans (if_neg hw).symm)

theorem pooled0 (h : ∀ n c, Num (U x1 n c)) : val_main_v20 (F := Ideal) x1 (ix3 0 r k) = poolRow (U x1) 0 k r.val := by
  have e0 := run x1 r 0 k
  have e1 := back0 x1 r k
  have e2 := counts0 r
  have e3 := inp x1 r 0 k
  unfold poolRow pooled
  dsimp only
  rw [show width 0 = 2 from rfl, ← sofar_sub 2 r.val (by omega) fun n => h n _, ← e0, ← e1, ← e2, ← e3]
  pointwise [val_main_v20, val_main_v19, val_main_v18, val_main_v17, val_main_v16, val_main_v15, val_main_v14, val_main_v7, val_main_v6]

theorem counts1 : val_main_v28 (F := Ideal) (ix1 r) = cnt 4 r.val := by
  rw [← count, ← position, ← four]
  pointwise [val_main_v28, val_main_v27, val_main_cst_5]

theorem back1 : val_main_v25 (F := Ideal) x1 (ix3 0 r k) = if r.val < 4 then 0 else sofar (fun n => U x1 n (ch 1 k)) (r.val - 4) := by
  have e := fun h : 4 ≤ r.val => run x1 ⟨r.val - 4, by omega⟩ 1 k
  pointwise [val_main_v25, val_main_v24, val_main_v23, val_main_v22, val_main_v21, val_main_cst_3]
  by_cases hw : r.val < 4
  · exact (dif_pos hw).trans (if_pos hw).symm
  · exact (dif_neg hw).trans ((e (by omega)).trans (if_neg hw).symm)

theorem pooled1 (h : ∀ n c, Num (U x1 n c)) : val_main_v35 (F := Ideal) x1 (ix3 0 r k) = poolRow (U x1) 1 k r.val := by
  have e0 := run x1 r 1 k
  have e1 := back1 x1 r k
  have e2 := counts1 r
  have e3 := inp x1 r 1 k
  unfold poolRow pooled
  dsimp only
  rw [show width 1 = 4 from rfl, ← sofar_sub 4 r.val (by omega) fun n => h n _, ← e0, ← e1, ← e2, ← e3]
  pointwise [val_main_v35, val_main_v34, val_main_v33, val_main_v32, val_main_v31, val_main_v30, val_main_v29, val_main_v22, val_main_v21]

theorem counts2 : val_main_v43 (F := Ideal) (ix1 r) = cnt 8 r.val := by
  rw [← count, ← position, ← eight]
  pointwise [val_main_v43, val_main_v42, val_main_cst_8]

theorem back2 : val_main_v40 (F := Ideal) x1 (ix3 0 r k) = if r.val < 8 then 0 else sofar (fun n => U x1 n (ch 2 k)) (r.val - 8) := by
  have e := fun h : 8 ≤ r.val => run x1 ⟨r.val - 8, by omega⟩ 2 k
  pointwise [val_main_v40, val_main_v39, val_main_v38, val_main_v37, val_main_v36, val_main_cst_6]
  by_cases hw : r.val < 8
  · exact (dif_pos hw).trans (if_pos hw).symm
  · exact (dif_neg hw).trans ((e (by omega)).trans (if_neg hw).symm)

theorem pooled2 (h : ∀ n c, Num (U x1 n c)) : val_main_v50 (F := Ideal) x1 (ix3 0 r k) = poolRow (U x1) 2 k r.val := by
  have e0 := run x1 r 2 k
  have e1 := back2 x1 r k
  have e2 := counts2 r
  have e3 := inp x1 r 2 k
  unfold poolRow pooled
  dsimp only
  rw [show width 2 = 8 from rfl, ← sofar_sub 8 r.val (by omega) fun n => h n _, ← e0, ← e1, ← e2, ← e3]
  pointwise [val_main_v50, val_main_v49, val_main_v48, val_main_v47, val_main_v46, val_main_v45, val_main_v44, val_main_v37, val_main_v36]

theorem counts3 : val_main_v58 (F := Ideal) (ix1 r) = cnt 16 r.val := by
  rw [← count, ← position, ← sixteen]
  pointwise [val_main_v58, val_main_v57, val_main_cst_11]

theorem back3 : val_main_v55 (F := Ideal) x1 (ix3 0 r k) = if r.val < 16 then 0 else sofar (fun n => U x1 n (ch 3 k)) (r.val - 16) := by
  have e := fun h : 16 ≤ r.val => run x1 ⟨r.val - 16, by omega⟩ 3 k
  pointwise [val_main_v55, val_main_v54, val_main_v53, val_main_v52, val_main_v51, val_main_cst_9]
  by_cases hw : r.val < 16
  · exact (dif_pos hw).trans (if_pos hw).symm
  · exact (dif_neg hw).trans ((e (by omega)).trans (if_neg hw).symm)

theorem pooled3 (h : ∀ n c, Num (U x1 n c)) : val_main_v65 (F := Ideal) x1 (ix3 0 r k) = poolRow (U x1) 3 k r.val := by
  have e0 := run x1 r 3 k
  have e1 := back3 x1 r k
  have e2 := counts3 r
  have e3 := inp x1 r 3 k
  unfold poolRow pooled
  dsimp only
  rw [show width 3 = 16 from rfl, ← sofar_sub 16 r.val (by omega) fun n => h n _, ← e0, ← e1, ← e2, ← e3]
  pointwise [val_main_v65, val_main_v64, val_main_v63, val_main_v62, val_main_v61, val_main_v60, val_main_v59, val_main_v52, val_main_v51]

theorem pools (h : ∀ n c, Num (U x1 n c)) : val_main_v70 (F := Ideal) x1 (ix4 0 r g k) = poolRow (U x1) g k r.val := by
  match g with
  | 0 => rw [← pooled0 x1 r k h]; pointwise [val_main_v70, val_main_v66]
  | 1 => rw [← pooled1 x1 r k h]; pointwise [val_main_v70, val_main_v67]
  | 2 => rw [← pooled2 x1 r k h]; pointwise [val_main_v70, val_main_v68]
  | 3 => rw [← pooled3 x1 r k h]; pointwise [val_main_v70, val_main_v69]

/-- The group maps' results. -/
theorem mapped (h : ∀ n c, Num (U x1 n c)) (c : Fin 512) :
    val_main_v73 (F := Ideal) x1 x4 (ix3 0 r c) = ∑ a : Fin 128, poolRow (U x1) (grp c) a r.val * WP x4 (grp c) a (lane c) := by
  have e : val_main_v72 (F := Ideal) x1 x4 (ix4 0 r (grp c) (lane c)) = ∑ a : Fin 128, poolRow (U x1) (grp c) a r.val * WP x4 (grp c) a (lane c) := by
    pointwise [val_main_v72, val_main_v71]
    exact Finset.sum_congr rfl fun a _ => (mul_comm _ _).trans (Ideal.mul_congr (pools x1 r (grp c) a h) rfl)
  rw [← e]
  unfold grp lane
  pointwise [val_main_v73]

end Cert.MixBwdRefIdeal.Hand
-- ==== Proof.Mix.Ref.lean ====
module

public import proofs.«01_k».proof.Proof.Mix.RefPool

@[expose] public section

set_option maxRecDepth 16384

noncomputable section

/-! The reference's gradients, entry by entry, are the row-wise gradient. -/

namespace Cert.MixBwdRefIdeal.Hand

open Cert.MixBwdRefIdeal Cert.MixBwdRefIdeal.Gen Cert.MixBwdRefIdeal.Read Cert.Mix Cert.Kit
open Idealize.ShloMosaic Idealize.ShloMosaic.TcCoe Idealize.SL.Sem
open Finset (range)

variable (x0 : (⟨S4096x1024, .f32⟩ : BufTy).Contents (Elt Ideal)) (x1 x2 : (⟨S4096x512, .f32⟩ : BufTy).Contents (Elt Ideal))
  (x3 : (⟨S1024x1024, .f32⟩ : BufTy).Contents (Elt Ideal)) (x4 : (⟨S4x128x128, .f32⟩ : BufTy).Contents (Elt Ideal)) (x5 : (⟨S512, .f32⟩ : BufTy).Contents (Elt Ideal))
  (r : Fin 4096) (g : Fin 4) (k : Fin 128) (c : Fin 512)

/-- The cotangent's rows, the output projection, the channel scales. -/
abbrev DH : ℕ → Fin 1024 → EReal := padded fun r c => x0 (ix2 r c)
abbrev WO : Fin 1024 → Fin 1024 → EReal := fun a k => x3 (ix2 a k)
abbrev SC : Fin 512 → EReal := fun c => x5 (ix1 c)

theorem ch_grp : ch (grp c) (lane c) = c := Fin.ext (by show 128 * (c.val / 128) + c.val % 128 = c.val; omega)
theorem grp_ch : grp (ch g k) = g := Fin.ext (by show (128 * g.val + k.val) / 128 = g.val; omega)
theorem lane_ch : lane (ch g k) = k := Fin.ext (by show (128 * g.val + k.val) % 128 = k.val; omega)

theorem back : val_main_v82 (F := Ideal) x0 x3 (ix2 r (⟨c.val, by omega⟩ : Fin 1024)) = dAttn (DH x0) (WO x3) r.val c := by
  unfold dAttn DH padded
  simp only [dif_pos r.isLt]
  pointwise [val_main_v82]

/-- The attention's cotangent. -/
theorem attn : val_main_v83 (F := Ideal) x0 x3 (ix2 r c) = dAttn (DH x0) (WO x3) r.val c := by
  rw [← back]
  pointwise [val_main_v83]

theorem mix : val_main_v84 (F := Ideal) x0 x3 (ix2 r c) = dMix (DH x0) (WO x3) r.val c := by
  unfold dMix DH padded
  simp only [dif_pos r.isLt]
  pointwise [val_main_v84, val_main_v82]

theorem maps : val_main_v90 (F := Ideal) x0 x3 x5 (ix3 0 r c) = dMap (DH x0) (WO x3) (SC x5) r.val c := by
  unfold dMap
  rw [← mix]
  pointwise [val_main_v90, val_main_v89, val_main_v85, val_main_v74]

theorem turned : val_main_v93 (F := Ideal) x0 x3 x5 (ix4 g k 0 r) = dMap (DH x0) (WO x3) (SC x5) r.val (ch g k) := by
  rw [← maps]
  unfold ch
  pointwise [val_main_v93, val_main_v92]
  congr 1
  idx_ext <;> omega

theorem pool : val_main_v95 (F := Ideal) x0 x3 x4 x5 (ix4 0 r g k) = dPool (DH x0) (WO x3) (WP x4) (SC x5) g k r.val := by
  unfold dPool
  have e := fun d => turned x0 x3 x5 r g d
  pointwise [val_main_v95, val_main_v94]
  exact Finset.sum_congr rfl fun d _ => Ideal.mul_congr (e d) rfl

section Numbers

variable (h0 : ∀ n c, Num (DH x0 n c)) (h1 : ∀ n c, Num (U x1 n c)) (h3 : ∀ a k, Num (WO x3 a k)) (h4 : ∀ g a d, Num (WP x4 g a d)) (h5 : ∀ c, Num (SC x5 c))

include h1 in
/-- The group maps' gradient. -/
theorem weights (a d : Fin 128) : val_main_v97 (F := Ideal) x0 x1 x3 x5 (ix3 g a d) = ∑ n ∈ range 4096, dMaps (DH x0) (U x1) (WO x3) (SC x5) g a d n := by
  rw [Finset.sum_range]
  unfold dMaps
  have e := fun n => turned x0 x3 x5 n g d
  have e' := fun n => pools x1 n g a h1
  pointwise [val_main_v97, val_main_v96]
  rw [Fin.sum_univ_one]
  exact Finset.sum_congr rfl fun n _ => (mul_comm _ _).trans (Ideal.mul_congr (e' n) (e n))

include h1 in
/-- The scales' gradient. -/
theorem scales (c : Fin 512) : val_main_v165 (F := Ideal) x0 x1 x3 x4 (ix2 0 c) = ∑ n ∈ range 4096, dScale (DH x0) (U x1) (WO x3) (WP x4) (grp c) (lane c) n := by
  rw [Finset.sum_range]
  unfold dScale
  rw [ch_grp]
  have e := fun n => mix x0 x3 n c
  have e' := fun n => mapped x1 x4 n h1 c
  have e1 : val_main_v91 (F := Ideal) x0 x1 x3 x4 (ix1 c) = val_main_v88 (F := Ideal) x0 x1 x3 x4 (ix3 0 0 c) := by
    unfold val_main_v91 Host.reduceAdd
    rw [Ideal.hostReduceAdd_def]
    unfold Ideal.hostReduceAdd
    rw [show val_main_cst_13 (F := Ideal) (Shape.Idx.first h_S_) = 0 from Ideal.ofBits_zero .f32, zero_add]
    refine Finset.sum_eq_single_of_mem (ix3 0 0 c) (Finset.mem_filter.2 ⟨Finset.mem_univ _, by funext a; fin_cases a; rfl⟩) fun i hi hne => absurd ?_ hne
    have h := congrFun (Finset.mem_filter.1 hi).2 0
    idx_vars i
    have h0 : i0 = (0 : Fin 1) := Subsingleton.elim _ _
    have h1 : i1 = (0 : Fin 1) := Subsingleton.elim _ _
    have h2 : i2 = c := h
    rw [h0, h1, h2]
  have e2 : val_main_v165 (F := Ideal) x0 x1 x3 x4 (ix2 0 c) = val_main_v91 (F := Ideal) x0 x1 x3 x4 (ix1 c) := by
    pointwise [val_main_v165]
  rw [e2, e1]
  pointwise [val_main_v88, val_main_v87, val_main_v86, val_main_v85, val_main_cst_12]
  exact Finset.sum_congr rfl fun n _ => (mul_comm _ _).trans (Ideal.mul_congr (e n) (e' n))

/-- The output projection's gradient. -/
theorem projection (j k : Fin 1024) : val_main_v81 (F := Ideal) x0 x1 x2 x4 x5 (ix2 j k)
    = ∑ n : Fin 4096, (if h : j.val < 512 then x2 (ix2 n ⟨j.val, h⟩) else val_main_v77 (F := Ideal) x1 x4 x5 (ix2 n ⟨j.val - 512, by omega⟩)) * DH x0 n.val k := by
  unfold DH padded
  simp only [dif_pos (Fin.isLt _)]
  pointwise [val_main_v81, val_main_v80, val_main_v78]
  exact Finset.sum_congr rfl fun n _ => mul_comm _ _

end Numbers

end Cert.MixBwdRefIdeal.Hand
-- ==== Proof.Mix.RefIn.lean ====
module

public import proofs.«01_k».proof.Proof.Mix.Ref

@[expose] public section

set_option maxRecDepth 16384

noncomputable section

/-! The reference's gradient of the mixer's input: a running sum from the end of differences, which is the leading sum. -/

namespace Cert.MixBwdRefIdeal.Hand

open Cert.MixBwdRefIdeal Cert.MixBwdRefIdeal.Gen Cert.MixBwdRefIdeal.Read Cert.Mix Cert.Kit
open Idealize.ShloMosaic Idealize.ShloMosaic.TcCoe Idealize.SL.Sem
open Finset (range)

variable (x0 : (⟨S4096x1024, .f32⟩ : BufTy).Contents (Elt Ideal)) (x1 x2 : (⟨S4096x512, .f32⟩ : BufTy).Contents (Elt Ideal))
  (x3 : (⟨S1024x1024, .f32⟩ : BufTy).Contents (Elt Ideal)) (x4 : (⟨S4x128x128, .f32⟩ : BufTy).Contents (Elt Ideal)) (x5 : (⟨S512, .f32⟩ : BufTy).Contents (Elt Ideal))
  (r : Fin 4096) (g : Fin 4) (k : Fin 128) (c : Fin 512)

/-- The pooled rows' cotangent, and the same over the count of its window. -/
abbrev D (n : ℕ) : EReal := dPool (DH x0) (WO x3) (WP x4) (SC x5) g k n
def H (w n : ℕ) : EReal := Ideal.div (D x0 x3 x4 x5 g k n) (cnt w n)

theorem D_past (n : ℕ) (h : 4096 ≤ n) : D x0 x3 x4 x5 g k n = 0 := by
  unfold D dPool dMap dMix DH padded
  simp only [dif_neg (not_lt.2 h), zero_mul, Finset.sum_const_zero]

theorem div_cnt {w : ℕ} (hw : 0 < w) (n : ℕ) (a : ℝ) : Ideal.div (a : EReal) (cnt w n) = ((a / ((min (n + 1) w : ℕ) : ℝ) : ℝ) : EReal) :=
  Num.div_coe a (Nat.cast_ne_zero.2 (by omega))

theorem H_past {w : ℕ} (hw : 0 < w) (n : ℕ) (h : 4096 ≤ n) : H x0 x3 x4 x5 g k w n = 0 := by
  unfold H
  rw [D_past x0 x3 x4 x5 g k n h]
  refine (div_cnt hw n 0).trans ?_
  rw [zero_div]
  rfl

theorem share0 : val_main_v151 (F := Ideal) x0 x3 x4 x5 (ix3 0 r k) = H x0 x3 x4 x5 0 k 2 r.val := by
  unfold H D
  rw [← counts0, ← pool]
  pointwise [val_main_v151, val_main_v150, val_main_v14, val_main_v99, val_main_v98]

theorem step0 : val_main_v156 (F := Ideal) x0 x3 x4 x5 (ix3 0 r k) = H x0 x3 x4 x5 0 k 2 r.val - H x0 x3 x4 x5 0 k 2 (r.val + 2) := by
  rw [← share0, sub_eq_add_neg]
  have e : val_main_v155 (F := Ideal) x0 x3 x4 x5 (ix3 0 r k) = -H x0 x3 x4 x5 0 k 2 (r.val + 2) := by
    by_cases h : r.val + 2 < 4096
    · have e := share0 x0 x3 x4 x5 ⟨r.val + 2, h⟩ k
      rw [← e]
      pointwise [val_main_v155, val_main_v154, val_main_v152, val_main_cst_24]
      simp only [dif_pos (show r.val < 4094 from by omega), Nat.add_comm 2]
    · rw [H_past _ _ _ _ _ _ (by omega) _ (by omega)]
      pointwise [val_main_v155, val_main_v154, val_main_v152, val_main_cst_24]
      rw [dif_neg (by omega), neg_zero]
  rw [← e]
  pointwise [val_main_v156]

theorem share1 : val_main_v137 (F := Ideal) x0 x3 x4 x5 (ix3 0 r k) = H x0 x3 x4 x5 1 k 4 r.val := by
  unfold H D
  rw [← counts1, ← pool]
  pointwise [val_main_v137, val_main_v136, val_main_v29, val_main_v101, val_main_v100]

theorem step1 : val_main_v142 (F := Ideal) x0 x3 x4 x5 (ix3 0 r k) = H x0 x3 x4 x5 1 k 4 r.val - H x0 x3 x4 x5 1 k 4 (r.val + 4) := by
  rw [← share1, sub_eq_add_neg]
  have e : val_main_v141 (F := Ideal) x0 x3 x4 x5 (ix3 0 r k) = -H x0 x3 x4 x5 1 k 4 (r.val + 4) := by
    by_cases h : r.val + 4 < 4096
    · have e := share1 x0 x3 x4 x5 ⟨r.val + 4, h⟩ k
      rw [← e]
      pointwise [val_main_v141, val_main_v140, val_main_v138, val_main_cst_21]
      simp only [dif_pos (show r.val < 4092 from by omega), Nat.add_comm 4]
    · rw [H_past _ _ _ _ _ _ (by omega) _ (by omega)]
      pointwise [val_main_v141, val_main_v140, val_main_v138, val_main_cst_21]
      rw [dif_neg (by omega), neg_zero]
  rw [← e]
  pointwise [val_main_v142]

theorem share2 : val_main_v123 (F := Ideal) x0 x3 x4 x5 (ix3 0 r k) = H x0 x3 x4 x5 2 k 8 r.val := by
  unfold H D
  rw [← counts2, ← pool]
  pointwise [val_main_v123, val_main_v122, val_main_v44, val_main_v103, val_main_v102]

theorem step2 : val_main_v128 (F := Ideal) x0 x3 x4 x5 (ix3 0 r k) = H x0 x3 x4 x5 2 k 8 r.val - H x0 x3 x4 x5 2 k 8 (r.val + 8) := by
  rw [← share2, sub_eq_add_neg]
  have e : val_main_v127 (F := Ideal) x0 x3 x4 x5 (ix3 0 r k) = -H x0 x3 x4 x5 2 k 8 (r.val + 8) := by
    by_cases h : r.val + 8 < 4096
    · have e := share2 x0 x3 x4 x5 ⟨r.val + 8, h⟩ k
      rw [← e]
      pointwise [val_main_v127, val_main_v126, val_main_v124, val_main_cst_18]
      simp only [dif_pos (show r.val < 4088 from by omega), Nat.add_comm 8]
    · rw [H_past _ _ _ _ _ _ (by omega) _ (by omega)]
      pointwise [val_main_v127, val_main_v126, val_main_v124, val_main_cst_18]
      rw [dif_neg (by omega), neg_zero]
  rw [← e]
  pointwise [val_main_v128]

theorem share3 : val_main_v110 (F := Ideal) x0 x3 x4 x5 (ix3 0 r k) = H x0 x3 x4 x5 3 k 16 r.val := by
  unfold H D
  rw [← counts3, ← pool]
  pointwise [val_main_v110, val_main_v109, val_main_v59, val_main_v105, val_main_v104]

theorem step3 : val_main_v115 (F := Ideal) x0 x3 x4 x5 (ix3 0 r k) = H x0 x3 x4 x5 3 k 16 r.val - H x0 x3 x4 x5 3 k 16 (r.val + 16) := by
  rw [← share3, sub_eq_add_neg]
  have e : val_main_v114 (F := Ideal) x0 x3 x4 x5 (ix3 0 r k) = -H x0 x3 x4 x5 3 k 16 (r.val + 16) := by
    by_cases h : r.val + 16 < 4096
    · have e := share3 x0 x3 x4 x5 ⟨r.val + 16, h⟩ k
      rw [← e]
      pointwise [val_main_v114, val_main_v113, val_main_v111, val_main_cst_15]
      simp only [dif_pos (show r.val < 4080 from by omega), Nat.add_comm 16]
    · rw [H_past _ _ _ _ _ _ (by omega) _ (by omega)]
      pointwise [val_main_v114, val_main_v113, val_main_v111, val_main_cst_15]
      rw [dif_neg (by omega), neg_zero]
  rw [← e]
  pointwise [val_main_v115]

theorem direct : val_main_v149 (F := Ideal) x0 x3 x4 x5 (ix4 0 r g k) = -D x0 x3 x4 x5 g k r.val := by
  match g with
  | 0 =>
    have e := pool x0 x3 x4 x5 r 0 k
    unfold D
    rw [← e]
    pointwise [val_main_v149, val_main_v135, val_main_v121, val_main_v148, val_main_v147, val_main_v146, val_main_v99, val_main_v98, val_main_v134, val_main_v133, val_main_v132, val_main_v101, val_main_v100, val_main_v120, val_main_v119, val_main_v118, val_main_v103, val_main_v102, val_main_v108, val_main_v107, val_main_v106, val_main_v105, val_main_v104, val_main_cst_23, val_main_cst_20, val_main_cst_17, val_main_cst_14]
  | 1 =>
    have e := pool x0 x3 x4 x5 r 1 k
    unfold D
    rw [← e]
    pointwise [val_main_v149, val_main_v135, val_main_v121, val_main_v148, val_main_v147, val_main_v146, val_main_v99, val_main_v98, val_main_v134, val_main_v133, val_main_v132, val_main_v101, val_main_v100, val_main_v120, val_main_v119, val_main_v118, val_main_v103, val_main_v102, val_main_v108, val_main_v107, val_main_v106, val_main_v105, val_main_v104, val_main_cst_23, val_main_cst_20, val_main_cst_17, val_main_cst_14]
  | 2 =>
    have e := pool x0 x3 x4 x5 r 2 k
    unfold D
    rw [← e]
    pointwise [val_main_v149, val_main_v135, val_main_v121, val_main_v148, val_main_v147, val_main_v146, val_main_v99, val_main_v98, val_main_v134, val_main_v133, val_main_v132, val_main_v101, val_main_v100, val_main_v120, val_main_v119, val_main_v118, val_main_v103, val_main_v102, val_main_v108, val_main_v107, val_main_v106, val_main_v105, val_main_v104, val_main_cst_23, val_main_cst_20, val_main_cst_17, val_main_cst_14]
  | 3 =>
    have e := pool x0 x3 x4 x5 r 3 k
    unfold D
    rw [← e]
    pointwise [val_main_v149, val_main_v135, val_main_v121, val_main_v148, val_main_v147, val_main_v146, val_main_v99, val_main_v98, val_main_v134, val_main_v133, val_main_v132, val_main_v101, val_main_v100, val_main_v120, val_main_v119, val_main_v118, val_main_v103, val_main_v102, val_main_v108, val_main_v107, val_main_v106, val_main_v105, val_main_v104, val_main_cst_23, val_main_cst_20, val_main_cst_17, val_main_cst_14]

theorem steps : val_main_v159 (F := Ideal) x0 x3 x4 x5 (ix4 0 r g k) = H x0 x3 x4 x5 g k (width g) r.val - H x0 x3 x4 x5 g k (width g) (r.val + width g) := by
  match g with
  | 0 =>
    have e := step0 x0 x3 x4 x5 r k
    rw [show width 0 = 2 from rfl, ← e]
    pointwise [val_main_v159, val_main_v145, val_main_v131, val_main_v158, val_main_v157, val_main_v144, val_main_v143, val_main_v130, val_main_v129, val_main_v117, val_main_v116, val_main_cst_25, val_main_cst_22, val_main_cst_19, val_main_cst_16]
  | 1 =>
    have e := step1 x0 x3 x4 x5 r k
    rw [show width 1 = 4 from rfl, ← e]
    pointwise [val_main_v159, val_main_v145, val_main_v131, val_main_v158, val_main_v157, val_main_v144, val_main_v143, val_main_v130, val_main_v129, val_main_v117, val_main_v116, val_main_cst_25, val_main_cst_22, val_main_cst_19, val_main_cst_16]
  | 2 =>
    have e := step2 x0 x3 x4 x5 r k
    rw [show width 2 = 8 from rfl, ← e]
    pointwise [val_main_v159, val_main_v145, val_main_v131, val_main_v158, val_main_v157, val_main_v144, val_main_v143, val_main_v130, val_main_v129, val_main_v117, val_main_v116, val_main_cst_25, val_main_cst_22, val_main_cst_19, val_main_cst_16]
  | 3 =>
    have e := step3 x0 x3 x4 x5 r k
    rw [show width 3 = 16 from rfl, ← e]
    pointwise [val_main_v159, val_main_v145, val_main_v131, val_main_v158, val_main_v157, val_main_v144, val_main_v143, val_main_v130, val_main_v129, val_main_v117, val_main_v116, val_main_cst_25, val_main_cst_22, val_main_cst_19, val_main_cst_16]

/-- The running sum from the end, at once. -/
theorem turn : val_main_v160 (F := Ideal) x0 x3 x4 x5 (ix4 0 r g k) = ∑ n ∈ range 4096,
    (H x0 x3 x4 x5 g k (width g) (r.val + n) - H x0 x3 x4 x5 g k (width g) (r.val + n + width g)) := by
  have hw : 0 < width g := Nat.pow_pos (by omega)
  unfold val_main_v160 Host.reduceWindowAdd
  rw [Ideal.hostReduceWindowAdd_def, show val_main_call1_call0_v0 (F := Ideal) (Shape.Idx.first h_S_) = 0 from Ideal.ofBits_zero .f32, Finset.sum_range]
  refine (window ![0, 0, 0, 0] ![0, 4095, 0, 0] (val_main_v159 (F := Ideal) x0 x3 x4 x5) _ _).trans (Finset.sum_congr rfl fun n _ => ?_)
  by_cases h : r.val + n.val < 4096
  · rw [dif_pos (fun a => by fin_cases a <;> simp <;> omega)]
    refine Eq.trans ?_ (steps x0 x3 x4 x5 ⟨r.val + n.val, h⟩ g k)
    congr 1
    funext a
    fin_cases a <;> simp <;> rfl
  · rw [dif_neg (fun hin => h (by simpa using (hin 1).2)), H_past _ _ _ _ _ _ hw _ (by omega), H_past _ _ _ _ _ _ hw _ (by omega), sub_zero]

/-- The mixer input's gradient. -/
theorem input (h0 : ∀ n c, Num (DH x0 n c)) (h3 : ∀ a k, Num (WO x3 a k)) (h4 : ∀ g a d, Num (WP x4 g a d)) (h5 : ∀ c, Num (SC x5 c)) (c : Fin 512) :
    val_main_v164 (F := Ideal) x0 x3 x4 x5 (ix2 r c) = dIn (DH x0) (WO x3) (WP x4) (SC x5) (grp c) (lane c) r.val := by
  have hw : 0 < width (grp c) := Nat.pow_pos (by omega)
  have hD : ∀ n, Num (D x0 x3 x4 x5 (grp c) (lane c) n) := fun n => Num.sum fun d => ((Num.sum fun _ => (h0 _ _).mul (h3 _ _)).mul (h5 _)).mul (h4 _ _ _)
  have hH : ∀ n, Num (H x0 x3 x4 x5 (grp c) (lane c) (width (grp c)) n) := fun n => by
    obtain ⟨a, ha⟩ := hD n
    unfold H
    rw [ha]
    exact ⟨_, div_cnt hw n a⟩
  have e1 := direct x0 x3 x4 x5 r (grp c) (lane c)
  have e2 := turn x0 x3 x4 x5 r (grp c) (lane c)
  rw [telescope _ _ _ hH fun n hn => H_past _ _ _ _ _ _ hw n hn] at e2
  have e : val_main_v161 (F := Ideal) x0 x3 x4 x5 (ix4 0 r (grp c) (lane c)) = dIn (DH x0) (WO x3) (WP x4) (SC x5) (grp c) (lane c) r.val := by
    unfold dIn
    rw [sub_eq_add_neg, add_comm]
    exact Ideal.add_congr e1 e2
  rw [← e]
  unfold grp lane
  pointwise [val_main_v164, val_main_v163, val_main_v162, val_main_cst_26]
  rw [Fin.sum_univ_one]

end Cert.MixBwdRefIdeal.Hand
-- ==== Proof.Mix.Claim.lean ====
module

public import proofs.«01_k».proof.Defs
public import proofs.«01_k».proof.Proof.Mix.Value
public import proofs.«01_k».proof.Proof.Mix.Host
public import proofs.«01_k».proof.Proof.Mix.RefIn
public import proofs.«01_k».proof.Proof.Gen.Pre_mix_finite
public import proofs.«01_k».proof.Proof.Gen.MixBwdRefIdeal.Run
public import proofs.«01_k».proof.Proof.Gen.MixBwdIdeal.Value

@[expose] public section

set_option maxRecDepth 16384

noncomputable section

/-! The mixer gradient: the kernel's results are the reference's. -/

namespace Cert.MixBwdIdeal.Hand

open Cert.MixBwdIdeal Cert.MixBwdIdeal.Gen Cert.Mix Cert.Kit
open Idealize.ShloMosaic Idealize.ShloMosaic.TcCoe Idealize.SL.Sem
open Cert.MixBwdRefIdeal.Read (val_main_v83 val_main_v164 val_main_v97 val_main_v165 val_main_v81)

variable (m : (ℓ : Loc nD τ sig) → Buf (Elt Ideal) ℓ) (c : Dev nD)

abbrev arr0 := m ((c : Thread nD τ).loc main_arg0)
abbrev arr1 := m ((c : Thread nD τ).loc main_arg1)
abbrev arr2 := m ((c : Thread nD τ).loc main_arg2)
abbrev arr3 := m ((c : Thread nD τ).loc main_arg3)
abbrev arr4 := m ((c : Thread nD τ).loc main_arg4)
abbrev arr5 := m ((c : Thread nD τ).loc main_arg5)

/-- The precondition says every argument entry is a number. -/
theorem numbers (h : Cert.Pre_MixBwdIdeal_mix_finite m) : (∀ i, Num (arr0 m c i)) ∧ (∀ i, Num (arr1 m c i)) ∧ (∀ i, Num (arr2 m c i))
    ∧ (∀ i, Num (arr3 m c i)) ∧ (∀ i, Num (arr4 m c i)) ∧ ∀ i, Num (arr5 m c i) := by
  have e := congrFun (h c) (fun a => a.elim0)
  haveI : Subsingleton (Shape.Idx Cert.Pre_mix_finite.S_) := ⟨fun a b => funext fun i => i.elim0⟩
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨Num.of_all _ _ (fun _ => rfl) _ _ _ _ e0, Num.of_all _ _ (fun _ => rfl) _ _ _ _ e1, Num.of_all _ _ (fun _ => rfl) _ _ _ _ e2,
    Num.of_all _ _ (fun _ => rfl) _ _ _ _ e3, Num.of_all _ _ (fun _ => rfl) _ _ _ _ e4, Num.of_all _ _ (fun _ => rfl) _ _ _ _ e5⟩

/-- A sequence of numbers, zero past its end, is one of numbers. -/
theorem num_padded {κ : Type} {f : Fin 4096 → κ → EReal} (h : ∀ r k, Num (f r k)) (n : ℕ) (k : κ) : Num (padded f n k) := by
  unfold padded
  split
  · exact h _ _
  · exact Num.zero

theorem eqA : outA m c = val_main_v83 (F := Ideal) (arr0 m c) (arr3 m c) := by
  funext y
  idx_vars y
  exact (Cert.MixBwdRefIdeal.Hand.attn (arr0 m c) (arr3 m c) y0 y1).symm

/-- The rows the host hands the kernel are the reference's, so the output projection's gradient is. -/
theorem eqP : outP m c = val_main_v81 (F := Ideal) (arr0 m c) (arr1 m c) (arr2 m c) (arr4 m c) (arr5 m c) := by
  funext y
  idx_vars y
  refine Eq.trans ?_ (Cert.MixBwdRefIdeal.Hand.projection (arr0 m c) (arr1 m c) (arr2 m c) (arr4 m c) (arr5 m c) y0 y1).symm
  unfold outP dProj
  rw [Finset.sum_range]
  refine Finset.sum_congr rfl fun n _ => ?_
  unfold padded ms
  rw [dif_pos n.isLt, host_rows]
  rfl

section Finite

variable (h : Cert.Pre_MixBwdIdeal_mix_finite m)

include h

theorem eqU : outU m c = val_main_v164 (F := Ideal) (arr0 m c) (arr3 m c) (arr4 m c) (arr5 m c) := by
  obtain ⟨h0, h1, h2, h3, h4, h5⟩ := numbers m c h
  funext y
  idx_vars y
  exact (Cert.MixBwdRefIdeal.Hand.input (arr0 m c) (arr3 m c) (arr4 m c) (arr5 m c) y0 (num_padded fun _ _ => h0 _) (fun _ _ => h3 _) (fun _ _ _ => h4 _) (fun _ => h5 _) y1).symm

theorem eqW : outW m c = val_main_v97 (F := Ideal) (arr0 m c) (arr1 m c) (arr3 m c) (arr5 m c) := by
  obtain ⟨h0, h1, h2, h3, h4, h5⟩ := numbers m c h
  funext y
  idx_vars y
  exact (Cert.MixBwdRefIdeal.Hand.weights (arr0 m c) (arr1 m c) (arr3 m c) (arr5 m c) y0 (num_padded fun _ _ => h1 _) y1 y2).symm

theorem eqS : outS m c = val_main_v165 (F := Ideal) (arr0 m c) (arr1 m c) (arr3 m c) (arr4 m c) := by
  obtain ⟨h0, h1, h2, h3, h4, h5⟩ := numbers m c h
  funext y
  idx_vars y
  obtain rfl : y0 = 0 := Subsingleton.elim _ _
  exact (Cert.MixBwdRefIdeal.Hand.scales (arr0 m c) (arr1 m c) (arr3 m c) (arr4 m c) (num_padded fun _ _ => h1 _) y1).symm

end Finite

/-- The kernel's run ends with the five results so, and the arguments as they were. -/
theorem results (ρ : Dev nD → PrngReg) : θ_run defs (onTc (τ := τ) (main (F := Ideal))) ⟨m, fun _ => 0, ρ⟩ (fun r => ∀ c : Dev nD,
      r.2.mem ((c.tc : Thread nD τ).loc main_v79_0) = outA m c
      ∧ r.2.mem ((c.tc : Thread nD τ).loc main_v79_1) = outU m c
      ∧ r.2.mem ((c.tc : Thread nD τ).loc main_v79_2) = outW m c
      ∧ r.2.mem ((c.tc : Thread nD τ).loc main_v79_3) = outS m c
      ∧ r.2.mem ((c.tc : Thread nD τ).loc main_v79_4) = outP m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (Cert.MixBwdIdeal.Value.run_blocks m ρ)
  obtain ⟨h0, h1, h2, h3, h4, k⟩ := h c
  exact ⟨h0.trans (final9 m c), h1.trans (final10 m c), h2.trans (final11 m c), h3.trans (final12 m c), h4.trans (final13 m c), k⟩

/-- The reference runs, and leaves its arguments and every counter as they were. -/
theorem referenceFrame : Cert.quiescent_MixBwdRefIdeal := fun m g _ =>
  (θ_run _ _ _).mono (fun r h => ⟨fun c => (h c).2.2.2.2.2, sem_eq_zero_of_no_sems (by decide) _⟩) (Cert.MixBwdRefIdeal.Value.run m g)

/-- From any numbers the kernel's five results are the reference's. -/
theorem value : Cert.algebraic_MixBwdIdeal_MixBwdRefIdeal_pre_mix_finite := by
  intro m g m' g' h agree
  refine ⟨outA m, outU m, outW m, outS m, outP m, results m g, ?_⟩
  refine (θ_run _ _ _).mono (fun r k c => ?_) (Cert.MixBwdRefIdeal.Value.run m' g')
  obtain ⟨e0, e1, e2, e3, e4, e5⟩ := agree c
  have e0 : StableHlo.launchContents m' c (Proc.devRef .tc Cert.MixBwdRefIdeal.main_arg0) = arr0 m c := e0
  have e1 : StableHlo.launchContents m' c (Proc.devRef .tc Cert.MixBwdRefIdeal.main_arg1) = arr1 m c := e1
  have e2 : StableHlo.launchContents m' c (Proc.devRef .tc Cert.MixBwdRefIdeal.main_arg2) = arr2 m c := e2
  have e3 : StableHlo.launchContents m' c (Proc.devRef .tc Cert.MixBwdRefIdeal.main_arg3) = arr3 m c := e3
  have e4 : StableHlo.launchContents m' c (Proc.devRef .tc Cert.MixBwdRefIdeal.main_arg4) = arr4 m c := e4
  have e5 : StableHlo.launchContents m' c (Proc.devRef .tc Cert.MixBwdRefIdeal.main_arg5) = arr5 m c := e5
  obtain ⟨k0, k1, k2, k3, k4, k5⟩ := k c
  refine ⟨k0.trans ((Cert.MixBwdRefIdeal.Read.val_main_v83_eq _).trans ?_), k1.trans ((Cert.MixBwdRefIdeal.Read.val_main_v164_eq _).trans ?_),
    k2.trans ((Cert.MixBwdRefIdeal.Read.val_main_v97_eq _).trans ?_), k3.trans ((Cert.MixBwdRefIdeal.Read.val_main_v165_eq _).trans ?_),
    k4.trans ((Cert.MixBwdRefIdeal.Read.val_main_v81_eq _).trans ?_), k5⟩
  · rw [e0, e3]; exact (eqA m c).symm
  · rw [e0, e3, e4, e5]; exact (eqU m c h).symm
  · rw [e0, e1, e3, e5]; exact (eqW m c h).symm
  · rw [e0, e1, e3, e4]; exact (eqS m c h).symm
  · rw [e0, e1, e2, e4, e5]; exact (eqP m c).symm

end Cert.MixBwdIdeal.Hand
-- ==== Proof.InProj.RunMid.lean ====
module

public import proofs.«01_k».proof.Proof.Gen.InProjBwdIdeal.Frame.RunA

@[expose] public section

set_option maxRecDepth 16384

noncomputable section

/-! The input projection's backward body away from the first point: what it leaves at a point that is neither the first nor the last. -/

namespace Cert.InProjBwdIdeal.Hand

open Cert.InProjBwdIdeal Cert.InProjBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The machine's resources. -/
abbrev Res (F : FTy → Type) [FloatOps F] := MT nD τ sig Unit (Elt F) ℕ (UR sig nD τ) ℕ

/-- The thirteen inputs' buffers, each at its contents. -/
def held (c : Dev nD) (a0 : Memref sig .tc .vmem S512x512 .f32) (a1 : Memref sig .tc .vmem S512x128 .f32) (a2 : Memref sig .tc .vmem S512x128 .f32) (a3 : Memref sig .tc .vmem S512x512 .bf16) (a4 : Memref sig .tc .vmem S512x640 .f32) (a5 : Memref sig .tc .vmem S512x1024 .f32) (a6 : Memref sig .tc .vmem S512x1024 .f32) (a7 : Memref sig .tc .vmem S1x1024 .f32) (a8 : Memref sig .tc .vmem S1x512 .f32) (a9 : Memref sig .tc .vmem S1x128 .f32) (a10 : Memref sig .tc .vmem S1280x1024 .bf16) (a11 : Memref sig .tc .vmem S512x512 .bf16) (a12 : Memref sig .tc .vmem S128x128 .bf16)
    (x0 : Vec F S512x512 .f32) (x1 : Vec F S512x128 .f32) (x2 : Vec F S512x128 .f32) (x3 : Vec F S512x512 .bf16) (x4 : Vec F S512x640 .f32) (x5 : Vec F S512x1024 .f32) (x6 : Vec F S512x1024 .f32) (x7 : Vec F S1x1024 .f32) (x8 : Vec F S1x512 .f32) (x9 : Vec F S1x128 .f32) (x10 : Vec F S1280x1024 .bf16) (x11 : Vec F S512x512 .bf16) (x12 : Vec F S128x128 .bf16) : sProp (Res F) :=
  iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12)

set_option maxHeartbeats 16000000 in
/-- The stores a middle point leaves in each output's buffer and in each scratch buffer, and the run that leaves them: it adds to the sums the points
    before left, and does not touch the two gains' outputs. -/
def midRun (c : Dev nD) (i : grid0.Coords) (a0 : Memref sig .tc .vmem S512x512 .f32) (w0 : a0.IsWhole) (a1 : Memref sig .tc .vmem S512x128 .f32) (w1 : a1.IsWhole) (a2 : Memref sig .tc .vmem S512x128 .f32) (w2 : a2.IsWhole) (a3 : Memref sig .tc .vmem S512x512 .bf16) (w3 : a3.IsWhole) (a4 : Memref sig .tc .vmem S512x640 .f32) (w4 : a4.IsWhole) (a5 : Memref sig .tc .vmem S512x1024 .f32) (w5 : a5.IsWhole) (a6 : Memref sig .tc .vmem S512x1024 .f32) (w6 : a6.IsWhole) (a7 : Memref sig .tc .vmem S1x1024 .f32) (w7 : a7.IsWhole) (a8 : Memref sig .tc .vmem S1x512 .f32) (w8 : a8.IsWhole) (a9 : Memref sig .tc .vmem S1x128 .f32) (w9 : a9.IsWhole) (a10 : Memref sig .tc .vmem S1280x1024 .bf16) (w10 : a10.IsWhole) (a11 : Memref sig .tc .vmem S512x512 .bf16) (w11 : a11.IsWhole) (a12 : Memref sig .tc .vmem S128x128 .bf16) (w12 : a12.IsWhole)
    (a13 : Memref sig .tc .vmem S512x1024 .f32) (w13 : a13.IsWhole) (a14 : Memref sig .tc .vmem S1280x1024 .f32) (w14 : a14.IsWhole) (a15 : Memref sig .tc .vmem S1x1024 .f32) (w15 : a15.IsWhole) (a16 : Memref sig .tc .vmem S1x128 .f32) (w16 : a16.IsWhole) (a17 : Memref sig .tc .vmem S1x128 .f32) (w17 : a17.IsWhole)
    (z : Memref sig .tc .vmem S512x1280 .bf16) (vz : z.IsWhole) (p : Memref sig .tc .vmem S1x512 .f32) (vp : p.IsWhole) (r : Memref sig .tc .vmem S1x128 .f32) (vr : r.IsWhole)
    (h0 : ¬cond0_0 i) (h1 : ¬cond0_1 i) (x0 : Vec F S512x512 .f32) (x1 : Vec F S512x128 .f32) (x2 : Vec F S512x128 .f32) (x3 : Vec F S512x512 .bf16) (x4 : Vec F S512x640 .f32) (x5 : Vec F S512x1024 .f32) (x6 : Vec F S512x1024 .f32) (x7 : Vec F S1x1024 .f32) (x8 : Vec F S1x512 .f32) (x9 : Vec F S1x128 .f32) (x10 : Vec F S1280x1024 .bf16) (x11 : Vec F S512x512 .bf16) (x12 : Vec F S128x128 .bf16)
    (o14 : Vec F S1280x1024 .f32) (o15 : Vec F S1x1024 .f32) (s1 : Vec F S1x512 .f32) (s2 : Vec F S1x128 .f32) :
    Σ' (L13 : List (View.Piece (Elt F) S512x1024 .f32)), Σ' (L14 : List (View.Piece (Elt F) S1280x1024 .f32)), Σ' (L15 : List (View.Piece (Elt F) S1x1024 .f32)), Σ' (P : List (View.Piece (Elt F) S1x512 .f32)), Σ' (R : List (View.Piece (Elt F) S1x128 .f32)), { Z : List (View.Piece (Elt F) S512x1280 .bf16) // ∀ (E : Set ℕ) (K : PUnit → sProp (Res F)),
      iprop(held c a0 a1 a2 a3 a4 a5 a6 a7 a8 a9 a10 a11 a12 x0 x1 x2 x3 x4 x5 x6 x7 x8 x9 x10 x11 x12
        ∗ (∃ d, owns (c : Thread nD τ) a13 fullShare d)
        ∗ owns (c : Thread nD τ) a14 fullShare o14
        ∗ owns (c : Thread nD τ) a15 fullShare o15
        ∗ (∃ d, owns (c : Thread nD τ) z fullShare d)
        ∗ owns (c : Thread nD τ) p fullShare s1
        ∗ owns (c : Thread nD τ) r fullShare s2
        ∗ (iprop(held c a0 a1 a2 a3 a4 a5 a6 a7 a8 a9 a10 a11 a12 x0 x1 x2 x3 x4 x5 x6 x7 x8 x9 x10 x11 x12
          ∗ (∃ f, a13.view.loc (c : Thread nD τ) ↦[a13.view.set]{fullShare} a13.view.writes (Elt F) f L13)
          ∗ (∃ f, a14.view.loc (c : Thread nD τ) ↦[a14.view.set]{fullShare} a14.view.writes (Elt F) f L14)
          ∗ (∃ f, a15.view.loc (c : Thread nD τ) ↦[a15.view.set]{fullShare} a15.view.writes (Elt F) f L15)
          ∗ (∃ f, z.view.loc (c : Thread nD τ) ↦[z.view.set]{fullShare} z.view.writes (Elt F) f Z)
          ∗ (∃ f, p.view.loc (c : Thread nD τ) ↦[p.view.set]{fullShare} p.view.writes (Elt F) f P)
          ∗ (∃ f, r.view.loc (c : Thread nD τ) ↦[r.view.set]{fullShare} r.view.writes (Elt F) f R)) -∗ K ⟨⟩))
      ⊢ wp frame (wpE (defs₀ (F := F)) Variants.none c none) E (cc0_in_proj_bwd i a0 w0 a1 w1 a2 w2 a3 w3 a4 w4 a5 w5 a6 w6 a7 w7 a8 w8 a9 w9 a10 w10 a11 w11 a12 w12 a13 w13 a14 w14 a15 w15 a16 w16 a17 w17 z vz p vp r vr) K } := by
  refine ⟨?_, ?_, ?_, ?_, ?_, ?_, fun E K => ?run⟩
  case run =>
    simp only [cc0_in_proj_bwd_eq_skeleton]; unfold cc0_in_proj_bwd_skel
    simp only [k0_part1_eq_skeleton, k0_part2_eq_skeleton, k0_part3_eq_skeleton, k0_part4_eq_skeleton]
    unfold held owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩⟩, ⟨%d13, %f13, -, H13⟩, ⟨%f14, %e14, H14⟩, ⟨%f15, %e15, H15⟩, ⟨%dz, %fz, -, HZ⟩, ⟨%fp, %ep, HP⟩, ⟨%fr, %er, HR⟩, Hk⟩
    obtain rfl := w0.eq_unread e0; obtain rfl := w1.eq_unread e1; obtain rfl := w2.eq_unread e2; obtain rfl := w3.eq_unread e3; obtain rfl := w4.eq_unread e4; obtain rfl := w5.eq_unread e5; obtain rfl := w6.eq_unread e6; obtain rfl := w7.eq_unread e7; obtain rfl := w8.eq_unread e8; obtain rfl := w9.eq_unread e9; obtain rfl := w10.eq_unread e10; obtain rfl := w11.eq_unread e11; obtain rfl := w12.eq_unread e12; obtain rfl := w14.eq_unread e14; obtain rfl := w15.eq_unread e15; obtain rfl := vp.eq_unread ep; obtain rfl := vr.eq_unread er
    sl_exec (disch := first | sl_exact h0 | sl_exact h1)
    sl_step
    iapply Hk
    isplitl [H0 H1 H2 H3 H4 H5 H6 H7 H8 H9 H10 H11 H12]
    · isplitl [H0]
      · iexists _; isplitr; · ipureintro; exact w0.read_unread _
        iexact H0
      isplitl [H1]
      · iexists _; isplitr; · ipureintro; exact w1.read_unread _
        iexact H1
      isplitl [H2]
      · iexists _; isplitr; · ipureintro; exact w2.read_unread _
        iexact H2
      isplitl [H3]
      · iexists _; isplitr; · ipureintro; exact w3.read_unread _
        iexact H3
      isplitl [H4]
      · iexists _; isplitr; · ipureintro; exact w4.read_unread _
        iexact H4
      isplitl [H5]
      · iexists _; isplitr; · ipureintro; exact w5.read_unread _
        iexact H5
      isplitl [H6]
      · iexists _; isplitr; · ipureintro; exact w6.read_unread _
        iexact H6
      isplitl [H7]
      · iexists _; isplitr; · ipureintro; exact w7.read_unread _
        iexact H7
      isplitl [H8]
      · iexists _; isplitr; · ipureintro; exact w8.read_unread _
        iexact H8
      isplitl [H9]
      · iexists _; isplitr; · ipureintro; exact w9.read_unread _
        iexact H9
      isplitl [H10]
      · iexists _; isplitr; · ipureintro; exact w10.read_unread _
        iexact H10
      isplitl [H11]
      · iexists _; isplitr; · ipureintro; exact w11.read_unread _
        iexact H11
      iexists _; isplitr; · ipureintro; exact w12.read_unread _
      iexact H12
    isplitl [H13]; · iexists _; iexact H13
    isplitl [H14]; · iexists _; iexact H14
    isplitl [H15]; · iexists _; iexact H15
    isplitl [HZ]; · iexists _; iexact HZ
    isplitl [HP]; · iexists _; iexact HP
    iexists _; iexact HR

end Cert.InProjBwdIdeal.Hand
-- ==== Proof.InProj.RunLast.lean ====
module

public import proofs.«01_k».proof.Proof.InProj.RunMid

@[expose] public section

set_option maxRecDepth 16384

noncomputable section

/-! The input projection's backward body away from the first point: what it leaves at the last point. -/

namespace Cert.InProjBwdIdeal.Hand

open Cert.InProjBwdIdeal Cert.InProjBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 16000000 in
/-- The same at the last point, which also folds the two gains' sums into their outputs. -/
def lastRun (c : Dev nD) (i : grid0.Coords) (a0 : Memref sig .tc .vmem S512x512 .f32) (w0 : a0.IsWhole) (a1 : Memref sig .tc .vmem S512x128 .f32) (w1 : a1.IsWhole) (a2 : Memref sig .tc .vmem S512x128 .f32) (w2 : a2.IsWhole) (a3 : Memref sig .tc .vmem S512x512 .bf16) (w3 : a3.IsWhole) (a4 : Memref sig .tc .vmem S512x640 .f32) (w4 : a4.IsWhole) (a5 : Memref sig .tc .vmem S512x1024 .f32) (w5 : a5.IsWhole) (a6 : Memref sig .tc .vmem S512x1024 .f32) (w6 : a6.IsWhole) (a7 : Memref sig .tc .vmem S1x1024 .f32) (w7 : a7.IsWhole) (a8 : Memref sig .tc .vmem S1x512 .f32) (w8 : a8.IsWhole) (a9 : Memref sig .tc .vmem S1x128 .f32) (w9 : a9.IsWhole) (a10 : Memref sig .tc .vmem S1280x1024 .bf16) (w10 : a10.IsWhole) (a11 : Memref sig .tc .vmem S512x512 .bf16) (w11 : a11.IsWhole) (a12 : Memref sig .tc .vmem S128x128 .bf16) (w12 : a12.IsWhole)
    (a13 : Memref sig .tc .vmem S512x1024 .f32) (w13 : a13.IsWhole) (a14 : Memref sig .tc .vmem S1280x1024 .f32) (w14 : a14.IsWhole) (a15 : Memref sig .tc .vmem S1x1024 .f32) (w15 : a15.IsWhole) (a16 : Memref sig .tc .vmem S1x128 .f32) (w16 : a16.IsWhole) (a17 : Memref sig .tc .vmem S1x128 .f32) (w17 : a17.IsWhole)
    (z : Memref sig .tc .vmem S512x1280 .bf16) (vz : z.IsWhole) (p : Memref sig .tc .vmem S1x512 .f32) (vp : p.IsWhole) (r : Memref sig .tc .vmem S1x128 .f32) (vr : r.IsWhole)
    (h0 : ¬cond0_0 i) (h1 : cond0_1 i) (x0 : Vec F S512x512 .f32) (x1 : Vec F S512x128 .f32) (x2 : Vec F S512x128 .f32) (x3 : Vec F S512x512 .bf16) (x4 : Vec F S512x640 .f32) (x5 : Vec F S512x1024 .f32) (x6 : Vec F S512x1024 .f32) (x7 : Vec F S1x1024 .f32) (x8 : Vec F S1x512 .f32) (x9 : Vec F S1x128 .f32) (x10 : Vec F S1280x1024 .bf16) (x11 : Vec F S512x512 .bf16) (x12 : Vec F S128x128 .bf16)
    (o14 : Vec F S1280x1024 .f32) (o15 : Vec F S1x1024 .f32) (s1 : Vec F S1x512 .f32) (s2 : Vec F S1x128 .f32) :
    Σ' (L13 : List (View.Piece (Elt F) S512x1024 .f32)), Σ' (L14 : List (View.Piece (Elt F) S1280x1024 .f32)), Σ' (L15 : List (View.Piece (Elt F) S1x1024 .f32)), Σ' (L16 : List (View.Piece (Elt F) S1x128 .f32)), Σ' (L17 : List (View.Piece (Elt F) S1x128 .f32)), Σ' (P : List (View.Piece (Elt F) S1x512 .f32)), Σ' (R : List (View.Piece (Elt F) S1x128 .f32)), { Z : List (View.Piece (Elt F) S512x1280 .bf16) // ∀ (E : Set ℕ) (K : PUnit → sProp (Res F)),
      iprop(held c a0 a1 a2 a3 a4 a5 a6 a7 a8 a9 a10 a11 a12 x0 x1 x2 x3 x4 x5 x6 x7 x8 x9 x10 x11 x12
        ∗ (∃ d, owns (c : Thread nD τ) a13 fullShare d)
        ∗ owns (c : Thread nD τ) a14 fullShare o14
        ∗ owns (c : Thread nD τ) a15 fullShare o15
        ∗ (∃ d, owns (c : Thread nD τ) a16 fullShare d)
        ∗ (∃ d, owns (c : Thread nD τ) a17 fullShare d)
        ∗ (∃ d, owns (c : Thread nD τ) z fullShare d)
        ∗ owns (c : Thread nD τ) p fullShare s1
        ∗ owns (c : Thread nD τ) r fullShare s2
        ∗ (iprop(held c a0 a1 a2 a3 a4 a5 a6 a7 a8 a9 a10 a11 a12 x0 x1 x2 x3 x4 x5 x6 x7 x8 x9 x10 x11 x12
          ∗ (∃ f, a13.view.loc (c : Thread nD τ) ↦[a13.view.set]{fullShare} a13.view.writes (Elt F) f L13)
          ∗ (∃ f, a14.view.loc (c : Thread nD τ) ↦[a14.view.set]{fullShare} a14.view.writes (Elt F) f L14)
          ∗ (∃ f, a15.view.loc (c : Thread nD τ) ↦[a15.view.set]{fullShare} a15.view.writes (Elt F) f L15)
          ∗ (∃ f, a16.view.loc (c : Thread nD τ) ↦[a16.view.set]{fullShare} a16.view.writes (Elt F) f L16)
          ∗ (∃ f, a17.view.loc (c : Thread nD τ) ↦[a17.view.set]{fullShare} a17.view.writes (Elt F) f L17)
          ∗ (∃ f, z.view.loc (c : Thread nD τ) ↦[z.view.set]{fullShare} z.view.writes (Elt F) f Z)
          ∗ (∃ f, p.view.loc (c : Thread nD τ) ↦[p.view.set]{fullShare} p.view.writes (Elt F) f P)
          ∗ (∃ f, r.view.loc (c : Thread nD τ) ↦[r.view.set]{fullShare} r.view.writes (Elt F) f R)) -∗ K ⟨⟩))
      ⊢ wp frame (wpE (defs₀ (F := F)) Variants.none c none) E (cc0_in_proj_bwd i a0 w0 a1 w1 a2 w2 a3 w3 a4 w4 a5 w5 a6 w6 a7 w7 a8 w8 a9 w9 a10 w10 a11 w11 a12 w12 a13 w13 a14 w14 a15 w15 a16 w16 a17 w17 z vz p vp r vr) K } := by
  refine ⟨?_, ?_, ?_, ?_, ?_, ?_, ?_, ?_, fun E K => ?run⟩
  case run =>
    simp only [cc0_in_proj_bwd_eq_skeleton]; unfold cc0_in_proj_bwd_skel
    simp only [k0_part1_eq_skeleton, k0_part2_eq_skeleton, k0_part3_eq_skeleton, k0_part4_eq_skeleton]
    unfold held owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩⟩, ⟨%d13, %f13, -, H13⟩, ⟨%f14, %e14, H14⟩, ⟨%f15, %e15, H15⟩, ⟨%d16, %f16, -, H16⟩, ⟨%d17, %f17, -, H17⟩, ⟨%dz, %fz, -, HZ⟩, ⟨%fp, %ep, HP⟩, ⟨%fr, %er, HR⟩, Hk⟩
    obtain rfl := w0.eq_unread e0; obtain rfl := w1.eq_unread e1; obtain rfl := w2.eq_unread e2; obtain rfl := w3.eq_unread e3; obtain rfl := w4.eq_unread e4; obtain rfl := w5.eq_unread e5; obtain rfl := w6.eq_unread e6; obtain rfl := w7.eq_unread e7; obtain rfl := w8.eq_unread e8; obtain rfl := w9.eq_unread e9; obtain rfl := w10.eq_unread e10; obtain rfl := w11.eq_unread e11; obtain rfl := w12.eq_unread e12; obtain rfl := w14.eq_unread e14; obtain rfl := w15.eq_unread e15; obtain rfl := vp.eq_unread ep; obtain rfl := vr.eq_unread er
    sl_exec (disch := first | sl_exact h0 | sl_exact h1)
    sl_step
    iapply Hk
    isplitl [H0 H1 H2 H3 H4 H5 H6 H7 H8 H9 H10 H11 H12]
    · isplitl [H0]
      · iexists _; isplitr; · ipureintro; exact w0.read_unread _
        iexact H0
      isplitl [H1]
      · iexists _; isplitr; · ipureintro; exact w1.read_unread _
        iexact H1
      isplitl [H2]
      · iexists _; isplitr; · ipureintro; exact w2.read_unread _
        iexact H2
      isplitl [H3]
      · iexists _; isplitr; · ipureintro; exact w3.read_unread _
        iexact H3
      isplitl [H4]
      · iexists _; isplitr; · ipureintro; exact w4.read_unread _
        iexact H4
      isplitl [H5]
      · iexists _; isplitr; · ipureintro; exact w5.read_unread _
        iexact H5
      isplitl [H6]
      · iexists _; isplitr; · ipureintro; exact w6.read_unread _
        iexact H6
      isplitl [H7]
      · iexists _; isplitr; · ipureintro; exact w7.read_unread _
        iexact H7
      isplitl [H8]
      · iexists _; isplitr; · ipureintro; exact w8.read_unread _
        iexact H8
      isplitl [H9]
      · iexists _; isplitr; · ipureintro; exact w9.read_unread _
        iexact H9
      isplitl [H10]
      · iexists _; isplitr; · ipureintro; exact w10.read_unread _
        iexact H10
      isplitl [H11]
      · iexists _; isplitr; · ipureintro; exact w11.read_unread _
        iexact H11
      iexists _; isplitr; · ipureintro; exact w12.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [HZ]; · iexists _; iexact HZ
    isplitl [HP]; · iexists _; iexact HP
    iexists _; iexact HR

end Cert.InProjBwdIdeal.Hand
-- ==== Proof.InProj.Steps.lean ====
module

public import proofs.«01_k».proof.Proof.InProj.RunLast

@[expose] public section

set_option maxRecDepth 16384

noncomputable section

/-! What the input projection's backward launch leaves, point after point, over any float values. -/

namespace Cert.InProjBwdIdeal.Hand

open Cert.InProjBwdIdeal Cert.InProjBwdIdeal.Gen Idealize.ShloMosaic Idealize.ShloMosaic.TcCoe Idealize.SL.Sem

variable {F : FTy → Type} [FloatOps F]

section Runs

variable (c : Dev nD) (t : Fin cfg0.N) (b0 : Vec F S512x512 .f32) (b1 : Vec F S512x128 .f32) (b2 : Vec F S512x128 .f32) (b3 : Vec F S512x512 .bf16) (b4 : Vec F S512x640 .f32) (b5 : Vec F S512x1024 .f32) (b6 : Vec F S512x1024 .f32) (b7 : Vec F S1x1024 .f32) (b8 : Vec F S1x512 .f32) (b9 : Vec F S1x128 .f32) (b10 : Vec F S1280x1024 .bf16) (b11 : Vec F S512x512 .bf16) (b12 : Vec F S128x128 .bf16)
  (o14 : Vec F S1280x1024 .f32) (o15 : Vec F S1x1024 .f32) (s1 : Vec F S1x512 .f32) (s2 : Vec F S1x128 .f32)

/-- The three runs at a point's own buffers: the first point's, a middle one's, the last one's. -/
abbrev atFirst (h0 : cond0_0 (grid0.coords t)) (h1 : ¬cond0_1 (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) h0 h1 b0 b1 b2 b3 b4 b5 b6 b7 b8 b9 b10 b11 b12
abbrev atMid (h0 : ¬cond0_0 (grid0.coords t)) (h1 : ¬cond0_1 (grid0.coords t)) :=
  midRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) h0 h1 b0 b1 b2 b3 b4 b5 b6 b7 b8 b9 b10 b11 b12 o14 o15 s1 s2
abbrev atLast (h0 : ¬cond0_0 (grid0.coords t)) (h1 : cond0_1 (grid0.coords t)) :=
  lastRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) h0 h1 b0 b1 b2 b3 b4 b5 b6 b7 b8 b9 b10 b11 b12 o14 o15 s1 s2

end Runs

/-- What one point leaves: the input's tile, the sums of the two weights' gradients, the two gains' outputs, and the two gains' sums by lane. -/
structure Point (F : FTy → Type) where
  inp : Vec F S512x1024 .f32
  proj : Vec F S1280x1024 .f32
  gain : Vec F S1x1024 .f32
  outQ : Vec F S1x128 .f32
  outK : Vec F S1x128 .f32
  sumQ : Vec F S1x512 .f32
  sumK : Vec F S1x128 .f32

section Lists

variable (L13 : List (View.Piece (Elt F) S512x1024 .f32)) (L14 : List (View.Piece (Elt F) S1280x1024 .f32)) (L15 : List (View.Piece (Elt F) S1x1024 .f32))
  (L16 L17 : List (View.Piece (Elt F) S1x128 .f32)) (P : List (View.Piece (Elt F) S1x512 .f32)) (R : List (View.Piece (Elt F) S1x128 .f32))

/-- What lists of stores leave. -/
def pointOf : Point F := ⟨View.canon L13, View.canon L14, View.canon L15, View.canon L16, View.canon L17, View.canon P, View.canon R⟩

theorem pointOf_is : View.canon L13 = (pointOf L13 L14 L15 [] [] P R).inp ∧ View.canon L14 = (pointOf L13 L14 L15 [] [] P R).proj
    ∧ View.canon L15 = (pointOf L13 L14 L15 [] [] P R).gain ∧ View.canon P = (pointOf L13 L14 L15 [] [] P R).sumQ
    ∧ View.canon R = (pointOf L13 L14 L15 [] [] P R).sumK := ⟨rfl, rfl, rfl, rfl, rfl⟩
theorem pointOf_all : View.canon L13 = (pointOf L13 L14 L15 L16 L17 P R).inp ∧ View.canon L14 = (pointOf L13 L14 L15 L16 L17 P R).proj
    ∧ View.canon L15 = (pointOf L13 L14 L15 L16 L17 P R).gain ∧ View.canon L16 = (pointOf L13 L14 L15 L16 L17 P R).outQ
    ∧ View.canon L17 = (pointOf L13 L14 L15 L16 L17 P R).outK ∧ View.canon P = (pointOf L13 L14 L15 L16 L17 P R).sumQ
    ∧ View.canon R = (pointOf L13 L14 L15 L16 L17 P R).sumK := ⟨rfl, rfl, rfl, rfl, rfl, rfl, rfl⟩

end Lists

variable (m : (ℓ : Loc nD τ sig) → Buf (Elt F) ℓ) (c : Dev nD)

section Point

variable (t : Fin cfg0.N)

/-- The runs at a point, from its blocks and from what the point before left. -/
abbrev first (h0 : cond0_0 (grid0.coords t)) (h1 : ¬cond0_1 (grid0.coords t)) := atFirst c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) h0 h1
abbrev middle (o : Point F) (h0 : ¬cond0_0 (grid0.coords t)) (h1 : ¬cond0_1 (grid0.coords t)) := atMid c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) o.proj o.gain o.sumQ o.sumK h0 h1
abbrev last (o : Point F) (h0 : ¬cond0_0 (grid0.coords t)) (h1 : cond0_1 (grid0.coords t)) := atLast c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) o.proj o.gain o.sumQ o.sumK h0 h1

/-- The point leaves `s`: only the last one writes the two gains' outputs. -/
def FirstIs (h0 : cond0_0 (grid0.coords t)) (h1 : ¬cond0_1 (grid0.coords t)) (s : Point F) : Prop :=
  View.canon (first m c t h0 h1).1 = s.inp ∧ View.canon (first m c t h0 h1).2.1 = s.proj ∧ View.canon (first m c t h0 h1).2.2.1 = s.gain
    ∧ View.canon (first m c t h0 h1).2.2.2.2.2.1 = s.sumQ ∧ View.canon (first m c t h0 h1).2.2.2.2.2.2.1 = s.sumK
def MiddleIs (o : Point F) (h0 : ¬cond0_0 (grid0.coords t)) (h1 : ¬cond0_1 (grid0.coords t)) (s : Point F) : Prop :=
  View.canon (middle m c t o h0 h1).1 = s.inp ∧ View.canon (middle m c t o h0 h1).2.1 = s.proj ∧ View.canon (middle m c t o h0 h1).2.2.1 = s.gain
    ∧ View.canon (middle m c t o h0 h1).2.2.2.1 = s.sumQ ∧ View.canon (middle m c t o h0 h1).2.2.2.2.1 = s.sumK
def LastIs (o : Point F) (h0 : ¬cond0_0 (grid0.coords t)) (h1 : cond0_1 (grid0.coords t)) (s : Point F) : Prop :=
  View.canon (last m c t o h0 h1).1 = s.inp ∧ View.canon (last m c t o h0 h1).2.1 = s.proj ∧ View.canon (last m c t o h0 h1).2.2.1 = s.gain
    ∧ View.canon (last m c t o h0 h1).2.2.2.1 = s.outQ ∧ View.canon (last m c t o h0 h1).2.2.2.2.1 = s.outK
    ∧ View.canon (last m c t o h0 h1).2.2.2.2.2.1 = s.sumQ ∧ View.canon (last m c t o h0 h1).2.2.2.2.2.2.1 = s.sumK

end Point

/-- Arrays that are what the points leave, one after another. -/
structure Left where
  after : ℕ → Point F
  first_is : ∀ t : Fin cfg0.N, t.val = 0 → ∀ h0 h1, FirstIs m c t h0 h1 (after t.val)
  middle_is : ∀ t : Fin cfg0.N, ¬t.val = 0 → ∀ h0 h1, MiddleIs m c t (after (t.val - 1)) h0 h1 (after t.val)
  last_is : ∀ t : Fin cfg0.N, ¬t.val = 0 → ∀ h0 h1, LastIs m c t (after (t.val - 1)) h0 h1 (after t.val)

/-- Nothing yet. -/
def none' : Point F := ⟨View.canon [], View.canon [], View.canon [], View.canon [], View.canon [], View.canon [], View.canon []⟩

section Parts

variable (t : Fin cfg0.N) (o : Point F)

/-- What each run leaves at a point. -/
def firstPoint (h0 : cond0_0 (grid0.coords t)) (h1 : ¬cond0_1 (grid0.coords t)) : Point F :=
  pointOf (first m c t h0 h1).1 (first m c t h0 h1).2.1 (first m c t h0 h1).2.2.1 [] [] (first m c t h0 h1).2.2.2.2.2.1 (first m c t h0 h1).2.2.2.2.2.2.1
def middlePoint (h0 : ¬cond0_0 (grid0.coords t)) (h1 : ¬cond0_1 (grid0.coords t)) : Point F :=
  pointOf (middle m c t o h0 h1).1 (middle m c t o h0 h1).2.1 (middle m c t o h0 h1).2.2.1 [] [] (middle m c t o h0 h1).2.2.2.1 (middle m c t o h0 h1).2.2.2.2.1
def lastPoint (h0 : ¬cond0_0 (grid0.coords t)) (h1 : cond0_1 (grid0.coords t)) : Point F :=
  pointOf (last m c t o h0 h1).1 (last m c t o h0 h1).2.1 (last m c t o h0 h1).2.2.1 (last m c t o h0 h1).2.2.2.1 (last m c t o h0 h1).2.2.2.2.1 (last m c t o h0 h1).2.2.2.2.2.1 (last m c t o h0 h1).2.2.2.2.2.2.1

theorem firstPoint_is (h0 h1) : FirstIs m c t h0 h1 (firstPoint m c t h0 h1) := pointOf_is _ _ _ _ _
theorem middlePoint_is (h0 h1) : MiddleIs m c t o h0 h1 (middlePoint m c t o h0 h1) := pointOf_is _ _ _ _ _
theorem lastPoint_is (h0 h1) : LastIs m c t o h0 h1 (lastPoint m c t o h0 h1) := pointOf_all _ _ _ _ _ _ _

open Classical in
/-- What a point leaves, given what the point before it left. -/
def step : Point F :=
  if h0 : cond0_0 (grid0.coords t) then if h1 : cond0_1 (grid0.coords t) then o else firstPoint m c t h0 h1
  else if h1 : cond0_1 (grid0.coords t) then lastPoint m c t o h0 h1 else middlePoint m c t o h0 h1

theorem step_first (h0 h1) : FirstIs m c t h0 h1 (step m c t o) := by
  have e : step m c t o = firstPoint m c t h0 h1 := (dif_pos h0).trans (dif_neg h1)
  rw [e]; exact firstPoint_is m c t h0 h1
theorem step_middle (h0 h1) : MiddleIs m c t o h0 h1 (step m c t o) := by
  have e : step m c t o = middlePoint m c t o h0 h1 := (dif_neg h0).trans (dif_neg h1)
  rw [e]; exact middlePoint_is m c t o h0 h1
theorem step_last (h0 h1) : LastIs m c t o h0 h1 (step m c t o) := by
  have e : step m c t o = lastPoint m c t o h0 h1 := (dif_neg h0).trans (dif_pos h1)
  rw [e]; exact lastPoint_is m c t o h0 h1

end Parts

/-- What the points leave. -/
def steps : ℕ → Point F
  | 0 => if h : 0 < cfg0.N then step m c ⟨0, h⟩ none' else none'
  | n + 1 => if h : n + 1 < cfg0.N then step m c ⟨n + 1, h⟩ (steps n) else steps n

theorem steps_zero (t : Fin cfg0.N) (h : t.val = 0) : steps m c t.val = step m c t none' := by
  obtain ⟨n, hn⟩ := t
  obtain rfl : n = 0 := h
  exact dif_pos hn

theorem steps_next (t : Fin cfg0.N) (h : ¬t.val = 0) : steps m c t.val = step m c t (steps m c (t.val - 1)) := by
  obtain ⟨n, hn⟩ := t
  cases n with
  | zero => exact absurd rfl h
  | succ n => exact dif_pos hn

/-- So such arrays always exist. -/
def left : Left m c where
  after := steps m c
  first_is t h h0 h1 := by rw [steps_zero m c t h]; exact step_first m c t _ h0 h1
  middle_is t h h0 h1 := by rw [steps_next m c t h]; exact step_middle m c t _ h0 h1
  last_is t h h0 h1 := by rw [steps_next m c t h]; exact step_last m c t _ h0 h1

end Cert.InProjBwdIdeal.Hand
-- ==== Proof.InProj.Frame.lean ====
module

public import proofs.«01_k».proof.Proof.InProj.Steps
public import proofs.«01_k».proof.Proof.Kit.Owns
public import Idealize.ShloMosaic.Lib.Claim

@[expose] public section

set_option maxRecDepth 16384

noncomputable section

/-! The input projection's backward launch: what every window holds after every point, the body's triple at each, and the run. -/

namespace Cert.InProjBwdIdeal.Hand

open Cert.InProjBwdIdeal Cert.InProjBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg) (L : ∀ c, Left m c)

/-- The two gains' sums before point `k`: nothing known before the first, then what the point before left. -/
def sums (c : Dev nD) (k : ℕ) : sProp (Res F) :=
  if k = 0 then iprop((∃ d, owns (c : Thread nD τ) scM0_1 fullShare d) ∗ (∃ d, owns (c : Thread nD τ) scM0_2 fullShare d))
  else iprop(owns (c : Thread nD τ) scM0_1 fullShare ((L c).after (k - 1)).sumQ ∗ owns (c : Thread nD τ) scM0_2 fullShare ((L c).after (k - 1)).sumK)

/-- The region's invariant before point `k`: the cotangent's scratch, the two sums, the generator register. -/
def inv (c : Dev nD) (k : ℕ) : sProp (Res F) :=
  iprop((∃ d, owns (c : Thread nD τ) scM0_0 fullShare d) ∗ sums m L c k ∗ (∃ r, prngReg c r))

/-- What the launch is run with. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => ((L c).after t.val).inp
    | ⟨14, _⟩ => ((L c).after t.val).proj
    | ⟨15, _⟩ => ((L c).after t.val).gain
    | ⟨16, _⟩ => ((L c).after t.val).outQ
    | ⟨17, _⟩ => ((L c).after t.val).outK
    | ⟨_ + 18, h⟩ => absurd h (Nat.not_lt.2 (Nat.le_add_left _ _))
  Φ t := inv m L c t.val
  q _ := fullShare
  owed _ := 0

theorem A_eq (c : Dev nD) (w : Fin cfg0.W) : (dats m L 0 c).A w = V m c (Pipeline.arrRef spec0 w) := by dsimp only [dats]
theorem inv_before (c : Dev nD) (t : Fin cfg0.N) : (dats m L 0 c).Φ t.castSucc = inv m L c t.val := by
  dsimp only [dats]; simp only [Fin.val_castSucc]
theorem inv_after (c : Dev nD) (t : Fin cfg0.N) : (dats m L 0 c).Φ t.succ = inv m L c (t.val + 1) := by
  dsimp only [dats]; simp only [Fin.val_succ]

section Windows

variable (c : Dev nD) (t : Fin cfg0.N)

theorem afterIn : (dats m L 0 c).after 0 t = iblk m c 0 t
    ∧ (dats m L 0 c).after 1 t = iblk m c 1 t
    ∧ (dats m L 0 c).after 2 t = iblk m c 2 t
    ∧ (dats m L 0 c).after 3 t = iblk m c 3 t
    ∧ (dats m L 0 c).after 4 t = iblk m c 4 t
    ∧ (dats m L 0 c).after 5 t = iblk m c 5 t
    ∧ (dats m L 0 c).after 6 t = iblk m c 6 t
    ∧ (dats m L 0 c).after 7 t = iblk m c 7 t
    ∧ (dats m L 0 c).after 8 t = iblk m c 8 t
    ∧ (dats m L 0 c).after 9 t = iblk m c 9 t
    ∧ (dats m L 0 c).after 10 t = iblk m c 10 t
    ∧ (dats m L 0 c).after 11 t = iblk m c 11 t
    ∧ (dats m L 0 c).after 12 t = iblk m c 12 t := by
  dsimp only [dats]; exact ⟨rfl, rfl, rfl, rfl, rfl, rfl, rfl, rfl, rfl, rfl, rfl, rfl, rfl⟩
theorem afterOut : (dats m L 0 c).after 13 t = ((L c).after t.val).inp ∧ (dats m L 0 c).after 14 t = ((L c).after t.val).proj ∧ (dats m L 0 c).after 15 t = ((L c).after t.val).gain := by
  dsimp only [dats]; exact ⟨rfl, rfl, rfl⟩
theorem afterGains : (dats m L 0 c).after 16 t = ((L c).after t.val).outQ ∧ (dats m L 0 c).after 17 t = ((L c).after t.val).outK := by
  dsimp only [dats]; exact ⟨rfl, rfl⟩

/-- Before a point every input's buffer holds its block. -/
theorem beforeIn : (∀ d, (dats m L 0 c).before 0 t d = iblk m c 0 t)
    ∧ (∀ d, (dats m L 0 c).before 1 t d = iblk m c 1 t)
    ∧ (∀ d, (dats m L 0 c).before 2 t d = iblk m c 2 t)
    ∧ (∀ d, (dats m L 0 c).before 3 t d = iblk m c 3 t)
    ∧ (∀ d, (dats m L 0 c).before 4 t d = iblk m c 4 t)
    ∧ (∀ d, (dats m L 0 c).before 5 t d = iblk m c 5 t)
    ∧ (∀ d, (dats m L 0 c).before 6 t d = iblk m c 6 t)
    ∧ (∀ d, (dats m L 0 c).before 7 t d = iblk m c 7 t)
    ∧ (∀ d, (dats m L 0 c).before 8 t d = iblk m c 8 t)
    ∧ (∀ d, (dats m L 0 c).before 9 t d = iblk m c 9 t)
    ∧ (∀ d, (dats m L 0 c).before 10 t d = iblk m c 10 t)
    ∧ (∀ d, (dats m L 0 c).before 11 t d = iblk m c 11 t)
    ∧ (∀ d, (dats m L 0 c).before 12 t d = iblk m c 12 t) :=
  ⟨before0_0_of m (dats m L 0 c) (A_eq m L c 0) (fun t => (afterIn m L c t).1) t,
    before0_1_of m (dats m L 0 c) (A_eq m L c 1) (fun t => (afterIn m L c t).2.1) t,
    before0_2_of m (dats m L 0 c) (A_eq m L c 2) (fun t => (afterIn m L c t).2.2.1) t,
    before0_3_of m (dats m L 0 c) (A_eq m L c 3) (fun t => (afterIn m L c t).2.2.2.1) t,
    before0_4_of m (dats m L 0 c) (A_eq m L c 4) (fun t => (afterIn m L c t).2.2.2.2.1) t,
    before0_5_of m (dats m L 0 c) (A_eq m L c 5) (fun t => (afterIn m L c t).2.2.2.2.2.1) t,
    before0_6_of m (dats m L 0 c) (A_eq m L c 6) (fun t => (afterIn m L c t).2.2.2.2.2.2.1) t,
    before0_7_of m (dats m L 0 c) (A_eq m L c 7) (fun t => (afterIn m L c t).2.2.2.2.2.2.2.1) t,
    before0_8_of m (dats m L 0 c) (A_eq m L c 8) (fun t => (afterIn m L c t).2.2.2.2.2.2.2.2.1) t,
    before0_9_of m (dats m L 0 c) (A_eq m L c 9) (fun t => (afterIn m L c t).2.2.2.2.2.2.2.2.2.1) t,
    before0_10_of m (dats m L 0 c) (A_eq m L c 10) (fun t => (afterIn m L c t).2.2.2.2.2.2.2.2.2.2.1) t,
    before0_11_of m (dats m L 0 c) (A_eq m L c 11) (fun t => (afterIn m L c t).2.2.2.2.2.2.2.2.2.2.2.1) t,
    before0_12_of m (dats m L 0 c) (A_eq m L c 12) (fun t => (afterIn m L c t).2.2.2.2.2.2.2.2.2.2.2.2) t⟩

/-- After the first point the sums' buffers hold what the point before left. -/
theorem beforeSums (h : ¬t.val = 0) : (∀ d, (dats m L 0 c).before 14 t d = ((L c).after (t.val - 1)).proj)
    ∧ ∀ d, (dats m L 0 c).before 15 t d = ((L c).after (t.val - 1)).gain := by
  have hN : t.val < 8 := lt_of_lt_of_eq t.isLt (show cfg0.N = 8 from N_0)
  constructor
  · intro d; rw [Dat.before_out_kept _ 14 rfl t (by omega) (Bool.eq_false_iff.mpr fun h => by have := (flush0_14 _).mp h; dsimp only at this; omega)
      (fun _ => rfl) (fun _ _ => rfl)]
    dsimp only [dats]
  · intro d; rw [Dat.before_out_kept _ 15 rfl t (by omega) (Bool.eq_false_iff.mpr fun h => by have := (flush0_15 _).mp h; dsimp only at this; omega)
      (fun _ => rfl) (fun _ _ => rfl)]
    dsimp only [dats]

/-- A live window is left at what the point leaves. -/
theorem leaves_live (w : Fin cfg0.W) (h : cfg0.idle w (grid0.coords t) = false) : (dats m L 0 c).leavesExact w t
    = owns (c : Thread nD τ) ((cfg0.win w).stage (cfg0.slots t w)) fullShare ((dats m L 0 c).after w t) := by
  unfold Dat.leavesExact; rw [h]

end Windows

/-- What the body is called with at a point, window by window, and what it returns. -/
def bodyPre (c : Dev nD) (t : Fin cfg0.N) : sProp (Res F) :=
  iprop((dats m L 0 c).Φ t.castSucc ∗ (dats m L 0 c).owesAt () t.castSucc
    ∗ (∃ d, owns (c : Thread nD τ) (ms0_0 t) fullShare ((dats m L 0 c).before 0 t d))
    ∗ (∃ d, owns (c : Thread nD τ) (ms0_1 t) fullShare ((dats m L 0 c).before 1 t d))
    ∗ (∃ d, owns (c : Thread nD τ) (ms0_2 t) fullShare ((dats m L 0 c).before 2 t d))
    ∗ (∃ d, owns (c : Thread nD τ) (ms0_3 t) fullShare ((dats m L 0 c).before 3 t d))
    ∗ (∃ d, owns (c : Thread nD τ) (ms0_4 t) fullShare ((dats m L 0 c).before 4 t d))
    ∗ (∃ d, owns (c : Thread nD τ) (ms0_5 t) fullShare ((dats m L 0 c).before 5 t d))
    ∗ (∃ d, owns (c : Thread nD τ) (ms0_6 t) fullShare ((dats m L 0 c).before 6 t d))
    ∗ (∃ d, owns (c : Thread nD τ) (ms0_7 t) fullShare ((dats m L 0 c).before 7 t d))
    ∗ (∃ d, owns (c : Thread nD τ) (ms0_8 t) fullShare ((dats m L 0 c).before 8 t d))
    ∗ (∃ d, owns (c : Thread nD τ) (ms0_9 t) fullShare ((dats m L 0 c).before 9 t d))
    ∗ (∃ d, owns (c : Thread nD τ) (ms0_10 t) fullShare ((dats m L 0 c).before 10 t d))
    ∗ (∃ d, owns (c : Thread nD τ) (ms0_11 t) fullShare ((dats m L 0 c).before 11 t d))
    ∗ (∃ d, owns (c : Thread nD τ) (ms0_12 t) fullShare ((dats m L 0 c).before 12 t d))
    ∗ (∃ d, owns (c : Thread nD τ) (ms0_13 t) fullShare ((dats m L 0 c).before 13 t d))
    ∗ (∃ d, owns (c : Thread nD τ) (ms0_14 t) fullShare ((dats m L 0 c).before 14 t d))
    ∗ (∃ d, owns (c : Thread nD τ) (ms0_15 t) fullShare ((dats m L 0 c).before 15 t d))
    ∗ (∃ d, owns (c : Thread nD τ) (ms0_16 t) fullShare ((dats m L 0 c).before 16 t d))
    ∗ (∃ d, owns (c : Thread nD τ) (ms0_17 t) fullShare ((dats m L 0 c).before 17 t d)))
def bodyPost (c : Dev nD) (t : Fin cfg0.N) : sProp (Res F) :=
  iprop((dats m L 0 c).Φ t.succ ∗ (dats m L 0 c).owesAt () t.succ
    ∗ owns (c : Thread nD τ) (ms0_0 t) fullShare ((dats m L 0 c).after 0 t)
    ∗ owns (c : Thread nD τ) (ms0_1 t) fullShare ((dats m L 0 c).after 1 t)
    ∗ owns (c : Thread nD τ) (ms0_2 t) fullShare ((dats m L 0 c).after 2 t)
    ∗ owns (c : Thread nD τ) (ms0_3 t) fullShare ((dats m L 0 c).after 3 t)
    ∗ owns (c : Thread nD τ) (ms0_4 t) fullShare ((dats m L 0 c).after 4 t)
    ∗ owns (c : Thread nD τ) (ms0_5 t) fullShare ((dats m L 0 c).after 5 t)
    ∗ owns (c : Thread nD τ) (ms0_6 t) fullShare ((dats m L 0 c).after 6 t)
    ∗ owns (c : Thread nD τ) (ms0_7 t) fullShare ((dats m L 0 c).after 7 t)
    ∗ owns (c : Thread nD τ) (ms0_8 t) fullShare ((dats m L 0 c).after 8 t)
    ∗ owns (c : Thread nD τ) (ms0_9 t) fullShare ((dats m L 0 c).after 9 t)
    ∗ owns (c : Thread nD τ) (ms0_10 t) fullShare ((dats m L 0 c).after 10 t)
    ∗ owns (c : Thread nD τ) (ms0_11 t) fullShare ((dats m L 0 c).after 11 t)
    ∗ owns (c : Thread nD τ) (ms0_12 t) fullShare ((dats m L 0 c).after 12 t)
    ∗ owns (c : Thread nD τ) (ms0_13 t) fullShare ((dats m L 0 c).after 13 t)
    ∗ owns (c : Thread nD τ) (ms0_14 t) fullShare ((dats m L 0 c).after 14 t)
    ∗ owns (c : Thread nD τ) (ms0_15 t) fullShare ((dats m L 0 c).after 15 t)
    ∗ (dats m L 0 c).leavesExact 16 t ∗ (dats m L 0 c).leavesExact 17 t)

set_option maxHeartbeats 4000000 in
/-- The body at the first point. -/
theorem sound_first (c : Dev nD) (t : Fin cfg0.N) (hz : t.val = 0) (h0 : cond0_0 (grid0.coords t)) (h1 : ¬cond0_1 (grid0.coords t)) :
    bodyPre m L c t ⊢ wp frame (wpE (defs₀ (F := F)) Variants.none c none) Set.univ (bodyAt0 t) (fun _ => bodyPost m L c t) := by
  have hT := (L c).first_is t hz h0 h1
  unfold FirstIs at hT
  obtain ⟨T13, T14, T15, TP, TR⟩ := hT
  unfold bodyPre bodyPost bodyAt0
  rw [inv_before m L c t, inv_after m L c t, show (dats m L 0 c).owesAt () t.succ = (dats m L 0 c).owesAt () t.castSucc from rfl]
  simp only [beforeIn m L c t, afterIn m L c t, afterOut m L c t]
  rw [(dats m L 0 c).leavesExact_idle 16 t (idleAt0_16_A t h0 h1) (noFlush0_16_A t h0 h1), (dats m L 0 c).leavesExact_idle 17 t (idleAt0_17_A t h0 h1) (noFlush0_17_A t h0 h1)]
  unfold inv sums
  rw [if_pos hz, if_neg (show ¬t.val + 1 = 0 by omega), Nat.add_sub_cancel]
  iintro ⟨⟨HZ, ⟨⟨%dp, HP⟩, %dr, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((first m c t h0 h1).2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexact H16
  isplitl [H17]; · iexact H17
  isplitl [HZ]; · iexact HZ
  isplitl [HP]; · iexists _; iexact HP
  isplitl [HR]; · iexists _; iexact HR
  iintro ⟨H0, H1, H2, H3, H4, H5, H6, H7, H8, H9, H10, H11, H12, ⟨%e13, H13⟩, ⟨%e14, H14⟩, ⟨%e15, H15⟩, H16, H17, ⟨%ez, HZ⟩, ⟨%ep, HP⟩, ⟨%er, HR⟩⟩
  isplitl [HZ HP HR Hg]
  · isplitl [HZ]
    · iexists _; unfold owns; iexists _; isplitr
      swap; · iexact HZ
      ipureintro; rfl
    isplitl [HP HR]
    · isplitl [HP]
      · iapply (Cert.Kit.owns_of_canon (nD := nD) (τ := τ) (sig := sig) (Ix := Unit) (Val := Elt F) (Name := ℕ) (U := UR sig nD τ) (Lvl := ℕ) (c := (c : Thread nD τ)) (s := S1x512) (M := scM0_1) (q := fullShare) S1x512.size TP (by sl_kernel_rfl)); iexact HP
      iapply (Cert.Kit.owns_of_canon (nD := nD) (τ := τ) (sig := sig) (Ix := Unit) (Val := Elt F) (Name := ℕ) (U := UR sig nD τ) (Lvl := ℕ) (c := (c : Thread nD τ)) (s := S1x128) (M := scM0_2) (q := fullShare) S1x128.size TR (by sl_kernel_rfl)); iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iapply (Cert.Kit.owns_of_canon (nD := nD) (τ := τ) (sig := sig) (Ix := Unit) (Val := Elt F) (Name := ℕ) (U := UR sig nD τ) (Lvl := ℕ) (c := (c : Thread nD τ)) (s := S512x1024) (M := ms0_13 t) (q := fullShare) S512x1024.size T13 (by sl_kernel_rfl)); iexact H13
  isplitl [H14]
  · iapply (Cert.Kit.owns_of_canon (nD := nD) (τ := τ) (sig := sig) (Ix := Unit) (Val := Elt F) (Name := ℕ) (U := UR sig nD τ) (Lvl := ℕ) (c := (c : Thread nD τ)) (s := S1280x1024) (M := ms0_14 t) (q := fullShare) S1280x1024.size T14 (by sl_kernel_rfl)); iexact H14
  isplitl [H15]
  · iapply (Cert.Kit.owns_of_canon (nD := nD) (τ := τ) (sig := sig) (Ix := Unit) (Val := Elt F) (Name := ℕ) (U := UR sig nD τ) (Lvl := ℕ) (c := (c : Thread nD τ)) (s := S1x1024) (M := ms0_15 t) (q := fullShare) S1x1024.size T15 (by sl_kernel_rfl)); iexact H15
  isplitl [H16]; · iexists _; iexact H16
  iexists _; iexact H17

set_option maxHeartbeats 4000000 in
/-- The body at the middle points. -/
theorem sound_mid (c : Dev nD) (t : Fin cfg0.N) (hz : ¬t.val = 0) (h0 : ¬cond0_0 (grid0.coords t)) (h1 : ¬cond0_1 (grid0.coords t)) :
    bodyPre m L c t ⊢ wp frame (wpE (defs₀ (F := F)) Variants.none c none) Set.univ (bodyAt0 t) (fun _ => bodyPost m L c t) := by
  have hT := (L c).middle_is t hz h0 h1
  unfold MiddleIs at hT
  obtain ⟨T13, T14, T15, TP, TR⟩ := hT
  unfold bodyPre bodyPost bodyAt0
  rw [inv_before m L c t, inv_after m L c t, show (dats m L 0 c).owesAt () t.succ = (dats m L 0 c).owesAt () t.castSucc from rfl]
  simp only [beforeIn m L c t, afterIn m L c t, afterOut m L c t, beforeSums m L c t hz]
  rw [(dats m L 0 c).leavesExact_idle 16 t (idleAt0_16_B t h0 h1) (noFlush0_16_B t h0 h1), (dats m L 0 c).leavesExact_idle 17 t (idleAt0_17_B t h0 h1) (noFlush0_17_B t h0 h1)]
  unfold inv sums
  rw [if_neg hz, if_neg (show ¬t.val + 1 = 0 by omega), Nat.add_sub_cancel]
  iintro ⟨⟨HZ, ⟨HP, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((middle m c t ((L c).after (t.val - 1)) h0 h1).2.2.2.2.2.2 Set.univ _)
  unfold held
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]; · iexists _; iexact H13
  isplitl [H14]; · iexact H14
  isplitl [H15]; · iexact H15
  isplitl [HZ]; · iexact HZ
  isplitl [HP]; · iexact HP
  isplitl [HR]; · iexact HR
  iintro ⟨⟨H0, H1, H2, H3, H4, H5, H6, H7, H8, H9, H10, H11, H12⟩, ⟨%e13, H13⟩, ⟨%e14, H14⟩, ⟨%e15, H15⟩, ⟨%ez, HZ⟩, ⟨%ep, HP⟩, ⟨%er, HR⟩⟩
  isplitl [HZ HP HR Hg]
  · isplitl [HZ]
    · iexists _; unfold owns; iexists _; isplitr
      swap; · iexact HZ
      ipureintro; rfl
    isplitl [HP HR]
    · isplitl [HP]
      · iapply (Cert.Kit.owns_of_canon (nD := nD) (τ := τ) (sig := sig) (Ix := Unit) (Val := Elt F) (Name := ℕ) (U := UR sig nD τ) (Lvl := ℕ) (c := (c : Thread nD τ)) (s := S1x512) (M := scM0_1) (q := fullShare) S1x512.size TP (by sl_kernel_rfl)); iexact HP
      iapply (Cert.Kit.owns_of_canon (nD := nD) (τ := τ) (sig := sig) (Ix := Unit) (Val := Elt F) (Name := ℕ) (U := UR sig nD τ) (Lvl := ℕ) (c := (c : Thread nD τ)) (s := S1x128) (M := scM0_2) (q := fullShare) S1x128.size TR (by sl_kernel_rfl)); iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iapply (Cert.Kit.owns_of_canon (nD := nD) (τ := τ) (sig := sig) (Ix := Unit) (Val := Elt F) (Name := ℕ) (U := UR sig nD τ) (Lvl := ℕ) (c := (c : Thread nD τ)) (s := S512x1024) (M := ms0_13 t) (q := fullShare) S512x1024.size T13 (by sl_kernel_rfl)); iexact H13
  isplitl [H14]
  · iapply (Cert.Kit.owns_of_canon (nD := nD) (τ := τ) (sig := sig) (Ix := Unit) (Val := Elt F) (Name := ℕ) (U := UR sig nD τ) (Lvl := ℕ) (c := (c : Thread nD τ)) (s := S1280x1024) (M := ms0_14 t) (q := fullShare) S1280x1024.size T14 (by sl_kernel_rfl)); iexact H14
  isplitl [H15]
  · iapply (Cert.Kit.owns_of_canon (nD := nD) (τ := τ) (sig := sig) (Ix := Unit) (Val := Elt F) (Name := ℕ) (U := UR sig nD τ) (Lvl := ℕ) (c := (c : Thread nD τ)) (s := S1x1024) (M := ms0_15 t) (q := fullShare) S1x1024.size T15 (by sl_kernel_rfl)); iexact H15
  isplitl [H16]; · iexists _; iexact H16
  iexists _; iexact H17

set_option maxHeartbeats 4000000 in
/-- The body at the last point. -/
theorem sound_last (c : Dev nD) (t : Fin cfg0.N) (hz : ¬t.val = 0) (h0 : ¬cond0_0 (grid0.coords t)) (h1 : cond0_1 (grid0.coords t)) :
    bodyPre m L c t ⊢ wp frame (wpE (defs₀ (F := F)) Variants.none c none) Set.univ (bodyAt0 t) (fun _ => bodyPost m L c t) := by
  have hT := (L c).last_is t hz h0 h1
  unfold LastIs at hT
  obtain ⟨T13, T14, T15, T16, T17, TP, TR⟩ := hT
  unfold bodyPre bodyPost bodyAt0
  rw [inv_before m L c t, inv_after m L c t, show (dats m L 0 c).owesAt () t.succ = (dats m L 0 c).owesAt () t.castSucc from rfl]
  simp only [beforeIn m L c t, afterIn m L c t, afterOut m L c t, beforeSums m L c t hz]
  rw [leaves_live m L c t 16 (liveAt0_16_C t h0 h1), leaves_live m L c t 17 (liveAt0_17_C t h0 h1)]
  simp only [afterGains m L c t]
  unfold inv sums
  rw [if_neg hz, if_neg (show ¬t.val + 1 = 0 by omega), Nat.add_sub_cancel]
  iintro ⟨⟨HZ, ⟨HP, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((last m c t ((L c).after (t.val - 1)) h0 h1).2.2.2.2.2.2.2.2 Set.univ _)
  unfold held
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]; · iexists _; iexact H13
  isplitl [H14]; · iexact H14
  isplitl [H15]; · iexact H15
  isplitl [H16]; · iexists _; iexact H16
  isplitl [H17]; · iexists _; iexact H17
  isplitl [HZ]; · iexact HZ
  isplitl [HP]; · iexact HP
  isplitl [HR]; · iexact HR
  iintro ⟨⟨H0, H1, H2, H3, H4, H5, H6, H7, H8, H9, H10, H11, H12⟩, ⟨%e13, H13⟩, ⟨%e14, H14⟩, ⟨%e15, H15⟩, ⟨%e16, H16⟩, ⟨%e17, H17⟩, ⟨%ez, HZ⟩, ⟨%ep, HP⟩, ⟨%er, HR⟩⟩
  isplitl [HZ HP HR Hg]
  · isplitl [HZ]
    · iexists _; unfold owns; iexists _; isplitr
      swap; · iexact HZ
      ipureintro; rfl
    isplitl [HP HR]
    · isplitl [HP]
      · iapply (Cert.Kit.owns_of_canon (nD := nD) (τ := τ) (sig := sig) (Ix := Unit) (Val := Elt F) (Name := ℕ) (U := UR sig nD τ) (Lvl := ℕ) (c := (c : Thread nD τ)) (s := S1x512) (M := scM0_1) (q := fullShare) S1x512.size TP (by sl_kernel_rfl)); iexact HP
      iapply (Cert.Kit.owns_of_canon (nD := nD) (τ := τ) (sig := sig) (Ix := Unit) (Val := Elt F) (Name := ℕ) (U := UR sig nD τ) (Lvl := ℕ) (c := (c : Thread nD τ)) (s := S1x128) (M := scM0_2) (q := fullShare) S1x128.size TR (by sl_kernel_rfl)); iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iapply (Cert.Kit.owns_of_canon (nD := nD) (τ := τ) (sig := sig) (Ix := Unit) (Val := Elt F) (Name := ℕ) (U := UR sig nD τ) (Lvl := ℕ) (c := (c : Thread nD τ)) (s := S512x1024) (M := ms0_13 t) (q := fullShare) S512x1024.size T13 (by sl_kernel_rfl)); iexact H13
  isplitl [H14]
  · iapply (Cert.Kit.owns_of_canon (nD := nD) (τ := τ) (sig := sig) (Ix := Unit) (Val := Elt F) (Name := ℕ) (U := UR sig nD τ) (Lvl := ℕ) (c := (c : Thread nD τ)) (s := S1280x1024) (M := ms0_14 t) (q := fullShare) S1280x1024.size T14 (by sl_kernel_rfl)); iexact H14
  isplitl [H15]
  · iapply (Cert.Kit.owns_of_canon (nD := nD) (τ := τ) (sig := sig) (Ix := Unit) (Val := Elt F) (Name := ℕ) (U := UR sig nD τ) (Lvl := ℕ) (c := (c : Thread nD τ)) (s := S1x1024) (M := ms0_15 t) (q := fullShare) S1x1024.size T15 (by sl_kernel_rfl)); iexact H15
  isplitl [H16]
  · iapply (Cert.Kit.owns_of_canon (nD := nD) (τ := τ) (sig := sig) (Ix := Unit) (Val := Elt F) (Name := ℕ) (U := UR sig nD τ) (Lvl := ℕ) (c := (c : Thread nD τ)) (s := S1x128) (M := ms0_16 t) (q := fullShare) S1x128.size T16 (by sl_kernel_rfl)); iexact H16
  iapply (Cert.Kit.owns_of_canon (nD := nD) (τ := τ) (sig := sig) (Ix := Unit) (Val := Elt F) (Name := ℕ) (U := UR sig nD τ) (Lvl := ℕ) (c := (c : Thread nD τ)) (s := S1x128) (M := ms0_17 t) (q := fullShare) S1x128.size T17 (by sl_kernel_rfl)); iexact H17

/-- The body at any point. -/
theorem sound_body (c : Dev nD) (t : Fin cfg0.N) :
    bodyPre m L c t ⊢ wp frame (wpE (defs₀ (F := F)) Variants.none c none) Set.univ (bodyAt0 t) (fun _ => bodyPost m L c t) := by
  have hN : t.val < 8 := lt_of_lt_of_eq t.isLt (show cfg0.N = 8 from N_0)
  by_cases hz : t.val = 0
  · exact sound_first m L c t hz ((hcond0_0 t).mpr (by omega)) fun h => by have := (hcond0_1 t).mp h; omega
  have h0 : ¬cond0_0 (grid0.coords t) := fun h => by have := (hcond0_0 t).mp h; omega
  by_cases h1 : cond0_1 (grid0.coords t)
  · exact sound_last m L c t hz h0 h1
  · exact sound_mid m L c t hz h0 h1

/-- The body table's row at a point's slots is the body. -/
theorem body_row (t : Fin cfg0.N) : defs₀ (F := F) .tc cfg0.body (cfg0.bodyArgs t (cfg0.slots t)) = bodyAt0 t := by
  unfold defs₀; rw [Defs.onTc_tc]

/-- The body's triple, as the launch asks for it. -/
theorem body_obligation (c : Dev nD) : BodyObligation (dats m L 0 c) (defs₀ (F := F)) Variants.none () Set.univ := fun t => by
  rw [bigSep_W0, bigSep_W0, body_row]
  exact triple_restated (sound_body m L c t) rfl .rfl fun _ => .rfl

/-- What the launch hands the region is the invariant before the first point; -/
theorem inv_in (c : Dev nD) : Pipeline.ΦA spec0 c ⊢ (dats m L 0 c).Φ 0 := by
  rw [PhiA0_eq, show (dats m L 0 c).Φ 0 = inv m L c 0 from rfl]
  unfold inv sums
  rw [if_pos rfl]
  iintro ⟨⟨HZ, HP, HR⟩, Hg⟩
  isplitl [HZ]; · iexact HZ
  isplitl [HP HR]
  · isplitl [HP]; · iexact HP
    iexact HR
  iexact Hg

/-- and the invariant after the last hands it back. -/
theorem inv_out (c : Dev nD) : (dats m L 0 c).Φ (Fin.last cfg0.N) ⊢ Pipeline.ΦA spec0 c := by
  rw [PhiA0_eq, show (dats m L 0 c).Φ (Fin.last cfg0.N) = inv m L c grid0.N from rfl]
  unfold inv sums
  rw [if_neg (by rw [N_0]; decide)]
  iintro ⟨HZ, ⟨HP, HR⟩, Hg⟩
  isplitl [HZ HP HR]
  · isplitl [HZ]; · iexact HZ
    isplitl [HP]; · iexists _; iexact HP
    iexists _; iexact HR
  iexact Hg

set_option backward.isDefEq.respectTransparency.types false in
/-- The whole run, and every counter at zero after it. -/
theorem run_quiet : θ_run defs (onTc (τ := τ) (main (F := F))) (s₀ m ρ) (fun r => (Pipeline.FramePost cfgs (dats m L) 0 (V m)) r ∧ r.2.sem = fun _ => 0) :=
  Pipeline.θ_run_frame_track (Q' := _) cfgs (dats m L) (0 : Fin 1) launch0 defs₀ Variants.none m ρ main
    (hbody := fun c => (body_obligation m L c).loose) (hshare := fun c => (dats m L 0 c).share_full fun _ => rfl)
    (howed := fun _ _ => rfl) (V := V m) (hmain := hmain m Variants.none) (hA := A_eq m L) (hin := inv_in m L) (hout := inv_out m L)

theorem run_main : θ_run defs (onTc (τ := τ) (main (F := F))) (s₀ m ρ) (Pipeline.FramePost cfgs (dats m L) 0 (V m)) :=
  (θ_run defs _ _).mono (fun _ h => h.1) (run_quiet m ρ L)

include L

/-- The run ends with its arguments as they were, -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m L) (A_eq m L) (run_main m ρ L)

/-- and no counter moved. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (kept m ρ L) ((θ_run defs _ _).mono (fun _ h => h.2) (run_quiet m ρ L))

end Cert.InProjBwdIdeal.Hand
-- ==== Proof.InProj.Float.lean ====
module

public import proofs.«01_k».proof.Defs
public import proofs.«01_k».proof.Proof.InProj.Frame
public import proofs.«01_k».proof.Proof.Gen.InProjBwd

@[expose] public section

noncomputable section

/-! The input projection's call on its own floats: its text is the ideal program's, so the one run stands for both. -/

namespace Cert.InProjBwdIdeal.Hand

open Idealize.ShloMosaic Idealize.ShloMosaic.TcCoe Idealize.SL.Sem

/-- The kernel runs, and leaves its arguments and every counter as they were. -/
theorem frame_kernel : Cert.quiescent_InProjBwd := fun m ρ _ => by
  refine Eq.mp ?_ (frame (F := Bits) m ρ (left m))
  sl_kernel_rfl

end Cert.InProjBwdIdeal.Hand
-- ==== Proof.InProj.Spec.lean ====
module

public import proofs.«01_k».proof.Proof.Ffn.Spec
public import proofs.«01_k».proof.Proof.Kit.Num

@[expose] public section

noncomputable section

/-! The gradient of the input projection with its norms, row by row: eight query heads and two key heads of 64 lanes, each with a
    norm of its own, the values, the mixer's input, and the block norm in front of the projection. -/

namespace Cert.InProj

open Idealize.ShloMosaic Cert.Kit
open Cert.Ffn (rinv normBack eps)

/-- A row times a matrix, and what casting the row leaves behind times the matrix. -/
def seg {n : ℕ} (B : Fin n → Fin n → EReal) (v : Fin n → EReal) (j : Fin n) : EReal :=
  ∑ k, v k * B k j + ∑ k, (v k - v k) * B k j

section Head

variable {n : ℕ} (B : Fin n → Fin n → EReal) (d g z : Fin n → EReal) (j : Fin n)

/-- One over the root of the head's mean square. -/
def hInv : EReal := Ideal.rsqrt (seg B (fun k => z k * z k) j + eps)
/-- The head norm's gradient. -/
def hBack : EReal :=
  hInv B z j * (d j * g j) - z j * (hInv B z j * hInv B z j * hInv B z j) * seg B (fun k => d k * g k * z k) j
/-- One row's part of the head gain's gradient. -/
def hGain : EReal := d j * (z j * hInv B z j)

end Head

/-- The projection's cotangent, a row: query heads, key heads, values, the mixer's input. -/
def joined (q : Fin 512 → EReal) (k v : Fin 128 → EReal) (u : Fin 512 → EReal) (j : Fin 1280) : EReal :=
  if h : j.val < 512 then q ⟨j.val, h⟩ else if h1 : j.val < 640 then k ⟨j.val - 512, by omega⟩
  else if h2 : j.val < 768 then v ⟨j.val - 640, by omega⟩ else u ⟨j.val - 768, by omega⟩

section Row

variable (z : Fin 1280 → EReal) (w : Fin 1280 → Fin 1024 → EReal) (h x g : Fin 1024 → EReal)

/-- The normalised row's cotangent. -/
def dNormed (k : Fin 1024) : EReal := ∑ j, z j * w j k
/-- The block's input gradient. -/
def dInput (k : Fin 1024) : EReal := h k + normBack (dNormed z w) g x k
/-- One row's part of the block gain's gradient. -/
def dGain (k : Fin 1024) : EReal := dNormed z w k * (x k * rinv x)
/-- One row's part of the projection's gradient. -/
def dProj (j : Fin 1280) (k : Fin 1024) : EReal := z j * (x k * rinv x * g k)

end Row

/-- The lane `j` of head `h`. -/
def laneOf {n : ℕ} (h : Fin n) (j : Fin 64) : Fin (64 * n) := ⟨64 * h.val + j.val, by omega⟩
/-- A lane's place in its head. -/
def inHead (j : Fin 128) : Fin 64 := ⟨j.val % 64, by omega⟩
/-- The head norm's matrix: one over 64 within a head. -/
def heads {n : ℕ} (k j : Fin n) : EReal := if k.val / 64 = j.val / 64 then ((1 / 64 : ℝ) : EReal) else 0

/-- The heads' gains, summed over the heads. -/
def foldQ (f : Fin 512 → EReal) (j : Fin 128) : EReal := ∑ h : Fin 8, f (laneOf h (inHead j))
def foldK (f : Fin 128 → EReal) (j : Fin 128) : EReal := ∑ h : Fin 2, f (laneOf h (inHead j))

end Cert.InProj
-- ==== Proof.InProj.Pay.lean ====
module

public import proofs.«01_k».proof.Proof.Gen.InProjBwdIdeal.Skeleton
public import proofs.«01_k».proof.Proof.InProj.Spec
public import Idealize.ShloMosaic.Lib.Pipeline.ValueKit
public import Idealize.ShloMosaic.Lib.Pointwise

@[expose] public section

set_option maxRecDepth 16384

noncomputable section

/-! What the body of the input projection's gradient computes at an entry, in the rows it reads. -/

namespace Cert.InProjBwdIdeal.Hand

open Cert.InProjBwdIdeal Cert.InProjBwdIdeal.Gen Cert.InProj Idealize.ShloMosaic Idealize.ShloMosaic.TcCoe
open Cert.Ffn (rinv normBack)

section Query

variable (d z : Vec Ideal S512x512 .f32) (g : Vec Ideal S1x512 .f32) (B : Vec Ideal S512x512 .bf16)

theorem qInv (r j : Fin 512) : k0_pay10 z B (ix2 r j) = hInv (fun k j => B (ix2 k j)) (fun k => z (ix2 r k)) j := by
  unfold hInv seg
  pointwise [k0_pay10, k0_pay8, k0_pay9]

theorem qBack (r j : Fin 512) :
    k0_pay11 d z g B (ix2 r j) = hBack (fun k j => B (ix2 k j)) (fun k => d (ix2 r k)) (fun k => g (ix2 0 k)) (fun k => z (ix2 r k)) j := by
  unfold hBack
  rw [← qInv z B]
  unfold seg
  pointwise [k0_pay11, k0_pay8, k0_pay9]

theorem qGain (j : Fin 512) :
    k0_pay12 d z B (ix2 0 j) = ∑ r : Fin 512, hGain (fun k j => B (ix2 k j)) (fun k => d (ix2 r k)) (fun k => z (ix2 r k)) j := by
  unfold hGain
  simp only [← qInv z B]
  pointwise [k0_pay12, k0_pay8]

end Query

section Key

variable (d z : Vec Ideal S512x128 .f32) (g : Vec Ideal S1x128 .f32) (B : Vec Ideal S128x128 .bf16)

theorem kInv (r : Fin 512) (j : Fin 128) : k0_pay15 z B (ix2 r j) = hInv (fun k j => B (ix2 k j)) (fun k => z (ix2 r k)) j := by
  unfold hInv seg
  pointwise [k0_pay15, k0_pay13, k0_pay14]

theorem kBack (r : Fin 512) (j : Fin 128) :
    k0_pay16 d z g B (ix2 r j) = hBack (fun k j => B (ix2 k j)) (fun k => d (ix2 r k)) (fun k => g (ix2 0 k)) (fun k => z (ix2 r k)) j := by
  unfold hBack
  rw [← kInv z B]
  unfold seg
  pointwise [k0_pay16, k0_pay13, k0_pay14]

theorem kGain (j : Fin 128) :
    k0_pay17 d z B (ix2 0 j) = ∑ r : Fin 512, hGain (fun k j => B (ix2 k j)) (fun k => d (ix2 r k)) (fun k => z (ix2 r k)) j := by
  unfold hGain
  simp only [← kInv z B]
  pointwise [k0_pay17, k0_pay13]

end Key

section Block

variable (z : Vec Ideal S512x1280 .bf16) (x h : Vec Ideal S512x1024 .f32) (g : Vec Ideal S1x1024 .f32) (w : Vec Ideal S1280x1024 .bf16)

theorem blockInv (r : Fin 512) : k0_pay24 x (ix2 r 0) = rinv (fun k => x (ix2 r k)) := by
  unfold rinv
  pointwise [k0_pay24]

theorem blockCot (r : Fin 512) (k : Fin 1024) : k0_pay26 z w (ix2 r k) = dNormed (fun j => z (ix2 r j)) (fun j k => w (ix2 j k)) k := by
  unfold dNormed
  pointwise [k0_pay26]

theorem blockBack (r : Fin 512) (k : Fin 1024) :
    k0_pay28 z x (k0_pay24 x) w g h (ix2 r k)
      = dInput (fun j => z (ix2 r j)) (fun j k => w (ix2 j k)) (fun k => h (ix2 r k)) (fun k => x (ix2 r k)) (fun k => g (ix2 0 k)) k := by
  unfold dInput normBack
  simp only [← blockInv x, ← blockCot z w]
  pointwise [k0_pay28]

theorem blockGain (o : Vec Ideal S1x1024 .f32) (k : Fin 1024) :
    k0_pay27 z x (k0_pay24 x) w o (ix2 0 k)
      = o (ix2 0 k) + ∑ r : Fin 512, dGain (fun j => z (ix2 r j)) (fun j k => w (ix2 j k)) (fun k => x (ix2 r k)) k := by
  unfold dGain
  simp only [← blockInv x, ← blockCot z w]
  pointwise [k0_pay27]

theorem blockProj (o : Vec Ideal S1280x1024 .f32) (j : Fin 1280) (k : Fin 1024) :
    k0_pay1 z (k0_pay25 x (k0_pay24 x) g) o (ix2 j k)
      = o (ix2 j k) + ∑ r : Fin 512, dProj (fun j => z (ix2 r j)) (fun k => x (ix2 r k)) (fun k => g (ix2 0 k)) j k := by
  unfold dProj
  simp only [← blockInv x]
  pointwise [k0_pay1, k0_pay25]

end Block

section Fold

theorem foldedK (v : Vec Ideal S1x128 .f32) (j : Fin 128) : k0_pay3 v (ix2 0 j) = foldK (fun k => v (ix2 0 k)) j := by
  obtain ⟨e, he⟩ : ∃ e : ℕ → EReal, ∀ k : Fin 128, v (ix2 0 k) = e k.val :=
    ⟨fun n => if h : n < 128 then v (ix2 0 ⟨n, h⟩) else 0, fun k => by show _ = dite _ _ _; rw [dif_pos k.isLt]⟩
  unfold foldK
  pointwise [k0_pay3]
  have hj := j.isLt
  rw [Fin.sum_univ_two, he, he, he, he]
  show e j.val + e ((j.val + 128 - 64) % 128) = e (64 * 0 + j.val % 64) + e (64 * 1 + j.val % 64)
  rcases Nat.lt_or_ge j.val 64 with h | h
  · rw [show (j.val + 128 - 64) % 128 = 64 * 1 + j.val % 64 from by omega, show e j.val = e (64 * 0 + j.val % 64) from by congr 1; omega]
  · rw [show (j.val + 128 - 64) % 128 = 64 * 0 + j.val % 64 from by omega, show e j.val = e (64 * 1 + j.val % 64) from by congr 1; omega, add_comm]

theorem foldedQ (v : Vec Ideal S1x512 .f32) (j : Fin 128) : k0_pay2 v (ix2 0 j) = foldQ (fun k => v (ix2 0 k)) j := by
  obtain ⟨e, he⟩ : ∃ e : ℕ → EReal, ∀ k : Fin 512, v (ix2 0 k) = e k.val :=
    ⟨fun n => if h : n < 512 then v (ix2 0 ⟨n, h⟩) else 0, fun k => by show _ = dite _ _ _; rw [dif_pos k.isLt]⟩
  unfold foldQ
  pointwise [k0_pay2]
  have hj := j.isLt
  simp only [Fin.sum_univ_eight, he]
  show e j.val + e ((j.val + 512 - 64) % 512) + (e (128 + j.val) + e ((128 + j.val + 512 - 64) % 512))
    + (e (256 + j.val) + e ((256 + j.val + 512 - 64) % 512)) + (e (384 + j.val) + e ((384 + j.val + 512 - 64) % 512))
    = e (64 * 0 + j.val % 64) + e (64 * 1 + j.val % 64) + e (64 * 2 + j.val % 64) + e (64 * 3 + j.val % 64)
      + e (64 * 4 + j.val % 64) + e (64 * 5 + j.val % 64) + e (64 * 6 + j.val % 64) + e (64 * 7 + j.val % 64)
  rcases Nat.lt_or_ge j.val 64 with h | h
  · rw [show (j.val + 512 - 64) % 512 = 64 * 7 + j.val % 64 from by omega, show e j.val = e (64 * 0 + j.val % 64) from by congr 1; omega,
      show (128 + j.val + 512 - 64) % 512 = 64 * 1 + j.val % 64 from by omega, show 128 + j.val = 64 * 2 + j.val % 64 from by omega,
      show (256 + j.val + 512 - 64) % 512 = 64 * 3 + j.val % 64 from by omega, show 256 + j.val = 64 * 4 + j.val % 64 from by omega,
      show (384 + j.val + 512 - 64) % 512 = 64 * 5 + j.val % 64 from by omega, show 384 + j.val = 64 * 6 + j.val % 64 from by omega]
    ac_rfl
  · rw [show (j.val + 512 - 64) % 512 = 64 * 0 + j.val % 64 from by omega, show e j.val = e (64 * 1 + j.val % 64) from by congr 1; omega,
      show (128 + j.val + 512 - 64) % 512 = 64 * 2 + j.val % 64 from by omega, show 128 + j.val = 64 * 3 + j.val % 64 from by omega,
      show (256 + j.val + 512 - 64) % 512 = 64 * 4 + j.val % 64 from by omega, show 256 + j.val = 64 * 5 + j.val % 64 from by omega,
      show (384 + j.val + 512 - 64) % 512 = 64 * 6 + j.val % 64 from by omega, show 384 + j.val = 64 * 7 + j.val % 64 from by omega]
    ac_rfl

end Fold

end Cert.InProjBwdIdeal.Hand
-- ==== Proof.InProj.Tile.lean ====
module

public import proofs.«01_k».proof.Proof.Gen.InProjBwdIdeal.Frame.RunA
public import proofs.«01_k».proof.Proof.InProj.Pay
public import Idealize.ShloMosaic.Lib.Pipeline.ReadBack

@[expose] public section

set_option maxRecDepth 16384

noncomputable section

/-! One point of the input projection's backward launch, row by row: the projection's cotangent is four pieces laid side by side. -/

namespace Cert.InProjBwdIdeal.Hand

open Cert.InProjBwdIdeal Cert.InProjBwdIdeal.Gen Cert.InProj Idealize.ShloMosaic Idealize.ShloMosaic.TcCoe Idealize.SL.Sem

variable (x0 : Vec Ideal S512x512 .f32) (x1 : Vec Ideal S512x128 .f32) (x2 : Vec Ideal S512x128 .f32) (x3 : Vec Ideal S512x512 .bf16) (x4 : Vec Ideal S512x640 .f32) (x5 : Vec Ideal S512x1024 .f32) (x6 : Vec Ideal S512x1024 .f32) (x7 : Vec Ideal S1x1024 .f32) (x8 : Vec Ideal S1x512 .f32) (x9 : Vec Ideal S1x128 .f32) (x10 : Vec Ideal S1280x1024 .bf16) (x11 : Vec Ideal S512x512 .bf16) (x12 : Vec Ideal S128x128 .bf16)

/-- A row of the query lanes and of the key lanes of the forward projection. -/
abbrev lanesQ (i : Fin 512) : Fin 512 → EReal := fun j => x4 (ix2 i ⟨j.val, by omega⟩)
abbrev lanesK (i : Fin 512) : Fin 128 → EReal := fun j => x4 (ix2 i ⟨512 + j.val, by omega⟩)

/-- A row of the projection's cotangent. -/
def cotRow (i : Fin 512) : Fin 1280 → EReal :=
  joined (hBack (fun k j => x11 (ix2 k j)) (fun k => x0 (ix2 i k)) (fun k => x8 (ix2 0 k)) (lanesQ x4 i))
    (hBack (fun k j => x12 (ix2 k j)) (fun k => x1 (ix2 i k)) (fun k => x9 (ix2 0 k)) (lanesK x4 i)) (fun k => x2 (ix2 i k)) (fun k => x3 (ix2 i k))
def cotTile : Vec Ideal S512x1280 .bf16 := fun y => cotRow x0 x1 x2 x3 x4 x8 x9 x11 x12 (y 0) (y 1)

theorem cotTile_apply (i : Fin 512) (j : Fin 1280) : cotTile x0 x1 x2 x3 x4 x8 x9 x11 x12 (ix2 i j) = cotRow x0 x1 x2 x3 x4 x8 x9 x11 x12 i j := rfl

theorem lanesQ_read : (View.ld x4 (Rect.unit ![0, 0] ![512, 512] inb_S512x640_S512x512_0_0) : Vec Ideal S512x512 .f32) = fun y => lanesQ x4 (y 0) (y 1) := by
  funext y
  idx_vars y
  pointwise
theorem lanesK_read : (View.ld x4 (Rect.unit ![0, 512] ![512, 128] inb_S512x640_S512x128_0_512) : Vec Ideal S512x128 .f32) = fun y => lanesK x4 (y 0) (y 1) := by
  funext y
  idx_vars y
  pointwise

section Joined

variable (q : Fin 512 → EReal) (k v : Fin 128 → EReal) (u : Fin 512 → EReal)

theorem joined_q (l : Fin 512) (h) : joined q k v u ⟨l.val, h⟩ = q l := dif_pos l.isLt
theorem joined_k (l : Fin 128) (h) : joined q k v u ⟨512 + l.val, h⟩ = k l := by
  unfold joined
  rw [dif_neg (show ¬512 + l.val < 512 by omega), dif_pos (show 512 + l.val < 640 by omega)]
  exact congrArg k (Fin.ext (show 512 + l.val - 512 = l.val by omega))
theorem joined_v (l : Fin 128) (h) : joined q k v u ⟨640 + l.val, h⟩ = v l := by
  unfold joined
  rw [dif_neg (show ¬640 + l.val < 512 by omega), dif_neg (show ¬640 + l.val < 640 by omega), dif_pos (show 640 + l.val < 768 by omega)]
  exact congrArg v (Fin.ext (show 640 + l.val - 640 = l.val by omega))
theorem joined_u (l : Fin 512) (h) : joined q k v u ⟨768 + l.val, h⟩ = u l := by
  unfold joined
  rw [dif_neg (show ¬768 + l.val < 512 by omega), dif_neg (show ¬768 + l.val < 640 by omega), dif_neg (show ¬768 + l.val < 768 by omega)]
  exact congrArg u (Fin.ext (show 768 + l.val - 768 = l.val by omega))

end Joined

set_option maxHeartbeats 1000000 in
/-- The scratch read back whole, once its four pieces are stored. -/
theorem cotTile_read (v : View sig .tc .vmem S512x1280 .bf16) :
    v.readCov (Val := Elt Ideal)
        [⟨Rect.unit ![0, 768] ![512, 512] inb_S512x1280_S512x512_0_768, k0_pay23 x3⟩,
          ⟨Rect.unit ![0, 640] ![512, 128] inb_S512x1280_S512x128_0_640, k0_pay22 x2⟩,
          ⟨Rect.unit ![0, 512] ![512, 128] inb_S512x1280_S512x128_0_512,
            k0_pay21 (k0_pay16 x1 (View.ld x4 (Rect.unit ![0, 512] ![512, 128] inb_S512x640_S512x128_0_512)) x9 x12)⟩,
          ⟨Rect.unit ![0, 0] ![512, 512] inb_S512x1280_S512x512_0_0,
            k0_pay20 (k0_pay11 x0 (View.ld x4 (Rect.unit ![0, 0] ![512, 512] inb_S512x640_S512x512_0_0)) x8 x11)⟩]
        (Rect.unit ![0, 0] ![512, 1280] inb_S512x1280_S512x1280_0_0).toLoadRect = cotTile x0 x1 x2 x3 x4 x8 x9 x11 x12 := by
  rw [View.readCov_eq_canon', lanesQ_read, lanesK_read]
  funext y
  idx_vars y
  pointwise
  generalize hz : (ix2 y0 y1 : S512x1280.Idx) = y
  obtain ⟨rfl, rfl⟩ : y0 = y 0 ∧ y1 = y 1 := by subst hz; exact ⟨rfl, rfl⟩
  canon_tiles q h using (View.cover_of_tiledBy _ ![512, 128] (by sl_kernel_rfl) y)
  all_goals
    idx_vars q
    idx_vars y
    obtain ⟨n, hn⟩ := y1
    obtain rfl : y0 = q0 := Fin.ext h0
    obtain rfl : n = _ := h1
    rw [cotTile_apply]
    unfold cotRow
    first
      | rw [joined_u]; pointwise [k0_pay23]
      | rw [joined_v]; pointwise [k0_pay22]
      | rw [joined_k]; pointwise [k0_pay21]; exact kBack _ _ _ _ _ _
      | rw [joined_q]; pointwise [k0_pay20]; exact qBack _ _ _ _ _ _

theorem cotTile_row (i : Fin 512) : (fun j => cotTile x0 x1 x2 x3 x4 x8 x9 x11 x12 (ix2 i j)) = cotRow x0 x1 x2 x3 x4 x8 x9 x11 x12 i := rfl

/-- What a point leaves, by row, and what it adds to the sums. -/
def inTile : Vec Ideal S512x1024 .f32 := fun y =>
  dInput (cotRow x0 x1 x2 x3 x4 x8 x9 x11 x12 (y 0)) (fun j k => x10 (ix2 j k)) (fun k => x6 (ix2 (y 0) k)) (fun k => x5 (ix2 (y 0) k)) (fun k => x7 (ix2 0 k)) (y 1)
def projPart (y : S1280x1024.Idx) : EReal := ∑ i : Fin 512, dProj (cotRow x0 x1 x2 x3 x4 x8 x9 x11 x12 i) (fun k => x5 (ix2 i k)) (fun k => x7 (ix2 0 k)) (y 0) (y 1)
def gainPart (y : S1x1024.Idx) : EReal := ∑ i : Fin 512, dGain (cotRow x0 x1 x2 x3 x4 x8 x9 x11 x12 i) (fun j k => x10 (ix2 j k)) (fun k => x5 (ix2 i k)) (y 1)
def queryPart (y : S1x512.Idx) : EReal := ∑ i : Fin 512, hGain (fun k j => x11 (ix2 k j)) (fun k => x0 (ix2 i k)) (lanesQ x4 i) (y 1)
def keyPart (y : S1x128.Idx) : EReal := ∑ i : Fin 512, hGain (fun k j => x12 (ix2 k j)) (fun k => x1 (ix2 i k)) (lanesK x4 i) (y 1)

variable (Z : Vec Ideal S512x1280 .bf16) (hZ : Z = cotTile x0 x1 x2 x3 x4 x8 x9 x11 x12)

include hZ in
theorem in_is : k0_pay28 Z x5 (k0_pay24 x5) x10 x7 x6 = inTile x0 x1 x2 x3 x4 x5 x6 x7 x8 x9 x10 x11 x12 := by
  subst hZ; funext y; idx_vars y; rw [blockBack, cotTile_row]; rfl
include hZ in
theorem proj_is (o : Vec Ideal S1280x1024 .f32) : k0_pay1 Z (k0_pay25 x5 (k0_pay24 x5) x7) o = fun y => o y + projPart x0 x1 x2 x3 x4 x5 x7 x8 x9 x11 x12 y := by
  subst hZ; funext y; idx_vars y; rw [blockProj]; simp only [cotTile_row]; rfl
include hZ in
theorem gain_is (o : Vec Ideal S1x1024 .f32) : k0_pay27 Z x5 (k0_pay24 x5) x10 o = fun y => o y + gainPart x0 x1 x2 x3 x4 x5 x8 x9 x10 x11 x12 y := by
  subst hZ; funext y; idx_vars y
  obtain rfl : y0 = 0 := Subsingleton.elim _ _
  rw [blockGain]; simp only [cotTile_row]; rfl
theorem query_is (o : Vec Ideal S1x512 .f32) : k0_pay18 (k0_pay12 x0 (View.ld x4 (Rect.unit ![0, 0] ![512, 512] inb_S512x640_S512x512_0_0)) x11) o
    = fun y => o y + queryPart x0 x4 x11 y := by
  rw [lanesQ_read]; funext y; idx_vars y
  obtain rfl : y0 = 0 := Subsingleton.elim _ _
  pointwise [k0_pay18]
  exact congrArg (_ + ·) (qGain _ _ _ _)
theorem key_is (o : Vec Ideal S1x128 .f32) : k0_pay19 (k0_pay17 x1 (View.ld x4 (Rect.unit ![0, 512] ![512, 128] inb_S512x640_S512x128_0_512)) x12) o
    = fun y => o y + keyPart x1 x4 x12 y := by
  rw [lanesK_read]; funext y; idx_vars y
  obtain rfl : y0 = 0 := Subsingleton.elim _ _
  pointwise [k0_pay19]
  exact congrArg (_ + ·) (kGain _ _ _ _)

end Cert.InProjBwdIdeal.Hand
-- ==== Proof.InProj.TileFirst.lean ====
module

public import proofs.«01_k».proof.Proof.Gen.InProjBwdIdeal.Frame.RunA
public import proofs.«01_k».proof.Proof.InProj.Tile
public import Idealize.ShloMosaic.Lib.Pipeline.ReadBack

@[expose] public section

set_option maxRecDepth 16384

noncomputable section

/-! What the first point leaves. -/

namespace Cert.InProjBwdIdeal.Hand

open Cert.InProjBwdIdeal Cert.InProjBwdIdeal.Gen Cert.InProj Idealize.ShloMosaic Idealize.ShloMosaic.TcCoe Idealize.SL.Sem

variable (c : Dev nD) (i : grid0.Coords) (a0 : Memref sig .tc .vmem S512x512 .f32) (w0 : a0.IsWhole) (a1 : Memref sig .tc .vmem S512x128 .f32) (w1 : a1.IsWhole) (a2 : Memref sig .tc .vmem S512x128 .f32) (w2 : a2.IsWhole) (a3 : Memref sig .tc .vmem S512x512 .bf16) (w3 : a3.IsWhole) (a4 : Memref sig .tc .vmem S512x640 .f32) (w4 : a4.IsWhole) (a5 : Memref sig .tc .vmem S512x1024 .f32) (w5 : a5.IsWhole) (a6 : Memref sig .tc .vmem S512x1024 .f32) (w6 : a6.IsWhole) (a7 : Memref sig .tc .vmem S1x1024 .f32) (w7 : a7.IsWhole) (a8 : Memref sig .tc .vmem S1x512 .f32) (w8 : a8.IsWhole) (a9 : Memref sig .tc .vmem S1x128 .f32) (w9 : a9.IsWhole) (a10 : Memref sig .tc .vmem S1280x1024 .bf16) (w10 : a10.IsWhole) (a11 : Memref sig .tc .vmem S512x512 .bf16) (w11 : a11.IsWhole) (a12 : Memref sig .tc .vmem S128x128 .bf16) (w12 : a12.IsWhole)
    (a13 : Memref sig .tc .vmem S512x1024 .f32) (w13 : a13.IsWhole) (a14 : Memref sig .tc .vmem S1280x1024 .f32) (w14 : a14.IsWhole) (a15 : Memref sig .tc .vmem S1x1024 .f32) (w15 : a15.IsWhole) (a16 : Memref sig .tc .vmem S1x128 .f32) (w16 : a16.IsWhole) (a17 : Memref sig .tc .vmem S1x128 .f32) (w17 : a17.IsWhole)
    (z : Memref sig .tc .vmem S512x1280 .bf16) (vz : z.IsWhole) (p : Memref sig .tc .vmem S1x512 .f32) (vp : p.IsWhole) (r : Memref sig .tc .vmem S1x128 .f32) (vr : r.IsWhole)
    (x0 : Vec Ideal S512x512 .f32) (x1 : Vec Ideal S512x128 .f32) (x2 : Vec Ideal S512x128 .f32) (x3 : Vec Ideal S512x512 .bf16) (x4 : Vec Ideal S512x640 .f32) (x5 : Vec Ideal S512x1024 .f32) (x6 : Vec Ideal S512x1024 .f32) (x7 : Vec Ideal S1x1024 .f32) (x8 : Vec Ideal S1x512 .f32) (x9 : Vec Ideal S1x128 .f32) (x10 : Vec Ideal S1280x1024 .bf16) (x11 : Vec Ideal S512x512 .bf16) (x12 : Vec Ideal S128x128 .bf16)

set_option maxHeartbeats 2000000 in
theorem first_in (h0 : cond0_0 i) (h1 : ¬cond0_1 i) : View.canon (kernelRun0_A c i a0 w0 a1 w1 a2 w2 a3 w3 a4 w4 a5 w5 a6 w6 a7 w7 a8 w8 a9 w9 a10 w10 a11 w11 a12 w12 a13 w13 a14 w14 a15 w15 a16 w16 a17 w17 z vz p vp r vr h0 h1 x0 x1 x2 x3 x4 x5 x6 x7 x8 x9 x10 x11 x12).1 = inTile x0 x1 x2 x3 x4 x5 x6 x7 x8 x9 x10 x11 x12 := by
  unfold kernelRun0_A
  frame_open
  simp (disch := decide) only [↓ View.readCov_skip, ↓ View.readCov_cons_toLoadRect, ↓ View.readCov_fill]
  frame_out
  exact in_is _ _ _ _ _ _ _ _ _ _ _ _ _ _ (cotTile_read _ _ _ _ _ _ _ _ _ _)

set_option maxHeartbeats 2000000 in
theorem first_proj (h0 : cond0_0 i) (h1 : ¬cond0_1 i) : View.canon (kernelRun0_A c i a0 w0 a1 w1 a2 w2 a3 w3 a4 w4 a5 w5 a6 w6 a7 w7 a8 w8 a9 w9 a10 w10 a11 w11 a12 w12 a13 w13 a14 w14 a15 w15 a16 w16 a17 w17 z vz p vp r vr h0 h1 x0 x1 x2 x3 x4 x5 x6 x7 x8 x9 x10 x11 x12).2.1 = fun y => 0 + projPart x0 x1 x2 x3 x4 x5 x7 x8 x9 x11 x12 y := by
  unfold kernelRun0_A
  frame_open
  simp (disch := decide) only [↓ View.readCov_skip, ↓ View.readCov_cons_toLoadRect, ↓ View.readCov_fill]
  frame_out
  refine (proj_is _ _ _ _ _ _ _ _ _ _ _ _ (cotTile_read _ _ _ _ _ _ _ _ _ _) _) |>.trans ?_
  funext y; idx_vars y; pointwise [k0_pay4]

set_option maxHeartbeats 2000000 in
theorem first_gain (h0 : cond0_0 i) (h1 : ¬cond0_1 i) : View.canon (kernelRun0_A c i a0 w0 a1 w1 a2 w2 a3 w3 a4 w4 a5 w5 a6 w6 a7 w7 a8 w8 a9 w9 a10 w10 a11 w11 a12 w12 a13 w13 a14 w14 a15 w15 a16 w16 a17 w17 z vz p vp r vr h0 h1 x0 x1 x2 x3 x4 x5 x6 x7 x8 x9 x10 x11 x12).2.2.1 = fun y => 0 + gainPart x0 x1 x2 x3 x4 x5 x8 x9 x10 x11 x12 y := by
  unfold kernelRun0_A
  frame_open
  simp (disch := decide) only [↓ View.readCov_skip, ↓ View.readCov_cons_toLoadRect, ↓ View.readCov_fill]
  frame_out
  refine (gain_is _ _ _ _ _ _ _ _ _ _ _ _ (cotTile_read _ _ _ _ _ _ _ _ _ _) _) |>.trans ?_
  funext y; idx_vars y; pointwise [k0_pay5]

set_option maxHeartbeats 2000000 in
theorem first_sumQ (h0 : cond0_0 i) (h1 : ¬cond0_1 i) : View.canon (kernelRun0_A c i a0 w0 a1 w1 a2 w2 a3 w3 a4 w4 a5 w5 a6 w6 a7 w7 a8 w8 a9 w9 a10 w10 a11 w11 a12 w12 a13 w13 a14 w14 a15 w15 a16 w16 a17 w17 z vz p vp r vr h0 h1 x0 x1 x2 x3 x4 x5 x6 x7 x8 x9 x10 x11 x12).2.2.2.2.2.1 = fun y => 0 + queryPart x0 x4 x11 y := by
  unfold kernelRun0_A
  frame_open
  simp (disch := decide) only [↓ View.readCov_skip, ↓ View.readCov_cons_toLoadRect, ↓ View.readCov_fill]
  frame_out
  refine (query_is _ _ _ _) |>.trans ?_
  funext y; idx_vars y; pointwise [k0_pay6]

set_option maxHeartbeats 2000000 in
theorem first_sumK (h0 : cond0_0 i) (h1 : ¬cond0_1 i) : View.canon (kernelRun0_A c i a0 w0 a1 w1 a2 w2 a3 w3 a4 w4 a5 w5 a6 w6 a7 w7 a8 w8 a9 w9 a10 w10 a11 w11 a12 w12 a13 w13 a14 w14 a15 w15 a16 w16 a17 w17 z vz p vp r vr h0 h1 x0 x1 x2 x3 x4 x5 x6 x7 x8 x9 x10 x11 x12).2.2.2.2.2.2.1 = fun y => 0 + keyPart x1 x4 x12 y := by
  unfold kernelRun0_A
  frame_open
  simp (disch := decide) only [↓ View.readCov_skip, ↓ View.readCov_cons_toLoadRect, ↓ View.readCov_fill]
  frame_out
  refine (key_is _ _ _ _) |>.trans ?_
  funext y; idx_vars y; pointwise [k0_pay7]

end Cert.InProjBwdIdeal.Hand
-- ==== Proof.InProj.TileMid.lean ====
module

public import proofs.«01_k».proof.Proof.InProj.RunMid
public import proofs.«01_k».proof.Proof.InProj.Tile
public import Idealize.ShloMosaic.Lib.Pipeline.ReadBack

@[expose] public section

set_option maxRecDepth 16384

noncomputable section

/-! What a middle point leaves. -/

namespace Cert.InProjBwdIdeal.Hand

open Cert.InProjBwdIdeal Cert.InProjBwdIdeal.Gen Cert.InProj Idealize.ShloMosaic Idealize.ShloMosaic.TcCoe Idealize.SL.Sem

variable (c : Dev nD) (i : grid0.Coords) (a0 : Memref sig .tc .vmem S512x512 .f32) (w0 : a0.IsWhole) (a1 : Memref sig .tc .vmem S512x128 .f32) (w1 : a1.IsWhole) (a2 : Memref sig .tc .vmem S512x128 .f32) (w2 : a2.IsWhole) (a3 : Memref sig .tc .vmem S512x512 .bf16) (w3 : a3.IsWhole) (a4 : Memref sig .tc .vmem S512x640 .f32) (w4 : a4.IsWhole) (a5 : Memref sig .tc .vmem S512x1024 .f32) (w5 : a5.IsWhole) (a6 : Memref sig .tc .vmem S512x1024 .f32) (w6 : a6.IsWhole) (a7 : Memref sig .tc .vmem S1x1024 .f32) (w7 : a7.IsWhole) (a8 : Memref sig .tc .vmem S1x512 .f32) (w8 : a8.IsWhole) (a9 : Memref sig .tc .vmem S1x128 .f32) (w9 : a9.IsWhole) (a10 : Memref sig .tc .vmem S1280x1024 .bf16) (w10 : a10.IsWhole) (a11 : Memref sig .tc .vmem S512x512 .bf16) (w11 : a11.IsWhole) (a12 : Memref sig .tc .vmem S128x128 .bf16) (w12 : a12.IsWhole)
    (a13 : Memref sig .tc .vmem S512x1024 .f32) (w13 : a13.IsWhole) (a14 : Memref sig .tc .vmem S1280x1024 .f32) (w14 : a14.IsWhole) (a15 : Memref sig .tc .vmem S1x1024 .f32) (w15 : a15.IsWhole) (a16 : Memref sig .tc .vmem S1x128 .f32) (w16 : a16.IsWhole) (a17 : Memref sig .tc .vmem S1x128 .f32) (w17 : a17.IsWhole)
    (z : Memref sig .tc .vmem S512x1280 .bf16) (vz : z.IsWhole) (p : Memref sig .tc .vmem S1x512 .f32) (vp : p.IsWhole) (r : Memref sig .tc .vmem S1x128 .f32) (vr : r.IsWhole)
    (x0 : Vec Ideal S512x512 .f32) (x1 : Vec Ideal S512x128 .f32) (x2 : Vec Ideal S512x128 .f32) (x3 : Vec Ideal S512x512 .bf16) (x4 : Vec Ideal S512x640 .f32) (x5 : Vec Ideal S512x1024 .f32) (x6 : Vec Ideal S512x1024 .f32) (x7 : Vec Ideal S1x1024 .f32) (x8 : Vec Ideal S1x512 .f32) (x9 : Vec Ideal S1x128 .f32) (x10 : Vec Ideal S1280x1024 .bf16) (x11 : Vec Ideal S512x512 .bf16) (x12 : Vec Ideal S128x128 .bf16)
    (o14 : Vec Ideal S1280x1024 .f32) (o15 : Vec Ideal S1x1024 .f32) (s1 : Vec Ideal S1x512 .f32) (s2 : Vec Ideal S1x128 .f32)

set_option maxHeartbeats 2000000 in
theorem mid_in (h0 : ¬cond0_0 i) (h1 : ¬cond0_1 i) : View.canon (midRun c i a0 w0 a1 w1 a2 w2 a3 w3 a4 w4 a5 w5 a6 w6 a7 w7 a8 w8 a9 w9 a10 w10 a11 w11 a12 w12 a13 w13 a14 w14 a15 w15 a16 w16 a17 w17 z vz p vp r vr h0 h1 x0 x1 x2 x3 x4 x5 x6 x7 x8 x9 x10 x11 x12 o14 o15 s1 s2).1 = inTile x0 x1 x2 x3 x4 x5 x6 x7 x8 x9 x10 x11 x12 := by
  unfold midRun
  frame_open
  simp (disch := decide) only [↓ View.readCov_skip, ↓ View.readCov_cons_toLoadRect, ↓ View.readCov_fill]
  frame_out
  exact in_is _ _ _ _ _ _ _ _ _ _ _ _ _ _ (cotTile_read _ _ _ _ _ _ _ _ _ _)

set_option maxHeartbeats 2000000 in
theorem mid_proj (h0 : ¬cond0_0 i) (h1 : ¬cond0_1 i) : View.canon (midRun c i a0 w0 a1 w1 a2 w2 a3 w3 a4 w4 a5 w5 a6 w6 a7 w7 a8 w8 a9 w9 a10 w10 a11 w11 a12 w12 a13 w13 a14 w14 a15 w15 a16 w16 a17 w17 z vz p vp r vr h0 h1 x0 x1 x2 x3 x4 x5 x6 x7 x8 x9 x10 x11 x12 o14 o15 s1 s2).2.1 = fun y => o14 y + projPart x0 x1 x2 x3 x4 x5 x7 x8 x9 x11 x12 y := by
  unfold midRun
  frame_open
  simp (disch := decide) only [↓ View.readCov_skip, ↓ View.readCov_cons_toLoadRect, ↓ View.readCov_fill]
  frame_out
  exact (proj_is _ _ _ _ _ _ _ _ _ _ _ _ (cotTile_read _ _ _ _ _ _ _ _ _ _) _)

set_option maxHeartbeats 2000000 in
theorem mid_gain (h0 : ¬cond0_0 i) (h1 : ¬cond0_1 i) : View.canon (midRun c i a0 w0 a1 w1 a2 w2 a3 w3 a4 w4 a5 w5 a6 w6 a7 w7 a8 w8 a9 w9 a10 w10 a11 w11 a12 w12 a13 w13 a14 w14 a15 w15 a16 w16 a17 w17 z vz p vp r vr h0 h1 x0 x1 x2 x3 x4 x5 x6 x7 x8 x9 x10 x11 x12 o14 o15 s1 s2).2.2.1 = fun y => o15 y + gainPart x0 x1 x2 x3 x4 x5 x8 x9 x10 x11 x12 y := by
  unfold midRun
  frame_open
  simp (disch := decide) only [↓ View.readCov_skip, ↓ View.readCov_cons_toLoadRect, ↓ View.readCov_fill]
  frame_out
  exact (gain_is _ _ _ _ _ _ _ _ _ _ _ _ (cotTile_read _ _ _ _ _ _ _ _ _ _) _)

set_option maxHeartbeats 2000000 in
theorem mid_sumQ (h0 : ¬cond0_0 i) (h1 : ¬cond0_1 i) : View.canon (midRun c i a0 w0 a1 w1 a2 w2 a3 w3 a4 w4 a5 w5 a6 w6 a7 w7 a8 w8 a9 w9 a10 w10 a11 w11 a12 w12 a13 w13 a14 w14 a15 w15 a16 w16 a17 w17 z vz p vp r vr h0 h1 x0 x1 x2 x3 x4 x5 x6 x7 x8 x9 x10 x11 x12 o14 o15 s1 s2).2.2.2.1 = fun y => s1 y + queryPart x0 x4 x11 y := by
  unfold midRun
  frame_open
  simp (disch := decide) only [↓ View.readCov_skip, ↓ View.readCov_cons_toLoadRect, ↓ View.readCov_fill]
  frame_out
  exact (query_is _ _ _ _)

set_option maxHeartbeats 2000000 in
theorem mid_sumK (h0 : ¬cond0_0 i) (h1 : ¬cond0_1 i) : View.canon (midRun c i a0 w0 a1 w1 a2 w2 a3 w3 a4 w4 a5 w5 a6 w6 a7 w7 a8 w8 a9 w9 a10 w10 a11 w11 a12 w12 a13 w13 a14 w14 a15 w15 a16 w16 a17 w17 z vz p vp r vr h0 h1 x0 x1 x2 x3 x4 x5 x6 x7 x8 x9 x10 x11 x12 o14 o15 s1 s2).2.2.2.2.1 = fun y => s2 y + keyPart x1 x4 x12 y := by
  unfold midRun
  frame_open
  simp (disch := decide) only [↓ View.readCov_skip, ↓ View.readCov_cons_toLoadRect, ↓ View.readCov_fill]
  frame_out
  exact (key_is _ _ _ _)

end Cert.InProjBwdIdeal.Hand
-- ==== Proof.InProj.TileLast.lean ====
module

public import proofs.«01_k».proof.Proof.InProj.RunLast
public import proofs.«01_k».proof.Proof.InProj.Tile
public import Idealize.ShloMosaic.Lib.Pipeline.ReadBack

@[expose] public section

set_option maxRecDepth 16384

noncomputable section

/-! What the last point leaves. -/

namespace Cert.InProjBwdIdeal.Hand

open Cert.InProjBwdIdeal Cert.InProjBwdIdeal.Gen Cert.InProj Idealize.ShloMosaic Idealize.ShloMosaic.TcCoe Idealize.SL.Sem

variable (c : Dev nD) (i : grid0.Coords) (a0 : Memref sig .tc .vmem S512x512 .f32) (w0 : a0.IsWhole) (a1 : Memref sig .tc .vmem S512x128 .f32) (w1 : a1.IsWhole) (a2 : Memref sig .tc .vmem S512x128 .f32) (w2 : a2.IsWhole) (a3 : Memref sig .tc .vmem S512x512 .bf16) (w3 : a3.IsWhole) (a4 : Memref sig .tc .vmem S512x640 .f32) (w4 : a4.IsWhole) (a5 : Memref sig .tc .vmem S512x1024 .f32) (w5 : a5.IsWhole) (a6 : Memref sig .tc .vmem S512x1024 .f32) (w6 : a6.IsWhole) (a7 : Memref sig .tc .vmem S1x1024 .f32) (w7 : a7.IsWhole) (a8 : Memref sig .tc .vmem S1x512 .f32) (w8 : a8.IsWhole) (a9 : Memref sig .tc .vmem S1x128 .f32) (w9 : a9.IsWhole) (a10 : Memref sig .tc .vmem S1280x1024 .bf16) (w10 : a10.IsWhole) (a11 : Memref sig .tc .vmem S512x512 .bf16) (w11 : a11.IsWhole) (a12 : Memref sig .tc .vmem S128x128 .bf16) (w12 : a12.IsWhole)
    (a13 : Memref sig .tc .vmem S512x1024 .f32) (w13 : a13.IsWhole) (a14 : Memref sig .tc .vmem S1280x1024 .f32) (w14 : a14.IsWhole) (a15 : Memref sig .tc .vmem S1x1024 .f32) (w15 : a15.IsWhole) (a16 : Memref sig .tc .vmem S1x128 .f32) (w16 : a16.IsWhole) (a17 : Memref sig .tc .vmem S1x128 .f32) (w17 : a17.IsWhole)
    (z : Memref sig .tc .vmem S512x1280 .bf16) (vz : z.IsWhole) (p : Memref sig .tc .vmem S1x512 .f32) (vp : p.IsWhole) (r : Memref sig .tc .vmem S1x128 .f32) (vr : r.IsWhole)
    (x0 : Vec Ideal S512x512 .f32) (x1 : Vec Ideal S512x128 .f32) (x2 : Vec Ideal S512x128 .f32) (x3 : Vec Ideal S512x512 .bf16) (x4 : Vec Ideal S512x640 .f32) (x5 : Vec Ideal S512x1024 .f32) (x6 : Vec Ideal S512x1024 .f32) (x7 : Vec Ideal S1x1024 .f32) (x8 : Vec Ideal S1x512 .f32) (x9 : Vec Ideal S1x128 .f32) (x10 : Vec Ideal S1280x1024 .bf16) (x11 : Vec Ideal S512x512 .bf16) (x12 : Vec Ideal S128x128 .bf16)
    (o14 : Vec Ideal S1280x1024 .f32) (o15 : Vec Ideal S1x1024 .f32) (s1 : Vec Ideal S1x512 .f32) (s2 : Vec Ideal S1x128 .f32)

set_option maxHeartbeats 2000000 in
theorem last_in (h0 : ¬cond0_0 i) (h1 : cond0_1 i) : View.canon (lastRun c i a0 w0 a1 w1 a2 w2 a3 w3 a4 w4 a5 w5 a6 w6 a7 w7 a8 w8 a9 w9 a10 w10 a11 w11 a12 w12 a13 w13 a14 w14 a15 w15 a16 w16 a17 w17 z vz p vp r vr h0 h1 x0 x1 x2 x3 x4 x5 x6 x7 x8 x9 x10 x11 x12 o14 o15 s1 s2).1 = inTile x0 x1 x2 x3 x4 x5 x6 x7 x8 x9 x10 x11 x12 := by
  unfold lastRun
  frame_open
  simp (disch := decide) only [↓ View.readCov_skip, ↓ View.readCov_cons_toLoadRect, ↓ View.readCov_fill]
  frame_out
  exact in_is _ _ _ _ _ _ _ _ _ _ _ _ _ _ (cotTile_read _ _ _ _ _ _ _ _ _ _)

set_option maxHeartbeats 2000000 in
theorem last_proj (h0 : ¬cond0_0 i) (h1 : cond0_1 i) : View.canon (lastRun c i a0 w0 a1 w1 a2 w2 a3 w3 a4 w4 a5 w5 a6 w6 a7 w7 a8 w8 a9 w9 a10 w10 a11 w11 a12 w12 a13 w13 a14 w14 a15 w15 a16 w16 a17 w17 z vz p vp r vr h0 h1 x0 x1 x2 x3 x4 x5 x6 x7 x8 x9 x10 x11 x12 o14 o15 s1 s2).2.1 = fun y => o14 y + projPart x0 x1 x2 x3 x4 x5 x7 x8 x9 x11 x12 y := by
  unfold lastRun
  frame_open
  simp (disch := decide) only [↓ View.readCov_skip, ↓ View.readCov_cons_toLoadRect, ↓ View.readCov_fill]
  frame_out
  exact (proj_is _ _ _ _ _ _ _ _ _ _ _ _ (cotTile_read _ _ _ _ _ _ _ _ _ _) _)

set_option maxHeartbeats 2000000 in
theorem last_gain (h0 : ¬cond0_0 i) (h1 : cond0_1 i) : View.canon (lastRun c i a0 w0 a1 w1 a2 w2 a3 w3 a4 w4 a5 w5 a6 w6 a7 w7 a8 w8 a9 w9 a10 w10 a11 w11 a12 w12 a13 w13 a14 w14 a15 w15 a16 w16 a17 w17 z vz p vp r vr h0 h1 x0 x1 x2 x3 x4 x5 x6 x7 x8 x9 x10 x11 x12 o14 o15 s1 s2).2.2.1 = fun y => o15 y + gainPart x0 x1 x2 x3 x4 x5 x8 x9 x10 x11 x12 y := by
  unfold lastRun
  frame_open
  simp (disch := decide) only [↓ View.readCov_skip, ↓ View.readCov_cons_toLoadRect, ↓ View.readCov_fill]
  frame_out
  exact (gain_is _ _ _ _ _ _ _ _ _ _ _ _ (cotTile_read _ _ _ _ _ _ _ _ _ _) _)

set_option maxHeartbeats 2000000 in
theorem last_outQ (h0 : ¬cond0_0 i) (h1 : cond0_1 i) : View.canon (lastRun c i a0 w0 a1 w1 a2 w2 a3 w3 a4 w4 a5 w5 a6 w6 a7 w7 a8 w8 a9 w9 a10 w10 a11 w11 a12 w12 a13 w13 a14 w14 a15 w15 a16 w16 a17 w17 z vz p vp r vr h0 h1 x0 x1 x2 x3 x4 x5 x6 x7 x8 x9 x10 x11 x12 o14 o15 s1 s2).2.2.2.1 = fun y => foldQ (fun k => s1 (ix2 0 k) + queryPart x0 x4 x11 (ix2 0 k)) (y 1) := by
  unfold lastRun
  frame_open
  simp (disch := decide) only [↓ View.readCov_skip, ↓ View.readCov_cons_toLoadRect, ↓ View.readCov_fill]
  frame_out
  rw [query_is]; funext y; idx_vars y; obtain rfl : y0 = 0 := Subsingleton.elim _ _; exact foldedQ _ _

set_option maxHeartbeats 2000000 in
theorem last_outK (h0 : ¬cond0_0 i) (h1 : cond0_1 i) : View.canon (lastRun c i a0 w0 a1 w1 a2 w2 a3 w3 a4 w4 a5 w5 a6 w6 a7 w7 a8 w8 a9 w9 a10 w10 a11 w11 a12 w12 a13 w13 a14 w14 a15 w15 a16 w16 a17 w17 z vz p vp r vr h0 h1 x0 x1 x2 x3 x4 x5 x6 x7 x8 x9 x10 x11 x12 o14 o15 s1 s2).2.2.2.2.1 = fun y => foldK (fun k => s2 (ix2 0 k) + keyPart x1 x4 x12 (ix2 0 k)) (y 1) := by
  unfold lastRun
  frame_open
  simp (disch := decide) only [↓ View.readCov_skip, ↓ View.readCov_cons_toLoadRect, ↓ View.readCov_fill]
  frame_out
  rw [key_is]; funext y; idx_vars y; obtain rfl : y0 = 0 := Subsingleton.elim _ _; exact foldedK _ _

set_option maxHeartbeats 2000000 in
theorem last_sumQ (h0 : ¬cond0_0 i) (h1 : cond0_1 i) : View.canon (lastRun c i a0 w0 a1 w1 a2 w2 a3 w3 a4 w4 a5 w5 a6 w6 a7 w7 a8 w8 a9 w9 a10 w10 a11 w11 a12 w12 a13 w13 a14 w14 a15 w15 a16 w16 a17 w17 z vz p vp r vr h0 h1 x0 x1 x2 x3 x4 x5 x6 x7 x8 x9 x10 x11 x12 o14 o15 s1 s2).2.2.2.2.2.1 = fun y => s1 y + queryPart x0 x4 x11 y := by
  unfold lastRun
  frame_open
  simp (disch := decide) only [↓ View.readCov_skip, ↓ View.readCov_cons_toLoadRect, ↓ View.readCov_fill]
  frame_out
  exact (query_is _ _ _ _)

set_option maxHeartbeats 2000000 in
theorem last_sumK (h0 : ¬cond0_0 i) (h1 : cond0_1 i) : View.canon (lastRun c i a0 w0 a1 w1 a2 w2 a3 w3 a4 w4 a5 w5 a6 w6 a7 w7 a8 w8 a9 w9 a10 w10 a11 w11 a12 w12 a13 w13 a14 w14 a15 w15 a16 w16 a17 w17 z vz p vp r vr h0 h1 x0 x1 x2 x3 x4 x5 x6 x7 x8 x9 x10 x11 x12 o14 o15 s1 s2).2.2.2.2.2.2.1 = fun y => s2 y + keyPart x1 x4 x12 y := by
  unfold lastRun
  frame_open
  simp (disch := decide) only [↓ View.readCov_skip, ↓ View.readCov_cons_toLoadRect, ↓ View.readCov_fill]
  frame_out
  exact (key_is _ _ _ _)

end Cert.InProjBwdIdeal.Hand
-- ==== Proof.InProj.Names.lean ====
module

public import proofs.«01_k».proof.Proof.InProj.Steps
public import proofs.«01_k».proof.Proof.InProj.TileFirst
public import proofs.«01_k».proof.Proof.InProj.TileMid
public import proofs.«01_k».proof.Proof.InProj.TileLast

@[expose] public section

set_option maxRecDepth 16384

noncomputable section

/-! Over the reals, what the points leave is the row-wise gradient, and the sums of its rows so far. -/

namespace Cert.InProjBwdIdeal.Hand

open Cert.InProjBwdIdeal Cert.InProjBwdIdeal.Gen Cert.InProj
open Idealize.ShloMosaic Idealize.ShloMosaic.TcCoe Idealize.SL.Sem

variable (m : (ℓ : Loc nD τ sig) → Buf (Elt Ideal) ℓ) (c : Dev nD)

section At

variable (t : Fin cfg0.N)

/-- What a point leaves and what it adds to the sums. -/
abbrev inAt : Vec Ideal S512x1024 .f32 := inTile (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
abbrev projAt : S1280x1024.Idx → EReal := projPart (iblk m c 0 t) (iblk m c 1 t) (iblk m c 2 t) (iblk m c 3 t) (iblk m c 4 t) (iblk m c 5 t) (iblk m c 7 t) (iblk m c 8 t) (iblk m c 9 t) (iblk m c 11 t) (iblk m c 12 t)
abbrev gainAt : S1x1024.Idx → EReal := gainPart (iblk m c 0 t) (iblk m c 1 t) (iblk m c 2 t) (iblk m c 3 t) (iblk m c 4 t) (iblk m c 5 t) (iblk m c 8 t) (iblk m c 9 t) (iblk m c 10 t) (iblk m c 11 t) (iblk m c 12 t)
abbrev queryAt : S1x512.Idx → EReal := queryPart (iblk m c 0 t) (iblk m c 4 t) (iblk m c 11 t)
abbrev keyAt : S1x128.Idx → EReal := keyPart (iblk m c 1 t) (iblk m c 4 t) (iblk m c 12 t)

end At

/-- A quantity every point adds to, after point `n`. -/
def upTo {ι : Type} (f : Fin cfg0.N → ι → EReal) : ℕ → ι → EReal
  | 0, y => if h : 0 < cfg0.N then f ⟨0, h⟩ y else 0
  | n + 1, y => upTo f n y + if h : n + 1 < cfg0.N then f ⟨n + 1, h⟩ y else 0

theorem upTo_first {ι : Type} (f : Fin cfg0.N → ι → EReal) (t : Fin cfg0.N) (h : t.val = 0) : upTo f t.val = fun y => 0 + f t y := by
  obtain ⟨n, hn⟩ := t
  obtain rfl : n = 0 := h
  funext y
  rw [zero_add]; exact dif_pos hn

theorem upTo_next {ι : Type} (f : Fin cfg0.N → ι → EReal) (t : Fin cfg0.N) (h : ¬t.val = 0) :
    upTo f t.val = fun y => upTo f (t.val - 1) y + f t y := by
  obtain ⟨n, hn⟩ := t
  cases n with
  | zero => exact absurd rfl h
  | succ n => funext y; exact congrArg (upTo f n y + ·) (dif_pos hn)

/-- What the points leave, in closed form; -/
def closedAt (n : ℕ) : Point Ideal where
  inp := if h : n < cfg0.N then inAt m c ⟨n, h⟩ else fun _ => 0
  proj := upTo (projAt m c) n
  gain := upTo (gainAt m c) n
  outQ y := foldQ (fun k => upTo (queryAt m c) n (ix2 0 k)) (y 1)
  outK y := foldK (fun k => upTo (keyAt m c) n (ix2 0 k)) (y 1)
  sumQ := upTo (queryAt m c) n
  sumK := upTo (keyAt m c) n

theorem closed_inp (t : Fin cfg0.N) : (closedAt m c t.val).inp = inAt m c t := dif_pos t.isLt

theorem closed_first (t : Fin cfg0.N) (h : t.val = 0) (h0 : cond0_0 (grid0.coords t)) (h1 : ¬cond0_1 (grid0.coords t)) : FirstIs m c t h0 h1 (closedAt m c t.val) :=
  ⟨(first_in (h0 := h0) (h1 := h1) ..).trans (closed_inp m c t).symm, (first_proj (h0 := h0) (h1 := h1) ..).trans (upTo_first (projAt m c) t h).symm,
    (first_gain (h0 := h0) (h1 := h1) ..).trans (upTo_first (gainAt m c) t h).symm, (first_sumQ (h0 := h0) (h1 := h1) ..).trans (upTo_first (queryAt m c) t h).symm,
    (first_sumK (h0 := h0) (h1 := h1) ..).trans (upTo_first (keyAt m c) t h).symm⟩

theorem closed_middle (t : Fin cfg0.N) (h : ¬t.val = 0) (h0 : ¬cond0_0 (grid0.coords t)) (h1 : ¬cond0_1 (grid0.coords t)) :
    MiddleIs m c t (closedAt m c (t.val - 1)) h0 h1 (closedAt m c t.val) :=
  ⟨(mid_in (h0 := h0) (h1 := h1) ..).trans (closed_inp m c t).symm, (mid_proj (h0 := h0) (h1 := h1) ..).trans (upTo_next (projAt m c) t h).symm,
    (mid_gain (h0 := h0) (h1 := h1) ..).trans (upTo_next (gainAt m c) t h).symm, (mid_sumQ (h0 := h0) (h1 := h1) ..).trans (upTo_next (queryAt m c) t h).symm,
    (mid_sumK (h0 := h0) (h1 := h1) ..).trans (upTo_next (keyAt m c) t h).symm⟩

theorem closed_outQ (t : Fin cfg0.N) (h : ¬t.val = 0) :
    (fun y : S1x128.Idx => foldQ (fun k => (closedAt m c (t.val - 1)).sumQ (ix2 0 k) + queryAt m c t (ix2 0 k)) (y 1)) = (closedAt m c t.val).outQ := by
  show _ = fun y : S1x128.Idx => foldQ (fun k => upTo (queryAt m c) t.val (ix2 0 k)) (y 1)
  rw [upTo_next (queryAt m c) t h]
  rfl
theorem closed_outK (t : Fin cfg0.N) (h : ¬t.val = 0) :
    (fun y : S1x128.Idx => foldK (fun k => (closedAt m c (t.val - 1)).sumK (ix2 0 k) + keyAt m c t (ix2 0 k)) (y 1)) = (closedAt m c t.val).outK := by
  show _ = fun y : S1x128.Idx => foldK (fun k => upTo (keyAt m c) t.val (ix2 0 k)) (y 1)
  rw [upTo_next (keyAt m c) t h]
  rfl

theorem closed_last (t : Fin cfg0.N) (h : ¬t.val = 0) (h0 : ¬cond0_0 (grid0.coords t)) (h1 : cond0_1 (grid0.coords t)) :
    LastIs m c t (closedAt m c (t.val - 1)) h0 h1 (closedAt m c t.val) :=
  ⟨(last_in (h0 := h0) (h1 := h1) ..).trans (closed_inp m c t).symm, (last_proj (h0 := h0) (h1 := h1) ..).trans (upTo_next (projAt m c) t h).symm,
    (last_gain (h0 := h0) (h1 := h1) ..).trans (upTo_next (gainAt m c) t h).symm, (last_outQ (h0 := h0) (h1 := h1) ..).trans (closed_outQ m c t h),
    (last_outK (h0 := h0) (h1 := h1) ..).trans (closed_outK m c t h), (last_sumQ (h0 := h0) (h1 := h1) ..).trans (upTo_next (queryAt m c) t h).symm,
    (last_sumK (h0 := h0) (h1 := h1) ..).trans (upTo_next (keyAt m c) t h).symm⟩

/-- so these arrays are what the points leave. -/
def closed : Left m c where
  after := closedAt m c
  first_is := closed_first m c
  middle_is := closed_middle m c
  last_is := closed_last m c

end Cert.InProjBwdIdeal.Hand
-- ==== Proof.InProj.Arith.lean ====
module

public import proofs.«01_k».proof.Proof.InProj.Spec

@[expose] public section

noncomputable section

/-! The head norms over numbers: the matrix product is the head's mean, and differentiating the norm gives the kernel's formula. -/

namespace Cert.InProj

open Idealize.ShloMosaic Cert.Kit
open Cert.Ffn (eps)

theorem ofBits_64 : Ideal.ofBits .f32 0x42800000#32 = ((64 : ℝ) : EReal) := by
  simp [Ideal.ofBits, Ideal.ieee, -EReal.coe_mul]; norm_num

variable {H : ℕ} (z d g : Fin (64 * H) → EReal) (h : Fin H) (l : Fin 64)

/-- The mean over a head's 64 lanes. -/
def mean (v : Fin (64 * H) → EReal) (h : Fin H) : EReal := Ideal.div (∑ l : Fin 64, v (laneOf h l)) (Ideal.ofBits .f32 0x42800000#32)

theorem seg_heads (v : Fin (64 * H) → EReal) (hv : ∀ k, Num (v k)) : seg heads v (laneOf h l) = mean v h := by
  choose f hf using hv
  obtain rfl : v = fun k => (f k : EReal) := funext hf
  have e0 : ∑ k : Fin (64 * H), ((f k : EReal) - (f k : EReal)) * heads k (laneOf h l) = 0 :=
    Finset.sum_eq_zero fun k _ => by rw [← EReal.coe_sub, sub_self, EReal.coe_zero, zero_mul]
  have ek (k : Fin (64 * H)) : heads k (laneOf h l) = ((if k.val / 64 = h.val then 1 / 64 else 0 : ℝ) : EReal) := by
    unfold heads
    have : (laneOf h l).val / 64 = h.val := by show (64 * h.val + l.val) / 64 = _; omega
    rw [this]
    split <;> simp
  unfold seg mean
  rw [e0, add_zero]
  simp only [ek, ← EReal.coe_mul, Num.sum_coe, ofBits_64]
  rw [Num.div_coe _ (by norm_num)]
  congr 1
  rw [Finset.sum_div]
  symm
  refine Finset.sum_of_injOn (fun l => laneOf h l) (fun a _ b _ e => ?_) (fun _ _ => Finset.mem_coe.2 (Finset.mem_univ _)) (fun k _ hk => ?_) (fun a _ => ?_)
  · have : 64 * h.val + a.val = 64 * h.val + b.val := congrArg Fin.val e
    exact Fin.ext (by omega)
  · rw [if_neg, mul_zero]
    intro e
    refine hk ⟨⟨k.val % 64, by omega⟩, Finset.mem_coe.2 (Finset.mem_univ _), Fin.ext ?_⟩
    show 64 * h.val + k.val % 64 = k.val
    omega
  · rw [if_pos (by show (64 * h.val + a.val) / 64 = _; omega)]
    ring

section Numbers

variable (hz : ∀ k, Num (z k)) (hd : ∀ k, Num (d k)) (hg : ∀ k, Num (g k))

include hz in
theorem under : ∃ a : ℝ, 0 < a ∧ mean (fun k => z k * z k) h + eps = a := by
  choose f hf using hz
  refine ⟨(∑ l : Fin 64, f (laneOf h l) * f (laneOf h l)) / 64 + Num.small, ?_, ?_⟩
  · exact add_pos_of_nonneg_of_pos (div_nonneg (Finset.sum_nonneg fun k _ => mul_self_nonneg _) (by norm_num)) Num.small_pos
  · simp only [mean, hf, ← EReal.coe_mul, Num.sum_coe, eps, ofBits_64, Num.ofBits_small]
    rw [Num.div_coe _ (by norm_num), ← EReal.coe_add]

include hz in
theorem hInv_heads : hInv heads z (laneOf h l) = Ideal.rsqrt (mean (fun k => z k * z k) h + eps) := by
  unfold hInv
  rw [seg_heads h l _ fun k => (hz k).mul (hz k)]

include hz in
theorem hInv_num : Num (hInv heads z (laneOf h l)) := by
  rw [hInv_heads z h l hz]
  obtain ⟨a, ha, e⟩ := under z h hz
  rw [e, Num.rsqrt_coe ha]
  exact Num.coe _

include hz hd hg in
/-- Differentiating the head norm gives the kernel's formula. -/
theorem head_back (s : EReal) (hs : s = Ideal.div ((∑ l : Fin 64, z (laneOf h l) * (d (laneOf h l) * g (laneOf h l)))
      * (Ideal.ofBits .f32 0xBF000000#32 * Ideal.div (Ideal.rsqrt (mean (fun k => z k * z k) h + eps)) (mean (fun k => z k * z k) h + eps)))
      (Ideal.ofBits .f32 0x42800000#32)) :
    d (laneOf h l) * g (laneOf h l) * Ideal.rsqrt (mean (fun k => z k * z k) h + eps) + z (laneOf h l) * s + s * z (laneOf h l)
      = hBack heads d g z (laneOf h l) := by
  unfold hBack
  rw [hInv_heads z h l hz, seg_heads h l _ fun k => ((hd k).mul (hg k)).mul (hz k), hs]
  unfold mean
  have e : ∀ l : Fin 64, z (laneOf h l) * (d (laneOf h l) * g (laneOf h l)) = d (laneOf h l) * g (laneOf h l) * z (laneOf h l) := fun l => mul_comm _ _
  simp only [e]
  obtain ⟨S, hS⟩ : Num (∑ l : Fin 64, d (laneOf h l) * g (laneOf h l) * z (laneOf h l)) := Num.sum fun l => ((hd _).mul (hg _)).mul (hz _)
  obtain ⟨a, ha, ea⟩ := under z h hz
  unfold mean at ea
  rw [hS, ea, Num.rsqrt_coe ha, Num.rsqrt_div ha, Num.ofBits_neg_half, ofBits_64]
  obtain ⟨Z, hZ⟩ := hz (laneOf h l)
  obtain ⟨D, hD⟩ := hd (laneOf h l)
  obtain ⟨G, hG⟩ := hg (laneOf h l)
  rw [hZ, hD, hG]
  simp only [← EReal.coe_mul, Num.div_coe _ (show (64 : ℝ) ≠ 0 by norm_num), ← EReal.coe_add, ← EReal.coe_sub]
  congr 1
  ring

include hz hd hg in
theorem hBack_num : Num (hBack heads d g z (laneOf h l)) := by
  unfold hBack
  rw [seg_heads h l _ fun k => ((hd k).mul (hg k)).mul (hz k)]
  have hi := hInv_num z h l hz
  obtain ⟨S, hS⟩ : Num (∑ l : Fin 64, d (laneOf h l) * g (laneOf h l) * z (laneOf h l)) := Num.sum fun l => ((hd _).mul (hg _)).mul (hz _)
  unfold mean
  rw [hS, ofBits_64, Num.div_coe _ (by norm_num)]
  exact (hi.mul ((hd _).mul (hg _))).sub (((hz _).mul ((hi.mul hi).mul hi)).mul (Num.coe _))

end Numbers

/-- Every lane is a lane of a head. -/
theorem laneOf_all (k : Fin (64 * H)) : ∃ h l, laneOf (n := H) h l = k :=
  ⟨⟨k.val / 64, by have := k.isLt; omega⟩, ⟨k.val % 64, by omega⟩, Fin.ext (by show 64 * (k.val / 64) + k.val % 64 = _; omega)⟩

end Cert.InProj
-- ==== Proof.InProj.Ref.lean ====
module

public import proofs.«01_k».proof.Proof.InProj.Arith
public import proofs.«01_k».proof.Proof.Gen.InProjBwdRefIdeal.Read
public import Idealize.ShloMosaic.Lib.Pointwise
public import Idealize.ShloMosaic.Lib.IdealHost

@[expose] public section

set_option maxRecDepth 16384

noncomputable section

/-! The reference's head norms, entry by entry. -/

namespace Cert.InProjBwdRefIdeal.Hand

open Cert.InProjBwdRefIdeal Cert.InProjBwdRefIdeal.Gen Cert.InProjBwdRefIdeal.Read Cert.InProj Cert.Kit
open Cert.Ffn (rinv normBack eps width)
open Idealize.ShloMosaic Idealize.ShloMosaic.TcCoe Idealize.SL.Sem

variable (x0 : (⟨S4096x512, .f32⟩ : BufTy).Contents (Elt Ideal)) (x1 x2 : (⟨S4096x128, .f32⟩ : BufTy).Contents (Elt Ideal))
  (x3 : (⟨S4096x512, .f32⟩ : BufTy).Contents (Elt Ideal)) (x4 x5 : (⟨S4096x1024, .f32⟩ : BufTy).Contents (Elt Ideal))
  (x6 : (⟨S1x1024, .f32⟩ : BufTy).Contents (Elt Ideal)) (x7 x8 : (⟨S1x64, .f32⟩ : BufTy).Contents (Elt Ideal))
  (x9 : (⟨S1024x1280, .f32⟩ : BufTy).Contents (Elt Ideal)) (r : Fin 4096)

/-- The arguments' rows, and the projection's rows. -/
abbrev DQ : Fin 4096 → Fin 512 → EReal := fun r j => x0 (ix2 r j)
abbrev DK : Fin 4096 → Fin 128 → EReal := fun r j => x1 (ix2 r j)
abbrev DV : Fin 4096 → Fin 128 → EReal := fun r j => x2 (ix2 r j)
abbrev DU : Fin 4096 → Fin 512 → EReal := fun r j => x3 (ix2 r j)
abbrev X : Fin 4096 → Fin 1024 → EReal := fun r k => x4 (ix2 r k)
abbrev DH : Fin 4096 → Fin 1024 → EReal := fun r k => x5 (ix2 r k)
abbrev G : Fin 1024 → EReal := fun k => x6 (ix2 0 k)
abbrev W : Fin 1280 → Fin 1024 → EReal := fun j k => x9 (ix2 k j)
/-- A head's gain, the same for every head. -/
def gains {n : ℕ} (g : (⟨S1x64, .f32⟩ : BufTy).Contents (Elt Ideal)) (j : Fin n) : EReal := g (ix2 0 ⟨j.val % 64, by omega⟩)
abbrev ZQ : Fin 4096 → Fin 512 → EReal := fun r j => val_main_v17 (F := Ideal) x4 x6 x9 (ix2 r ⟨j.val, by omega⟩)
abbrev ZK : Fin 4096 → Fin 128 → EReal := fun r j => val_main_v17 (F := Ideal) x4 x6 x9 (ix2 r ⟨512 + j.val, by omega⟩)

theorem gains_lane {H : ℕ} (g : (⟨S1x64, .f32⟩ : BufTy).Contents (Elt Ideal)) (h : Fin H) (l : Fin 64) : gains g (laneOf h l) = g (ix2 0 l) := by
  unfold gains
  congr 2
  exact Fin.ext (by show (64 * h.val + l.val) % 64 = _; omega)

theorem root : val_main_v8 (F := Ideal) x4 (ix2 r 0) = rinv (X x4 r) := by
  unfold rinv
  pointwise [val_main_v8, val_main_v7, val_main_v6, val_main_v5, val_main_v4, val_main_v3, val_main_v2, val_main_v1, val_main_cst_1, val_main_cst_0, val_main_cst]

theorem scaled (k : Fin 1024) : val_main_v13 (F := Ideal) x4 (ix2 r k) = X x4 r k * rinv (X x4 r) := by
  pointwise [val_main_v13, val_main_v12]
  rw [root]

theorem normed (k : Fin 1024) : val_main_v16 (F := Ideal) x4 x6 (ix2 r k) = X x4 r k * rinv (X x4 r) * G x6 k := by
  pointwise [val_main_v16, val_main_v15, val_main_v14, val_main_v0]
  rw [scaled]

theorem projected (j : Fin 1280) : val_main_v17 (F := Ideal) x4 x6 x9 (ix2 r j) = ∑ k, val_main_v16 (F := Ideal) x4 x6 (ix2 r k) * W x9 j k := by
  unfold W
  pointwise [val_main_v17]

section Query

variable (h : Fin 8) (l : Fin 64)

theorem qRaw : val_main_v19 (F := Ideal) x4 x6 x9 (ix3 r h l) = ZQ x4 x6 x9 r (laneOf h l) := by
  pointwise [val_main_v19, val_main_v18]
  exact congrArg (fun k : Fin 1280 => val_main_v17 (F := Ideal) x4 x6 x9 (ix2 r k)) (Fin.ext (by show h.val * 64 + l.val = 64 * h.val + l.val; omega))
theorem qArg : val_main_v27 (F := Ideal) x4 x6 x9 (ix3 r h 0) = mean (H := 8) (fun k => ZQ x4 x6 x9 r k * ZQ x4 x6 x9 r k) h + eps := by
  unfold mean
  pointwise [val_main_v27, val_main_v26, val_main_v25, val_main_v24, val_main_v23, val_main_v22, val_main_v21, val_main_cst_5, val_main_cst_4, val_main_cst_3]
  simp only [qRaw]
theorem qRoot : val_main_v28 (F := Ideal) x4 x6 x9 (ix3 r h 0) = Ideal.rsqrt (mean (H := 8) (fun k => ZQ x4 x6 x9 r k * ZQ x4 x6 x9 r k) h + eps) := by
  rw [← qArg]
  pointwise [val_main_v28]
theorem qCot : val_main_v88 (F := Ideal) x0 (ix3 r h l) = DQ x0 r (laneOf h l) := by
  pointwise [val_main_v88]
  exact congrArg (fun k : Fin 512 => x0 (ix2 r k)) (Fin.ext (by show h.val * 64 + l.val = 64 * h.val + l.val; omega))
theorem qScaled : val_main_v93 (F := Ideal) x0 x7 (ix3 r h l) = DQ x0 r (laneOf h l) * gains (n := 512) x7 (laneOf h l) := by
  rw [show gains (n := 512) x7 (laneOf h l) = _ from gains_lane x7 h l, ← qCot]
  pointwise [val_main_v93, val_main_v92, val_main_v34, val_main_v20]
theorem qSum : val_main_v104 (F := Ideal) x0 x4 x6 x7 x9 (ix3 r h l)
    = Ideal.div ((∑ l : Fin 64, ZQ x4 x6 x9 r (laneOf h l) * (DQ x0 r (laneOf h l) * gains (n := 512) x7 (laneOf h l)))
      * (Ideal.ofBits .f32 0xBF000000#32 * Ideal.div (Ideal.rsqrt (mean (H := 8) (fun k => ZQ x4 x6 x9 r k * ZQ x4 x6 x9 r k) h + eps)) (mean (H := 8) (fun k => ZQ x4 x6 x9 r k * ZQ x4 x6 x9 r k) h + eps)))
      (Ideal.ofBits .f32 0x42800000#32) := by
  pointwise [val_main_v104, val_main_v103, val_main_v102, val_main_v101, val_main_v100, val_main_v97, val_main_v96, val_main_v95, val_main_v31, val_main_v30,
    val_main_v29, val_main_cst_21, val_main_cst_22, val_main_cst_23, val_main_cst_6]
  simp only [Fin.sum_univ_one, qRaw, qScaled, qRoot, qArg]

theorem qBack (h0 : ∀ k, Num (DQ x0 r k)) (hz : ∀ k, Num (ZQ x4 x6 x9 r k)) (h7 : ∀ i, Num (x7 i)) :
    val_main_v108 (F := Ideal) x0 x4 x6 x7 x9 (ix3 r h l) = hBack heads (DQ x0 r) (gains x7) (ZQ x4 x6 x9 r) (laneOf h l) := by
  pointwise [val_main_v108, val_main_v107, val_main_v106, val_main_v105, val_main_v99, val_main_v98]
  rw [qRaw, qScaled, qRoot, qSum]
  exact head_back (H := 8) (ZQ x4 x6 x9 r) (DQ x0 r) (gains x7) h l hz h0 (fun _ => h7 _) _ rfl

theorem qPart (hz : ∀ k, Num (ZQ x4 x6 x9 r k)) :
    val_main_v89 (F := Ideal) x0 x4 x6 x9 (ix3 r h l) = hGain heads (DQ x0 r) (ZQ x4 x6 x9 r) (laneOf h l) := by
  unfold hGain
  rw [show hInv (n := 512) heads (ZQ x4 x6 x9 r) (laneOf h l) = _ from hInv_heads (H := 8) (ZQ x4 x6 x9 r) h l hz, mul_comm]
  pointwise [val_main_v89, val_main_v33, val_main_v32]
  rw [qRaw, qCot, qRoot]

end Query

section Key

variable (h : Fin 2) (l : Fin 64)

theorem kRaw : val_main_v39 (F := Ideal) x4 x6 x9 (ix3 r h l) = ZK x4 x6 x9 r (laneOf h l) := by
  pointwise [val_main_v39, val_main_v38]
  exact congrArg (fun k : Fin 1280 => val_main_v17 (F := Ideal) x4 x6 x9 (ix2 r k)) (Fin.ext (by show 512 + (h.val * 64 + l.val) = 512 + (64 * h.val + l.val); omega))
theorem kArg : val_main_v47 (F := Ideal) x4 x6 x9 (ix3 r h 0) = mean (H := 2) (fun k => ZK x4 x6 x9 r k * ZK x4 x6 x9 r k) h + eps := by
  unfold mean
  pointwise [val_main_v47, val_main_v46, val_main_v45, val_main_v44, val_main_v43, val_main_v42, val_main_v41, val_main_cst_9, val_main_cst_8, val_main_cst_7]
  simp only [kRaw]
theorem kRoot : val_main_v48 (F := Ideal) x4 x6 x9 (ix3 r h 0) = Ideal.rsqrt (mean (H := 2) (fun k => ZK x4 x6 x9 r k * ZK x4 x6 x9 r k) h + eps) := by
  rw [← kArg]
  pointwise [val_main_v48]
theorem kCot : val_main_v63 (F := Ideal) x1 (ix3 r h l) = DK x1 r (laneOf h l) := by
  pointwise [val_main_v63]
  exact congrArg (fun k : Fin 128 => x1 (ix2 r k)) (Fin.ext (by show h.val * 64 + l.val = 64 * h.val + l.val; omega))
theorem kScaled : val_main_v68 (F := Ideal) x1 x8 (ix3 r h l) = DK x1 r (laneOf h l) * gains (n := 128) x8 (laneOf h l) := by
  rw [show gains (n := 128) x8 (laneOf h l) = _ from gains_lane x8 h l, ← kCot]
  pointwise [val_main_v68, val_main_v67, val_main_v54, val_main_v40]
theorem kSum : val_main_v79 (F := Ideal) x1 x4 x6 x8 x9 (ix3 r h l)
    = Ideal.div ((∑ l : Fin 64, ZK x4 x6 x9 r (laneOf h l) * (DK x1 r (laneOf h l) * gains (n := 128) x8 (laneOf h l)))
      * (Ideal.ofBits .f32 0xBF000000#32 * Ideal.div (Ideal.rsqrt (mean (H := 2) (fun k => ZK x4 x6 x9 r k * ZK x4 x6 x9 r k) h + eps)) (mean (H := 2) (fun k => ZK x4 x6 x9 r k * ZK x4 x6 x9 r k) h + eps)))
      (Ideal.ofBits .f32 0x42800000#32) := by
  pointwise [val_main_v79, val_main_v78, val_main_v77, val_main_v76, val_main_v75, val_main_v72, val_main_v71, val_main_v70, val_main_v51, val_main_v50,
    val_main_v49, val_main_cst_15, val_main_cst_16, val_main_cst_17, val_main_cst_10]
  simp only [Fin.sum_univ_one, kRaw, kScaled, kRoot, kArg]

theorem kBack (h1 : ∀ k, Num (DK x1 r k)) (hz : ∀ k, Num (ZK x4 x6 x9 r k)) (h8 : ∀ i, Num (x8 i)) :
    val_main_v83 (F := Ideal) x1 x4 x6 x8 x9 (ix3 r h l) = hBack heads (DK x1 r) (gains x8) (ZK x4 x6 x9 r) (laneOf h l) := by
  pointwise [val_main_v83, val_main_v82, val_main_v81, val_main_v80, val_main_v74, val_main_v73]
  rw [kRaw, kScaled, kRoot, kSum]
  exact head_back (H := 2) (ZK x4 x6 x9 r) (DK x1 r) (gains x8) h l hz h1 (fun _ => h8 _) _ rfl

theorem kPart (hz : ∀ k, Num (ZK x4 x6 x9 r k)) :
    val_main_v64 (F := Ideal) x1 x4 x6 x9 (ix3 r h l) = hGain heads (DK x1 r) (ZK x4 x6 x9 r) (laneOf h l) := by
  unfold hGain
  rw [show hInv (n := 128) heads (ZK x4 x6 x9 r) (laneOf h l) = _ from hInv_heads (H := 2) (ZK x4 x6 x9 r) h l hz, mul_comm]
  pointwise [val_main_v64, val_main_v53, val_main_v52]
  rw [kRaw, kCot, kRoot]

end Key

end Cert.InProjBwdRefIdeal.Hand
-- ==== Proof.InProj.Host.lean ====
module

public import proofs.«01_k».proof.Proof.Gen.InProjBwdIdeal.Frame.Runs
public import proofs.«01_k».proof.Proof.InProj.Ref
public import proofs.«01_k».proof.Proof.InProj.Arith
public import Idealize.ShloMosaic.Lib.StableHlo.RunRead
public import Idealize.ShloMosaic.Lib.Pipeline.ReadBack

@[expose] public section

set_option maxRecDepth 16384

noncomputable section

/-! What the host hands the launch: the forward projection the reference's own lines compute, the tiled gains, the transposed weight
    and the two matrices that average over a head. -/

namespace Cert.InProjBwdIdeal.Hand

open Cert.InProjBwdIdeal Cert.InProjBwdIdeal.Gen Cert.InProj
open Idealize.ShloMosaic Idealize.ShloMosaic.TcCoe Idealize.ShloMosaic.StableHlo Idealize.SL.Sem
open Cert.InProjBwdRefIdeal.Read

variable (m : (ℓ : Loc nD τ sig) → Buf (Elt Ideal) ℓ) (c : Dev nD)

theorem quot : ∀ i : Fin 512, IntOp.divsi .host (BitVec.ofNat 32 i.val) 64#32 = BitVec.ofNat 32 (i.val / 64) := by decide +kernel

theorem average (i j : ℕ) (hi : i < 512) (hj : j < 512) :
    Ideal.div (FloatOps.uitofp (F := Ideal) FTy.f32 (IntOp.cmpi .eq (IntOp.divsi .host (BitVec.ofNat 32 i) 64#32) (IntOp.divsi .host (BitVec.ofNat 32 j) 64#32)))
      (Ideal.ofBits FTy.f32 1115684864#32) = if i / 64 = j / 64 then ((1 / 64 : ℝ) : EReal) else 0 := by
  rw [quot ⟨i, hi⟩, quot ⟨j, hj⟩, ofBits_64, Ideal.div_coe (by norm_num)]
  have e : IntOp.cmpi .eq (BitVec.ofNat 32 (i / 64)) (BitVec.ofNat 32 (j / 64)) = if i / 64 = j / 64 then 1#1 else 0#1 := by
    by_cases h : i / 64 = j / 64
    · rw [if_pos h, h]; simp [IntOp.cmpi]
    · have : BitVec.ofNat 32 (i / 64) ≠ BitVec.ofNat 32 (j / 64) := fun he => h (by
        have := congrArg BitVec.toNat he
        simp only [BitVec.toNat_ofNat] at this
        omega)
      rw [if_neg h]
      show BitVec.ofBool (BitVec.ofNat 32 (i / 64) == BitVec.ofNat 32 (j / 64)) = 0#1
      rw [beq_false_of_ne this]; rfl
  show FloatOps.uitofp (F := Ideal) FTy.f32 (IntOp.cmpi .eq (BitVec.ofNat 32 (i / 64)) (BitVec.ofNat 32 (j / 64))) * _ = _
  rw [e]
  by_cases h : i / 64 = j / 64
  · simp [h, FloatOps.uitofp, -EReal.coe_mul]
  · simp [h, FloatOps.uitofp, -EReal.coe_mul]

/-- The forward projection's first lanes. -/
theorem host_projection (r : Fin 4096) (j : Fin 640) : (V m c main_v21 : Vec Ideal S4096x640 .f32) (ix2 r j)
    = val_main_v17 (F := Ideal) (m ((c : Thread nD τ).loc main_arg4)) (m ((c : Thread nD τ).loc main_arg6)) (m ((c : Thread nD τ).loc main_arg9)) (ix2 r ⟨j.val, by omega⟩) := by
  have e : (V m c main_v20 : Vec Ideal S4096x1280 .f32)
      = val_main_v17 (F := Ideal) (m ((c : Thread nD τ).loc main_arg4)) (m ((c : Thread nD τ).loc main_arg6)) (m ((c : Thread nD τ).loc main_arg9)) := by
    unfold V
    after_reads_simp
    unfold val_main_v17 val_main_v16 val_main_v15 val_main_v14 val_main_v13 val_main_v12 val_main_v8 val_main_v7 val_main_v6 val_main_v5 val_main_v4 val_main_v3 val_main_v2 val_main_v1 val_main_v0
    rfl
  have e1 : (V m c main_v21 : Vec Ideal S4096x640 .f32) = extractStridedSlice S4096x640 ![0, 0] (V m c main_v20 : Vec Ideal S4096x1280 .f32) slices_S4096x1280_S4096x640_0_0 := by
    unfold V
    after_reads_simp
  rw [e1, e]
  pointwise

/-- The query's gain, once per head. -/
theorem host_gainQ (j : Fin 512) : (V m c main_v2 : Vec Ideal S1x512 .f32) (ix2 0 j) = Cert.InProjBwdRefIdeal.Hand.gains (m ((c : Thread nD τ).loc main_arg7)) j := by
  unfold V Cert.InProjBwdRefIdeal.Hand.gains
  after_reads_simp
  pointwise

/-- The key's gain, once per head. -/
theorem host_gainK (j : Fin 128) : (V m c main_v5 : Vec Ideal S1x128 .f32) (ix2 0 j) = Cert.InProjBwdRefIdeal.Hand.gains (m ((c : Thread nD τ).loc main_arg8)) j := by
  unfold V Cert.InProjBwdRefIdeal.Hand.gains
  after_reads_simp
  pointwise

theorem host_wide (r : Fin 4096) (j : Fin 512) : (V m c main_v22 : Vec Ideal S4096x512 .bf16) (ix2 r j) = (m ((c : Thread nD τ).loc main_arg3) : Vec Ideal S4096x512 .f32) (ix2 r j) := by
  unfold V
  after_reads_simp
  pointwise

/-- The transposed weight. -/
theorem host_weight (j : Fin 1280) (k : Fin 1024) : (V m c main_v24 : Vec Ideal S1280x1024 .bf16) (ix2 j k) = (m ((c : Thread nD τ).loc main_arg9) : Vec Ideal S1024x1280 .f32) (ix2 k j) := by
  unfold V
  after_reads_simp
  pointwise

/-- The matrix that averages over a query head. -/
theorem host_headsQ (i j : Fin 512) : (V m c main_v36 : Vec Ideal S512x512 .bf16) (ix2 i j) = heads i j := by
  unfold V
  after_reads_simp
  pointwise
  exact average _ _ i.isLt j.isLt

/-- The matrix that averages over a key head. -/
theorem host_headsK (i j : Fin 128) : (V m c main_v48 : Vec Ideal S128x128 .bf16) (ix2 i j) = heads i j := by
  unfold V
  after_reads_simp
  pointwise
  exact average _ _ (i.isLt.trans (by decide)) (j.isLt.trans (by decide))

end Cert.InProjBwdIdeal.Hand
-- ==== Proof.InProj.RefOut.lean ====
module

public import proofs.«01_k».proof.Proof.InProj.Ref
public import Idealize.ShloMosaic.Lib.KernelVsHost

@[expose] public section

set_option maxRecDepth 16384

noncomputable section

/-! The reference's results, entry by entry, are the row-wise gradient. -/

namespace Cert.InProjBwdRefIdeal.Hand

open Cert.InProjBwdRefIdeal Cert.InProjBwdRefIdeal.Gen Cert.InProjBwdRefIdeal.Read Cert.InProj Cert.Kit
open Cert.Ffn (rinv normBack eps width)
open Idealize.ShloMosaic Idealize.ShloMosaic.TcCoe Idealize.SL.Sem

variable (x0 : (⟨S4096x512, .f32⟩ : BufTy).Contents (Elt Ideal)) (x1 x2 : (⟨S4096x128, .f32⟩ : BufTy).Contents (Elt Ideal))
  (x3 : (⟨S4096x512, .f32⟩ : BufTy).Contents (Elt Ideal)) (x4 x5 : (⟨S4096x1024, .f32⟩ : BufTy).Contents (Elt Ideal))
  (x6 : (⟨S1x1024, .f32⟩ : BufTy).Contents (Elt Ideal)) (x7 x8 : (⟨S1x64, .f32⟩ : BufTy).Contents (Elt Ideal))
  (x9 : (⟨S1024x1280, .f32⟩ : BufTy).Contents (Elt Ideal)) (r : Fin 4096)

/-- Columns set among zero columns. -/
theorem pad_cols {w lo hi : ℕ} (x : (⟨2, ![4096, w]⟩ : Shape).Idx → EReal) (v : S_.Idx → EReal) (hu : 0 < S_.numel)
    (h : (⟨2, ![4096, w]⟩ : Shape).Pads ![0, lo] ![0, hi] ![0, 0] S4096x1280) (hv : v (Shape.Idx.first hu) = 0) (j : Fin 1280) :
    pad S4096x1280 ![0, lo] ![0, hi] ![0, 0] x v h hu (ix2 r j) = if c : lo ≤ j.val ∧ j.val - lo < w then x (ix2 r ⟨j.val - lo, c.2⟩) else 0 := by
  split
  · rename_i c
    refine pad_apply_of_inside _ _ _ _ _ _ _ _ _ fun a => ?_
    fin_cases a
    · show r.val = 0 + r.val * (0 + 1)
      omega
    · show j.val = lo + (j.val - lo) * (0 + 1)
      omega
  · rename_i c
    refine (pad_apply_of_not_inside _ _ _ _ _ _ _ _ (1 : Fin 2) ?_).trans hv
    show ¬(lo ≤ j.val ∧ (j.val - lo) % (0 + 1) = 0 ∧ (j.val - lo) / (0 + 1) < w)
    rw [zero_add, Nat.div_one, Nat.mod_one]
    exact fun e => c ⟨e.1, e.2.2⟩

theorem qFlat (h : Fin 8) (l : Fin 64) : val_main_v110 (F := Ideal) x0 x4 x6 x7 x9 (ix2 r (laneOf h l : Fin (64 * 8))) = val_main_v108 (F := Ideal) x0 x4 x6 x7 x9 (ix3 r h l) := by
  pointwise [val_main_v110]
  congr 2
  · exact Fin.ext (by show (64 * h.val + l.val) / 64 = _; omega)
  · exact Fin.ext (by show (64 * h.val + l.val) % 64 = _; omega)
theorem kFlat (h : Fin 2) (l : Fin 64) : val_main_v85 (F := Ideal) x1 x4 x6 x8 x9 (ix2 r (laneOf h l : Fin (64 * 2))) = val_main_v83 (F := Ideal) x1 x4 x6 x8 x9 (ix3 r h l) := by
  pointwise [val_main_v85]
  congr 2
  · exact Fin.ext (by show (64 * h.val + l.val) / 64 = _; omega)
  · exact Fin.ext (by show (64 * h.val + l.val) % 64 = _; omega)

/-- The projection's cotangent, a row. -/
def Z : Fin 1280 → EReal :=
  joined (hBack heads (DQ x0 r) (gains x7) (ZQ x4 x6 x9 r)) (hBack heads (DK x1 r) (gains x8) (ZK x4 x6 x9 r)) (DV x2 r) (DU x3 r)

section Finite

variable (h0 : ∀ i, Num (x0 i)) (h1 : ∀ i, Num (x1 i)) (h2 : ∀ i, Num (x2 i)) (h3 : ∀ i, Num (x3 i)) (h4 : ∀ i, Num (x4 i)) (h5 : ∀ i, Num (x5 i))
  (h6 : ∀ i, Num (x6 i)) (h7 : ∀ i, Num (x7 i)) (h8 : ∀ i, Num (x8 i)) (h9 : ∀ i, Num (x9 i))

include h4 in
/-- The root's argument is a positive number. -/
theorem under_root : ∃ a : ℝ, 0 < a ∧ Ideal.div (∑ k, X x4 r k * X x4 r k) width + eps = a := by
  choose f hf using fun k => h4 (ix2 r k)
  refine ⟨(∑ k, f k * f k) / 1024 + Num.small, ?_, ?_⟩
  · exact add_pos_of_nonneg_of_pos (div_nonneg (Finset.sum_nonneg fun k _ => mul_self_nonneg _) (by norm_num)) Num.small_pos
  · simp only [X, hf, ← EReal.coe_mul, Num.sum_coe, width, eps, Num.ofBits_1024, Num.ofBits_small]
    rw [Num.div_coe _ (by norm_num), ← EReal.coe_add]

include h4 in
theorem rinv_num : Num (rinv (X x4 r)) := by
  obtain ⟨a, ha, e⟩ := under_root x4 r h4
  unfold rinv
  rw [e, Num.rsqrt_coe ha]
  exact Num.coe _

include h4 in
theorem rinv_cube : Ideal.div (rinv (X x4 r)) (Ideal.div (∑ k, X x4 r k * X x4 r k) width + eps)
    = rinv (X x4 r) * rinv (X x4 r) * rinv (X x4 r) := by
  obtain ⟨a, ha, e⟩ := under_root x4 r h4
  unfold rinv
  rw [e, Num.rsqrt_coe ha, Num.rsqrt_div ha, EReal.coe_mul, EReal.coe_mul]

include h4 h6 h9 in
theorem projected_num (j : Fin 1280) : Num (val_main_v17 (F := Ideal) x4 x6 x9 (ix2 r j)) := by
  rw [projected]
  exact Num.sum fun k => (by rw [normed]; exact ((h4 _).mul (rinv_num x4 r h4)).mul (h6 _) : Num _).mul (h9 _)

include h0 h4 h6 h7 h9 in
theorem qCols (j : Fin 512) : val_main_v110 (F := Ideal) x0 x4 x6 x7 x9 (ix2 r j) = hBack heads (DQ x0 r) (gains x7) (ZQ x4 x6 x9 r) j := by
  obtain ⟨h, l, rfl⟩ := laneOf_all (H := 8) j
  exact (qFlat x0 x4 x6 x7 x9 r h l).trans (qBack x0 x4 x6 x7 x9 r h l (fun _ => h0 _) (fun _ => projected_num x4 x6 x9 r h4 h6 h9 _) h7)
include h1 h4 h6 h8 h9 in
theorem kCols (j : Fin 128) : val_main_v85 (F := Ideal) x1 x4 x6 x8 x9 (ix2 r j) = hBack heads (DK x1 r) (gains x8) (ZK x4 x6 x9 r) j := by
  obtain ⟨h, l, rfl⟩ := laneOf_all (H := 2) j
  exact (kFlat x1 x4 x6 x8 x9 r h l).trans (kBack x1 x4 x6 x8 x9 r h l (fun _ => h1 _) (fun _ => projected_num x4 x6 x9 r h4 h6 h9 _) h8)

include h0 h1 h4 h6 h7 h8 h9 in
theorem cot (j : Fin 1280) : val_main_v112 (F := Ideal) x0 x1 x2 x3 x4 x6 x7 x8 x9 (ix2 r j) = Z x0 x1 x2 x3 x4 x6 x7 x8 x9 r j := by
  have e60 := pad_cols r x3 (val_main_cst_11 (F := Ideal)) h_S_ pads_S4096x512_S4096x1280_000_76800 (Ideal.ofBits_zero .f32) j
  have e61 := pad_cols r x2 (val_main_cst_12 (F := Ideal)) h_S_ pads_S4096x128_S4096x1280_000_6405120 (Ideal.ofBits_zero .f32) j
  have e86 := pad_cols r (val_main_v85 (F := Ideal) x1 x4 x6 x8 x9) (val_main_cst_18 (F := Ideal)) h_S_ pads_S4096x128_S4096x1280_000_5126400 (Ideal.ofBits_zero .f32) j
  have e111 := pad_cols r (val_main_v110 (F := Ideal) x0 x4 x6 x7 x9) (val_main_cst_24 (F := Ideal)) h_S_ pads_S4096x512_S4096x1280_000_07680 (Ideal.ofBits_zero .f32) j
  have e : val_main_v112 (F := Ideal) x0 x1 x2 x3 x4 x6 x7 x8 x9 (ix2 r j) = val_main_v60 (F := Ideal) x3 (ix2 r j) + val_main_v61 (F := Ideal) x2 (ix2 r j)
      + val_main_v86 (F := Ideal) x1 x4 x6 x8 x9 (ix2 r j) + val_main_v111 (F := Ideal) x0 x4 x6 x7 x9 (ix2 r j) := rfl
  rw [e]
  unfold val_main_v60 val_main_v61 val_main_v86 val_main_v111
  rw [e60, e61, e86, e111]
  simp only [kCols x1 x4 x6 x8 x9 r h1 h4 h6 h8 h9, qCols x0 x4 x6 x7 x9 r h0 h4 h6 h7 h9]
  unfold Z joined
  have hj := j.isLt
  by_cases c0 : j.val < 512
  · rw [dif_neg (by omega), dif_neg (by omega), dif_neg (by omega), dif_pos (by omega), dif_pos c0, zero_add, zero_add, zero_add]
    rfl
  by_cases c1 : j.val < 640
  · rw [dif_neg (by omega), dif_neg (by omega), dif_pos (by omega), dif_neg (by omega), dif_neg c0, dif_pos c1, zero_add, zero_add, add_zero]
  by_cases c2 : j.val < 768
  · rw [dif_neg (by omega), dif_pos (by omega), dif_neg (by omega), dif_neg (by omega), dif_neg c0, dif_neg c1, dif_pos c2, zero_add, add_zero, add_zero]
  · rw [dif_pos (by omega), dif_neg (by omega), dif_neg (by omega), dif_neg (by omega), dif_neg c0, dif_neg c1, dif_neg c2, add_zero, add_zero, add_zero]

include h0 h1 h2 h3 h4 h6 h7 h8 h9 in
theorem cot_num (j : Fin 1280) : Num (Z x0 x1 x2 x3 x4 x6 x7 x8 x9 r j) := by
  unfold Z joined
  split
  · rename_i c
    obtain ⟨h, l, e⟩ := laneOf_all (H := 8) ⟨j.val, c⟩
    rw [← e]
    exact hBack_num (H := 8) (ZQ x4 x6 x9 r) (DQ x0 r) (gains x7) h l (fun _ => projected_num x4 x6 x9 r h4 h6 h9 _) (fun _ => h0 _) (fun _ => h7 _)
  split
  · rename_i c0 c
    obtain ⟨h, l, e⟩ := laneOf_all (H := 2) ⟨j.val - 512, by omega⟩
    rw [← e]
    exact hBack_num (H := 2) (ZK x4 x6 x9 r) (DK x1 r) (gains x8) h l (fun _ => projected_num x4 x6 x9 r h4 h6 h9 _) (fun _ => h1 _) (fun _ => h8 _)
  split
  · exact h2 _
  · exact h3 _

include h0 h1 h4 h6 h7 h8 h9 in
theorem back (k : Fin 1024) : val_main_v115 (F := Ideal) x0 x1 x2 x3 x4 x6 x7 x8 x9 (ix2 r k) = dNormed (Z x0 x1 x2 x3 x4 x6 x7 x8 x9 r) (W x9) k := by
  unfold dNormed
  pointwise [val_main_v115]
  exact Finset.sum_congr rfl fun j _ => by rw [cot x0 x1 x2 x3 x4 x6 x7 x8 x9 r h0 h1 h4 h6 h7 h8 h9]

include h0 h1 h2 h3 h4 h6 h7 h8 h9 in
theorem back_num (k : Fin 1024) : Num (dNormed (Z x0 x1 x2 x3 x4 x6 x7 x8 x9 r) (W x9) k) :=
  Num.sum fun j => (cot_num x0 x1 x2 x3 x4 x6 x7 x8 x9 r h0 h1 h2 h3 h4 h6 h7 h8 h9 j).mul (h9 _)

include h0 h1 h4 h6 h7 h8 h9 in
theorem projection (j : Fin 1280) (k : Fin 1024) :
    val_main_v138 (F := Ideal) x0 x1 x2 x3 x4 x6 x7 x8 x9 (ix2 j k) = ∑ r, dProj (Z x0 x1 x2 x3 x4 x6 x7 x8 x9 r) (X x4 r) (G x6) j k := by
  unfold dProj
  pointwise [val_main_v138, val_main_v114, val_main_v113]
  exact Finset.sum_congr rfl fun r _ => by rw [cot x0 x1 x2 x3 x4 x6 x7 x8 x9 r h0 h1 h4 h6 h7 h8 h9, normed]

include h0 h1 h4 h6 h7 h8 h9 in
theorem gained (k : Fin 1024) :
    val_main_v137 (F := Ideal) x0 x1 x2 x3 x4 x6 x7 x8 x9 (ix2 0 k) = ∑ r, dGain (Z x0 x1 x2 x3 x4 x6 x7 x8 x9 r) (W x9) (X x4 r) k := by
  pointwise [val_main_v137, val_main_v121, val_main_v118, val_main_v117, val_main_v116, val_main_cst_25, val_main_cst_26]
  rw [Fin.sum_univ_one]
  refine Finset.sum_congr rfl fun r _ => ?_
  unfold dGain
  rw [scaled, back x0 x1 x2 x3 x4 x6 x7 x8 x9 r h0 h1 h4 h6 h7 h8 h9 k, mul_comm]

include h0 h1 h2 h3 h4 h5 h6 h7 h8 h9 in
theorem entered (k : Fin 1024) : val_main_v136 (F := Ideal) x0 x1 x2 x3 x4 x5 x6 x7 x8 x9 (ix2 r k)
    = dInput (Z x0 x1 x2 x3 x4 x6 x7 x8 x9 r) (W x9) (DH x5 r) (X x4 r) (G x6) k := by
  unfold dInput normBack
  pointwise [val_main_v136, val_main_v135, val_main_v134, val_main_v133, val_main_v132, val_main_v131, val_main_v130, val_main_v129, val_main_v128,
    val_main_v127, val_main_v126, val_main_v125, val_main_v124, val_main_v123, val_main_v122, val_main_v120, val_main_v119, val_main_v14, val_main_v0,
    val_main_v11, val_main_v10, val_main_v9, val_main_v7, val_main_v6, val_main_v5, val_main_v4, val_main_v3, val_main_v2, val_main_v1,
    val_main_cst_29, val_main_cst_28, val_main_cst_27, val_main_cst_2, val_main_cst_1, val_main_cst_0, val_main_cst]
  simp only [Fin.sum_univ_one, root]
  have e : Ideal.div (∑ x, x4 (ix2 r x) * x4 (ix2 r x)) (Ideal.ofBits FTy.f32 1149239296#32) + Ideal.ofBits FTy.f32 897988541#32
      = Ideal.div (∑ k, X x4 r k * X x4 r k) width + eps := rfl
  have b (x : Fin 1024) := back x0 x1 x2 x3 x4 x6 x7 x8 x9 r h0 h1 h4 h6 h7 h8 h9 x
  simp only [e, rinv_cube x4 r h4, b]
  have n (x : Fin 1024) := back_num x0 x1 x2 x3 x4 x6 x7 x8 x9 r h0 h1 h2 h3 h4 h6 h7 h8 h9 x
  refine (Num.norm_back (h5 _) (n k) (h6 (ix2 0 k)) (h4 _) (rinv_num x4 r h4) (Num.sum fun x => (h4 (ix2 r x)).mul ((n x).mul (h6 (ix2 0 x))))).trans ?_
  rw [Finset.sum_congr rfl fun x _ => mul_comm (x4 (ix2 r x)) (dNormed (Z x0 x1 x2 x3 x4 x6 x7 x8 x9 r) (W x9) x * x6 (ix2 0 x))]

end Finite

/-- A sum over the first two axes. -/
theorem sum_two {a b n : ℕ} (f : (⟨3, ![a, b, n]⟩ : Shape).Idx → EReal) (v : S_.Idx → EReal) (hu : 0 < S_.numel)
    (hr : (⟨3, ![a, b, n]⟩ : Shape).ReducesTo [0, 1] ⟨1, ![n]⟩) (hv : v (Shape.Idx.first hu) = 0) (l : Fin n) :
    (Host.reduceAdd (F := Ideal) (φ := .f32) f v hr hu : (⟨1, ![n]⟩ : Shape).Idx → EReal) (ix1 l) = ∑ r : Fin a, ∑ h : Fin b, f (ix3 r h l) := by
  unfold Host.reduceAdd
  rw [Ideal.hostReduceAdd_def]
  unfold Ideal.hostReduceAdd
  rw [hv, zero_add, ← Fintype.sum_prod_type' (fun r h => f (ix3 r h l))]
  symm
  refine Finset.sum_bij (fun p _ => ix3 p.1 p.2 l) (fun p _ => Finset.mem_filter.2 ⟨Finset.mem_univ _, by funext a; fin_cases a; rfl⟩)
    (fun p _ q _ e => Prod.ext (congrFun e 0) (congrFun e 1)) (fun i hi => ⟨(i 0, i 1), Finset.mem_univ _, ?_⟩) (fun _ _ => rfl)
  have h := congrFun (Finset.mem_filter.1 hi).2 0
  funext a
  fin_cases a
  · rfl
  · rfl
  · exact h.symm

theorem qTile (h4 : ∀ i, Num (x4 i)) (h6 : ∀ i, Num (x6 i)) (h9 : ∀ i, Num (x9 i)) (j : Fin 128) :
    val_main_v141 (F := Ideal) x0 x4 x6 x9 (ix2 0 j) = foldQ (fun i => ∑ r, hGain heads (DQ x0 r) (ZQ x4 x6 x9 r) i) j := by
  have e : val_main_v141 (F := Ideal) x0 x4 x6 x9 (ix2 0 j) = val_main_v94 (F := Ideal) x0 x4 x6 x9 (ix1 (inHead j)) := by
    pointwise [val_main_v141, val_main_v140, val_main_v139, val_main_v109]
    rfl
  rw [e]
  unfold val_main_v94
  refine (sum_two _ _ h_S_ _ (Ideal.ofBits_zero .f32) _).trans ?_
  rw [Fin.sum_univ_one, Fin.sum_univ_one]
  have e1 : val_main_v91 (F := Ideal) x0 x4 x6 x9 (ix3 0 0 (inHead j)) = val_main_v90 (F := Ideal) x0 x4 x6 x9 (ix1 (inHead j)) := by
    pointwise [val_main_v91]
  rw [e1]
  unfold val_main_v90
  refine (sum_two _ _ h_S_ _ (Ideal.ofBits_zero .f32) _).trans ?_
  unfold foldQ
  rw [Finset.sum_comm]
  exact Finset.sum_congr rfl fun h _ => Finset.sum_congr rfl fun r _ => qPart x0 x4 x6 x9 r h _ fun _ => projected_num x4 x6 x9 r h4 h6 h9 _

theorem kTile (h4 : ∀ i, Num (x4 i)) (h6 : ∀ i, Num (x6 i)) (h9 : ∀ i, Num (x9 i)) (j : Fin 128) :
    val_main_v144 (F := Ideal) x1 x4 x6 x9 (ix2 0 j) = foldK (fun i => ∑ r, hGain heads (DK x1 r) (ZK x4 x6 x9 r) i) j := by
  have e : val_main_v144 (F := Ideal) x1 x4 x6 x9 (ix2 0 j) = val_main_v69 (F := Ideal) x1 x4 x6 x9 (ix1 (inHead j)) := by
    pointwise [val_main_v144, val_main_v143, val_main_v142, val_main_v84]
    rfl
  rw [e]
  unfold val_main_v69
  refine (sum_two _ _ h_S_ _ (Ideal.ofBits_zero .f32) _).trans ?_
  rw [Fin.sum_univ_one, Fin.sum_univ_one]
  have e1 : val_main_v66 (F := Ideal) x1 x4 x6 x9 (ix3 0 0 (inHead j)) = val_main_v65 (F := Ideal) x1 x4 x6 x9 (ix1 (inHead j)) := by
    pointwise [val_main_v66]
  rw [e1]
  unfold val_main_v65
  refine (sum_two _ _ h_S_ _ (Ideal.ofBits_zero .f32) _).trans ?_
  unfold foldK
  rw [Finset.sum_comm]
  exact Finset.sum_congr rfl fun h _ => Finset.sum_congr rfl fun r _ => kPart x1 x4 x6 x9 r h _ fun _ => projected_num x4 x6 x9 r h4 h6 h9 _

end Cert.InProjBwdRefIdeal.Hand
-- ==== Proof.InProj.Value.lean ====
module

public import proofs.«01_k».proof.Proof.InProj.Names
public import proofs.«01_k».proof.Proof.InProj.Frame
public import proofs.«01_k».proof.Proof.InProj.Host
public import proofs.«01_k».proof.Proof.InProj.RefOut
public import Idealize.ShloMosaic.Lib.Pipeline.Value
public import Idealize.ShloMosaic.Lib.Pipeline.ValueKit
public import Idealize.ShloMosaic.Lib.Claim

@[expose] public section

set_option maxRecDepth 16384

noncomputable section

/-! The input projection's gradients, whole arrays: every entry is the row-wise gradient at its row, or the sum of the rows' parts. -/

namespace Cert.InProjBwdIdeal.Hand

open Cert.InProjBwdIdeal Cert.InProjBwdIdeal.Gen Cert.InProj
open Idealize.ShloMosaic Idealize.ShloMosaic.TcCoe Idealize.SL.Sem
open Idealize.ShloMosaic.Pipeline (Dat)
open Cert.InProjBwdRefIdeal.Hand (Z ZQ ZK DQ DK DV DU X DH G W gains)

variable (m : (ℓ : Loc nD τ sig) → Buf (Elt Ideal) ℓ) (ρ : Dev nD → PrngReg)

theorem places : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0]
    ∧ win0_6.index t = ![t.val, 0] ∧ win0_7.index t = ![0, 0] ∧ win0_8.index t = ![0, 0] ∧ win0_9.index t = ![0, 0] ∧ win0_10.index t = ![0, 0] ∧ win0_11.index t = ![0, 0]
    ∧ win0_12.index t = ![0, 0] ∧ win0_13.index t = ![t.val, 0] ∧ win0_14.index t = ![0, 0] ∧ win0_15.index t = ![0, 0] ∧ win0_16.index t = ![0, 0] ∧ win0_17.index t = ![0, 0] :=
  (by decide +kernel : ∀ t : Fin grid0.N, _)

section Rows

variable (c : Dev nD)

/-- The arguments. -/
abbrev arr0 := m ((c : Thread nD τ).loc main_arg0)
abbrev arr1 := m ((c : Thread nD τ).loc main_arg1)
abbrev arr2 := m ((c : Thread nD τ).loc main_arg2)
abbrev arr3 := m ((c : Thread nD τ).loc main_arg3)
abbrev arr4 := m ((c : Thread nD τ).loc main_arg4)
abbrev arr5 := m ((c : Thread nD τ).loc main_arg5)
abbrev arr6 := m ((c : Thread nD τ).loc main_arg6)
abbrev arr7 := m ((c : Thread nD τ).loc main_arg7)
abbrev arr8 := m ((c : Thread nD τ).loc main_arg8)
abbrev arr9 := m ((c : Thread nD τ).loc main_arg9)

/-- Row `i` of the tile at point `t`, among all rows. -/
def row (t : Fin cfg0.N) (i : Fin 512) : Fin 4096 :=
  ⟨512 * t.val + i.val, by have := lt_of_lt_of_eq t.isLt (show cfg0.N = 8 from N_0); omega⟩

section Blocks

variable (t : Fin cfg0.N) (i : Fin 512)

theorem rows0 : (fun k => (iblk m c 0 t : Vec Ideal S512x512 .f32) (ix2 i k)) = DQ (arr0 m c) (row t i) := by
  funext k; unfold row; blk_ext [iblk, V, places t]
theorem rows1 : (fun k => (iblk m c 1 t : Vec Ideal S512x128 .f32) (ix2 i k)) = DK (arr1 m c) (row t i) := by
  funext k; unfold row; blk_ext [iblk, V, places t]
theorem rows2 : (fun k => (iblk m c 2 t : Vec Ideal S512x128 .f32) (ix2 i k)) = DV (arr2 m c) (row t i) := by
  funext k; unfold row; blk_ext [iblk, V, places t]
theorem rows3 : (fun k => (iblk m c 3 t : Vec Ideal S512x512 .bf16) (ix2 i k)) = DU (arr3 m c) (row t i) := by
  funext k
  refine Eq.trans ?_ (host_wide m c (row t i) k)
  unfold row; blk_ext [iblk, places t]
theorem rows4Q : lanesQ (iblk m c 4 t) i = ZQ (arr4 m c) (arr6 m c) (arr9 m c) (row t i) := by
  funext j
  refine Eq.trans ?_ (host_projection m c (row t i) ⟨j.val, by omega⟩)
  unfold row lanesQ; blk_ext [iblk, places t]
theorem rows4K : lanesK (iblk m c 4 t) i = ZK (arr4 m c) (arr6 m c) (arr9 m c) (row t i) := by
  funext j
  refine Eq.trans ?_ (host_projection m c (row t i) ⟨512 + j.val, by omega⟩)
  unfold row lanesK; blk_ext [iblk, places t]
theorem rows5 : (fun k => (iblk m c 5 t : Vec Ideal S512x1024 .f32) (ix2 i k)) = X (arr4 m c) (row t i) := by
  funext k; unfold row; blk_ext [iblk, V, places t]
theorem rows6 : (fun k => (iblk m c 6 t : Vec Ideal S512x1024 .f32) (ix2 i k)) = DH (arr5 m c) (row t i) := by
  funext k; unfold row; blk_ext [iblk, V, places t]
theorem rows7 : (fun k => (iblk m c 7 t : Vec Ideal S1x1024 .f32) (ix2 0 k)) = G (arr6 m c) := by
  funext k; blk_ext [iblk, V, places t]
theorem rows8 : (fun k => (iblk m c 8 t : Vec Ideal S1x512 .f32) (ix2 0 k)) = gains (arr7 m c) := by
  funext k
  refine Eq.trans ?_ (host_gainQ m c k)
  blk_ext [iblk, places t]
theorem rows9 : (fun k => (iblk m c 9 t : Vec Ideal S1x128 .f32) (ix2 0 k)) = gains (arr8 m c) := by
  funext k
  refine Eq.trans ?_ (host_gainK m c k)
  blk_ext [iblk, places t]
theorem rows10 : (fun j k => (iblk m c 10 t : Vec Ideal S1280x1024 .bf16) (ix2 j k)) = W (arr9 m c) := by
  funext j k
  refine Eq.trans ?_ (host_weight m c j k)
  blk_ext [iblk, places t]
theorem rows11 : (fun k j => (iblk m c 11 t : Vec Ideal S512x512 .bf16) (ix2 k j)) = heads := by
  funext k j
  refine Eq.trans ?_ (host_headsQ m c k j)
  blk_ext [iblk, places t]
theorem rows12 : (fun k j => (iblk m c 12 t : Vec Ideal S128x128 .bf16) (ix2 k j)) = heads := by
  funext k j
  refine Eq.trans ?_ (host_headsK m c k j)
  blk_ext [iblk, places t]

/-- The projection's cotangent at a row. -/
theorem cot_at : cotRow (iblk m c 0 t) (iblk m c 1 t) (iblk m c 2 t) (iblk m c 3 t) (iblk m c 4 t) (iblk m c 8 t) (iblk m c 9 t) (iblk m c 11 t) (iblk m c 12 t) i = Z (arr0 m c) (arr1 m c) (arr2 m c) (arr3 m c) (arr4 m c) (arr6 m c) (arr7 m c) (arr8 m c) (arr9 m c) (row t i) := by
  unfold cotRow
  rw [rows0, rows1, rows2, rows3, rows4Q, rows4K, rows8, rows9, rows11, rows12]
  rfl

theorem in_at (k : Fin 1024) : inAt m c t (ix2 i k) = dInput (Z (arr0 m c) (arr1 m c) (arr2 m c) (arr3 m c) (arr4 m c) (arr6 m c) (arr7 m c) (arr8 m c) (arr9 m c) (row t i)) (W (arr9 m c)) (DH (arr5 m c) (row t i)) (X (arr4 m c) (row t i)) (G (arr6 m c)) k := by
  show dInput (cotRow (iblk m c 0 t) (iblk m c 1 t) (iblk m c 2 t) (iblk m c 3 t) (iblk m c 4 t) (iblk m c 8 t) (iblk m c 9 t) (iblk m c 11 t) (iblk m c 12 t) i) (fun j k => (iblk m c 10 t : Vec Ideal S1280x1024 .bf16) (ix2 j k)) (fun k => (iblk m c 6 t : Vec Ideal S512x1024 .f32) (ix2 i k)) (fun k => (iblk m c 5 t : Vec Ideal S512x1024 .f32) (ix2 i k)) (fun k => (iblk m c 7 t : Vec Ideal S1x1024 .f32) (ix2 0 k)) k = _
  rw [cot_at, rows10, rows6, rows5, rows7]

end Blocks

theorem proj_at (t : Fin cfg0.N) (y : S1280x1024.Idx) :
    projAt m c t y = ∑ i : Fin 512, dProj (Z (arr0 m c) (arr1 m c) (arr2 m c) (arr3 m c) (arr4 m c) (arr6 m c) (arr7 m c) (arr8 m c) (arr9 m c) (row t i)) (X (arr4 m c) (row t i)) (G (arr6 m c)) (y 0) (y 1) := by
  unfold projAt projPart
  refine Finset.sum_congr rfl fun i _ => ?_
  rw [cot_at, rows5, rows7]
theorem gain_at (t : Fin cfg0.N) (y : S1x1024.Idx) :
    gainAt m c t y = ∑ i : Fin 512, dGain (Z (arr0 m c) (arr1 m c) (arr2 m c) (arr3 m c) (arr4 m c) (arr6 m c) (arr7 m c) (arr8 m c) (arr9 m c) (row t i)) (W (arr9 m c)) (X (arr4 m c) (row t i)) (y 1) := by
  unfold gainAt gainPart
  refine Finset.sum_congr rfl fun i _ => ?_
  rw [cot_at, rows5, rows10]
theorem query_at (t : Fin cfg0.N) (y : S1x512.Idx) :
    queryAt m c t y = ∑ i : Fin 512, hGain heads (DQ (arr0 m c) (row t i)) (ZQ (arr4 m c) (arr6 m c) (arr9 m c) (row t i)) (y 1) := by
  unfold queryAt queryPart
  refine Finset.sum_congr rfl fun i _ => ?_
  rw [rows0, rows4Q, rows11]
theorem key_at (t : Fin cfg0.N) (y : S1x128.Idx) :
    keyAt m c t y = ∑ i : Fin 512, hGain heads (DK (arr1 m c) (row t i)) (ZK (arr4 m c) (arr6 m c) (arr9 m c) (row t i)) (y 1) := by
  unfold keyAt keyPart
  refine Finset.sum_congr rfl fun i _ => ?_
  rw [rows1, rows4K, rows12]

theorem upTo_sum {ι : Type} (f : Fin cfg0.N → ι → EReal) (n : ℕ) (y : ι) :
    upTo f n y = ∑ k ∈ Finset.range (n + 1), if h : k < cfg0.N then f ⟨k, h⟩ y else 0 := by
  induction n with
  | zero => simp [upTo]
  | succ n ih => rw [Finset.sum_range_succ, ← ih]; rfl

/-- The sum over the points of the sums over each point's rows is the sum over all rows. -/
theorem upTo_rows {ι : Type} (f : Fin cfg0.N → ι → EReal) (H : Fin 4096 → ι → EReal) (h : ∀ t y, f t y = ∑ i : Fin 512, H (row t i) y) (y : ι) :
    upTo f 7 y = ∑ r, H r y := by
  rw [upTo_sum, Finset.sum_range, Fin.sum_univ_tiles 8 512 rfl]
  refine Finset.sum_congr rfl fun k _ => ?_
  rw [dif_pos (show k.val < cfg0.N by rw [show cfg0.N = 8 from N_0]; exact k.isLt), h]
  refine Finset.sum_congr rfl fun i _ => congrArg (H · y) (Fin.ext ?_)
  dsimp only [row]
  omega

/-- The results as functions of the arguments' rows and the forward projection. -/
def inOut : Vec Ideal S4096x1024 .f32 := fun y =>
  dInput (Z (arr0 m c) (arr1 m c) (arr2 m c) (arr3 m c) (arr4 m c) (arr6 m c) (arr7 m c) (arr8 m c) (arr9 m c) (y 0)) (W (arr9 m c)) (DH (arr5 m c) (y 0)) (X (arr4 m c) (y 0)) (G (arr6 m c)) (y 1)
def projOut : Vec Ideal S1280x1024 .f32 := fun y => ∑ r : Fin 4096, dProj (Z (arr0 m c) (arr1 m c) (arr2 m c) (arr3 m c) (arr4 m c) (arr6 m c) (arr7 m c) (arr8 m c) (arr9 m c) r) (X (arr4 m c) r) (G (arr6 m c)) (y 0) (y 1)
def gainOut : Vec Ideal S1x1024 .f32 := fun y => ∑ r : Fin 4096, dGain (Z (arr0 m c) (arr1 m c) (arr2 m c) (arr3 m c) (arr4 m c) (arr6 m c) (arr7 m c) (arr8 m c) (arr9 m c) r) (W (arr9 m c)) (X (arr4 m c) r) (y 1)
def queryOut : Vec Ideal S1x128 .f32 := fun y =>
  foldQ (fun i => ∑ r : Fin 4096, hGain heads (DQ (arr0 m c) r) (ZQ (arr4 m c) (arr6 m c) (arr9 m c) r) i) (y 1)
def keyOut : Vec Ideal S1x128 .f32 := fun y =>
  foldK (fun i => ∑ r : Fin 4096, hGain heads (DK (arr1 m c) r) (ZK (arr4 m c) (arr6 m c) (arr9 m c) r) i) (y 1)

theorem tile_at (t : Fin cfg0.N) (y : S512x1024.Idx) : inAt m c t y = inOut m c (ix2 (row t (y 0)) (y 1)) := by
  idx_vars y
  exact in_at m c t y0 y1

theorem final13 : (dats m (closed m) 0 c).arrAt 13 cfg0.N = inOut m c := by
  refine (dats m (closed m) 0 c).arrAt_eq_of_covers 13 _ (by decide +kernel) fun t _ y => ?_
  rw [(afterOut m (closed m) c t).1]
  refine (congrFun (closed_inp m c t) y).trans ((tile_at m c t y).trans ?_)
  unfold row
  blk_ext [places t]

/-- The last point. -/
def final : Fin cfg0.N := ⟨7, by rw [show cfg0.N = 8 from N_0]; omega⟩

theorem final14 : (dats m (closed m) 0 c).arrAt 14 cfg0.N = projOut m c := by
  refine (dats m (closed m) 0 c).arrAt_eq_of_after_last 14 final (by decide +kernel) _ fun j => ?_
  rw [(afterOut m (closed m) c final).2.1]
  refine (upTo_rows (projAt m c) (fun r y => dProj (Z (arr0 m c) (arr1 m c) (arr2 m c) (arr3 m c) (arr4 m c) (arr6 m c) (arr7 m c) (arr8 m c) (arr9 m c) r) (X (arr4 m c) r) (G (arr6 m c)) (y 0) (y 1)) (proj_at m c) j).trans ?_
  unfold projOut
  blk_ext [places final]
theorem final15 : (dats m (closed m) 0 c).arrAt 15 cfg0.N = gainOut m c := by
  refine (dats m (closed m) 0 c).arrAt_eq_of_after_last 15 final (by decide +kernel) _ fun j => ?_
  rw [(afterOut m (closed m) c final).2.2]
  refine (upTo_rows (gainAt m c) (fun r y => dGain (Z (arr0 m c) (arr1 m c) (arr2 m c) (arr3 m c) (arr4 m c) (arr6 m c) (arr7 m c) (arr8 m c) (arr9 m c) r) (W (arr9 m c)) (X (arr4 m c) r) (y 1)) (gain_at m c) j).trans ?_
  unfold gainOut
  blk_ext [places final]

theorem query_all : (fun i => upTo (queryAt m c) 7 (ix2 0 i)) = fun i => ∑ r : Fin 4096, hGain heads (DQ (arr0 m c) r) (ZQ (arr4 m c) (arr6 m c) (arr9 m c) r) i :=
  funext fun i => upTo_rows (queryAt m c) (fun r y => hGain heads (DQ (arr0 m c) r) (ZQ (arr4 m c) (arr6 m c) (arr9 m c) r) (y 1)) (query_at m c) (ix2 0 i)
theorem key_all : (fun i => upTo (keyAt m c) 7 (ix2 0 i)) = fun i => ∑ r : Fin 4096, hGain heads (DK (arr1 m c) r) (ZK (arr4 m c) (arr6 m c) (arr9 m c) r) i :=
  funext fun i => upTo_rows (keyAt m c) (fun r y => hGain heads (DK (arr1 m c) r) (ZK (arr4 m c) (arr6 m c) (arr9 m c) r) (y 1)) (key_at m c) (ix2 0 i)

theorem final16 : (dats m (closed m) 0 c).arrAt 16 cfg0.N = queryOut m c := by
  refine (dats m (closed m) 0 c).arrAt_eq_of_after_last 16 final (by decide +kernel) _ fun j => ?_
  rw [(afterGains m (closed m) c final).1]
  show foldQ (fun i => upTo (queryAt m c) 7 (ix2 0 i)) (j 1) = _
  rw [query_all]
  unfold queryOut
  blk_ext [places final]
theorem final17 : (dats m (closed m) 0 c).arrAt 17 cfg0.N = keyOut m c := by
  refine (dats m (closed m) 0 c).arrAt_eq_of_after_last 17 final (by decide +kernel) _ fun j => ?_
  rw [(afterGains m (closed m) c final).2]
  show foldK (fun i => upTo (keyAt m c) 7 (ix2 0 i)) (j 1) = _
  rw [key_all]
  unfold keyOut
  blk_ext [places final]

end Rows

end Cert.InProjBwdIdeal.Hand
-- ==== Proof.InProj.Claim.lean ====
module

public import proofs.«01_k».proof.Defs
public import proofs.«01_k».proof.Proof.InProj.Value
public import proofs.«01_k».proof.Proof.Gen.Pre_inproj_finite

@[expose] public section

set_option maxRecDepth 16384

noncomputable section

/-! The input projection's gradients: the kernel's results are the reference's. -/

namespace Cert.InProjBwdIdeal.Hand

open Cert.InProjBwdIdeal Cert.InProjBwdIdeal.Gen Cert.InProj Cert.Kit
open Idealize.ShloMosaic Idealize.ShloMosaic.TcCoe Idealize.SL.Sem
open Cert.InProjBwdRefIdeal.Read (val_main_v136 val_main_v137 val_main_v138 val_main_v141 val_main_v144)

variable (m : (ℓ : Loc nD τ sig) → Buf (Elt Ideal) ℓ) (c : Dev nD)

/-- The precondition says every argument entry is a number. -/
theorem numbers (h : Cert.Pre_InProjBwdIdeal_inproj_finite m) : (∀ i, Num (arr0 m c i)) ∧ (∀ i, Num (arr1 m c i)) ∧ (∀ i, Num (arr2 m c i)) ∧ (∀ i, Num (arr3 m c i)) ∧ (∀ i, Num (arr4 m c i)) ∧ (∀ i, Num (arr5 m c i)) ∧ (∀ i, Num (arr6 m c i)) ∧ (∀ i, Num (arr7 m c i)) ∧ (∀ i, Num (arr8 m c i)) ∧ (∀ i, Num (arr9 m c i)) := by
  have e := congrFun (h c) (fun a => a.elim0)
  haveI : Subsingleton (Shape.Idx Cert.Pre_inproj_finite.S_) := ⟨fun a b => funext fun i => i.elim0⟩
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨Num.of_all _ _ (fun _ => rfl) _ _ _ _ e0,
    Num.of_all _ _ (fun _ => rfl) _ _ _ _ e1,
    Num.of_all _ _ (fun _ => rfl) _ _ _ _ e2,
    Num.of_all _ _ (fun _ => rfl) _ _ _ _ e3,
    Num.of_all _ _ (fun _ => rfl) _ _ _ _ e4,
    Num.of_all _ _ (fun _ => rfl) _ _ _ _ e5,
    Num.of_all _ _ (fun _ => rfl) _ _ _ _ e6,
    Num.of_all _ _ (fun _ => rfl) _ _ _ _ e7,
    Num.of_all _ _ (fun _ => rfl) _ _ _ _ e8,
    Num.of_all _ _ (fun _ => rfl) _ _ _ _ e9⟩

section Finite

variable (h : Cert.Pre_InProjBwdIdeal_inproj_finite m)

include h

theorem out0 : inOut m c = val_main_v136 (F := Ideal) (arr0 m c) (arr1 m c) (arr2 m c) (arr3 m c) (arr4 m c) (arr5 m c) (arr6 m c) (arr7 m c) (arr8 m c) (arr9 m c) := by
  obtain ⟨h0, h1, h2, h3, h4, h5, h6, h7, h8, h9⟩ := numbers m c h
  funext y
  idx_vars y
  exact (Cert.InProjBwdRefIdeal.Hand.entered (arr0 m c) (arr1 m c) (arr2 m c) (arr3 m c) (arr4 m c) (arr5 m c) (arr6 m c) (arr7 m c) (arr8 m c) (arr9 m c) y0 h0 h1 h2 h3 h4 h5 h6 h7 h8 h9 y1).symm

theorem out1 : projOut m c = val_main_v138 (F := Ideal) (arr0 m c) (arr1 m c) (arr2 m c) (arr3 m c) (arr4 m c) (arr6 m c) (arr7 m c) (arr8 m c) (arr9 m c) := by
  obtain ⟨h0, h1, h2, h3, h4, h5, h6, h7, h8, h9⟩ := numbers m c h
  funext y
  idx_vars y
  exact (Cert.InProjBwdRefIdeal.Hand.projection (arr0 m c) (arr1 m c) (arr2 m c) (arr3 m c) (arr4 m c) (arr6 m c) (arr7 m c) (arr8 m c) (arr9 m c) h0 h1 h4 h6 h7 h8 h9 y0 y1).symm

theorem out2 : gainOut m c = val_main_v137 (F := Ideal) (arr0 m c) (arr1 m c) (arr2 m c) (arr3 m c) (arr4 m c) (arr6 m c) (arr7 m c) (arr8 m c) (arr9 m c) := by
  obtain ⟨h0, h1, h2, h3, h4, h5, h6, h7, h8, h9⟩ := numbers m c h
  funext y
  idx_vars y
  obtain rfl : y0 = 0 := Subsingleton.elim _ _
  exact (Cert.InProjBwdRefIdeal.Hand.gained (arr0 m c) (arr1 m c) (arr2 m c) (arr3 m c) (arr4 m c) (arr6 m c) (arr7 m c) (arr8 m c) (arr9 m c) h0 h1 h4 h6 h7 h8 h9 y1).symm

theorem out3 : queryOut m c = val_main_v141 (F := Ideal) (arr0 m c) (arr4 m c) (arr6 m c) (arr9 m c) := by
  obtain ⟨h0, h1, h2, h3, h4, h5, h6, h7, h8, h9⟩ := numbers m c h
  funext y
  idx_vars y
  obtain rfl : y0 = 0 := Subsingleton.elim _ _
  exact (Cert.InProjBwdRefIdeal.Hand.qTile (arr0 m c) (arr4 m c) (arr6 m c) (arr9 m c) h4 h6 h9 y1).symm

theorem out4 : keyOut m c = val_main_v144 (F := Ideal) (arr1 m c) (arr4 m c) (arr6 m c) (arr9 m c) := by
  obtain ⟨h0, h1, h2, h3, h4, h5, h6, h7, h8, h9⟩ := numbers m c h
  funext y
  idx_vars y
  obtain rfl : y0 = 0 := Subsingleton.elim _ _
  exact (Cert.InProjBwdRefIdeal.Hand.kTile (arr1 m c) (arr4 m c) (arr6 m c) (arr9 m c) h4 h6 h9 y1).symm

end Finite

/-- The kernel's run ends with the five results so, and the arguments as they were. -/
theorem results (ρ : Dev nD → PrngReg) : θ_run defs (onTc (τ := τ) (main (F := Ideal))) ⟨m, fun _ => 0, ρ⟩ (fun r => ∀ c : Dev nD,
      r.2.mem ((c.tc : Thread nD τ).loc main_v49_0) = inOut m c
      ∧ r.2.mem ((c.tc : Thread nD τ).loc main_v49_1) = projOut m c
      ∧ r.2.mem ((c.tc : Thread nD τ).loc main_v49_2) = gainOut m c
      ∧ r.2.mem ((c.tc : Thread nD τ).loc main_v49_3) = queryOut m c
      ∧ r.2.mem ((c.tc : Thread nD τ).loc main_v49_4) = keyOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ?_) (θ_run_and (run_main m ρ (closed m)) (kept m ρ (closed m)))
  obtain ⟨h, k⟩ := h
  exact ⟨((h c).1 13).trans (final13 m c),
    ((h c).1 14).trans (final14 m c),
    ((h c).1 15).trans (final15 m c),
    ((h c).1 16).trans (final16 m c),
    ((h c).1 17).trans (final17 m c), k c⟩

/-- The reference runs, and leaves its arguments and every counter as they were. -/
theorem referenceFrame : Cert.quiescent_InProjBwdRefIdeal := fun m g _ =>
  (θ_run _ _ _).mono (fun r h => ⟨fun c => (h c).2.2.2.2.2, sem_eq_zero_of_no_sems (by decide) _⟩) (Cert.InProjBwdRefIdeal.Value.run m g)

/-- From any numbers the kernel's five results are the reference's. -/
theorem value : Cert.algebraic_InProjBwdIdeal_InProjBwdRefIdeal_pre_inproj_finite := by
  intro m g m' g' h agree
  refine ⟨inOut m, projOut m, gainOut m, queryOut m, keyOut m, results m g, ?_⟩
  refine (θ_run _ _ _).mono (fun r k c => ?_) (Cert.InProjBwdRefIdeal.Value.run m' g')
  obtain ⟨e0, e1, e2, e3, e4, e5, e6, e7, e8, e9⟩ := agree c
  have e0 : StableHlo.launchContents m' c (Proc.devRef .tc Cert.InProjBwdRefIdeal.main_arg0) = arr0 m c := e0
  have e1 : StableHlo.launchContents m' c (Proc.devRef .tc Cert.InProjBwdRefIdeal.main_arg1) = arr1 m c := e1
  have e2 : StableHlo.launchContents m' c (Proc.devRef .tc Cert.InProjBwdRefIdeal.main_arg2) = arr2 m c := e2
  have e3 : StableHlo.launchContents m' c (Proc.devRef .tc Cert.InProjBwdRefIdeal.main_arg3) = arr3 m c := e3
  have e4 : StableHlo.launchContents m' c (Proc.devRef .tc Cert.InProjBwdRefIdeal.main_arg4) = arr4 m c := e4
  have e5 : StableHlo.launchContents m' c (Proc.devRef .tc Cert.InProjBwdRefIdeal.main_arg5) = arr5 m c := e5
  have e6 : StableHlo.launchContents m' c (Proc.devRef .tc Cert.InProjBwdRefIdeal.main_arg6) = arr6 m c := e6
  have e7 : StableHlo.launchContents m' c (Proc.devRef .tc Cert.InProjBwdRefIdeal.main_arg7) = arr7 m c := e7
  have e8 : StableHlo.launchContents m' c (Proc.devRef .tc Cert.InProjBwdRefIdeal.main_arg8) = arr8 m c := e8
  have e9 : StableHlo.launchContents m' c (Proc.devRef .tc Cert.InProjBwdRefIdeal.main_arg9) = arr9 m c := e9
  obtain ⟨k0, k1, k2, k3, k4, k5⟩ := k c
  refine ⟨k0.trans ((Cert.InProjBwdRefIdeal.Read.val_main_v136_eq _).trans ?_), k1.trans ((Cert.InProjBwdRefIdeal.Read.val_main_v138_eq _).trans ?_),
    k2.trans ((Cert.InProjBwdRefIdeal.Read.val_main_v137_eq _).trans ?_), k3.trans ((Cert.InProjBwdRefIdeal.Read.val_main_v141_eq _).trans ?_),
    k4.trans ((Cert.InProjBwdRefIdeal.Read.val_main_v144_eq _).trans ?_), k5⟩
  · rw [e0, e1, e2, e3, e4, e5, e6, e7, e8, e9]; exact (out0 m c h).symm
  · rw [e0, e1, e2, e3, e4, e6, e7, e8, e9]; exact (out1 m c h).symm
  · rw [e0, e1, e2, e3, e4, e6, e7, e8, e9]; exact (out2 m c h).symm
  · rw [e0, e4, e6, e9]; exact (out3 m c h).symm
  · rw [e1, e4, e6, e9]; exact (out4 m c h).symm

end Cert.InProjBwdIdeal.Hand
-- ==== Proof.Ple.Runs.lean ====
module

public import proofs.«01_k».proof.Proof.Gen.PleBwdIdeal.Frame.RunA
public import proofs.«01_k».proof.Proof.Gen.PleBwdIdeal.Frame.RunB
public import proofs.«01_k».proof.Proof.Gen.PleBwdIdeal.Frame.RunC

@[expose] public section

set_option maxRecDepth 16384

noncomputable section

/-! The embedding call's body over any float values: its runs at a point's own buffers, and what it means that given arrays are what the
    launch's points leave. -/

namespace Cert.PleBwdIdeal.Hand

open Cert.PleBwdIdeal Cert.PleBwdIdeal.Gen Idealize.ShloMosaic Idealize.ShloMosaic.TcCoe Idealize.SL.Sem

variable {F : FTy → Type} [FloatOps F]

section Runs

variable (c : Dev nD) (t : Fin cfg0.N) (b0 : Vec F S512x1024 .f32) (b1 : Vec F S2816x1024 .bf16) (b2 : Vec F S512x256 .f32) (b3 : Vec F S512x1024 .f32) (b4 : Vec F S1x1024 .f32) (b5 : Vec F S1024x1024 .bf16) (b6 : Vec F S8x256x128 .bf16)
  (o7 : Vec F S1x128 .f32) (o9 : Vec F S1024x1024 .f32) (o10 : Vec F S8x256x128 .f32) (o11 : Vec F S1x1024 .f32) (f0 f1 : FVec F S4096x2816 .bf16)

/-- The body's run at the first point, at the point's own buffers; -/
abbrev runFirst (hc0 : cond0_0 (grid0.coords t)) (hc1 : cond0_1 (grid0.coords t)) := kernelRun0_A c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) hc0 hc1 b0 b1 b2 b3 b4 b5 b6 f0 f1
/-- at a point that is neither the first nor among the last two; -/
abbrev runMid (hc0 : ¬cond0_0 (grid0.coords t)) (hc1 : cond0_1 (grid0.coords t)) := kernelRun0_B c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) hc0 hc1 b0 b1 b2 b3 b4 b5 b6 o7 o9 o10 o11 f0 f1
/-- and at the last two, which start no transfer. -/
abbrev runLast (hc0 : ¬cond0_0 (grid0.coords t)) (hc1 : ¬cond0_1 (grid0.coords t)) := kernelRun0_C c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) hc0 hc1 b0 b1 b2 b3 b4 b5 b6 o7 o9 o10 o11 f0 f1

end Runs

/-- What one point leaves in the five outputs' buffers: the loss, the tile of the gradient, and the sums for the gate's weights, the
    embedding's weights and the gain. -/
structure Five (F : FTy → Type) where
  loss : Vec F S1x128 .f32
  inp : Vec F S512x1024 .f32
  pg : Vec F S1024x1024 .f32
  pp : Vec F S8x256x128 .f32
  gain : Vec F S1x1024 .f32

/-- What lists of stores leave, one list per output. -/
def fiveOf (L7 : List (View.Piece (Elt F) S1x128 .f32)) (L8 : List (View.Piece (Elt F) S512x1024 .f32)) (L9 : List (View.Piece (Elt F) S1024x1024 .f32)) (L10 : List (View.Piece (Elt F) S8x256x128 .f32)) (L11 : List (View.Piece (Elt F) S1x1024 .f32)) : Five F :=
  ⟨View.canon L7, View.canon L8, View.canon L9, View.canon L10, View.canon L11⟩

theorem fiveOf_apart {s : Five F} {L7 : List (View.Piece (Elt F) S1x128 .f32)} {L8 : List (View.Piece (Elt F) S512x1024 .f32)} {L9 : List (View.Piece (Elt F) S1024x1024 .f32)} {L10 : List (View.Piece (Elt F) S8x256x128 .f32)} {L11 : List (View.Piece (Elt F) S1x1024 .f32)} (h : fiveOf L7 L8 L9 L10 L11 = s) :
    View.canon L7 = s.loss ∧ View.canon L8 = s.inp ∧ View.canon L9 = s.pg ∧ View.canon L10 = s.pp ∧ View.canon L11 = s.gain := by
  subst h
  exact ⟨rfl, rfl, rfl, rfl, rfl⟩

theorem fiveOf_congr {L7 : List (View.Piece (Elt F) S1x128 .f32)} {L8 : List (View.Piece (Elt F) S512x1024 .f32)} {L9 : List (View.Piece (Elt F) S1024x1024 .f32)} {L10 : List (View.Piece (Elt F) S8x256x128 .f32)} {L11 : List (View.Piece (Elt F) S1x1024 .f32)} {a b d e f}
    (h7 : View.canon L7 = a) (h8 : View.canon L8 = b) (h9 : View.canon L9 = d) (h10 : View.canon L10 = e) (h11 : View.canon L11 = f) : fiveOf L7 L8 L9 L10 L11 = ⟨a, b, d, e, f⟩ := by
  subst h7 h8 h9 h10 h11; rfl

variable (m : (ℓ : Loc nD τ sig) → Buf (Elt F) ℓ) (c : Dev nD)

section Point

variable (t : Fin cfg0.N)

/-- The three runs at a point, from the point's blocks and the sums so far. -/
abbrev first (hc0 : cond0_0 (grid0.coords t)) (hc1 : cond0_1 (grid0.coords t)) := (runFirst c t (iblk m c 0 t) (iblk m c 1 t) (iblk m c 2 t) (iblk m c 3 t) (iblk m c 4 t) (iblk m c 5 t) (iblk m c 6 t) (V m c main_v3) (V m c main_v4) hc0 hc1)
abbrev middle (o : Five F) (hc0 : ¬cond0_0 (grid0.coords t)) (hc1 : cond0_1 (grid0.coords t)) := (runMid c t (iblk m c 0 t) (iblk m c 1 t) (iblk m c 2 t) (iblk m c 3 t) (iblk m c 4 t) (iblk m c 5 t) (iblk m c 6 t) o.loss o.pg o.pp o.gain (V m c main_v3) (V m c main_v4) hc0 hc1)
abbrev last (o : Five F) (hc0 : ¬cond0_0 (grid0.coords t)) (hc1 : ¬cond0_1 (grid0.coords t)) := (runLast c t (iblk m c 0 t) (iblk m c 1 t) (iblk m c 2 t) (iblk m c 3 t) (iblk m c 4 t) (iblk m c 5 t) (iblk m c 6 t) o.loss o.pg o.pp o.gain (V m c main_v3) (V m c main_v4) hc0 hc1)

/-- What they leave. -/
def firstFive (hc0 : cond0_0 (grid0.coords t)) (hc1 : cond0_1 (grid0.coords t)) : Five F := fiveOf (first m c t hc0 hc1).1 (first m c t hc0 hc1).2.1 (first m c t hc0 hc1).2.2.1 (first m c t hc0 hc1).2.2.2.1 (first m c t hc0 hc1).2.2.2.2.1
def middleFive (o : Five F) (hc0 : ¬cond0_0 (grid0.coords t)) (hc1 : cond0_1 (grid0.coords t)) : Five F := fiveOf (middle m c t o hc0 hc1).1 (middle m c t o hc0 hc1).2.1 (middle m c t o hc0 hc1).2.2.1 (middle m c t o hc0 hc1).2.2.2.1 (middle m c t o hc0 hc1).2.2.2.2.1
def lastFive (o : Five F) (hc0 : ¬cond0_0 (grid0.coords t)) (hc1 : ¬cond0_1 (grid0.coords t)) : Five F := fiveOf (last m c t o hc0 hc1).1 (last m c t o hc0 hc1).2.1 (last m c t o hc0 hc1).2.2.1 (last m c t o hc0 hc1).2.2.2.1 (last m c t o hc0 hc1).2.2.2.2.1
theorem first_apart {s : Five F} (hc0 hc1) (h : firstFive m c t hc0 hc1 = s) : View.canon (first m c t hc0 hc1).1 = s.loss ∧ View.canon (first m c t hc0 hc1).2.1 = s.inp ∧ View.canon (first m c t hc0 hc1).2.2.1 = s.pg ∧ View.canon (first m c t hc0 hc1).2.2.2.1 = s.pp ∧ View.canon (first m c t hc0 hc1).2.2.2.2.1 = s.gain := by
  unfold firstFive at h; exact fiveOf_apart h
theorem middle_apart {s : Five F} (o : Five F) (hc0 hc1) (h : middleFive m c t o hc0 hc1 = s) : View.canon (middle m c t o hc0 hc1).1 = s.loss ∧ View.canon (middle m c t o hc0 hc1).2.1 = s.inp ∧ View.canon (middle m c t o hc0 hc1).2.2.1 = s.pg ∧ View.canon (middle m c t o hc0 hc1).2.2.2.1 = s.pp ∧ View.canon (middle m c t o hc0 hc1).2.2.2.2.1 = s.gain := by
  unfold middleFive at h; exact fiveOf_apart h
theorem last_apart {s : Five F} (o : Five F) (hc0 hc1) (h : lastFive m c t o hc0 hc1 = s) : View.canon (last m c t o hc0 hc1).1 = s.loss ∧ View.canon (last m c t o hc0 hc1).2.1 = s.inp ∧ View.canon (last m c t o hc0 hc1).2.2.1 = s.pg ∧ View.canon (last m c t o hc0 hc1).2.2.2.1 = s.pp ∧ View.canon (last m c t o hc0 hc1).2.2.2.2.1 = s.gain := by
  unfold lastFive at h; exact fiveOf_apart h

end Point

/-- Arrays that are what the points leave, point after point. -/
structure Left where
  at' : ℕ → Five F
  first_eq : ∀ t : Fin cfg0.N, t.val = 0 → ∀ hc0 hc1, firstFive m c t hc0 hc1 = at' t.val
  middle_eq : ∀ t : Fin cfg0.N, ¬t.val = 0 → ∀ hc0 hc1, middleFive m c t (at' (t.val - 1)) hc0 hc1 = at' t.val
  last_eq : ∀ t : Fin cfg0.N, ¬t.val = 0 → ∀ hc0 hc1, lastFive m c t (at' (t.val - 1)) hc0 hc1 = at' t.val

open Classical in
/-- What a point leaves, given what the point before it left. -/
def step (t : Fin cfg0.N) (o : Five F) : Five F :=
  if h0 : cond0_0 (grid0.coords t) then
    if h1 : cond0_1 (grid0.coords t) then firstFive m c t h0 h1 else o
  else if h1 : cond0_1 (grid0.coords t) then middleFive m c t o h0 h1 else lastFive m c t o h0 h1

/-- What the points leave, one after another. -/
def steps : ℕ → Five F
  | 0 => if h : 0 < cfg0.N then step m c ⟨0, h⟩ (fiveOf [] [] [] [] []) else fiveOf [] [] [] [] []
  | n + 1 => if h : n + 1 < cfg0.N then step m c ⟨n + 1, h⟩ (steps n) else steps n

theorem steps_next (t : Fin cfg0.N) (h : ¬t.val = 0) : steps m c t.val = step m c t (steps m c (t.val - 1)) := by
  obtain ⟨n, hn⟩ := t
  cases n with
  | zero => exact absurd rfl h
  | succ n => exact dif_pos hn

theorem steps_first (t : Fin cfg0.N) (h : t.val = 0) : steps m c t.val = step m c t (fiveOf [] [] [] [] []) := by
  obtain ⟨n, hn⟩ := t
  obtain rfl : n = 0 := h
  exact dif_pos hn

/-- So such arrays always exist. -/
def left : Left m c where
  at' := steps m c
  first_eq t h hc0 hc1 := by rw [steps_first m c t h]; unfold step; rw [dif_pos hc0, dif_pos hc1]
  middle_eq t h hc0 hc1 := by rw [steps_next m c t h]; unfold step; rw [dif_neg hc0, dif_pos hc1]
  last_eq t h hc0 hc1 := by rw [steps_next m c t h]; unfold step; rw [dif_neg hc0, dif_neg hc1]

end Cert.PleBwdIdeal.Hand
-- ==== Proof.Ple.Frame.lean ====
module

public import proofs.«01_k».proof.Proof.Ple.Runs
public import proofs.«01_k».proof.Proof.Kit.Owns
public import Idealize.ShloMosaic.Lib.Claim

@[expose] public section

set_option maxRecDepth 16384

noncomputable section

/-! The embedding call's launch: what every window holds after every point, the body's triple at each, and the run. -/

namespace Cert.PleBwdIdeal.Hand

open Cert.PleBwdIdeal Cert.PleBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The machine's resources. -/
abbrev Res (F : FTy → Type) [FloatOps F] := MT nD τ sig Unit (Elt F) ℕ (Pipeline.UD sig nD τ) ℕ

variable (m : (ℓ : Loc nD τ sig) → Buf (Elt F) ℓ) (ρ : Dev nD → PrngReg)

/-- The region's invariant before point `k`: the generator register, and both rings. -/
def inv (c : Dev nD) (k : ℕ) : sProp (Res F) :=
  iprop((∃ r, prngReg c r) ∗ ringAt0_0 c (V m c main_v3) k ∗ ringAt0_1 c (V m c main_v4) k)

/-- What the launch is run with: the arrays as the host left them, every input's buffer at its block, every output's at its tile or at the
    sum over the points so far. -/
def dats (L : ∀ c, Left m c) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => ((L c).at' t.val).loss
    | ⟨8, _⟩ => ((L c).at' t.val).inp
    | ⟨9, _⟩ => ((L c).at' t.val).pg
    | ⟨10, _⟩ => ((L c).at' t.val).pp
    | ⟨11, _⟩ => ((L c).at' t.val).gain
  Φ t := inv m c t.val
  q _ := fullShare
  owed _ := 0

variable (L : ∀ c, Left m c)

theorem A_eq (c : Dev nD) (w : Fin cfg0.W) : (dats m L 0 c).A w = V m c (Pipeline.arrRef spec0 w) := by dsimp only [dats]

theorem inv_before (c : Dev nD) (t : Fin cfg0.N) : (dats m L 0 c).Φ t.castSucc = inv m c t.val := by
  dsimp only [dats]; simp only [Fin.val_castSucc]
theorem inv_after (c : Dev nD) (t : Fin cfg0.N) : (dats m L 0 c).Φ t.succ = inv m c (t.val + 1) := by
  dsimp only [dats]; simp only [Fin.val_succ]

section Windows

variable (c : Dev nD) (t : Fin cfg0.N)

theorem afterIn : (dats m L 0 c).after 0 t = iblk m c 0 t ∧ (dats m L 0 c).after 1 t = iblk m c 1 t ∧ (dats m L 0 c).after 2 t = iblk m c 2 t ∧ (dats m L 0 c).after 3 t = iblk m c 3 t ∧ (dats m L 0 c).after 4 t = iblk m c 4 t ∧ (dats m L 0 c).after 5 t = iblk m c 5 t ∧ (dats m L 0 c).after 6 t = iblk m c 6 t := by
  dsimp only [dats]; exact ⟨rfl, rfl, rfl, rfl, rfl, rfl, rfl⟩

theorem afterOut : (dats m L 0 c).after 7 t = ((L c).at' t.val).loss ∧ (dats m L 0 c).after 8 t = ((L c).at' t.val).inp ∧ (dats m L 0 c).after 9 t = ((L c).at' t.val).pg ∧ (dats m L 0 c).after 10 t = ((L c).at' t.val).pp ∧ (dats m L 0 c).after 11 t = ((L c).at' t.val).gain := by
  dsimp only [dats]; exact ⟨rfl, rfl, rfl, rfl, rfl⟩

/-- Before a point every input's buffer holds its block. -/
theorem beforeIn : (∀ d, (dats m L 0 c).before 0 t d = iblk m c 0 t) ∧ (∀ d, (dats m L 0 c).before 1 t d = iblk m c 1 t) ∧ (∀ d, (dats m L 0 c).before 2 t d = iblk m c 2 t) ∧ (∀ d, (dats m L 0 c).before 3 t d = iblk m c 3 t) ∧ (∀ d, (dats m L 0 c).before 4 t d = iblk m c 4 t) ∧ (∀ d, (dats m L 0 c).before 5 t d = iblk m c 5 t) ∧ (∀ d, (dats m L 0 c).before 6 t d = iblk m c 6 t) :=
  ⟨before0_0_of m (dats m L 0 c) (A_eq m L c 0) (fun t => (afterIn m L c t).1) t,
    before0_1_of m (dats m L 0 c) (A_eq m L c 1) (fun t => (afterIn m L c t).2.1) t,
    before0_2_of m (dats m L 0 c) (A_eq m L c 2) (fun t => (afterIn m L c t).2.2.1) t,
    before0_3_of m (dats m L 0 c) (A_eq m L c 3) (fun t => (afterIn m L c t).2.2.2.1) t,
    before0_4_of m (dats m L 0 c) (A_eq m L c 4) (fun t => (afterIn m L c t).2.2.2.2.1) t,
    before0_5_of m (dats m L 0 c) (A_eq m L c 5) (fun t => (afterIn m L c t).2.2.2.2.2.1) t,
    before0_6_of m (dats m L 0 c) (A_eq m L c 6) (fun t => (afterIn m L c t).2.2.2.2.2.2) t⟩

/-- After the first point the four sums' buffers hold what the point before left. -/
theorem beforeSums (h0 : ¬t.val = 0) : (∀ d, (dats m L 0 c).before 7 t d = ((L c).at' (t.val - 1)).loss) ∧ (∀ d, (dats m L 0 c).before 9 t d = ((L c).at' (t.val - 1)).pg) ∧ (∀ d, (dats m L 0 c).before 10 t d = ((L c).at' (t.val - 1)).pp) ∧ (∀ d, (dats m L 0 c).before 11 t d = ((L c).at' (t.val - 1)).gain) := by
  have hN : t.val < 8 := lt_of_lt_of_eq t.isLt (show cfg0.N = 8 from N_0)
  refine ⟨?_, ?_, ?_, ?_⟩
  · intro d; rw [Dat.before_out_kept _ 7 rfl t (by omega) (Bool.eq_false_iff.mpr fun h => by have := (flush0_7 _).mp h; dsimp only at this; omega)
      (fun _ => rfl) (fun _ _ => rfl)]
    dsimp only [dats]
  · intro d; rw [Dat.before_out_kept _ 9 rfl t (by omega) (Bool.eq_false_iff.mpr fun h => by have := (flush0_9 _).mp h; dsimp only at this; omega)
      (fun _ => rfl) (fun _ _ => rfl)]
    dsimp only [dats]
  · intro d; rw [Dat.before_out_kept _ 10 rfl t (by omega) (Bool.eq_false_iff.mpr fun h => by have := (flush0_10 _).mp h; dsimp only at this; omega)
      (fun _ => rfl) (fun _ _ => rfl)]
    dsimp only [dats]
  · intro d; rw [Dat.before_out_kept _ 11 rfl t (by omega) (Bool.eq_false_iff.mpr fun h => by have := (flush0_11 _).mp h; dsimp only at this; omega)
      (fun _ => rfl) (fun _ _ => rfl)]
    dsimp only [dats]

end Windows

/-- What the body is called with at a point, window by window, and what it returns. -/
def bodyPre (c : Dev nD) (t : Fin cfg0.N) : sProp (Res F) :=
  iprop((dats m L 0 c).Φ t.castSucc ∗ (dats m L 0 c).owesAt () t.castSucc
    ∗ (∃ d, owns (c : Thread nD τ) (ms0_0 t) fullShare ((dats m L 0 c).before 0 t d))
    ∗ (∃ d, owns (c : Thread nD τ) (ms0_1 t) fullShare ((dats m L 0 c).before 1 t d))
    ∗ (∃ d, owns (c : Thread nD τ) (ms0_2 t) fullShare ((dats m L 0 c).before 2 t d))
    ∗ (∃ d, owns (c : Thread nD τ) (ms0_3 t) fullShare ((dats m L 0 c).before 3 t d))
    ∗ (∃ d, owns (c : Thread nD τ) (ms0_4 t) fullShare ((dats m L 0 c).before 4 t d))
    ∗ (∃ d, owns (c : Thread nD τ) (ms0_5 t) fullShare ((dats m L 0 c).before 5 t d))
    ∗ (∃ d, owns (c : Thread nD τ) (ms0_6 t) fullShare ((dats m L 0 c).before 6 t d))
    ∗ (∃ d, owns (c : Thread nD τ) (ms0_7 t) fullShare ((dats m L 0 c).before 7 t d))
    ∗ (∃ d, owns (c : Thread nD τ) (ms0_8 t) fullShare ((dats m L 0 c).before 8 t d))
    ∗ (∃ d, owns (c : Thread nD τ) (ms0_9 t) fullShare ((dats m L 0 c).before 9 t d))
    ∗ (∃ d, owns (c : Thread nD τ) (ms0_10 t) fullShare ((dats m L 0 c).before 10 t d))
    ∗ (∃ d, owns (c : Thread nD τ) (ms0_11 t) fullShare ((dats m L 0 c).before 11 t d)))
def bodyPost (c : Dev nD) (t : Fin cfg0.N) : sProp (Res F) :=
  iprop((dats m L 0 c).Φ t.succ ∗ (dats m L 0 c).owesAt () t.succ
    ∗ owns (c : Thread nD τ) (ms0_0 t) fullShare ((dats m L 0 c).after 0 t)
    ∗ owns (c : Thread nD τ) (ms0_1 t) fullShare ((dats m L 0 c).after 1 t)
    ∗ owns (c : Thread nD τ) (ms0_2 t) fullShare ((dats m L 0 c).after 2 t)
    ∗ owns (c : Thread nD τ) (ms0_3 t) fullShare ((dats m L 0 c).after 3 t)
    ∗ owns (c : Thread nD τ) (ms0_4 t) fullShare ((dats m L 0 c).after 4 t)
    ∗ owns (c : Thread nD τ) (ms0_5 t) fullShare ((dats m L 0 c).after 5 t)
    ∗ owns (c : Thread nD τ) (ms0_6 t) fullShare ((dats m L 0 c).after 6 t)
    ∗ owns (c : Thread nD τ) (ms0_7 t) fullShare ((dats m L 0 c).after 7 t)
    ∗ owns (c : Thread nD τ) (ms0_8 t) fullShare ((dats m L 0 c).after 8 t)
    ∗ owns (c : Thread nD τ) (ms0_9 t) fullShare ((dats m L 0 c).after 9 t)
    ∗ owns (c : Thread nD τ) (ms0_10 t) fullShare ((dats m L 0 c).after 10 t)
    ∗ owns (c : Thread nD τ) (ms0_11 t) fullShare ((dats m L 0 c).after 11 t))

set_option maxHeartbeats 3600000 in
/-- The body at any point. The three cases differ in what the rings hold before and after, and in whether the sums are begun or added to. -/
theorem sound_body (c : Dev nD) (t : Fin cfg0.N) :
    bodyPre m L c t ⊢ wp frame (wpE (defs₀ (F := F)) Variants.none c none) Set.univ (bodyAt0 t) (fun _ => bodyPost m L c t) := by
  unfold bodyPre bodyPost bodyAt0
  have hN : t.val < 8 := lt_of_lt_of_eq t.isLt (show cfg0.N = 8 from N_0)
  obtain ⟨ha0, ha1, ha2, ha3, ha4, ha5, ha6⟩ := afterIn m L c t
  obtain ⟨ha7, ha8, ha9, ha10, ha11⟩ := afterOut m L c t
  obtain ⟨hb0, hb1, hb2, hb3, hb4, hb5, hb6⟩ := beforeIn m L c t
  rw [ha0, ha1, ha2, ha3, ha4, ha5, ha6, ha7, ha8, ha9, ha10, ha11, inv_before m L c t, inv_after m L c t]
  simp only [hb0, hb1, hb2, hb3, hb4, hb5, hb6]
  unfold Dat.owesAt Pipeline.owesWithin
  rw [show (dats m L 0 c).owed t.castSucc = 0 from rfl, show (dats m L 0 c).owed t.succ = 0 from rfl]
  unfold inv ringAt0_0 ringAt0_1
  by_cases h0 : t.val = 0
  case' pos =>
    have hc0 := (hcond0_0 t).mpr (by omega)
    have hc1 := (hcond0_1 t).mpr (by omega)
    obtain ⟨T7, T8, T9, T10, T11⟩ := first_apart m c t hc0 hc1 ((L c).first_eq t h0 hc0 hc1)
    rw [if_pos h0, if_neg (show ¬t.val + 1 = 0 by omega), Ring.At₀_eq3' _ _ _ t.val h0 (by decide : 3 ≤ 8),
      Ring.At3_one' _ _ _ _ t.val h0 (by decide : 3 ≤ 8), if_pos h0, if_neg (show ¬t.val + 1 = 0 by omega),
      Ring.At₀_eq3' _ _ _ t.val h0 (by decide : 3 ≤ 8), Ring.At3_one' _ _ _ _ t.val h0 (by decide : 3 ≤ 8)]
  case' neg =>
    have hc0 : ¬cond0_0 (grid0.coords t) := fun h => h0 (by have := (hcond0_0 t).mp h; omega)
    obtain ⟨hb7, hb9, hb10, hb11⟩ := beforeSums m L c t h0
    simp only [hb7, hb9, hb10, hb11]
    rw [if_neg h0, if_neg (show ¬t.val + 1 = 0 by omega), if_neg h0, if_neg (show ¬t.val + 1 = 0 by omega)]
    by_cases h1 : t.val < 6
    case' pos =>
      have hc1 := (hcond0_1 t).mpr h1
      obtain ⟨-, hK0, -⟩ := rstep0_0_B t hc0 hc1
      rw [Ring.At3_here _ _ _ _ t.val hK0, Ring.At3_next _ _ _ _ t.val hK0, Ring.slotAt3_next0 _ _ _ t.val (by omega), Ring.slotAt3_next1 _ _ _ t.val hK0,
        Ring.At3_here _ _ _ _ t.val hK0, Ring.At3_next _ _ _ _ t.val hK0, Ring.slotAt3_next0 _ _ _ t.val (by omega), Ring.slotAt3_next1 _ _ _ t.val hK0]
      obtain ⟨T7, T8, T9, T10, T11⟩ := middle_apart m c t ((L c).at' (t.val - 1)) hc0 hc1 ((L c).middle_eq t h0 hc0 hc1)
    case' neg =>
      have hc1 : ¬cond0_1 (grid0.coords t) := fun h => h1 ((hcond0_1 t).mp h)
      obtain ⟨-, hK0, hlt, -⟩ := rstep0_0_C t hc0 hc1
      rw [Ring.At3_here_tail _ _ _ _ t.val hlt, Ring.At3_next_tail _ _ _ _ t.val hK0 hlt, Ring.slotAt3_tail_role _ _ _ t.val,
        Ring.At3_here_tail _ _ _ _ t.val hlt, Ring.At3_next_tail _ _ _ _ t.val hK0 hlt, Ring.slotAt3_tail_role _ _ _ t.val]
      obtain ⟨T7, T8, T9, T10, T11⟩ := last_apart m c t ((L c).at' (t.val - 1)) hc0 hc1 ((L c).last_eq t h0 hc0 hc1)
  all_goals
    iintro ⟨⟨Hg, ⟨-, Hfr0_0, Hfr0_1, Hfr0_2⟩, ⟨-, Hfr1_0, Hfr1_1, Hfr1_2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    first
      | iapply ((runFirst c t (iblk m c 0 t) (iblk m c 1 t) (iblk m c 2 t) (iblk m c 3 t) (iblk m c 4 t) (iblk m c 5 t) (iblk m c 6 t) (V m c main_v3) (V m c main_v4) hc0 hc1).2.2.2.2.2 W _)
      | iapply ((runMid c t (iblk m c 0 t) (iblk m c 1 t) (iblk m c 2 t) (iblk m c 3 t) (iblk m c 4 t) (iblk m c 5 t) (iblk m c 6 t) (((L c).at' (t.val - 1)).loss) (((L c).at' (t.val - 1)).pg) (((L c).at' (t.val - 1)).pp) (((L c).at' (t.val - 1)).gain) (V m c main_v3) (V m c main_v4) hc0 hc1).2.2.2.2.2 W _)
      | iapply ((runLast c t (iblk m c 0 t) (iblk m c 1 t) (iblk m c 2 t) (iblk m c 3 t) (iblk m c 4 t) (iblk m c 5 t) (iblk m c 6 t) (((L c).at' (t.val - 1)).loss) (((L c).at' (t.val - 1)).pg) (((L c).at' (t.val - 1)).pp) (((L c).at' (t.val - 1)).gain) (V m c main_v3) (V m c main_v4) hc0 hc1).2.2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · first | iexact H7 | (iexists _; iexact H7)
    isplitl [H8]; · iexists _; iexact H8
    isplitl [H9]; · first | iexact H9 | (iexists _; iexact H9)
    isplitl [H10]; · first | iexact H10 | (iexists _; iexact H10)
    isplitl [H11]; · first | iexact H11 | (iexists _; iexact H11)
    isplitl [Hfr0_0]; · iexact Hfr0_0
    isplitl [Hfr0_1]; · iexact Hfr0_1
    isplitl [Hfr0_2]; · iexact Hfr0_2
    isplitl [Hfr1_0]; · iexact Hfr1_0
    isplitl [Hfr1_1]; · iexact Hfr1_1
    isplitl [Hfr1_2]; · iexact Hfr1_2
    isplitl [HW]; · iexact HW
    iintro ⟨H0, H1, H2, H3, H4, H5, H6, ⟨%e7, H7⟩, ⟨%e8, H8⟩, ⟨%e9, H9⟩, ⟨%e10, H10⟩, ⟨%e11, H11⟩, Hfr0_0, Hfr0_1, Hfr0_2, Hfr1_0, Hfr1_1, Hfr1_2, ⟨%W', HW⟩⟩
    isplitl [Hg Hfr0_0 Hfr0_1 Hfr0_2 Hfr1_0 Hfr1_1 Hfr1_2]
    · isplitl [Hg]; · iexact Hg
      isplitl [Hfr0_0 Hfr0_1 Hfr0_2]
      · iapply (Ring.with_homes (Idealize.SL.BI.Entails.refl _))
        isplitl [Hfr0_0]; · iexact Hfr0_0
        isplitl [Hfr0_1]; · iexact Hfr0_1
        iexact Hfr0_2
      iapply (Ring.with_homes (Idealize.SL.BI.Entails.refl _))
      isplitl [Hfr1_0]; · iexact Hfr1_0
      isplitl [Hfr1_1]; · iexact Hfr1_1
      iexact Hfr1_2
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iapply (Cert.Kit.owns_of_canon (nD := nD) (τ := τ) (sig := sig) (Ix := Unit) (Val := Elt F) (Name := ℕ) (U := Pipeline.UD sig nD τ) (Lvl := ℕ) (c := (c : Thread nD τ)) (s := S1x128) (M := ms0_7 t) (q := fullShare) S1x128.size T7 (by sl_kernel_rfl)); iexact H7
    isplitl [H8]
    · iapply (Cert.Kit.owns_of_canon (nD := nD) (τ := τ) (sig := sig) (Ix := Unit) (Val := Elt F) (Name := ℕ) (U := Pipeline.UD sig nD τ) (Lvl := ℕ) (c := (c : Thread nD τ)) (s := S512x1024) (M := ms0_8 t) (q := fullShare) S512x1024.size T8 (by sl_kernel_rfl)); iexact H8
    isplitl [H9]
    · iapply (Cert.Kit.owns_of_canon (nD := nD) (τ := τ) (sig := sig) (Ix := Unit) (Val := Elt F) (Name := ℕ) (U := Pipeline.UD sig nD τ) (Lvl := ℕ) (c := (c : Thread nD τ)) (s := S1024x1024) (M := ms0_9 t) (q := fullShare) S1024x1024.size T9 (by sl_kernel_rfl)); iexact H9
    isplitl [H10]
    · iapply (Cert.Kit.owns_of_canon (nD := nD) (τ := τ) (sig := sig) (Ix := Unit) (Val := Elt F) (Name := ℕ) (U := Pipeline.UD sig nD τ) (Lvl := ℕ) (c := (c : Thread nD τ)) (s := S8x256x128) (M := ms0_10 t) (q := fullShare) S1x256x128.size T10 (by sl_kernel_rfl)); iexact H10
    iapply (Cert.Kit.owns_of_canon (nD := nD) (τ := τ) (sig := sig) (Ix := Unit) (Val := Elt F) (Name := ℕ) (U := Pipeline.UD sig nD τ) (Lvl := ℕ) (c := (c : Thread nD τ)) (s := S1x1024) (M := ms0_11 t) (q := fullShare) S1x1024.size T11 (by sl_kernel_rfl)); iexact H11

/-- The body table's row at a point's slots is the body. -/
theorem body_row (t : Fin cfg0.N) : defs₀ (F := F) .tc cfg0.body (cfg0.bodyArgs t (cfg0.slots t)) = bodyAt0 t := by
  unfold defs₀; rw [Defs.onTc_tc]

/-- The body's triple, as the launch asks for it. -/
theorem body_obligation (c : Dev nD) : BodyObligation (dats m L 0 c) (defs₀ (F := F)) Variants.none () Set.univ := fun t => by
  rw [bigSep_W0, bigSep_W0, body_row]
  exact triple_restated (sound_body m L c t) rfl .rfl fun _ => .rfl

/-- What the launch hands the region is the invariant before the first point; -/
theorem inv_in (c : Dev nD) : Pipeline.ΦD osem0 spec0 H0 (V m) c ⊢ (dats m L 0 c).Φ 0 := by
  rw [PhiD0_eq, show (dats m L 0 c).Φ 0 = inv m c 0 from rfl]
  unfold inv
  iintro ⟨⟨HR, HR'⟩, Hg, ⟨Hq0, Hq1, Hq2, Hq3, Hq4, Hq5⟩, Hh, Hh'⟩
  isplitl [Hg]; · iexact Hg
  isplitl [HR Hq0 Hq1 Hq2 Hh]
  · iapply (ring0_0_in (F := F) m c)
    isplitl [HR]; · iexact HR
    isplitr [Hh]
    · isplitl [Hq0]; · iexact Hq0
      isplitl [Hq1]; · iexact Hq1
      iexact Hq2
    iexact Hh
  iapply (ring0_1_in (F := F) m c)
  isplitl [HR']; · iexact HR'
  isplitr [Hh']
  · isplitl [Hq3]; · iexact Hq3
    isplitl [Hq4]; · iexact Hq4
    iexact Hq5
  iexact Hh'

/-- and the invariant after the last hands it back. -/
theorem inv_out (c : Dev nD) : (dats m L 0 c).Φ (Fin.last cfg0.N) ⊢ Pipeline.ΦD osem0 spec0 H0 (V m) c := by
  rw [PhiD0_eq, show (dats m L 0 c).Φ (Fin.last cfg0.N) = inv m c grid0.N from rfl]
  unfold inv
  rw [show grid0.N = 8 by rw [N_0]]
  iintro ⟨Hg, HA, HB⟩
  ihave HA := (ring0_0_out (F := F) m c) $$ HA
  icases HA with ⟨HR, ⟨Hq0, Hq1, Hq2⟩, Hh⟩
  ihave HB := (ring0_1_out (F := F) m c) $$ HB
  icases HB with ⟨HR', ⟨Hq3, Hq4, Hq5⟩, Hh'⟩
  isplitl [HR HR']
  · isplitl [HR]; · iexact HR
    iexact HR'
  isplitl [Hg]; · iexact Hg
  isplitr [Hh Hh']
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh]; · iexact Hh
  iexact Hh'

set_option backward.isDefEq.respectTransparency.types false in
/-- The whole run, and every counter at zero after it. -/
theorem run_quiet : θ_run defs (onTc (τ := τ) (main (F := F))) (s₀ m ρ) (fun r => (Pipeline.FramePost cfgs (dats m L) 0 (V m)) r ∧ r.2.sem = fun _ => 0) :=
  Pipeline.θ_run_frame_dma (Q' := _) cfgs (dats m L) (0 : Fin 1) launch0 osem0 defs₀ Variants.none ownSemFacts0 H0 H0_sub m ρ main
    (hbody := fun c => (body_obligation m L c).loose) (hshare := fun c => (dats m L 0 c).share_full fun _ => rfl)
    (howed := fun _ _ => rfl) (V := V m) (hmain := hmain m Variants.none) (hA := A_eq m L)
    (hin := inv_in m L) (hout := inv_out m L)

theorem run_main : θ_run defs (onTc (τ := τ) (main (F := F))) (s₀ m ρ) (Pipeline.FramePost cfgs (dats m L) 0 (V m)) :=
  (θ_run defs _ _).mono (fun _ h => h.1) (run_quiet m ρ L)

include L

/-- The run ends with its arguments as they were, -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m L) (A_eq m L) (run_main m ρ L)

/-- and no counter moved. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (kept m ρ L) ((θ_run defs _ _).mono (fun _ h => h.2) (run_quiet m ρ L))

end Cert.PleBwdIdeal.Hand
-- ==== Proof.Ple.Float.lean ====
module

public import proofs.«01_k».proof.Defs
public import proofs.«01_k».proof.Proof.Ple.Frame
public import proofs.«01_k».proof.Proof.Gen.PleBwd

@[expose] public section

noncomputable section

/-! The embedding call on its own floats: its text is the ideal program's, so the one run stands for both. -/

namespace Cert.PleBwdIdeal.Hand

open Idealize.ShloMosaic Idealize.ShloMosaic.TcCoe Idealize.SL.Sem

/-- The kernel runs, and leaves its arguments and every counter as they were. -/
theorem frame_kernel : Cert.quiescent_PleBwd := fun m ρ _ => by
  refine Eq.mp ?_ (frame (F := Bits) m ρ (left m))
  sl_kernel_rfl

end Cert.PleBwdIdeal.Hand
-- ==== Proof.Ple.Spec.lean ====
module

public import proofs.«01_k».proof.Proof.Ffn.Spec
public import proofs.«01_k».proof.Proof.Kit.Num

/-! The gated embedding, the loss and their gradient, row by row, as the kernel's body computes them: one row of the hidden state
    after the feed-forward block, its cotangent, the row's loss and the row's part of the weights' and the gain's gradients. -/

@[expose] public section

noncomputable section

namespace Cert.Ple

open Idealize.ShloMosaic Cert.Ffn Cert.Kit

/-- One over the row's width, and half of it. -/
abbrev over : EReal := Ideal.ofBits .f32 0x3A800000#32
abbrev halfOver : EReal := Ideal.ofBits .f32 0x3A000000#32

/-- The row after the feed-forward block's last product. -/
def hid (gt up : Fin 2816 → EReal) (wd : Fin 2816 → Fin 1024 → EReal) (h1 : Fin 1024 → EReal) (k : Fin 1024) : EReal :=
  h1 k + ∑ j, act gt up j * wd j k

/-- The embedding's product. -/
def emb (p : Fin 256 → EReal) (wp : Fin 256 → Fin 1024 → EReal) (k : Fin 1024) : EReal := ∑ q, p q * wp q k

section Row

variable (h g e t : Fin 1024 → EReal) (w : Fin 1024 → Fin 1024 → EReal) (k : Fin 1024)

/-- The normalised row. -/
def normed : EReal := h k * rinv h * g k
/-- The gate. -/
def gate : EReal := Ideal.logistic (∑ l, normed h g l * w l k)
/-- The output's distance from the target. -/
def err : EReal := (h k + gate h g w k * e k) - t k
/-- The cotangent of the output. -/
def dOut : EReal := err h g e t w k * over
/-- The cotangent of the embedding's product. -/
def dEmb : EReal := dOut h g e t w k * gate h g w k
/-- The cotangent of what the gate's sigmoid is taken of. -/
def dPre : EReal := (dOut h g e t w k * e k) * (gate h g w k * (1 - gate h g w k))
/-- The cotangent of the normalised row. -/
def dNormed : EReal := ∑ j, dPre h g e t w j * w k j
/-- The cotangent of the row. -/
def dIn : EReal := dOut h g e t w k + normBack (dNormed h g e t w) g h k
/-- The row's part of the gain's gradient. -/
def dGain : EReal := dNormed h g e t w k * (h k * rinv h)
/-- The row's loss. -/
def lossRow : EReal := (∑ j, err h g e t w j * err h g e t w j) * halfOver

end Row

/-- The hidden row's product taken in eleven slabs of 256 columns, one on top of the other. -/
theorem slabs (a : EReal) (f : Fin 2816 → EReal) :
    a + ∑ j, f j =
      (∑ j : Fin 256, f ⟨2560 + j, by omega⟩) + ((∑ j : Fin 256, f ⟨2304 + j, by omega⟩) + ((∑ j : Fin 256, f ⟨2048 + j, by omega⟩)
      + ((∑ j : Fin 256, f ⟨1792 + j, by omega⟩) + ((∑ j : Fin 256, f ⟨1536 + j, by omega⟩) + ((∑ j : Fin 256, f ⟨1280 + j, by omega⟩)
      + ((∑ j : Fin 256, f ⟨1024 + j, by omega⟩) + ((∑ j : Fin 256, f ⟨768 + j, by omega⟩) + ((∑ j : Fin 256, f ⟨512 + j, by omega⟩)
      + ((∑ j : Fin 256, f ⟨256 + j, by omega⟩) + ((∑ j : Fin 256, f ⟨j, by omega⟩) + a)))))))))) := by
  have e : ∑ j, f j = ∑ c : Fin 11, ∑ j : Fin 256, f ⟨c * 256 + j, by omega⟩ := Fin.sum_univ_tiles 11 256 rfl f
  have s (H : Fin 11 → EReal) : a + ∑ c, H c = H 10 + (H 9 + (H 8 + (H 7 + (H 6 + (H 5 + (H 4 + (H 3 + (H 2 + (H 1 + (H 0 + a)))))))))) := by
    simp only [Fin.sum_univ_succ, Fin.sum_univ_zero, add_zero]
    rw [show (∀ z a b c d e f g h i j k : EReal, z + (a + (b + (c + (d + (e + (f + (g + (h + (i + (j + k)))))))))) =
      k + (j + (i + (h + (g + (f + (e + (d + (c + (b + (a + z))))))))))) from fun z a b c d e f g h i j k => by ac_rfl]
    rfl
  rw [e, s]
  rfl

/-- A positive number goes inside a sum. -/
theorem sum_over {ι : Type} (s : Finset ι) (f : ι → EReal) {c : ℝ} (h : 0 ≤ c) : (∑ i ∈ s, f i) * (c : EReal) = ∑ i ∈ s, f i * (c : EReal) := by
  induction s using Finset.cons_induction with
  | empty => exact zero_mul _
  | cons a s n ih =>
    rw [Finset.sum_cons, Finset.sum_cons, ← ih, mul_comm, EReal.left_distrib_of_nonneg_of_ne_top (by exact_mod_cast h) (EReal.coe_ne_top c), mul_comm,
      mul_comm (c : EReal)]

theorem over_is : over = ((1 / 1024 : ℝ) : EReal) := by
  simp [over, Ideal.ofBits, Ideal.ieee, -EReal.coe_mul]; norm_num
theorem halfOver_is : halfOver = ((1 / 2048 : ℝ) : EReal) := by
  simp [halfOver, Ideal.ofBits, Ideal.ieee, -EReal.coe_mul]; norm_num
theorem half_is : Ideal.ofBits .f32 0x3F000000#32 = ((1 / 2 : ℝ) : EReal) := by
  simp [Ideal.ofBits, Ideal.ieee, -EReal.coe_mul]; norm_num
theorem two_is : Ideal.ofBits .f32 0x40000000#32 = ((2 : ℝ) : EReal) := by
  simp [Ideal.ofBits, Ideal.ieee, -EReal.coe_mul]; norm_num

/-- Rows' losses, summed column after column. -/
theorem loss_tile {n : ℕ} (e : Fin n → Fin 1024 → EReal) : (∑ k, ∑ i, e i k * e i k) * halfOver = ∑ i, (∑ k, e i k * e i k) * halfOver := by
  rw [Finset.sum_comm, halfOver_is, sum_over _ _ (by norm_num)]

section Finite

variable (x : Fin 1024 → EReal) (hx : ∀ k, Num (x k))

include hx in
/-- The root's argument is a positive number. -/
theorem under : ∃ a : ℝ, 0 < a ∧ Ideal.div (∑ k, x k * x k) width + eps = a := by
  choose f hf using hx
  refine ⟨(∑ k, f k * f k) / 1024 + Num.small, ?_, ?_⟩
  · exact add_pos_of_nonneg_of_pos (div_nonneg (Finset.sum_nonneg fun k _ => mul_self_nonneg _) (by norm_num)) Num.small_pos
  · simp only [hf, ← EReal.coe_mul, Num.sum_coe, width, eps, Num.ofBits_1024, Num.ofBits_small]
    rw [Num.div_coe _ (by norm_num), ← EReal.coe_add]

include hx in
theorem rinv_num : Num (rinv x) := by
  obtain ⟨a, ha, e⟩ := under x hx
  unfold rinv
  rw [e, Num.rsqrt_coe ha]
  exact Num.coe _

include hx in
theorem rinv_cube : Ideal.div (rinv x) (Ideal.div (∑ k, x k * x k) width + eps) = rinv x * rinv x * rinv x := by
  obtain ⟨a, ha, e⟩ := under x hx
  unfold rinv
  rw [e, Num.rsqrt_coe ha, Num.rsqrt_div ha, EReal.coe_mul, EReal.coe_mul]

end Finite

end Cert.Ple
-- ==== Proof.Ple.Pay.lean ====
module

public import proofs.«01_k».proof.Proof.Gen.PleBwdIdeal.Skeleton
public import proofs.«01_k».proof.Proof.Ple.Spec
public import Idealize.ShloMosaic.Lib.Pointwise
public import Idealize.ShloMosaic.Lib.Pipeline.ValueKit

@[expose] public section

set_option maxRecDepth 16384

noncomputable section

/-! The values the body computes at a point, row by row, from the blocks it reads. -/

namespace Cert.PleBwdIdeal.Hand

open Cert.PleBwdIdeal Cert.PleBwdIdeal.Gen Cert.Ffn Cert.Ple Idealize.ShloMosaic Idealize.ShloMosaic.TcCoe Idealize.SL.Sem

variable (G U : Vec Ideal S512x2816 .bf16) (b0 : Vec Ideal S512x1024 .f32) (b1 : Vec Ideal S2816x1024 .bf16) (b2 : Vec Ideal S512x256 .f32) (b3 : Vec Ideal S512x1024 .f32) (b4 : Vec Ideal S1x1024 .f32) (b5 : Vec Ideal S1024x1024 .bf16) (b6 : Vec Ideal S8x256x128 .bf16)

/-- The hidden tile, as eleven slabs of the last product leave it, and its rows' sums of squares. -/
def hTile : FVec Ideal S512x1024 .f32 := k0_pay16 (k0_pay13 (k0_pay11 (k0_pay9 (k0_pay8 b0 (View.ld G (Rect.unit ![0, 0] ![512, 256] inb_S512x2816_S512x256_0_0)) (View.ld U (Rect.unit ![0, 0] ![512, 256] inb_S512x2816_S512x256_0_0)) (View.ld b1 (Rect.unit ![0, 0] ![256, 1024] inb_S2816x1024_S256x1024_0_0))
    (View.ld G (Rect.unit ![0, 256] ![512, 256] inb_S512x2816_S512x256_0_256)) (View.ld U (Rect.unit ![0, 256] ![512, 256] inb_S512x2816_S512x256_0_256)) (View.ld b1 (Rect.unit ![256, 0] ![256, 1024] inb_S2816x1024_S256x1024_256_0)))
    (View.ld G (Rect.unit ![0, 512] ![512, 256] inb_S512x2816_S512x256_0_512)) (View.ld U (Rect.unit ![0, 512] ![512, 256] inb_S512x2816_S512x256_0_512)) (View.ld b1 (Rect.unit ![512, 0] ![256, 1024] inb_S2816x1024_S256x1024_512_0))
    (View.ld G (Rect.unit ![0, 768] ![512, 256] inb_S512x2816_S512x256_0_768)) (View.ld U (Rect.unit ![0, 768] ![512, 256] inb_S512x2816_S512x256_0_768)) (View.ld b1 (Rect.unit ![768, 0] ![256, 1024] inb_S2816x1024_S256x1024_768_0)))
    (k0_pay10 (View.ld G (Rect.unit ![0, 1024] ![512, 256] inb_S512x2816_S512x256_0_1024))) (View.ld U (Rect.unit ![0, 1024] ![512, 256] inb_S512x2816_S512x256_0_1024)) (View.ld b1 (Rect.unit ![1024, 0] ![256, 1024] inb_S2816x1024_S256x1024_1024_0))
    (View.ld G (Rect.unit ![0, 1280] ![512, 256] inb_S512x2816_S512x256_0_1280)) (View.ld U (Rect.unit ![0, 1280] ![512, 256] inb_S512x2816_S512x256_0_1280)) (View.ld b1 (Rect.unit ![1280, 0] ![256, 1024] inb_S2816x1024_S256x1024_1280_0)))
    (k0_pay12 (View.ld G (Rect.unit ![0, 1536] ![512, 256] inb_S512x2816_S512x256_0_1536)) (View.ld U (Rect.unit ![0, 1536] ![512, 256] inb_S512x2816_S512x256_0_1536))) (View.ld b1 (Rect.unit ![1536, 0] ![256, 1024] inb_S2816x1024_S256x1024_1536_0))
    (View.ld G (Rect.unit ![0, 1792] ![512, 256] inb_S512x2816_S512x256_0_1792)) (View.ld U (Rect.unit ![0, 1792] ![512, 256] inb_S512x2816_S512x256_0_1792)) (View.ld b1 (Rect.unit ![1792, 0] ![256, 1024] inb_S2816x1024_S256x1024_1792_0)))
    (k0_pay14 (View.ld G (Rect.unit ![0, 2048] ![512, 256] inb_S512x2816_S512x256_0_2048)) (View.ld U (Rect.unit ![0, 2048] ![512, 256] inb_S512x2816_S512x256_0_2048))) (k0_pay15 (View.ld b1 (Rect.unit ![2048, 0] ![256, 1024] inb_S2816x1024_S256x1024_2048_0))) (constant S512x1024 .f32 0x00000000#32)
    (View.ld G (Rect.unit ![0, 2304] ![512, 256] inb_S512x2816_S512x256_0_2304)) (View.ld U (Rect.unit ![0, 2304] ![512, 256] inb_S512x2816_S512x256_0_2304)) (View.ld b1 (Rect.unit ![2304, 0] ![256, 1024] inb_S2816x1024_S256x1024_2304_0))
    (View.ld G (Rect.unit ![0, 2560] ![512, 256] inb_S512x2816_S512x256_0_2560)) (View.ld U (Rect.unit ![0, 2560] ![512, 256] inb_S512x2816_S512x256_0_2560)) (View.ld b1 (Rect.unit ![2560, 0] ![256, 1024] inb_S2816x1024_S256x1024_2560_0))
def qTile : FVec Ideal S512x1 .f32 := k0_pay17 (k0_pay13 (k0_pay11 (k0_pay9 (k0_pay8 b0 (View.ld G (Rect.unit ![0, 0] ![512, 256] inb_S512x2816_S512x256_0_0)) (View.ld U (Rect.unit ![0, 0] ![512, 256] inb_S512x2816_S512x256_0_0)) (View.ld b1 (Rect.unit ![0, 0] ![256, 1024] inb_S2816x1024_S256x1024_0_0))
    (View.ld G (Rect.unit ![0, 256] ![512, 256] inb_S512x2816_S512x256_0_256)) (View.ld U (Rect.unit ![0, 256] ![512, 256] inb_S512x2816_S512x256_0_256)) (View.ld b1 (Rect.unit ![256, 0] ![256, 1024] inb_S2816x1024_S256x1024_256_0)))
    (View.ld G (Rect.unit ![0, 512] ![512, 256] inb_S512x2816_S512x256_0_512)) (View.ld U (Rect.unit ![0, 512] ![512, 256] inb_S512x2816_S512x256_0_512)) (View.ld b1 (Rect.unit ![512, 0] ![256, 1024] inb_S2816x1024_S256x1024_512_0))
    (View.ld G (Rect.unit ![0, 768] ![512, 256] inb_S512x2816_S512x256_0_768)) (View.ld U (Rect.unit ![0, 768] ![512, 256] inb_S512x2816_S512x256_0_768)) (View.ld b1 (Rect.unit ![768, 0] ![256, 1024] inb_S2816x1024_S256x1024_768_0)))
    (k0_pay10 (View.ld G (Rect.unit ![0, 1024] ![512, 256] inb_S512x2816_S512x256_0_1024))) (View.ld U (Rect.unit ![0, 1024] ![512, 256] inb_S512x2816_S512x256_0_1024)) (View.ld b1 (Rect.unit ![1024, 0] ![256, 1024] inb_S2816x1024_S256x1024_1024_0))
    (View.ld G (Rect.unit ![0, 1280] ![512, 256] inb_S512x2816_S512x256_0_1280)) (View.ld U (Rect.unit ![0, 1280] ![512, 256] inb_S512x2816_S512x256_0_1280)) (View.ld b1 (Rect.unit ![1280, 0] ![256, 1024] inb_S2816x1024_S256x1024_1280_0)))
    (k0_pay12 (View.ld G (Rect.unit ![0, 1536] ![512, 256] inb_S512x2816_S512x256_0_1536)) (View.ld U (Rect.unit ![0, 1536] ![512, 256] inb_S512x2816_S512x256_0_1536))) (View.ld b1 (Rect.unit ![1536, 0] ![256, 1024] inb_S2816x1024_S256x1024_1536_0))
    (View.ld G (Rect.unit ![0, 1792] ![512, 256] inb_S512x2816_S512x256_0_1792)) (View.ld U (Rect.unit ![0, 1792] ![512, 256] inb_S512x2816_S512x256_0_1792)) (View.ld b1 (Rect.unit ![1792, 0] ![256, 1024] inb_S2816x1024_S256x1024_1792_0)))
    (k0_pay14 (View.ld G (Rect.unit ![0, 2048] ![512, 256] inb_S512x2816_S512x256_0_2048)) (View.ld U (Rect.unit ![0, 2048] ![512, 256] inb_S512x2816_S512x256_0_2048))) (k0_pay15 (View.ld b1 (Rect.unit ![2048, 0] ![256, 1024] inb_S2816x1024_S256x1024_2048_0))) (constant S512x1024 .f32 0x00000000#32)
    (View.ld G (Rect.unit ![0, 2304] ![512, 256] inb_S512x2816_S512x256_0_2304)) (View.ld U (Rect.unit ![0, 2304] ![512, 256] inb_S512x2816_S512x256_0_2304)) (View.ld b1 (Rect.unit ![2304, 0] ![256, 1024] inb_S2816x1024_S256x1024_2304_0))
    (View.ld G (Rect.unit ![0, 2560] ![512, 256] inb_S512x2816_S512x256_0_2560)) (View.ld U (Rect.unit ![0, 2560] ![512, 256] inb_S512x2816_S512x256_0_2560)) (View.ld b1 (Rect.unit ![2560, 0] ![256, 1024] inb_S2816x1024_S256x1024_2560_0))
/-- The embedding's product, from eight pieces of its weight. -/
def eTile : FVec Ideal S512x1024 .f32 := k0_pay28 (k0_pay21 b2) (k0_pay22 (View.ld b6 (Rect.unit ![0, 0, 0] ![1, 256, 128] inb_S8x256x128_S1x256x128_0_0_0))) (k0_pay23 (View.ld b6 (Rect.unit ![1, 0, 0] ![1, 256, 128] inb_S8x256x128_S1x256x128_1_0_0))) (k0_pay24 (View.ld b6 (Rect.unit ![2, 0, 0] ![1, 256, 128] inb_S8x256x128_S1x256x128_2_0_0))) (k0_pay25 (View.ld b6 (Rect.unit ![3, 0, 0] ![1, 256, 128] inb_S8x256x128_S1x256x128_3_0_0))) (k0_pay26 (View.ld b6 (Rect.unit ![4, 0, 0] ![1, 256, 128] inb_S8x256x128_S1x256x128_4_0_0))) (k0_pay27 (View.ld b6 (Rect.unit ![5, 0, 0] ![1, 256, 128] inb_S8x256x128_S1x256x128_5_0_0))) (View.ld b6 (Rect.unit ![6, 0, 0] ![1, 256, 128] inb_S8x256x128_S1x256x128_6_0_0)) (View.ld b6 (Rect.unit ![7, 0, 0] ![1, 256, 128] inb_S8x256x128_S1x256x128_7_0_0))
/-- The output's distance from the target, its cotangent, and the two cotangents it is multiplied into. -/
def gateT : FVec Ideal S512x1024 .f32 := k0_pay20 (hTile G U b0 b1) (qTile G U b0 b1) b4 b5
def errT : FVec Ideal S512x1024 .f32 := k0_pay29 (hTile G U b0 b1) (gateT G U b0 b1 b4 b5) (k0_pay21 b2) (k0_pay22 (View.ld b6 (Rect.unit ![0, 0, 0] ![1, 256, 128] inb_S8x256x128_S1x256x128_0_0_0))) (k0_pay23 (View.ld b6 (Rect.unit ![1, 0, 0] ![1, 256, 128] inb_S8x256x128_S1x256x128_1_0_0))) (k0_pay24 (View.ld b6 (Rect.unit ![2, 0, 0] ![1, 256, 128] inb_S8x256x128_S1x256x128_2_0_0))) (k0_pay25 (View.ld b6 (Rect.unit ![3, 0, 0] ![1, 256, 128] inb_S8x256x128_S1x256x128_3_0_0))) (k0_pay26 (View.ld b6 (Rect.unit ![4, 0, 0] ![1, 256, 128] inb_S8x256x128_S1x256x128_4_0_0))) (k0_pay27 (View.ld b6 (Rect.unit ![5, 0, 0] ![1, 256, 128] inb_S8x256x128_S1x256x128_5_0_0))) (View.ld b6 (Rect.unit ![6, 0, 0] ![1, 256, 128] inb_S8x256x128_S1x256x128_6_0_0)) (View.ld b6 (Rect.unit ![7, 0, 0] ![1, 256, 128] inb_S8x256x128_S1x256x128_7_0_0)) b3
def outT : FVec Ideal S512x1024 .f32 := k0_pay31 (hTile G U b0 b1) (gateT G U b0 b1 b4 b5) (k0_pay21 b2) (k0_pay22 (View.ld b6 (Rect.unit ![0, 0, 0] ![1, 256, 128] inb_S8x256x128_S1x256x128_0_0_0))) (k0_pay23 (View.ld b6 (Rect.unit ![1, 0, 0] ![1, 256, 128] inb_S8x256x128_S1x256x128_1_0_0))) (k0_pay24 (View.ld b6 (Rect.unit ![2, 0, 0] ![1, 256, 128] inb_S8x256x128_S1x256x128_2_0_0))) (k0_pay25 (View.ld b6 (Rect.unit ![3, 0, 0] ![1, 256, 128] inb_S8x256x128_S1x256x128_3_0_0))) (k0_pay26 (View.ld b6 (Rect.unit ![4, 0, 0] ![1, 256, 128] inb_S8x256x128_S1x256x128_4_0_0))) (k0_pay27 (View.ld b6 (Rect.unit ![5, 0, 0] ![1, 256, 128] inb_S8x256x128_S1x256x128_5_0_0))) (View.ld b6 (Rect.unit ![6, 0, 0] ![1, 256, 128] inb_S8x256x128_S1x256x128_6_0_0)) (View.ld b6 (Rect.unit ![7, 0, 0] ![1, 256, 128] inb_S8x256x128_S1x256x128_7_0_0)) b3
def embT : FVec Ideal S512x1024 .bf16 := k0_pay32 (hTile G U b0 b1) (gateT G U b0 b1 b4 b5) (k0_pay21 b2) (k0_pay22 (View.ld b6 (Rect.unit ![0, 0, 0] ![1, 256, 128] inb_S8x256x128_S1x256x128_0_0_0))) (k0_pay23 (View.ld b6 (Rect.unit ![1, 0, 0] ![1, 256, 128] inb_S8x256x128_S1x256x128_1_0_0))) (k0_pay24 (View.ld b6 (Rect.unit ![2, 0, 0] ![1, 256, 128] inb_S8x256x128_S1x256x128_2_0_0))) (k0_pay25 (View.ld b6 (Rect.unit ![3, 0, 0] ![1, 256, 128] inb_S8x256x128_S1x256x128_3_0_0))) (k0_pay26 (View.ld b6 (Rect.unit ![4, 0, 0] ![1, 256, 128] inb_S8x256x128_S1x256x128_4_0_0))) (k0_pay27 (View.ld b6 (Rect.unit ![5, 0, 0] ![1, 256, 128] inb_S8x256x128_S1x256x128_5_0_0))) (View.ld b6 (Rect.unit ![6, 0, 0] ![1, 256, 128] inb_S8x256x128_S1x256x128_6_0_0)) (View.ld b6 (Rect.unit ![7, 0, 0] ![1, 256, 128] inb_S8x256x128_S1x256x128_7_0_0)) b3
def preT : FVec Ideal S512x1024 .bf16 := k0_pay33 (hTile G U b0 b1) (gateT G U b0 b1 b4 b5) (k0_pay21 b2) (k0_pay22 (View.ld b6 (Rect.unit ![0, 0, 0] ![1, 256, 128] inb_S8x256x128_S1x256x128_0_0_0))) (k0_pay23 (View.ld b6 (Rect.unit ![1, 0, 0] ![1, 256, 128] inb_S8x256x128_S1x256x128_1_0_0))) (k0_pay24 (View.ld b6 (Rect.unit ![2, 0, 0] ![1, 256, 128] inb_S8x256x128_S1x256x128_2_0_0))) (k0_pay25 (View.ld b6 (Rect.unit ![3, 0, 0] ![1, 256, 128] inb_S8x256x128_S1x256x128_3_0_0))) (k0_pay26 (View.ld b6 (Rect.unit ![4, 0, 0] ![1, 256, 128] inb_S8x256x128_S1x256x128_4_0_0))) (k0_pay27 (View.ld b6 (Rect.unit ![5, 0, 0] ![1, 256, 128] inb_S8x256x128_S1x256x128_5_0_0))) (View.ld b6 (Rect.unit ![6, 0, 0] ![1, 256, 128] inb_S8x256x128_S1x256x128_6_0_0)) (View.ld b6 (Rect.unit ![7, 0, 0] ![1, 256, 128] inb_S8x256x128_S1x256x128_7_0_0)) b3
def backT : FVec Ideal S512x1024 .f32 := k0_pay34 (hTile G U b0 b1) (gateT G U b0 b1 b4 b5) (k0_pay21 b2) (k0_pay22 (View.ld b6 (Rect.unit ![0, 0, 0] ![1, 256, 128] inb_S8x256x128_S1x256x128_0_0_0))) (k0_pay23 (View.ld b6 (Rect.unit ![1, 0, 0] ![1, 256, 128] inb_S8x256x128_S1x256x128_1_0_0))) (k0_pay24 (View.ld b6 (Rect.unit ![2, 0, 0] ![1, 256, 128] inb_S8x256x128_S1x256x128_2_0_0))) (k0_pay25 (View.ld b6 (Rect.unit ![3, 0, 0] ![1, 256, 128] inb_S8x256x128_S1x256x128_3_0_0))) (k0_pay26 (View.ld b6 (Rect.unit ![4, 0, 0] ![1, 256, 128] inb_S8x256x128_S1x256x128_4_0_0))) (k0_pay27 (View.ld b6 (Rect.unit ![5, 0, 0] ![1, 256, 128] inb_S8x256x128_S1x256x128_5_0_0))) (View.ld b6 (Rect.unit ![6, 0, 0] ![1, 256, 128] inb_S8x256x128_S1x256x128_6_0_0)) (View.ld b6 (Rect.unit ![7, 0, 0] ![1, 256, 128] inb_S8x256x128_S1x256x128_7_0_0)) b3 b5
def scaleT : FVec Ideal S512x1024 .f32 := k0_pay35 (hTile G U b0 b1) (gateT G U b0 b1 b4 b5) (k0_pay21 b2) (k0_pay22 (View.ld b6 (Rect.unit ![0, 0, 0] ![1, 256, 128] inb_S8x256x128_S1x256x128_0_0_0))) (k0_pay23 (View.ld b6 (Rect.unit ![1, 0, 0] ![1, 256, 128] inb_S8x256x128_S1x256x128_1_0_0))) (k0_pay24 (View.ld b6 (Rect.unit ![2, 0, 0] ![1, 256, 128] inb_S8x256x128_S1x256x128_2_0_0))) (k0_pay25 (View.ld b6 (Rect.unit ![3, 0, 0] ![1, 256, 128] inb_S8x256x128_S1x256x128_3_0_0))) (k0_pay26 (View.ld b6 (Rect.unit ![4, 0, 0] ![1, 256, 128] inb_S8x256x128_S1x256x128_4_0_0))) (k0_pay27 (View.ld b6 (Rect.unit ![5, 0, 0] ![1, 256, 128] inb_S8x256x128_S1x256x128_5_0_0))) (View.ld b6 (Rect.unit ![6, 0, 0] ![1, 256, 128] inb_S8x256x128_S1x256x128_6_0_0)) (View.ld b6 (Rect.unit ![7, 0, 0] ![1, 256, 128] inb_S8x256x128_S1x256x128_7_0_0)) b3 b5 b4
def rootT : FVec Ideal S512x1024 .f32 := k0_pay36 (hTile G U b0 b1) (k0_pay18 (qTile G U b0 b1)) (gateT G U b0 b1 b4 b5) (k0_pay21 b2) (k0_pay22 (View.ld b6 (Rect.unit ![0, 0, 0] ![1, 256, 128] inb_S8x256x128_S1x256x128_0_0_0))) (k0_pay23 (View.ld b6 (Rect.unit ![1, 0, 0] ![1, 256, 128] inb_S8x256x128_S1x256x128_1_0_0))) (k0_pay24 (View.ld b6 (Rect.unit ![2, 0, 0] ![1, 256, 128] inb_S8x256x128_S1x256x128_2_0_0))) (k0_pay25 (View.ld b6 (Rect.unit ![3, 0, 0] ![1, 256, 128] inb_S8x256x128_S1x256x128_3_0_0))) (k0_pay26 (View.ld b6 (Rect.unit ![4, 0, 0] ![1, 256, 128] inb_S8x256x128_S1x256x128_4_0_0))) (k0_pay27 (View.ld b6 (Rect.unit ![5, 0, 0] ![1, 256, 128] inb_S8x256x128_S1x256x128_5_0_0))) (View.ld b6 (Rect.unit ![6, 0, 0] ![1, 256, 128] inb_S8x256x128_S1x256x128_6_0_0)) (View.ld b6 (Rect.unit ![7, 0, 0] ![1, 256, 128] inb_S8x256x128_S1x256x128_7_0_0)) b3 b5 b4
def normT : FVec Ideal S512x1024 .bf16 := k0_pay19 (hTile G U b0 b1) (qTile G U b0 b1) b4

variable (i : Fin 512) (k : Fin 1024)

/-- A tile's rows. -/
abbrev hRow : Fin 1024 → EReal := hid (fun j => G (ix2 i j)) (fun j => U (ix2 i j)) (fun j k => b1 (ix2 j k)) (fun k => b0 (ix2 i k))
abbrev eRow : Fin 1024 → EReal := emb (fun q => b2 (ix2 i q)) (fun q k => b6 (ix3 ⟨k.val / 128, by omega⟩ q ⟨k.val % 128, by omega⟩))
abbrev tRow : Fin 1024 → EReal := fun k => b3 (ix2 i k)
abbrev gRow : Fin 1024 → EReal := fun k => b4 (ix2 0 k)
abbrev wRow : Fin 1024 → Fin 1024 → EReal := fun l k => b5 (ix2 l k)

set_option maxHeartbeats 2000000 in
theorem hTile_is : hTile G U b0 b1 (ix2 i k) = hRow G U b0 b1 i k := by
  unfold hTile hRow hid
  rw [Ple.slabs]
  unfold act
  pointwise [k0_pay16, k0_pay15, k0_pay14, k0_pay13, k0_pay12, k0_pay11, k0_pay10, k0_pay9, k0_pay8]

theorem qTile_is : qTile G U b0 b1 (ix2 i 0) = ∑ k, hRow G U b0 b1 i k * hRow G U b0 b1 i k := by
  unfold qTile
  pointwise [k0_pay17]
  exact Finset.sum_congr rfl fun k _ => congrArg₂ (· * ·) (hTile_is G U b0 b1 i k) (hTile_is G U b0 b1 i k)

theorem rTile_is : k0_pay18 (qTile G U b0 b1) (ix2 i 0) = rinv (hRow G U b0 b1 i) := by
  unfold rinv
  pointwise [k0_pay18]
  rw [qTile_is]

theorem norm_is : normT G U b0 b1 b4 (ix2 i k) = normed (hRow G U b0 b1 i) (gRow b4) k := by
  unfold normT normed
  pointwise [k0_pay19]
  rw [rTile_is, hTile_is]

theorem gate_is : gateT G U b0 b1 b4 b5 (ix2 i k) = gate (hRow G U b0 b1 i) (gRow b4) (wRow b5) k := by
  unfold gateT gate
  pointwise [k0_pay20]
  exact congrArg Ideal.logistic (Finset.sum_congr rfl fun l _ => congrArg (· * _) (norm_is G U b0 b1 b4 i l))

theorem eTile_is : eTile b2 b6 (ix2 i k) = eRow b2 b6 i k := by
  unfold eTile eRow emb
  pointwise [k0_pay28, k0_pay27, k0_pay26, k0_pay25, k0_pay24, k0_pay23, k0_pay22, k0_pay21]
  refine Finset.sum_congr rfl fun q _ => congrArg (_ * ·) ?_
  split_ifs
  all_goals
    refine congrArg₂ (fun (a : Fin 8) (c : Fin 128) => b6 (ix3 a q c)) (Fin.ext ?_) (Fin.ext ?_)
    · simp <;> omega
    · simp <;> omega

theorem err_is : errT G U b0 b1 b2 b3 b4 b5 b6 (ix2 i k) = err (hRow G U b0 b1 i) (gRow b4) (eRow b2 b6 i) (tRow b3 i) (wRow b5) k := by
  unfold errT err
  rw [← hTile_is, ← gate_is, ← eTile_is]
  rfl
theorem out_is : outT G U b0 b1 b2 b3 b4 b5 b6 (ix2 i k) = dOut (hRow G U b0 b1 i) (gRow b4) (eRow b2 b6 i) (tRow b3 i) (wRow b5) k := by
  unfold outT dOut
  rw [← err_is]
  rfl
theorem emb_is : embT G U b0 b1 b2 b3 b4 b5 b6 (ix2 i k) = dEmb (hRow G U b0 b1 i) (gRow b4) (eRow b2 b6 i) (tRow b3 i) (wRow b5) k := by
  unfold embT dEmb
  rw [← out_is, ← gate_is]
  rfl
theorem pre_is : preT G U b0 b1 b2 b3 b4 b5 b6 (ix2 i k) = dPre (hRow G U b0 b1 i) (gRow b4) (eRow b2 b6 i) (tRow b3 i) (wRow b5) k := by
  unfold preT dPre
  pointwise [k0_pay33]
  rw [gate_is]
  exact congrArg₂ (· * ·) (congrArg₂ (· * ·) (out_is G U b0 b1 b2 b3 b4 b5 b6 i k) (eTile_is b2 b6 i k)) rfl
theorem back_is : backT G U b0 b1 b2 b3 b4 b5 b6 (ix2 i k) = Ple.dNormed (hRow G U b0 b1 i) (gRow b4) (eRow b2 b6 i) (tRow b3 i) (wRow b5) k := by
  unfold backT Ple.dNormed
  pointwise [k0_pay34]
  exact Finset.sum_congr rfl fun j _ => congrArg (· * _) (pre_is G U b0 b1 b2 b3 b4 b5 b6 i j)
theorem scale_is : scaleT G U b0 b1 b2 b3 b4 b5 b6 (ix2 i k) = Ple.dNormed (hRow G U b0 b1 i) (gRow b4) (eRow b2 b6 i) (tRow b3 i) (wRow b5) k * gRow b4 k := by
  rw [← back_is]
  unfold scaleT
  pointwise [k0_pay35]
  rfl
theorem root_is : rootT G U b0 b1 b2 b3 b4 b5 b6 (ix2 i k)
    = rinv (hRow G U b0 b1 i) * (Ple.dNormed (hRow G U b0 b1 i) (gRow b4) (eRow b2 b6 i) (tRow b3 i) (wRow b5) k * gRow b4 k) := by
  rw [← scale_is]
  unfold rootT
  pointwise [k0_pay36]
  rw [rTile_is]
  rfl

/-- What a point leaves, by row, and what it adds to the sums. -/
def inTile : Vec Ideal S512x1024 .f32 := fun y => dIn (hRow G U b0 b1 (y 0)) (gRow b4) (eRow b2 b6 (y 0)) (tRow b3 (y 0)) (wRow b5) (y 1)
def lossPart (y : S1x128.Idx) : EReal := ∑ i : Fin 512, lossRow (hRow G U b0 b1 i) (gRow b4) (eRow b2 b6 i) (tRow b3 i) (wRow b5)
def pgPart (y : S1024x1024.Idx) : EReal :=
  ∑ i : Fin 512, normed (hRow G U b0 b1 i) (gRow b4) (y 0) * dPre (hRow G U b0 b1 i) (gRow b4) (eRow b2 b6 i) (tRow b3 i) (wRow b5) (y 1)
def gainPart (y : S1x1024.Idx) : EReal := ∑ i : Fin 512, Ple.dGain (hRow G U b0 b1 i) (gRow b4) (eRow b2 b6 i) (tRow b3 i) (wRow b5) (y 1)
def ppPart (q : Fin 256) (k : Fin 1024) : EReal :=
  ∑ i : Fin 512, b2 (ix2 i q) * dEmb (hRow G U b0 b1 i) (gRow b4) (eRow b2 b6 i) (tRow b3 i) (wRow b5) k

theorem in_is : k0_pay38 (hTile G U b0 b1) (k0_pay18 (qTile G U b0 b1)) (outT G U b0 b1 b2 b3 b4 b5 b6) (scaleT G U b0 b1 b2 b3 b4 b5 b6) (rootT G U b0 b1 b2 b3 b4 b5 b6)
    = inTile G U b0 b1 b2 b3 b4 b5 b6 := by
  funext y
  idx_vars y
  unfold inTile dIn normBack
  pointwise [k0_pay38]
  simp only [out_is, root_is, scale_is, hTile_is, rTile_is]

theorem loss_is (o : Vec Ideal S1x128 .f32) :
    k0_pay30 (hTile G U b0 b1) (gateT G U b0 b1 b4 b5) (k0_pay21 b2) (k0_pay22 (View.ld b6 (Rect.unit ![0, 0, 0] ![1, 256, 128] inb_S8x256x128_S1x256x128_0_0_0))) (k0_pay23 (View.ld b6 (Rect.unit ![1, 0, 0] ![1, 256, 128] inb_S8x256x128_S1x256x128_1_0_0))) (k0_pay24 (View.ld b6 (Rect.unit ![2, 0, 0] ![1, 256, 128] inb_S8x256x128_S1x256x128_2_0_0))) (k0_pay25 (View.ld b6 (Rect.unit ![3, 0, 0] ![1, 256, 128] inb_S8x256x128_S1x256x128_3_0_0))) (k0_pay26 (View.ld b6 (Rect.unit ![4, 0, 0] ![1, 256, 128] inb_S8x256x128_S1x256x128_4_0_0))) (k0_pay27 (View.ld b6 (Rect.unit ![5, 0, 0] ![1, 256, 128] inb_S8x256x128_S1x256x128_5_0_0))) (View.ld b6 (Rect.unit ![6, 0, 0] ![1, 256, 128] inb_S8x256x128_S1x256x128_6_0_0)) (View.ld b6 (Rect.unit ![7, 0, 0] ![1, 256, 128] inb_S8x256x128_S1x256x128_7_0_0)) b3 o = fun y => o y + lossPart G U b0 b1 b2 b3 b4 b5 b6 y := by
  funext y
  idx_vars y
  unfold lossPart lossRow
  rw [← loss_tile]
  pointwise [k0_pay30]
  refine congrArg (_ + ·) (congrArg (· * _) (Finset.sum_congr rfl fun k _ => Finset.sum_congr rfl fun i _ => ?_))
  rw [← err_is]
  rfl

theorem gain_is (o : Vec Ideal S1x1024 .f32) :
    k0_pay37 (hTile G U b0 b1) (k0_pay18 (qTile G U b0 b1)) (backT G U b0 b1 b2 b3 b4 b5 b6) o = fun y => o y + gainPart G U b0 b1 b2 b3 b4 b5 b6 y := by
  funext y
  idx_vars y
  obtain rfl : y0 = 0 := Subsingleton.elim _ _
  unfold gainPart Ple.dGain
  pointwise [k0_pay37]
  simp only [back_is, hTile_is, rTile_is]

theorem pg_is (o : Vec Ideal S1024x1024 .f32) :
    k0_pay3 (normT G U b0 b1 b4) (preT G U b0 b1 b2 b3 b4 b5 b6) o = fun y => o y + pgPart G U b0 b1 b2 b3 b4 b5 b6 y := by
  funext y
  idx_vars y
  unfold pgPart
  pointwise [k0_pay3]
  simp only [norm_is, pre_is]

theorem pp_is (q : Fin 256) : k0_pay39 (k0_pay21 b2) (embT G U b0 b1 b2 b3 b4 b5 b6) (ix2 q k) = ppPart G U b0 b1 b2 b3 b4 b5 b6 q k := by
  unfold ppPart
  pointwise [k0_pay39, k0_pay21]
  simp only [emb_is]

end Cert.PleBwdIdeal.Hand
-- ==== Proof.Ple.Tile.lean ====
module

public import proofs.«01_k».proof.Proof.Ple.Runs
public import proofs.«01_k».proof.Proof.Ple.Pay
public import Idealize.ShloMosaic.Lib.Pipeline.ReadBack

@[expose] public section

set_option maxRecDepth 16384

noncomputable section

/-! What the rings hold at a point, and loads of a whole buffer. -/

namespace Cert.PleBwdIdeal.Hand

open Cert.PleBwdIdeal Cert.PleBwdIdeal.Gen Cert.Ple Idealize.ShloMosaic Idealize.ShloMosaic.TcCoe Idealize.SL.Sem

/-- Row `i` of the tile at point `t`, among all rows. -/
def row (t : Fin cfg0.N) (i : Fin 512) : Fin 4096 :=
  ⟨512 * t.val + i.val, by have := lt_of_lt_of_eq t.isLt (show cfg0.N = 8 from N_0); omega⟩

/-- What a slot of the first ring and of the second hold, once their transfers are waited for; -/
def slotG (t : Fin cfg0.N) (f : FVec Ideal S4096x2816 .bf16) : Vec Ideal S512x2816 .bf16 := View.read (Elt Ideal) (srcB0_0 (Ring.bk 8 t.val)).view f
def slotU (t : Fin cfg0.N) (f : FVec Ideal S4096x2816 .bf16) : Vec Ideal S512x2816 .bf16 := View.read (Elt Ideal) (srcB0_1 (Ring.bk 8 t.val)).view f

/-- the tile's rows of the whole operand. -/
theorem slotG_read (t : Fin cfg0.N) (f : FVec Ideal S4096x2816 .bf16) (i : Fin 512) (j : Fin 2816) : slotG t f (ix2 i j) = f (ix2 (row t i) j) := by
  have := lt_of_lt_of_eq t.isLt (show cfg0.N = 8 from N_0)
  refine congrArg f (funext fun a => Fin.ext ?_)
  match a with
  | ⟨0, _⟩ =>
    show 512 * (Ring.bk 8 t.val).val + 1 * i.val = 512 * t.val + i.val
    rw [Ring.bk_val this]; omega
  | ⟨1, _⟩ => show 0 + 1 * j.val = j.val; omega
theorem slotU_read (t : Fin cfg0.N) (f : FVec Ideal S4096x2816 .bf16) (i : Fin 512) (j : Fin 2816) : slotU t f (ix2 i j) = f (ix2 (row t i) j) :=
  slotG_read t f i j

/-- A load from a buffer that one transfer filled reads what was transferred. -/
theorem readCov_wholePiece {sig : RefSig} {κ : Kind} {sp : Space} {s : Shape} {e : EltTy} {Val : EltTy → Type} [∀ e, Nonempty (Val e)] (v : View sig κ sp s e)
    (X : (Rect.whole s).shape.Idx → Val e) (r : Rect s) : v.readCov [⟨Rect.whole s, X⟩] r.toLoadRect = View.ld (show s.Idx → Val e from X) r :=
  View.readCov_fill v _ X [] r fun _ => rfl

end Cert.PleBwdIdeal.Hand
-- ==== Proof.Ple.TileIn.lean ====
module

public import proofs.«01_k».proof.Proof.Ple.Tile
public import proofs.«01_k».proof.Proof.Ple.Spec
public import Idealize.ShloMosaic.Lib.Pipeline.ReadBack

@[expose] public section

set_option maxRecDepth 16384

noncomputable section

/-! The gradient's tile and the loss at a point. -/

namespace Cert.PleBwdIdeal.Hand

open Cert.PleBwdIdeal Cert.PleBwdIdeal.Gen Cert.Ple Idealize.ShloMosaic Idealize.ShloMosaic.TcCoe Idealize.SL.Sem

variable (c : Dev nD) (t : Fin cfg0.N) (b0 : Vec Ideal S512x1024 .f32) (b1 : Vec Ideal S2816x1024 .bf16) (b2 : Vec Ideal S512x256 .f32) (b3 : Vec Ideal S512x1024 .f32) (b4 : Vec Ideal S1x1024 .f32) (b5 : Vec Ideal S1024x1024 .bf16) (b6 : Vec Ideal S8x256x128 .bf16)
  (o7 : Vec Ideal S1x128 .f32) (o9 : Vec Ideal S1024x1024 .f32) (o10 : Vec Ideal S8x256x128 .f32) (o11 : Vec Ideal S1x1024 .f32) (f0 f1 : FVec Ideal S4096x2816 .bf16)

set_option maxHeartbeats 2000000 in
/-- The tile of the gradient that every point leaves. -/
theorem tile8 :
    (∀ hc0 hc1, View.canon (runFirst c t b0 b1 b2 b3 b4 b5 b6 f0 f1 hc0 hc1).2.1 = inTile (slotG t f0) (slotU t f1) b0 b1 b2 b3 b4 b5 b6)
    ∧ (∀ hc0 hc1, View.canon (runMid c t b0 b1 b2 b3 b4 b5 b6 o7 o9 o10 o11 f0 f1 hc0 hc1).2.1 = inTile (slotG t f0) (slotU t f1) b0 b1 b2 b3 b4 b5 b6)
    ∧ (∀ hc0 hc1, View.canon (runLast c t b0 b1 b2 b3 b4 b5 b6 o7 o9 o10 o11 f0 f1 hc0 hc1).2.1 = inTile (slotG t f0) (slotU t f1) b0 b1 b2 b3 b4 b5 b6) := by
  refine ⟨fun hc0 hc1 => ?_, fun hc0 hc1 => ?_, fun hc0 hc1 => ?_⟩
  all_goals
      first | unfold runFirst | unfold runMid | unfold runLast
      frame_open
      simp (disch := decide) only [↓ View.readCov_skip, ↓ View.readCov_cons_toLoadRect, ↓ View.readCov_fill]
      frame_out
      simp only [readCov_wholePiece]
      exact in_is (slotG t f0) (slotU t f1) b0 b1 b2 b3 b4 b5 b6

set_option maxHeartbeats 2000000 in
/-- The loss so far. -/
theorem tile7 :
    (∀ hc0 hc1, View.canon (runFirst c t b0 b1 b2 b3 b4 b5 b6 f0 f1 hc0 hc1).1 = fun y => 0 + lossPart (slotG t f0) (slotU t f1) b0 b1 b2 b3 b4 b5 b6 y)
    ∧ (∀ hc0 hc1, View.canon (runMid c t b0 b1 b2 b3 b4 b5 b6 o7 o9 o10 o11 f0 f1 hc0 hc1).1 = fun y => o7 y + lossPart (slotG t f0) (slotU t f1) b0 b1 b2 b3 b4 b5 b6 y)
    ∧ (∀ hc0 hc1, View.canon (runLast c t b0 b1 b2 b3 b4 b5 b6 o7 o9 o10 o11 f0 f1 hc0 hc1).1 = fun y => o7 y + lossPart (slotG t f0) (slotU t f1) b0 b1 b2 b3 b4 b5 b6 y) := by
  refine ⟨fun hc0 hc1 => ?_, fun hc0 hc1 => ?_, fun hc0 hc1 => ?_⟩
  all_goals
      first | unfold runFirst | unfold runMid | unfold runLast
      frame_open
      simp (disch := decide) only [↓ View.readCov_skip, ↓ View.readCov_cons_toLoadRect, ↓ View.readCov_fill]
      frame_out
      simp only [readCov_wholePiece]
      first
        | exact loss_is (slotG t f0) (slotU t f1) b0 b1 b2 b3 b4 b5 b6 o7
        | exact (loss_is (slotG t f0) (slotU t f1) b0 b1 b2 b3 b4 b5 b6 (@k0_pay4 Ideal _)).trans (funext fun y => congrArg (· + _) (by idx_vars y; pointwise [k0_pay4]))

end Cert.PleBwdIdeal.Hand
-- ==== Proof.Ple.TileSums.lean ====
module

public import proofs.«01_k».proof.Proof.Ple.Tile
public import proofs.«01_k».proof.Proof.Ple.Spec
public import Idealize.ShloMosaic.Lib.Pipeline.ReadBack

@[expose] public section

set_option maxRecDepth 16384

noncomputable section

/-! The sums for the gain and the gate's weight at a point. -/

namespace Cert.PleBwdIdeal.Hand

open Cert.PleBwdIdeal Cert.PleBwdIdeal.Gen Cert.Ple Idealize.ShloMosaic Idealize.ShloMosaic.TcCoe Idealize.SL.Sem

variable (c : Dev nD) (t : Fin cfg0.N) (b0 : Vec Ideal S512x1024 .f32) (b1 : Vec Ideal S2816x1024 .bf16) (b2 : Vec Ideal S512x256 .f32) (b3 : Vec Ideal S512x1024 .f32) (b4 : Vec Ideal S1x1024 .f32) (b5 : Vec Ideal S1024x1024 .bf16) (b6 : Vec Ideal S8x256x128 .bf16)
  (o7 : Vec Ideal S1x128 .f32) (o9 : Vec Ideal S1024x1024 .f32) (o10 : Vec Ideal S8x256x128 .f32) (o11 : Vec Ideal S1x1024 .f32) (f0 f1 : FVec Ideal S4096x2816 .bf16)

set_option maxHeartbeats 2000000 in
/-- The gain's gradient so far. -/
theorem tile11 :
    (∀ hc0 hc1, View.canon (runFirst c t b0 b1 b2 b3 b4 b5 b6 f0 f1 hc0 hc1).2.2.2.2.1 = fun y => 0 + gainPart (slotG t f0) (slotU t f1) b0 b1 b2 b3 b4 b5 b6 y)
    ∧ (∀ hc0 hc1, View.canon (runMid c t b0 b1 b2 b3 b4 b5 b6 o7 o9 o10 o11 f0 f1 hc0 hc1).2.2.2.2.1 = fun y => o11 y + gainPart (slotG t f0) (slotU t f1) b0 b1 b2 b3 b4 b5 b6 y)
    ∧ (∀ hc0 hc1, View.canon (runLast c t b0 b1 b2 b3 b4 b5 b6 o7 o9 o10 o11 f0 f1 hc0 hc1).2.2.2.2.1 = fun y => o11 y + gainPart (slotG t f0) (slotU t f1) b0 b1 b2 b3 b4 b5 b6 y) := by
  refine ⟨fun hc0 hc1 => ?_, fun hc0 hc1 => ?_, fun hc0 hc1 => ?_⟩
  all_goals
      first | unfold runFirst | unfold runMid | unfold runLast
      frame_open
      simp (disch := decide) only [↓ View.readCov_skip, ↓ View.readCov_cons_toLoadRect, ↓ View.readCov_fill]
      frame_out
      simp only [readCov_wholePiece]
      first
        | exact gain_is (slotG t f0) (slotU t f1) b0 b1 b2 b3 b4 b5 b6 o11
        | exact (gain_is (slotG t f0) (slotU t f1) b0 b1 b2 b3 b4 b5 b6 (@k0_pay7 Ideal _)).trans (funext fun y => congrArg (· + _) (by idx_vars y; pointwise [k0_pay7]))

set_option maxHeartbeats 2000000 in
/-- The gate weight's gradient so far. -/
theorem tile9 :
    (∀ hc0 hc1, View.canon (runFirst c t b0 b1 b2 b3 b4 b5 b6 f0 f1 hc0 hc1).2.2.1 = fun y => 0 + pgPart (slotG t f0) (slotU t f1) b0 b1 b2 b3 b4 b5 b6 y)
    ∧ (∀ hc0 hc1, View.canon (runMid c t b0 b1 b2 b3 b4 b5 b6 o7 o9 o10 o11 f0 f1 hc0 hc1).2.2.1 = fun y => o9 y + pgPart (slotG t f0) (slotU t f1) b0 b1 b2 b3 b4 b5 b6 y)
    ∧ (∀ hc0 hc1, View.canon (runLast c t b0 b1 b2 b3 b4 b5 b6 o7 o9 o10 o11 f0 f1 hc0 hc1).2.2.1 = fun y => o9 y + pgPart (slotG t f0) (slotU t f1) b0 b1 b2 b3 b4 b5 b6 y) := by
  refine ⟨fun hc0 hc1 => ?_, fun hc0 hc1 => ?_, fun hc0 hc1 => ?_⟩
  all_goals
      first | unfold runFirst | unfold runMid | unfold runLast
      frame_open
      simp (disch := decide) only [↓ View.readCov_skip, ↓ View.readCov_cons_toLoadRect, ↓ View.readCov_fill]
      frame_out
      simp only [readCov_wholePiece]
      first
        | exact pg_is (slotG t f0) (slotU t f1) b0 b1 b2 b3 b4 b5 b6 o9
        | exact (pg_is (slotG t f0) (slotU t f1) b0 b1 b2 b3 b4 b5 b6 (@k0_pay5 Ideal _)).trans (funext fun y => congrArg (· + _) (by idx_vars y; pointwise [k0_pay5]))

end Cert.PleBwdIdeal.Hand
-- ==== Proof.Ple.TileEmb.lean ====
module

public import proofs.«01_k».proof.Proof.Ple.Tile
public import proofs.«01_k».proof.Proof.Ple.Spec
public import Idealize.ShloMosaic.Lib.Pipeline.ReadBack

@[expose] public section

set_option maxRecDepth 16384

noncomputable section

/-! The sum for the embedding's weight at a point. -/

namespace Cert.PleBwdIdeal.Hand

open Cert.PleBwdIdeal Cert.PleBwdIdeal.Gen Cert.Ple Idealize.ShloMosaic Idealize.ShloMosaic.TcCoe Idealize.SL.Sem

/-- Lane `l` of piece `b`, among the weight's columns. -/
def lane (b : Fin 8) (l : Fin 128) : Fin 1024 := ⟨b.val * 128 + l.val, by omega⟩

theorem ld_zero (r : Rect S8x256x128) (x : r.shape.Idx) : View.ld (show Vec Ideal S8x256x128 .f32 from k0_pay6 (F := Ideal)) r x = 0 := by
  have k (y : S8x256x128.Idx) : k0_pay6 (F := Ideal) y = 0 := by
    idx_vars y
    pointwise [k0_pay6]
  exact k _

/-- Once pieces hold an index, what was stored before them is not read there. -/
theorem canon_front {s : Shape} {e : EltTy} (L L' : List (View.Piece (Elt Ideal) s e)) (y : s.Idx) (hc : ∃ p ∈ L, y ∈ p.1.set) : View.canon (L ++ L') y = View.canon L y := by
  induction L with
  | nil => exact absurd hc (by simp)
  | cons p L ih =>
    by_cases hm : y ∈ p.1.set
    · obtain ⟨x, rfl⟩ := p.1.exists_idx_of_mem hm
      show View.canon (p :: (L ++ L')) _ = _
      rw [show p.1.idx x = p.1.emb x from rfl, View.canon_cons_emb, View.canon_cons_emb]
    · refine (View.canon_cons_of_not_mem _ _ hm).trans ((ih ?_).trans (View.canon_cons_of_not_mem _ _ hm).symm)
      obtain ⟨q, hq, hy⟩ := hc
      rcases List.mem_cons.mp hq with rfl | hq
      · exact absurd hy hm
      · exact ⟨q, hq, hy⟩

theorem add_of {a b a' b' : EReal} (h : a = a') (k : b = b') : a + b = a' + b' := by rw [h, k]

/-! A piece: what it held, and its columns of the product. -/

theorem piece0 (w : FVec Ideal S512x256 .bf16) (d : FVec Ideal S512x1024 .bf16) (o : FVec Ideal S1x256x128 .f32) (z : Fin 1) (q : Fin 256) (l : Fin 128) :
    k0_pay40 w d o (ix3 z q l) = o (ix3 z q l) + k0_pay39 w d (ix2 q (⟨0 + l.val, by omega⟩ : Fin 1024)) := by
  obtain rfl : z = 0 := Subsingleton.elim _ _
  pointwise [k0_pay40]
theorem piece1 (w : FVec Ideal S512x256 .bf16) (d : FVec Ideal S512x1024 .bf16) (o : FVec Ideal S1x256x128 .f32) (z : Fin 1) (q : Fin 256) (l : Fin 128) :
    k0_pay42 (k0_pay41 w d o) (ix3 z q l) = o (ix3 z q l) + k0_pay39 w d (ix2 q (⟨128 + l.val, by omega⟩ : Fin 1024)) := by
  obtain rfl : z = 0 := Subsingleton.elim _ _
  pointwise [k0_pay42, k0_pay41]
theorem piece2 (W : FVec Ideal S256x1024 .f32) (o : FVec Ideal S1x256x128 .f32) (z : Fin 1) (q : Fin 256) (l : Fin 128) :
    k0_pay43 W o (ix3 z q l) = o (ix3 z q l) + W (ix2 q (⟨256 + l.val, by omega⟩ : Fin 1024)) := by
  obtain rfl : z = 0 := Subsingleton.elim _ _
  pointwise [k0_pay43]
theorem piece3 (W : FVec Ideal S256x1024 .f32) (o : FVec Ideal S1x256x128 .f32) (z : Fin 1) (q : Fin 256) (l : Fin 128) :
    k0_pay44 W o (ix3 z q l) = o (ix3 z q l) + W (ix2 q (⟨384 + l.val, by omega⟩ : Fin 1024)) := by
  obtain rfl : z = 0 := Subsingleton.elim _ _
  pointwise [k0_pay44]
theorem piece4 (W : FVec Ideal S256x1024 .f32) (o : FVec Ideal S1x256x128 .f32) (z : Fin 1) (q : Fin 256) (l : Fin 128) :
    k0_pay45 W o (ix3 z q l) = o (ix3 z q l) + W (ix2 q (⟨512 + l.val, by omega⟩ : Fin 1024)) := by
  obtain rfl : z = 0 := Subsingleton.elim _ _
  pointwise [k0_pay45]
theorem piece5 (W : FVec Ideal S256x1024 .f32) (o : FVec Ideal S1x256x128 .f32) (z : Fin 1) (q : Fin 256) (l : Fin 128) :
    k0_pay46 W o (ix3 z q l) = o (ix3 z q l) + W (ix2 q (⟨640 + l.val, by omega⟩ : Fin 1024)) := by
  obtain rfl : z = 0 := Subsingleton.elim _ _
  pointwise [k0_pay46]
theorem piece6 (W : FVec Ideal S256x1024 .f32) (o : FVec Ideal S1x256x128 .f32) (z : Fin 1) (q : Fin 256) (l : Fin 128) :
    k0_pay1 W o (ix3 z q l) = o (ix3 z q l) + W (ix2 q (⟨768 + l.val, by omega⟩ : Fin 1024)) := by
  obtain rfl : z = 0 := Subsingleton.elim _ _
  pointwise [k0_pay1]
theorem piece7 (W : FVec Ideal S256x1024 .f32) (o : FVec Ideal S1x256x128 .f32) (z : Fin 1) (q : Fin 256) (l : Fin 128) :
    k0_pay2 W o (ix3 z q l) = o (ix3 z q l) + W (ix2 q (⟨896 + l.val, by omega⟩ : Fin 1024)) := by
  obtain rfl : z = 0 := Subsingleton.elim _ _
  pointwise [k0_pay2]

variable (c : Dev nD) (t : Fin cfg0.N) (b0 : Vec Ideal S512x1024 .f32) (b1 : Vec Ideal S2816x1024 .bf16) (b2 : Vec Ideal S512x256 .f32) (b3 : Vec Ideal S512x1024 .f32) (b4 : Vec Ideal S1x1024 .f32) (b5 : Vec Ideal S1024x1024 .bf16) (b6 : Vec Ideal S8x256x128 .bf16)
  (o7 : Vec Ideal S1x128 .f32) (o9 : Vec Ideal S1024x1024 .f32) (o10 : Vec Ideal S8x256x128 .f32) (o11 : Vec Ideal S1x1024 .f32) (f0 f1 : FVec Ideal S4096x2816 .bf16)

set_option maxHeartbeats 1000000 in
/-- The embedding weight's gradient so far, in eight pieces: the first point, -/
theorem tile10_first (hc0 hc1) : View.canon (runFirst c t b0 b1 b2 b3 b4 b5 b6 f0 f1 hc0 hc1).2.2.2.1 = fun y => 0 + ppPart (slotG t f0) (slotU t f1) b0 b1 b2 b3 b4 b5 b6 (y 1) (lane (y 0) (y 2)) := by
  unfold runFirst
  frame_open
  simp (disch := decide) only [↓ View.readCov_skip, ↓ View.readCov_cons_toLoadRect, ↓ View.readCov_fill]
  frame_out
  simp only [readCov_wholePiece]
  funext y
  refine (canon_front [_, _, _, _, _, _, _, _] [_] y (View.cover_of_tiledBy _ ![1, 256, 128] (by sl_kernel_rfl) y)).trans ?_
  canon_tiles x h
  all_goals
    idx_vars x
    idx_vars y
    obtain rfl := Fin.ext h1
    obtain rfl := Fin.ext h2
  case piece0 =>
    refine (piece7 _ _ _ _ _).trans (add_of ?_ ((pp_is (slotG t f0) (slotU t f1) b0 b1 b2 b3 b4 b5 b6 _ _).trans ?_))
    · exact ld_zero _ _
    · exact congrArg (ppPart (slotG t f0) (slotU t f1) b0 b1 b2 b3 b4 b5 b6 _) (Fin.ext (by simp only [lane]; omega))
  case piece1 =>
    refine (piece6 _ _ _ _ _).trans (add_of ?_ ((pp_is (slotG t f0) (slotU t f1) b0 b1 b2 b3 b4 b5 b6 _ _).trans ?_))
    · exact ld_zero _ _
    · exact congrArg (ppPart (slotG t f0) (slotU t f1) b0 b1 b2 b3 b4 b5 b6 _) (Fin.ext (by simp only [lane]; omega))
  case piece2 =>
    refine (piece5 _ _ _ _ _).trans (add_of ?_ ((pp_is (slotG t f0) (slotU t f1) b0 b1 b2 b3 b4 b5 b6 _ _).trans ?_))
    · exact ld_zero _ _
    · exact congrArg (ppPart (slotG t f0) (slotU t f1) b0 b1 b2 b3 b4 b5 b6 _) (Fin.ext (by simp only [lane]; omega))
  case piece3 =>
    refine (piece4 _ _ _ _ _).trans (add_of ?_ ((pp_is (slotG t f0) (slotU t f1) b0 b1 b2 b3 b4 b5 b6 _ _).trans ?_))
    · exact ld_zero _ _
    · exact congrArg (ppPart (slotG t f0) (slotU t f1) b0 b1 b2 b3 b4 b5 b6 _) (Fin.ext (by simp only [lane]; omega))
  case piece4 =>
    refine (piece3 _ _ _ _ _).trans (add_of ?_ ((pp_is (slotG t f0) (slotU t f1) b0 b1 b2 b3 b4 b5 b6 _ _).trans ?_))
    · exact ld_zero _ _
    · exact congrArg (ppPart (slotG t f0) (slotU t f1) b0 b1 b2 b3 b4 b5 b6 _) (Fin.ext (by simp only [lane]; omega))
  case piece5 =>
    refine (piece2 _ _ _ _ _).trans (add_of ?_ ((pp_is (slotG t f0) (slotU t f1) b0 b1 b2 b3 b4 b5 b6 _ _).trans ?_))
    · exact ld_zero _ _
    · exact congrArg (ppPart (slotG t f0) (slotU t f1) b0 b1 b2 b3 b4 b5 b6 _) (Fin.ext (by simp only [lane]; omega))
  case piece6 =>
    refine (piece1 _ _ _ _ _ _).trans (add_of ?_ ((pp_is (slotG t f0) (slotU t f1) b0 b1 b2 b3 b4 b5 b6 _ _).trans ?_))
    · exact ld_zero _ _
    · exact congrArg (ppPart (slotG t f0) (slotU t f1) b0 b1 b2 b3 b4 b5 b6 _) (Fin.ext (by simp only [lane]; omega))
  case piece7 =>
    refine (piece0 _ _ _ _ _ _).trans (add_of ?_ ((pp_is (slotG t f0) (slotU t f1) b0 b1 b2 b3 b4 b5 b6 _ _).trans ?_))
    · exact ld_zero _ _
    · exact congrArg (ppPart (slotG t f0) (slotU t f1) b0 b1 b2 b3 b4 b5 b6 _) (Fin.ext (by simp only [lane]; omega))

set_option maxHeartbeats 1000000 in
/-- a point between, -/
theorem tile10_middle (hc0 hc1) : View.canon (runMid c t b0 b1 b2 b3 b4 b5 b6 o7 o9 o10 o11 f0 f1 hc0 hc1).2.2.2.1 = fun y => o10 y + ppPart (slotG t f0) (slotU t f1) b0 b1 b2 b3 b4 b5 b6 (y 1) (lane (y 0) (y 2)) := by
  unfold runMid
  frame_open
  simp (disch := decide) only [↓ View.readCov_skip, ↓ View.readCov_cons_toLoadRect, ↓ View.readCov_fill]
  frame_out
  simp only [readCov_wholePiece]
  funext y
  canon_tiles x h
  all_goals
    idx_vars x
    idx_vars y
    obtain rfl := Fin.ext h1
    obtain rfl := Fin.ext h2
  case piece0 =>
    refine (piece7 _ _ _ _ _).trans (add_of ?_ ((pp_is (slotG t f0) (slotU t f1) b0 b1 b2 b3 b4 b5 b6 _ _).trans ?_))
    · exact congrArg o10 (funext fun a => by match a with | ⟨0, _⟩ => exact Fin.ext (by show _ = _; simp at h0 ⊢; omega) | ⟨1, _⟩ => exact Fin.ext (by simp) | ⟨2, _⟩ => exact Fin.ext (by simp))
    · exact congrArg (ppPart (slotG t f0) (slotU t f1) b0 b1 b2 b3 b4 b5 b6 _) (Fin.ext (by simp only [lane]; omega))
  case piece1 =>
    refine (piece6 _ _ _ _ _).trans (add_of ?_ ((pp_is (slotG t f0) (slotU t f1) b0 b1 b2 b3 b4 b5 b6 _ _).trans ?_))
    · exact congrArg o10 (funext fun a => by match a with | ⟨0, _⟩ => exact Fin.ext (by show _ = _; simp at h0 ⊢; omega) | ⟨1, _⟩ => exact Fin.ext (by simp) | ⟨2, _⟩ => exact Fin.ext (by simp))
    · exact congrArg (ppPart (slotG t f0) (slotU t f1) b0 b1 b2 b3 b4 b5 b6 _) (Fin.ext (by simp only [lane]; omega))
  case piece2 =>
    refine (piece5 _ _ _ _ _).trans (add_of ?_ ((pp_is (slotG t f0) (slotU t f1) b0 b1 b2 b3 b4 b5 b6 _ _).trans ?_))
    · exact congrArg o10 (funext fun a => by match a with | ⟨0, _⟩ => exact Fin.ext (by show _ = _; simp at h0 ⊢; omega) | ⟨1, _⟩ => exact Fin.ext (by simp) | ⟨2, _⟩ => exact Fin.ext (by simp))
    · exact congrArg (ppPart (slotG t f0) (slotU t f1) b0 b1 b2 b3 b4 b5 b6 _) (Fin.ext (by simp only [lane]; omega))
  case piece3 =>
    refine (piece4 _ _ _ _ _).trans (add_of ?_ ((pp_is (slotG t f0) (slotU t f1) b0 b1 b2 b3 b4 b5 b6 _ _).trans ?_))
    · exact congrArg o10 (funext fun a => by match a with | ⟨0, _⟩ => exact Fin.ext (by show _ = _; simp at h0 ⊢; omega) | ⟨1, _⟩ => exact Fin.ext (by simp) | ⟨2, _⟩ => exact Fin.ext (by simp))
    · exact congrArg (ppPart (slotG t f0) (slotU t f1) b0 b1 b2 b3 b4 b5 b6 _) (Fin.ext (by simp only [lane]; omega))
  case piece4 =>
    refine (piece3 _ _ _ _ _).trans (add_of ?_ ((pp_is (slotG t f0) (slotU t f1) b0 b1 b2 b3 b4 b5 b6 _ _).trans ?_))
    · exact congrArg o10 (funext fun a => by match a with | ⟨0, _⟩ => exact Fin.ext (by show _ = _; simp at h0 ⊢; omega) | ⟨1, _⟩ => exact Fin.ext (by simp) | ⟨2, _⟩ => exact Fin.ext (by simp))
    · exact congrArg (ppPart (slotG t f0) (slotU t f1) b0 b1 b2 b3 b4 b5 b6 _) (Fin.ext (by simp only [lane]; omega))
  case piece5 =>
    refine (piece2 _ _ _ _ _).trans (add_of ?_ ((pp_is (slotG t f0) (slotU t f1) b0 b1 b2 b3 b4 b5 b6 _ _).trans ?_))
    · exact congrArg o10 (funext fun a => by match a with | ⟨0, _⟩ => exact Fin.ext (by show _ = _; simp at h0 ⊢; omega) | ⟨1, _⟩ => exact Fin.ext (by simp) | ⟨2, _⟩ => exact Fin.ext (by simp))
    · exact congrArg (ppPart (slotG t f0) (slotU t f1) b0 b1 b2 b3 b4 b5 b6 _) (Fin.ext (by simp only [lane]; omega))
  case piece6 =>
    refine (piece1 _ _ _ _ _ _).trans (add_of ?_ ((pp_is (slotG t f0) (slotU t f1) b0 b1 b2 b3 b4 b5 b6 _ _).trans ?_))
    · exact congrArg o10 (funext fun a => by match a with | ⟨0, _⟩ => exact Fin.ext (by show _ = _; simp at h0 ⊢; omega) | ⟨1, _⟩ => exact Fin.ext (by simp) | ⟨2, _⟩ => exact Fin.ext (by simp))
    · exact congrArg (ppPart (slotG t f0) (slotU t f1) b0 b1 b2 b3 b4 b5 b6 _) (Fin.ext (by simp only [lane]; omega))
  case piece7 =>
    refine (piece0 _ _ _ _ _ _).trans (add_of ?_ ((pp_is (slotG t f0) (slotU t f1) b0 b1 b2 b3 b4 b5 b6 _ _).trans ?_))
    · exact congrArg o10 (funext fun a => by match a with | ⟨0, _⟩ => exact Fin.ext (by show _ = _; simp at h0 ⊢; omega) | ⟨1, _⟩ => exact Fin.ext (by simp) | ⟨2, _⟩ => exact Fin.ext (by simp))
    · exact congrArg (ppPart (slotG t f0) (slotU t f1) b0 b1 b2 b3 b4 b5 b6 _) (Fin.ext (by simp only [lane]; omega))

set_option maxHeartbeats 1000000 in
/-- the last. -/
theorem tile10_last (hc0 hc1) : View.canon (runLast c t b0 b1 b2 b3 b4 b5 b6 o7 o9 o10 o11 f0 f1 hc0 hc1).2.2.2.1 = fun y => o10 y + ppPart (slotG t f0) (slotU t f1) b0 b1 b2 b3 b4 b5 b6 (y 1) (lane (y 0) (y 2)) := by
  unfold runLast
  frame_open
  simp (disch := decide) only [↓ View.readCov_skip, ↓ View.readCov_cons_toLoadRect, ↓ View.readCov_fill]
  frame_out
  simp only [readCov_wholePiece]
  funext y
  canon_tiles x h
  all_goals
    idx_vars x
    idx_vars y
    obtain rfl := Fin.ext h1
    obtain rfl := Fin.ext h2
  case piece0 =>
    refine (piece7 _ _ _ _ _).trans (add_of ?_ ((pp_is (slotG t f0) (slotU t f1) b0 b1 b2 b3 b4 b5 b6 _ _).trans ?_))
    · exact congrArg o10 (funext fun a => by match a with | ⟨0, _⟩ => exact Fin.ext (by show _ = _; simp at h0 ⊢; omega) | ⟨1, _⟩ => exact Fin.ext (by simp) | ⟨2, _⟩ => exact Fin.ext (by simp))
    · exact congrArg (ppPart (slotG t f0) (slotU t f1) b0 b1 b2 b3 b4 b5 b6 _) (Fin.ext (by simp only [lane]; omega))
  case piece1 =>
    refine (piece6 _ _ _ _ _).trans (add_of ?_ ((pp_is (slotG t f0) (slotU t f1) b0 b1 b2 b3 b4 b5 b6 _ _).trans ?_))
    · exact congrArg o10 (funext fun a => by match a with | ⟨0, _⟩ => exact Fin.ext (by show _ = _; simp at h0 ⊢; omega) | ⟨1, _⟩ => exact Fin.ext (by simp) | ⟨2, _⟩ => exact Fin.ext (by simp))
    · exact congrArg (ppPart (slotG t f0) (slotU t f1) b0 b1 b2 b3 b4 b5 b6 _) (Fin.ext (by simp only [lane]; omega))
  case piece2 =>
    refine (piece5 _ _ _ _ _).trans (add_of ?_ ((pp_is (slotG t f0) (slotU t f1) b0 b1 b2 b3 b4 b5 b6 _ _).trans ?_))
    · exact congrArg o10 (funext fun a => by match a with | ⟨0, _⟩ => exact Fin.ext (by show _ = _; simp at h0 ⊢; omega) | ⟨1, _⟩ => exact Fin.ext (by simp) | ⟨2, _⟩ => exact Fin.ext (by simp))
    · exact congrArg (ppPart (slotG t f0) (slotU t f1) b0 b1 b2 b3 b4 b5 b6 _) (Fin.ext (by simp only [lane]; omega))
  case piece3 =>
    refine (piece4 _ _ _ _ _).trans (add_of ?_ ((pp_is (slotG t f0) (slotU t f1) b0 b1 b2 b3 b4 b5 b6 _ _).trans ?_))
    · exact congrArg o10 (funext fun a => by match a with | ⟨0, _⟩ => exact Fin.ext (by show _ = _; simp at h0 ⊢; omega) | ⟨1, _⟩ => exact Fin.ext (by simp) | ⟨2, _⟩ => exact Fin.ext (by simp))
    · exact congrArg (ppPart (slotG t f0) (slotU t f1) b0 b1 b2 b3 b4 b5 b6 _) (Fin.ext (by simp only [lane]; omega))
  case piece4 =>
    refine (piece3 _ _ _ _ _).trans (add_of ?_ ((pp_is (slotG t f0) (slotU t f1) b0 b1 b2 b3 b4 b5 b6 _ _).trans ?_))
    · exact congrArg o10 (funext fun a => by match a with | ⟨0, _⟩ => exact Fin.ext (by show _ = _; simp at h0 ⊢; omega) | ⟨1, _⟩ => exact Fin.ext (by simp) | ⟨2, _⟩ => exact Fin.ext (by simp))
    · exact congrArg (ppPart (slotG t f0) (slotU t f1) b0 b1 b2 b3 b4 b5 b6 _) (Fin.ext (by simp only [lane]; omega))
  case piece5 =>
    refine (piece2 _ _ _ _ _).trans (add_of ?_ ((pp_is (slotG t f0) (slotU t f1) b0 b1 b2 b3 b4 b5 b6 _ _).trans ?_))
    · exact congrArg o10 (funext fun a => by match a with | ⟨0, _⟩ => exact Fin.ext (by show _ = _; simp at h0 ⊢; omega) | ⟨1, _⟩ => exact Fin.ext (by simp) | ⟨2, _⟩ => exact Fin.ext (by simp))
    · exact congrArg (ppPart (slotG t f0) (slotU t f1) b0 b1 b2 b3 b4 b5 b6 _) (Fin.ext (by simp only [lane]; omega))
  case piece6 =>
    refine (piece1 _ _ _ _ _ _).trans (add_of ?_ ((pp_is (slotG t f0) (slotU t f1) b0 b1 b2 b3 b4 b5 b6 _ _).trans ?_))
    · exact congrArg o10 (funext fun a => by match a with | ⟨0, _⟩ => exact Fin.ext (by show _ = _; simp at h0 ⊢; omega) | ⟨1, _⟩ => exact Fin.ext (by simp) | ⟨2, _⟩ => exact Fin.ext (by simp))
    · exact congrArg (ppPart (slotG t f0) (slotU t f1) b0 b1 b2 b3 b4 b5 b6 _) (Fin.ext (by simp only [lane]; omega))
  case piece7 =>
    refine (piece0 _ _ _ _ _ _).trans (add_of ?_ ((pp_is (slotG t f0) (slotU t f1) b0 b1 b2 b3 b4 b5 b6 _ _).trans ?_))
    · exact congrArg o10 (funext fun a => by match a with | ⟨0, _⟩ => exact Fin.ext (by show _ = _; simp at h0 ⊢; omega) | ⟨1, _⟩ => exact Fin.ext (by simp) | ⟨2, _⟩ => exact Fin.ext (by simp))
    · exact congrArg (ppPart (slotG t f0) (slotU t f1) b0 b1 b2 b3 b4 b5 b6 _) (Fin.ext (by simp only [lane]; omega))

end Cert.PleBwdIdeal.Hand
-- ==== Proof.Ple.Names.lean ====
module

public import proofs.«01_k».proof.Proof.Ple.Runs
public import proofs.«01_k».proof.Proof.Ple.TileIn
public import proofs.«01_k».proof.Proof.Ple.TileSums
public import proofs.«01_k».proof.Proof.Ple.TileEmb

@[expose] public section

set_option maxRecDepth 16384

noncomputable section

/-! Over the reals, what the points leave is the row-wise gradient, and the sums of its rows so far. -/

namespace Cert.PleBwdIdeal.Hand

open Cert.PleBwdIdeal Cert.PleBwdIdeal.Gen Cert.Ple
open Idealize.ShloMosaic Idealize.ShloMosaic.TcCoe Idealize.SL.Sem

variable (m : (ℓ : Loc nD τ sig) → Buf (Elt Ideal) ℓ) (c : Dev nD)

section At

variable (t : Fin cfg0.N)

/-- What a point leaves and what it adds to the sums. -/
abbrev inAt : Vec Ideal S512x1024 .f32 := inTile (slotG t (V m c main_v3)) (slotU t (V m c main_v4)) (iblk m c 0 t) (iblk m c 1 t) (iblk m c 2 t) (iblk m c 3 t) (iblk m c 4 t) (iblk m c 5 t) (iblk m c 6 t)
abbrev lossAt : S1x128.Idx → EReal := lossPart (slotG t (V m c main_v3)) (slotU t (V m c main_v4)) (iblk m c 0 t) (iblk m c 1 t) (iblk m c 2 t) (iblk m c 3 t) (iblk m c 4 t) (iblk m c 5 t) (iblk m c 6 t)
abbrev pgAt : S1024x1024.Idx → EReal := pgPart (slotG t (V m c main_v3)) (slotU t (V m c main_v4)) (iblk m c 0 t) (iblk m c 1 t) (iblk m c 2 t) (iblk m c 3 t) (iblk m c 4 t) (iblk m c 5 t) (iblk m c 6 t)
abbrev gainAt : S1x1024.Idx → EReal := gainPart (slotG t (V m c main_v3)) (slotU t (V m c main_v4)) (iblk m c 0 t) (iblk m c 1 t) (iblk m c 2 t) (iblk m c 3 t) (iblk m c 4 t) (iblk m c 5 t) (iblk m c 6 t)
abbrev ppAt : S8x256x128.Idx → EReal := fun y => ppPart (slotG t (V m c main_v3)) (slotU t (V m c main_v4)) (iblk m c 0 t) (iblk m c 1 t) (iblk m c 2 t) (iblk m c 3 t) (iblk m c 4 t) (iblk m c 5 t) (iblk m c 6 t) (y 1) (lane (y 0) (y 2))

end At

/-- A quantity every point adds to, after point `n`. -/
def upTo {ι : Type} (f : Fin cfg0.N → ι → EReal) : ℕ → ι → EReal
  | 0, y => if h : 0 < cfg0.N then f ⟨0, h⟩ y else 0
  | n + 1, y => upTo f n y + if h : n + 1 < cfg0.N then f ⟨n + 1, h⟩ y else 0

theorem upTo_first {ι : Type} (f : Fin cfg0.N → ι → EReal) (t : Fin cfg0.N) (h : t.val = 0) : upTo f t.val = fun y => 0 + f t y := by
  obtain ⟨n, hn⟩ := t
  obtain rfl : n = 0 := h
  funext y
  rw [zero_add]; exact dif_pos hn

theorem upTo_next {ι : Type} (f : Fin cfg0.N → ι → EReal) (t : Fin cfg0.N) (h : ¬t.val = 0) :
    upTo f t.val = fun y => upTo f (t.val - 1) y + f t y := by
  obtain ⟨n, hn⟩ := t
  cases n with
  | zero => exact absurd rfl h
  | succ n => funext y; exact congrArg (upTo f n y + ·) (dif_pos hn)

/-! What each kind of point leaves, from the sums before it. -/

set_option maxHeartbeats 2000000 in
theorem first_is (t : Fin cfg0.N) (o s : Five Ideal) (hc0 : cond0_0 (grid0.coords t)) (hc1 : cond0_1 (grid0.coords t)) (h7 : s.loss = fun y => 0 + lossAt m c t y) (h8 : s.inp = inAt m c t) (h9 : s.pg = fun y => 0 + pgAt m c t y)
    (h10 : s.pp = fun y => 0 + ppAt m c t y) (h11 : s.gain = fun y => 0 + gainAt m c t y) : firstFive m c t hc0 hc1 = s := by
  refine Eq.trans (fiveOf_congr (a := s.loss) (b := s.inp) (d := s.pg) (e := s.pp) (f := s.gain) ?_ ?_ ?_ ?_ ?_) ?_
  · exact ((tile7 c t (iblk m c 0 t) (iblk m c 1 t) (iblk m c 2 t) (iblk m c 3 t) (iblk m c 4 t) (iblk m c 5 t) (iblk m c 6 t) o.loss o.pg o.pp o.gain (V m c main_v3) (V m c main_v4)).1 hc0 hc1).trans h7.symm
  · exact ((tile8 c t (iblk m c 0 t) (iblk m c 1 t) (iblk m c 2 t) (iblk m c 3 t) (iblk m c 4 t) (iblk m c 5 t) (iblk m c 6 t) o.loss o.pg o.pp o.gain (V m c main_v3) (V m c main_v4)).1 hc0 hc1).trans h8.symm
  · exact ((tile9 c t (iblk m c 0 t) (iblk m c 1 t) (iblk m c 2 t) (iblk m c 3 t) (iblk m c 4 t) (iblk m c 5 t) (iblk m c 6 t) o.loss o.pg o.pp o.gain (V m c main_v3) (V m c main_v4)).1 hc0 hc1).trans h9.symm
  · exact (tile10_first c t (iblk m c 0 t) (iblk m c 1 t) (iblk m c 2 t) (iblk m c 3 t) (iblk m c 4 t) (iblk m c 5 t) (iblk m c 6 t) (V m c main_v3) (V m c main_v4) hc0 hc1).trans h10.symm
  · exact ((tile11 c t (iblk m c 0 t) (iblk m c 1 t) (iblk m c 2 t) (iblk m c 3 t) (iblk m c 4 t) (iblk m c 5 t) (iblk m c 6 t) o.loss o.pg o.pp o.gain (V m c main_v3) (V m c main_v4)).1 hc0 hc1).trans h11.symm
  · cases s; rfl

set_option maxHeartbeats 2000000 in
theorem middle_is (t : Fin cfg0.N) (o s : Five Ideal) (hc0 : ¬cond0_0 (grid0.coords t)) (hc1 : cond0_1 (grid0.coords t)) (h7 : s.loss = fun y => o.loss y + lossAt m c t y) (h8 : s.inp = inAt m c t) (h9 : s.pg = fun y => o.pg y + pgAt m c t y)
    (h10 : s.pp = fun y => o.pp y + ppAt m c t y) (h11 : s.gain = fun y => o.gain y + gainAt m c t y) : middleFive m c t o hc0 hc1 = s := by
  refine Eq.trans (fiveOf_congr (a := s.loss) (b := s.inp) (d := s.pg) (e := s.pp) (f := s.gain) ?_ ?_ ?_ ?_ ?_) ?_
  · exact ((tile7 c t (iblk m c 0 t) (iblk m c 1 t) (iblk m c 2 t) (iblk m c 3 t) (iblk m c 4 t) (iblk m c 5 t) (iblk m c 6 t) o.loss o.pg o.pp o.gain (V m c main_v3) (V m c main_v4)).2.1 hc0 hc1).trans h7.symm
  · exact ((tile8 c t (iblk m c 0 t) (iblk m c 1 t) (iblk m c 2 t) (iblk m c 3 t) (iblk m c 4 t) (iblk m c 5 t) (iblk m c 6 t) o.loss o.pg o.pp o.gain (V m c main_v3) (V m c main_v4)).2.1 hc0 hc1).trans h8.symm
  · exact ((tile9 c t (iblk m c 0 t) (iblk m c 1 t) (iblk m c 2 t) (iblk m c 3 t) (iblk m c 4 t) (iblk m c 5 t) (iblk m c 6 t) o.loss o.pg o.pp o.gain (V m c main_v3) (V m c main_v4)).2.1 hc0 hc1).trans h9.symm
  · exact (tile10_middle c t (iblk m c 0 t) (iblk m c 1 t) (iblk m c 2 t) (iblk m c 3 t) (iblk m c 4 t) (iblk m c 5 t) (iblk m c 6 t) o.loss o.pg o.pp o.gain (V m c main_v3) (V m c main_v4) hc0 hc1).trans h10.symm
  · exact ((tile11 c t (iblk m c 0 t) (iblk m c 1 t) (iblk m c 2 t) (iblk m c 3 t) (iblk m c 4 t) (iblk m c 5 t) (iblk m c 6 t) o.loss o.pg o.pp o.gain (V m c main_v3) (V m c main_v4)).2.1 hc0 hc1).trans h11.symm
  · cases s; rfl

set_option maxHeartbeats 2000000 in
theorem last_is (t : Fin cfg0.N) (o s : Five Ideal) (hc0 : ¬cond0_0 (grid0.coords t)) (hc1 : ¬cond0_1 (grid0.coords t)) (h7 : s.loss = fun y => o.loss y + lossAt m c t y) (h8 : s.inp = inAt m c t) (h9 : s.pg = fun y => o.pg y + pgAt m c t y)
    (h10 : s.pp = fun y => o.pp y + ppAt m c t y) (h11 : s.gain = fun y => o.gain y + gainAt m c t y) : lastFive m c t o hc0 hc1 = s := by
  refine Eq.trans (fiveOf_congr (a := s.loss) (b := s.inp) (d := s.pg) (e := s.pp) (f := s.gain) ?_ ?_ ?_ ?_ ?_) ?_
  · exact ((tile7 c t (iblk m c 0 t) (iblk m c 1 t) (iblk m c 2 t) (iblk m c 3 t) (iblk m c 4 t) (iblk m c 5 t) (iblk m c 6 t) o.loss o.pg o.pp o.gain (V m c main_v3) (V m c main_v4)).2.2 hc0 hc1).trans h7.symm
  · exact ((tile8 c t (iblk m c 0 t) (iblk m c 1 t) (iblk m c 2 t) (iblk m c 3 t) (iblk m c 4 t) (iblk m c 5 t) (iblk m c 6 t) o.loss o.pg o.pp o.gain (V m c main_v3) (V m c main_v4)).2.2 hc0 hc1).trans h8.symm
  · exact ((tile9 c t (iblk m c 0 t) (iblk m c 1 t) (iblk m c 2 t) (iblk m c 3 t) (iblk m c 4 t) (iblk m c 5 t) (iblk m c 6 t) o.loss o.pg o.pp o.gain (V m c main_v3) (V m c main_v4)).2.2 hc0 hc1).trans h9.symm
  · exact (tile10_last c t (iblk m c 0 t) (iblk m c 1 t) (iblk m c 2 t) (iblk m c 3 t) (iblk m c 4 t) (iblk m c 5 t) (iblk m c 6 t) o.loss o.pg o.pp o.gain (V m c main_v3) (V m c main_v4) hc0 hc1).trans h10.symm
  · exact ((tile11 c t (iblk m c 0 t) (iblk m c 1 t) (iblk m c 2 t) (iblk m c 3 t) (iblk m c 4 t) (iblk m c 5 t) (iblk m c 6 t) o.loss o.pg o.pp o.gain (V m c main_v3) (V m c main_v4)).2.2 hc0 hc1).trans h11.symm
  · cases s; rfl

/-- What the points leave, in closed form; -/
def closedAt (n : ℕ) : Five Ideal where
  loss := upTo (lossAt m c) n
  inp := if h : n < cfg0.N then inAt m c ⟨n, h⟩ else fun _ => 0
  pg := upTo (pgAt m c) n
  pp := upTo (ppAt m c) n
  gain := upTo (gainAt m c) n

theorem closed_inp (t : Fin cfg0.N) : (closedAt m c t.val).inp = inAt m c t := dif_pos t.isLt

theorem closed_first (t : Fin cfg0.N) (h : t.val = 0) (hc0 : cond0_0 (grid0.coords t)) (hc1 : cond0_1 (grid0.coords t)) : firstFive m c t hc0 hc1 = closedAt m c t.val :=
  first_is m c t (closedAt m c 0) _ hc0 hc1 (upTo_first (lossAt m c) t h) (closed_inp m c t) (upTo_first (pgAt m c) t h) (upTo_first (ppAt m c) t h) (upTo_first (gainAt m c) t h)
theorem closed_middle (t : Fin cfg0.N) (h : ¬t.val = 0) (hc0 : ¬cond0_0 (grid0.coords t)) (hc1 : cond0_1 (grid0.coords t)) : middleFive m c t (closedAt m c (t.val - 1)) hc0 hc1 = closedAt m c t.val :=
  middle_is m c t _ _ hc0 hc1 (upTo_next (lossAt m c) t h) (closed_inp m c t) (upTo_next (pgAt m c) t h) (upTo_next (ppAt m c) t h) (upTo_next (gainAt m c) t h)
theorem closed_last (t : Fin cfg0.N) (h : ¬t.val = 0) (hc0 : ¬cond0_0 (grid0.coords t)) (hc1 : ¬cond0_1 (grid0.coords t)) : lastFive m c t (closedAt m c (t.val - 1)) hc0 hc1 = closedAt m c t.val :=
  last_is m c t _ _ hc0 hc1 (upTo_next (lossAt m c) t h) (closed_inp m c t) (upTo_next (pgAt m c) t h) (upTo_next (ppAt m c) t h) (upTo_next (gainAt m c) t h)

/-- so these arrays are what the points leave. -/
def closed : Left m c where
  at' := closedAt m c
  first_eq := closed_first m c
  middle_eq := closed_middle m c
  last_eq := closed_last m c

end Cert.PleBwdIdeal.Hand
-- ==== Proof.Ple.Ref.lean ====
module

public import proofs.«01_k».proof.Proof.Ple.Spec
public import proofs.«01_k».proof.Proof.Gen.PleBwdRefIdeal.Read
public import Idealize.ShloMosaic.Lib.Pointwise
public import Idealize.ShloMosaic.Lib.IdealHost

@[expose] public section

set_option maxRecDepth 16384

noncomputable section

/-! The reference's results, entry by entry, are the row-wise loss and gradient. -/

namespace Cert.PleBwdRefIdeal.Hand

open Cert.PleBwdRefIdeal Cert.PleBwdRefIdeal.Gen Cert.PleBwdRefIdeal.Read Cert.Ffn Cert.Ple Cert.Kit
open Idealize.ShloMosaic Idealize.ShloMosaic.TcCoe Idealize.SL.Sem

variable (x0 x1 : (⟨S4096x2816, .f32⟩ : BufTy).Contents (Elt Ideal)) (x2 : (⟨S4096x1024, .f32⟩ : BufTy).Contents (Elt Ideal))
  (x3 : (⟨S2816x1024, .f32⟩ : BufTy).Contents (Elt Ideal)) (x4 : (⟨S4096x256, .f32⟩ : BufTy).Contents (Elt Ideal))
  (x5 : (⟨S4096x1024, .f32⟩ : BufTy).Contents (Elt Ideal)) (x6 : (⟨S1x1024, .f32⟩ : BufTy).Contents (Elt Ideal))
  (x7 : (⟨S1024x1024, .f32⟩ : BufTy).Contents (Elt Ideal)) (x8 : (⟨S256x1024, .f32⟩ : BufTy).Contents (Elt Ideal))
  (r : Fin 4096) (k l : Fin 1024) (j : Fin 2816) (q : Fin 256)

/-- The arguments' rows, and what follows from them before the gate. -/
abbrev WD : Fin 2816 → Fin 1024 → EReal := fun j k => x3 (ix2 j k)
abbrev HR : Fin 4096 → Fin 1024 → EReal := fun r => hid (fun j => x0 (ix2 r j)) (fun j => x1 (ix2 r j)) (WD x3) (fun k => x2 (ix2 r k))
abbrev ER : Fin 4096 → Fin 1024 → EReal := fun r => emb (fun q => x4 (ix2 r q)) (fun q k => x8 (ix2 q k))
abbrev TR : Fin 4096 → Fin 1024 → EReal := fun r k => x5 (ix2 r k)
abbrev G : Fin 1024 → EReal := fun k => x6 (ix2 0 k)
abbrev WG : Fin 1024 → Fin 1024 → EReal := fun l k => x7 (ix2 l k)

theorem hidden : val_main_v3 (F := Ideal) x0 x1 x2 x3 (ix2 r k) = HR x0 x1 x2 x3 r k := by
  unfold HR hid act Ideal.logistic
  pointwise [val_main_v3, val_main_v2, val_main_v1, val_main_v0, val_main_call0_v5, val_main_call0_v4, val_main_call0_v3, val_main_call0_v2, val_main_call0_v1,
    val_main_call0_v0, val_main_call0_cst, val_main_call0_cst_0]

theorem root : val_main_v12 (F := Ideal) x0 x1 x2 x3 (ix2 r 0) = rinv (HR x0 x1 x2 x3 r) := by
  unfold rinv
  pointwise [val_main_v12, val_main_v11, val_main_v10, val_main_v9, val_main_v8, val_main_v7, val_main_v6, val_main_v5, val_main_cst_1, val_main_cst_0, val_main_cst]
  simp only [hidden]

theorem scaled : val_main_v17 (F := Ideal) x0 x1 x2 x3 (ix2 r k) = HR x0 x1 x2 x3 r k * rinv (HR x0 x1 x2 x3 r) := by
  pointwise [val_main_v17, val_main_v16]
  rw [root, hidden]

theorem norm : val_main_v20 (F := Ideal) x0 x1 x2 x3 x6 (ix2 r k) = normed (HR x0 x1 x2 x3 r) (G x6) k := by
  unfold normed
  pointwise [val_main_v20, val_main_v19, val_main_v18, val_main_v4]
  rw [scaled]

theorem gated : val_main_v27 (F := Ideal) x0 x1 x2 x3 x6 x7 (ix2 r k) = gate (HR x0 x1 x2 x3 r) (G x6) (WG x7) k := by
  unfold gate Ideal.logistic
  pointwise [val_main_v27, val_main_v26, val_main_v25, val_main_v24, val_main_v23, val_main_v22, val_main_v21, val_main_cst_3, val_main_cst_4]
  simp only [norm]

theorem embedded : val_main_v31 (F := Ideal) x4 x8 (ix2 r k) = ER x4 x8 r k := by
  unfold ER emb
  pointwise [val_main_v31]

theorem off : val_main_v34 (F := Ideal) x0 x1 x2 x3 x4 x5 x6 x7 x8 (ix2 r k) = err (HR x0 x1 x2 x3 r) (G x6) (ER x4 x8 r) (TR x5 r) (WG x7) k := by
  unfold err
  pointwise [val_main_v34, val_main_v33, val_main_v32]
  rw [hidden, gated, embedded]

section Finite

variable (h0 : ∀ i, Num (x0 i)) (h1 : ∀ i, Num (x1 i)) (h2 : ∀ i, Num (x2 i)) (h3 : ∀ i, Num (x3 i)) (h4 : ∀ i, Num (x4 i))
  (h5 : ∀ i, Num (x5 i)) (h6 : ∀ i, Num (x6 i)) (h7 : ∀ i, Num (x7 i)) (h8 : ∀ i, Num (x8 i))

include h0 h1 h2 h3 in
theorem hid_num : Num (HR x0 x1 x2 x3 r k) :=
  (h2 _).add (Num.sum fun j => (((h0 _).mul (h0 _).logistic).mul (h1 _)).mul (h3 _))
include h0 h1 h2 h3 in
theorem root_num : Num (rinv (HR x0 x1 x2 x3 r)) := rinv_num _ fun k => hid_num x0 x1 x2 x3 r k h0 h1 h2 h3
include h0 h1 h2 h3 h6 h7 in
theorem gate_num : Num (gate (HR x0 x1 x2 x3 r) (G x6) (WG x7) k) :=
  (Num.sum fun l => (((hid_num x0 x1 x2 x3 r l h0 h1 h2 h3).mul (root_num x0 x1 x2 x3 r h0 h1 h2 h3)).mul (h6 _)).mul (h7 _)).logistic
include h4 h8 in
theorem emb_num : Num (ER x4 x8 r k) := Num.sum fun q => (h4 _).mul (h8 _)
include h0 h1 h2 h3 h4 h5 h6 h7 h8 in
theorem err_num : Num (err (HR x0 x1 x2 x3 r) (G x6) (ER x4 x8 r) (TR x5 r) (WG x7) k) :=
  ((hid_num x0 x1 x2 x3 r k h0 h1 h2 h3).add ((gate_num x0 x1 x2 x3 x6 x7 r k h0 h1 h2 h3 h6 h7).mul (emb_num x4 x8 r k h4 h8))).sub (h5 _)
include h0 h1 h2 h3 h4 h5 h6 h7 h8 in
theorem out_num : Num (dOut (HR x0 x1 x2 x3 r) (G x6) (ER x4 x8 r) (TR x5 r) (WG x7) k) :=
  (err_num x0 x1 x2 x3 x4 x5 x6 x7 x8 r k h0 h1 h2 h3 h4 h5 h6 h7 h8).mul (by rw [over_is]; exact Num.coe _)
include h0 h1 h2 h3 h4 h5 h6 h7 h8 in
theorem pre_num : Num (dPre (HR x0 x1 x2 x3 r) (G x6) (ER x4 x8 r) (TR x5 r) (WG x7) k) := by
  have hg := gate_num x0 x1 x2 x3 x6 x7 r k h0 h1 h2 h3 h6 h7
  exact ((out_num x0 x1 x2 x3 x4 x5 x6 x7 x8 r k h0 h1 h2 h3 h4 h5 h6 h7 h8).mul (emb_num x4 x8 r k h4 h8)).mul (hg.mul (Num.one.sub hg))
include h0 h1 h2 h3 h4 h5 h6 h7 h8 in
theorem back_num : Num (dNormed (HR x0 x1 x2 x3 r) (G x6) (ER x4 x8 r) (TR x5 r) (WG x7) k) :=
  Num.sum fun j => (pre_num x0 x1 x2 x3 x4 x5 x6 x7 x8 r j h0 h1 h2 h3 h4 h5 h6 h7 h8).mul (h7 _)

include h0 h1 h2 h3 h4 h5 h6 h7 h8 in
theorem out : val_main_v48 (F := Ideal) x0 x1 x2 x3 x4 x5 x6 x7 x8 (ix2 r k) = dOut (HR x0 x1 x2 x3 r) (G x6) (ER x4 x8 r) (TR x5 r) (WG x7) k := by
  unfold dOut
  pointwise [val_main_v48, val_main_v47, val_main_v46, val_main_v45, val_main_v44, val_main_v43, val_main_v37, val_main_v36, val_main_cst_6, val_main_cst_11,
    val_main_cst_12, val_main_cst_13]
  rw [off]
  obtain ⟨a, ha⟩ := err_num x0 x1 x2 x3 x4 x5 x6 x7 x8 r k h0 h1 h2 h3 h4 h5 h6 h7 h8
  rw [ha, over_is, half_is, two_is, Num.ofBits_1024, Num.div_coe _ (by norm_num)]
  norm_cast
  congr 1
  ring

include h0 h1 h2 h3 h4 h5 h6 h7 h8 in
theorem pre : val_main_v53 (F := Ideal) x0 x1 x2 x3 x4 x5 x6 x7 x8 (ix2 r k) = dPre (HR x0 x1 x2 x3 r) (G x6) (ER x4 x8 r) (TR x5 r) (WG x7) k := by
  unfold dPre
  pointwise [val_main_v53, val_main_v50, val_main_v30, val_main_v29, val_main_v28, val_main_cst_5]
  rw [gated, embedded, out x0 x1 x2 x3 x4 x5 x6 x7 x8 r k h0 h1 h2 h3 h4 h5 h6 h7 h8]

include h0 h1 h2 h3 h4 h5 h6 h7 h8 in
theorem gateWeight : val_main_v55 (F := Ideal) x0 x1 x2 x3 x4 x5 x6 x7 x8 (ix2 l k)
    = ∑ r, normed (HR x0 x1 x2 x3 r) (G x6) l * dPre (HR x0 x1 x2 x3 r) (G x6) (ER x4 x8 r) (TR x5 r) (WG x7) k := by
  pointwise [val_main_v55, val_main_v54]
  exact Finset.sum_congr rfl fun r _ => by rw [norm, pre x0 x1 x2 x3 x4 x5 x6 x7 x8 r k h0 h1 h2 h3 h4 h5 h6 h7 h8, mul_comm]

include h0 h1 h2 h3 h4 h5 h6 h7 h8 in
theorem back : val_main_v56 (F := Ideal) x0 x1 x2 x3 x4 x5 x6 x7 x8 (ix2 r k) = dNormed (HR x0 x1 x2 x3 r) (G x6) (ER x4 x8 r) (TR x5 r) (WG x7) k := by
  unfold Ple.dNormed
  pointwise [val_main_v56]
  exact Finset.sum_congr rfl fun j _ => by rw [pre x0 x1 x2 x3 x4 x5 x6 x7 x8 r j h0 h1 h2 h3 h4 h5 h6 h7 h8]

include h0 h1 h2 h3 h4 h5 h6 h7 h8 in
theorem gained : val_main_v78 (F := Ideal) x0 x1 x2 x3 x4 x5 x6 x7 x8 (ix2 0 k)
    = ∑ r, dGain (HR x0 x1 x2 x3 r) (G x6) (ER x4 x8 r) (TR x5 r) (WG x7) k := by
  pointwise [val_main_v78, val_main_v62, val_main_v59, val_main_v58, val_main_v57, val_main_cst_14, val_main_cst_15]
  rw [Fin.sum_univ_one]
  refine Finset.sum_congr rfl fun r _ => ?_
  unfold Ple.dGain
  rw [scaled, back x0 x1 x2 x3 x4 x5 x6 x7 x8 r k h0 h1 h2 h3 h4 h5 h6 h7 h8, mul_comm]

include h0 h1 h2 h3 h4 h5 h6 h7 h8 in
theorem entered : val_main_v77 (F := Ideal) x0 x1 x2 x3 x4 x5 x6 x7 x8 (ix2 r k) = dIn (HR x0 x1 x2 x3 r) (G x6) (ER x4 x8 r) (TR x5 r) (WG x7) k := by
  unfold dIn normBack
  pointwise [val_main_v77, val_main_v76, val_main_v75, val_main_v74, val_main_v73, val_main_v72, val_main_v71, val_main_v70, val_main_v69, val_main_v68, val_main_v67,
    val_main_v66, val_main_v65, val_main_v64, val_main_v63, val_main_v61, val_main_v60, val_main_v18, val_main_v4, val_main_v15, val_main_v14, val_main_v13,
    val_main_v11, val_main_v10, val_main_v9, val_main_v8, val_main_v7, val_main_v6, val_main_v5, val_main_cst_18, val_main_cst_17, val_main_cst_16, val_main_cst_2,
    val_main_cst_1, val_main_cst_0, val_main_cst]
  simp only [Fin.sum_univ_one, root, hidden]
  have n (x : Fin 1024) := hid_num x0 x1 x2 x3 r x h0 h1 h2 h3
  have e := rinv_cube (HR x0 x1 x2 x3 r) n
  have b (x : Fin 1024) := back x0 x1 x2 x3 x4 x5 x6 x7 x8 r x h0 h1 h2 h3 h4 h5 h6 h7 h8
  have m (x : Fin 1024) := back_num x0 x1 x2 x3 x4 x5 x6 x7 x8 r x h0 h1 h2 h3 h4 h5 h6 h7 h8
  simp only [e, b, out x0 x1 x2 x3 x4 x5 x6 x7 x8 r k h0 h1 h2 h3 h4 h5 h6 h7 h8]
  refine (Num.norm_back (out_num x0 x1 x2 x3 x4 x5 x6 x7 x8 r k h0 h1 h2 h3 h4 h5 h6 h7 h8) (m k) (h6 (ix2 0 k)) (n k)
    (root_num x0 x1 x2 x3 r h0 h1 h2 h3) (Num.sum fun x => (n x).mul ((m x).mul (h6 (ix2 0 x))))).trans ?_
  simp only [mul_comm (HR x0 x1 x2 x3 r _) (_ * _)]

include h0 h1 h2 h3 h4 h5 h6 h7 h8 in
theorem embWeight (a : Fin 8) (b : Fin 128) : val_main_v80 (F := Ideal) x0 x1 x2 x3 x4 x5 x6 x7 x8 (ix3 a q b)
    = ∑ r, x4 (ix2 r q) * dEmb (HR x0 x1 x2 x3 r) (G x6) (ER x4 x8 r) (TR x5 r) (WG x7) ⟨a * 128 + b, by omega⟩ := by
  pointwise [val_main_v80, val_main_v79, val_main_v52, val_main_v51, val_main_v49]
  refine Finset.sum_congr rfl fun r _ => ?_
  rw [gated, out x0 x1 x2 x3 x4 x5 x6 x7 x8 r _ h0 h1 h2 h3 h4 h5 h6 h7 h8, mul_comm]
  unfold dEmb
  rw [mul_comm (gate _ _ _ _)]

include h0 h1 h2 h3 h4 h5 h6 h7 h8 in
theorem lost (y : S1x128.Idx) : val_main_v81 (F := Ideal) x0 x1 x2 x3 x4 x5 x6 x7 x8 y = ∑ r, lossRow (HR x0 x1 x2 x3 r) (G x6) (ER x4 x8 r) (TR x5 r) (WG x7) := by
  idx_vars y
  pointwise [val_main_v81, val_main_v42, val_main_v41, val_main_v40, val_main_v39, val_main_v38, val_main_v35, val_main_cst_7, val_main_cst_8, val_main_cst_9, val_main_cst_10]
  simp only [off]
  rw [half_is, mul_comm, sum_over _ _ (by norm_num)]
  refine Finset.sum_congr rfl fun r _ => ?_
  obtain ⟨s, hs⟩ := Num.sum (s := Finset.univ) fun k => (err_num x0 x1 x2 x3 x4 x5 x6 x7 x8 r k h0 h1 h2 h3 h4 h5 h6 h7 h8).mul
    (err_num x0 x1 x2 x3 x4 x5 x6 x7 x8 r k h0 h1 h2 h3 h4 h5 h6 h7 h8)
  unfold lossRow
  rw [hs, halfOver_is, Num.ofBits_1024, Num.div_coe _ (by norm_num)]
  norm_cast
  congr 1
  ring

end Finite

end Cert.PleBwdRefIdeal.Hand
-- ==== Proof.Ple.Value.lean ====
module

public import proofs.«01_k».proof.Proof.Ple.Names
public import proofs.«01_k».proof.Proof.Ple.Frame
public import proofs.«01_k».proof.Proof.Ple.Ref
public import Idealize.ShloMosaic.Lib.Pipeline.Value
public import Idealize.ShloMosaic.Lib.Pipeline.ValueKit
public import Idealize.ShloMosaic.Lib.Claim

@[expose] public section

set_option maxRecDepth 16384

noncomputable section

/-! The gated embedding's gradients, whole arrays: every entry is the row-wise gradient at its row, or the sum of the rows' parts. -/

namespace Cert.PleBwdIdeal.Hand

open Cert.PleBwdIdeal Cert.PleBwdIdeal.Gen Cert.Ple
open Idealize.ShloMosaic Idealize.ShloMosaic.TcCoe Idealize.SL.Sem
open Idealize.ShloMosaic.Pipeline (Dat)
open Cert.PleBwdRefIdeal.Hand (HR ER TR G WG WD)

variable (m : (ℓ : Loc nD τ sig) → Buf (Elt Ideal) ℓ) (c : Dev nD)

theorem places : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![0, 0]
    ∧ win0_6.index t = ![0, 0, 0] ∧ win0_7.index t = ![0, 0] ∧ win0_8.index t = ![t.val, 0] ∧ win0_9.index t = ![0, 0] ∧ win0_10.index t = ![0, 0, 0] ∧ win0_11.index t = ![0, 0] :=
  (by decide +kernel : ∀ t : Fin grid0.N, _)

section Rows

/-- The arguments. -/
abbrev arr0 := m ((c : Thread nD τ).loc main_arg0)
abbrev arr1 := m ((c : Thread nD τ).loc main_arg1)
abbrev arr2 := m ((c : Thread nD τ).loc main_arg2)
abbrev arr3 := m ((c : Thread nD τ).loc main_arg3)
abbrev arr4 := m ((c : Thread nD τ).loc main_arg4)
abbrev arr5 := m ((c : Thread nD τ).loc main_arg5)
abbrev arr6 := m ((c : Thread nD τ).loc main_arg6)
abbrev arr7 := m ((c : Thread nD τ).loc main_arg7)
abbrev arr8 := m ((c : Thread nD τ).loc main_arg8)

/-- A row of the table's argument. -/
def ps (r : Fin 4096) (q : Fin 256) : EReal := arr4 m c (ix2 r q)

section Blocks

variable (t : Fin cfg0.N) (i : Fin 512)

/-- What the host's casts hand over. -/
theorem gates (j : Fin 2816) : slotG t (V m c main_v3) (ix2 i j) = arr0 m c (ix2 (row t i) j) := by
  refine (slotG_read t (V m c main_v3) i j).trans ?_
  generalize row t i = r
  entry_read
  pointwise
theorem ups (j : Fin 2816) : slotU t (V m c main_v4) (ix2 i j) = arr1 m c (ix2 (row t i) j) := by
  refine (slotU_read t (V m c main_v4) i j).trans ?_
  generalize row t i = r
  entry_read
  pointwise
theorem block1 : (iblk m c 1 t : Vec Ideal S2816x1024 .bf16) = V m c main_v5 := by
  funext x; blk_ext [iblk, places t]
theorem block5 : (iblk m c 5 t : Vec Ideal S1024x1024 .bf16) = V m c main_v6 := by
  funext x; blk_ext [iblk, places t]
theorem block6 : (iblk m c 6 t : Vec Ideal S8x256x128 .bf16) = V m c main_v2 := by
  funext x; blk_ext [iblk, places t]
theorem down (j : Fin 2816) (k : Fin 1024) : (iblk m c 1 t : Vec Ideal S2816x1024 .bf16) (ix2 j k) = arr3 m c (ix2 j k) := by
  rw [block1 m c t]
  entry_read
  pointwise
theorem w_at : wRow (iblk m c 5 t) = WG (arr7 m c) := by
  funext l k
  show (iblk m c 5 t : Vec Ideal S1024x1024 .bf16) (ix2 l k) = arr7 m c (ix2 l k)
  rw [block5 m c t]
  entry_read
  pointwise
theorem embs (a : Fin 8) (q : Fin 256) (b : Fin 128) : (iblk m c 6 t : Vec Ideal S8x256x128 .bf16) (ix3 a q b) = arr8 m c (ix2 q ⟨a.val * 128 + b.val, by omega⟩) := by
  rw [block6 m c t]
  entry_read
  pointwise
theorem hidden (k : Fin 1024) : (iblk m c 0 t : Vec Ideal S512x1024 .f32) (ix2 i k) = arr2 m c (ix2 (row t i) k) := by
  unfold row; blk_ext [iblk, V, places t]
theorem tables (q : Fin 256) : (iblk m c 2 t : Vec Ideal S512x256 .f32) (ix2 i q) = arr4 m c (ix2 (row t i) q) := by
  unfold row; blk_ext [iblk, V, places t]
theorem t_at : tRow (iblk m c 3 t) i = TR (arr5 m c) (row t i) := by
  funext k
  show (iblk m c 3 t : Vec Ideal S512x1024 .f32) (ix2 i k) = arr5 m c (ix2 (row t i) k)
  unfold row; blk_ext [iblk, V, places t]
theorem g_at : gRow (iblk m c 4 t) = G (arr6 m c) := by
  funext k
  show (iblk m c 4 t : Vec Ideal S1x1024 .f32) (ix2 0 k) = arr6 m c (ix2 0 k)
  blk_ext [iblk, V, places t]
theorem h_at : hRow (slotG t (V m c main_v3)) (slotU t (V m c main_v4)) (iblk m c 0 t) (iblk m c 1 t) i = HR (arr0 m c) (arr1 m c) (arr2 m c) (arr3 m c) (row t i) := by
  exact congr (congr (congr (congrArg hid (funext (gates m c t i))) (funext (ups m c t i))) (funext fun j => funext (down m c t j))) (funext (hidden m c t i))
theorem e_at : eRow (iblk m c 2 t) (iblk m c 6 t) i = ER (arr4 m c) (arr8 m c) (row t i) := by
  unfold eRow ER
  simp only [embs, tables]
  congr 1
  funext q k
  exact congrArg (fun k => arr8 m c (ix2 q k)) (Fin.ext (by show k.val / 128 * 128 + k.val % 128 = k.val; omega))

theorem in_at (k : Fin 1024) : inAt m c t (ix2 i k) = dIn (HR (arr0 m c) (arr1 m c) (arr2 m c) (arr3 m c) (row t i)) (G (arr6 m c)) (ER (arr4 m c) (arr8 m c) (row t i)) (TR (arr5 m c) (row t i)) (WG (arr7 m c)) k := by
  show dIn (hRow (slotG t (V m c main_v3)) (slotU t (V m c main_v4)) (iblk m c 0 t) (iblk m c 1 t) i) (gRow (iblk m c 4 t)) (eRow (iblk m c 2 t) (iblk m c 6 t) i) (tRow (iblk m c 3 t) i) (wRow (iblk m c 5 t)) k = _
  rw [h_at, e_at, t_at, g_at, w_at]

end Blocks

theorem loss_at (t : Fin cfg0.N) (y : S1x128.Idx) : lossAt m c t y = ∑ i : Fin 512, lossRow (HR (arr0 m c) (arr1 m c) (arr2 m c) (arr3 m c) (row t i)) (G (arr6 m c)) (ER (arr4 m c) (arr8 m c) (row t i)) (TR (arr5 m c) (row t i)) (WG (arr7 m c)) := by
  show lossPart (slotG t (V m c main_v3)) (slotU t (V m c main_v4)) (iblk m c 0 t) (iblk m c 1 t) (iblk m c 2 t) (iblk m c 3 t) (iblk m c 4 t) (iblk m c 5 t) (iblk m c 6 t) y = _
  unfold lossPart
  refine Finset.sum_congr rfl fun i _ => ?_
  rw [h_at, e_at, t_at, g_at, w_at]
theorem pg_at (t : Fin cfg0.N) (y : S1024x1024.Idx) : pgAt m c t y = ∑ i : Fin 512, normed (HR (arr0 m c) (arr1 m c) (arr2 m c) (arr3 m c) (row t i)) (G (arr6 m c)) (y 0) * dPre (HR (arr0 m c) (arr1 m c) (arr2 m c) (arr3 m c) (row t i)) (G (arr6 m c)) (ER (arr4 m c) (arr8 m c) (row t i)) (TR (arr5 m c) (row t i)) (WG (arr7 m c)) (y 1) := by
  show pgPart (slotG t (V m c main_v3)) (slotU t (V m c main_v4)) (iblk m c 0 t) (iblk m c 1 t) (iblk m c 2 t) (iblk m c 3 t) (iblk m c 4 t) (iblk m c 5 t) (iblk m c 6 t) y = _
  unfold pgPart
  refine Finset.sum_congr rfl fun i _ => ?_
  rw [h_at, e_at, t_at, g_at, w_at]
theorem gain_at (t : Fin cfg0.N) (y : S1x1024.Idx) : gainAt m c t y = ∑ i : Fin 512, Ple.dGain (HR (arr0 m c) (arr1 m c) (arr2 m c) (arr3 m c) (row t i)) (G (arr6 m c)) (ER (arr4 m c) (arr8 m c) (row t i)) (TR (arr5 m c) (row t i)) (WG (arr7 m c)) (y 1) := by
  show gainPart (slotG t (V m c main_v3)) (slotU t (V m c main_v4)) (iblk m c 0 t) (iblk m c 1 t) (iblk m c 2 t) (iblk m c 3 t) (iblk m c 4 t) (iblk m c 5 t) (iblk m c 6 t) y = _
  unfold gainPart
  refine Finset.sum_congr rfl fun i _ => ?_
  rw [h_at, e_at, t_at, g_at, w_at]
theorem pp_at (t : Fin cfg0.N) (y : S8x256x128.Idx) : ppAt m c t y = ∑ i : Fin 512, ps m c (row t i) (y 1) * dEmb (HR (arr0 m c) (arr1 m c) (arr2 m c) (arr3 m c) (row t i)) (G (arr6 m c)) (ER (arr4 m c) (arr8 m c) (row t i)) (TR (arr5 m c) (row t i)) (WG (arr7 m c)) (lane (y 0) (y 2)) := by
  show ppPart (slotG t (V m c main_v3)) (slotU t (V m c main_v4)) (iblk m c 0 t) (iblk m c 1 t) (iblk m c 2 t) (iblk m c 3 t) (iblk m c 4 t) (iblk m c 5 t) (iblk m c 6 t) (y 1) (lane (y 0) (y 2)) = _
  unfold ppPart
  refine Finset.sum_congr rfl fun i _ => ?_
  rw [h_at, e_at, t_at, g_at, w_at]
  exact congrArg (· * _) (tables m c t i (y 1))

theorem upTo_sum {ι : Type} (f : Fin cfg0.N → ι → EReal) (n : ℕ) (y : ι) :
    upTo f n y = ∑ k ∈ Finset.range (n + 1), if h : k < cfg0.N then f ⟨k, h⟩ y else 0 := by
  induction n with
  | zero => simp [upTo]
  | succ n ih => rw [Finset.sum_range_succ, ← ih]; rfl

/-- The sum over the points of the sums over each point's rows is the sum over all rows. -/
theorem upTo_rows {ι : Type} (f : Fin cfg0.N → ι → EReal) (H : Fin 4096 → ι → EReal) (h : ∀ t y, f t y = ∑ i : Fin 512, H (row t i) y) (y : ι) :
    upTo f 7 y = ∑ r, H r y := by
  rw [upTo_sum, Finset.sum_range, Fin.sum_univ_tiles 8 512 rfl]
  refine Finset.sum_congr rfl fun k _ => ?_
  rw [dif_pos (show k.val < cfg0.N by rw [show cfg0.N = 8 from N_0]; exact k.isLt), h]
  refine Finset.sum_congr rfl fun i _ => congrArg (H · y) (Fin.ext ?_)
  dsimp only [row]
  omega

/-- The results as functions of the arguments' rows. -/
def lossOut : Vec Ideal S1x128 .f32 := fun y => ∑ r : Fin 4096, lossRow (HR (arr0 m c) (arr1 m c) (arr2 m c) (arr3 m c) (r)) (G (arr6 m c)) (ER (arr4 m c) (arr8 m c) (r)) (TR (arr5 m c) (r)) (WG (arr7 m c))
def inOut : Vec Ideal S4096x1024 .f32 := fun y => dIn (HR (arr0 m c) (arr1 m c) (arr2 m c) (arr3 m c) (y 0)) (G (arr6 m c)) (ER (arr4 m c) (arr8 m c) (y 0)) (TR (arr5 m c) (y 0)) (WG (arr7 m c)) (y 1)
def pgOut : Vec Ideal S1024x1024 .f32 := fun y => ∑ r : Fin 4096, normed (HR (arr0 m c) (arr1 m c) (arr2 m c) (arr3 m c) (r)) (G (arr6 m c)) (y 0) * dPre (HR (arr0 m c) (arr1 m c) (arr2 m c) (arr3 m c) (r)) (G (arr6 m c)) (ER (arr4 m c) (arr8 m c) (r)) (TR (arr5 m c) (r)) (WG (arr7 m c)) (y 1)
def ppOut : Vec Ideal S8x256x128 .f32 := fun y => ∑ r : Fin 4096, ps m c (r) (y 1) * dEmb (HR (arr0 m c) (arr1 m c) (arr2 m c) (arr3 m c) (r)) (G (arr6 m c)) (ER (arr4 m c) (arr8 m c) (r)) (TR (arr5 m c) (r)) (WG (arr7 m c)) (lane (y 0) (y 2))
def gainOut : Vec Ideal S1x1024 .f32 := fun y => ∑ r : Fin 4096, Ple.dGain (HR (arr0 m c) (arr1 m c) (arr2 m c) (arr3 m c) (r)) (G (arr6 m c)) (ER (arr4 m c) (arr8 m c) (r)) (TR (arr5 m c) (r)) (WG (arr7 m c)) (y 1)

theorem tile_at (t : Fin cfg0.N) (y : S512x1024.Idx) : inAt m c t y = inOut m c (ix2 (row t (y 0)) (y 1)) := by
  idx_vars y
  exact in_at m c t y0 y1

theorem final8 : (dats m (closed m) 0 c).arrAt 8 cfg0.N = inOut m c := by
  refine (dats m (closed m) 0 c).arrAt_eq_of_covers 8 _ (by decide +kernel) fun t _ y => ?_
  rw [(afterOut m (closed m) c t).2.1]
  refine (congrFun (closed_inp m c t) y).trans ((tile_at m c t y).trans ?_)
  unfold row
  blk_ext [places t]

/-- The last point. -/
def final : Fin cfg0.N := ⟨7, by rw [show cfg0.N = 8 from N_0]; omega⟩

theorem final7 : (dats m (closed m) 0 c).arrAt 7 cfg0.N = lossOut m c := by
  refine (dats m (closed m) 0 c).arrAt_eq_of_after_last 7 final (by decide +kernel) _ fun j => ?_
  rw [(afterOut m (closed m) c final).1]
  refine (upTo_rows (lossAt m c) (fun r y => lossRow (HR (arr0 m c) (arr1 m c) (arr2 m c) (arr3 m c) (r)) (G (arr6 m c)) (ER (arr4 m c) (arr8 m c) (r)) (TR (arr5 m c) (r)) (WG (arr7 m c))) (loss_at m c) j).trans ?_
  unfold lossOut
  blk_ext [places final]
theorem final9 : (dats m (closed m) 0 c).arrAt 9 cfg0.N = pgOut m c := by
  refine (dats m (closed m) 0 c).arrAt_eq_of_after_last 9 final (by decide +kernel) _ fun j => ?_
  rw [(afterOut m (closed m) c final).2.2.1]
  refine (upTo_rows (pgAt m c) (fun r y => normed (HR (arr0 m c) (arr1 m c) (arr2 m c) (arr3 m c) (r)) (G (arr6 m c)) (y 0) * dPre (HR (arr0 m c) (arr1 m c) (arr2 m c) (arr3 m c) (r)) (G (arr6 m c)) (ER (arr4 m c) (arr8 m c) (r)) (TR (arr5 m c) (r)) (WG (arr7 m c)) (y 1)) (pg_at m c) j).trans ?_
  unfold pgOut
  blk_ext [places final]
theorem final10 : (dats m (closed m) 0 c).arrAt 10 cfg0.N = ppOut m c := by
  refine (dats m (closed m) 0 c).arrAt_eq_of_after_last 10 final (by decide +kernel) _ fun j => ?_
  rw [(afterOut m (closed m) c final).2.2.2.1]
  refine (upTo_rows (ppAt m c) (fun r y => ps m c (r) (y 1) * dEmb (HR (arr0 m c) (arr1 m c) (arr2 m c) (arr3 m c) (r)) (G (arr6 m c)) (ER (arr4 m c) (arr8 m c) (r)) (TR (arr5 m c) (r)) (WG (arr7 m c)) (lane (y 0) (y 2))) (pp_at m c) j).trans ?_
  unfold ppOut
  blk_ext [places final]
theorem final11 : (dats m (closed m) 0 c).arrAt 11 cfg0.N = gainOut m c := by
  refine (dats m (closed m) 0 c).arrAt_eq_of_after_last 11 final (by decide +kernel) _ fun j => ?_
  rw [(afterOut m (closed m) c final).2.2.2.2]
  refine (upTo_rows (gainAt m c) (fun r y => Ple.dGain (HR (arr0 m c) (arr1 m c) (arr2 m c) (arr3 m c) (r)) (G (arr6 m c)) (ER (arr4 m c) (arr8 m c) (r)) (TR (arr5 m c) (r)) (WG (arr7 m c)) (y 1)) (gain_at m c) j).trans ?_
  unfold gainOut
  blk_ext [places final]

end Rows

end Cert.PleBwdIdeal.Hand
-- ==== Proof.Ple.Claim.lean ====
module

public import proofs.«01_k».proof.Defs
public import proofs.«01_k».proof.Proof.Ple.Value
public import proofs.«01_k».proof.Proof.Gen.Pre_ple_finite

@[expose] public section

set_option maxRecDepth 16384

noncomputable section

/-! The gated embedding's gradients: the kernel's results are the reference's. -/

namespace Cert.PleBwdIdeal.Hand

open Cert.PleBwdIdeal Cert.PleBwdIdeal.Gen Cert.Ple
open Idealize.ShloMosaic Idealize.ShloMosaic.TcCoe Idealize.SL.Sem
open Cert.Kit
open Cert.PleBwdRefIdeal.Read (val_main_v55 val_main_v77 val_main_v78 val_main_v80 val_main_v81)
open Cert.PleBwdRefIdeal.Hand (lost entered gateWeight embWeight gained)

variable (m : (ℓ : Loc nD τ sig) → Buf (Elt Ideal) ℓ) (c : Dev nD)

/-- The precondition says every argument entry is a number. -/
theorem numbers (h : Cert.Pre_PleBwdIdeal_ple_finite m) : (∀ i, Num (arr0 m c i)) ∧ (∀ i, Num (arr1 m c i)) ∧ (∀ i, Num (arr2 m c i)) ∧ (∀ i, Num (arr3 m c i)) ∧ (∀ i, Num (arr4 m c i)) ∧ (∀ i, Num (arr5 m c i)) ∧ (∀ i, Num (arr6 m c i)) ∧ (∀ i, Num (arr7 m c i)) ∧ (∀ i, Num (arr8 m c i)) := by
  have e := congrFun (h c) (fun a => a.elim0)
  haveI : Subsingleton (Shape.Idx Cert.Pre_ple_finite.S_) := ⟨fun a b => funext fun i => i.elim0⟩
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨Num.of_all _ _ (fun _ => rfl) _ _ _ _ e0, Num.of_all _ _ (fun _ => rfl) _ _ _ _ e1, Num.of_all _ _ (fun _ => rfl) _ _ _ _ e2, Num.of_all _ _ (fun _ => rfl) _ _ _ _ e3, Num.of_all _ _ (fun _ => rfl) _ _ _ _ e4, Num.of_all _ _ (fun _ => rfl) _ _ _ _ e5, Num.of_all _ _ (fun _ => rfl) _ _ _ _ e6, Num.of_all _ _ (fun _ => rfl) _ _ _ _ e7, Num.of_all _ _ (fun _ => rfl) _ _ _ _ e8⟩

section Finite

variable (h : Cert.Pre_PleBwdIdeal_ple_finite m)

include h

theorem loss_ref : lossOut m c = val_main_v81 (F := Ideal) (arr0 m c) (arr1 m c) (arr2 m c) (arr3 m c) (arr4 m c) (arr5 m c) (arr6 m c) (arr7 m c) (arr8 m c) := by
  obtain ⟨h0, h1, h2, h3, h4, h5, h6, h7, h8⟩ := numbers m c h
  funext y
  exact (lost (arr0 m c) (arr1 m c) (arr2 m c) (arr3 m c) (arr4 m c) (arr5 m c) (arr6 m c) (arr7 m c) (arr8 m c) h0 h1 h2 h3 h4 h5 h6 h7 h8 y).symm

theorem in_ref : inOut m c = val_main_v77 (F := Ideal) (arr0 m c) (arr1 m c) (arr2 m c) (arr3 m c) (arr4 m c) (arr5 m c) (arr6 m c) (arr7 m c) (arr8 m c) := by
  obtain ⟨h0, h1, h2, h3, h4, h5, h6, h7, h8⟩ := numbers m c h
  funext y
  idx_vars y
  exact (entered (arr0 m c) (arr1 m c) (arr2 m c) (arr3 m c) (arr4 m c) (arr5 m c) (arr6 m c) (arr7 m c) (arr8 m c) y0 y1 h0 h1 h2 h3 h4 h5 h6 h7 h8).symm

theorem pg_ref : pgOut m c = val_main_v55 (F := Ideal) (arr0 m c) (arr1 m c) (arr2 m c) (arr3 m c) (arr4 m c) (arr5 m c) (arr6 m c) (arr7 m c) (arr8 m c) := by
  obtain ⟨h0, h1, h2, h3, h4, h5, h6, h7, h8⟩ := numbers m c h
  funext y
  idx_vars y
  exact (gateWeight (arr0 m c) (arr1 m c) (arr2 m c) (arr3 m c) (arr4 m c) (arr5 m c) (arr6 m c) (arr7 m c) (arr8 m c) y1 y0 h0 h1 h2 h3 h4 h5 h6 h7 h8).symm

theorem pp_ref : ppOut m c = val_main_v80 (F := Ideal) (arr0 m c) (arr1 m c) (arr2 m c) (arr3 m c) (arr4 m c) (arr5 m c) (arr6 m c) (arr7 m c) (arr8 m c) := by
  obtain ⟨h0, h1, h2, h3, h4, h5, h6, h7, h8⟩ := numbers m c h
  funext y
  idx_vars y
  exact (embWeight (arr0 m c) (arr1 m c) (arr2 m c) (arr3 m c) (arr4 m c) (arr5 m c) (arr6 m c) (arr7 m c) (arr8 m c) y1 h0 h1 h2 h3 h4 h5 h6 h7 h8 y0 y2).symm

theorem gain_ref : gainOut m c = val_main_v78 (F := Ideal) (arr0 m c) (arr1 m c) (arr2 m c) (arr3 m c) (arr4 m c) (arr5 m c) (arr6 m c) (arr7 m c) (arr8 m c) := by
  obtain ⟨h0, h1, h2, h3, h4, h5, h6, h7, h8⟩ := numbers m c h
  funext y
  idx_vars y
  obtain rfl : y0 = 0 := Subsingleton.elim _ _
  exact (gained (arr0 m c) (arr1 m c) (arr2 m c) (arr3 m c) (arr4 m c) (arr5 m c) (arr6 m c) (arr7 m c) (arr8 m c) y1 h0 h1 h2 h3 h4 h5 h6 h7 h8).symm

end Finite

/-- The kernel's run ends with the five results so, and the arguments as they were. -/
theorem results (ρ : Dev nD → PrngReg) : θ_run defs (onTc (τ := τ) (main (F := Ideal))) ⟨m, fun _ => 0, ρ⟩ (fun r => ∀ c : Dev nD,
      r.2.mem ((c.tc : Thread nD τ).loc main_v7_0) = lossOut m c
      ∧ r.2.mem ((c.tc : Thread nD τ).loc main_v7_1) = inOut m c
      ∧ r.2.mem ((c.tc : Thread nD τ).loc main_v7_2) = pgOut m c
      ∧ r.2.mem ((c.tc : Thread nD τ).loc main_v7_3) = ppOut m c
      ∧ r.2.mem ((c.tc : Thread nD τ).loc main_v7_4) = gainOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (θ_run_and (run_main m ρ (closed m)) (kept m ρ (closed m)))
  obtain ⟨h, k⟩ := h
  exact ⟨((h c).1 7).trans (final7 m c), ((h c).1 8).trans (final8 m c), ((h c).1 9).trans (final9 m c), ((h c).1 10).trans (final10 m c), ((h c).1 11).trans (final11 m c), k c⟩

/-- The reference runs, and leaves its arguments and every counter as they were. -/
theorem referenceFrame : Cert.quiescent_PleBwdRefIdeal := fun m g _ =>
  (θ_run _ _ _).mono (fun r h => ⟨fun c => (h c).2.2.2.2.2, sem_eq_zero_of_no_sems (by decide) _⟩) (Cert.PleBwdRefIdeal.Value.run m g)

/-- From any numbers the kernel's five results are the reference's. -/
theorem value : Cert.algebraic_PleBwdIdeal_PleBwdRefIdeal_pre_ple_finite := by
  intro m g m' g' h agree
  refine ⟨lossOut m, inOut m, pgOut m, ppOut m, gainOut m, results m g, ?_⟩
  refine (θ_run _ _ _).mono (fun r k c => ?_) (Cert.PleBwdRefIdeal.Value.run m' g')
  obtain ⟨e0, e1, e2, e3, e4, e5, e6, e7, e8⟩ := agree c
  obtain ⟨k0, k1, k2, k3, k4, k5⟩ := k c
  refine ⟨k0.trans ((Cert.PleBwdRefIdeal.Read.val_main_v81_eq m' c).trans ?_), k1.trans ((Cert.PleBwdRefIdeal.Read.val_main_v77_eq m' c).trans ?_),
    k2.trans ((Cert.PleBwdRefIdeal.Read.val_main_v55_eq m' c).trans ?_), k3.trans ((Cert.PleBwdRefIdeal.Read.val_main_v80_eq m' c).trans ?_),
    k4.trans ((Cert.PleBwdRefIdeal.Read.val_main_v78_eq m' c).trans ?_), k5⟩ <;> rw [e0, e1, e2, e3, e4, e5, e6, e7, e8]
  · exact (loss_ref m c h).symm
  · exact (in_ref m c h).symm
  · exact (pg_ref m c h).symm
  · exact (pp_ref m c h).symm
  · exact (gain_ref m c h).symm

end Cert.PleBwdIdeal.Hand
-- ==== Proof.Bias.Float.lean ====
module

public import proofs.«01_k».proof.Defs
public import proofs.«01_k».proof.Proof.Gen.BiasBwdIdeal.Frame
public import proofs.«01_k».proof.Proof.Gen.BiasBwd

@[expose] public section

noncomputable section

/-! The bias table's call on its own floats: its text is the ideal program's, so the one run stands for both. -/

namespace Cert.BiasBwdIdeal.Hand

open Idealize.ShloMosaic Idealize.ShloMosaic.TcCoe Idealize.SL.Sem

/-- The kernel runs, and leaves its argument and every counter as they were. -/
theorem frame_kernel : Cert.quiescent_BiasBwd := fun m ρ _ => by
  refine Eq.mp ?_ (Cert.BiasBwdIdeal.Gen.frame (F := Bits) m ρ)
  sl_kernel_rfl

end Cert.BiasBwdIdeal.Hand
-- ==== Proof.Bias.Fold.lean ====
module

public import proofs.«01_k».proof.Proof.Gen.BiasBwdIdeal.Frame
public import Idealize.ShloMosaic.Lib.Pipeline.ReadBack
public import Idealize.ShloMosaic.Lib.Pipeline.ValueKit
public import Idealize.ShloMosaic.Lib.Pointwise

@[expose] public section

set_option maxRecDepth 100000

noncomputable section

/-! The bias table's gradient as the kernel writes it: 32 buckets of eight heads, each a sum under a mask put at its place. -/

namespace Cert.BiasBwdIdeal.Hand

open Cert.BiasBwdIdeal Cert.BiasBwdIdeal.Gen Idealize.ShloMosaic Idealize.ShloMosaic.TcCoe Idealize.SL.Sem

variable {F : FTy → Type} [FloatOps F]

/-- The distances from `lo` to below `hi`. -/
def mask (lo hi : ℕ) : IVec S128x256 1 :=
  andi (cmpi .sge k0_pay2 (broadcast S128x256 (BitVec.ofNat 32 lo))) (cmpi .slt k0_pay2 (broadcast S128x256 (BitVec.ofNat 32 hi)))

/-- A head's sum over them. -/
def tot (lo hi : ℕ) (g : Vec F S1x128x256 .f32) : FVec F S1x1 .f32 :=
  shapeCast S1x1 (multiReduction .add [1] S1 (shapeCast S1x256 (multiReduction .add [0] S256
    (select (mask lo hi) (shapeCast S128x256 g shapeCasts_S1x128x256_S128x256) (broadcast S128x256 (Scalar.ofBits .f32 0x00000000#32)))
    0x00000000#32 reduces_S128x256_S256 (.inl rfl) rfl) shapeCasts_S256_S1x256) 0x00000000#32 reduces_S1x256_S1 (.inl rfl) rfl) shapeCasts_S1_S1x1

/-- The sum put at row `h`, lane `b`. -/
def step (lo hi h b : ℕ) (g : Vec F S1x128x256 .f32) (acc : FVec F S8x128 .f32) : FVec F S8x128 .f32 :=
  select (andi (cmpi .eq (iota .tc S8x128 32 [0] iota_S8x128_d0_w32) (broadcast S8x128 (BitVec.ofNat 32 h)))
      (cmpi .eq (iota .tc S8x128 32 [1] iota_S8x128_d1_w32) (broadcast S8x128 (BitVec.ofNat 32 b))))
    (broadcastTo S8x128 (shapeCast S1x1 (tot lo hi g) shapeCasts_S1x1_S1x1) broadcasts_S1x1_S8x128) acc

/-- One bucket's eight heads. -/
def eight (lo hi b : ℕ) (x : Vec F S2x512x256 .f32) (acc : FVec F S8x128 .f32) : FVec F S8x128 .f32 :=
  (step lo hi 6 b (View.ld x r0_7) (step lo hi 4 b (View.ld x r0_6) (step lo hi 3 b (View.ld x r0_5) (step lo hi 1 b (View.ld x r0_4) (step lo hi 7 b (View.ld x r0_3) (step lo hi 5 b (View.ld x r0_2) (step lo hi 2 b (View.ld x r0_1) (step lo hi 0 b (View.ld x r0_0) acc))))))))

/-- All zeros. -/
def zeros : FVec F S8x128 .f32 := broadcast S8x128 (Scalar.ofBits .f32 0x00000000#32)

/-- All 32 buckets. -/
def whole (x : Vec F S2x512x256 .f32) : FVec F S8x128 .f32 :=
  (eight 113 128 31 x (eight 99 113 30 x (eight 87 99 29 x (eight 77 87 28 x (eight 67 77 27 x (eight 59 67 26 x (eight 52 59 25 x (eight 46 52 24 x (eight 40 46 23 x (eight 35 40 22 x (eight 31 35 21 x (eight 27 31 20 x (eight 24 27 19 x (eight 21 24 18 x (eight 19 21 17 x (eight 16 19 16 x (eight 15 16 15 x (eight 14 15 14 x (eight 13 14 13 x (eight 12 13 12 x (eight 11 12 11 x (eight 10 11 10 x (eight 9 10 9 x (eight 8 9 8 x (eight 7 8 7 x (eight 6 7 6 x (eight 5 6 5 x (eight 4 5 4 x (eight 3 4 3 x (eight 2 3 2 x (eight 1 2 1 x (eight 0 1 0 x (zeros (F := F))))))))))))))))))))))))))))))))))

set_option maxHeartbeats 8000000 in
theorem out_is (x : Vec F S2x512x256 .f32) : out0_1 x = View.canon [⟨r0_8, whole x⟩] := rfl

end Cert.BiasBwdIdeal.Hand
-- ==== Proof.Bias.Spec.lean ====
module

public import Idealize.ShloMosaic.PureOps
public import Idealize.ShloMosaic.Lib.Pipeline.ValueKit
public import Idealize.ShloMosaic.Lib.Pointwise

@[expose] public section

set_option maxRecDepth 100000

noncomputable section

/-! The bias table's gradient: a bucket's row is, head by head, the sum of the logit gradients of the pairs whose distance is in the bucket. -/

namespace Cert.Bias

open Idealize.ShloMosaic

/-- A bucket's first distance, and the one past its last. -/
def lo (l : ℕ) : ℕ := [0, 1, 2, 3, 4, 5, 6, 7, 8, 9, 10, 11, 12, 13, 14, 15, 16, 19, 21, 24, 27, 31, 35, 40, 46, 52, 59, 67, 77, 87, 99, 113].getD l 0
def hi (l : ℕ) : ℕ := [1, 2, 3, 4, 5, 6, 7, 8, 9, 10, 11, 12, 13, 14, 15, 16, 19, 21, 24, 27, 31, 35, 40, 46, 52, 59, 67, 77, 87, 99, 113, 128].getD l 0

/-- How far back key `j` is from query `i`. -/
def gap (i j : ℕ) : BitVec 32 := IntOp.subi (IntOp.addi 128#32 (BitVec.ofNat 32 i)) (BitVec.ofNat 32 j)

/-- Whether a distance is from `a` to below `b`. -/
def within (a b : ℕ) (w : BitVec 32) : BitVec 1 := IntOp.andi (IntOp.cmpi .sge w (BitVec.ofNat 32 a)) (IntOp.cmpi .slt w (BitVec.ofNat 32 b))

/-- The row of the logit gradients that a head's are in. -/
def seat : Fin 8 → Fin 8 := ![0, 4, 1, 5, 6, 2, 7, 3]

/-- One logit gradient. -/
def cell (x : (⟨3, ![2, 512, 256]⟩ : Shape).Idx → EReal) (k : Fin 8) (i : Fin 128) (j : Fin 256) : EReal :=
  x (ix3 ⟨k.val / 4, by omega⟩ ⟨128 * (k.val % 4) + i.val, by omega⟩ j)

/-- The sum over the pairs at distances from `a` to below `b`. -/
def total (a b : ℕ) (x : (⟨3, ![2, 512, 256]⟩ : Shape).Idx → EReal) (k : Fin 8) : EReal :=
  ∑ j : Fin 256, ∑ i : Fin 128, Scalar.select (within a b (gap i.val j.val)) (cell x k i j) 0

/-- The gradient. -/
def grad (x : (⟨3, ![2, 512, 256]⟩ : Shape).Idx → EReal) (r : Fin 8) (l : Fin 128) : EReal :=
  if l.val < 32 then total (lo l.val) (hi l.val) x (seat r) else 0

end Cert.Bias
-- ==== Proof.Bias.Sum.lean ====
module

public import proofs.«01_k».proof.Proof.Bias.Fold
public import proofs.«01_k».proof.Proof.Bias.Spec
public import proofs.«01_k».proof.Proof.Gen.BiasBwdIdeal.Value

@[expose] public section

set_option maxRecDepth 100000

noncomputable section

/-! The kernel's table entry: a head's sum over the distances of a bucket. -/

namespace Cert.BiasBwdIdeal.Hand

open Cert.Bias Cert.BiasBwdIdeal Cert.BiasBwdIdeal.Gen Idealize.ShloMosaic Idealize.ShloMosaic.TcCoe Idealize.SL.Sem

theorem whole_is (x : Vec Ideal S2x512x256 .f32) : Cert.BiasBwdIdeal.Value.G1 x = whole x := by
  rw [← Cert.BiasBwdIdeal.Value.out1_eq, out_is, View.canon_unit_zero Cert.BiasBwdIdeal.Value.hz1]

theorem tot_at (a b : ℕ) (g : Vec Ideal S1x128x256 .f32) : tot a b g (ix2 0 0)
    = ∑ j : Fin 256, ∑ i : Fin 128, Scalar.select (within a b (gap i.val j.val)) (g (ix3 0 i j)) 0 := by
  pointwise [tot, mask, k0_pay2, within, gap]

theorem eqw : ∀ n m : Fin 128, IntOp.cmpi .eq (BitVec.ofNat 32 n.val) (BitVec.ofNat 32 m.val) = if n = m then 1#1 else 0#1 := by decide +kernel

theorem eqv (n m : ℕ) (hn : n < 128) (hm : m < 128) : IntOp.cmpi .eq (BitVec.ofNat 32 n) (BitVec.ofNat 32 m) = if n = m then 1#1 else 0#1 := by
  have := eqw ⟨n, hn⟩ ⟨m, hm⟩
  simpa only [Fin.mk.injEq] using this

theorem step_at (a b h l' : ℕ) (hh : h < 128) (hl : l' < 128) (g : Vec Ideal S1x128x256 .f32) (acc : FVec Ideal S8x128 .f32) (r : Fin 8) (l : Fin 128) :
    step a b h l' g acc (ix2 r l) = if r.val = h ∧ l.val = l' then tot a b g (ix2 0 0) else acc (ix2 r l) := by
  pointwise [step]
  rw [eqv r.val h (by omega) hh, eqv l.val l' l.isLt hl]
  by_cases e : r.val = h <;> by_cases f : l.val = l' <;> simp [e, f, Scalar.select, IntOp.andi]

theorem ld_0 (x : Vec Ideal S2x512x256 .f32) (i : Fin 128) (j : Fin 256) : View.ld x r0_0 (ix3 0 i j) = cell x 0 i j := by
  refine congrArg x (funext fun a => Fin.ext ?_)
  match a with
  | ⟨0, _⟩ => rfl
  | ⟨1, _⟩ => show 0 + 1 * i.val = 128 * 0 + i.val; omega
  | ⟨2, _⟩ => show 0 + 1 * j.val = j.val; omega

theorem tot_ld_0 (a b : ℕ) (x : Vec Ideal S2x512x256 .f32) : tot a b (View.ld x r0_0) (ix2 0 0) = total a b x 0 := by
  rw [tot_at]
  exact Finset.sum_congr rfl fun j _ => Finset.sum_congr rfl fun i _ => congrArg (Scalar.select _ · 0) (ld_0 x i j)

theorem ld_1 (x : Vec Ideal S2x512x256 .f32) (i : Fin 128) (j : Fin 256) : View.ld x r0_1 (ix3 0 i j) = cell x 1 i j := by
  refine congrArg x (funext fun a => Fin.ext ?_)
  match a with
  | ⟨0, _⟩ => rfl
  | ⟨1, _⟩ => show 128 + 1 * i.val = 128 * 1 + i.val; omega
  | ⟨2, _⟩ => show 0 + 1 * j.val = j.val; omega

theorem tot_ld_1 (a b : ℕ) (x : Vec Ideal S2x512x256 .f32) : tot a b (View.ld x r0_1) (ix2 0 0) = total a b x 1 := by
  rw [tot_at]
  exact Finset.sum_congr rfl fun j _ => Finset.sum_congr rfl fun i _ => congrArg (Scalar.select _ · 0) (ld_1 x i j)

theorem ld_2 (x : Vec Ideal S2x512x256 .f32) (i : Fin 128) (j : Fin 256) : View.ld x r0_2 (ix3 0 i j) = cell x 2 i j := by
  refine congrArg x (funext fun a => Fin.ext ?_)
  match a with
  | ⟨0, _⟩ => rfl
  | ⟨1, _⟩ => show 256 + 1 * i.val = 128 * 2 + i.val; omega
  | ⟨2, _⟩ => show 0 + 1 * j.val = j.val; omega

theorem tot_ld_2 (a b : ℕ) (x : Vec Ideal S2x512x256 .f32) : tot a b (View.ld x r0_2) (ix2 0 0) = total a b x 2 := by
  rw [tot_at]
  exact Finset.sum_congr rfl fun j _ => Finset.sum_congr rfl fun i _ => congrArg (Scalar.select _ · 0) (ld_2 x i j)

theorem ld_3 (x : Vec Ideal S2x512x256 .f32) (i : Fin 128) (j : Fin 256) : View.ld x r0_3 (ix3 0 i j) = cell x 3 i j := by
  refine congrArg x (funext fun a => Fin.ext ?_)
  match a with
  | ⟨0, _⟩ => rfl
  | ⟨1, _⟩ => show 384 + 1 * i.val = 128 * 3 + i.val; omega
  | ⟨2, _⟩ => show 0 + 1 * j.val = j.val; omega

theorem tot_ld_3 (a b : ℕ) (x : Vec Ideal S2x512x256 .f32) : tot a b (View.ld x r0_3) (ix2 0 0) = total a b x 3 := by
  rw [tot_at]
  exact Finset.sum_congr rfl fun j _ => Finset.sum_congr rfl fun i _ => congrArg (Scalar.select _ · 0) (ld_3 x i j)

theorem ld_4 (x : Vec Ideal S2x512x256 .f32) (i : Fin 128) (j : Fin 256) : View.ld x r0_4 (ix3 0 i j) = cell x 4 i j := by
  refine congrArg x (funext fun a => Fin.ext ?_)
  match a with
  | ⟨0, _⟩ => rfl
  | ⟨1, _⟩ => show 0 + 1 * i.val = 128 * 0 + i.val; omega
  | ⟨2, _⟩ => show 0 + 1 * j.val = j.val; omega

theorem tot_ld_4 (a b : ℕ) (x : Vec Ideal S2x512x256 .f32) : tot a b (View.ld x r0_4) (ix2 0 0) = total a b x 4 := by
  rw [tot_at]
  exact Finset.sum_congr rfl fun j _ => Finset.sum_congr rfl fun i _ => congrArg (Scalar.select _ · 0) (ld_4 x i j)

theorem ld_5 (x : Vec Ideal S2x512x256 .f32) (i : Fin 128) (j : Fin 256) : View.ld x r0_5 (ix3 0 i j) = cell x 5 i j := by
  refine congrArg x (funext fun a => Fin.ext ?_)
  match a with
  | ⟨0, _⟩ => rfl
  | ⟨1, _⟩ => show 128 + 1 * i.val = 128 * 1 + i.val; omega
  | ⟨2, _⟩ => show 0 + 1 * j.val = j.val; omega

theorem tot_ld_5 (a b : ℕ) (x : Vec Ideal S2x512x256 .f32) : tot a b (View.ld x r0_5) (ix2 0 0) = total a b x 5 := by
  rw [tot_at]
  exact Finset.sum_congr rfl fun j _ => Finset.sum_congr rfl fun i _ => congrArg (Scalar.select _ · 0) (ld_5 x i j)

theorem ld_6 (x : Vec Ideal S2x512x256 .f32) (i : Fin 128) (j : Fin 256) : View.ld x r0_6 (ix3 0 i j) = cell x 6 i j := by
  refine congrArg x (funext fun a => Fin.ext ?_)
  match a with
  | ⟨0, _⟩ => rfl
  | ⟨1, _⟩ => show 256 + 1 * i.val = 128 * 2 + i.val; omega
  | ⟨2, _⟩ => show 0 + 1 * j.val = j.val; omega

theorem tot_ld_6 (a b : ℕ) (x : Vec Ideal S2x512x256 .f32) : tot a b (View.ld x r0_6) (ix2 0 0) = total a b x 6 := by
  rw [tot_at]
  exact Finset.sum_congr rfl fun j _ => Finset.sum_congr rfl fun i _ => congrArg (Scalar.select _ · 0) (ld_6 x i j)

theorem ld_7 (x : Vec Ideal S2x512x256 .f32) (i : Fin 128) (j : Fin 256) : View.ld x r0_7 (ix3 0 i j) = cell x 7 i j := by
  refine congrArg x (funext fun a => Fin.ext ?_)
  match a with
  | ⟨0, _⟩ => rfl
  | ⟨1, _⟩ => show 384 + 1 * i.val = 128 * 3 + i.val; omega
  | ⟨2, _⟩ => show 0 + 1 * j.val = j.val; omega

theorem tot_ld_7 (a b : ℕ) (x : Vec Ideal S2x512x256 .f32) : tot a b (View.ld x r0_7) (ix2 0 0) = total a b x 7 := by
  rw [tot_at]
  exact Finset.sum_congr rfl fun j _ => Finset.sum_congr rfl fun i _ => congrArg (Scalar.select _ · 0) (ld_7 x i j)

theorem eight_at (a b l' : ℕ) (hl : l' < 128) (x : Vec Ideal S2x512x256 .f32) (acc : FVec Ideal S8x128 .f32) (r : Fin 8) (l : Fin 128) :
    eight a b l' x acc (ix2 r l) = if l.val = l' then total a b x (seat r) else acc (ix2 r l) := by
  unfold eight
  rw [step_at a b 6 l' (by omega) hl, step_at a b 4 l' (by omega) hl, step_at a b 3 l' (by omega) hl, step_at a b 1 l' (by omega) hl, step_at a b 7 l' (by omega) hl, step_at a b 5 l' (by omega) hl, step_at a b 2 l' (by omega) hl, step_at a b 0 l' (by omega) hl]
  rw [tot_ld_0, tot_ld_1, tot_ld_2, tot_ld_3, tot_ld_4, tot_ld_5, tot_ld_6, tot_ld_7]
  by_cases e : l.val = l'
  · fin_cases r <;> simp [e] <;> rfl
  · simp [e]

theorem zeros_at (r : Fin 8) (l : Fin 128) : zeros (F := Ideal) (ix2 r l) = (0 : EReal) := by
  pointwise [zeros]

theorem whole_at (x : Vec Ideal S2x512x256 .f32) (r : Fin 8) (l : Fin 128) : whole x (ix2 r l) = grad x r l := by
  unfold whole
  rw [eight_at 113 128 31 (by omega), eight_at 99 113 30 (by omega), eight_at 87 99 29 (by omega), eight_at 77 87 28 (by omega), eight_at 67 77 27 (by omega), eight_at 59 67 26 (by omega), eight_at 52 59 25 (by omega), eight_at 46 52 24 (by omega), eight_at 40 46 23 (by omega), eight_at 35 40 22 (by omega), eight_at 31 35 21 (by omega), eight_at 27 31 20 (by omega), eight_at 24 27 19 (by omega), eight_at 21 24 18 (by omega), eight_at 19 21 17 (by omega), eight_at 16 19 16 (by omega), eight_at 15 16 15 (by omega), eight_at 14 15 14 (by omega), eight_at 13 14 13 (by omega), eight_at 12 13 12 (by omega), eight_at 11 12 11 (by omega), eight_at 10 11 10 (by omega), eight_at 9 10 9 (by omega), eight_at 8 9 8 (by omega), eight_at 7 8 7 (by omega), eight_at 6 7 6 (by omega), eight_at 5 6 5 (by omega), eight_at 4 5 4 (by omega), eight_at 3 4 3 (by omega), eight_at 2 3 2 (by omega), eight_at 1 2 1 (by omega), eight_at 0 1 0 (by omega), zeros_at]
  unfold grad
  by_cases h : l.val < 32
  · rw [if_pos h]
    generalize l.val = n at h ⊢
    interval_cases n <;> rfl
  · rw [if_neg h]
    simp only [if_neg (show ¬ l.val = 0 by omega), if_neg (show ¬ l.val = 1 by omega), if_neg (show ¬ l.val = 2 by omega), if_neg (show ¬ l.val = 3 by omega), if_neg (show ¬ l.val = 4 by omega), if_neg (show ¬ l.val = 5 by omega), if_neg (show ¬ l.val = 6 by omega), if_neg (show ¬ l.val = 7 by omega), if_neg (show ¬ l.val = 8 by omega), if_neg (show ¬ l.val = 9 by omega), if_neg (show ¬ l.val = 10 by omega), if_neg (show ¬ l.val = 11 by omega), if_neg (show ¬ l.val = 12 by omega), if_neg (show ¬ l.val = 13 by omega), if_neg (show ¬ l.val = 14 by omega), if_neg (show ¬ l.val = 15 by omega), if_neg (show ¬ l.val = 16 by omega), if_neg (show ¬ l.val = 17 by omega), if_neg (show ¬ l.val = 18 by omega), if_neg (show ¬ l.val = 19 by omega), if_neg (show ¬ l.val = 20 by omega), if_neg (show ¬ l.val = 21 by omega), if_neg (show ¬ l.val = 22 by omega), if_neg (show ¬ l.val = 23 by omega), if_neg (show ¬ l.val = 24 by omega), if_neg (show ¬ l.val = 25 by omega), if_neg (show ¬ l.val = 26 by omega), if_neg (show ¬ l.val = 27 by omega), if_neg (show ¬ l.val = 28 by omega), if_neg (show ¬ l.val = 29 by omega), if_neg (show ¬ l.val = 30 by omega), if_neg (show ¬ l.val = 31 by omega)]

end Cert.BiasBwdIdeal.Hand
-- ==== Proof.Bias.Ref.lean ====
module

public import proofs.«01_k».proof.Proof.Gen.BiasBwdRefIdeal.Run
public import proofs.«01_k».proof.Proof.Bias.Spec
public import proofs.«01_k».proof.Proof.Bias.Spec
public import proofs.«01_k».proof.Proof.Bias.Spec
public import Idealize.ShloMosaic.Lib.Pipeline.ValueKit
public import Idealize.ShloMosaic.Lib.Pointwise

@[expose] public section

set_option maxRecDepth 100000

noncomputable section

/-! The reference's table entry: the sum of a head's logit gradients over the pairs the table's row was read for. -/

namespace Cert.BiasBwdRefIdeal.Hand

open Cert.Bias Cert.BiasBwdRefIdeal Cert.BiasBwdRefIdeal.Gen Idealize.ShloMosaic Idealize.ShloMosaic.TcCoe Idealize.SL.Sem

variable {F : FTy → Type} [FloatOps F]

/-- How far back a key is from a query. -/
def dist : IVec S128x256 32 :=
  subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0))))
    (broadcastInDim S128x256 ![0, 1] bcast_S1x256_S128x256_0_1 (broadcastInDim S1x256 ![1] bcast_S256_S1x256_1 (iotaInDim S256 32 0)))

/-- … between 0 and 127. -/
def clip : IVec S128x256 32 :=
  minsi (broadcastInDim S128x256 ![] bcast_S_S128x256 (id (constantI S_ 32 127#32))) (maxsi (broadcastInDim S128x256 ![] bcast_S_S128x256 (id (constantI S_ 32 0#32))) dist)

/-- … as an index. -/
def place : IVec S128x256 32 :=
  select (cmpi .slt clip (broadcastInDim S128x256 ![] bcast_S_S128x256 (constantI S_ 32 0#32))) (addi clip (broadcastInDim S128x256 ![] bcast_S_S128x256 (constantI S_ 32 128#32))) clip

/-- The distances' buckets. -/
def buckets : Fin 128 → BitVec 32 := lit0

/-- The bucket it is in. -/
def bucket : IVec S128x256 32 :=
  Host.gather gather_S128_S128x256x1_S128x256_n_0_n_n_0_2_1 (fun i => buckets (S128.rowMajor i)) (broadcastInDim S128x256x1 ![0, 1] bcast_S128x256_S128x256x1_0_1 place)

/-- … as an index. -/
def row : IVec S128x256 32 :=
  select (cmpi .slt bucket (broadcastInDim S128x256 ![] bcast_S_S128x256 (constantI S_ 32 0#32))) (addi bucket (broadcastInDim S128x256 ![] bcast_S_S128x256 (constantI S_ 32 32#32))) bucket

/-- The pairs in the window. -/
def near : IVec S128x256 1 :=
  andi (cmpi .sge dist (broadcastInDim S128x256 ![] bcast_S_S128x256 (constantI S_ 32 0#32))) (cmpi .slt dist (broadcastInDim S128x256 ![] bcast_S_S128x256 (constantI S_ 32 128#32)))

/-- The logit gradients, head by head. -/
def heads (x : Vec F S2x512x256 .f32) : FVec F S8x128x256 .f32 :=
  concatenate S8x128x256 0 [⟨S1x128x256, ((extractStridedSlice S1x128x256 ![0, 0, 0] (shapeCast _ x shapeCasts_S2x512x256_S8x128x256) slices_S8x128x256_S1x128x256_0_0_0) : (⟨S1x128x256, .f32⟩ : BufTy).Contents (Elt F))⟩, ⟨S1x128x256, ((extractStridedSlice S1x128x256 ![4, 0, 0] (shapeCast _ x shapeCasts_S2x512x256_S8x128x256) slices_S8x128x256_S1x128x256_4_0_0) : (⟨S1x128x256, .f32⟩ : BufTy).Contents (Elt F))⟩, ⟨S1x128x256, ((extractStridedSlice S1x128x256 ![1, 0, 0] (shapeCast _ x shapeCasts_S2x512x256_S8x128x256) slices_S8x128x256_S1x128x256_1_0_0) : (⟨S1x128x256, .f32⟩ : BufTy).Contents (Elt F))⟩, ⟨S1x128x256, ((extractStridedSlice S1x128x256 ![5, 0, 0] (shapeCast _ x shapeCasts_S2x512x256_S8x128x256) slices_S8x128x256_S1x128x256_5_0_0) : (⟨S1x128x256, .f32⟩ : BufTy).Contents (Elt F))⟩, ⟨S1x128x256, ((extractStridedSlice S1x128x256 ![6, 0, 0] (shapeCast _ x shapeCasts_S2x512x256_S8x128x256) slices_S8x128x256_S1x128x256_6_0_0) : (⟨S1x128x256, .f32⟩ : BufTy).Contents (Elt F))⟩, ⟨S1x128x256, ((extractStridedSlice S1x128x256 ![2, 0, 0] (shapeCast _ x shapeCasts_S2x512x256_S8x128x256) slices_S8x128x256_S1x128x256_2_0_0) : (⟨S1x128x256, .f32⟩ : BufTy).Contents (Elt F))⟩, ⟨S1x128x256, ((extractStridedSlice S1x128x256 ![7, 0, 0] (shapeCast _ x shapeCasts_S2x512x256_S8x128x256) slices_S8x128x256_S1x128x256_7_0_0) : (⟨S1x128x256, .f32⟩ : BufTy).Contents (Elt F))⟩, ⟨S1x128x256, ((extractStridedSlice S1x128x256 ![3, 0, 0] (shapeCast _ x shapeCasts_S2x512x256_S8x128x256) slices_S8x128x256_S1x128x256_3_0_0) : (⟨S1x128x256, .f32⟩ : BufTy).Contents (Elt F))⟩] concatenates_S1x128x256_S1x128x256_S1x128x256_S1x128x256_S1x128x256_S1x128x256_S1x128x256_S1x128x256_S8x128x256_d0

/-- … those in the window. -/
def given (x : Vec F S2x512x256 .f32) : FVec F S8x128x256 .f32 :=
  select (broadcastInDim S8x128x256 ![0, 1, 2] bcast_S1x128x256_S8x128x256_0_1_2 (broadcastInDim S1x128x256 ![1, 2] bcast_S128x256_S1x128x256_1_2 near)) (heads x) (broadcastInDim S8x128x256 ![] bcast_S_S8x128x256 (constant S_ .f32 0x00000000#32))

/-- The table's gradient. -/
def table (x : Vec F S2x512x256 .f32) : FVec F S32x8 .f32 :=
  Host.scatterAdd scatter_S32x8_S128x256x1_S128x256x8_2_0_0_2 (broadcastInDim S32x8 ![] bcast_S_S32x8 (constant S_ .f32 0x00000000#32)) (broadcastInDim S128x256x1 ![0, 1] bcast_S128x256_S128x256x1_0_1 row)
    (transpose S128x256x8 [1, 2, 0] (given x) transposes_S8x128x256_S128x256x8_1_2_0)

/-- The result. -/
def result (x : Vec F S2x512x256 .f32) : FVec F S8x128 .f32 :=
  pad S8x128 ![0, 0] ![0, 96] ![0, 0] (transpose S8x32 [1, 0] (table x) transposes_S32x8_S8x32_1_0) (sitofp .f32 (constantI S_ 32 0#32)) pads_S8x32_S8x128_000_0960 h_S_

theorem result_is (m : (ℓ : Loc nD τ sig) → Buf (Elt F) ℓ) (c : Dev nD) :
    Cert.BiasBwdRefIdeal.Value.res_main_v48 m c = result (m ((c.tc : Thread nD τ).loc main_arg0)) := rfl

theorem dist_at (i : Fin 128) (j : Fin 256) : dist (ix2 i j) = gap i.val j.val := by
  pointwise [dist, gap]

/-- The place, the bucket and the row of a distance. -/
def placeOf (w : BitVec 32) : BitVec 32 :=
  Scalar.select (IntOp.cmpi .slt (IntOp.minsi 127#32 (IntOp.maxsi 0#32 w)) 0#32) (IntOp.addi (IntOp.minsi 127#32 (IntOp.maxsi 0#32 w)) 128#32) (IntOp.minsi 127#32 (IntOp.maxsi 0#32 w))

def bucketOf (w : BitVec 32) : BitVec 32 := buckets ⟨min (placeOf w).toInt.toNat 127, by omega⟩

def rowOf (w : BitVec 32) : BitVec 32 :=
  Scalar.select (IntOp.cmpi .slt (bucketOf w) 0#32) (IntOp.addi (bucketOf w) 32#32) (bucketOf w)

theorem place_at (i : Fin 128) (j : Fin 256) : place (ix2 i j) = placeOf (gap i.val j.val) := by
  rw [← dist_at]; rfl

theorem near_at (i : Fin 128) (j : Fin 256) : near (ix2 i j) = within 0 128 (gap i.val j.val) := by
  rw [← dist_at]; rfl

theorem look (f : Fin 128 → BitVec 32) (p : IVec S128x256 32) (i : Fin 128) (j : Fin 256) :
    Host.gather gather_S128_S128x256x1_S128x256_n_0_n_n_0_2_1 (fun i => f (S128.rowMajor i)) (broadcastInDim S128x256x1 ![0, 1] bcast_S128x256_S128x256x1_0_1 p) (ix2 i j)
      = f ⟨min (p (ix2 i j)).toInt.toNat 127, by omega⟩ := by
  have rm : ∀ k : Fin 128, (S128.rowMajor (ValueIdx.ix1 k)).val = k.val := by
    intro k
    revert k
    decide +kernel
  refine (ValueIdx.gather_take_apply (N := 128) (R := 128) (C := 256) (by omega) _ _ _ _).trans (congrArg f (Fin.ext ((rm _).trans ?_)))
  have e : broadcastInDim S128x256x1 ![0, 1] bcast_S128x256_S128x256x1_0_1 p (ValueIdx.takeIdx (ix2 i j)) = p (ix2 i j) := by
    refine congrArg p (funext fun a => Fin.ext ?_)
    match a with
    | ⟨0, _⟩ => rfl
    | ⟨1, _⟩ => rfl
  show min (broadcastInDim S128x256x1 ![0, 1] bcast_S128x256_S128x256x1_0_1 p (ValueIdx.takeIdx (ix2 i j))).toInt.toNat 127 = min (p (ix2 i j)).toInt.toNat 127
  rw [e]

theorem bucket_at (i : Fin 128) (j : Fin 256) : bucket (ix2 i j) = bucketOf (gap i.val j.val) := by
  refine (look buckets place i j).trans ?_
  unfold bucketOf
  exact congrArg (fun w : BitVec 32 => buckets ⟨min w.toInt.toNat 127, by omega⟩) (place_at i j)

theorem row_at (i : Fin 128) (j : Fin 256) : row (ix2 i j) = rowOf (gap i.val j.val) := by
  unfold rowOf
  rw [← bucket_at]; rfl

theorem heads_at (x : Vec Ideal S2x512x256 .f32) (h : Fin 8) (i : Fin 128) (j : Fin 256) : heads x (ix3 h i j) = cell x (seat h) i j := by
  fin_cases h <;> pointwise [heads] <;> refine congrArg x (funext fun a => Fin.ext ?_) <;> match a with
    | ⟨0, _⟩ => rfl
    | ⟨1, _⟩ => first | rfl | exact (Nat.zero_add _).symm
    | ⟨2, _⟩ => rfl

theorem given_at (x : Vec Ideal S2x512x256 .f32) (h : Fin 8) (i : Fin 128) (j : Fin 256) :
    given x (ix3 h i j) = Scalar.select (within 0 128 (gap i.val j.val)) (cell x (seat h) i j) 0 := by
  pointwise [given]
  rw [near_at, heads_at]

/-- The scatter's dimensions. -/
abbrev D : ScatterDims S32x8 S128x256x1 S128x256x8 := scatter_S32x8_S128x256x1_S128x256x8_2_0_0_2

theorem start0 (I : IVec S128x256x1 32) (i : Fin 128) (j : Fin 256) (k : Fin 8) : D.start (ix3 i j k) I 0 = (I (ix3 i j 0)).toInt := by
  unfold ScatterDims.start
  rw [dif_pos (show (0 : Fin 2) ∈ D.scatterDimsToOperandDims from List.mem_singleton.mpr rfl)]
  refine congrArg BitVec.toInt (congrArg I (funext fun a => Fin.ext ?_))
  match a with
  | ⟨0, _⟩ => rfl
  | ⟨1, _⟩ => rfl
  | ⟨2, _⟩ => rfl

theorem start1 (I : IVec S128x256x1 32) (i : Fin 128) (j : Fin 256) (k : Fin 8) : D.start (ix3 i j k) I 1 = 0 := by
  unfold ScatterDims.start
  rw [dif_neg (show (1 : Fin 2) ∉ D.scatterDimsToOperandDims from fun h => absurd (List.mem_singleton.mp h) (by decide))]

theorem window0 (i : Fin 128) (j : Fin 256) (k : Fin 8) : D.window (ix3 i j k) 0 = 0 := by
  unfold ScatterDims.window
  rw [dif_neg (show (0 : Fin 2) ∉ D.sKept by decide)]

theorem window1 (i : Fin 128) (j : Fin 256) (k : Fin 8) : D.window (ix3 i j k) 1 = k.val := by
  unfold ScatterDims.window
  rw [dif_pos (show (1 : Fin 2) ∈ D.sKept by decide)]
  rfl

/-- Where an update lands. -/
theorem lands (I : IVec S128x256x1 32) (i : Fin 128) (j : Fin 256) (k : Fin 8) (l : Fin 32) (h : Fin 8) :
    D.resultIdx? (ix3 i j k) I = some (ix2 l h) ↔ (I (ix3 i j 0)).toInt = (l.val : ℤ) ∧ k = h := by
  unfold ScatterDims.resultIdx?
  constructor
  · intro e
    split at e
    · rename_i hh
      have e := Option.some.inj e
      have e0 : (D.start (ix3 i j k) I 0 + D.window (ix3 i j k) 0 : ℤ).toNat = l.val := congrArg Fin.val (congrFun e 0)
      have e1 : (D.start (ix3 i j k) I 1 + D.window (ix3 i j k) 1 : ℤ).toNat = h.val := congrArg Fin.val (congrFun e 1)
      have b0 : 0 ≤ D.start (ix3 i j k) I 0 + D.window (ix3 i j k) 0 := (hh 0).1
      rw [start0, window0] at e0 b0
      rw [start1, window1] at e1
      exact ⟨by omega, Fin.ext (by omega)⟩
    · cases e
  · rintro ⟨e, rfl⟩
    have := l.isLt
    have := k.isLt
    have p0 : 0 ≤ D.start (ix3 i j k) I 0 + D.window (ix3 i j k) 0 ∧ D.start (ix3 i j k) I 0 + D.window (ix3 i j k) 0 < ((32 : ℕ) : ℤ) := by
      rw [start0, window0, e]; omega
    have p1 : 0 ≤ D.start (ix3 i j k) I 1 + D.window (ix3 i j k) 1 ∧ D.start (ix3 i j k) I 1 + D.window (ix3 i j k) 1 < ((8 : ℕ) : ℤ) := by
      rw [start1, window1]; omega
    have q0 : (D.start (ix3 i j k) I 0 + D.window (ix3 i j k) 0 : ℤ).toNat = l.val := by rw [start0, window0, e]; omega
    have q1 : (D.start (ix3 i j k) I 1 + D.window (ix3 i j k) 1 : ℤ).toNat = k.val := by rw [start1, window1]; omega
    rw [dif_pos (fun a => match a with | ⟨0, _⟩ => p0 | ⟨1, _⟩ => p1)]
    exact congrArg some (funext fun a => Fin.ext (match a with | ⟨0, _⟩ => q0 | ⟨1, _⟩ => q1))

/-- A distance is in a bucket when it is in the window and its row is the bucket's. -/
theorem bucketed : ∀ n : Fin 384, ∀ l : Fin 32, within (lo l.val) (hi l.val) (IntOp.subi (BitVec.ofNat 32 n.val) 127#32)
    = if (rowOf (IntOp.subi (BitVec.ofNat 32 n.val) 127#32)).toInt = (l.val : ℤ) then within 0 128 (IntOp.subi (BitVec.ofNat 32 n.val) 127#32) else 0#1 := by
  decide +kernel

theorem gap_is (i : Fin 128) (j : Fin 256) : gap i.val j.val = IntOp.subi (BitVec.ofNat 32 (i.val + 255 - j.val)) 127#32 := by
  unfold gap IntOp.subi IntOp.addi
  have := i.isLt
  have := j.isLt
  apply BitVec.eq_of_toNat_eq
  simp only [BitVec.toNat_sub, BitVec.toNat_add, BitVec.toNat_ofNat]
  omega

theorem picked (i : Fin 128) (j : Fin 256) (l : Fin 32) (v : EReal) :
    (if (row (ix2 i j)).toInt = (l.val : ℤ) then Scalar.select (within 0 128 (gap i.val j.val)) v 0 else 0)
      = Scalar.select (within (lo l.val) (hi l.val) (gap i.val j.val)) v 0 := by
  have e := bucketed ⟨i.val + 255 - j.val, by omega⟩ l
  simp only [← gap_is] at e
  rw [row_at, e]
  split <;> simp [Scalar.select]

theorem table_at (x : Vec Ideal S2x512x256 .f32) (l : Fin 32) (h : Fin 8) : table x (ix2 l h) = total (lo l.val) (hi l.val) x (seat h) := by
  show (Ideal.hostScatterAdd _ _ _ _ (ix2 l h) : EReal) = _
  unfold Ideal.hostScatterAdd
  have z : (broadcastInDim S32x8 ![] bcast_S_S32x8 (constant (F := Ideal) S_ .f32 0x00000000#32) (ix2 l h) : EReal) = 0 := by pointwise
  rw [z, zero_add, Finset.sum_filter]
  refine (sum_idx3 _).trans ?_
  unfold total
  rw [Finset.sum_comm]
  refine Finset.sum_congr rfl fun j _ => Finset.sum_congr rfl fun i _ => ?_
  rw [← picked]
  have t : ∀ k, (transpose S128x256x8 [1, 2, 0] (given x) transposes_S8x128x256_S128x256x8_1_2_0 (ix3 i j k) : EReal)
      = Scalar.select (within 0 128 (gap i.val j.val)) (cell x (seat k) i j) 0 := by
    intro k
    pointwise
    exact given_at x k i j
  have b : broadcastInDim S128x256x1 ![0, 1] bcast_S128x256_S128x256x1_0_1 row (ix3 i j 0) = row (ix2 i j) := by
    refine congrArg row (funext fun a => Fin.ext ?_)
    match a with
    | ⟨0, _⟩ => rfl
    | ⟨1, _⟩ => rfl
  refine (Finset.sum_congr rfl fun k _ => if_congr (lands _ i j k l h) (t k) rfl).trans ?_
  rw [b]
  by_cases e : (row (ix2 i j)).toInt = (l.val : ℤ)
  · simp only [e, true_and, if_true, Finset.sum_ite_eq', Finset.mem_univ]
  · simp only [e, false_and, if_false, Finset.sum_const_zero]

theorem result_at (x : Vec Ideal S2x512x256 .f32) (h : Fin 8) (l : Fin 128) : result x (ix2 h l) = grad x h l := by
  pointwise [result]
  unfold grad
  split
  · exact table_at x _ h
  · show ((((0#32 : BitVec 32).toInt : ℤ) : ℝ) : EReal) = 0
    simp

end Cert.BiasBwdRefIdeal.Hand
-- ==== Proof.Bias.Claim.lean ====
module

public import proofs.«01_k».proof.Defs
public import proofs.«01_k».proof.Proof.Bias.Sum
public import proofs.«01_k».proof.Proof.Bias.Ref

@[expose] public section

set_option maxRecDepth 16384

noncomputable section

/-! The bias table's gradient: the kernel's result is the reference's. -/

namespace Cert.BiasBwdIdeal.Hand

open Cert.BiasBwdIdeal Cert.BiasBwdIdeal.Gen Idealize.ShloMosaic Idealize.ShloMosaic.TcCoe Idealize.SL.Sem

theorem same (x : Vec Ideal S2x512x256 .f32) : Cert.BiasBwdRefIdeal.Hand.result (F := Ideal) x = Cert.BiasBwdIdeal.Value.G1 x := by
  rw [whole_is]
  funext y
  idx_vars y
  exact (Cert.BiasBwdRefIdeal.Hand.result_at x y0 y1).trans (whole_at x y0 y1).symm

/-- The reference runs, and leaves its argument and every counter as they were. -/
theorem referenceFrame : Cert.quiescent_BiasBwdRefIdeal := fun m g _ =>
  (θ_run _ _ _).mono (fun r h => ⟨fun c => (h c).2, sem_eq_zero_of_no_sems (by decide) _⟩) (Cert.BiasBwdRefIdeal.Value.run m g)

/-- From any argument the kernel's result is the reference's. -/
theorem value : Cert.algebraic_BiasBwdIdeal_BiasBwdRefIdeal := by
  intro m g m' g' _ agree
  refine ⟨fun c => Cert.BiasBwdIdeal.Value.G1 (m ((c : Thread nD τ).loc main_arg0)), Cert.BiasBwdIdeal.Value.run m g, ?_⟩
  refine (θ_run _ _ _).mono (fun r k c => ?_) (Cert.BiasBwdRefIdeal.Value.run m' g')
  refine ⟨(k c).1.trans ?_, (k c).2⟩
  rw [Cert.BiasBwdRefIdeal.Hand.result_is]
  exact (congrArg (Cert.BiasBwdRefIdeal.Hand.result (F := Ideal)) (agree c)).trans (same _)

end Cert.BiasBwdIdeal.Hand
-- ==== Proof.InFwd.Float.lean ====
module

public import proofs.«01_k».proof.Defs
public import proofs.«01_k».proof.Proof.Gen.InFwdIdeal.Frame
public import proofs.«01_k».proof.Proof.Gen.InFwd

@[expose] public section

noncomputable section

/-! The input projection on its own floats: its text is the ideal program's, so the one run stands for both. -/

namespace Cert.InFwdIdeal.Hand

open Idealize.ShloMosaic Idealize.ShloMosaic.TcCoe Idealize.SL.Sem

/-- The kernel runs, and leaves its arguments and every counter as they were. -/
theorem frame_kernel : Cert.quiescent_InFwd := fun m ρ _ => by
  refine Eq.mp ?_ (Cert.InFwdIdeal.Gen.frame (F := Bits) m ρ)
  sl_kernel_rfl

end Cert.InFwdIdeal.Hand
-- ==== Proof.InFwd.Ref.lean ====
module

public import proofs.«01_k».proof.Proof.InProj.Arith
public import proofs.«01_k».proof.Proof.Gen.InFwdRefIdeal.Read
public import Idealize.ShloMosaic.Lib.Pointwise
public import Idealize.ShloMosaic.Lib.IdealHost

@[expose] public section

set_option maxRecDepth 16384

noncomputable section

/-! The forward input projection and its head norms, row by row, and the reference's results entry by entry. -/

namespace Cert.InFwd

open Idealize.ShloMosaic Cert.Kit Cert.InProj
open Cert.Ffn (rinv)

/-- A row of the projection: the normalised row against the weight. -/
def zed (x g : Fin 1024 → EReal) (w : Fin 1280 → Fin 1024 → EReal) (j : Fin 1280) : EReal := ∑ k, x k * rinv x * g k * w j k
/-- A head norm over a row. -/
def normed {n : ℕ} (B : Fin n → Fin n → EReal) (z g : Fin n → EReal) (j : Fin n) : EReal := z j * hInv B z j * g j

/-- The query lanes and the key lanes of a row. -/
abbrev lanesQ (z : Fin 1280 → EReal) (j : Fin 512) : EReal := z ⟨j.val, by omega⟩
abbrev lanesK (z : Fin 1280 → EReal) (j : Fin 128) : EReal := z ⟨512 + j.val, by omega⟩

end Cert.InFwd

namespace Cert.InFwdRefIdeal.Hand

open Cert.InFwdRefIdeal Cert.InFwdRefIdeal.Gen Cert.InFwdRefIdeal.Read Cert.InProj Cert.InFwd Cert.Kit
open Cert.Ffn (rinv eps width)
open Idealize.ShloMosaic Idealize.ShloMosaic.TcCoe Idealize.SL.Sem

variable (x0 : (⟨S4096x1024, .f32⟩ : BufTy).Contents (Elt Ideal)) (x1 : (⟨S1x1024, .f32⟩ : BufTy).Contents (Elt Ideal))
  (x2 x3 : (⟨S1x64, .f32⟩ : BufTy).Contents (Elt Ideal)) (x4 : (⟨S1024x1280, .f32⟩ : BufTy).Contents (Elt Ideal)) (r : Fin 4096)

/-- The arguments' rows, and the projection's rows. -/
abbrev X : Fin 4096 → Fin 1024 → EReal := fun r k => x0 (ix2 r k)
abbrev G : Fin 1024 → EReal := fun k => x1 (ix2 0 k)
abbrev W : Fin 1280 → Fin 1024 → EReal := fun j k => x4 (ix2 k j)
/-- A head's gain, the same for every head. -/
def gains {n : ℕ} (g : (⟨S1x64, .f32⟩ : BufTy).Contents (Elt Ideal)) (j : Fin n) : EReal := g (ix2 0 ⟨j.val % 64, by omega⟩)
/-- A row of the projection. -/
def Z : Fin 4096 → Fin 1280 → EReal := fun r => zed (X x0 r) (G x1) (W x4)

theorem gains_lane {H : ℕ} (g : (⟨S1x64, .f32⟩ : BufTy).Contents (Elt Ideal)) (h : Fin H) (l : Fin 64) : gains g (laneOf h l) = g (ix2 0 l) := by
  unfold gains
  congr 2
  exact Fin.ext (by show (64 * h.val + l.val) % 64 = _; omega)

theorem root : val_main_v8 (F := Ideal) x0 (ix2 r 0) = rinv (X x0 r) := by
  unfold rinv
  pointwise [val_main_v8, val_main_v7, val_main_v6, val_main_v5, val_main_v4, val_main_v3, val_main_v2, val_main_v1, val_main_cst_1, val_main_cst_0, val_main_cst]

theorem entering (k : Fin 1024) : val_main_v13 (F := Ideal) x0 x1 (ix2 r k) = X x0 r k * rinv (X x0 r) * G x1 k := by
  pointwise [val_main_v13, val_main_v12, val_main_v11, val_main_v10, val_main_v9, val_main_v0]
  rw [root]

theorem projected (j : Fin 1280) : val_main_v14 (F := Ideal) x0 x1 x4 (ix2 r j) = Z x0 x1 x4 r j := by
  unfold Z zed
  simp only [← entering]
  pointwise [val_main_v14]

theorem joint (j : Fin 640) : val_main_v51 (F := Ideal) x0 x1 x4 (ix2 r j) = Z x0 x1 x4 r ⟨j.val, by omega⟩ := by
  rw [← projected]
  pointwise [val_main_v51]
theorem values (j : Fin 128) : val_main_v54 (F := Ideal) x0 x1 x4 (ix2 r j) = Z x0 x1 x4 r ⟨640 + j.val, by omega⟩ := by
  rw [← projected]
  pointwise [val_main_v54, val_main_v49]
theorem mixed (j : Fin 512) : val_main_v50 (F := Ideal) x0 x1 x4 (ix2 r j) = Z x0 x1 x4 r ⟨768 + j.val, by omega⟩ := by
  rw [← projected]
  pointwise [val_main_v50]

section Finite

variable (h0 : ∀ i, Num (x0 i)) (h1 : ∀ i, Num (x1 i)) (h4 : ∀ i, Num (x4 i))

include h0 in
theorem rinv_num : Num (rinv (X x0 r)) := by
  obtain ⟨a, ha, e⟩ : ∃ a : ℝ, 0 < a ∧ Ideal.div (∑ k, X x0 r k * X x0 r k) width + eps = a := by
    choose f hf using fun k => h0 (ix2 r k)
    refine ⟨(∑ k, f k * f k) / 1024 + Num.small, ?_, ?_⟩
    · exact add_pos_of_nonneg_of_pos (div_nonneg (Finset.sum_nonneg fun k _ => mul_self_nonneg _) (by norm_num)) Num.small_pos
    · simp only [X, hf, ← EReal.coe_mul, Num.sum_coe, width, eps, Num.ofBits_1024, Num.ofBits_small]
      rw [Num.div_coe _ (by norm_num), ← EReal.coe_add]
  unfold rinv
  rw [e, Num.rsqrt_coe ha]
  exact Num.coe _

include h0 h1 h4 in
theorem projected_num (j : Fin 1280) : Num (Z x0 x1 x4 r j) := by
  unfold Z zed
  exact Num.sum fun k => (((h0 _).mul (rinv_num x0 r h0)).mul (h1 _)).mul (h4 _)

section Query

variable (h : Fin 8) (l : Fin 64)

theorem qRaw : val_main_v16 (F := Ideal) x0 x1 x4 (ix3 r h l) = lanesQ (Z x0 x1 x4 r) (laneOf h l) := by
  unfold lanesQ
  rw [← projected]
  pointwise [val_main_v16, val_main_v15]
  exact congrArg (fun k : Fin 1280 => val_main_v14 (F := Ideal) x0 x1 x4 (ix2 r k)) (Fin.ext (by show h.val * 64 + l.val = 64 * h.val + l.val; omega))
theorem qArg : val_main_v24 (F := Ideal) x0 x1 x4 (ix3 r h 0) = mean (H := 8) (fun k => lanesQ (Z x0 x1 x4 r) k * lanesQ (Z x0 x1 x4 r) k) h + eps := by
  unfold mean
  simp only [← qRaw]
  pointwise [val_main_v24, val_main_v23, val_main_v22, val_main_v21, val_main_v20, val_main_v19, val_main_v18, val_main_cst_4, val_main_cst_3, val_main_cst_2]
theorem qRoot : val_main_v25 (F := Ideal) x0 x1 x4 (ix3 r h 0) = Ideal.rsqrt (mean (H := 8) (fun k => lanesQ (Z x0 x1 x4 r) k * lanesQ (Z x0 x1 x4 r) k) h + eps) := by
  rw [← qArg]
  pointwise [val_main_v25]
theorem qNorm : val_main_v30 (F := Ideal) x0 x1 x2 x4 (ix3 r h l)
    = lanesQ (Z x0 x1 x4 r) (laneOf h l) * Ideal.rsqrt (mean (H := 8) (fun k => lanesQ (Z x0 x1 x4 r) k * lanesQ (Z x0 x1 x4 r) k) h + eps) * gains (n := 512) x2 (laneOf h l) := by
  rw [show gains (n := 512) x2 (laneOf h l) = x2 (ix2 0 l) from gains_lane (H := 8) x2 h l, ← qRoot, ← qRaw]
  pointwise [val_main_v30, val_main_v29, val_main_v28, val_main_v27, val_main_v26, val_main_v17]
theorem qFlat : val_main_v52 (F := Ideal) x0 x1 x2 x4 (ix2 r (laneOf h l : Fin (64 * 8))) = val_main_v30 (F := Ideal) x0 x1 x2 x4 (ix3 r h l) := by
  pointwise [val_main_v52, val_main_v31]
  congr 2
  · exact Fin.ext (by show (64 * h.val + l.val) / 64 = _; omega)
  · exact Fin.ext (by show (64 * h.val + l.val) % 64 = _; omega)

end Query

section Key

variable (h : Fin 2) (l : Fin 64)

theorem kRaw : val_main_v33 (F := Ideal) x0 x1 x4 (ix3 r h l) = lanesK (Z x0 x1 x4 r) (laneOf h l) := by
  unfold lanesK
  rw [← projected]
  pointwise [val_main_v33, val_main_v32]
  exact congrArg (fun k : Fin 1280 => val_main_v14 (F := Ideal) x0 x1 x4 (ix2 r k)) (Fin.ext (by show 512 + (h.val * 64 + l.val) = 512 + (64 * h.val + l.val); omega))
theorem kArg : val_main_v41 (F := Ideal) x0 x1 x4 (ix3 r h 0) = mean (H := 2) (fun k => lanesK (Z x0 x1 x4 r) k * lanesK (Z x0 x1 x4 r) k) h + eps := by
  unfold mean
  simp only [← kRaw]
  pointwise [val_main_v41, val_main_v40, val_main_v39, val_main_v38, val_main_v37, val_main_v36, val_main_v35, val_main_cst_7, val_main_cst_6, val_main_cst_5]
theorem kRoot : val_main_v42 (F := Ideal) x0 x1 x4 (ix3 r h 0) = Ideal.rsqrt (mean (H := 2) (fun k => lanesK (Z x0 x1 x4 r) k * lanesK (Z x0 x1 x4 r) k) h + eps) := by
  rw [← kArg]
  pointwise [val_main_v42]
theorem kNorm : val_main_v47 (F := Ideal) x0 x1 x3 x4 (ix3 r h l)
    = lanesK (Z x0 x1 x4 r) (laneOf h l) * Ideal.rsqrt (mean (H := 2) (fun k => lanesK (Z x0 x1 x4 r) k * lanesK (Z x0 x1 x4 r) k) h + eps) * gains (n := 128) x3 (laneOf h l) := by
  rw [show gains (n := 128) x3 (laneOf h l) = x3 (ix2 0 l) from gains_lane (H := 2) x3 h l, ← kRoot, ← kRaw]
  pointwise [val_main_v47, val_main_v46, val_main_v45, val_main_v44, val_main_v43, val_main_v34]
theorem kFlat : val_main_v53 (F := Ideal) x0 x1 x3 x4 (ix2 r (laneOf h l : Fin (64 * 2))) = val_main_v47 (F := Ideal) x0 x1 x3 x4 (ix3 r h l) := by
  pointwise [val_main_v53, val_main_v48]
  congr 2
  · exact Fin.ext (by show (64 * h.val + l.val) / 64 = _; omega)
  · exact Fin.ext (by show (64 * h.val + l.val) % 64 = _; omega)

end Key

include h0 h1 h4 in
theorem queries (j : Fin 512) : val_main_v52 (F := Ideal) x0 x1 x2 x4 (ix2 r j) = normed heads (lanesQ (Z x0 x1 x4 r)) (gains x2) j := by
  obtain ⟨h, l, rfl⟩ := laneOf_all (H := 8) j
  unfold normed
  rw [show hInv (n := 512) heads (lanesQ (Z x0 x1 x4 r)) (laneOf h l) = _ from hInv_heads (H := 8) (lanesQ (Z x0 x1 x4 r)) h l fun _ => projected_num x0 x1 x4 r h0 h1 h4 _]
  exact (qFlat x0 x1 x2 x4 r h l).trans (qNorm x0 x1 x2 x4 r h l)
include h0 h1 h4 in
theorem keys (j : Fin 128) : val_main_v53 (F := Ideal) x0 x1 x3 x4 (ix2 r j) = normed heads (lanesK (Z x0 x1 x4 r)) (gains x3) j := by
  obtain ⟨h, l, rfl⟩ := laneOf_all (H := 2) j
  unfold normed
  rw [show hInv (n := 128) heads (lanesK (Z x0 x1 x4 r)) (laneOf h l) = _ from hInv_heads (H := 2) (lanesK (Z x0 x1 x4 r)) h l fun _ => projected_num x0 x1 x4 r h0 h1 h4 _]
  exact (kFlat x0 x1 x3 x4 r h l).trans (kNorm x0 x1 x3 x4 r h l)

end Finite

end Cert.InFwdRefIdeal.Hand
-- ==== Proof.InFwd.Pay.lean ====
module

public import proofs.«01_k».proof.Proof.Gen.InFwdIdeal.Frame
public import proofs.«01_k».proof.Proof.InFwd.Ref
public import Idealize.ShloMosaic.Lib.Pipeline.ValueKit
public import Idealize.ShloMosaic.Lib.Pipeline.ReadBack
public import Idealize.ShloMosaic.Lib.Pointwise

@[expose] public section

set_option maxRecDepth 16384

noncomputable section

/-! What the body of the input projection computes at an entry, in the rows it reads. -/

namespace Cert.InFwdIdeal.Hand

open Cert.InFwdIdeal Cert.InFwdIdeal.Gen Cert.InProj Cert.InFwd Idealize.ShloMosaic Idealize.ShloMosaic.TcCoe
open Cert.Ffn (rinv)

variable (x : Vec Ideal S512x1024 .f32) (g : Vec Ideal S1x1024 .f32) (w : Vec Ideal S1280x1024 .bf16)
  (gq : Vec Ideal S1x512 .f32) (gk : Vec Ideal S1x128 .f32) (bq : Vec Ideal S512x512 .bf16) (bk : Vec Ideal S128x128 .bf16) (r : Fin 512)

/-- A row of the projection at a point. -/
def zAt : Fin 1280 → EReal := zed (fun k => x (ix2 r k)) (fun k => g (ix2 0 k)) (fun j k => w (ix2 j k))

theorem pay5 (j : Fin 1280) : k0_pay5 x g w (ix2 r j) = zAt x g w r j := by
  unfold zAt zed rinv
  pointwise [k0_pay5]
theorem pay6 (j : Fin 128) : k0_pay6 x g w (ix2 r j) = lanesK (zAt x g w r) j := by
  unfold lanesK
  rw [← pay5]
  pointwise [k0_pay6]
theorem pay8 (j : Fin 512) : k0_pay1 (k0_pay8 x g w bq gq) (ix2 r j) = normed (fun k j => bq (ix2 k j)) (lanesQ (zAt x g w r)) (fun k => gq (ix2 0 k)) j := by
  unfold normed hInv seg lanesQ
  simp only [← pay5]
  pointwise [k0_pay1, k0_pay8]
theorem pay2 (j : Fin 128) : k0_pay2 (k0_pay6 x g w) bk gk (ix2 r j) = normed (fun k j => bk (ix2 k j)) (lanesK (zAt x g w r)) (fun k => gk (ix2 0 k)) j := by
  unfold normed hInv seg
  simp only [← pay6]
  pointwise [k0_pay2]

theorem tile7 (j : Fin 640) : out0_7 x g w gq gk bq bk (ix2 r j) = zAt x g w r ⟨j.val, by omega⟩ := by
  rw [← pay5]
  unfold out0_7
  frame_out
  pointwise [k0_pay7]
theorem tile8 (j : Fin 512) : out0_8 x g w gq gk bq bk (ix2 r j) = normed (fun k j => bq (ix2 k j)) (lanesQ (zAt x g w r)) (fun k => gq (ix2 0 k)) j := by
  rw [← pay8]
  unfold out0_8
  frame_out
theorem tile9 (j : Fin 128) : out0_9 x g w gq gk bq bk (ix2 r j) = normed (fun k j => bk (ix2 k j)) (lanesK (zAt x g w r)) (fun k => gk (ix2 0 k)) j := by
  rw [← pay2]
  unfold out0_9
  frame_out
theorem tile10 (j : Fin 128) : out0_10 x g w gq gk bq bk (ix2 r j) = zAt x g w r ⟨640 + j.val, by omega⟩ := by
  rw [← pay5]
  unfold out0_10 k0_pay9
  frame_out
  pointwise [k0_pay3]
theorem tile11 (j : Fin 512) : out0_11 x g w gq gk bq bk (ix2 r j) = zAt x g w r ⟨768 + j.val, by omega⟩ := by
  rw [← pay5]
  unfold out0_11 k0_pay9
  frame_out
  pointwise [k0_pay4]

end Cert.InFwdIdeal.Hand
-- ==== Proof.InFwd.Host.lean ====
module

public import proofs.«01_k».proof.Proof.InFwd.Pay
public import Idealize.ShloMosaic.Lib.StableHlo.RunRead

@[expose] public section

set_option maxRecDepth 16384

noncomputable section

/-! What the host hands the launch: the tiled gains, the transposed weight and the two matrices that average over a head. -/

namespace Cert.InFwdIdeal.Hand

open Cert.InFwdIdeal Cert.InFwdIdeal.Gen Cert.InProj
open Idealize.ShloMosaic Idealize.ShloMosaic.TcCoe Idealize.ShloMosaic.StableHlo Idealize.SL.Sem

variable (m : (ℓ : Loc nD τ sig) → Buf (Elt Ideal) ℓ) (c : Dev nD)

theorem quot : ∀ i : Fin 512, IntOp.divsi .host (BitVec.ofNat 32 i.val) 64#32 = BitVec.ofNat 32 (i.val / 64) := by decide +kernel

theorem average (i j : ℕ) (hi : i < 512) (hj : j < 512) :
    Ideal.div (FloatOps.uitofp (F := Ideal) FTy.f32 (IntOp.cmpi .eq (IntOp.divsi .host (BitVec.ofNat 32 i) 64#32) (IntOp.divsi .host (BitVec.ofNat 32 j) 64#32)))
      (Ideal.ofBits FTy.f32 1115684864#32) = if i / 64 = j / 64 then ((1 / 64 : ℝ) : EReal) else 0 := by
  rw [quot ⟨i, hi⟩, quot ⟨j, hj⟩, ofBits_64, Ideal.div_coe (by norm_num)]
  have e : IntOp.cmpi .eq (BitVec.ofNat 32 (i / 64)) (BitVec.ofNat 32 (j / 64)) = if i / 64 = j / 64 then 1#1 else 0#1 := by
    by_cases h : i / 64 = j / 64
    · rw [if_pos h, h]; simp [IntOp.cmpi]
    · have : BitVec.ofNat 32 (i / 64) ≠ BitVec.ofNat 32 (j / 64) := fun he => h (by
        have := congrArg BitVec.toNat he
        simp only [BitVec.toNat_ofNat] at this
        omega)
      rw [if_neg h]
      show BitVec.ofBool (BitVec.ofNat 32 (i / 64) == BitVec.ofNat 32 (j / 64)) = 0#1
      rw [beq_false_of_ne this]; rfl
  show FloatOps.uitofp (F := Ideal) FTy.f32 (IntOp.cmpi .eq (BitVec.ofNat 32 (i / 64)) (BitVec.ofNat 32 (j / 64))) * _ = _
  rw [e]
  by_cases h : i / 64 = j / 64
  · simp [h, FloatOps.uitofp, -EReal.coe_mul]
  · simp [h, FloatOps.uitofp, -EReal.coe_mul]

/-- The query's gain, once per head. -/
theorem host_gainQ (j : Fin 512) : (V m c main_v4 : Vec Ideal S1x512 .f32) (ix2 0 j) = Cert.InFwdRefIdeal.Hand.gains (m ((c : Thread nD τ).loc main_arg2)) j := by
  unfold V Cert.InFwdRefIdeal.Hand.gains
  after_reads_simp
  pointwise

/-- The key's gain, once per head. -/
theorem host_gainK (j : Fin 128) : (V m c main_v7 : Vec Ideal S1x128 .f32) (ix2 0 j) = Cert.InFwdRefIdeal.Hand.gains (m ((c : Thread nD τ).loc main_arg3)) j := by
  unfold V Cert.InFwdRefIdeal.Hand.gains
  after_reads_simp
  pointwise

/-- The transposed weight. -/
theorem host_weight (j : Fin 1280) (k : Fin 1024) : (V m c main_v1 : Vec Ideal S1280x1024 .bf16) (ix2 j k) = (m ((c : Thread nD τ).loc main_arg4) : Vec Ideal S1024x1280 .f32) (ix2 k j) := by
  unfold V
  after_reads_simp
  pointwise

/-- The matrix that averages over a query head. -/
theorem host_headsQ (i j : Fin 512) : (V m c main_v19 : Vec Ideal S512x512 .bf16) (ix2 i j) = heads i j := by
  unfold V
  after_reads_simp
  pointwise
  exact average _ _ i.isLt j.isLt

/-- The matrix that averages over a key head. -/
theorem host_headsK (i j : Fin 128) : (V m c main_v31 : Vec Ideal S128x128 .bf16) (ix2 i j) = heads i j := by
  unfold V
  after_reads_simp
  pointwise
  exact average _ _ (i.isLt.trans (by decide)) (j.isLt.trans (by decide))

end Cert.InFwdIdeal.Hand
-- ==== Proof.InFwd.Value.lean ====
module

public import proofs.«01_k».proof.Proof.InFwd.Host
public import Idealize.ShloMosaic.Lib.Pipeline.Value
public import Idealize.ShloMosaic.Lib.Pipeline.ValueKit
public import Idealize.ShloMosaic.Lib.Claim

@[expose] public section

set_option maxRecDepth 16384

noncomputable section

/-! The input projection's results, whole arrays: every entry is the row-wise projection at its row. -/

namespace Cert.InFwdIdeal.Hand

open Cert.InFwdIdeal Cert.InFwdIdeal.Gen Cert.InProj Cert.InFwd
open Idealize.ShloMosaic Idealize.ShloMosaic.TcCoe Idealize.SL.Sem
open Idealize.ShloMosaic.Pipeline (Dat)
open Cert.InFwdRefIdeal.Hand (Z X G W gains)

variable (m : (ℓ : Loc nD τ sig) → Buf (Elt Ideal) ℓ) (ρ : Dev nD → PrngReg)

theorem places : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![t.val, 0]
    ∧ win0_9.index t = ![t.val, 0] ∧ win0_10.index t = ![t.val, 0] ∧ win0_11.index t = ![t.val, 0] :=
  (by decide +kernel : ∀ t : Fin grid0.N, _)

variable (c : Dev nD)

/-- The arguments. -/
abbrev arr0 := m ((c : Thread nD τ).loc main_arg0)
abbrev arr1 := m ((c : Thread nD τ).loc main_arg1)
abbrev arr2 := m ((c : Thread nD τ).loc main_arg2)
abbrev arr3 := m ((c : Thread nD τ).loc main_arg3)
abbrev arr4 := m ((c : Thread nD τ).loc main_arg4)

/-- Row `i` of the tile at point `t`, among all rows. -/
def row (t : Fin cfg0.N) (i : Fin 512) : Fin 4096 :=
  ⟨512 * t.val + i.val, by have := lt_of_lt_of_eq t.isLt (show cfg0.N = 8 from N_0); omega⟩

section Blocks

variable (t : Fin cfg0.N) (i : Fin 512)

theorem rows0 : (fun k => (iblk m c 0 t : Vec Ideal S512x1024 .f32) (ix2 i k)) = X (arr0 m c) (row t i) := by
  funext k; unfold row; blk_ext [iblk, V, places t]
theorem rows1 : (fun k => (iblk m c 1 t : Vec Ideal S1x1024 .f32) (ix2 0 k)) = G (arr1 m c) := by
  funext k; blk_ext [iblk, V, places t]
theorem rows2 : (fun j k => (iblk m c 2 t : Vec Ideal S1280x1024 .bf16) (ix2 j k)) = W (arr4 m c) := by
  funext j k
  refine Eq.trans ?_ (host_weight m c j k)
  blk_ext [iblk, places t]
theorem rows3 : (fun k => (iblk m c 3 t : Vec Ideal S1x512 .f32) (ix2 0 k)) = gains (arr2 m c) := by
  funext k
  refine Eq.trans ?_ (host_gainQ m c k)
  blk_ext [iblk, places t]
theorem rows4 : (fun k => (iblk m c 4 t : Vec Ideal S1x128 .f32) (ix2 0 k)) = gains (arr3 m c) := by
  funext k
  refine Eq.trans ?_ (host_gainK m c k)
  blk_ext [iblk, places t]
theorem rows5 : (fun k j => (iblk m c 5 t : Vec Ideal S512x512 .bf16) (ix2 k j)) = heads := by
  funext k j
  refine Eq.trans ?_ (host_headsQ m c k j)
  blk_ext [iblk, places t]
theorem rows6 : (fun k j => (iblk m c 6 t : Vec Ideal S128x128 .bf16) (ix2 k j)) = heads := by
  funext k j
  refine Eq.trans ?_ (host_headsK m c k j)
  blk_ext [iblk, places t]

/-- The projection at a row. -/
theorem z_at : zAt (iblk m c 0 t) (iblk m c 1 t) (iblk m c 2 t) i = Z (arr0 m c) (arr1 m c) (arr4 m c) (row t i) := by
  unfold zAt
  rw [rows0, rows1, rows2]
  rfl

end Blocks

/-- The results as functions of the arguments' rows. -/
def joint : Vec Ideal S4096x640 .f32 := fun y => Z (arr0 m c) (arr1 m c) (arr4 m c) (y 0) ⟨(y 1).val, by have : (y 1).val < 640 := (y 1).isLt; omega⟩
def queries : Vec Ideal S4096x512 .bf16 := fun y => normed heads (lanesQ (Z (arr0 m c) (arr1 m c) (arr4 m c) (y 0))) (gains (arr2 m c)) (y 1)
def keys : Vec Ideal S4096x128 .bf16 := fun y => normed heads (lanesK (Z (arr0 m c) (arr1 m c) (arr4 m c) (y 0))) (gains (arr3 m c)) (y 1)
def values : Vec Ideal S4096x128 .bf16 := fun y => Z (arr0 m c) (arr1 m c) (arr4 m c) (y 0) ⟨640 + (y 1).val, by have : (y 1).val < 128 := (y 1).isLt; omega⟩
def mixed : Vec Ideal S4096x512 .f32 := fun y => Z (arr0 m c) (arr1 m c) (arr4 m c) (y 0) ⟨768 + (y 1).val, by have : (y 1).val < 512 := (y 1).isLt; omega⟩

theorem at7 (t : Fin cfg0.N) (y : S512x640.Idx) : out0_7 (iblk m c 0 t) (iblk m c 1 t) (iblk m c 2 t) (iblk m c 3 t) (iblk m c 4 t) (iblk m c 5 t) (iblk m c 6 t) y
    = joint m c (ix2 (row t (y 0)) (y 1)) := by
  idx_vars y
  rw [tile7, z_at]
  rfl

theorem at8 (t : Fin cfg0.N) (y : S512x512.Idx) : out0_8 (iblk m c 0 t) (iblk m c 1 t) (iblk m c 2 t) (iblk m c 3 t) (iblk m c 4 t) (iblk m c 5 t) (iblk m c 6 t) y
    = queries m c (ix2 (row t (y 0)) (y 1)) := by
  idx_vars y
  rw [tile8, z_at, rows3, rows5]
  rfl

theorem at9 (t : Fin cfg0.N) (y : S512x128.Idx) : out0_9 (iblk m c 0 t) (iblk m c 1 t) (iblk m c 2 t) (iblk m c 3 t) (iblk m c 4 t) (iblk m c 5 t) (iblk m c 6 t) y
    = keys m c (ix2 (row t (y 0)) (y 1)) := by
  idx_vars y
  rw [tile9, z_at, rows4, rows6]
  rfl

theorem at10 (t : Fin cfg0.N) (y : S512x128.Idx) : out0_10 (iblk m c 0 t) (iblk m c 1 t) (iblk m c 2 t) (iblk m c 3 t) (iblk m c 4 t) (iblk m c 5 t) (iblk m c 6 t) y
    = values m c (ix2 (row t (y 0)) (y 1)) := by
  idx_vars y
  rw [tile10, z_at]
  rfl

theorem at11 (t : Fin cfg0.N) (y : S512x512.Idx) : out0_11 (iblk m c 0 t) (iblk m c 1 t) (iblk m c 2 t) (iblk m c 3 t) (iblk m c 4 t) (iblk m c 5 t) (iblk m c 6 t) y
    = mixed m c (ix2 (row t (y 0)) (y 1)) := by
  idx_vars y
  rw [tile11, z_at]
  rfl

end Cert.InFwdIdeal.Hand
-- ==== Proof.InFwd.Whole.lean ====
module

public import proofs.«01_k».proof.Proof.InFwd.Value
public import Idealize.ShloMosaic.Lib.Pipeline.Value
public import Idealize.ShloMosaic.Lib.Pipeline.ValueKit
public import Idealize.ShloMosaic.Lib.Claim

@[expose] public section

set_option maxRecDepth 16384

noncomputable section

/-! The input projection's result arrays, whole: each point's tile laid at its rows. -/

namespace Cert.InFwdIdeal.Hand

open Cert.InFwdIdeal Cert.InFwdIdeal.Gen Cert.InProj Cert.InFwd
open Idealize.ShloMosaic Idealize.ShloMosaic.TcCoe Idealize.SL.Sem
open Idealize.ShloMosaic.Pipeline (Dat)
open Cert.InFwdRefIdeal.Hand (Z X G W gains)

variable (m : (ℓ : Loc nD τ sig) → Buf (Elt Ideal) ℓ) (ρ : Dev nD → PrngReg)

variable (c : Dev nD)

theorem whole7 (f : Vec Ideal S4096x640 .f32) (h : ∀ (t : Fin cfg0.N) (y : S512x640.Idx), out0_7 (iblk m c 0 t) (iblk m c 1 t) (iblk m c 2 t) (iblk m c 3 t) (iblk m c 4 t) (iblk m c 5 t) (iblk m c 6 t) y = f (ix2 (row t (y 0)) (y 1))) :
    (dats m 0 c).arrAt 7 cfg0.N = f := by
  refine (dats m 0 c).arrAt_eq_of_covers 7 _ (by decide +kernel) fun t _ y => ?_
  rw [after0_7, show out0_7 (iblk m c 0 t) (iblk m c 1 t) (iblk m c 2 t) (iblk m c 3 t) (iblk m c 4 t) (iblk m c 5 t) (iblk m c 6 t) = fun y => f (ix2 (row t (y 0)) (y 1)) from funext (h t)]
  refine Eq.trans (b := f (ix2 ⟨512 * t.val + (y 0).val, by have := lt_of_lt_of_eq t.isLt (show cfg0.N = 8 from N_0); have : (y 0).val < 512 := (y 0).isLt; omega⟩ (y 1))) rfl ?_
  blk_ext [places t]
theorem final7 : (dats m 0 c).arrAt 7 cfg0.N = joint m c := whole7 m c _ (at7 m c)

theorem whole8 (f : Vec Ideal S4096x512 .bf16) (h : ∀ (t : Fin cfg0.N) (y : S512x512.Idx), out0_8 (iblk m c 0 t) (iblk m c 1 t) (iblk m c 2 t) (iblk m c 3 t) (iblk m c 4 t) (iblk m c 5 t) (iblk m c 6 t) y = f (ix2 (row t (y 0)) (y 1))) :
    (dats m 0 c).arrAt 8 cfg0.N = f := by
  refine (dats m 0 c).arrAt_eq_of_covers 8 _ (by decide +kernel) fun t _ y => ?_
  rw [after0_8, show out0_8 (iblk m c 0 t) (iblk m c 1 t) (iblk m c 2 t) (iblk m c 3 t) (iblk m c 4 t) (iblk m c 5 t) (iblk m c 6 t) = fun y => f (ix2 (row t (y 0)) (y 1)) from funext (h t)]
  refine Eq.trans (b := f (ix2 ⟨512 * t.val + (y 0).val, by have := lt_of_lt_of_eq t.isLt (show cfg0.N = 8 from N_0); have : (y 0).val < 512 := (y 0).isLt; omega⟩ (y 1))) rfl ?_
  blk_ext [places t]
theorem final8 : (dats m 0 c).arrAt 8 cfg0.N = queries m c := whole8 m c _ (at8 m c)

theorem whole9 (f : Vec Ideal S4096x128 .bf16) (h : ∀ (t : Fin cfg0.N) (y : S512x128.Idx), out0_9 (iblk m c 0 t) (iblk m c 1 t) (iblk m c 2 t) (iblk m c 3 t) (iblk m c 4 t) (iblk m c 5 t) (iblk m c 6 t) y = f (ix2 (row t (y 0)) (y 1))) :
    (dats m 0 c).arrAt 9 cfg0.N = f := by
  refine (dats m 0 c).arrAt_eq_of_covers 9 _ (by decide +kernel) fun t _ y => ?_
  rw [after0_9, show out0_9 (iblk m c 0 t) (iblk m c 1 t) (iblk m c 2 t) (iblk m c 3 t) (iblk m c 4 t) (iblk m c 5 t) (iblk m c 6 t) = fun y => f (ix2 (row t (y 0)) (y 1)) from funext (h t)]
  refine Eq.trans (b := f (ix2 ⟨512 * t.val + (y 0).val, by have := lt_of_lt_of_eq t.isLt (show cfg0.N = 8 from N_0); have : (y 0).val < 512 := (y 0).isLt; omega⟩ (y 1))) rfl ?_
  blk_ext [places t]
theorem final9 : (dats m 0 c).arrAt 9 cfg0.N = keys m c := whole9 m c _ (at9 m c)

theorem whole10 (f : Vec Ideal S4096x128 .bf16) (h : ∀ (t : Fin cfg0.N) (y : S512x128.Idx), out0_10 (iblk m c 0 t) (iblk m c 1 t) (iblk m c 2 t) (iblk m c 3 t) (iblk m c 4 t) (iblk m c 5 t) (iblk m c 6 t) y = f (ix2 (row t (y 0)) (y 1))) :
    (dats m 0 c).arrAt 10 cfg0.N = f := by
  refine (dats m 0 c).arrAt_eq_of_covers 10 _ (by decide +kernel) fun t _ y => ?_
  rw [after0_10, show out0_10 (iblk m c 0 t) (iblk m c 1 t) (iblk m c 2 t) (iblk m c 3 t) (iblk m c 4 t) (iblk m c 5 t) (iblk m c 6 t) = fun y => f (ix2 (row t (y 0)) (y 1)) from funext (h t)]
  refine Eq.trans (b := f (ix2 ⟨512 * t.val + (y 0).val, by have := lt_of_lt_of_eq t.isLt (show cfg0.N = 8 from N_0); have : (y 0).val < 512 := (y 0).isLt; omega⟩ (y 1))) rfl ?_
  blk_ext [places t]
theorem final10 : (dats m 0 c).arrAt 10 cfg0.N = values m c := whole10 m c _ (at10 m c)

theorem whole11 (f : Vec Ideal S4096x512 .f32) (h : ∀ (t : Fin cfg0.N) (y : S512x512.Idx), out0_11 (iblk m c 0 t) (iblk m c 1 t) (iblk m c 2 t) (iblk m c 3 t) (iblk m c 4 t) (iblk m c 5 t) (iblk m c 6 t) y = f (ix2 (row t (y 0)) (y 1))) :
    (dats m 0 c).arrAt 11 cfg0.N = f := by
  refine (dats m 0 c).arrAt_eq_of_covers 11 _ (by decide +kernel) fun t _ y => ?_
  rw [after0_11, show out0_11 (iblk m c 0 t) (iblk m c 1 t) (iblk m c 2 t) (iblk m c 3 t) (iblk m c 4 t) (iblk m c 5 t) (iblk m c 6 t) = fun y => f (ix2 (row t (y 0)) (y 1)) from funext (h t)]
  refine Eq.trans (b := f (ix2 ⟨512 * t.val + (y 0).val, by have := lt_of_lt_of_eq t.isLt (show cfg0.N = 8 from N_0); have : (y 0).val < 512 := (y 0).isLt; omega⟩ (y 1))) rfl ?_
  blk_ext [places t]
theorem final11 : (dats m 0 c).arrAt 11 cfg0.N = mixed m c := whole11 m c _ (at11 m c)

end Cert.InFwdIdeal.Hand
-- ==== Proof.InFwd.Claim.lean ====
module

public import proofs.«01_k».proof.Defs
public import proofs.«01_k».proof.Proof.InFwd.Whole
public import proofs.«01_k».proof.Proof.Gen.Pre_infwd_finite
public import proofs.«01_k».proof.Proof.Gen.InFwdRefIdeal.Run
public import proofs.«01_k».proof.Proof.Gen.InFwdIdeal.Value

@[expose] public section

set_option maxRecDepth 16384

noncomputable section

/-! The input projection: the kernel's results are the reference's. -/

namespace Cert.InFwdIdeal.Hand

open Cert.InFwdIdeal Cert.InFwdIdeal.Gen Cert.InFwd Cert.Kit
open Idealize.ShloMosaic Idealize.ShloMosaic.TcCoe Idealize.SL.Sem
open Cert.InFwdRefIdeal.Read (val_main_v50 val_main_v51 val_main_v52 val_main_v53 val_main_v54)

variable (m : (ℓ : Loc nD τ sig) → Buf (Elt Ideal) ℓ) (c : Dev nD)

/-- The precondition says every argument entry is a number. -/
theorem numbers (h : Cert.Pre_InFwdIdeal_infwd_finite m) : (∀ i, Num (arr0 m c i)) ∧ (∀ i, Num (arr1 m c i)) ∧ (∀ i, Num (arr2 m c i))
    ∧ (∀ i, Num (arr3 m c i)) ∧ ∀ i, Num (arr4 m c i) := by
  have e := congrFun (h c) (fun a => a.elim0)
  haveI : Subsingleton (Shape.Idx Cert.Pre_infwd_finite.S_) := ⟨fun a b => funext fun i => i.elim0⟩
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨Num.of_all _ _ (fun _ => rfl) _ _ _ _ e0, Num.of_all _ _ (fun _ => rfl) _ _ _ _ e1, Num.of_all _ _ (fun _ => rfl) _ _ _ _ e2,
    Num.of_all _ _ (fun _ => rfl) _ _ _ _ e3, Num.of_all _ _ (fun _ => rfl) _ _ _ _ e4⟩

theorem joint_eq : joint m c = val_main_v51 (F := Ideal) (arr0 m c) (arr1 m c) (arr4 m c) := by
  funext y
  idx_vars y
  exact (Cert.InFwdRefIdeal.Hand.joint (arr0 m c) (arr1 m c) (arr4 m c) y0 y1).symm
theorem queries_eq (h : Cert.Pre_InFwdIdeal_infwd_finite m) : queries m c = val_main_v52 (F := Ideal) (arr0 m c) (arr1 m c) (arr2 m c) (arr4 m c) := by
  obtain ⟨h0, h1, h2, h3, h4⟩ := numbers m c h
  funext y
  idx_vars y
  exact (Cert.InFwdRefIdeal.Hand.queries (arr0 m c) (arr1 m c) (arr2 m c) (arr4 m c) y0 h0 h1 h4 y1).symm
theorem keys_eq (h : Cert.Pre_InFwdIdeal_infwd_finite m) : keys m c = val_main_v53 (F := Ideal) (arr0 m c) (arr1 m c) (arr3 m c) (arr4 m c) := by
  obtain ⟨h0, h1, h2, h3, h4⟩ := numbers m c h
  funext y
  idx_vars y
  exact (Cert.InFwdRefIdeal.Hand.keys (arr0 m c) (arr1 m c) (arr3 m c) (arr4 m c) y0 h0 h1 h4 y1).symm
theorem values_eq : values m c = val_main_v54 (F := Ideal) (arr0 m c) (arr1 m c) (arr4 m c) := by
  funext y
  idx_vars y
  exact (Cert.InFwdRefIdeal.Hand.values (arr0 m c) (arr1 m c) (arr4 m c) y0 y1).symm
theorem mixed_eq : mixed m c = val_main_v50 (F := Ideal) (arr0 m c) (arr1 m c) (arr4 m c) := by
  funext y
  idx_vars y
  exact (Cert.InFwdRefIdeal.Hand.mixed (arr0 m c) (arr1 m c) (arr4 m c) y0 y1).symm

/-- The kernel's run ends with the five results so, and the arguments as they were. -/
theorem results (ρ : Dev nD → PrngReg) : θ_run defs (onTc (τ := τ) (main (F := Ideal))) ⟨m, fun _ => 0, ρ⟩ (fun r => ∀ c : Dev nD,
      r.2.mem ((c.tc : Thread nD τ).loc main_v32_0) = joint m c
      ∧ r.2.mem ((c.tc : Thread nD τ).loc main_v32_1) = queries m c
      ∧ r.2.mem ((c.tc : Thread nD τ).loc main_v32_2) = keys m c
      ∧ r.2.mem ((c.tc : Thread nD τ).loc main_v32_3) = values m c
      ∧ r.2.mem ((c.tc : Thread nD τ).loc main_v32_4) = mixed m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (Cert.InFwdIdeal.Value.run_blocks m ρ)
  obtain ⟨h0, h1, h2, h3, h4, k⟩ := h c
  exact ⟨h0.trans (final7 m c), h1.trans (final8 m c), h2.trans (final9 m c), h3.trans (final10 m c), h4.trans (final11 m c), k⟩

/-- The reference runs, and leaves its arguments and every counter as they were. -/
theorem referenceFrame : Cert.quiescent_InFwdRefIdeal := fun m g _ =>
  (θ_run _ _ _).mono (fun r h => ⟨fun c => (h c).2.2.2.2.2, sem_eq_zero_of_no_sems (by decide) _⟩) (Cert.InFwdRefIdeal.Value.run m g)

/-- From any numbers the kernel's five results are the reference's. -/
theorem value : Cert.algebraic_InFwdIdeal_InFwdRefIdeal_pre_infwd_finite := by
  intro m g m' g' h agree
  refine ⟨joint m, queries m, keys m, values m, mixed m, results m g, ?_⟩
  refine (θ_run _ _ _).mono (fun r k c => ?_) (Cert.InFwdRefIdeal.Value.run m' g')
  obtain ⟨e0, e1, e2, e3, e4⟩ := agree c
  have e0 : m' ((c.tc : Thread Cert.InFwdRefIdeal.nD Cert.InFwdRefIdeal.τ).loc Cert.InFwdRefIdeal.main_arg0) = arr0 m c := e0
  have e1 : m' ((c.tc : Thread Cert.InFwdRefIdeal.nD Cert.InFwdRefIdeal.τ).loc Cert.InFwdRefIdeal.main_arg1) = arr1 m c := e1
  have e2 : m' ((c.tc : Thread Cert.InFwdRefIdeal.nD Cert.InFwdRefIdeal.τ).loc Cert.InFwdRefIdeal.main_arg2) = arr2 m c := e2
  have e3 : m' ((c.tc : Thread Cert.InFwdRefIdeal.nD Cert.InFwdRefIdeal.τ).loc Cert.InFwdRefIdeal.main_arg3) = arr3 m c := e3
  have e4 : m' ((c.tc : Thread Cert.InFwdRefIdeal.nD Cert.InFwdRefIdeal.τ).loc Cert.InFwdRefIdeal.main_arg4) = arr4 m c := e4
  obtain ⟨k0, k1, k2, k3, k4, k5⟩ := k c
  refine ⟨k0.trans ((Cert.InFwdRefIdeal.Read.val_main_v51_eq _ _ _).trans ?_), k1.trans ((Cert.InFwdRefIdeal.Read.val_main_v52_eq _ _ _ _).trans ?_), k2.trans ((Cert.InFwdRefIdeal.Read.val_main_v53_eq _ _ _ _).trans ?_), k3.trans ((Cert.InFwdRefIdeal.Read.val_main_v54_eq _ _ _).trans ?_), k4.trans ((Cert.InFwdRefIdeal.Read.val_main_v50_eq _ _ _).trans ?_), k5⟩
  · rw [e0, e1, e4]; exact (joint_eq m c).symm
  · rw [e0, e1, e2, e4]; exact (queries_eq m c h).symm
  · rw [e0, e1, e3, e4]; exact (keys_eq m c h).symm
  · rw [e0, e1, e4]; exact (values_eq m c).symm
  · rw [e0, e1, e4]; exact (mixed_eq m c).symm

end Cert.InFwdIdeal.Hand
-- ==== Proof.FfnW.Float.lean ====
module

public import proofs.«01_k».proof.Defs
public import proofs.«01_k».proof.Proof.Gen.FfnWIdeal.Frame
public import proofs.«01_k».proof.Proof.Gen.FfnW

@[expose] public section

noncomputable section

/-! The two products on their own floats: its text is the ideal program's, so the one run stands for both. -/

namespace Cert.FfnWIdeal.Hand

open Idealize.ShloMosaic Idealize.ShloMosaic.TcCoe Idealize.SL.Sem

/-- The kernel runs, and leaves its arguments and every counter as they were. -/
theorem frame_kernel : Cert.quiescent_FfnW := fun m ρ _ => by
  refine Eq.mp ?_ (Cert.FfnWIdeal.Gen.frame (F := Bits) m ρ)
  sl_kernel_rfl

end Cert.FfnWIdeal.Hand
-- ==== Proof.FfnW.Value.lean ====
module

public import proofs.«01_k».proof.Proof.Gen.FfnWIdeal.Frame
public import proofs.«01_k».proof.Proof.Kit.Num
public import Idealize.ShloMosaic.Lib.Pipeline.Value
public import Idealize.ShloMosaic.Lib.Pipeline.ValueKit
public import Idealize.ShloMosaic.Lib.Pipeline.ReadBack
public import Idealize.ShloMosaic.Lib.StableHlo.RunRead
public import Idealize.ShloMosaic.Lib.Pointwise
public import Idealize.ShloMosaic.Lib.IdealHost
public import Idealize.ShloMosaic.Lib.Claim

@[expose] public section

set_option maxRecDepth 16384

noncomputable section

/-! The gradients of the gate's and the up projection's weights, whole arrays: each slab of 256 columns gives 256 rows. -/

namespace Cert.FfnWIdeal.Hand

open Cert.FfnWIdeal Cert.FfnWIdeal.Gen
open Idealize.ShloMosaic Idealize.ShloMosaic.TcCoe Idealize.ShloMosaic.StableHlo Idealize.SL.Sem
open Idealize.ShloMosaic.Pipeline (Dat)

section Tile

variable (a b : Vec Ideal S4096x256 .bf16) (h : Vec Ideal S4096x1024 .bf16) (i : Fin 256) (j : Fin 1024)

theorem tile3 : out0_3 a b h (ix2 i j) = ∑ r : Fin 4096, (a (ix2 r i) : EReal) * h (ix2 r j) := by
  unfold out0_3
  frame_out
  pointwise [k0_pay2, k0_pay1]
theorem tile4 : out0_4 a b h (ix2 i j) = ∑ r : Fin 4096, (b (ix2 r i) : EReal) * h (ix2 r j) := by
  unfold out0_4
  frame_out
  pointwise [k0_pay3, k0_pay1]

end Tile

variable (m : (ℓ : Loc nD τ sig) → Buf (Elt Ideal) ℓ) (c : Dev nD)

theorem places : ∀ t : Fin cfg0.N, win0_0.index t = ![0, t.val] ∧ win0_1.index t = ![0, t.val] ∧ win0_2.index t = ![0, 0]
    ∧ win0_3.index t = ![t.val, 0] ∧ win0_4.index t = ![t.val, 0] :=
  (by decide +kernel : ∀ t : Fin grid0.N, _)

/-- The arguments. -/
abbrev arr0 := m ((c : Thread nD τ).loc main_arg0)
abbrev arr1 := m ((c : Thread nD τ).loc main_arg1)
abbrev arr2 := m ((c : Thread nD τ).loc main_arg2)

theorem host0 (r : Fin 4096) (j : Fin 2816) : (V m c main_v0 : Vec Ideal S4096x2816 .bf16) (ix2 r j) = (arr0 m c : Vec Ideal S4096x2816 .f32) (ix2 r j) := by
  unfold V
  after_reads_simp
  pointwise
theorem host1 (r : Fin 4096) (j : Fin 2816) : (V m c main_v1 : Vec Ideal S4096x2816 .bf16) (ix2 r j) = (arr1 m c : Vec Ideal S4096x2816 .f32) (ix2 r j) := by
  unfold V
  after_reads_simp
  pointwise
theorem host2 (r : Fin 4096) (j : Fin 1024) : (V m c main_v2 : Vec Ideal S4096x1024 .bf16) (ix2 r j) = (arr2 m c : Vec Ideal S4096x1024 .f32) (ix2 r j) := by
  unfold V
  after_reads_simp
  pointwise

/-- Column `i` of the slab at point `t`, among all columns. -/
def lane (t : Fin cfg0.N) (i : Fin 256) : Fin 2816 :=
  ⟨256 * t.val + i.val, by have := lt_of_lt_of_eq t.isLt (show cfg0.N = 11 from N_0); omega⟩

section Blocks

variable (t : Fin cfg0.N) (i : Fin 256) (r : Fin 4096) (j : Fin 1024)

theorem slab0 : (iblk m c 0 t : Vec Ideal S4096x256 .bf16) (ix2 r i) = (arr0 m c : Vec Ideal S4096x2816 .f32) (ix2 r (lane t i)) := by
  refine Eq.trans ?_ (host0 m c r (lane t i))
  unfold lane
  blk_ext [iblk, places t]
theorem slab1 : (iblk m c 1 t : Vec Ideal S4096x256 .bf16) (ix2 r i) = (arr1 m c : Vec Ideal S4096x2816 .f32) (ix2 r (lane t i)) := by
  refine Eq.trans ?_ (host1 m c r (lane t i))
  unfold lane
  blk_ext [iblk, places t]
theorem all2 : (iblk m c 2 t : Vec Ideal S4096x1024 .bf16) (ix2 r j) = (arr2 m c : Vec Ideal S4096x1024 .f32) (ix2 r j) := by
  refine Eq.trans ?_ (host2 m c r j)
  blk_ext [iblk, places t]

end Blocks

/-- A weight's gradient: the columns of the cotangent against the columns of the entering rows. -/
def grad (d : Vec Ideal S4096x2816 .f32) (h : Vec Ideal S4096x1024 .f32) : Vec Ideal S2816x1024 .f32 :=
  fun y => ∑ r : Fin 4096, (d (ix2 r (y 0)) : EReal) * h (ix2 r (y 1))

theorem at3 (t : Fin cfg0.N) (y : S256x1024.Idx) : out0_3 (iblk m c 0 t) (iblk m c 1 t) (iblk m c 2 t) y
    = grad (arr0 m c) (arr2 m c) (ix2 (lane t (y 0)) (y 1)) := by
  idx_vars y
  rw [tile3]
  simp only [slab0, all2]
  rfl
theorem at4 (t : Fin cfg0.N) (y : S256x1024.Idx) : out0_4 (iblk m c 0 t) (iblk m c 1 t) (iblk m c 2 t) y
    = grad (arr1 m c) (arr2 m c) (ix2 (lane t (y 0)) (y 1)) := by
  idx_vars y
  rw [tile4]
  simp only [slab1, all2]
  rfl

theorem whole3 (f : Vec Ideal S2816x1024 .f32) (h : ∀ (t : Fin cfg0.N) (y : S256x1024.Idx), out0_3 (iblk m c 0 t) (iblk m c 1 t) (iblk m c 2 t) y = f (ix2 (lane t (y 0)) (y 1))) :
    (dats m 0 c).arrAt 3 cfg0.N = f := by
  refine (dats m 0 c).arrAt_eq_of_covers 3 _ (by decide +kernel) fun t _ y => ?_
  rw [after0_3, show out0_3 (iblk m c 0 t) (iblk m c 1 t) (iblk m c 2 t) = fun y => f (ix2 (lane t (y 0)) (y 1)) from funext (h t)]
  refine Eq.trans (b := f (ix2 ⟨256 * t.val + (y 0).val, by have := lt_of_lt_of_eq t.isLt (show cfg0.N = 11 from N_0); have : (y 0).val < 256 := (y 0).isLt; omega⟩ (y 1))) rfl ?_
  blk_ext [places t]
theorem final3 : (dats m 0 c).arrAt 3 cfg0.N = grad (arr0 m c) (arr2 m c) := whole3 m c _ (at3 m c)

theorem whole4 (f : Vec Ideal S2816x1024 .f32) (h : ∀ (t : Fin cfg0.N) (y : S256x1024.Idx), out0_4 (iblk m c 0 t) (iblk m c 1 t) (iblk m c 2 t) y = f (ix2 (lane t (y 0)) (y 1))) :
    (dats m 0 c).arrAt 4 cfg0.N = f := by
  refine (dats m 0 c).arrAt_eq_of_covers 4 _ (by decide +kernel) fun t _ y => ?_
  rw [after0_4, show out0_4 (iblk m c 0 t) (iblk m c 1 t) (iblk m c 2 t) = fun y => f (ix2 (lane t (y 0)) (y 1)) from funext (h t)]
  refine Eq.trans (b := f (ix2 ⟨256 * t.val + (y 0).val, by have := lt_of_lt_of_eq t.isLt (show cfg0.N = 11 from N_0); have : (y 0).val < 256 := (y 0).isLt; omega⟩ (y 1))) rfl ?_
  blk_ext [places t]
theorem final4 : (dats m 0 c).arrAt 4 cfg0.N = grad (arr1 m c) (arr2 m c) := whole4 m c _ (at4 m c)

end Cert.FfnWIdeal.Hand
-- ==== Proof.FfnW.Claim.lean ====
module

public import proofs.«01_k».proof.Defs
public import proofs.«01_k».proof.Proof.FfnW.Value
public import proofs.«01_k».proof.Proof.Gen.FfnWRefIdeal.Run
public import proofs.«01_k».proof.Proof.Gen.FfnWRefIdeal.Read
public import proofs.«01_k».proof.Proof.Gen.FfnWIdeal.Value

@[expose] public section

set_option maxRecDepth 16384

noncomputable section

/-! The gradients of the gate's and the up projection's weights: the kernel's results are the reference's. -/

namespace Cert.FfnWRefIdeal.Hand

open Cert.FfnWRefIdeal Cert.FfnWRefIdeal.Gen Cert.FfnWRefIdeal.Read
open Idealize.ShloMosaic Idealize.ShloMosaic.TcCoe Idealize.SL.Sem

variable (d : (⟨S4096x2816, .f32⟩ : BufTy).Contents (Elt Ideal)) (h : (⟨S4096x1024, .f32⟩ : BufTy).Contents (Elt Ideal)) (i : Fin 2816) (j : Fin 1024)

theorem gate : val_main_v7 (F := Ideal) d h (ix2 i j) = ∑ r : Fin 4096, (d (ix2 r i) : EReal) * h (ix2 r j) := by
  pointwise [val_main_v7, val_main_v6, val_main_v5]
theorem up : val_main_v8 (F := Ideal) d h (ix2 i j) = ∑ r : Fin 4096, (d (ix2 r i) : EReal) * h (ix2 r j) := by
  pointwise [val_main_v8, val_main_v4, val_main_v3]

end Cert.FfnWRefIdeal.Hand

namespace Cert.FfnWIdeal.Hand

open Cert.FfnWIdeal Cert.FfnWIdeal.Gen
open Idealize.ShloMosaic Idealize.ShloMosaic.TcCoe Idealize.SL.Sem
open Cert.FfnWRefIdeal.Read (val_main_v7 val_main_v8)

variable (m : (ℓ : Loc nD τ sig) → Buf (Elt Ideal) ℓ) (c : Dev nD)

theorem gate_eq : grad (arr0 m c) (arr2 m c) = val_main_v7 (F := Ideal) (arr0 m c) (arr2 m c) := by
  funext y
  idx_vars y
  exact (Cert.FfnWRefIdeal.Hand.gate (arr0 m c) (arr2 m c) y0 y1).symm
theorem up_eq : grad (arr1 m c) (arr2 m c) = val_main_v8 (F := Ideal) (arr1 m c) (arr2 m c) := by
  funext y
  idx_vars y
  exact (Cert.FfnWRefIdeal.Hand.up (arr1 m c) (arr2 m c) y0 y1).symm

/-- The kernel's run ends with the two results so, and the arguments as they were. -/
theorem results (ρ : Dev nD → PrngReg) : θ_run defs (onTc (τ := τ) (main (F := Ideal))) ⟨m, fun _ => 0, ρ⟩ (fun r => ∀ c : Dev nD,
      r.2.mem ((c.tc : Thread nD τ).loc main_v3_0) = grad (arr0 m c) (arr2 m c)
      ∧ r.2.mem ((c.tc : Thread nD τ).loc main_v3_1) = grad (arr1 m c) (arr2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Cert.FfnWIdeal.Value.run_blocks m ρ)
  obtain ⟨h0, h1, k⟩ := h c
  exact ⟨h0.trans (final3 m c), h1.trans (final4 m c), k⟩

/-- The reference runs, and leaves its arguments and every counter as they were. -/
theorem referenceFrame : Cert.quiescent_FfnWRefIdeal := fun m g _ =>
  (θ_run _ _ _).mono (fun r h => ⟨fun c => (h c).2.2, sem_eq_zero_of_no_sems (by decide) _⟩) (Cert.FfnWRefIdeal.Value.run m g)

/-- From any arguments the kernel's two results are the reference's. -/
theorem value : Cert.algebraic_FfnWIdeal_FfnWRefIdeal := by
  intro m g m' g' h agree
  refine ⟨fun c => grad (arr0 m c) (arr2 m c), fun c => grad (arr1 m c) (arr2 m c), results m g, ?_⟩
  refine (θ_run _ _ _).mono (fun r k c => ?_) (Cert.FfnWRefIdeal.Value.run m' g')
  obtain ⟨e0, e1, e2⟩ := agree c
  have e0 : m' ((c.tc : Thread Cert.FfnWRefIdeal.nD Cert.FfnWRefIdeal.τ).loc Cert.FfnWRefIdeal.main_arg0) = arr0 m c := e0
  have e1 : m' ((c.tc : Thread Cert.FfnWRefIdeal.nD Cert.FfnWRefIdeal.τ).loc Cert.FfnWRefIdeal.main_arg1) = arr1 m c := e1
  have e2 : m' ((c.tc : Thread Cert.FfnWRefIdeal.nD Cert.FfnWRefIdeal.τ).loc Cert.FfnWRefIdeal.main_arg2) = arr2 m c := e2
  obtain ⟨k0, k1, k2⟩ := k c
  refine ⟨k0.trans ((Cert.FfnWRefIdeal.Read.val_main_v7_eq _ _).trans ?_), k1.trans ((Cert.FfnWRefIdeal.Read.val_main_v8_eq _ _).trans ?_), k2⟩
  · rw [e0, e2]; exact (gate_eq m c).symm
  · rw [e1, e2]; exact (up_eq m c).symm

end Cert.FfnWIdeal.Hand
-- ==== Proof.FfnUp.Float.lean ====
module

public import proofs.«01_k».proof.Defs
public import proofs.«01_k».proof.Proof.Gen.FfnUpIdeal.Frame
public import proofs.«01_k».proof.Proof.Gen.FfnUp

@[expose] public section

noncomputable section

/-! The feed-forward products on their own floats: its text is the ideal program's, so the one run stands for both. -/

namespace Cert.FfnUpIdeal.Hand

open Idealize.ShloMosaic Idealize.ShloMosaic.TcCoe Idealize.SL.Sem

/-- The kernel runs, and leaves its arguments and every counter as they were. -/
theorem frame_kernel : Cert.quiescent_FfnUp := fun m ρ _ => by
  refine Eq.mp ?_ (Cert.FfnUpIdeal.Gen.frame (F := Bits) m ρ)
  sl_kernel_rfl

end Cert.FfnUpIdeal.Hand
-- ==== Proof.FfnUp.Value.lean ====
module

public import proofs.«01_k».proof.Proof.Gen.FfnUpIdeal.Frame
public import proofs.«01_k».proof.Proof.Kit.Num
public import Idealize.ShloMosaic.Lib.Pipeline.Value
public import Idealize.ShloMosaic.Lib.Pipeline.ValueKit
public import Idealize.ShloMosaic.Lib.Pipeline.ReadBack
public import Idealize.ShloMosaic.Lib.StableHlo.RunRead
public import Idealize.ShloMosaic.Lib.Pointwise
public import Idealize.ShloMosaic.Lib.IdealHost
public import Idealize.ShloMosaic.Lib.Claim

@[expose] public section

set_option maxRecDepth 16384

noncomputable section

/-! The products of the gate and of the up projection, whole arrays: each point's tile in eleven chunks of 256 columns. -/

namespace Cert.FfnUpIdeal.Hand

open Cert.FfnUpIdeal Cert.FfnUpIdeal.Gen
open Idealize.ShloMosaic Idealize.ShloMosaic.TcCoe Idealize.ShloMosaic.StableHlo Idealize.SL.Sem
open Idealize.ShloMosaic.Pipeline (Dat)

section Tile

variable (x : Vec Ideal S512x1024 .bf16) (g u : Vec Ideal S2816x1024 .bf16)

/-- A tile of a product: its rows against the weight's rows. -/
def prod (w : Vec Ideal S2816x1024 .bf16) : Vec Ideal S512x2816 .bf16 := fun y => ∑ k : Fin 1024, (x (ix2 (y 0) k) : EReal) * w (ix2 (y 1) k)

set_option maxHeartbeats 2000000 in
theorem tile3 : out0_3 x g u = prod x g := by
  unfold_out out0_3
  funext y
  unfold prod
  canon_tiles x h
  all_goals
    idx_vars x
    idx_vars y
    obtain ⟨v, hv⟩ := y1
    obtain rfl : y0 = x0 := Fin.ext h0
    obtain rfl : v = _ := h1
    open_payloads
    pointwise
    try rfl

set_option maxHeartbeats 2000000 in
theorem tile4 : out0_4 x g u = prod x u := by
  unfold_out out0_4
  funext y
  unfold prod
  canon_tiles x h
  all_goals
    idx_vars x
    idx_vars y
    obtain ⟨v, hv⟩ := y1
    obtain rfl : y0 = x0 := Fin.ext h0
    obtain rfl : v = _ := h1
    open_payloads
    pointwise
    try rfl

end Tile

variable (m : (ℓ : Loc nD τ sig) → Buf (Elt Ideal) ℓ) (c : Dev nD)

theorem places : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The arguments. -/
abbrev arr0 := m ((c : Thread nD τ).loc main_arg0)
abbrev arr1 := m ((c : Thread nD τ).loc main_arg1)
abbrev arr2 := m ((c : Thread nD τ).loc main_arg2)

theorem host0 (r : Fin 4096) (k : Fin 1024) : (V m c main_v0 : Vec Ideal S4096x1024 .bf16) (ix2 r k) = (arr0 m c : Vec Ideal S4096x1024 .f32) (ix2 r k) := by
  unfold V
  after_reads_simp
  pointwise
theorem host2 (j : Fin 2816) (k : Fin 1024) : (V m c main_v2 : Vec Ideal S2816x1024 .bf16) (ix2 j k) = (arr1 m c : Vec Ideal S1024x2816 .f32) (ix2 k j) := by
  unfold V
  after_reads_simp
  pointwise
theorem host4 (j : Fin 2816) (k : Fin 1024) : (V m c main_v4 : Vec Ideal S2816x1024 .bf16) (ix2 j k) = (arr2 m c : Vec Ideal S1024x2816 .f32) (ix2 k j) := by
  unfold V
  after_reads_simp
  pointwise

/-- Row `i` of the tile at point `t`, among all rows. -/
def row (t : Fin cfg0.N) (i : Fin 512) : Fin 4096 :=
  ⟨512 * t.val + i.val, by have := lt_of_lt_of_eq t.isLt (show cfg0.N = 8 from N_0); omega⟩

section Blocks

variable (t : Fin cfg0.N) (i : Fin 512) (j : Fin 2816) (k : Fin 1024)

theorem rows0 : (iblk m c 0 t : Vec Ideal S512x1024 .bf16) (ix2 i k) = (arr0 m c : Vec Ideal S4096x1024 .f32) (ix2 (row t i) k) := by
  refine Eq.trans ?_ (host0 m c (row t i) k)
  unfold row
  blk_ext [iblk, places t]
theorem rows1 : (iblk m c 1 t : Vec Ideal S2816x1024 .bf16) (ix2 j k) = (arr1 m c : Vec Ideal S1024x2816 .f32) (ix2 k j) := by
  refine Eq.trans ?_ (host2 m c j k)
  blk_ext [iblk, places t]
theorem rows2 : (iblk m c 2 t : Vec Ideal S2816x1024 .bf16) (ix2 j k) = (arr2 m c : Vec Ideal S1024x2816 .f32) (ix2 k j) := by
  refine Eq.trans ?_ (host4 m c j k)
  blk_ext [iblk, places t]

end Blocks

/-- A product with a weight. -/
def product (x : Vec Ideal S4096x1024 .f32) (w : Vec Ideal S1024x2816 .f32) : Vec Ideal S4096x2816 .bf16 :=
  fun y => ∑ k : Fin 1024, (x (ix2 (y 0) k) : EReal) * w (ix2 k (y 1))

theorem at3 (t : Fin cfg0.N) (y : S512x2816.Idx) : out0_3 (iblk m c 0 t) (iblk m c 1 t) (iblk m c 2 t) y
    = product (arr0 m c) (arr1 m c) (ix2 (row t (y 0)) (y 1)) := by
  idx_vars y
  rw [tile3]
  unfold prod product
  exact Finset.sum_congr rfl fun k _ => congrArg₂ (· * ·) (rows0 m c t y0 k) (rows1 m c t y1 k)
theorem at4 (t : Fin cfg0.N) (y : S512x2816.Idx) : out0_4 (iblk m c 0 t) (iblk m c 1 t) (iblk m c 2 t) y
    = product (arr0 m c) (arr2 m c) (ix2 (row t (y 0)) (y 1)) := by
  idx_vars y
  rw [tile4]
  unfold prod product
  exact Finset.sum_congr rfl fun k _ => congrArg₂ (· * ·) (rows0 m c t y0 k) (rows2 m c t y1 k)

theorem whole3 (f : Vec Ideal S4096x2816 .bf16) (h : ∀ (t : Fin cfg0.N) (y : S512x2816.Idx), out0_3 (iblk m c 0 t) (iblk m c 1 t) (iblk m c 2 t) y = f (ix2 (row t (y 0)) (y 1))) :
    (dats m 0 c).arrAt 3 cfg0.N = f := by
  refine (dats m 0 c).arrAt_eq_of_covers 3 _ (by decide +kernel) fun t _ y => ?_
  rw [after0_3, show out0_3 (iblk m c 0 t) (iblk m c 1 t) (iblk m c 2 t) = fun y => f (ix2 (row t (y 0)) (y 1)) from funext (h t)]
  refine Eq.trans (b := f (ix2 ⟨512 * t.val + (y 0).val, by have := lt_of_lt_of_eq t.isLt (show cfg0.N = 8 from N_0); have : (y 0).val < 512 := (y 0).isLt; omega⟩ (y 1))) rfl ?_
  blk_ext [places t]
theorem final3 : (dats m 0 c).arrAt 3 cfg0.N = product (arr0 m c) (arr1 m c) := whole3 m c _ (at3 m c)

theorem whole4 (f : Vec Ideal S4096x2816 .bf16) (h : ∀ (t : Fin cfg0.N) (y : S512x2816.Idx), out0_4 (iblk m c 0 t) (iblk m c 1 t) (iblk m c 2 t) y = f (ix2 (row t (y 0)) (y 1))) :
    (dats m 0 c).arrAt 4 cfg0.N = f := by
  refine (dats m 0 c).arrAt_eq_of_covers 4 _ (by decide +kernel) fun t _ y => ?_
  rw [after0_4, show out0_4 (iblk m c 0 t) (iblk m c 1 t) (iblk m c 2 t) = fun y => f (ix2 (row t (y 0)) (y 1)) from funext (h t)]
  refine Eq.trans (b := f (ix2 ⟨512 * t.val + (y 0).val, by have := lt_of_lt_of_eq t.isLt (show cfg0.N = 8 from N_0); have : (y 0).val < 512 := (y 0).isLt; omega⟩ (y 1))) rfl ?_
  blk_ext [places t]
theorem final4 : (dats m 0 c).arrAt 4 cfg0.N = product (arr0 m c) (arr2 m c) := whole4 m c _ (at4 m c)

end Cert.FfnUpIdeal.Hand
-- ==== Proof.FfnUp.Claim.lean ====
module

public import proofs.«01_k».proof.Defs
public import proofs.«01_k».proof.Proof.FfnUp.Value
public import proofs.«01_k».proof.Proof.Gen.FfnUpRefIdeal.Run
public import proofs.«01_k».proof.Proof.Gen.FfnUpRefIdeal.Read
public import proofs.«01_k».proof.Proof.Gen.FfnUpIdeal.Value

@[expose] public section

set_option maxRecDepth 16384

noncomputable section

/-! The products of the gate and of the up projection: the kernel's results are the reference's. -/

namespace Cert.FfnUpRefIdeal.Hand

open Cert.FfnUpRefIdeal Cert.FfnUpRefIdeal.Gen Cert.FfnUpRefIdeal.Read
open Idealize.ShloMosaic Idealize.ShloMosaic.TcCoe Idealize.SL.Sem

variable (x : (⟨S4096x1024, .f32⟩ : BufTy).Contents (Elt Ideal)) (w : (⟨S1024x2816, .f32⟩ : BufTy).Contents (Elt Ideal)) (i : Fin 4096) (j : Fin 2816)

theorem gate : val_main_v1 (F := Ideal) x w (ix2 i j) = ∑ k : Fin 1024, (x (ix2 i k) : EReal) * w (ix2 k j) := by
  pointwise [val_main_v1, val_main_v0]
theorem up : val_main_v3 (F := Ideal) x w (ix2 i j) = ∑ k : Fin 1024, (x (ix2 i k) : EReal) * w (ix2 k j) := by
  pointwise [val_main_v3, val_main_v2]

end Cert.FfnUpRefIdeal.Hand

namespace Cert.FfnUpIdeal.Hand

open Cert.FfnUpIdeal Cert.FfnUpIdeal.Gen
open Idealize.ShloMosaic Idealize.ShloMosaic.TcCoe Idealize.SL.Sem
open Cert.FfnUpRefIdeal.Read (val_main_v1 val_main_v3)

variable (m : (ℓ : Loc nD τ sig) → Buf (Elt Ideal) ℓ) (c : Dev nD)

theorem gate_eq : product (arr0 m c) (arr1 m c) = val_main_v1 (F := Ideal) (arr0 m c) (arr1 m c) := by
  funext y
  idx_vars y
  exact (Cert.FfnUpRefIdeal.Hand.gate (arr0 m c) (arr1 m c) y0 y1).symm
theorem up_eq : product (arr0 m c) (arr2 m c) = val_main_v3 (F := Ideal) (arr0 m c) (arr2 m c) := by
  funext y
  idx_vars y
  exact (Cert.FfnUpRefIdeal.Hand.up (arr0 m c) (arr2 m c) y0 y1).symm

/-- The kernel's run ends with the two results so, and the arguments as they were. -/
theorem results (ρ : Dev nD → PrngReg) : θ_run defs (onTc (τ := τ) (main (F := Ideal))) ⟨m, fun _ => 0, ρ⟩ (fun r => ∀ c : Dev nD,
      r.2.mem ((c.tc : Thread nD τ).loc main_v5_0) = product (arr0 m c) (arr1 m c)
      ∧ r.2.mem ((c.tc : Thread nD τ).loc main_v5_1) = product (arr0 m c) (arr2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Cert.FfnUpIdeal.Value.run_blocks m ρ)
  obtain ⟨h0, h1, k⟩ := h c
  exact ⟨h0.trans (final3 m c), h1.trans (final4 m c), k⟩

/-- The reference runs, and leaves its arguments and every counter as they were. -/
theorem referenceFrame : Cert.quiescent_FfnUpRefIdeal := fun m g _ =>
  (θ_run _ _ _).mono (fun r h => ⟨fun c => (h c).2.2, sem_eq_zero_of_no_sems (by decide) _⟩) (Cert.FfnUpRefIdeal.Value.run m g)

/-- From any arguments the kernel's two results are the reference's. -/
theorem value : Cert.algebraic_FfnUpIdeal_FfnUpRefIdeal := by
  intro m g m' g' h agree
  refine ⟨fun c => product (arr0 m c) (arr1 m c), fun c => product (arr0 m c) (arr2 m c), results m g, ?_⟩
  refine (θ_run _ _ _).mono (fun r k c => ?_) (Cert.FfnUpRefIdeal.Value.run m' g')
  obtain ⟨e0, e1, e2⟩ := agree c
  have e0 : m' ((c.tc : Thread Cert.FfnUpRefIdeal.nD Cert.FfnUpRefIdeal.τ).loc Cert.FfnUpRefIdeal.main_arg0) = arr0 m c := e0
  have e1 : m' ((c.tc : Thread Cert.FfnUpRefIdeal.nD Cert.FfnUpRefIdeal.τ).loc Cert.FfnUpRefIdeal.main_arg1) = arr1 m c := e1
  have e2 : m' ((c.tc : Thread Cert.FfnUpRefIdeal.nD Cert.FfnUpRefIdeal.τ).loc Cert.FfnUpRefIdeal.main_arg2) = arr2 m c := e2
  obtain ⟨k0, k1, k2⟩ := k c
  refine ⟨k0.trans ((Cert.FfnUpRefIdeal.Read.val_main_v1_eq _ _).trans ?_), k1.trans ((Cert.FfnUpRefIdeal.Read.val_main_v3_eq _ _).trans ?_), k2⟩
  · rw [e0, e1]; exact (gate_eq m c).symm
  · rw [e0, e2]; exact (up_eq m c).symm

end Cert.FfnUpIdeal.Hand
-- ==== Proof.lean ====
module

public import proofs.«01_k».proof.Defs
public import proofs.«01_k».proof.Proof.Gen.FfnBwd
public import proofs.«01_k».proof.Proof.Gen.FfnBwdIdeal
public import proofs.«01_k».proof.Proof.Gen.FfnBwdRefIdeal
public import proofs.«01_k».proof.Proof.Gen.MixBwd
public import proofs.«01_k».proof.Proof.Gen.MixBwdIdeal
public import proofs.«01_k».proof.Proof.Gen.MixBwdRefIdeal
public import proofs.«01_k».proof.Proof.Gen.InProjBwd
public import proofs.«01_k».proof.Proof.Gen.InProjBwdIdeal
public import proofs.«01_k».proof.Proof.Gen.InProjBwdRefIdeal
public import proofs.«01_k».proof.Proof.Gen.PleBwd
public import proofs.«01_k».proof.Proof.Gen.PleBwdIdeal
public import proofs.«01_k».proof.Proof.Gen.PleBwdRefIdeal
public import proofs.«01_k».proof.Proof.Gen.BiasBwd
public import proofs.«01_k».proof.Proof.Gen.BiasBwdIdeal
public import proofs.«01_k».proof.Proof.Gen.BiasBwdRefIdeal
public import proofs.«01_k».proof.Proof.Gen.InFwd
public import proofs.«01_k».proof.Proof.Gen.InFwdIdeal
public import proofs.«01_k».proof.Proof.Gen.InFwdRefIdeal
public import proofs.«01_k».proof.Proof.Gen.FfnW
public import proofs.«01_k».proof.Proof.Gen.FfnWIdeal
public import proofs.«01_k».proof.Proof.Gen.FfnWRefIdeal
public import proofs.«01_k».proof.Proof.Gen.FfnUp
public import proofs.«01_k».proof.Proof.Gen.FfnUpIdeal
public import proofs.«01_k».proof.Proof.Gen.FfnUpRefIdeal
public import proofs.«01_k».proof.Proof.Gen.Pre_ffn_finite
public import proofs.«01_k».proof.Proof.Gen.Pre_mix_finite
public import proofs.«01_k».proof.Proof.Gen.Pre_inproj_finite
public import proofs.«01_k».proof.Proof.Gen.Pre_ple_finite
public import proofs.«01_k».proof.Proof.Gen.Pre_infwd_finite
public import proofs.«01_k».proof.Proof.Ffn.Float
public import proofs.«01_k».proof.Proof.Ffn.Claim
public import proofs.«01_k».proof.Proof.Mix.Float
public import proofs.«01_k».proof.Proof.Mix.Claim
public import proofs.«01_k».proof.Proof.InProj.Float
public import proofs.«01_k».proof.Proof.InProj.Claim
public import proofs.«01_k».proof.Proof.Ple.Float
public import proofs.«01_k».proof.Proof.Ple.Claim
public import proofs.«01_k».proof.Proof.Bias.Float
public import proofs.«01_k».proof.Proof.Bias.Claim
public import proofs.«01_k».proof.Proof.InFwd.Float
public import proofs.«01_k».proof.Proof.InFwd.Claim
public import proofs.«01_k».proof.Proof.FfnW.Float
public import proofs.«01_k».proof.Proof.FfnW.Claim
public import proofs.«01_k».proof.Proof.FfnUp.Float
public import proofs.«01_k».proof.Proof.FfnUp.Claim
public import Idealize.ShloMosaic.Adequacy
public import Idealize.ShloMosaic.Init

@[expose] public section

noncomputable section

namespace Cert.Proof

open Idealize.ShloMosaic Idealize.SL.Sem

theorem claim : Cert.Claim := ⟨Cert.FfnBwd.Gen.facts, Cert.FfnBwdIdeal.Gen.facts, Cert.FfnBwdRefIdeal.Gen.facts,
  Cert.MixBwd.Gen.facts, Cert.MixBwdIdeal.Gen.facts, Cert.MixBwdRefIdeal.Gen.facts,
  Cert.InProjBwd.Gen.facts, Cert.InProjBwdIdeal.Gen.facts, Cert.InProjBwdRefIdeal.Gen.facts,
  Cert.PleBwd.Gen.facts, Cert.PleBwdIdeal.Gen.facts, Cert.PleBwdRefIdeal.Gen.facts,
  Cert.BiasBwd.Gen.facts, Cert.BiasBwdIdeal.Gen.facts, Cert.BiasBwdRefIdeal.Gen.facts,
  Cert.InFwd.Gen.facts, Cert.InFwdIdeal.Gen.facts, Cert.InFwdRefIdeal.Gen.facts,
  Cert.FfnW.Gen.facts, Cert.FfnWIdeal.Gen.facts, Cert.FfnWRefIdeal.Gen.facts,
  Cert.FfnUp.Gen.facts, Cert.FfnUpIdeal.Gen.facts, Cert.FfnUpRefIdeal.Gen.facts,
  Cert.Pre_ffn_finite.Gen.facts, Cert.Pre_mix_finite.Gen.facts, Cert.Pre_inproj_finite.Gen.facts, Cert.Pre_ple_finite.Gen.facts, Cert.Pre_infwd_finite.Gen.facts,
  Cert.FfnBwdIdeal.Hand.frame_kernel,
  fun m ρ _ => Cert.FfnBwdIdeal.Hand.frame m ρ (Cert.FfnBwdIdeal.Hand.left m),
  fun m ρ _ => Cert.FfnBwdIdeal.Hand.frame m ρ (Cert.FfnBwdIdeal.Hand.left m),
  Cert.FfnBwdIdeal.Hand.referenceFrame,
  fun m ρ _ => Cert.FfnBwdIdeal.Hand.referenceFrame m ρ trivial,
  Cert.MixBwdIdeal.Hand.frame_kernel,
  fun m ρ _ => Cert.MixBwdIdeal.Gen.frame m ρ,
  fun m ρ _ => Cert.MixBwdIdeal.Gen.frame m ρ,
  Cert.MixBwdIdeal.Hand.referenceFrame,
  fun m ρ _ => Cert.MixBwdIdeal.Hand.referenceFrame m ρ trivial,
  Cert.InProjBwdIdeal.Hand.frame_kernel,
  fun m ρ _ => Cert.InProjBwdIdeal.Hand.frame m ρ (Cert.InProjBwdIdeal.Hand.left m),
  fun m ρ _ => Cert.InProjBwdIdeal.Hand.frame m ρ (Cert.InProjBwdIdeal.Hand.left m),
  Cert.InProjBwdIdeal.Hand.referenceFrame,
  fun m ρ _ => Cert.InProjBwdIdeal.Hand.referenceFrame m ρ trivial,
  Cert.PleBwdIdeal.Hand.frame_kernel,
  fun m ρ _ => Cert.PleBwdIdeal.Hand.frame m ρ (Cert.PleBwdIdeal.Hand.left m),
  fun m ρ _ => Cert.PleBwdIdeal.Hand.frame m ρ (Cert.PleBwdIdeal.Hand.left m),
  Cert.PleBwdIdeal.Hand.referenceFrame,
  fun m ρ _ => Cert.PleBwdIdeal.Hand.referenceFrame m ρ trivial,
  Cert.BiasBwdIdeal.Hand.frame_kernel,
  fun m ρ _ => Cert.BiasBwdIdeal.Gen.frame m ρ,
  Cert.BiasBwdIdeal.Hand.referenceFrame,
  Cert.InFwdIdeal.Hand.frame_kernel,
  fun m ρ _ => Cert.InFwdIdeal.Gen.frame m ρ,
  fun m ρ _ => Cert.InFwdIdeal.Gen.frame m ρ,
  Cert.InFwdIdeal.Hand.referenceFrame,
  fun m ρ _ => Cert.InFwdIdeal.Hand.referenceFrame m ρ trivial,
  Cert.FfnWIdeal.Hand.frame_kernel,
  fun m ρ _ => Cert.FfnWIdeal.Gen.frame m ρ,
  Cert.FfnWIdeal.Hand.referenceFrame,
  Cert.FfnUpIdeal.Hand.frame_kernel,
  fun m ρ _ => Cert.FfnUpIdeal.Gen.frame m ρ,
  Cert.FfnUpIdeal.Hand.referenceFrame,
  trivial,
  Cert.FfnBwdIdeal.Hand.value,
  trivial,
  Cert.MixBwdIdeal.Hand.value,
  trivial,
  Cert.InProjBwdIdeal.Hand.value,
  trivial,
  Cert.PleBwdIdeal.Hand.value,
  trivial,
  Cert.BiasBwdIdeal.Hand.value,
  trivial,
  Cert.InFwdIdeal.Hand.value,
  trivial,
  Cert.FfnWIdeal.Hand.value,
  trivial,
  Cert.FfnUpIdeal.Hand.value⟩

end Cert.Proof

end
